-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![128, 4096]⟩ ⟨2, ![4096, 4096]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 64]⟩ ⟨2, ![4096, 2048]⟩ 1 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = Layout.block ⟨2, ![4096, 64]⟩ ⟨2, ![4096, 2048]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x4096 : Shape := ⟨2, ![128, 4096]⟩
abbrev S4096x64 : Shape := ⟨2, ![4096, 64]⟩
abbrev S32x35 : Shape := ⟨2, ![32, 35]⟩
abbrev S_ : Shape := ⟨0, ![]⟩
abbrev S1x35 : Shape := ⟨2, ![1, 35]⟩
abbrev S35 : Shape := ⟨1, ![35]⟩
abbrev S32x2x64x4096 : Shape := ⟨4, ![32, 2, 64, 4096]⟩
abbrev S32x8x128 : Shape := ⟨3, ![32, 8, 128]⟩
abbrev S16x2 : Shape := ⟨2, ![16, 2]⟩
abbrev S31 : Shape := ⟨1, ![31]⟩
abbrev S1 : Shape := ⟨1, ![1]⟩
abbrev S1x1 : Shape := ⟨2, ![1, 1]⟩
abbrev S1x1x64x4096 : Shape := ⟨4, ![1, 1, 64, 4096]⟩
abbrev S64x4096 : Shape := ⟨2, ![64, 4096]⟩
abbrev S128x64 : Shape := ⟨2, ![128, 64]⟩
abbrev S1x128x64 : Shape := ⟨3, ![1, 128, 64]⟩
abbrev S1x1x1 : Shape := ⟨3, ![1, 1, 1]⟩
abbrev S64x64 : Shape := ⟨2, ![64, 64]⟩
abbrev S1x64x64 : Shape := ⟨3, ![1, 64, 64]⟩
abbrev S8x128 : Shape := ⟨2, ![8, 128]⟩
abbrev S1x8x128 : Shape := ⟨3, ![1, 8, 128]⟩
abbrev S1x32x8x128 : Shape := ⟨4, ![1, 32, 8, 128]⟩
abbrev S1x1x1x1 : Shape := ⟨4, ![1, 1, 1, 1]⟩

abbrev nBuf : Space → Nat
  | .hbm => 25
  | .vmem => 5
  | .smem => 1
  | _ => 0

abbrev bufTy : (tb : Table) → Fin (tcTables nBuf tb) → BufTy
  | .hbm, ⟨0, _⟩ => ⟨S128x4096, .bf16⟩
  | .hbm, ⟨1, _⟩ => ⟨S4096x64, .bf16⟩
  | .hbm, ⟨2, _⟩ => ⟨S32x35, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i1⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i1⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S1x35, .i32⟩
  | .hbm, ⟨23, _⟩ => ⟨S35, .i32⟩
  | .hbm, ⟨24, _⟩ => ⟨S4096x64, .f32⟩
  | .local _ .vmem, ⟨0, _⟩ => ⟨S128x4096, .bf16⟩
  | .local _ .vmem, ⟨1, _⟩ => ⟨S4096x64, .bf16⟩
  | .local _ .vmem, ⟨2, _⟩ => ⟨S4096x64, .f32⟩
  | .local _ .vmem, ⟨3, _⟩ => ⟨S32x2x64x4096, .bf16⟩
  | .local _ .vmem, ⟨4, _⟩ => ⟨S32x8x128, .f32⟩
  | .local _ .smem, ⟨0, _⟩ => ⟨S35, .i32⟩
  | _, _ => ⟨S128x4096, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | _, _ => false

abbrev semScoped : Fin 1 → Bool
  | ⟨0, _⟩ => false
  | _ => false

abbrev dmaSemScoped : Fin 194 → Bool
  | ⟨i, _⟩ => dmaSemScopedAt i

abbrev sig : RefSig :=
  (ofTc nBuf bufTy 1 194 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c_2 : Ref sig .tc := ⟨.hbm, 9, rfl⟩
abbrev main_v5 : Ref sig .tc := ⟨.hbm, 10, rfl⟩
abbrev main_c_3 : Ref sig .tc := ⟨.hbm, 11, rfl⟩
abbrev main_v6 : Ref sig .tc := ⟨.hbm, 12, rfl⟩
abbrev main_v7 : Ref sig .tc := ⟨.hbm, 13, rfl⟩
abbrev main_c_4 : Ref sig .tc := ⟨.hbm, 14, rfl⟩
abbrev main_c_5 : Ref sig .tc := ⟨.hbm, 15, rfl⟩
abbrev main_v8 : Ref sig .tc := ⟨.hbm, 16, rfl⟩
abbrev main_c_6 : Ref sig .tc := ⟨.hbm, 17, rfl⟩
abbrev main_c_7 : Ref sig .tc := ⟨.hbm, 18, rfl⟩
abbrev main_v9 : Ref sig .tc := ⟨.hbm, 19, rfl⟩
abbrev main_c_8 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg3_0 : Ref sig .tc := ⟨.vmem, 2, rfl⟩
abbrev cc0_scratch0 : Ref sig .tc := ⟨.vmem, 3, rfl⟩
abbrev cc0_scratch1 : Ref sig .tc := ⟨.vmem, 4, rfl⟩
abbrev cc0_stg2_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 32
abbrev τ : Topo := Topo.v7x

variable {F : FTy → Type} [FloatOps F]

abbrev grid0 : Pipeline.Grid := .none

def k0_dev1 (v3 : BitVec 32) : Nat :=
  let c0_i32 : BitVec 32 := 0#32
  let c1_i32_1 : BitVec 32 := 1#32
  let v6 : BitVec 32 := Scalar.muli v3 c1_i32_1
  let v7 : BitVec 32 := Scalar.addi c0_i32 v6
  v7.toNat

def k0_dev2 (v4 : BitVec 32) : Nat :=
  let c0_i32_4 : BitVec 32 := 0#32
  let c1_i32_3 : BitVec 32 := 1#32
  let v8 : BitVec 32 := Scalar.muli v4 c1_i32_3
  let v9 : BitVec 32 := Scalar.addi c0_i32_4 v8
  v9.toNat

def k0_off1 (v10 : BitVec 32) : Fin 4 → Nat :=
  let c0_i32_5 : BitVec 32 := 0#32
  let c0_i32_12 : BitVec 32 := 0#32
  let c0_i32_13 : BitVec 32 := 0#32
  ![v10.toNat, 0, 0, 0]

def k0_dev3 (v4 : BitVec 32) : Nat :=
  let c0_i32_11 : BitVec 32 := 0#32
  let c1_i32_10 : BitVec 32 := 1#32
  let v11 : BitVec 32 := Scalar.muli v4 c1_i32_10
  let v12 : BitVec 32 := Scalar.addi c0_i32_11 v11
  v12.toNat
def k0_off2 (v20 : BitVec 32) : Fin 4 → Nat :=
  let c1_i32_17 : BitVec 32 := 1#32
  let c0_i32_24 : BitVec 32 := 0#32
  let c0_i32_25 : BitVec 32 := 0#32
  ![v20.toNat, 1, 0, 0]

def k0_dev4 (v4 : BitVec 32) : Nat :=
  let c0_i32_23 : BitVec 32 := 0#32
  let c1_i32_22 : BitVec 32 := 1#32
  let v21 : BitVec 32 := Scalar.muli v4 c1_i32_22
  let v22 : BitVec 32 := Scalar.addi c0_i32_23 v21
  v22.toNat
def k0_off3 (v30 : BitVec 32) : Fin 4 → Nat :=
  let c0_i32_27 : BitVec 32 := 0#32
  let c0_i32_34 : BitVec 32 := 0#32
  let c0_i32_35 : BitVec 32 := 0#32
  ![v30.toNat, 0, 0, 0]

def k0_dev5 (v3 : BitVec 32) : Nat :=
  let c0_i32_33 : BitVec 32 := 0#32
  let c1_i32_32 : BitVec 32 := 1#32
  let v31 : BitVec 32 := Scalar.muli v3 c1_i32_32
  let v32 : BitVec 32 := Scalar.addi c0_i32_33 v31
  v32.toNat
def k0_off4 (v40 : BitVec 32) : Fin 4 → Nat :=
  let c1_i32_39 : BitVec 32 := 1#32
  let c0_i32_46 : BitVec 32 := 0#32
  let c0_i32_47 : BitVec 32 := 0#32
  ![v40.toNat, 1, 0, 0]

def k0_dev6 (v3 : BitVec 32) : Nat :=
  let c0_i32_45 : BitVec 32 := 0#32
  let c1_i32_44 : BitVec 32 := 1#32
  let v41 : BitVec 32 := Scalar.muli v3 c1_i32_44
  let v42 : BitVec 32 := Scalar.addi c0_i32_45 v41
  v42.toNat
def k0_off5 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v57 : BitVec 32 := Scalar.muli v2 c128_i32
  let v58 : Index := Scalar.indexCast v57
  let c0_55 : Index := 0#32
  ![v58.toNat, 0]
def k0_off6 (v10 : BitVec 32) : Fin 4 → Nat :=
  let c0_i32_57 : BitVec 32 := 0#32
  let c0_i32_64 : BitVec 32 := 0#32
  let c0_i32_65 : BitVec 32 := 0#32
  ![v10.toNat, 0, 0, 0]
def k0_off7 (v72 : BitVec 32) : Fin 4 → Nat :=
  let c0_i32_70 : BitVec 32 := 0#32
  let c0_i32_77 : BitVec 32 := 0#32
  let c0_i32_78 : BitVec 32 := 0#32
  ![v72.toNat, 0, 0, 0]

def k0_off8 (v71 : BitVec 32) : Fin 4 → Nat :=
  let c0_i32_69 : BitVec 32 := 0#32
  let c0_i32_79 : BitVec 32 := 0#32
  let c0_i32_80 : BitVec 32 := 0#32
  ![v71.toNat, 0, 0, 0]

def k0_dev7 (v4 : BitVec 32) : Nat :=
  let c0_i32_76 : BitVec 32 := 0#32
  let c1_i32_75 : BitVec 32 := 1#32
  let v73 : BitVec 32 := Scalar.muli v4 c1_i32_75
  let v74 : BitVec 32 := Scalar.addi c0_i32_76 v73
  v74.toNat
def k0_off9 (v83 : BitVec 32) : Fin 4 → Nat :=
  let v84 : Index := Scalar.indexCast v83
  let c0_82 : Index := 0#32
  let c0_83 : Index := 0#32
  let c0_84 : Index := 0#32
  ![v84.toNat, 0, 0, 0]

def k0_off10 (v83 : BitVec 32) : Fin 2 → Nat :=
  let c128_i32_89 : BitVec 32 := 128#32
  let v92 : BitVec 32 := Scalar.muli v83 c128_i32_89
  let c0_i32_90 : BitVec 32 := 0#32
  let v93 : BitVec 32 := Scalar.addi v92 c0_i32_90
  let v94 : Index := Scalar.indexCast v93
  let c0_91 : Index := 0#32
  ![v94.toNat, 0]

def k0_chk9 (v83 : BitVec 32) : Prop :=
  (∀ a, (k0_off9 v83) a + S1x1x64x4096.size a ≤ S32x2x64x4096.size a) ∧
  (∀ a, (k0_off10 v83) a + S64x64.size a ≤ S4096x64.size a)
theorem k0_off9_inb : ∀ (v83 : BitVec 32) (k0_hw9 : k0_chk9 v83), ∀ a, (k0_off9 v83) a + S1x1x64x4096.size a ≤ S32x2x64x4096.size a := fun v83 k0_hw9 => k0_hw9.1
theorem k0_off10_inb : ∀ (v83 : BitVec 32) (k0_hw9 : k0_chk9 v83), ∀ a, (k0_off10 v83) a + S64x64.size a ≤ S4096x64.size a := fun v83 k0_hw9 => k0_hw9.2

def k0_off11 (v20 : BitVec 32) : Fin 4 → Nat :=
  let c1_i32_93 : BitVec 32 := 1#32
  let c0_i32_100 : BitVec 32 := 0#32
  let c0_i32_101 : BitVec 32 := 0#32
  ![v20.toNat, 1, 0, 0]
def k0_off12 (v109 : BitVec 32) : Fin 4 → Nat :=
  let c1_i32_107 : BitVec 32 := 1#32
  let c0_i32_114 : BitVec 32 := 0#32
  let c0_i32_115 : BitVec 32 := 0#32
  ![v109.toNat, 1, 0, 0]

def k0_off13 (v108 : BitVec 32) : Fin 4 → Nat :=
  let c1_i32_106 : BitVec 32 := 1#32
  let c0_i32_116 : BitVec 32 := 0#32
  let c0_i32_117 : BitVec 32 := 0#32
  ![v108.toNat, 1, 0, 0]

def k0_dev8 (v4 : BitVec 32) : Nat :=
  let c0_i32_113 : BitVec 32 := 0#32
  let c1_i32_112 : BitVec 32 := 1#32
  let v110 : BitVec 32 := Scalar.muli v4 c1_i32_112
  let v111 : BitVec 32 := Scalar.addi c0_i32_113 v110
  v111.toNat
def k0_off14 (v120 : BitVec 32) : Fin 4 → Nat :=
  let v121 : Index := Scalar.indexCast v120
  let c1_119 : Index := 1#32
  let c0_120 : Index := 0#32
  let c0_121 : Index := 0#32
  ![v121.toNat, 1, 0, 0]

def k0_off15 (v120 : BitVec 32) : Fin 2 → Nat :=
  let c128_i32_126 : BitVec 32 := 128#32
  let v129 : BitVec 32 := Scalar.muli v120 c128_i32_126
  let c64_i32_127 : BitVec 32 := 64#32
  let v130 : BitVec 32 := Scalar.addi v129 c64_i32_127
  let v131 : Index := Scalar.indexCast v130
  let c0_128 : Index := 0#32
  ![v131.toNat, 0]

def k0_chk12 (v120 : BitVec 32) : Prop :=
  (∀ a, (k0_off14 v120) a + S1x1x64x4096.size a ≤ S32x2x64x4096.size a) ∧
  (∀ a, (k0_off15 v120) a + S64x64.size a ≤ S4096x64.size a)
theorem k0_off14_inb : ∀ (v120 : BitVec 32) (k0_hw12 : k0_chk12 v120), ∀ a, (k0_off14 v120) a + S1x1x64x4096.size a ≤ S32x2x64x4096.size a := fun v120 k0_hw12 => k0_hw12.1
theorem k0_off15_inb : ∀ (v120 : BitVec 32) (k0_hw12 : k0_chk12 v120), ∀ a, (k0_off15 v120) a + S64x64.size a ≤ S4096x64.size a := fun v120 k0_hw12 => k0_hw12.2

def k0_off16 (v30 : BitVec 32) : Fin 4 → Nat :=
  let c0_i32_130 : BitVec 32 := 0#32
  let c0_i32_137 : BitVec 32 := 0#32
  let c0_i32_138 : BitVec 32 := 0#32
  ![v30.toNat, 0, 0, 0]
def k0_off17 (v146 : BitVec 32) : Fin 4 → Nat :=
  let c0_i32_143 : BitVec 32 := 0#32
  let c0_i32_150 : BitVec 32 := 0#32
  let c0_i32_151 : BitVec 32 := 0#32
  ![v146.toNat, 0, 0, 0]

def k0_off18 (v145 : BitVec 32) : Fin 4 → Nat :=
  let c0_i32_142 : BitVec 32 := 0#32
  let c0_i32_152 : BitVec 32 := 0#32
  let c0_i32_153 : BitVec 32 := 0#32
  ![v145.toNat, 0, 0, 0]

def k0_dev9 (v3 : BitVec 32) : Nat :=
  let c0_i32_149 : BitVec 32 := 0#32
  let c1_i32_148 : BitVec 32 := 1#32
  let v147 : BitVec 32 := Scalar.muli v3 c1_i32_148
  let v148 : BitVec 32 := Scalar.addi c0_i32_149 v147
  v148.toNat
def k0_off19 (v157 : BitVec 32) : Fin 4 → Nat :=
  let v158 : Index := Scalar.indexCast v157
  let c0_155 : Index := 0#32
  let c0_156 : Index := 0#32
  let c0_157 : Index := 0#32
  ![v158.toNat, 0, 0, 0]

def k0_off20 (v157 : BitVec 32) : Fin 2 → Nat :=
  let c128_i32_162 : BitVec 32 := 128#32
  let v166 : BitVec 32 := Scalar.muli v157 c128_i32_162
  let c0_i32_163 : BitVec 32 := 0#32
  let v167 : BitVec 32 := Scalar.addi v166 c0_i32_163
  let v168 : Index := Scalar.indexCast v167
  let c0_164 : Index := 0#32
  ![v168.toNat, 0]

def k0_chk15 (v157 : BitVec 32) : Prop :=
  (∀ a, (k0_off19 v157) a + S1x1x64x4096.size a ≤ S32x2x64x4096.size a) ∧
  (∀ a, (k0_off20 v157) a + S64x64.size a ≤ S4096x64.size a)
theorem k0_off19_inb : ∀ (v157 : BitVec 32) (k0_hw15 : k0_chk15 v157), ∀ a, (k0_off19 v157) a + S1x1x64x4096.size a ≤ S32x2x64x4096.size a := fun v157 k0_hw15 => k0_hw15.1
theorem k0_off20_inb : ∀ (v157 : BitVec 32) (k0_hw15 : k0_chk15 v157), ∀ a, (k0_off20 v157) a + S64x64.size a ≤ S4096x64.size a := fun v157 k0_hw15 => k0_hw15.2

def k0_off21 (v40 : BitVec 32) : Fin 4 → Nat :=
  let c1_i32_166 : BitVec 32 := 1#32
  let c0_i32_173 : BitVec 32 := 0#32
  let c0_i32_174 : BitVec 32 := 0#32
  ![v40.toNat, 1, 0, 0]
def k0_off22 (v183 : BitVec 32) : Fin 4 → Nat :=
  let c1_i32_180 : BitVec 32 := 1#32
  let c0_i32_187 : BitVec 32 := 0#32
  let c0_i32_188 : BitVec 32 := 0#32
  ![v183.toNat, 1, 0, 0]

def k0_off23 (v182 : BitVec 32) : Fin 4 → Nat :=
  let c1_i32_179 : BitVec 32 := 1#32
  let c0_i32_189 : BitVec 32 := 0#32
  let c0_i32_190 : BitVec 32 := 0#32
  ![v182.toNat, 1, 0, 0]

def k0_dev10 (v3 : BitVec 32) : Nat :=
  let c0_i32_186 : BitVec 32 := 0#32
  let c1_i32_185 : BitVec 32 := 1#32
  let v184 : BitVec 32 := Scalar.muli v3 c1_i32_185
  let v185 : BitVec 32 := Scalar.addi c0_i32_186 v184
  v185.toNat
def k0_off24 (v194 : BitVec 32) : Fin 4 → Nat :=
  let v195 : Index := Scalar.indexCast v194
  let c1_192 : Index := 1#32
  let c0_193 : Index := 0#32
  let c0_194 : Index := 0#32
  ![v195.toNat, 1, 0, 0]

def k0_off25 (v194 : BitVec 32) : Fin 2 → Nat :=
  let c128_i32_199 : BitVec 32 := 128#32
  let v203 : BitVec 32 := Scalar.muli v194 c128_i32_199
  let c64_i32_200 : BitVec 32 := 64#32
  let v204 : BitVec 32 := Scalar.addi v203 c64_i32_200
  let v205 : Index := Scalar.indexCast v204
  let c0_201 : Index := 0#32
  ![v205.toNat, 0]

def k0_chk18 (v194 : BitVec 32) : Prop :=
  (∀ a, (k0_off24 v194) a + S1x1x64x4096.size a ≤ S32x2x64x4096.size a) ∧
  (∀ a, (k0_off25 v194) a + S64x64.size a ≤ S4096x64.size a)
theorem k0_off24_inb : ∀ (v194 : BitVec 32) (k0_hw18 : k0_chk18 v194), ∀ a, (k0_off24 v194) a + S1x1x64x4096.size a ≤ S32x2x64x4096.size a := fun v194 k0_hw18 => k0_hw18.1
theorem k0_off25_inb : ∀ (v194 : BitVec 32) (k0_hw18 : k0_chk18 v194), ∀ a, (k0_off25 v194) a + S64x64.size a ≤ S4096x64.size a := fun v194 k0_hw18 => k0_hw18.2

def k0_off26 (v72 : BitVec 32) : Fin 4 → Nat :=
  let c0_i32_204 : BitVec 32 := 0#32
  let c0_i32_211 : BitVec 32 := 0#32
  let c0_i32_212 : BitVec 32 := 0#32
  ![v72.toNat, 0, 0, 0]
def k0_off27 (v71 : BitVec 32) : Fin 4 → Nat :=
  let c0_i32_203 : BitVec 32 := 0#32
  let c0_i32_213 : BitVec 32 := 0#32
  let c0_i32_214 : BitVec 32 := 0#32
  ![v71.toNat, 0, 0, 0]
def k0_off28 (v221 : BitVec 32) : Fin 4 → Nat :=
  let c0_i32_217 : BitVec 32 := 0#32
  let c0_i32_224 : BitVec 32 := 0#32
  let c0_i32_225 : BitVec 32 := 0#32
  ![v221.toNat, 0, 0, 0]

def k0_off29 (v220 : BitVec 32) : Fin 4 → Nat :=
  let c0_i32_216 : BitVec 32 := 0#32
  let c0_i32_226 : BitVec 32 := 0#32
  let c0_i32_227 : BitVec 32 := 0#32
  ![v220.toNat, 0, 0, 0]

def k0_dev11 (v4 : BitVec 32) : Nat :=
  let c0_i32_223 : BitVec 32 := 0#32
  let c1_i32_222 : BitVec 32 := 1#32
  let v222 : BitVec 32 := Scalar.muli v4 c1_i32_222
  let v223 : BitVec 32 := Scalar.addi c0_i32_223 v222
  v223.toNat
def k0_off30 (v232 : BitVec 32) : Fin 4 → Nat :=
  let v233 : Index := Scalar.indexCast v232
  let c0_229 : Index := 0#32
  let c0_230 : Index := 0#32
  let c0_231 : Index := 0#32
  ![v233.toNat, 0, 0, 0]

def k0_off31 (v232 : BitVec 32) : Fin 2 → Nat :=
  let c128_i32_236 : BitVec 32 := 128#32
  let v241 : BitVec 32 := Scalar.muli v232 c128_i32_236
  let c0_i32_237 : BitVec 32 := 0#32
  let v242 : BitVec 32 := Scalar.addi v241 c0_i32_237
  let v243 : Index := Scalar.indexCast v242
  let c0_238 : Index := 0#32
  ![v243.toNat, 0]

def k0_chk21 (v232 : BitVec 32) : Prop :=
  (∀ a, (k0_off30 v232) a + S1x1x64x4096.size a ≤ S32x2x64x4096.size a) ∧
  (∀ a, (k0_off31 v232) a + S64x64.size a ≤ S4096x64.size a)
theorem k0_off30_inb : ∀ (v232 : BitVec 32) (k0_hw21 : k0_chk21 v232), ∀ a, (k0_off30 v232) a + S1x1x64x4096.size a ≤ S32x2x64x4096.size a := fun v232 k0_hw21 => k0_hw21.1
theorem k0_off31_inb : ∀ (v232 : BitVec 32) (k0_hw21 : k0_chk21 v232), ∀ a, (k0_off31 v232) a + S64x64.size a ≤ S4096x64.size a := fun v232 k0_hw21 => k0_hw21.2

def k0_off32 (v109 : BitVec 32) : Fin 4 → Nat :=
  let c1_i32_241 : BitVec 32 := 1#32
  let c0_i32_248 : BitVec 32 := 0#32
  let c0_i32_249 : BitVec 32 := 0#32
  ![v109.toNat, 1, 0, 0]
def k0_off33 (v108 : BitVec 32) : Fin 4 → Nat :=
  let c1_i32_240 : BitVec 32 := 1#32
  let c0_i32_250 : BitVec 32 := 0#32
  let c0_i32_251 : BitVec 32 := 0#32
  ![v108.toNat, 1, 0, 0]
def k0_off34 (v259 : BitVec 32) : Fin 4 → Nat :=
  let c1_i32_255 : BitVec 32 := 1#32
  let c0_i32_262 : BitVec 32 := 0#32
  let c0_i32_263 : BitVec 32 := 0#32
  ![v259.toNat, 1, 0, 0]

def k0_off35 (v258 : BitVec 32) : Fin 4 → Nat :=
  let c1_i32_254 : BitVec 32 := 1#32
  let c0_i32_264 : BitVec 32 := 0#32
  let c0_i32_265 : BitVec 32 := 0#32
  ![v258.toNat, 1, 0, 0]

def k0_dev12 (v4 : BitVec 32) : Nat :=
  let c0_i32_261 : BitVec 32 := 0#32
  let c1_i32_260 : BitVec 32 := 1#32
  let v260 : BitVec 32 := Scalar.muli v4 c1_i32_260
  let v261 : BitVec 32 := Scalar.addi c0_i32_261 v260
  v261.toNat
def k0_off36 (v270 : BitVec 32) : Fin 4 → Nat :=
  let v271 : Index := Scalar.indexCast v270
  let c1_267 : Index := 1#32
  let c0_268 : Index := 0#32
  let c0_269 : Index := 0#32
  ![v271.toNat, 1, 0, 0]

def k0_off37 (v270 : BitVec 32) : Fin 2 → Nat :=
  let c128_i32_274 : BitVec 32 := 128#32
  let v279 : BitVec 32 := Scalar.muli v270 c128_i32_274
  let c64_i32_275 : BitVec 32 := 64#32
  let v280 : BitVec 32 := Scalar.addi v279 c64_i32_275
  let v281 : Index := Scalar.indexCast v280
  let c0_276 : Index := 0#32
  ![v281.toNat, 0]

def k0_chk24 (v270 : BitVec 32) : Prop :=
  (∀ a, (k0_off36 v270) a + S1x1x64x4096.size a ≤ S32x2x64x4096.size a) ∧
  (∀ a, (k0_off37 v270) a + S64x64.size a ≤ S4096x64.size a)
theorem k0_off36_inb : ∀ (v270 : BitVec 32) (k0_hw24 : k0_chk24 v270), ∀ a, (k0_off36 v270) a + S1x1x64x4096.size a ≤ S32x2x64x4096.size a := fun v270 k0_hw24 => k0_hw24.1
theorem k0_off37_inb : ∀ (v270 : BitVec 32) (k0_hw24 : k0_chk24 v270), ∀ a, (k0_off37 v270) a + S64x64.size a ≤ S4096x64.size a := fun v270 k0_hw24 => k0_hw24.2

def k0_off38 (v146 : BitVec 32) : Fin 4 → Nat :=
  let c0_i32_279 : BitVec 32 := 0#32
  let c0_i32_286 : BitVec 32 := 0#32
  let c0_i32_287 : BitVec 32 := 0#32
  ![v146.toNat, 0, 0, 0]
def k0_off39 (v145 : BitVec 32) : Fin 4 → Nat :=
  let c0_i32_278 : BitVec 32 := 0#32
  let c0_i32_288 : BitVec 32 := 0#32
  let c0_i32_289 : BitVec 32 := 0#32
  ![v145.toNat, 0, 0, 0]
def k0_off40 (v297 : BitVec 32) : Fin 4 → Nat :=
  let c0_i32_292 : BitVec 32 := 0#32
  let c0_i32_299 : BitVec 32 := 0#32
  let c0_i32_300 : BitVec 32 := 0#32
  ![v297.toNat, 0, 0, 0]

def k0_off41 (v296 : BitVec 32) : Fin 4 → Nat :=
  let c0_i32_291 : BitVec 32 := 0#32
  let c0_i32_301 : BitVec 32 := 0#32
  let c0_i32_302 : BitVec 32 := 0#32
  ![v296.toNat, 0, 0, 0]

def k0_dev13 (v3 : BitVec 32) : Nat :=
  let c0_i32_298 : BitVec 32 := 0#32
  let c1_i32_297 : BitVec 32 := 1#32
  let v298 : BitVec 32 := Scalar.muli v3 c1_i32_297
  let v299 : BitVec 32 := Scalar.addi c0_i32_298 v298
  v299.toNat
def k0_off42 (v308 : BitVec 32) : Fin 4 → Nat :=
  let v309 : Index := Scalar.indexCast v308
  let c0_304 : Index := 0#32
  let c0_305 : Index := 0#32
  let c0_306 : Index := 0#32
  ![v309.toNat, 0, 0, 0]

def k0_off43 (v308 : BitVec 32) : Fin 2 → Nat :=
  let c128_i32_311 : BitVec 32 := 128#32
  let v317 : BitVec 32 := Scalar.muli v308 c128_i32_311
  let c0_i32_312 : BitVec 32 := 0#32
  let v318 : BitVec 32 := Scalar.addi v317 c0_i32_312
  let v319 : Index := Scalar.indexCast v318
  let c0_313 : Index := 0#32
  ![v319.toNat, 0]

def k0_chk27 (v308 : BitVec 32) : Prop :=
  (∀ a, (k0_off42 v308) a + S1x1x64x4096.size a ≤ S32x2x64x4096.size a) ∧
  (∀ a, (k0_off43 v308) a + S64x64.size a ≤ S4096x64.size a)
theorem k0_off42_inb : ∀ (v308 : BitVec 32) (k0_hw27 : k0_chk27 v308), ∀ a, (k0_off42 v308) a + S1x1x64x4096.size a ≤ S32x2x64x4096.size a := fun v308 k0_hw27 => k0_hw27.1
theorem k0_off43_inb : ∀ (v308 : BitVec 32) (k0_hw27 : k0_chk27 v308), ∀ a, (k0_off43 v308) a + S64x64.size a ≤ S4096x64.size a := fun v308 k0_hw27 => k0_hw27.2

def k0_off44 (v183 : BitVec 32) : Fin 4 → Nat :=
  let c1_i32_316 : BitVec 32 := 1#32
  let c0_i32_323 : BitVec 32 := 0#32
  let c0_i32_324 : BitVec 32 := 0#32
  ![v183.toNat, 1, 0, 0]
def k0_off45 (v182 : BitVec 32) : Fin 4 → Nat :=
  let c1_i32_315 : BitVec 32 := 1#32
  let c0_i32_325 : BitVec 32 := 0#32
  let c0_i32_326 : BitVec 32 := 0#32
  ![v182.toNat, 1, 0, 0]
def k0_off46 (v335 : BitVec 32) : Fin 4 → Nat :=
  let c1_i32_330 : BitVec 32 := 1#32
  let c0_i32_337 : BitVec 32 := 0#32
  let c0_i32_338 : BitVec 32 := 0#32
  ![v335.toNat, 1, 0, 0]

def k0_off47 (v334 : BitVec 32) : Fin 4 → Nat :=
  let c1_i32_329 : BitVec 32 := 1#32
  let c0_i32_339 : BitVec 32 := 0#32
  let c0_i32_340 : BitVec 32 := 0#32
  ![v334.toNat, 1, 0, 0]

def k0_dev14 (v3 : BitVec 32) : Nat :=
  let c0_i32_336 : BitVec 32 := 0#32
  let c1_i32_335 : BitVec 32 := 1#32
  let v336 : BitVec 32 := Scalar.muli v3 c1_i32_335
  let v337 : BitVec 32 := Scalar.addi c0_i32_336 v336
  v337.toNat
def k0_off48 (v346 : BitVec 32) : Fin 4 → Nat :=
  let v347 : Index := Scalar.indexCast v346
  let c1_342 : Index := 1#32
  let c0_343 : Index := 0#32
  let c0_344 : Index := 0#32
  ![v347.toNat, 1, 0, 0]

def k0_off49 (v346 : BitVec 32) : Fin 2 → Nat :=
  let c128_i32_349 : BitVec 32 := 128#32
  let v355 : BitVec 32 := Scalar.muli v346 c128_i32_349
  let c64_i32_350 : BitVec 32 := 64#32
  let v356 : BitVec 32 := Scalar.addi v355 c64_i32_350
  let v357 : Index := Scalar.indexCast v356
  let c0_351 : Index := 0#32
  ![v357.toNat, 0]

def k0_chk30 (v346 : BitVec 32) : Prop :=
  (∀ a, (k0_off48 v346) a + S1x1x64x4096.size a ≤ S32x2x64x4096.size a) ∧
  (∀ a, (k0_off49 v346) a + S64x64.size a ≤ S4096x64.size a)
theorem k0_off48_inb : ∀ (v346 : BitVec 32) (k0_hw30 : k0_chk30 v346), ∀ a, (k0_off48 v346) a + S1x1x64x4096.size a ≤ S32x2x64x4096.size a := fun v346 k0_hw30 => k0_hw30.1
theorem k0_off49_inb : ∀ (v346 : BitVec 32) (k0_hw30 : k0_chk30 v346), ∀ a, (k0_off49 v346) a + S64x64.size a ≤ S4096x64.size a := fun v346 k0_hw30 => k0_hw30.2

def k0_off50 (v221 : BitVec 32) : Fin 4 → Nat :=
  let c0_i32_354 : BitVec 32 := 0#32
  let c0_i32_361 : BitVec 32 := 0#32
  let c0_i32_362 : BitVec 32 := 0#32
  ![v221.toNat, 0, 0, 0]
def k0_off51 (v220 : BitVec 32) : Fin 4 → Nat :=
  let c0_i32_353 : BitVec 32 := 0#32
  let c0_i32_363 : BitVec 32 := 0#32
  let c0_i32_364 : BitVec 32 := 0#32
  ![v220.toNat, 0, 0, 0]
def k0_off52 (v373 : BitVec 32) : Fin 4 → Nat :=
  let c0_i32_367 : BitVec 32 := 0#32
  let c0_i32_373 : BitVec 32 := 0#32
  let c0_i32_374 : BitVec 32 := 0#32
  ![v373.toNat, 0, 0, 0]

def k0_off53 (v372 : BitVec 32) : Fin 4 → Nat :=
  let c0_i32_366 : BitVec 32 := 0#32
  let c0_i32_375 : BitVec 32 := 0#32
  let c0_i32_376 : BitVec 32 := 0#32
  ![v372.toNat, 0, 0, 0]

def k0_dev15 (v4 : BitVec 32) : Nat :=
  let c0_i32_372 : BitVec 32 := 0#32
  let c1_i32_371 : BitVec 32 := 1#32
  let v374 : BitVec 32 := Scalar.muli v4 c1_i32_371
  let v375 : BitVec 32 := Scalar.addi c0_i32_372 v374
  v375.toNat
def k0_off54 (v384 : BitVec 32) : Fin 4 → Nat :=
  let v385 : Index := Scalar.indexCast v384
  let c0_378 : Index := 0#32
  let c0_379 : Index := 0#32
  let c0_380 : Index := 0#32
  ![v385.toNat, 0, 0, 0]

def k0_off55 (v384 : BitVec 32) : Fin 2 → Nat :=
  let c128_i32_385 : BitVec 32 := 128#32
  let v393 : BitVec 32 := Scalar.muli v384 c128_i32_385
  let c0_i32_386 : BitVec 32 := 0#32
  let v394 : BitVec 32 := Scalar.addi v393 c0_i32_386
  let v395 : Index := Scalar.indexCast v394
  let c0_387 : Index := 0#32
  ![v395.toNat, 0]

def k0_chk33 (v384 : BitVec 32) : Prop :=
  (∀ a, (k0_off54 v384) a + S1x1x64x4096.size a ≤ S32x2x64x4096.size a) ∧
  (∀ a, (k0_off55 v384) a + S64x64.size a ≤ S4096x64.size a)
theorem k0_off54_inb : ∀ (v384 : BitVec 32) (k0_hw33 : k0_chk33 v384), ∀ a, (k0_off54 v384) a + S1x1x64x4096.size a ≤ S32x2x64x4096.size a := fun v384 k0_hw33 => k0_hw33.1
theorem k0_off55_inb : ∀ (v384 : BitVec 32) (k0_hw33 : k0_chk33 v384), ∀ a, (k0_off55 v384) a + S64x64.size a ≤ S4096x64.size a := fun v384 k0_hw33 => k0_hw33.2

def k0_off56 (v259 : BitVec 32) : Fin 4 → Nat :=
  let c1_i32_390 : BitVec 32 := 1#32
  let c0_i32_397 : BitVec 32 := 0#32
  let c0_i32_398 : BitVec 32 := 0#32
  ![v259.toNat, 1, 0, 0]
def k0_off57 (v258 : BitVec 32) : Fin 4 → Nat :=
  let c1_i32_389 : BitVec 32 := 1#32
  let c0_i32_399 : BitVec 32 := 0#32
  let c0_i32_400 : BitVec 32 := 0#32
  ![v258.toNat, 1, 0, 0]
def k0_off58 (v411 : BitVec 32) : Fin 4 → Nat :=
  let c1_i32_404 : BitVec 32 := 1#32
  let c0_i32_411 : BitVec 32 := 0#32
  let c0_i32_412 : BitVec 32 := 0#32
  ![v411.toNat, 1, 0, 0]

def k0_off59 (v410 : BitVec 32) : Fin 4 → Nat :=
  let c1_i32_403 : BitVec 32 := 1#32
  let c0_i32_413 : BitVec 32 := 0#32
  let c0_i32_414 : BitVec 32 := 0#32
  ![v410.toNat, 1, 0, 0]

def k0_dev16 (v4 : BitVec 32) : Nat :=
  let c0_i32_410 : BitVec 32 := 0#32
  let c1_i32_409 : BitVec 32 := 1#32
  let v412 : BitVec 32 := Scalar.muli v4 c1_i32_409
  let v413 : BitVec 32 := Scalar.addi c0_i32_410 v412
  v413.toNat
def k0_off60 (v422 : BitVec 32) : Fin 4 → Nat :=
  let v423 : Index := Scalar.indexCast v422
  let c1_416 : Index := 1#32
  let c0_417 : Index := 0#32
  let c0_418 : Index := 0#32
  ![v423.toNat, 1, 0, 0]

def k0_off61 (v422 : BitVec 32) : Fin 2 → Nat :=
  let c128_i32_423 : BitVec 32 := 128#32
  let v431 : BitVec 32 := Scalar.muli v422 c128_i32_423
  let c64_i32_424 : BitVec 32 := 64#32
  let v432 : BitVec 32 := Scalar.addi v431 c64_i32_424
  let v433 : Index := Scalar.indexCast v432
  let c0_425 : Index := 0#32
  ![v433.toNat, 0]

def k0_chk36 (v422 : BitVec 32) : Prop :=
  (∀ a, (k0_off60 v422) a + S1x1x64x4096.size a ≤ S32x2x64x4096.size a) ∧
  (∀ a, (k0_off61 v422) a + S64x64.size a ≤ S4096x64.size a)
theorem k0_off60_inb : ∀ (v422 : BitVec 32) (k0_hw36 : k0_chk36 v422), ∀ a, (k0_off60 v422) a + S1x1x64x4096.size a ≤ S32x2x64x4096.size a := fun v422 k0_hw36 => k0_hw36.1
theorem k0_off61_inb : ∀ (v422 : BitVec 32) (k0_hw36 : k0_chk36 v422), ∀ a, (k0_off61 v422) a + S64x64.size a ≤ S4096x64.size a := fun v422 k0_hw36 => k0_hw36.2

def k0_off62 (v297 : BitVec 32) : Fin 4 → Nat :=
  let c0_i32_428 : BitVec 32 := 0#32
  let c0_i32_435 : BitVec 32 := 0#32
  let c0_i32_436 : BitVec 32 := 0#32
  ![v297.toNat, 0, 0, 0]
def k0_off63 (v296 : BitVec 32) : Fin 4 → Nat :=
  let c0_i32_427 : BitVec 32 := 0#32
  let c0_i32_437 : BitVec 32 := 0#32
  let c0_i32_438 : BitVec 32 := 0#32
  ![v296.toNat, 0, 0, 0]
def k0_off64 (v449 : BitVec 32) : Fin 4 → Nat :=
  let c0_i32_441 : BitVec 32 := 0#32
  let c0_i32_448 : BitVec 32 := 0#32
  let c0_i32_449 : BitVec 32 := 0#32
  ![v449.toNat, 0, 0, 0]

def k0_off65 (v448 : BitVec 32) : Fin 4 → Nat :=
  let c0_i32_440 : BitVec 32 := 0#32
  let c0_i32_450 : BitVec 32 := 0#32
  let c0_i32_451 : BitVec 32 := 0#32
  ![v448.toNat, 0, 0, 0]

def k0_dev17 (v3 : BitVec 32) : Nat :=
  let c0_i32_447 : BitVec 32 := 0#32
  let c1_i32_446 : BitVec 32 := 1#32
  let v450 : BitVec 32 := Scalar.muli v3 c1_i32_446
  let v451 : BitVec 32 := Scalar.addi c0_i32_447 v450
  v451.toNat
def k0_off66 (v460 : BitVec 32) : Fin 4 → Nat :=
  let v461 : Index := Scalar.indexCast v460
  let c0_453 : Index := 0#32
  let c0_454 : Index := 0#32
  let c0_455 : Index := 0#32
  ![v461.toNat, 0, 0, 0]

def k0_off67 (v460 : BitVec 32) : Fin 2 → Nat :=
  let c128_i32_460 : BitVec 32 := 128#32
  let v469 : BitVec 32 := Scalar.muli v460 c128_i32_460
  let c0_i32_461 : BitVec 32 := 0#32
  let v470 : BitVec 32 := Scalar.addi v469 c0_i32_461
  let v471 : Index := Scalar.indexCast v470
  let c0_462 : Index := 0#32
  ![v471.toNat, 0]

def k0_chk39 (v460 : BitVec 32) : Prop :=
  (∀ a, (k0_off66 v460) a + S1x1x64x4096.size a ≤ S32x2x64x4096.size a) ∧
  (∀ a, (k0_off67 v460) a + S64x64.size a ≤ S4096x64.size a)
theorem k0_off66_inb : ∀ (v460 : BitVec 32) (k0_hw39 : k0_chk39 v460), ∀ a, (k0_off66 v460) a + S1x1x64x4096.size a ≤ S32x2x64x4096.size a := fun v460 k0_hw39 => k0_hw39.1
theorem k0_off67_inb : ∀ (v460 : BitVec 32) (k0_hw39 : k0_chk39 v460), ∀ a, (k0_off67 v460) a + S64x64.size a ≤ S4096x64.size a := fun v460 k0_hw39 => k0_hw39.2

def k0_off68 (v335 : BitVec 32) : Fin 4 → Nat :=
  let c1_i32_465 : BitVec 32 := 1#32
  let c0_i32_472 : BitVec 32 := 0#32
  let c0_i32_473 : BitVec 32 := 0#32
  ![v335.toNat, 1, 0, 0]
def k0_off69 (v334 : BitVec 32) : Fin 4 → Nat :=
  let c1_i32_464 : BitVec 32 := 1#32
  let c0_i32_474 : BitVec 32 := 0#32
  let c0_i32_475 : BitVec 32 := 0#32
  ![v334.toNat, 1, 0, 0]
def k0_off70 (v487 : BitVec 32) : Fin 4 → Nat :=
  let c1_i32_479 : BitVec 32 := 1#32
  let c0_i32_486 : BitVec 32 := 0#32
  let c0_i32_487 : BitVec 32 := 0#32
  ![v487.toNat, 1, 0, 0]

def k0_off71 (v486 : BitVec 32) : Fin 4 → Nat :=
  let c1_i32_478 : BitVec 32 := 1#32
  let c0_i32_488 : BitVec 32 := 0#32
  let c0_i32_489 : BitVec 32 := 0#32
  ![v486.toNat, 1, 0, 0]

def k0_dev18 (v3 : BitVec 32) : Nat :=
  let c0_i32_485 : BitVec 32 := 0#32
  let c1_i32_484 : BitVec 32 := 1#32
  let v488 : BitVec 32 := Scalar.muli v3 c1_i32_484
  let v489 : BitVec 32 := Scalar.addi c0_i32_485 v488
  v489.toNat
def k0_off72 (v498 : BitVec 32) : Fin 4 → Nat :=
  let v499 : Index := Scalar.indexCast v498
  let c1_491 : Index := 1#32
  let c0_492 : Index := 0#32
  let c0_493 : Index := 0#32
  ![v499.toNat, 1, 0, 0]

def k0_off73 (v498 : BitVec 32) : Fin 2 → Nat :=
  let c128_i32_498 : BitVec 32 := 128#32
  let v507 : BitVec 32 := Scalar.muli v498 c128_i32_498
  let c64_i32_499 : BitVec 32 := 64#32
  let v508 : BitVec 32 := Scalar.addi v507 c64_i32_499
  let v509 : Index := Scalar.indexCast v508
  let c0_500 : Index := 0#32
  ![v509.toNat, 0]

def k0_chk42 (v498 : BitVec 32) : Prop :=
  (∀ a, (k0_off72 v498) a + S1x1x64x4096.size a ≤ S32x2x64x4096.size a) ∧
  (∀ a, (k0_off73 v498) a + S64x64.size a ≤ S4096x64.size a)
theorem k0_off72_inb : ∀ (v498 : BitVec 32) (k0_hw42 : k0_chk42 v498), ∀ a, (k0_off72 v498) a + S1x1x64x4096.size a ≤ S32x2x64x4096.size a := fun v498 k0_hw42 => k0_hw42.1
theorem k0_off73_inb : ∀ (v498 : BitVec 32) (k0_hw42 : k0_chk42 v498), ∀ a, (k0_off73 v498) a + S64x64.size a ≤ S4096x64.size a := fun v498 k0_hw42 => k0_hw42.2

def k0_off74 (v373 : BitVec 32) : Fin 4 → Nat :=
  let c0_i32_503 : BitVec 32 := 0#32
  let c0_i32_510 : BitVec 32 := 0#32
  let c0_i32_511 : BitVec 32 := 0#32
  ![v373.toNat, 0, 0, 0]
def k0_off75 (v372 : BitVec 32) : Fin 4 → Nat :=
  let c0_i32_502 : BitVec 32 := 0#32
  let c0_i32_512 : BitVec 32 := 0#32
  let c0_i32_513 : BitVec 32 := 0#32
  ![v372.toNat, 0, 0, 0]
def k0_off76 (v525 : BitVec 32) : Fin 4 → Nat :=
  let c0_i32_516 : BitVec 32 := 0#32
  let c0_i32_522 : BitVec 32 := 0#32
  let c0_i32_523 : BitVec 32 := 0#32
  ![v525.toNat, 0, 0, 0]

def k0_off77 (v524 : BitVec 32) : Fin 4 → Nat :=
  let c0_i32_515 : BitVec 32 := 0#32
  let c0_i32_524 : BitVec 32 := 0#32
  let c0_i32_525 : BitVec 32 := 0#32
  ![v524.toNat, 0, 0, 0]

def k0_dev19 (v4 : BitVec 32) : Nat :=
  let c0_i32_521 : BitVec 32 := 0#32
  let c1_i32_520 : BitVec 32 := 1#32
  let v526 : BitVec 32 := Scalar.muli v4 c1_i32_520
  let v527 : BitVec 32 := Scalar.addi c0_i32_521 v526
  v527.toNat
def k0_off78 (v536 : BitVec 32) : Fin 4 → Nat :=
  let v537 : Index := Scalar.indexCast v536
  let c0_527 : Index := 0#32
  let c0_528 : Index := 0#32
  let c0_529 : Index := 0#32
  ![v537.toNat, 0, 0, 0]

def k0_off79 (v536 : BitVec 32) : Fin 2 → Nat :=
  let c128_i32_534 : BitVec 32 := 128#32
  let v545 : BitVec 32 := Scalar.muli v536 c128_i32_534
  let c0_i32_535 : BitVec 32 := 0#32
  let v546 : BitVec 32 := Scalar.addi v545 c0_i32_535
  let v547 : Index := Scalar.indexCast v546
  let c0_536 : Index := 0#32
  ![v547.toNat, 0]

def k0_chk45 (v536 : BitVec 32) : Prop :=
  (∀ a, (k0_off78 v536) a + S1x1x64x4096.size a ≤ S32x2x64x4096.size a) ∧
  (∀ a, (k0_off79 v536) a + S64x64.size a ≤ S4096x64.size a)
theorem k0_off78_inb : ∀ (v536 : BitVec 32) (k0_hw45 : k0_chk45 v536), ∀ a, (k0_off78 v536) a + S1x1x64x4096.size a ≤ S32x2x64x4096.size a := fun v536 k0_hw45 => k0_hw45.1
theorem k0_off79_inb : ∀ (v536 : BitVec 32) (k0_hw45 : k0_chk45 v536), ∀ a, (k0_off79 v536) a + S64x64.size a ≤ S4096x64.size a := fun v536 k0_hw45 => k0_hw45.2

def k0_off80 (v411 : BitVec 32) : Fin 4 → Nat :=
  let c1_i32_539 : BitVec 32 := 1#32
  let c0_i32_546 : BitVec 32 := 0#32
  let c0_i32_547 : BitVec 32 := 0#32
  ![v411.toNat, 1, 0, 0]
def k0_off81 (v410 : BitVec 32) : Fin 4 → Nat :=
  let c1_i32_538 : BitVec 32 := 1#32
  let c0_i32_548 : BitVec 32 := 0#32
  let c0_i32_549 : BitVec 32 := 0#32
  ![v410.toNat, 1, 0, 0]
def k0_off82 (v563 : BitVec 32) : Fin 4 → Nat :=
  let c1_i32_553 : BitVec 32 := 1#32
  let c0_i32_560 : BitVec 32 := 0#32
  let c0_i32_561 : BitVec 32 := 0#32
  ![v563.toNat, 1, 0, 0]

def k0_off83 (v562 : BitVec 32) : Fin 4 → Nat :=
  let c1_i32_552 : BitVec 32 := 1#32
  let c0_i32_562 : BitVec 32 := 0#32
  let c0_i32_563 : BitVec 32 := 0#32
  ![v562.toNat, 1, 0, 0]

def k0_dev20 (v4 : BitVec 32) : Nat :=
  let c0_i32_559 : BitVec 32 := 0#32
  let c1_i32_558 : BitVec 32 := 1#32
  let v564 : BitVec 32 := Scalar.muli v4 c1_i32_558
  let v565 : BitVec 32 := Scalar.addi c0_i32_559 v564
  v565.toNat
def k0_off84 (v574 : BitVec 32) : Fin 4 → Nat :=
  let v575 : Index := Scalar.indexCast v574
  let c1_565 : Index := 1#32
  let c0_566 : Index := 0#32
  let c0_567 : Index := 0#32
  ![v575.toNat, 1, 0, 0]

def k0_off85 (v574 : BitVec 32) : Fin 2 → Nat :=
  let c128_i32_572 : BitVec 32 := 128#32
  let v583 : BitVec 32 := Scalar.muli v574 c128_i32_572
  let c64_i32_573 : BitVec 32 := 64#32
  let v584 : BitVec 32 := Scalar.addi v583 c64_i32_573
  let v585 : Index := Scalar.indexCast v584
  let c0_574 : Index := 0#32
  ![v585.toNat, 0]

def k0_chk48 (v574 : BitVec 32) : Prop :=
  (∀ a, (k0_off84 v574) a + S1x1x64x4096.size a ≤ S32x2x64x4096.size a) ∧
  (∀ a, (k0_off85 v574) a + S64x64.size a ≤ S4096x64.size a)
theorem k0_off84_inb : ∀ (v574 : BitVec 32) (k0_hw48 : k0_chk48 v574), ∀ a, (k0_off84 v574) a + S1x1x64x4096.size a ≤ S32x2x64x4096.size a := fun v574 k0_hw48 => k0_hw48.1
theorem k0_off85_inb : ∀ (v574 : BitVec 32) (k0_hw48 : k0_chk48 v574), ∀ a, (k0_off85 v574) a + S64x64.size a ≤ S4096x64.size a := fun v574 k0_hw48 => k0_hw48.2

def k0_off86 (v449 : BitVec 32) : Fin 4 → Nat :=
  let c0_i32_577 : BitVec 32 := 0#32
  let c0_i32_584 : BitVec 32 := 0#32
  let c0_i32_585 : BitVec 32 := 0#32
  ![v449.toNat, 0, 0, 0]
def k0_off87 (v448 : BitVec 32) : Fin 4 → Nat :=
  let c0_i32_576 : BitVec 32 := 0#32
  let c0_i32_586 : BitVec 32 := 0#32
  let c0_i32_587 : BitVec 32 := 0#32
  ![v448.toNat, 0, 0, 0]
def k0_off88 (v601 : BitVec 32) : Fin 4 → Nat :=
  let c0_i32_590 : BitVec 32 := 0#32
  let c0_i32_597 : BitVec 32 := 0#32
  let c0_i32_598 : BitVec 32 := 0#32
  ![v601.toNat, 0, 0, 0]

def k0_off89 (v600 : BitVec 32) : Fin 4 → Nat :=
  let c0_i32_589 : BitVec 32 := 0#32
  let c0_i32_599 : BitVec 32 := 0#32
  let c0_i32_600 : BitVec 32 := 0#32
  ![v600.toNat, 0, 0, 0]

def k0_dev21 (v3 : BitVec 32) : Nat :=
  let c0_i32_596 : BitVec 32 := 0#32
  let c1_i32_595 : BitVec 32 := 1#32
  let v602 : BitVec 32 := Scalar.muli v3 c1_i32_595
  let v603 : BitVec 32 := Scalar.addi c0_i32_596 v602
  v603.toNat
def k0_off90 (v612 : BitVec 32) : Fin 4 → Nat :=
  let v613 : Index := Scalar.indexCast v612
  let c0_602 : Index := 0#32
  let c0_603 : Index := 0#32
  let c0_604 : Index := 0#32
  ![v613.toNat, 0, 0, 0]

def k0_off91 (v612 : BitVec 32) : Fin 2 → Nat :=
  let c128_i32_609 : BitVec 32 := 128#32
  let v621 : BitVec 32 := Scalar.muli v612 c128_i32_609
  let c0_i32_610 : BitVec 32 := 0#32
  let v622 : BitVec 32 := Scalar.addi v621 c0_i32_610
  let v623 : Index := Scalar.indexCast v622
  let c0_611 : Index := 0#32
  ![v623.toNat, 0]

def k0_chk51 (v612 : BitVec 32) : Prop :=
  (∀ a, (k0_off90 v612) a + S1x1x64x4096.size a ≤ S32x2x64x4096.size a) ∧
  (∀ a, (k0_off91 v612) a + S64x64.size a ≤ S4096x64.size a)
theorem k0_off90_inb : ∀ (v612 : BitVec 32) (k0_hw51 : k0_chk51 v612), ∀ a, (k0_off90 v612) a + S1x1x64x4096.size a ≤ S32x2x64x4096.size a := fun v612 k0_hw51 => k0_hw51.1
theorem k0_off91_inb : ∀ (v612 : BitVec 32) (k0_hw51 : k0_chk51 v612), ∀ a, (k0_off91 v612) a + S64x64.size a ≤ S4096x64.size a := fun v612 k0_hw51 => k0_hw51.2

def k0_off92 (v487 : BitVec 32) : Fin 4 → Nat :=
  let c1_i32_614 : BitVec 32 := 1#32
  let c0_i32_621 : BitVec 32 := 0#32
  let c0_i32_622 : BitVec 32 := 0#32
  ![v487.toNat, 1, 0, 0]
def k0_off93 (v486 : BitVec 32) : Fin 4 → Nat :=
  let c1_i32_613 : BitVec 32 := 1#32
  let c0_i32_623 : BitVec 32 := 0#32
  let c0_i32_624 : BitVec 32 := 0#32
  ![v486.toNat, 1, 0, 0]
def k0_off94 (v639 : BitVec 32) : Fin 4 → Nat :=
  let c1_i32_628 : BitVec 32 := 1#32
  let c0_i32_635 : BitVec 32 := 0#32
  let c0_i32_636 : BitVec 32 := 0#32
  ![v639.toNat, 1, 0, 0]

def k0_off95 (v638 : BitVec 32) : Fin 4 → Nat :=
  let c1_i32_627 : BitVec 32 := 1#32
  let c0_i32_637 : BitVec 32 := 0#32
  let c0_i32_638 : BitVec 32 := 0#32
  ![v638.toNat, 1, 0, 0]

def k0_dev22 (v3 : BitVec 32) : Nat :=
  let c0_i32_634 : BitVec 32 := 0#32
  let c1_i32_633 : BitVec 32 := 1#32
  let v640 : BitVec 32 := Scalar.muli v3 c1_i32_633
  let v641 : BitVec 32 := Scalar.addi c0_i32_634 v640
  v641.toNat
def k0_off96 (v650 : BitVec 32) : Fin 4 → Nat :=
  let v651 : Index := Scalar.indexCast v650
  let c1_640 : Index := 1#32
  let c0_641 : Index := 0#32
  let c0_642 : Index := 0#32
  ![v651.toNat, 1, 0, 0]

def k0_off97 (v650 : BitVec 32) : Fin 2 → Nat :=
  let c128_i32_647 : BitVec 32 := 128#32
  let v659 : BitVec 32 := Scalar.muli v650 c128_i32_647
  let c64_i32_648 : BitVec 32 := 64#32
  let v660 : BitVec 32 := Scalar.addi v659 c64_i32_648
  let v661 : Index := Scalar.indexCast v660
  let c0_649 : Index := 0#32
  ![v661.toNat, 0]

def k0_chk54 (v650 : BitVec 32) : Prop :=
  (∀ a, (k0_off96 v650) a + S1x1x64x4096.size a ≤ S32x2x64x4096.size a) ∧
  (∀ a, (k0_off97 v650) a + S64x64.size a ≤ S4096x64.size a)
theorem k0_off96_inb : ∀ (v650 : BitVec 32) (k0_hw54 : k0_chk54 v650), ∀ a, (k0_off96 v650) a + S1x1x64x4096.size a ≤ S32x2x64x4096.size a := fun v650 k0_hw54 => k0_hw54.1
theorem k0_off97_inb : ∀ (v650 : BitVec 32) (k0_hw54 : k0_chk54 v650), ∀ a, (k0_off97 v650) a + S64x64.size a ≤ S4096x64.size a := fun v650 k0_hw54 => k0_hw54.2

def k0_off98 (v525 : BitVec 32) : Fin 4 → Nat :=
  let c0_i32_652 : BitVec 32 := 0#32
  let c0_i32_659 : BitVec 32 := 0#32
  let c0_i32_660 : BitVec 32 := 0#32
  ![v525.toNat, 0, 0, 0]
def k0_off99 (v524 : BitVec 32) : Fin 4 → Nat :=
  let c0_i32_651 : BitVec 32 := 0#32
  let c0_i32_661 : BitVec 32 := 0#32
  let c0_i32_662 : BitVec 32 := 0#32
  ![v524.toNat, 0, 0, 0]
def k0_off100 (v677 : BitVec 32) : Fin 4 → Nat :=
  let c0_i32_665 : BitVec 32 := 0#32
  let c0_i32_671 : BitVec 32 := 0#32
  let c0_i32_672 : BitVec 32 := 0#32
  ![v677.toNat, 0, 0, 0]

def k0_off101 (v676 : BitVec 32) : Fin 4 → Nat :=
  let c0_i32_664 : BitVec 32 := 0#32
  let c0_i32_673 : BitVec 32 := 0#32
  let c0_i32_674 : BitVec 32 := 0#32
  ![v676.toNat, 0, 0, 0]

def k0_dev23 (v4 : BitVec 32) : Nat :=
  let c0_i32_670 : BitVec 32 := 0#32
  let c1_i32_669 : BitVec 32 := 1#32
  let v678 : BitVec 32 := Scalar.muli v4 c1_i32_669
  let v679 : BitVec 32 := Scalar.addi c0_i32_670 v678
  v679.toNat
def k0_off102 (v688 : BitVec 32) : Fin 4 → Nat :=
  let v689 : Index := Scalar.indexCast v688
  let c0_676 : Index := 0#32
  let c0_677 : Index := 0#32
  let c0_678 : Index := 0#32
  ![v689.toNat, 0, 0, 0]

def k0_off103 (v688 : BitVec 32) : Fin 2 → Nat :=
  let c128_i32_683 : BitVec 32 := 128#32
  let v697 : BitVec 32 := Scalar.muli v688 c128_i32_683
  let c0_i32_684 : BitVec 32 := 0#32
  let v698 : BitVec 32 := Scalar.addi v697 c0_i32_684
  let v699 : Index := Scalar.indexCast v698
  let c0_685 : Index := 0#32
  ![v699.toNat, 0]

def k0_chk57 (v688 : BitVec 32) : Prop :=
  (∀ a, (k0_off102 v688) a + S1x1x64x4096.size a ≤ S32x2x64x4096.size a) ∧
  (∀ a, (k0_off103 v688) a + S64x64.size a ≤ S4096x64.size a)
theorem k0_off102_inb : ∀ (v688 : BitVec 32) (k0_hw57 : k0_chk57 v688), ∀ a, (k0_off102 v688) a + S1x1x64x4096.size a ≤ S32x2x64x4096.size a := fun v688 k0_hw57 => k0_hw57.1
theorem k0_off103_inb : ∀ (v688 : BitVec 32) (k0_hw57 : k0_chk57 v688), ∀ a, (k0_off103 v688) a + S64x64.size a ≤ S4096x64.size a := fun v688 k0_hw57 => k0_hw57.2

def k0_off104 (v563 : BitVec 32) : Fin 4 → Nat :=
  let c1_i32_688 : BitVec 32 := 1#32
  let c0_i32_695 : BitVec 32 := 0#32
  let c0_i32_696 : BitVec 32 := 0#32
  ![v563.toNat, 1, 0, 0]
def k0_off105 (v562 : BitVec 32) : Fin 4 → Nat :=
  let c1_i32_687 : BitVec 32 := 1#32
  let c0_i32_697 : BitVec 32 := 0#32
  let c0_i32_698 : BitVec 32 := 0#32
  ![v562.toNat, 1, 0, 0]
def k0_off106 (v715 : BitVec 32) : Fin 4 → Nat :=
  let c1_i32_702 : BitVec 32 := 1#32
  let c0_i32_709 : BitVec 32 := 0#32
  let c0_i32_710 : BitVec 32 := 0#32
  ![v715.toNat, 1, 0, 0]

def k0_off107 (v714 : BitVec 32) : Fin 4 → Nat :=
  let c1_i32_701 : BitVec 32 := 1#32
  let c0_i32_711 : BitVec 32 := 0#32
  let c0_i32_712 : BitVec 32 := 0#32
  ![v714.toNat, 1, 0, 0]

def k0_dev24 (v4 : BitVec 32) : Nat :=
  let c0_i32_708 : BitVec 32 := 0#32
  let c1_i32_707 : BitVec 32 := 1#32
  let v716 : BitVec 32 := Scalar.muli v4 c1_i32_707
  let v717 : BitVec 32 := Scalar.addi c0_i32_708 v716
  v717.toNat
def k0_off108 (v726 : BitVec 32) : Fin 4 → Nat :=
  let v727 : Index := Scalar.indexCast v726
  let c1_714 : Index := 1#32
  let c0_715 : Index := 0#32
  let c0_716 : Index := 0#32
  ![v727.toNat, 1, 0, 0]

def k0_off109 (v726 : BitVec 32) : Fin 2 → Nat :=
  let c128_i32_721 : BitVec 32 := 128#32
  let v735 : BitVec 32 := Scalar.muli v726 c128_i32_721
  let c64_i32_722 : BitVec 32 := 64#32
  let v736 : BitVec 32 := Scalar.addi v735 c64_i32_722
  let v737 : Index := Scalar.indexCast v736
  let c0_723 : Index := 0#32
  ![v737.toNat, 0]

def k0_chk60 (v726 : BitVec 32) : Prop :=
  (∀ a, (k0_off108 v726) a + S1x1x64x4096.size a ≤ S32x2x64x4096.size a) ∧
  (∀ a, (k0_off109 v726) a + S64x64.size a ≤ S4096x64.size a)
theorem k0_off108_inb : ∀ (v726 : BitVec 32) (k0_hw60 : k0_chk60 v726), ∀ a, (k0_off108 v726) a + S1x1x64x4096.size a ≤ S32x2x64x4096.size a := fun v726 k0_hw60 => k0_hw60.1
theorem k0_off109_inb : ∀ (v726 : BitVec 32) (k0_hw60 : k0_chk60 v726), ∀ a, (k0_off109 v726) a + S64x64.size a ≤ S4096x64.size a := fun v726 k0_hw60 => k0_hw60.2

def k0_off110 (v601 : BitVec 32) : Fin 4 → Nat :=
  let c0_i32_726 : BitVec 32 := 0#32
  let c0_i32_733 : BitVec 32 := 0#32
  let c0_i32_734 : BitVec 32 := 0#32
  ![v601.toNat, 0, 0, 0]
def k0_off111 (v600 : BitVec 32) : Fin 4 → Nat :=
  let c0_i32_725 : BitVec 32 := 0#32
  let c0_i32_735 : BitVec 32 := 0#32
  let c0_i32_736 : BitVec 32 := 0#32
  ![v600.toNat, 0, 0, 0]
def k0_off112 (v753 : BitVec 32) : Fin 4 → Nat :=
  let c0_i32_739 : BitVec 32 := 0#32
  let c0_i32_746 : BitVec 32 := 0#32
  let c0_i32_747 : BitVec 32 := 0#32
  ![v753.toNat, 0, 0, 0]

def k0_off113 (v752 : BitVec 32) : Fin 4 → Nat :=
  let c0_i32_738 : BitVec 32 := 0#32
  let c0_i32_748 : BitVec 32 := 0#32
  let c0_i32_749 : BitVec 32 := 0#32
  ![v752.toNat, 0, 0, 0]

def k0_dev25 (v3 : BitVec 32) : Nat :=
  let c0_i32_745 : BitVec 32 := 0#32
  let c1_i32_744 : BitVec 32 := 1#32
  let v754 : BitVec 32 := Scalar.muli v3 c1_i32_744
  let v755 : BitVec 32 := Scalar.addi c0_i32_745 v754
  v755.toNat
def k0_off114 (v764 : BitVec 32) : Fin 4 → Nat :=
  let v765 : Index := Scalar.indexCast v764
  let c0_751 : Index := 0#32
  let c0_752 : Index := 0#32
  let c0_753 : Index := 0#32
  ![v765.toNat, 0, 0, 0]

def k0_off115 (v764 : BitVec 32) : Fin 2 → Nat :=
  let c128_i32_758 : BitVec 32 := 128#32
  let v773 : BitVec 32 := Scalar.muli v764 c128_i32_758
  let c0_i32_759 : BitVec 32 := 0#32
  let v774 : BitVec 32 := Scalar.addi v773 c0_i32_759
  let v775 : Index := Scalar.indexCast v774
  let c0_760 : Index := 0#32
  ![v775.toNat, 0]

def k0_chk63 (v764 : BitVec 32) : Prop :=
  (∀ a, (k0_off114 v764) a + S1x1x64x4096.size a ≤ S32x2x64x4096.size a) ∧
  (∀ a, (k0_off115 v764) a + S64x64.size a ≤ S4096x64.size a)
theorem k0_off114_inb : ∀ (v764 : BitVec 32) (k0_hw63 : k0_chk63 v764), ∀ a, (k0_off114 v764) a + S1x1x64x4096.size a ≤ S32x2x64x4096.size a := fun v764 k0_hw63 => k0_hw63.1
theorem k0_off115_inb : ∀ (v764 : BitVec 32) (k0_hw63 : k0_chk63 v764), ∀ a, (k0_off115 v764) a + S64x64.size a ≤ S4096x64.size a := fun v764 k0_hw63 => k0_hw63.2

def k0_off116 (v639 : BitVec 32) : Fin 4 → Nat :=
  let c1_i32_763 : BitVec 32 := 1#32
  let c0_i32_770 : BitVec 32 := 0#32
  let c0_i32_771 : BitVec 32 := 0#32
  ![v639.toNat, 1, 0, 0]
def k0_off117 (v638 : BitVec 32) : Fin 4 → Nat :=
  let c1_i32_762 : BitVec 32 := 1#32
  let c0_i32_772 : BitVec 32 := 0#32
  let c0_i32_773 : BitVec 32 := 0#32
  ![v638.toNat, 1, 0, 0]
def k0_off118 (v791 : BitVec 32) : Fin 4 → Nat :=
  let c1_i32_777 : BitVec 32 := 1#32
  let c0_i32_784 : BitVec 32 := 0#32
  let c0_i32_785 : BitVec 32 := 0#32
  ![v791.toNat, 1, 0, 0]

def k0_off119 (v790 : BitVec 32) : Fin 4 → Nat :=
  let c1_i32_776 : BitVec 32 := 1#32
  let c0_i32_786 : BitVec 32 := 0#32
  let c0_i32_787 : BitVec 32 := 0#32
  ![v790.toNat, 1, 0, 0]

def k0_dev26 (v3 : BitVec 32) : Nat :=
  let c0_i32_783 : BitVec 32 := 0#32
  let c1_i32_782 : BitVec 32 := 1#32
  let v792 : BitVec 32 := Scalar.muli v3 c1_i32_782
  let v793 : BitVec 32 := Scalar.addi c0_i32_783 v792
  v793.toNat
def k0_off120 (v802 : BitVec 32) : Fin 4 → Nat :=
  let v803 : Index := Scalar.indexCast v802
  let c1_789 : Index := 1#32
  let c0_790 : Index := 0#32
  let c0_791 : Index := 0#32
  ![v803.toNat, 1, 0, 0]

def k0_off121 (v802 : BitVec 32) : Fin 2 → Nat :=
  let c128_i32_796 : BitVec 32 := 128#32
  let v811 : BitVec 32 := Scalar.muli v802 c128_i32_796
  let c64_i32_797 : BitVec 32 := 64#32
  let v812 : BitVec 32 := Scalar.addi v811 c64_i32_797
  let v813 : Index := Scalar.indexCast v812
  let c0_798 : Index := 0#32
  ![v813.toNat, 0]

def k0_chk66 (v802 : BitVec 32) : Prop :=
  (∀ a, (k0_off120 v802) a + S1x1x64x4096.size a ≤ S32x2x64x4096.size a) ∧
  (∀ a, (k0_off121 v802) a + S64x64.size a ≤ S4096x64.size a)
theorem k0_off120_inb : ∀ (v802 : BitVec 32) (k0_hw66 : k0_chk66 v802), ∀ a, (k0_off120 v802) a + S1x1x64x4096.size a ≤ S32x2x64x4096.size a := fun v802 k0_hw66 => k0_hw66.1
theorem k0_off121_inb : ∀ (v802 : BitVec 32) (k0_hw66 : k0_chk66 v802), ∀ a, (k0_off121 v802) a + S64x64.size a ≤ S4096x64.size a := fun v802 k0_hw66 => k0_hw66.2

def k0_off122 (v677 : BitVec 32) : Fin 4 → Nat :=
  let c0_i32_801 : BitVec 32 := 0#32
  let c0_i32_808 : BitVec 32 := 0#32
  let c0_i32_809 : BitVec 32 := 0#32
  ![v677.toNat, 0, 0, 0]
def k0_off123 (v676 : BitVec 32) : Fin 4 → Nat :=
  let c0_i32_800 : BitVec 32 := 0#32
  let c0_i32_810 : BitVec 32 := 0#32
  let c0_i32_811 : BitVec 32 := 0#32
  ![v676.toNat, 0, 0, 0]
def k0_off124 (v829 : BitVec 32) : Fin 4 → Nat :=
  let c0_i32_814 : BitVec 32 := 0#32
  let c0_i32_820 : BitVec 32 := 0#32
  let c0_i32_821 : BitVec 32 := 0#32
  ![v829.toNat, 0, 0, 0]

def k0_off125 (v828 : BitVec 32) : Fin 4 → Nat :=
  let c0_i32_813 : BitVec 32 := 0#32
  let c0_i32_822 : BitVec 32 := 0#32
  let c0_i32_823 : BitVec 32 := 0#32
  ![v828.toNat, 0, 0, 0]

def k0_dev27 (v4 : BitVec 32) : Nat :=
  let c0_i32_819 : BitVec 32 := 0#32
  let c1_i32_818 : BitVec 32 := 1#32
  let v830 : BitVec 32 := Scalar.muli v4 c1_i32_818
  let v831 : BitVec 32 := Scalar.addi c0_i32_819 v830
  v831.toNat
def k0_off126 (v840 : BitVec 32) : Fin 4 → Nat :=
  let v841 : Index := Scalar.indexCast v840
  let c0_825 : Index := 0#32
  let c0_826 : Index := 0#32
  let c0_827 : Index := 0#32
  ![v841.toNat, 0, 0, 0]

def k0_off127 (v840 : BitVec 32) : Fin 2 → Nat :=
  let c128_i32_832 : BitVec 32 := 128#32
  let v849 : BitVec 32 := Scalar.muli v840 c128_i32_832
  let c0_i32_833 : BitVec 32 := 0#32
  let v850 : BitVec 32 := Scalar.addi v849 c0_i32_833
  let v851 : Index := Scalar.indexCast v850
  let c0_834 : Index := 0#32
  ![v851.toNat, 0]

def k0_chk69 (v840 : BitVec 32) : Prop :=
  (∀ a, (k0_off126 v840) a + S1x1x64x4096.size a ≤ S32x2x64x4096.size a) ∧
  (∀ a, (k0_off127 v840) a + S64x64.size a ≤ S4096x64.size a)
theorem k0_off126_inb : ∀ (v840 : BitVec 32) (k0_hw69 : k0_chk69 v840), ∀ a, (k0_off126 v840) a + S1x1x64x4096.size a ≤ S32x2x64x4096.size a := fun v840 k0_hw69 => k0_hw69.1
theorem k0_off127_inb : ∀ (v840 : BitVec 32) (k0_hw69 : k0_chk69 v840), ∀ a, (k0_off127 v840) a + S64x64.size a ≤ S4096x64.size a := fun v840 k0_hw69 => k0_hw69.2

def k0_off128 (v715 : BitVec 32) : Fin 4 → Nat :=
  let c1_i32_837 : BitVec 32 := 1#32
  let c0_i32_844 : BitVec 32 := 0#32
  let c0_i32_845 : BitVec 32 := 0#32
  ![v715.toNat, 1, 0, 0]
def k0_off129 (v714 : BitVec 32) : Fin 4 → Nat :=
  let c1_i32_836 : BitVec 32 := 1#32
  let c0_i32_846 : BitVec 32 := 0#32
  let c0_i32_847 : BitVec 32 := 0#32
  ![v714.toNat, 1, 0, 0]
def k0_off130 (v867 : BitVec 32) : Fin 4 → Nat :=
  let c1_i32_851 : BitVec 32 := 1#32
  let c0_i32_858 : BitVec 32 := 0#32
  let c0_i32_859 : BitVec 32 := 0#32
  ![v867.toNat, 1, 0, 0]

def k0_off131 (v866 : BitVec 32) : Fin 4 → Nat :=
  let c1_i32_850 : BitVec 32 := 1#32
  let c0_i32_860 : BitVec 32 := 0#32
  let c0_i32_861 : BitVec 32 := 0#32
  ![v866.toNat, 1, 0, 0]

def k0_dev28 (v4 : BitVec 32) : Nat :=
  let c0_i32_857 : BitVec 32 := 0#32
  let c1_i32_856 : BitVec 32 := 1#32
  let v868 : BitVec 32 := Scalar.muli v4 c1_i32_856
  let v869 : BitVec 32 := Scalar.addi c0_i32_857 v868
  v869.toNat
def k0_off132 (v878 : BitVec 32) : Fin 4 → Nat :=
  let v879 : Index := Scalar.indexCast v878
  let c1_863 : Index := 1#32
  let c0_864 : Index := 0#32
  let c0_865 : Index := 0#32
  ![v879.toNat, 1, 0, 0]

def k0_off133 (v878 : BitVec 32) : Fin 2 → Nat :=
  let c128_i32_870 : BitVec 32 := 128#32
  let v887 : BitVec 32 := Scalar.muli v878 c128_i32_870
  let c64_i32_871 : BitVec 32 := 64#32
  let v888 : BitVec 32 := Scalar.addi v887 c64_i32_871
  let v889 : Index := Scalar.indexCast v888
  let c0_872 : Index := 0#32
  ![v889.toNat, 0]

def k0_chk72 (v878 : BitVec 32) : Prop :=
  (∀ a, (k0_off132 v878) a + S1x1x64x4096.size a ≤ S32x2x64x4096.size a) ∧
  (∀ a, (k0_off133 v878) a + S64x64.size a ≤ S4096x64.size a)
theorem k0_off132_inb : ∀ (v878 : BitVec 32) (k0_hw72 : k0_chk72 v878), ∀ a, (k0_off132 v878) a + S1x1x64x4096.size a ≤ S32x2x64x4096.size a := fun v878 k0_hw72 => k0_hw72.1
theorem k0_off133_inb : ∀ (v878 : BitVec 32) (k0_hw72 : k0_chk72 v878), ∀ a, (k0_off133 v878) a + S64x64.size a ≤ S4096x64.size a := fun v878 k0_hw72 => k0_hw72.2

def k0_off134 (v753 : BitVec 32) : Fin 4 → Nat :=
  let c0_i32_875 : BitVec 32 := 0#32
  let c0_i32_882 : BitVec 32 := 0#32
  let c0_i32_883 : BitVec 32 := 0#32
  ![v753.toNat, 0, 0, 0]
def k0_off135 (v752 : BitVec 32) : Fin 4 → Nat :=
  let c0_i32_874 : BitVec 32 := 0#32
  let c0_i32_884 : BitVec 32 := 0#32
  let c0_i32_885 : BitVec 32 := 0#32
  ![v752.toNat, 0, 0, 0]
def k0_off136 (v905 : BitVec 32) : Fin 4 → Nat :=
  let c0_i32_888 : BitVec 32 := 0#32
  let c0_i32_895 : BitVec 32 := 0#32
  let c0_i32_896 : BitVec 32 := 0#32
  ![v905.toNat, 0, 0, 0]

def k0_off137 (v904 : BitVec 32) : Fin 4 → Nat :=
  let c0_i32_887 : BitVec 32 := 0#32
  let c0_i32_897 : BitVec 32 := 0#32
  let c0_i32_898 : BitVec 32 := 0#32
  ![v904.toNat, 0, 0, 0]

def k0_dev29 (v3 : BitVec 32) : Nat :=
  let c0_i32_894 : BitVec 32 := 0#32
  let c1_i32_893 : BitVec 32 := 1#32
  let v906 : BitVec 32 := Scalar.muli v3 c1_i32_893
  let v907 : BitVec 32 := Scalar.addi c0_i32_894 v906
  v907.toNat
def k0_off138 (v916 : BitVec 32) : Fin 4 → Nat :=
  let v917 : Index := Scalar.indexCast v916
  let c0_900 : Index := 0#32
  let c0_901 : Index := 0#32
  let c0_902 : Index := 0#32
  ![v917.toNat, 0, 0, 0]

def k0_off139 (v916 : BitVec 32) : Fin 2 → Nat :=
  let c128_i32_907 : BitVec 32 := 128#32
  let v925 : BitVec 32 := Scalar.muli v916 c128_i32_907
  let c0_i32_908 : BitVec 32 := 0#32
  let v926 : BitVec 32 := Scalar.addi v925 c0_i32_908
  let v927 : Index := Scalar.indexCast v926
  let c0_909 : Index := 0#32
  ![v927.toNat, 0]

def k0_chk75 (v916 : BitVec 32) : Prop :=
  (∀ a, (k0_off138 v916) a + S1x1x64x4096.size a ≤ S32x2x64x4096.size a) ∧
  (∀ a, (k0_off139 v916) a + S64x64.size a ≤ S4096x64.size a)
theorem k0_off138_inb : ∀ (v916 : BitVec 32) (k0_hw75 : k0_chk75 v916), ∀ a, (k0_off138 v916) a + S1x1x64x4096.size a ≤ S32x2x64x4096.size a := fun v916 k0_hw75 => k0_hw75.1
theorem k0_off139_inb : ∀ (v916 : BitVec 32) (k0_hw75 : k0_chk75 v916), ∀ a, (k0_off139 v916) a + S64x64.size a ≤ S4096x64.size a := fun v916 k0_hw75 => k0_hw75.2

def k0_off140 (v791 : BitVec 32) : Fin 4 → Nat :=
  let c1_i32_912 : BitVec 32 := 1#32
  let c0_i32_919 : BitVec 32 := 0#32
  let c0_i32_920 : BitVec 32 := 0#32
  ![v791.toNat, 1, 0, 0]
def k0_off141 (v790 : BitVec 32) : Fin 4 → Nat :=
  let c1_i32_911 : BitVec 32 := 1#32
  let c0_i32_921 : BitVec 32 := 0#32
  let c0_i32_922 : BitVec 32 := 0#32
  ![v790.toNat, 1, 0, 0]
def k0_off142 (v943 : BitVec 32) : Fin 4 → Nat :=
  let c1_i32_926 : BitVec 32 := 1#32
  let c0_i32_933 : BitVec 32 := 0#32
  let c0_i32_934 : BitVec 32 := 0#32
  ![v943.toNat, 1, 0, 0]

def k0_off143 (v942 : BitVec 32) : Fin 4 → Nat :=
  let c1_i32_925 : BitVec 32 := 1#32
  let c0_i32_935 : BitVec 32 := 0#32
  let c0_i32_936 : BitVec 32 := 0#32
  ![v942.toNat, 1, 0, 0]

def k0_dev30 (v3 : BitVec 32) : Nat :=
  let c0_i32_932 : BitVec 32 := 0#32
  let c1_i32_931 : BitVec 32 := 1#32
  let v944 : BitVec 32 := Scalar.muli v3 c1_i32_931
  let v945 : BitVec 32 := Scalar.addi c0_i32_932 v944
  v945.toNat
def k0_off144 (v954 : BitVec 32) : Fin 4 → Nat :=
  let v955 : Index := Scalar.indexCast v954
  let c1_938 : Index := 1#32
  let c0_939 : Index := 0#32
  let c0_940 : Index := 0#32
  ![v955.toNat, 1, 0, 0]

def k0_off145 (v954 : BitVec 32) : Fin 2 → Nat :=
  let c128_i32_945 : BitVec 32 := 128#32
  let v963 : BitVec 32 := Scalar.muli v954 c128_i32_945
  let c64_i32_946 : BitVec 32 := 64#32
  let v964 : BitVec 32 := Scalar.addi v963 c64_i32_946
  let v965 : Index := Scalar.indexCast v964
  let c0_947 : Index := 0#32
  ![v965.toNat, 0]

def k0_chk78 (v954 : BitVec 32) : Prop :=
  (∀ a, (k0_off144 v954) a + S1x1x64x4096.size a ≤ S32x2x64x4096.size a) ∧
  (∀ a, (k0_off145 v954) a + S64x64.size a ≤ S4096x64.size a)
theorem k0_off144_inb : ∀ (v954 : BitVec 32) (k0_hw78 : k0_chk78 v954), ∀ a, (k0_off144 v954) a + S1x1x64x4096.size a ≤ S32x2x64x4096.size a := fun v954 k0_hw78 => k0_hw78.1
theorem k0_off145_inb : ∀ (v954 : BitVec 32) (k0_hw78 : k0_chk78 v954), ∀ a, (k0_off145 v954) a + S64x64.size a ≤ S4096x64.size a := fun v954 k0_hw78 => k0_hw78.2

def k0_off146 (v829 : BitVec 32) : Fin 4 → Nat :=
  let c0_i32_950 : BitVec 32 := 0#32
  let c0_i32_957 : BitVec 32 := 0#32
  let c0_i32_958 : BitVec 32 := 0#32
  ![v829.toNat, 0, 0, 0]
def k0_off147 (v828 : BitVec 32) : Fin 4 → Nat :=
  let c0_i32_949 : BitVec 32 := 0#32
  let c0_i32_959 : BitVec 32 := 0#32
  let c0_i32_960 : BitVec 32 := 0#32
  ![v828.toNat, 0, 0, 0]
def k0_off148 (v981 : BitVec 32) : Fin 4 → Nat :=
  let c0_i32_963 : BitVec 32 := 0#32
  let c0_i32_969 : BitVec 32 := 0#32
  let c0_i32_970 : BitVec 32 := 0#32
  ![v981.toNat, 0, 0, 0]

def k0_off149 (v980 : BitVec 32) : Fin 4 → Nat :=
  let c0_i32_962 : BitVec 32 := 0#32
  let c0_i32_971 : BitVec 32 := 0#32
  let c0_i32_972 : BitVec 32 := 0#32
  ![v980.toNat, 0, 0, 0]

def k0_dev31 (v4 : BitVec 32) : Nat :=
  let c0_i32_968 : BitVec 32 := 0#32
  let c1_i32_967 : BitVec 32 := 1#32
  let v982 : BitVec 32 := Scalar.muli v4 c1_i32_967
  let v983 : BitVec 32 := Scalar.addi c0_i32_968 v982
  v983.toNat
def k0_off150 (v992 : BitVec 32) : Fin 4 → Nat :=
  let v993 : Index := Scalar.indexCast v992
  let c0_974 : Index := 0#32
  let c0_975 : Index := 0#32
  let c0_976 : Index := 0#32
  ![v993.toNat, 0, 0, 0]

def k0_off151 (v992 : BitVec 32) : Fin 2 → Nat :=
  let c128_i32_981 : BitVec 32 := 128#32
  let v1001 : BitVec 32 := Scalar.muli v992 c128_i32_981
  let c0_i32_982 : BitVec 32 := 0#32
  let v1002 : BitVec 32 := Scalar.addi v1001 c0_i32_982
  let v1003 : Index := Scalar.indexCast v1002
  let c0_983 : Index := 0#32
  ![v1003.toNat, 0]

def k0_chk81 (v992 : BitVec 32) : Prop :=
  (∀ a, (k0_off150 v992) a + S1x1x64x4096.size a ≤ S32x2x64x4096.size a) ∧
  (∀ a, (k0_off151 v992) a + S64x64.size a ≤ S4096x64.size a)
theorem k0_off150_inb : ∀ (v992 : BitVec 32) (k0_hw81 : k0_chk81 v992), ∀ a, (k0_off150 v992) a + S1x1x64x4096.size a ≤ S32x2x64x4096.size a := fun v992 k0_hw81 => k0_hw81.1
theorem k0_off151_inb : ∀ (v992 : BitVec 32) (k0_hw81 : k0_chk81 v992), ∀ a, (k0_off151 v992) a + S64x64.size a ≤ S4096x64.size a := fun v992 k0_hw81 => k0_hw81.2

def k0_off152 (v867 : BitVec 32) : Fin 4 → Nat :=
  let c1_i32_986 : BitVec 32 := 1#32
  let c0_i32_993 : BitVec 32 := 0#32
  let c0_i32_994 : BitVec 32 := 0#32
  ![v867.toNat, 1, 0, 0]
def k0_off153 (v866 : BitVec 32) : Fin 4 → Nat :=
  let c1_i32_985 : BitVec 32 := 1#32
  let c0_i32_995 : BitVec 32 := 0#32
  let c0_i32_996 : BitVec 32 := 0#32
  ![v866.toNat, 1, 0, 0]
def k0_off154 (v1019 : BitVec 32) : Fin 4 → Nat :=
  let c1_i32_1000 : BitVec 32 := 1#32
  let c0_i32_1007 : BitVec 32 := 0#32
  let c0_i32_1008 : BitVec 32 := 0#32
  ![v1019.toNat, 1, 0, 0]

def k0_off155 (v1018 : BitVec 32) : Fin 4 → Nat :=
  let c1_i32_999 : BitVec 32 := 1#32
  let c0_i32_1009 : BitVec 32 := 0#32
  let c0_i32_1010 : BitVec 32 := 0#32
  ![v1018.toNat, 1, 0, 0]

def k0_dev32 (v4 : BitVec 32) : Nat :=
  let c0_i32_1006 : BitVec 32 := 0#32
  let c1_i32_1005 : BitVec 32 := 1#32
  let v1020 : BitVec 32 := Scalar.muli v4 c1_i32_1005
  let v1021 : BitVec 32 := Scalar.addi c0_i32_1006 v1020
  v1021.toNat
def k0_off156 (v1030 : BitVec 32) : Fin 4 → Nat :=
  let v1031 : Index := Scalar.indexCast v1030
  let c1_1012 : Index := 1#32
  let c0_1013 : Index := 0#32
  let c0_1014 : Index := 0#32
  ![v1031.toNat, 1, 0, 0]

def k0_off157 (v1030 : BitVec 32) : Fin 2 → Nat :=
  let c128_i32_1019 : BitVec 32 := 128#32
  let v1039 : BitVec 32 := Scalar.muli v1030 c128_i32_1019
  let c64_i32_1020 : BitVec 32 := 64#32
  let v1040 : BitVec 32 := Scalar.addi v1039 c64_i32_1020
  let v1041 : Index := Scalar.indexCast v1040
  let c0_1021 : Index := 0#32
  ![v1041.toNat, 0]

def k0_chk84 (v1030 : BitVec 32) : Prop :=
  (∀ a, (k0_off156 v1030) a + S1x1x64x4096.size a ≤ S32x2x64x4096.size a) ∧
  (∀ a, (k0_off157 v1030) a + S64x64.size a ≤ S4096x64.size a)
theorem k0_off156_inb : ∀ (v1030 : BitVec 32) (k0_hw84 : k0_chk84 v1030), ∀ a, (k0_off156 v1030) a + S1x1x64x4096.size a ≤ S32x2x64x4096.size a := fun v1030 k0_hw84 => k0_hw84.1
theorem k0_off157_inb : ∀ (v1030 : BitVec 32) (k0_hw84 : k0_chk84 v1030), ∀ a, (k0_off157 v1030) a + S64x64.size a ≤ S4096x64.size a := fun v1030 k0_hw84 => k0_hw84.2

def k0_off158 (v905 : BitVec 32) : Fin 4 → Nat :=
  let c0_i32_1024 : BitVec 32 := 0#32
  let c0_i32_1031 : BitVec 32 := 0#32
  let c0_i32_1032 : BitVec 32 := 0#32
  ![v905.toNat, 0, 0, 0]
def k0_off159 (v904 : BitVec 32) : Fin 4 → Nat :=
  let c0_i32_1023 : BitVec 32 := 0#32
  let c0_i32_1033 : BitVec 32 := 0#32
  let c0_i32_1034 : BitVec 32 := 0#32
  ![v904.toNat, 0, 0, 0]
def k0_off160 (v1057 : BitVec 32) : Fin 4 → Nat :=
  let c0_i32_1037 : BitVec 32 := 0#32
  let c0_i32_1044 : BitVec 32 := 0#32
  let c0_i32_1045 : BitVec 32 := 0#32
  ![v1057.toNat, 0, 0, 0]

def k0_off161 (v1056 : BitVec 32) : Fin 4 → Nat :=
  let c0_i32_1036 : BitVec 32 := 0#32
  let c0_i32_1046 : BitVec 32 := 0#32
  let c0_i32_1047 : BitVec 32 := 0#32
  ![v1056.toNat, 0, 0, 0]

def k0_dev33 (v3 : BitVec 32) : Nat :=
  let c0_i32_1043 : BitVec 32 := 0#32
  let c1_i32_1042 : BitVec 32 := 1#32
  let v1058 : BitVec 32 := Scalar.muli v3 c1_i32_1042
  let v1059 : BitVec 32 := Scalar.addi c0_i32_1043 v1058
  v1059.toNat
def k0_off162 (v1068 : BitVec 32) : Fin 4 → Nat :=
  let v1069 : Index := Scalar.indexCast v1068
  let c0_1049 : Index := 0#32
  let c0_1050 : Index := 0#32
  let c0_1051 : Index := 0#32
  ![v1069.toNat, 0, 0, 0]

def k0_off163 (v1068 : BitVec 32) : Fin 2 → Nat :=
  let c128_i32_1056 : BitVec 32 := 128#32
  let v1077 : BitVec 32 := Scalar.muli v1068 c128_i32_1056
  let c0_i32_1057 : BitVec 32 := 0#32
  let v1078 : BitVec 32 := Scalar.addi v1077 c0_i32_1057
  let v1079 : Index := Scalar.indexCast v1078
  let c0_1058 : Index := 0#32
  ![v1079.toNat, 0]

def k0_chk87 (v1068 : BitVec 32) : Prop :=
  (∀ a, (k0_off162 v1068) a + S1x1x64x4096.size a ≤ S32x2x64x4096.size a) ∧
  (∀ a, (k0_off163 v1068) a + S64x64.size a ≤ S4096x64.size a)
theorem k0_off162_inb : ∀ (v1068 : BitVec 32) (k0_hw87 : k0_chk87 v1068), ∀ a, (k0_off162 v1068) a + S1x1x64x4096.size a ≤ S32x2x64x4096.size a := fun v1068 k0_hw87 => k0_hw87.1
theorem k0_off163_inb : ∀ (v1068 : BitVec 32) (k0_hw87 : k0_chk87 v1068), ∀ a, (k0_off163 v1068) a + S64x64.size a ≤ S4096x64.size a := fun v1068 k0_hw87 => k0_hw87.2

def k0_off164 (v943 : BitVec 32) : Fin 4 → Nat :=
  let c1_i32_1061 : BitVec 32 := 1#32
  let c0_i32_1068 : BitVec 32 := 0#32
  let c0_i32_1069 : BitVec 32 := 0#32
  ![v943.toNat, 1, 0, 0]
def k0_off165 (v942 : BitVec 32) : Fin 4 → Nat :=
  let c1_i32_1060 : BitVec 32 := 1#32
  let c0_i32_1070 : BitVec 32 := 0#32
  let c0_i32_1071 : BitVec 32 := 0#32
  ![v942.toNat, 1, 0, 0]
def k0_off166 (v1095 : BitVec 32) : Fin 4 → Nat :=
  let c1_i32_1075 : BitVec 32 := 1#32
  let c0_i32_1082 : BitVec 32 := 0#32
  let c0_i32_1083 : BitVec 32 := 0#32
  ![v1095.toNat, 1, 0, 0]

def k0_off167 (v1094 : BitVec 32) : Fin 4 → Nat :=
  let c1_i32_1074 : BitVec 32 := 1#32
  let c0_i32_1084 : BitVec 32 := 0#32
  let c0_i32_1085 : BitVec 32 := 0#32
  ![v1094.toNat, 1, 0, 0]

def k0_dev34 (v3 : BitVec 32) : Nat :=
  let c0_i32_1081 : BitVec 32 := 0#32
  let c1_i32_1080 : BitVec 32 := 1#32
  let v1096 : BitVec 32 := Scalar.muli v3 c1_i32_1080
  let v1097 : BitVec 32 := Scalar.addi c0_i32_1081 v1096
  v1097.toNat
def k0_off168 (v1106 : BitVec 32) : Fin 4 → Nat :=
  let v1107 : Index := Scalar.indexCast v1106
  let c1_1087 : Index := 1#32
  let c0_1088 : Index := 0#32
  let c0_1089 : Index := 0#32
  ![v1107.toNat, 1, 0, 0]

def k0_off169 (v1106 : BitVec 32) : Fin 2 → Nat :=
  let c128_i32_1094 : BitVec 32 := 128#32
  let v1115 : BitVec 32 := Scalar.muli v1106 c128_i32_1094
  let c64_i32_1095 : BitVec 32 := 64#32
  let v1116 : BitVec 32 := Scalar.addi v1115 c64_i32_1095
  let v1117 : Index := Scalar.indexCast v1116
  let c0_1096 : Index := 0#32
  ![v1117.toNat, 0]

def k0_chk90 (v1106 : BitVec 32) : Prop :=
  (∀ a, (k0_off168 v1106) a + S1x1x64x4096.size a ≤ S32x2x64x4096.size a) ∧
  (∀ a, (k0_off169 v1106) a + S64x64.size a ≤ S4096x64.size a)
theorem k0_off168_inb : ∀ (v1106 : BitVec 32) (k0_hw90 : k0_chk90 v1106), ∀ a, (k0_off168 v1106) a + S1x1x64x4096.size a ≤ S32x2x64x4096.size a := fun v1106 k0_hw90 => k0_hw90.1
theorem k0_off169_inb : ∀ (v1106 : BitVec 32) (k0_hw90 : k0_chk90 v1106), ∀ a, (k0_off169 v1106) a + S64x64.size a ≤ S4096x64.size a := fun v1106 k0_hw90 => k0_hw90.2

def k0_off170 (v981 : BitVec 32) : Fin 4 → Nat :=
  let c0_i32_1099 : BitVec 32 := 0#32
  let c0_i32_1106 : BitVec 32 := 0#32
  let c0_i32_1107 : BitVec 32 := 0#32
  ![v981.toNat, 0, 0, 0]
def k0_off171 (v980 : BitVec 32) : Fin 4 → Nat :=
  let c0_i32_1098 : BitVec 32 := 0#32
  let c0_i32_1108 : BitVec 32 := 0#32
  let c0_i32_1109 : BitVec 32 := 0#32
  ![v980.toNat, 0, 0, 0]
def k0_off172 (v1133 : BitVec 32) : Fin 4 → Nat :=
  let c0_i32_1112 : BitVec 32 := 0#32
  let c0_i32_1118 : BitVec 32 := 0#32
  let c0_i32_1119 : BitVec 32 := 0#32
  ![v1133.toNat, 0, 0, 0]

def k0_off173 (v1132 : BitVec 32) : Fin 4 → Nat :=
  let c0_i32_1111 : BitVec 32 := 0#32
  let c0_i32_1120 : BitVec 32 := 0#32
  let c0_i32_1121 : BitVec 32 := 0#32
  ![v1132.toNat, 0, 0, 0]

def k0_dev35 (v4 : BitVec 32) : Nat :=
  let c0_i32_1117 : BitVec 32 := 0#32
  let c1_i32_1116 : BitVec 32 := 1#32
  let v1134 : BitVec 32 := Scalar.muli v4 c1_i32_1116
  let v1135 : BitVec 32 := Scalar.addi c0_i32_1117 v1134
  v1135.toNat
def k0_off174 (v1144 : BitVec 32) : Fin 4 → Nat :=
  let v1145 : Index := Scalar.indexCast v1144
  let c0_1123 : Index := 0#32
  let c0_1124 : Index := 0#32
  let c0_1125 : Index := 0#32
  ![v1145.toNat, 0, 0, 0]

def k0_off175 (v1144 : BitVec 32) : Fin 2 → Nat :=
  let c128_i32_1130 : BitVec 32 := 128#32
  let v1153 : BitVec 32 := Scalar.muli v1144 c128_i32_1130
  let c0_i32_1131 : BitVec 32 := 0#32
  let v1154 : BitVec 32 := Scalar.addi v1153 c0_i32_1131
  let v1155 : Index := Scalar.indexCast v1154
  let c0_1132 : Index := 0#32
  ![v1155.toNat, 0]

def k0_chk93 (v1144 : BitVec 32) : Prop :=
  (∀ a, (k0_off174 v1144) a + S1x1x64x4096.size a ≤ S32x2x64x4096.size a) ∧
  (∀ a, (k0_off175 v1144) a + S64x64.size a ≤ S4096x64.size a)
theorem k0_off174_inb : ∀ (v1144 : BitVec 32) (k0_hw93 : k0_chk93 v1144), ∀ a, (k0_off174 v1144) a + S1x1x64x4096.size a ≤ S32x2x64x4096.size a := fun v1144 k0_hw93 => k0_hw93.1
theorem k0_off175_inb : ∀ (v1144 : BitVec 32) (k0_hw93 : k0_chk93 v1144), ∀ a, (k0_off175 v1144) a + S64x64.size a ≤ S4096x64.size a := fun v1144 k0_hw93 => k0_hw93.2

def k0_off176 (v1019 : BitVec 32) : Fin 4 → Nat :=
  let c1_i32_1135 : BitVec 32 := 1#32
  let c0_i32_1142 : BitVec 32 := 0#32
  let c0_i32_1143 : BitVec 32 := 0#32
  ![v1019.toNat, 1, 0, 0]
def k0_off177 (v1018 : BitVec 32) : Fin 4 → Nat :=
  let c1_i32_1134 : BitVec 32 := 1#32
  let c0_i32_1144 : BitVec 32 := 0#32
  let c0_i32_1145 : BitVec 32 := 0#32
  ![v1018.toNat, 1, 0, 0]
def k0_off178 (v1171 : BitVec 32) : Fin 4 → Nat :=
  let c1_i32_1149 : BitVec 32 := 1#32
  let c0_i32_1156 : BitVec 32 := 0#32
  let c0_i32_1157 : BitVec 32 := 0#32
  ![v1171.toNat, 1, 0, 0]

def k0_off179 (v1170 : BitVec 32) : Fin 4 → Nat :=
  let c1_i32_1148 : BitVec 32 := 1#32
  let c0_i32_1158 : BitVec 32 := 0#32
  let c0_i32_1159 : BitVec 32 := 0#32
  ![v1170.toNat, 1, 0, 0]

def k0_dev36 (v4 : BitVec 32) : Nat :=
  let c0_i32_1155 : BitVec 32 := 0#32
  let c1_i32_1154 : BitVec 32 := 1#32
  let v1172 : BitVec 32 := Scalar.muli v4 c1_i32_1154
  let v1173 : BitVec 32 := Scalar.addi c0_i32_1155 v1172
  v1173.toNat
def k0_off180 (v1182 : BitVec 32) : Fin 4 → Nat :=
  let v1183 : Index := Scalar.indexCast v1182
  let c1_1161 : Index := 1#32
  let c0_1162 : Index := 0#32
  let c0_1163 : Index := 0#32
  ![v1183.toNat, 1, 0, 0]

def k0_off181 (v1182 : BitVec 32) : Fin 2 → Nat :=
  let c128_i32_1168 : BitVec 32 := 128#32
  let v1191 : BitVec 32 := Scalar.muli v1182 c128_i32_1168
  let c64_i32_1169 : BitVec 32 := 64#32
  let v1192 : BitVec 32 := Scalar.addi v1191 c64_i32_1169
  let v1193 : Index := Scalar.indexCast v1192
  let c0_1170 : Index := 0#32
  ![v1193.toNat, 0]

def k0_chk96 (v1182 : BitVec 32) : Prop :=
  (∀ a, (k0_off180 v1182) a + S1x1x64x4096.size a ≤ S32x2x64x4096.size a) ∧
  (∀ a, (k0_off181 v1182) a + S64x64.size a ≤ S4096x64.size a)
theorem k0_off180_inb : ∀ (v1182 : BitVec 32) (k0_hw96 : k0_chk96 v1182), ∀ a, (k0_off180 v1182) a + S1x1x64x4096.size a ≤ S32x2x64x4096.size a := fun v1182 k0_hw96 => k0_hw96.1
theorem k0_off181_inb : ∀ (v1182 : BitVec 32) (k0_hw96 : k0_chk96 v1182), ∀ a, (k0_off181 v1182) a + S64x64.size a ≤ S4096x64.size a := fun v1182 k0_hw96 => k0_hw96.2

def k0_off182 (v1057 : BitVec 32) : Fin 4 → Nat :=
  let c0_i32_1173 : BitVec 32 := 0#32
  let c0_i32_1180 : BitVec 32 := 0#32
  let c0_i32_1181 : BitVec 32 := 0#32
  ![v1057.toNat, 0, 0, 0]
def k0_off183 (v1056 : BitVec 32) : Fin 4 → Nat :=
  let c0_i32_1172 : BitVec 32 := 0#32
  let c0_i32_1182 : BitVec 32 := 0#32
  let c0_i32_1183 : BitVec 32 := 0#32
  ![v1056.toNat, 0, 0, 0]
def k0_off184 (v1209 : BitVec 32) : Fin 4 → Nat :=
  let c0_i32_1186 : BitVec 32 := 0#32
  let c0_i32_1193 : BitVec 32 := 0#32
  let c0_i32_1194 : BitVec 32 := 0#32
  ![v1209.toNat, 0, 0, 0]

def k0_off185 (v1208 : BitVec 32) : Fin 4 → Nat :=
  let c0_i32_1185 : BitVec 32 := 0#32
  let c0_i32_1195 : BitVec 32 := 0#32
  let c0_i32_1196 : BitVec 32 := 0#32
  ![v1208.toNat, 0, 0, 0]

def k0_dev37 (v3 : BitVec 32) : Nat :=
  let c0_i32_1192 : BitVec 32 := 0#32
  let c1_i32_1191 : BitVec 32 := 1#32
  let v1210 : BitVec 32 := Scalar.muli v3 c1_i32_1191
  let v1211 : BitVec 32 := Scalar.addi c0_i32_1192 v1210
  v1211.toNat
def k0_off186 (v1220 : BitVec 32) : Fin 4 → Nat :=
  let v1221 : Index := Scalar.indexCast v1220
  let c0_1198 : Index := 0#32
  let c0_1199 : Index := 0#32
  let c0_1200 : Index := 0#32
  ![v1221.toNat, 0, 0, 0]

def k0_off187 (v1220 : BitVec 32) : Fin 2 → Nat :=
  let c128_i32_1205 : BitVec 32 := 128#32
  let v1229 : BitVec 32 := Scalar.muli v1220 c128_i32_1205
  let c0_i32_1206 : BitVec 32 := 0#32
  let v1230 : BitVec 32 := Scalar.addi v1229 c0_i32_1206
  let v1231 : Index := Scalar.indexCast v1230
  let c0_1207 : Index := 0#32
  ![v1231.toNat, 0]

def k0_chk99 (v1220 : BitVec 32) : Prop :=
  (∀ a, (k0_off186 v1220) a + S1x1x64x4096.size a ≤ S32x2x64x4096.size a) ∧
  (∀ a, (k0_off187 v1220) a + S64x64.size a ≤ S4096x64.size a)
theorem k0_off186_inb : ∀ (v1220 : BitVec 32) (k0_hw99 : k0_chk99 v1220), ∀ a, (k0_off186 v1220) a + S1x1x64x4096.size a ≤ S32x2x64x4096.size a := fun v1220 k0_hw99 => k0_hw99.1
theorem k0_off187_inb : ∀ (v1220 : BitVec 32) (k0_hw99 : k0_chk99 v1220), ∀ a, (k0_off187 v1220) a + S64x64.size a ≤ S4096x64.size a := fun v1220 k0_hw99 => k0_hw99.2

def k0_off188 (v1095 : BitVec 32) : Fin 4 → Nat :=
  let c1_i32_1210 : BitVec 32 := 1#32
  let c0_i32_1217 : BitVec 32 := 0#32
  let c0_i32_1218 : BitVec 32 := 0#32
  ![v1095.toNat, 1, 0, 0]
def k0_off189 (v1094 : BitVec 32) : Fin 4 → Nat :=
  let c1_i32_1209 : BitVec 32 := 1#32
  let c0_i32_1219 : BitVec 32 := 0#32
  let c0_i32_1220 : BitVec 32 := 0#32
  ![v1094.toNat, 1, 0, 0]
def k0_off190 (v1247 : BitVec 32) : Fin 4 → Nat :=
  let c1_i32_1224 : BitVec 32 := 1#32
  let c0_i32_1231 : BitVec 32 := 0#32
  let c0_i32_1232 : BitVec 32 := 0#32
  ![v1247.toNat, 1, 0, 0]

def k0_off191 (v1246 : BitVec 32) : Fin 4 → Nat :=
  let c1_i32_1223 : BitVec 32 := 1#32
  let c0_i32_1233 : BitVec 32 := 0#32
  let c0_i32_1234 : BitVec 32 := 0#32
  ![v1246.toNat, 1, 0, 0]

def k0_dev38 (v3 : BitVec 32) : Nat :=
  let c0_i32_1230 : BitVec 32 := 0#32
  let c1_i32_1229 : BitVec 32 := 1#32
  let v1248 : BitVec 32 := Scalar.muli v3 c1_i32_1229
  let v1249 : BitVec 32 := Scalar.addi c0_i32_1230 v1248
  v1249.toNat
def k0_off192 (v1258 : BitVec 32) : Fin 4 → Nat :=
  let v1259 : Index := Scalar.indexCast v1258
  let c1_1236 : Index := 1#32
  let c0_1237 : Index := 0#32
  let c0_1238 : Index := 0#32
  ![v1259.toNat, 1, 0, 0]

def k0_off193 (v1258 : BitVec 32) : Fin 2 → Nat :=
  let c128_i32_1243 : BitVec 32 := 128#32
  let v1267 : BitVec 32 := Scalar.muli v1258 c128_i32_1243
  let c64_i32_1244 : BitVec 32 := 64#32
  let v1268 : BitVec 32 := Scalar.addi v1267 c64_i32_1244
  let v1269 : Index := Scalar.indexCast v1268
  let c0_1245 : Index := 0#32
  ![v1269.toNat, 0]

def k0_chk102 (v1258 : BitVec 32) : Prop :=
  (∀ a, (k0_off192 v1258) a + S1x1x64x4096.size a ≤ S32x2x64x4096.size a) ∧
  (∀ a, (k0_off193 v1258) a + S64x64.size a ≤ S4096x64.size a)
theorem k0_off192_inb : ∀ (v1258 : BitVec 32) (k0_hw102 : k0_chk102 v1258), ∀ a, (k0_off192 v1258) a + S1x1x64x4096.size a ≤ S32x2x64x4096.size a := fun v1258 k0_hw102 => k0_hw102.1
theorem k0_off193_inb : ∀ (v1258 : BitVec 32) (k0_hw102 : k0_chk102 v1258), ∀ a, (k0_off193 v1258) a + S64x64.size a ≤ S4096x64.size a := fun v1258 k0_hw102 => k0_hw102.2

def k0_off194 (v1133 : BitVec 32) : Fin 4 → Nat :=
  let c0_i32_1248 : BitVec 32 := 0#32
  let c0_i32_1255 : BitVec 32 := 0#32
  let c0_i32_1256 : BitVec 32 := 0#32
  ![v1133.toNat, 0, 0, 0]
def k0_off195 (v1132 : BitVec 32) : Fin 4 → Nat :=
  let c0_i32_1247 : BitVec 32 := 0#32
  let c0_i32_1257 : BitVec 32 := 0#32
  let c0_i32_1258 : BitVec 32 := 0#32
  ![v1132.toNat, 0, 0, 0]
def k0_off196 (v1285 : BitVec 32) : Fin 4 → Nat :=
  let c0_i32_1261 : BitVec 32 := 0#32
  let c0_i32_1267 : BitVec 32 := 0#32
  let c0_i32_1268 : BitVec 32 := 0#32
  ![v1285.toNat, 0, 0, 0]

def k0_off197 (v1284 : BitVec 32) : Fin 4 → Nat :=
  let c0_i32_1260 : BitVec 32 := 0#32
  let c0_i32_1269 : BitVec 32 := 0#32
  let c0_i32_1270 : BitVec 32 := 0#32
  ![v1284.toNat, 0, 0, 0]

def k0_dev39 (v4 : BitVec 32) : Nat :=
  let c0_i32_1266 : BitVec 32 := 0#32
  let c1_i32_1265 : BitVec 32 := 1#32
  let v1286 : BitVec 32 := Scalar.muli v4 c1_i32_1265
  let v1287 : BitVec 32 := Scalar.addi c0_i32_1266 v1286
  v1287.toNat
def k0_off198 (v1296 : BitVec 32) : Fin 4 → Nat :=
  let v1297 : Index := Scalar.indexCast v1296
  let c0_1272 : Index := 0#32
  let c0_1273 : Index := 0#32
  let c0_1274 : Index := 0#32
  ![v1297.toNat, 0, 0, 0]

def k0_off199 (v1296 : BitVec 32) : Fin 2 → Nat :=
  let c128_i32_1279 : BitVec 32 := 128#32
  let v1305 : BitVec 32 := Scalar.muli v1296 c128_i32_1279
  let c0_i32_1280 : BitVec 32 := 0#32
  let v1306 : BitVec 32 := Scalar.addi v1305 c0_i32_1280
  let v1307 : Index := Scalar.indexCast v1306
  let c0_1281 : Index := 0#32
  ![v1307.toNat, 0]

def k0_chk105 (v1296 : BitVec 32) : Prop :=
  (∀ a, (k0_off198 v1296) a + S1x1x64x4096.size a ≤ S32x2x64x4096.size a) ∧
  (∀ a, (k0_off199 v1296) a + S64x64.size a ≤ S4096x64.size a)
theorem k0_off198_inb : ∀ (v1296 : BitVec 32) (k0_hw105 : k0_chk105 v1296), ∀ a, (k0_off198 v1296) a + S1x1x64x4096.size a ≤ S32x2x64x4096.size a := fun v1296 k0_hw105 => k0_hw105.1
theorem k0_off199_inb : ∀ (v1296 : BitVec 32) (k0_hw105 : k0_chk105 v1296), ∀ a, (k0_off199 v1296) a + S64x64.size a ≤ S4096x64.size a := fun v1296 k0_hw105 => k0_hw105.2

def k0_off200 (v1171 : BitVec 32) : Fin 4 → Nat :=
  let c1_i32_1284 : BitVec 32 := 1#32
  let c0_i32_1291 : BitVec 32 := 0#32
  let c0_i32_1292 : BitVec 32 := 0#32
  ![v1171.toNat, 1, 0, 0]
def k0_off201 (v1170 : BitVec 32) : Fin 4 → Nat :=
  let c1_i32_1283 : BitVec 32 := 1#32
  let c0_i32_1293 : BitVec 32 := 0#32
  let c0_i32_1294 : BitVec 32 := 0#32
  ![v1170.toNat, 1, 0, 0]
def k0_off202 (v1323 : BitVec 32) : Fin 4 → Nat :=
  let c1_i32_1298 : BitVec 32 := 1#32
  let c0_i32_1305 : BitVec 32 := 0#32
  let c0_i32_1306 : BitVec 32 := 0#32
  ![v1323.toNat, 1, 0, 0]

def k0_off203 (v1322 : BitVec 32) : Fin 4 → Nat :=
  let c1_i32_1297 : BitVec 32 := 1#32
  let c0_i32_1307 : BitVec 32 := 0#32
  let c0_i32_1308 : BitVec 32 := 0#32
  ![v1322.toNat, 1, 0, 0]

def k0_dev40 (v4 : BitVec 32) : Nat :=
  let c0_i32_1304 : BitVec 32 := 0#32
  let c1_i32_1303 : BitVec 32 := 1#32
  let v1324 : BitVec 32 := Scalar.muli v4 c1_i32_1303
  let v1325 : BitVec 32 := Scalar.addi c0_i32_1304 v1324
  v1325.toNat
def k0_off204 (v1334 : BitVec 32) : Fin 4 → Nat :=
  let v1335 : Index := Scalar.indexCast v1334
  let c1_1310 : Index := 1#32
  let c0_1311 : Index := 0#32
  let c0_1312 : Index := 0#32
  ![v1335.toNat, 1, 0, 0]

def k0_off205 (v1334 : BitVec 32) : Fin 2 → Nat :=
  let c128_i32_1317 : BitVec 32 := 128#32
  let v1343 : BitVec 32 := Scalar.muli v1334 c128_i32_1317
  let c64_i32_1318 : BitVec 32 := 64#32
  let v1344 : BitVec 32 := Scalar.addi v1343 c64_i32_1318
  let v1345 : Index := Scalar.indexCast v1344
  let c0_1319 : Index := 0#32
  ![v1345.toNat, 0]

def k0_chk108 (v1334 : BitVec 32) : Prop :=
  (∀ a, (k0_off204 v1334) a + S1x1x64x4096.size a ≤ S32x2x64x4096.size a) ∧
  (∀ a, (k0_off205 v1334) a + S64x64.size a ≤ S4096x64.size a)
theorem k0_off204_inb : ∀ (v1334 : BitVec 32) (k0_hw108 : k0_chk108 v1334), ∀ a, (k0_off204 v1334) a + S1x1x64x4096.size a ≤ S32x2x64x4096.size a := fun v1334 k0_hw108 => k0_hw108.1
theorem k0_off205_inb : ∀ (v1334 : BitVec 32) (k0_hw108 : k0_chk108 v1334), ∀ a, (k0_off205 v1334) a + S64x64.size a ≤ S4096x64.size a := fun v1334 k0_hw108 => k0_hw108.2

def k0_off206 (v1209 : BitVec 32) : Fin 4 → Nat :=
  let c0_i32_1322 : BitVec 32 := 0#32
  let c0_i32_1329 : BitVec 32 := 0#32
  let c0_i32_1330 : BitVec 32 := 0#32
  ![v1209.toNat, 0, 0, 0]
def k0_off207 (v1208 : BitVec 32) : Fin 4 → Nat :=
  let c0_i32_1321 : BitVec 32 := 0#32
  let c0_i32_1331 : BitVec 32 := 0#32
  let c0_i32_1332 : BitVec 32 := 0#32
  ![v1208.toNat, 0, 0, 0]
def k0_off208 (v1361 : BitVec 32) : Fin 4 → Nat :=
  let c0_i32_1335 : BitVec 32 := 0#32
  let c0_i32_1342 : BitVec 32 := 0#32
  let c0_i32_1343 : BitVec 32 := 0#32
  ![v1361.toNat, 0, 0, 0]

def k0_off209 (v1360 : BitVec 32) : Fin 4 → Nat :=
  let c0_i32_1334 : BitVec 32 := 0#32
  let c0_i32_1344 : BitVec 32 := 0#32
  let c0_i32_1345 : BitVec 32 := 0#32
  ![v1360.toNat, 0, 0, 0]

def k0_dev41 (v3 : BitVec 32) : Nat :=
  let c0_i32_1341 : BitVec 32 := 0#32
  let c1_i32_1340 : BitVec 32 := 1#32
  let v1362 : BitVec 32 := Scalar.muli v3 c1_i32_1340
  let v1363 : BitVec 32 := Scalar.addi c0_i32_1341 v1362
  v1363.toNat
def k0_off210 (v1372 : BitVec 32) : Fin 4 → Nat :=
  let v1373 : Index := Scalar.indexCast v1372
  let c0_1347 : Index := 0#32
  let c0_1348 : Index := 0#32
  let c0_1349 : Index := 0#32
  ![v1373.toNat, 0, 0, 0]

def k0_off211 (v1372 : BitVec 32) : Fin 2 → Nat :=
  let c128_i32_1354 : BitVec 32 := 128#32
  let v1381 : BitVec 32 := Scalar.muli v1372 c128_i32_1354
  let c0_i32_1355 : BitVec 32 := 0#32
  let v1382 : BitVec 32 := Scalar.addi v1381 c0_i32_1355
  let v1383 : Index := Scalar.indexCast v1382
  let c0_1356 : Index := 0#32
  ![v1383.toNat, 0]

def k0_chk111 (v1372 : BitVec 32) : Prop :=
  (∀ a, (k0_off210 v1372) a + S1x1x64x4096.size a ≤ S32x2x64x4096.size a) ∧
  (∀ a, (k0_off211 v1372) a + S64x64.size a ≤ S4096x64.size a)
theorem k0_off210_inb : ∀ (v1372 : BitVec 32) (k0_hw111 : k0_chk111 v1372), ∀ a, (k0_off210 v1372) a + S1x1x64x4096.size a ≤ S32x2x64x4096.size a := fun v1372 k0_hw111 => k0_hw111.1
theorem k0_off211_inb : ∀ (v1372 : BitVec 32) (k0_hw111 : k0_chk111 v1372), ∀ a, (k0_off211 v1372) a + S64x64.size a ≤ S4096x64.size a := fun v1372 k0_hw111 => k0_hw111.2

def k0_off212 (v1247 : BitVec 32) : Fin 4 → Nat :=
  let c1_i32_1359 : BitVec 32 := 1#32
  let c0_i32_1366 : BitVec 32 := 0#32
  let c0_i32_1367 : BitVec 32 := 0#32
  ![v1247.toNat, 1, 0, 0]
def k0_off213 (v1246 : BitVec 32) : Fin 4 → Nat :=
  let c1_i32_1358 : BitVec 32 := 1#32
  let c0_i32_1368 : BitVec 32 := 0#32
  let c0_i32_1369 : BitVec 32 := 0#32
  ![v1246.toNat, 1, 0, 0]
def k0_off214 (v1399 : BitVec 32) : Fin 4 → Nat :=
  let c1_i32_1373 : BitVec 32 := 1#32
  let c0_i32_1380 : BitVec 32 := 0#32
  let c0_i32_1381 : BitVec 32 := 0#32
  ![v1399.toNat, 1, 0, 0]

def k0_off215 (v1398 : BitVec 32) : Fin 4 → Nat :=
  let c1_i32_1372 : BitVec 32 := 1#32
  let c0_i32_1382 : BitVec 32 := 0#32
  let c0_i32_1383 : BitVec 32 := 0#32
  ![v1398.toNat, 1, 0, 0]

def k0_dev42 (v3 : BitVec 32) : Nat :=
  let c0_i32_1379 : BitVec 32 := 0#32
  let c1_i32_1378 : BitVec 32 := 1#32
  let v1400 : BitVec 32 := Scalar.muli v3 c1_i32_1378
  let v1401 : BitVec 32 := Scalar.addi c0_i32_1379 v1400
  v1401.toNat
def k0_off216 (v1410 : BitVec 32) : Fin 4 → Nat :=
  let v1411 : Index := Scalar.indexCast v1410
  let c1_1385 : Index := 1#32
  let c0_1386 : Index := 0#32
  let c0_1387 : Index := 0#32
  ![v1411.toNat, 1, 0, 0]

def k0_off217 (v1410 : BitVec 32) : Fin 2 → Nat :=
  let c128_i32_1392 : BitVec 32 := 128#32
  let v1419 : BitVec 32 := Scalar.muli v1410 c128_i32_1392
  let c64_i32_1393 : BitVec 32 := 64#32
  let v1420 : BitVec 32 := Scalar.addi v1419 c64_i32_1393
  let v1421 : Index := Scalar.indexCast v1420
  let c0_1394 : Index := 0#32
  ![v1421.toNat, 0]

def k0_chk114 (v1410 : BitVec 32) : Prop :=
  (∀ a, (k0_off216 v1410) a + S1x1x64x4096.size a ≤ S32x2x64x4096.size a) ∧
  (∀ a, (k0_off217 v1410) a + S64x64.size a ≤ S4096x64.size a)
theorem k0_off216_inb : ∀ (v1410 : BitVec 32) (k0_hw114 : k0_chk114 v1410), ∀ a, (k0_off216 v1410) a + S1x1x64x4096.size a ≤ S32x2x64x4096.size a := fun v1410 k0_hw114 => k0_hw114.1
theorem k0_off217_inb : ∀ (v1410 : BitVec 32) (k0_hw114 : k0_chk114 v1410), ∀ a, (k0_off217 v1410) a + S64x64.size a ≤ S4096x64.size a := fun v1410 k0_hw114 => k0_hw114.2

def k0_off218 (v1285 : BitVec 32) : Fin 4 → Nat :=
  let c0_i32_1397 : BitVec 32 := 0#32
  let c0_i32_1404 : BitVec 32 := 0#32
  let c0_i32_1405 : BitVec 32 := 0#32
  ![v1285.toNat, 0, 0, 0]
def k0_off219 (v1284 : BitVec 32) : Fin 4 → Nat :=
  let c0_i32_1396 : BitVec 32 := 0#32
  let c0_i32_1406 : BitVec 32 := 0#32
  let c0_i32_1407 : BitVec 32 := 0#32
  ![v1284.toNat, 0, 0, 0]
def k0_off220 (v1437 : BitVec 32) : Fin 4 → Nat :=
  let c0_i32_1410 : BitVec 32 := 0#32
  let c0_i32_1416 : BitVec 32 := 0#32
  let c0_i32_1417 : BitVec 32 := 0#32
  ![v1437.toNat, 0, 0, 0]

def k0_off221 (v1436 : BitVec 32) : Fin 4 → Nat :=
  let c0_i32_1409 : BitVec 32 := 0#32
  let c0_i32_1418 : BitVec 32 := 0#32
  let c0_i32_1419 : BitVec 32 := 0#32
  ![v1436.toNat, 0, 0, 0]

def k0_dev43 (v4 : BitVec 32) : Nat :=
  let c0_i32_1415 : BitVec 32 := 0#32
  let c1_i32_1414 : BitVec 32 := 1#32
  let v1438 : BitVec 32 := Scalar.muli v4 c1_i32_1414
  let v1439 : BitVec 32 := Scalar.addi c0_i32_1415 v1438
  v1439.toNat
def k0_off222 (v1448 : BitVec 32) : Fin 4 → Nat :=
  let v1449 : Index := Scalar.indexCast v1448
  let c0_1421 : Index := 0#32
  let c0_1422 : Index := 0#32
  let c0_1423 : Index := 0#32
  ![v1449.toNat, 0, 0, 0]

def k0_off223 (v1448 : BitVec 32) : Fin 2 → Nat :=
  let c128_i32_1428 : BitVec 32 := 128#32
  let v1457 : BitVec 32 := Scalar.muli v1448 c128_i32_1428
  let c0_i32_1429 : BitVec 32 := 0#32
  let v1458 : BitVec 32 := Scalar.addi v1457 c0_i32_1429
  let v1459 : Index := Scalar.indexCast v1458
  let c0_1430 : Index := 0#32
  ![v1459.toNat, 0]

def k0_chk117 (v1448 : BitVec 32) : Prop :=
  (∀ a, (k0_off222 v1448) a + S1x1x64x4096.size a ≤ S32x2x64x4096.size a) ∧
  (∀ a, (k0_off223 v1448) a + S64x64.size a ≤ S4096x64.size a)
theorem k0_off222_inb : ∀ (v1448 : BitVec 32) (k0_hw117 : k0_chk117 v1448), ∀ a, (k0_off222 v1448) a + S1x1x64x4096.size a ≤ S32x2x64x4096.size a := fun v1448 k0_hw117 => k0_hw117.1
theorem k0_off223_inb : ∀ (v1448 : BitVec 32) (k0_hw117 : k0_chk117 v1448), ∀ a, (k0_off223 v1448) a + S64x64.size a ≤ S4096x64.size a := fun v1448 k0_hw117 => k0_hw117.2

def k0_off224 (v1323 : BitVec 32) : Fin 4 → Nat :=
  let c1_i32_1433 : BitVec 32 := 1#32
  let c0_i32_1440 : BitVec 32 := 0#32
  let c0_i32_1441 : BitVec 32 := 0#32
  ![v1323.toNat, 1, 0, 0]
def k0_off225 (v1322 : BitVec 32) : Fin 4 → Nat :=
  let c1_i32_1432 : BitVec 32 := 1#32
  let c0_i32_1442 : BitVec 32 := 0#32
  let c0_i32_1443 : BitVec 32 := 0#32
  ![v1322.toNat, 1, 0, 0]
def k0_off226 (v1475 : BitVec 32) : Fin 4 → Nat :=
  let c1_i32_1447 : BitVec 32 := 1#32
  let c0_i32_1454 : BitVec 32 := 0#32
  let c0_i32_1455 : BitVec 32 := 0#32
  ![v1475.toNat, 1, 0, 0]

def k0_off227 (v1474 : BitVec 32) : Fin 4 → Nat :=
  let c1_i32_1446 : BitVec 32 := 1#32
  let c0_i32_1456 : BitVec 32 := 0#32
  let c0_i32_1457 : BitVec 32 := 0#32
  ![v1474.toNat, 1, 0, 0]

def k0_dev44 (v4 : BitVec 32) : Nat :=
  let c0_i32_1453 : BitVec 32 := 0#32
  let c1_i32_1452 : BitVec 32 := 1#32
  let v1476 : BitVec 32 := Scalar.muli v4 c1_i32_1452
  let v1477 : BitVec 32 := Scalar.addi c0_i32_1453 v1476
  v1477.toNat
def k0_off228 (v1486 : BitVec 32) : Fin 4 → Nat :=
  let v1487 : Index := Scalar.indexCast v1486
  let c1_1459 : Index := 1#32
  let c0_1460 : Index := 0#32
  let c0_1461 : Index := 0#32
  ![v1487.toNat, 1, 0, 0]

def k0_off229 (v1486 : BitVec 32) : Fin 2 → Nat :=
  let c128_i32_1466 : BitVec 32 := 128#32
  let v1495 : BitVec 32 := Scalar.muli v1486 c128_i32_1466
  let c64_i32_1467 : BitVec 32 := 64#32
  let v1496 : BitVec 32 := Scalar.addi v1495 c64_i32_1467
  let v1497 : Index := Scalar.indexCast v1496
  let c0_1468 : Index := 0#32
  ![v1497.toNat, 0]

def k0_chk120 (v1486 : BitVec 32) : Prop :=
  (∀ a, (k0_off228 v1486) a + S1x1x64x4096.size a ≤ S32x2x64x4096.size a) ∧
  (∀ a, (k0_off229 v1486) a + S64x64.size a ≤ S4096x64.size a)
theorem k0_off228_inb : ∀ (v1486 : BitVec 32) (k0_hw120 : k0_chk120 v1486), ∀ a, (k0_off228 v1486) a + S1x1x64x4096.size a ≤ S32x2x64x4096.size a := fun v1486 k0_hw120 => k0_hw120.1
theorem k0_off229_inb : ∀ (v1486 : BitVec 32) (k0_hw120 : k0_chk120 v1486), ∀ a, (k0_off229 v1486) a + S64x64.size a ≤ S4096x64.size a := fun v1486 k0_hw120 => k0_hw120.2

def k0_off230 (v1361 : BitVec 32) : Fin 4 → Nat :=
  let c0_i32_1471 : BitVec 32 := 0#32
  let c0_i32_1478 : BitVec 32 := 0#32
  let c0_i32_1479 : BitVec 32 := 0#32
  ![v1361.toNat, 0, 0, 0]
def k0_off231 (v1360 : BitVec 32) : Fin 4 → Nat :=
  let c0_i32_1470 : BitVec 32 := 0#32
  let c0_i32_1480 : BitVec 32 := 0#32
  let c0_i32_1481 : BitVec 32 := 0#32
  ![v1360.toNat, 0, 0, 0]
def k0_off232 (v1513 : BitVec 32) : Fin 4 → Nat :=
  let c0_i32_1484 : BitVec 32 := 0#32
  let c0_i32_1491 : BitVec 32 := 0#32
  let c0_i32_1492 : BitVec 32 := 0#32
  ![v1513.toNat, 0, 0, 0]

def k0_off233 (v1512 : BitVec 32) : Fin 4 → Nat :=
  let c0_i32_1483 : BitVec 32 := 0#32
  let c0_i32_1493 : BitVec 32 := 0#32
  let c0_i32_1494 : BitVec 32 := 0#32
  ![v1512.toNat, 0, 0, 0]

def k0_dev45 (v3 : BitVec 32) : Nat :=
  let c0_i32_1490 : BitVec 32 := 0#32
  let c1_i32_1489 : BitVec 32 := 1#32
  let v1514 : BitVec 32 := Scalar.muli v3 c1_i32_1489
  let v1515 : BitVec 32 := Scalar.addi c0_i32_1490 v1514
  v1515.toNat
def k0_off234 (v1524 : BitVec 32) : Fin 4 → Nat :=
  let v1525 : Index := Scalar.indexCast v1524
  let c0_1496 : Index := 0#32
  let c0_1497 : Index := 0#32
  let c0_1498 : Index := 0#32
  ![v1525.toNat, 0, 0, 0]

def k0_off235 (v1524 : BitVec 32) : Fin 2 → Nat :=
  let c128_i32_1503 : BitVec 32 := 128#32
  let v1533 : BitVec 32 := Scalar.muli v1524 c128_i32_1503
  let c0_i32_1504 : BitVec 32 := 0#32
  let v1534 : BitVec 32 := Scalar.addi v1533 c0_i32_1504
  let v1535 : Index := Scalar.indexCast v1534
  let c0_1505 : Index := 0#32
  ![v1535.toNat, 0]

def k0_chk123 (v1524 : BitVec 32) : Prop :=
  (∀ a, (k0_off234 v1524) a + S1x1x64x4096.size a ≤ S32x2x64x4096.size a) ∧
  (∀ a, (k0_off235 v1524) a + S64x64.size a ≤ S4096x64.size a)
theorem k0_off234_inb : ∀ (v1524 : BitVec 32) (k0_hw123 : k0_chk123 v1524), ∀ a, (k0_off234 v1524) a + S1x1x64x4096.size a ≤ S32x2x64x4096.size a := fun v1524 k0_hw123 => k0_hw123.1
theorem k0_off235_inb : ∀ (v1524 : BitVec 32) (k0_hw123 : k0_chk123 v1524), ∀ a, (k0_off235 v1524) a + S64x64.size a ≤ S4096x64.size a := fun v1524 k0_hw123 => k0_hw123.2

def k0_off236 (v1399 : BitVec 32) : Fin 4 → Nat :=
  let c1_i32_1508 : BitVec 32 := 1#32
  let c0_i32_1515 : BitVec 32 := 0#32
  let c0_i32_1516 : BitVec 32 := 0#32
  ![v1399.toNat, 1, 0, 0]
def k0_off237 (v1398 : BitVec 32) : Fin 4 → Nat :=
  let c1_i32_1507 : BitVec 32 := 1#32
  let c0_i32_1517 : BitVec 32 := 0#32
  let c0_i32_1518 : BitVec 32 := 0#32
  ![v1398.toNat, 1, 0, 0]
def k0_off238 (v1551 : BitVec 32) : Fin 4 → Nat :=
  let c1_i32_1522 : BitVec 32 := 1#32
  let c0_i32_1529 : BitVec 32 := 0#32
  let c0_i32_1530 : BitVec 32 := 0#32
  ![v1551.toNat, 1, 0, 0]

def k0_off239 (v1550 : BitVec 32) : Fin 4 → Nat :=
  let c1_i32_1521 : BitVec 32 := 1#32
  let c0_i32_1531 : BitVec 32 := 0#32
  let c0_i32_1532 : BitVec 32 := 0#32
  ![v1550.toNat, 1, 0, 0]

def k0_dev46 (v3 : BitVec 32) : Nat :=
  let c0_i32_1528 : BitVec 32 := 0#32
  let c1_i32_1527 : BitVec 32 := 1#32
  let v1552 : BitVec 32 := Scalar.muli v3 c1_i32_1527
  let v1553 : BitVec 32 := Scalar.addi c0_i32_1528 v1552
  v1553.toNat
def k0_off240 (v1562 : BitVec 32) : Fin 4 → Nat :=
  let v1563 : Index := Scalar.indexCast v1562
  let c1_1534 : Index := 1#32
  let c0_1535 : Index := 0#32
  let c0_1536 : Index := 0#32
  ![v1563.toNat, 1, 0, 0]

def k0_off241 (v1562 : BitVec 32) : Fin 2 → Nat :=
  let c128_i32_1541 : BitVec 32 := 128#32
  let v1571 : BitVec 32 := Scalar.muli v1562 c128_i32_1541
  let c64_i32_1542 : BitVec 32 := 64#32
  let v1572 : BitVec 32 := Scalar.addi v1571 c64_i32_1542
  let v1573 : Index := Scalar.indexCast v1572
  let c0_1543 : Index := 0#32
  ![v1573.toNat, 0]

def k0_chk126 (v1562 : BitVec 32) : Prop :=
  (∀ a, (k0_off240 v1562) a + S1x1x64x4096.size a ≤ S32x2x64x4096.size a) ∧
  (∀ a, (k0_off241 v1562) a + S64x64.size a ≤ S4096x64.size a)
theorem k0_off240_inb : ∀ (v1562 : BitVec 32) (k0_hw126 : k0_chk126 v1562), ∀ a, (k0_off240 v1562) a + S1x1x64x4096.size a ≤ S32x2x64x4096.size a := fun v1562 k0_hw126 => k0_hw126.1
theorem k0_off241_inb : ∀ (v1562 : BitVec 32) (k0_hw126 : k0_chk126 v1562), ∀ a, (k0_off241 v1562) a + S64x64.size a ≤ S4096x64.size a := fun v1562 k0_hw126 => k0_hw126.2

def k0_off242 (v1437 : BitVec 32) : Fin 4 → Nat :=
  let c0_i32_1546 : BitVec 32 := 0#32
  let c0_i32_1553 : BitVec 32 := 0#32
  let c0_i32_1554 : BitVec 32 := 0#32
  ![v1437.toNat, 0, 0, 0]
def k0_off243 (v1436 : BitVec 32) : Fin 4 → Nat :=
  let c0_i32_1545 : BitVec 32 := 0#32
  let c0_i32_1555 : BitVec 32 := 0#32
  let c0_i32_1556 : BitVec 32 := 0#32
  ![v1436.toNat, 0, 0, 0]
def k0_off244 (v1589 : BitVec 32) : Fin 4 → Nat :=
  let c0_i32_1559 : BitVec 32 := 0#32
  let c0_i32_1565 : BitVec 32 := 0#32
  let c0_i32_1566 : BitVec 32 := 0#32
  ![v1589.toNat, 0, 0, 0]

def k0_off245 (v1588 : BitVec 32) : Fin 4 → Nat :=
  let c0_i32_1558 : BitVec 32 := 0#32
  let c0_i32_1567 : BitVec 32 := 0#32
  let c0_i32_1568 : BitVec 32 := 0#32
  ![v1588.toNat, 0, 0, 0]

def k0_dev47 (v4 : BitVec 32) : Nat :=
  let c0_i32_1564 : BitVec 32 := 0#32
  let c1_i32_1563 : BitVec 32 := 1#32
  let v1590 : BitVec 32 := Scalar.muli v4 c1_i32_1563
  let v1591 : BitVec 32 := Scalar.addi c0_i32_1564 v1590
  v1591.toNat
def k0_off246 (v1600 : BitVec 32) : Fin 4 → Nat :=
  let v1601 : Index := Scalar.indexCast v1600
  let c0_1570 : Index := 0#32
  let c0_1571 : Index := 0#32
  let c0_1572 : Index := 0#32
  ![v1601.toNat, 0, 0, 0]

def k0_off247 (v1600 : BitVec 32) : Fin 2 → Nat :=
  let c128_i32_1577 : BitVec 32 := 128#32
  let v1609 : BitVec 32 := Scalar.muli v1600 c128_i32_1577
  let c0_i32_1578 : BitVec 32 := 0#32
  let v1610 : BitVec 32 := Scalar.addi v1609 c0_i32_1578
  let v1611 : Index := Scalar.indexCast v1610
  let c0_1579 : Index := 0#32
  ![v1611.toNat, 0]

def k0_chk129 (v1600 : BitVec 32) : Prop :=
  (∀ a, (k0_off246 v1600) a + S1x1x64x4096.size a ≤ S32x2x64x4096.size a) ∧
  (∀ a, (k0_off247 v1600) a + S64x64.size a ≤ S4096x64.size a)
theorem k0_off246_inb : ∀ (v1600 : BitVec 32) (k0_hw129 : k0_chk129 v1600), ∀ a, (k0_off246 v1600) a + S1x1x64x4096.size a ≤ S32x2x64x4096.size a := fun v1600 k0_hw129 => k0_hw129.1
theorem k0_off247_inb : ∀ (v1600 : BitVec 32) (k0_hw129 : k0_chk129 v1600), ∀ a, (k0_off247 v1600) a + S64x64.size a ≤ S4096x64.size a := fun v1600 k0_hw129 => k0_hw129.2

def k0_off248 (v1475 : BitVec 32) : Fin 4 → Nat :=
  let c1_i32_1582 : BitVec 32 := 1#32
  let c0_i32_1589 : BitVec 32 := 0#32
  let c0_i32_1590 : BitVec 32 := 0#32
  ![v1475.toNat, 1, 0, 0]
def k0_off249 (v1474 : BitVec 32) : Fin 4 → Nat :=
  let c1_i32_1581 : BitVec 32 := 1#32
  let c0_i32_1591 : BitVec 32 := 0#32
  let c0_i32_1592 : BitVec 32 := 0#32
  ![v1474.toNat, 1, 0, 0]
def k0_off250 (v1627 : BitVec 32) : Fin 4 → Nat :=
  let c1_i32_1596 : BitVec 32 := 1#32
  let c0_i32_1603 : BitVec 32 := 0#32
  let c0_i32_1604 : BitVec 32 := 0#32
  ![v1627.toNat, 1, 0, 0]

def k0_off251 (v1626 : BitVec 32) : Fin 4 → Nat :=
  let c1_i32_1595 : BitVec 32 := 1#32
  let c0_i32_1605 : BitVec 32 := 0#32
  let c0_i32_1606 : BitVec 32 := 0#32
  ![v1626.toNat, 1, 0, 0]

def k0_dev48 (v4 : BitVec 32) : Nat :=
  let c0_i32_1602 : BitVec 32 := 0#32
  let c1_i32_1601 : BitVec 32 := 1#32
  let v1628 : BitVec 32 := Scalar.muli v4 c1_i32_1601
  let v1629 : BitVec 32 := Scalar.addi c0_i32_1602 v1628
  v1629.toNat
def k0_off252 (v1638 : BitVec 32) : Fin 4 → Nat :=
  let v1639 : Index := Scalar.indexCast v1638
  let c1_1608 : Index := 1#32
  let c0_1609 : Index := 0#32
  let c0_1610 : Index := 0#32
  ![v1639.toNat, 1, 0, 0]

def k0_off253 (v1638 : BitVec 32) : Fin 2 → Nat :=
  let c128_i32_1615 : BitVec 32 := 128#32
  let v1647 : BitVec 32 := Scalar.muli v1638 c128_i32_1615
  let c64_i32_1616 : BitVec 32 := 64#32
  let v1648 : BitVec 32 := Scalar.addi v1647 c64_i32_1616
  let v1649 : Index := Scalar.indexCast v1648
  let c0_1617 : Index := 0#32
  ![v1649.toNat, 0]

def k0_chk132 (v1638 : BitVec 32) : Prop :=
  (∀ a, (k0_off252 v1638) a + S1x1x64x4096.size a ≤ S32x2x64x4096.size a) ∧
  (∀ a, (k0_off253 v1638) a + S64x64.size a ≤ S4096x64.size a)
theorem k0_off252_inb : ∀ (v1638 : BitVec 32) (k0_hw132 : k0_chk132 v1638), ∀ a, (k0_off252 v1638) a + S1x1x64x4096.size a ≤ S32x2x64x4096.size a := fun v1638 k0_hw132 => k0_hw132.1
theorem k0_off253_inb : ∀ (v1638 : BitVec 32) (k0_hw132 : k0_chk132 v1638), ∀ a, (k0_off253 v1638) a + S64x64.size a ≤ S4096x64.size a := fun v1638 k0_hw132 => k0_hw132.2

def k0_off254 (v1513 : BitVec 32) : Fin 4 → Nat :=
  let c0_i32_1620 : BitVec 32 := 0#32
  let c0_i32_1627 : BitVec 32 := 0#32
  let c0_i32_1628 : BitVec 32 := 0#32
  ![v1513.toNat, 0, 0, 0]
def k0_off255 (v1512 : BitVec 32) : Fin 4 → Nat :=
  let c0_i32_1619 : BitVec 32 := 0#32
  let c0_i32_1629 : BitVec 32 := 0#32
  let c0_i32_1630 : BitVec 32 := 0#32
  ![v1512.toNat, 0, 0, 0]
def k0_off256 (v1665 : BitVec 32) : Fin 4 → Nat :=
  let c0_i32_1633 : BitVec 32 := 0#32
  let c0_i32_1640 : BitVec 32 := 0#32
  let c0_i32_1641 : BitVec 32 := 0#32
  ![v1665.toNat, 0, 0, 0]

def k0_off257 (v1664 : BitVec 32) : Fin 4 → Nat :=
  let c0_i32_1632 : BitVec 32 := 0#32
  let c0_i32_1642 : BitVec 32 := 0#32
  let c0_i32_1643 : BitVec 32 := 0#32
  ![v1664.toNat, 0, 0, 0]

def k0_dev49 (v3 : BitVec 32) : Nat :=
  let c0_i32_1639 : BitVec 32 := 0#32
  let c1_i32_1638 : BitVec 32 := 1#32
  let v1666 : BitVec 32 := Scalar.muli v3 c1_i32_1638
  let v1667 : BitVec 32 := Scalar.addi c0_i32_1639 v1666
  v1667.toNat
def k0_off258 (v1676 : BitVec 32) : Fin 4 → Nat :=
  let v1677 : Index := Scalar.indexCast v1676
  let c0_1645 : Index := 0#32
  let c0_1646 : Index := 0#32
  let c0_1647 : Index := 0#32
  ![v1677.toNat, 0, 0, 0]

def k0_off259 (v1676 : BitVec 32) : Fin 2 → Nat :=
  let c128_i32_1652 : BitVec 32 := 128#32
  let v1685 : BitVec 32 := Scalar.muli v1676 c128_i32_1652
  let c0_i32_1653 : BitVec 32 := 0#32
  let v1686 : BitVec 32 := Scalar.addi v1685 c0_i32_1653
  let v1687 : Index := Scalar.indexCast v1686
  let c0_1654 : Index := 0#32
  ![v1687.toNat, 0]

def k0_chk135 (v1676 : BitVec 32) : Prop :=
  (∀ a, (k0_off258 v1676) a + S1x1x64x4096.size a ≤ S32x2x64x4096.size a) ∧
  (∀ a, (k0_off259 v1676) a + S64x64.size a ≤ S4096x64.size a)
theorem k0_off258_inb : ∀ (v1676 : BitVec 32) (k0_hw135 : k0_chk135 v1676), ∀ a, (k0_off258 v1676) a + S1x1x64x4096.size a ≤ S32x2x64x4096.size a := fun v1676 k0_hw135 => k0_hw135.1
theorem k0_off259_inb : ∀ (v1676 : BitVec 32) (k0_hw135 : k0_chk135 v1676), ∀ a, (k0_off259 v1676) a + S64x64.size a ≤ S4096x64.size a := fun v1676 k0_hw135 => k0_hw135.2

def k0_off260 (v1551 : BitVec 32) : Fin 4 → Nat :=
  let c1_i32_1657 : BitVec 32 := 1#32
  let c0_i32_1664 : BitVec 32 := 0#32
  let c0_i32_1665 : BitVec 32 := 0#32
  ![v1551.toNat, 1, 0, 0]
def k0_off261 (v1550 : BitVec 32) : Fin 4 → Nat :=
  let c1_i32_1656 : BitVec 32 := 1#32
  let c0_i32_1666 : BitVec 32 := 0#32
  let c0_i32_1667 : BitVec 32 := 0#32
  ![v1550.toNat, 1, 0, 0]
def k0_off262 (v1703 : BitVec 32) : Fin 4 → Nat :=
  let c1_i32_1671 : BitVec 32 := 1#32
  let c0_i32_1678 : BitVec 32 := 0#32
  let c0_i32_1679 : BitVec 32 := 0#32
  ![v1703.toNat, 1, 0, 0]

def k0_off263 (v1702 : BitVec 32) : Fin 4 → Nat :=
  let c1_i32_1670 : BitVec 32 := 1#32
  let c0_i32_1680 : BitVec 32 := 0#32
  let c0_i32_1681 : BitVec 32 := 0#32
  ![v1702.toNat, 1, 0, 0]

def k0_dev50 (v3 : BitVec 32) : Nat :=
  let c0_i32_1677 : BitVec 32 := 0#32
  let c1_i32_1676 : BitVec 32 := 1#32
  let v1704 : BitVec 32 := Scalar.muli v3 c1_i32_1676
  let v1705 : BitVec 32 := Scalar.addi c0_i32_1677 v1704
  v1705.toNat
def k0_off264 (v1714 : BitVec 32) : Fin 4 → Nat :=
  let v1715 : Index := Scalar.indexCast v1714
  let c1_1683 : Index := 1#32
  let c0_1684 : Index := 0#32
  let c0_1685 : Index := 0#32
  ![v1715.toNat, 1, 0, 0]

def k0_off265 (v1714 : BitVec 32) : Fin 2 → Nat :=
  let c128_i32_1690 : BitVec 32 := 128#32
  let v1723 : BitVec 32 := Scalar.muli v1714 c128_i32_1690
  let c64_i32_1691 : BitVec 32 := 64#32
  let v1724 : BitVec 32 := Scalar.addi v1723 c64_i32_1691
  let v1725 : Index := Scalar.indexCast v1724
  let c0_1692 : Index := 0#32
  ![v1725.toNat, 0]

def k0_chk138 (v1714 : BitVec 32) : Prop :=
  (∀ a, (k0_off264 v1714) a + S1x1x64x4096.size a ≤ S32x2x64x4096.size a) ∧
  (∀ a, (k0_off265 v1714) a + S64x64.size a ≤ S4096x64.size a)
theorem k0_off264_inb : ∀ (v1714 : BitVec 32) (k0_hw138 : k0_chk138 v1714), ∀ a, (k0_off264 v1714) a + S1x1x64x4096.size a ≤ S32x2x64x4096.size a := fun v1714 k0_hw138 => k0_hw138.1
theorem k0_off265_inb : ∀ (v1714 : BitVec 32) (k0_hw138 : k0_chk138 v1714), ∀ a, (k0_off265 v1714) a + S64x64.size a ≤ S4096x64.size a := fun v1714 k0_hw138 => k0_hw138.2

def k0_off266 (v1589 : BitVec 32) : Fin 4 → Nat :=
  let c0_i32_1695 : BitVec 32 := 0#32
  let c0_i32_1702 : BitVec 32 := 0#32
  let c0_i32_1703 : BitVec 32 := 0#32
  ![v1589.toNat, 0, 0, 0]
def k0_off267 (v1588 : BitVec 32) : Fin 4 → Nat :=
  let c0_i32_1694 : BitVec 32 := 0#32
  let c0_i32_1704 : BitVec 32 := 0#32
  let c0_i32_1705 : BitVec 32 := 0#32
  ![v1588.toNat, 0, 0, 0]
def k0_off268 (v1741 : BitVec 32) : Fin 4 → Nat :=
  let c0_i32_1708 : BitVec 32 := 0#32
  let c0_i32_1714 : BitVec 32 := 0#32
  let c0_i32_1715 : BitVec 32 := 0#32
  ![v1741.toNat, 0, 0, 0]

def k0_off269 (v1740 : BitVec 32) : Fin 4 → Nat :=
  let c0_i32_1707 : BitVec 32 := 0#32
  let c0_i32_1716 : BitVec 32 := 0#32
  let c0_i32_1717 : BitVec 32 := 0#32
  ![v1740.toNat, 0, 0, 0]

def k0_dev51 (v4 : BitVec 32) : Nat :=
  let c0_i32_1713 : BitVec 32 := 0#32
  let c1_i32_1712 : BitVec 32 := 1#32
  let v1742 : BitVec 32 := Scalar.muli v4 c1_i32_1712
  let v1743 : BitVec 32 := Scalar.addi c0_i32_1713 v1742
  v1743.toNat
def k0_off270 (v1752 : BitVec 32) : Fin 4 → Nat :=
  let v1753 : Index := Scalar.indexCast v1752
  let c0_1719 : Index := 0#32
  let c0_1720 : Index := 0#32
  let c0_1721 : Index := 0#32
  ![v1753.toNat, 0, 0, 0]

def k0_off271 (v1752 : BitVec 32) : Fin 2 → Nat :=
  let c128_i32_1726 : BitVec 32 := 128#32
  let v1761 : BitVec 32 := Scalar.muli v1752 c128_i32_1726
  let c0_i32_1727 : BitVec 32 := 0#32
  let v1762 : BitVec 32 := Scalar.addi v1761 c0_i32_1727
  let v1763 : Index := Scalar.indexCast v1762
  let c0_1728 : Index := 0#32
  ![v1763.toNat, 0]

def k0_chk141 (v1752 : BitVec 32) : Prop :=
  (∀ a, (k0_off270 v1752) a + S1x1x64x4096.size a ≤ S32x2x64x4096.size a) ∧
  (∀ a, (k0_off271 v1752) a + S64x64.size a ≤ S4096x64.size a)
theorem k0_off270_inb : ∀ (v1752 : BitVec 32) (k0_hw141 : k0_chk141 v1752), ∀ a, (k0_off270 v1752) a + S1x1x64x4096.size a ≤ S32x2x64x4096.size a := fun v1752 k0_hw141 => k0_hw141.1
theorem k0_off271_inb : ∀ (v1752 : BitVec 32) (k0_hw141 : k0_chk141 v1752), ∀ a, (k0_off271 v1752) a + S64x64.size a ≤ S4096x64.size a := fun v1752 k0_hw141 => k0_hw141.2

def k0_off272 (v1627 : BitVec 32) : Fin 4 → Nat :=
  let c1_i32_1731 : BitVec 32 := 1#32
  let c0_i32_1738 : BitVec 32 := 0#32
  let c0_i32_1739 : BitVec 32 := 0#32
  ![v1627.toNat, 1, 0, 0]
def k0_off273 (v1626 : BitVec 32) : Fin 4 → Nat :=
  let c1_i32_1730 : BitVec 32 := 1#32
  let c0_i32_1740 : BitVec 32 := 0#32
  let c0_i32_1741 : BitVec 32 := 0#32
  ![v1626.toNat, 1, 0, 0]
def k0_off274 (v1779 : BitVec 32) : Fin 4 → Nat :=
  let c1_i32_1745 : BitVec 32 := 1#32
  let c0_i32_1752 : BitVec 32 := 0#32
  let c0_i32_1753 : BitVec 32 := 0#32
  ![v1779.toNat, 1, 0, 0]

def k0_off275 (v1778 : BitVec 32) : Fin 4 → Nat :=
  let c1_i32_1744 : BitVec 32 := 1#32
  let c0_i32_1754 : BitVec 32 := 0#32
  let c0_i32_1755 : BitVec 32 := 0#32
  ![v1778.toNat, 1, 0, 0]

def k0_dev52 (v4 : BitVec 32) : Nat :=
  let c0_i32_1751 : BitVec 32 := 0#32
  let c1_i32_1750 : BitVec 32 := 1#32
  let v1780 : BitVec 32 := Scalar.muli v4 c1_i32_1750
  let v1781 : BitVec 32 := Scalar.addi c0_i32_1751 v1780
  v1781.toNat
def k0_off276 (v1790 : BitVec 32) : Fin 4 → Nat :=
  let v1791 : Index := Scalar.indexCast v1790
  let c1_1757 : Index := 1#32
  let c0_1758 : Index := 0#32
  let c0_1759 : Index := 0#32
  ![v1791.toNat, 1, 0, 0]

def k0_off277 (v1790 : BitVec 32) : Fin 2 → Nat :=
  let c128_i32_1764 : BitVec 32 := 128#32
  let v1799 : BitVec 32 := Scalar.muli v1790 c128_i32_1764
  let c64_i32_1765 : BitVec 32 := 64#32
  let v1800 : BitVec 32 := Scalar.addi v1799 c64_i32_1765
  let v1801 : Index := Scalar.indexCast v1800
  let c0_1766 : Index := 0#32
  ![v1801.toNat, 0]

def k0_chk144 (v1790 : BitVec 32) : Prop :=
  (∀ a, (k0_off276 v1790) a + S1x1x64x4096.size a ≤ S32x2x64x4096.size a) ∧
  (∀ a, (k0_off277 v1790) a + S64x64.size a ≤ S4096x64.size a)
theorem k0_off276_inb : ∀ (v1790 : BitVec 32) (k0_hw144 : k0_chk144 v1790), ∀ a, (k0_off276 v1790) a + S1x1x64x4096.size a ≤ S32x2x64x4096.size a := fun v1790 k0_hw144 => k0_hw144.1
theorem k0_off277_inb : ∀ (v1790 : BitVec 32) (k0_hw144 : k0_chk144 v1790), ∀ a, (k0_off277 v1790) a + S64x64.size a ≤ S4096x64.size a := fun v1790 k0_hw144 => k0_hw144.2

def k0_off278 (v1665 : BitVec 32) : Fin 4 → Nat :=
  let c0_i32_1769 : BitVec 32 := 0#32
  let c0_i32_1776 : BitVec 32 := 0#32
  let c0_i32_1777 : BitVec 32 := 0#32
  ![v1665.toNat, 0, 0, 0]
def k0_off279 (v1664 : BitVec 32) : Fin 4 → Nat :=
  let c0_i32_1768 : BitVec 32 := 0#32
  let c0_i32_1778 : BitVec 32 := 0#32
  let c0_i32_1779 : BitVec 32 := 0#32
  ![v1664.toNat, 0, 0, 0]
def k0_off280 (v1817 : BitVec 32) : Fin 4 → Nat :=
  let c0_i32_1782 : BitVec 32 := 0#32
  let c0_i32_1789 : BitVec 32 := 0#32
  let c0_i32_1790 : BitVec 32 := 0#32
  ![v1817.toNat, 0, 0, 0]

def k0_off281 (v1816 : BitVec 32) : Fin 4 → Nat :=
  let c0_i32_1781 : BitVec 32 := 0#32
  let c0_i32_1791 : BitVec 32 := 0#32
  let c0_i32_1792 : BitVec 32 := 0#32
  ![v1816.toNat, 0, 0, 0]

def k0_dev53 (v3 : BitVec 32) : Nat :=
  let c0_i32_1788 : BitVec 32 := 0#32
  let c1_i32_1787 : BitVec 32 := 1#32
  let v1818 : BitVec 32 := Scalar.muli v3 c1_i32_1787
  let v1819 : BitVec 32 := Scalar.addi c0_i32_1788 v1818
  v1819.toNat
def k0_off282 (v1828 : BitVec 32) : Fin 4 → Nat :=
  let v1829 : Index := Scalar.indexCast v1828
  let c0_1794 : Index := 0#32
  let c0_1795 : Index := 0#32
  let c0_1796 : Index := 0#32
  ![v1829.toNat, 0, 0, 0]

def k0_off283 (v1828 : BitVec 32) : Fin 2 → Nat :=
  let c128_i32_1801 : BitVec 32 := 128#32
  let v1837 : BitVec 32 := Scalar.muli v1828 c128_i32_1801
  let c0_i32_1802 : BitVec 32 := 0#32
  let v1838 : BitVec 32 := Scalar.addi v1837 c0_i32_1802
  let v1839 : Index := Scalar.indexCast v1838
  let c0_1803 : Index := 0#32
  ![v1839.toNat, 0]

def k0_chk147 (v1828 : BitVec 32) : Prop :=
  (∀ a, (k0_off282 v1828) a + S1x1x64x4096.size a ≤ S32x2x64x4096.size a) ∧
  (∀ a, (k0_off283 v1828) a + S64x64.size a ≤ S4096x64.size a)
theorem k0_off282_inb : ∀ (v1828 : BitVec 32) (k0_hw147 : k0_chk147 v1828), ∀ a, (k0_off282 v1828) a + S1x1x64x4096.size a ≤ S32x2x64x4096.size a := fun v1828 k0_hw147 => k0_hw147.1
theorem k0_off283_inb : ∀ (v1828 : BitVec 32) (k0_hw147 : k0_chk147 v1828), ∀ a, (k0_off283 v1828) a + S64x64.size a ≤ S4096x64.size a := fun v1828 k0_hw147 => k0_hw147.2

def k0_off284 (v1703 : BitVec 32) : Fin 4 → Nat :=
  let c1_i32_1806 : BitVec 32 := 1#32
  let c0_i32_1813 : BitVec 32 := 0#32
  let c0_i32_1814 : BitVec 32 := 0#32
  ![v1703.toNat, 1, 0, 0]
def k0_off285 (v1702 : BitVec 32) : Fin 4 → Nat :=
  let c1_i32_1805 : BitVec 32 := 1#32
  let c0_i32_1815 : BitVec 32 := 0#32
  let c0_i32_1816 : BitVec 32 := 0#32
  ![v1702.toNat, 1, 0, 0]
def k0_off286 (v1855 : BitVec 32) : Fin 4 → Nat :=
  let c1_i32_1820 : BitVec 32 := 1#32
  let c0_i32_1827 : BitVec 32 := 0#32
  let c0_i32_1828 : BitVec 32 := 0#32
  ![v1855.toNat, 1, 0, 0]

def k0_off287 (v1854 : BitVec 32) : Fin 4 → Nat :=
  let c1_i32_1819 : BitVec 32 := 1#32
  let c0_i32_1829 : BitVec 32 := 0#32
  let c0_i32_1830 : BitVec 32 := 0#32
  ![v1854.toNat, 1, 0, 0]

def k0_dev54 (v3 : BitVec 32) : Nat :=
  let c0_i32_1826 : BitVec 32 := 0#32
  let c1_i32_1825 : BitVec 32 := 1#32
  let v1856 : BitVec 32 := Scalar.muli v3 c1_i32_1825
  let v1857 : BitVec 32 := Scalar.addi c0_i32_1826 v1856
  v1857.toNat
def k0_off288 (v1866 : BitVec 32) : Fin 4 → Nat :=
  let v1867 : Index := Scalar.indexCast v1866
  let c1_1832 : Index := 1#32
  let c0_1833 : Index := 0#32
  let c0_1834 : Index := 0#32
  ![v1867.toNat, 1, 0, 0]

def k0_off289 (v1866 : BitVec 32) : Fin 2 → Nat :=
  let c128_i32_1839 : BitVec 32 := 128#32
  let v1875 : BitVec 32 := Scalar.muli v1866 c128_i32_1839
  let c64_i32_1840 : BitVec 32 := 64#32
  let v1876 : BitVec 32 := Scalar.addi v1875 c64_i32_1840
  let v1877 : Index := Scalar.indexCast v1876
  let c0_1841 : Index := 0#32
  ![v1877.toNat, 0]

def k0_chk150 (v1866 : BitVec 32) : Prop :=
  (∀ a, (k0_off288 v1866) a + S1x1x64x4096.size a ≤ S32x2x64x4096.size a) ∧
  (∀ a, (k0_off289 v1866) a + S64x64.size a ≤ S4096x64.size a)
theorem k0_off288_inb : ∀ (v1866 : BitVec 32) (k0_hw150 : k0_chk150 v1866), ∀ a, (k0_off288 v1866) a + S1x1x64x4096.size a ≤ S32x2x64x4096.size a := fun v1866 k0_hw150 => k0_hw150.1
theorem k0_off289_inb : ∀ (v1866 : BitVec 32) (k0_hw150 : k0_chk150 v1866), ∀ a, (k0_off289 v1866) a + S64x64.size a ≤ S4096x64.size a := fun v1866 k0_hw150 => k0_hw150.2

def k0_off290 (v1741 : BitVec 32) : Fin 4 → Nat :=
  let c0_i32_1844 : BitVec 32 := 0#32
  let c0_i32_1851 : BitVec 32 := 0#32
  let c0_i32_1852 : BitVec 32 := 0#32
  ![v1741.toNat, 0, 0, 0]
def k0_off291 (v1740 : BitVec 32) : Fin 4 → Nat :=
  let c0_i32_1843 : BitVec 32 := 0#32
  let c0_i32_1853 : BitVec 32 := 0#32
  let c0_i32_1854 : BitVec 32 := 0#32
  ![v1740.toNat, 0, 0, 0]
def k0_off292 (v1893 : BitVec 32) : Fin 4 → Nat :=
  let c0_i32_1857 : BitVec 32 := 0#32
  let c0_i32_1863 : BitVec 32 := 0#32
  let c0_i32_1864 : BitVec 32 := 0#32
  ![v1893.toNat, 0, 0, 0]

def k0_off293 (v1892 : BitVec 32) : Fin 4 → Nat :=
  let c0_i32_1856 : BitVec 32 := 0#32
  let c0_i32_1865 : BitVec 32 := 0#32
  let c0_i32_1866 : BitVec 32 := 0#32
  ![v1892.toNat, 0, 0, 0]

def k0_dev55 (v4 : BitVec 32) : Nat :=
  let c0_i32_1862 : BitVec 32 := 0#32
  let c1_i32_1861 : BitVec 32 := 1#32
  let v1894 : BitVec 32 := Scalar.muli v4 c1_i32_1861
  let v1895 : BitVec 32 := Scalar.addi c0_i32_1862 v1894
  v1895.toNat
def k0_off294 (v1904 : BitVec 32) : Fin 4 → Nat :=
  let v1905 : Index := Scalar.indexCast v1904
  let c0_1868 : Index := 0#32
  let c0_1869 : Index := 0#32
  let c0_1870 : Index := 0#32
  ![v1905.toNat, 0, 0, 0]

def k0_off295 (v1904 : BitVec 32) : Fin 2 → Nat :=
  let c128_i32_1875 : BitVec 32 := 128#32
  let v1913 : BitVec 32 := Scalar.muli v1904 c128_i32_1875
  let c0_i32_1876 : BitVec 32 := 0#32
  let v1914 : BitVec 32 := Scalar.addi v1913 c0_i32_1876
  let v1915 : Index := Scalar.indexCast v1914
  let c0_1877 : Index := 0#32
  ![v1915.toNat, 0]

def k0_chk153 (v1904 : BitVec 32) : Prop :=
  (∀ a, (k0_off294 v1904) a + S1x1x64x4096.size a ≤ S32x2x64x4096.size a) ∧
  (∀ a, (k0_off295 v1904) a + S64x64.size a ≤ S4096x64.size a)
theorem k0_off294_inb : ∀ (v1904 : BitVec 32) (k0_hw153 : k0_chk153 v1904), ∀ a, (k0_off294 v1904) a + S1x1x64x4096.size a ≤ S32x2x64x4096.size a := fun v1904 k0_hw153 => k0_hw153.1
theorem k0_off295_inb : ∀ (v1904 : BitVec 32) (k0_hw153 : k0_chk153 v1904), ∀ a, (k0_off295 v1904) a + S64x64.size a ≤ S4096x64.size a := fun v1904 k0_hw153 => k0_hw153.2

def k0_off296 (v1779 : BitVec 32) : Fin 4 → Nat :=
  let c1_i32_1880 : BitVec 32 := 1#32
  let c0_i32_1887 : BitVec 32 := 0#32
  let c0_i32_1888 : BitVec 32 := 0#32
  ![v1779.toNat, 1, 0, 0]
def k0_off297 (v1778 : BitVec 32) : Fin 4 → Nat :=
  let c1_i32_1879 : BitVec 32 := 1#32
  let c0_i32_1889 : BitVec 32 := 0#32
  let c0_i32_1890 : BitVec 32 := 0#32
  ![v1778.toNat, 1, 0, 0]
def k0_off298 (v1931 : BitVec 32) : Fin 4 → Nat :=
  let c1_i32_1894 : BitVec 32 := 1#32
  let c0_i32_1901 : BitVec 32 := 0#32
  let c0_i32_1902 : BitVec 32 := 0#32
  ![v1931.toNat, 1, 0, 0]

def k0_off299 (v1930 : BitVec 32) : Fin 4 → Nat :=
  let c1_i32_1893 : BitVec 32 := 1#32
  let c0_i32_1903 : BitVec 32 := 0#32
  let c0_i32_1904 : BitVec 32 := 0#32
  ![v1930.toNat, 1, 0, 0]

def k0_dev56 (v4 : BitVec 32) : Nat :=
  let c0_i32_1900 : BitVec 32 := 0#32
  let c1_i32_1899 : BitVec 32 := 1#32
  let v1932 : BitVec 32 := Scalar.muli v4 c1_i32_1899
  let v1933 : BitVec 32 := Scalar.addi c0_i32_1900 v1932
  v1933.toNat
def k0_off300 (v1942 : BitVec 32) : Fin 4 → Nat :=
  let v1943 : Index := Scalar.indexCast v1942
  let c1_1906 : Index := 1#32
  let c0_1907 : Index := 0#32
  let c0_1908 : Index := 0#32
  ![v1943.toNat, 1, 0, 0]

def k0_off301 (v1942 : BitVec 32) : Fin 2 → Nat :=
  let c128_i32_1913 : BitVec 32 := 128#32
  let v1951 : BitVec 32 := Scalar.muli v1942 c128_i32_1913
  let c64_i32_1914 : BitVec 32 := 64#32
  let v1952 : BitVec 32 := Scalar.addi v1951 c64_i32_1914
  let v1953 : Index := Scalar.indexCast v1952
  let c0_1915 : Index := 0#32
  ![v1953.toNat, 0]

def k0_chk156 (v1942 : BitVec 32) : Prop :=
  (∀ a, (k0_off300 v1942) a + S1x1x64x4096.size a ≤ S32x2x64x4096.size a) ∧
  (∀ a, (k0_off301 v1942) a + S64x64.size a ≤ S4096x64.size a)
theorem k0_off300_inb : ∀ (v1942 : BitVec 32) (k0_hw156 : k0_chk156 v1942), ∀ a, (k0_off300 v1942) a + S1x1x64x4096.size a ≤ S32x2x64x4096.size a := fun v1942 k0_hw156 => k0_hw156.1
theorem k0_off301_inb : ∀ (v1942 : BitVec 32) (k0_hw156 : k0_chk156 v1942), ∀ a, (k0_off301 v1942) a + S64x64.size a ≤ S4096x64.size a := fun v1942 k0_hw156 => k0_hw156.2

def k0_off302 (v1817 : BitVec 32) : Fin 4 → Nat :=
  let c0_i32_1918 : BitVec 32 := 0#32
  let c0_i32_1925 : BitVec 32 := 0#32
  let c0_i32_1926 : BitVec 32 := 0#32
  ![v1817.toNat, 0, 0, 0]
def k0_off303 (v1816 : BitVec 32) : Fin 4 → Nat :=
  let c0_i32_1917 : BitVec 32 := 0#32
  let c0_i32_1927 : BitVec 32 := 0#32
  let c0_i32_1928 : BitVec 32 := 0#32
  ![v1816.toNat, 0, 0, 0]
def k0_off304 (v1969 : BitVec 32) : Fin 4 → Nat :=
  let c0_i32_1931 : BitVec 32 := 0#32
  let c0_i32_1938 : BitVec 32 := 0#32
  let c0_i32_1939 : BitVec 32 := 0#32
  ![v1969.toNat, 0, 0, 0]

def k0_off305 (v1968 : BitVec 32) : Fin 4 → Nat :=
  let c0_i32_1930 : BitVec 32 := 0#32
  let c0_i32_1940 : BitVec 32 := 0#32
  let c0_i32_1941 : BitVec 32 := 0#32
  ![v1968.toNat, 0, 0, 0]

def k0_dev57 (v3 : BitVec 32) : Nat :=
  let c0_i32_1937 : BitVec 32 := 0#32
  let c1_i32_1936 : BitVec 32 := 1#32
  let v1970 : BitVec 32 := Scalar.muli v3 c1_i32_1936
  let v1971 : BitVec 32 := Scalar.addi c0_i32_1937 v1970
  v1971.toNat
def k0_off306 (v1980 : BitVec 32) : Fin 4 → Nat :=
  let v1981 : Index := Scalar.indexCast v1980
  let c0_1943 : Index := 0#32
  let c0_1944 : Index := 0#32
  let c0_1945 : Index := 0#32
  ![v1981.toNat, 0, 0, 0]

def k0_off307 (v1980 : BitVec 32) : Fin 2 → Nat :=
  let c128_i32_1950 : BitVec 32 := 128#32
  let v1989 : BitVec 32 := Scalar.muli v1980 c128_i32_1950
  let c0_i32_1951 : BitVec 32 := 0#32
  let v1990 : BitVec 32 := Scalar.addi v1989 c0_i32_1951
  let v1991 : Index := Scalar.indexCast v1990
  let c0_1952 : Index := 0#32
  ![v1991.toNat, 0]

def k0_chk159 (v1980 : BitVec 32) : Prop :=
  (∀ a, (k0_off306 v1980) a + S1x1x64x4096.size a ≤ S32x2x64x4096.size a) ∧
  (∀ a, (k0_off307 v1980) a + S64x64.size a ≤ S4096x64.size a)
theorem k0_off306_inb : ∀ (v1980 : BitVec 32) (k0_hw159 : k0_chk159 v1980), ∀ a, (k0_off306 v1980) a + S1x1x64x4096.size a ≤ S32x2x64x4096.size a := fun v1980 k0_hw159 => k0_hw159.1
theorem k0_off307_inb : ∀ (v1980 : BitVec 32) (k0_hw159 : k0_chk159 v1980), ∀ a, (k0_off307 v1980) a + S64x64.size a ≤ S4096x64.size a := fun v1980 k0_hw159 => k0_hw159.2

def k0_off308 (v1855 : BitVec 32) : Fin 4 → Nat :=
  let c1_i32_1955 : BitVec 32 := 1#32
  let c0_i32_1962 : BitVec 32 := 0#32
  let c0_i32_1963 : BitVec 32 := 0#32
  ![v1855.toNat, 1, 0, 0]
def k0_off309 (v1854 : BitVec 32) : Fin 4 → Nat :=
  let c1_i32_1954 : BitVec 32 := 1#32
  let c0_i32_1964 : BitVec 32 := 0#32
  let c0_i32_1965 : BitVec 32 := 0#32
  ![v1854.toNat, 1, 0, 0]
def k0_off310 (v2007 : BitVec 32) : Fin 4 → Nat :=
  let c1_i32_1969 : BitVec 32 := 1#32
  let c0_i32_1976 : BitVec 32 := 0#32
  let c0_i32_1977 : BitVec 32 := 0#32
  ![v2007.toNat, 1, 0, 0]

def k0_off311 (v2006 : BitVec 32) : Fin 4 → Nat :=
  let c1_i32_1968 : BitVec 32 := 1#32
  let c0_i32_1978 : BitVec 32 := 0#32
  let c0_i32_1979 : BitVec 32 := 0#32
  ![v2006.toNat, 1, 0, 0]

def k0_dev58 (v3 : BitVec 32) : Nat :=
  let c0_i32_1975 : BitVec 32 := 0#32
  let c1_i32_1974 : BitVec 32 := 1#32
  let v2008 : BitVec 32 := Scalar.muli v3 c1_i32_1974
  let v2009 : BitVec 32 := Scalar.addi c0_i32_1975 v2008
  v2009.toNat
def k0_off312 (v2018 : BitVec 32) : Fin 4 → Nat :=
  let v2019 : Index := Scalar.indexCast v2018
  let c1_1981 : Index := 1#32
  let c0_1982 : Index := 0#32
  let c0_1983 : Index := 0#32
  ![v2019.toNat, 1, 0, 0]

def k0_off313 (v2018 : BitVec 32) : Fin 2 → Nat :=
  let c128_i32_1988 : BitVec 32 := 128#32
  let v2027 : BitVec 32 := Scalar.muli v2018 c128_i32_1988
  let c64_i32_1989 : BitVec 32 := 64#32
  let v2028 : BitVec 32 := Scalar.addi v2027 c64_i32_1989
  let v2029 : Index := Scalar.indexCast v2028
  let c0_1990 : Index := 0#32
  ![v2029.toNat, 0]

def k0_chk162 (v2018 : BitVec 32) : Prop :=
  (∀ a, (k0_off312 v2018) a + S1x1x64x4096.size a ≤ S32x2x64x4096.size a) ∧
  (∀ a, (k0_off313 v2018) a + S64x64.size a ≤ S4096x64.size a)
theorem k0_off312_inb : ∀ (v2018 : BitVec 32) (k0_hw162 : k0_chk162 v2018), ∀ a, (k0_off312 v2018) a + S1x1x64x4096.size a ≤ S32x2x64x4096.size a := fun v2018 k0_hw162 => k0_hw162.1
theorem k0_off313_inb : ∀ (v2018 : BitVec 32) (k0_hw162 : k0_chk162 v2018), ∀ a, (k0_off313 v2018) a + S64x64.size a ≤ S4096x64.size a := fun v2018 k0_hw162 => k0_hw162.2

def k0_off314 (v1893 : BitVec 32) : Fin 4 → Nat :=
  let c0_i32_1993 : BitVec 32 := 0#32
  let c0_i32_2000 : BitVec 32 := 0#32
  let c0_i32_2001 : BitVec 32 := 0#32
  ![v1893.toNat, 0, 0, 0]
def k0_off315 (v1892 : BitVec 32) : Fin 4 → Nat :=
  let c0_i32_1992 : BitVec 32 := 0#32
  let c0_i32_2002 : BitVec 32 := 0#32
  let c0_i32_2003 : BitVec 32 := 0#32
  ![v1892.toNat, 0, 0, 0]
def k0_off316 (v2045 : BitVec 32) : Fin 4 → Nat :=
  let c0_i32_2006 : BitVec 32 := 0#32
  let c0_i32_2012 : BitVec 32 := 0#32
  let c0_i32_2013 : BitVec 32 := 0#32
  ![v2045.toNat, 0, 0, 0]

def k0_off317 (v2044 : BitVec 32) : Fin 4 → Nat :=
  let c0_i32_2005 : BitVec 32 := 0#32
  let c0_i32_2014 : BitVec 32 := 0#32
  let c0_i32_2015 : BitVec 32 := 0#32
  ![v2044.toNat, 0, 0, 0]

def k0_dev59 (v4 : BitVec 32) : Nat :=
  let c0_i32_2011 : BitVec 32 := 0#32
  let c1_i32_2010 : BitVec 32 := 1#32
  let v2046 : BitVec 32 := Scalar.muli v4 c1_i32_2010
  let v2047 : BitVec 32 := Scalar.addi c0_i32_2011 v2046
  v2047.toNat
def k0_off318 (v2056 : BitVec 32) : Fin 4 → Nat :=
  let v2057 : Index := Scalar.indexCast v2056
  let c0_2017 : Index := 0#32
  let c0_2018 : Index := 0#32
  let c0_2019 : Index := 0#32
  ![v2057.toNat, 0, 0, 0]

def k0_off319 (v2056 : BitVec 32) : Fin 2 → Nat :=
  let c128_i32_2024 : BitVec 32 := 128#32
  let v2065 : BitVec 32 := Scalar.muli v2056 c128_i32_2024
  let c0_i32_2025 : BitVec 32 := 0#32
  let v2066 : BitVec 32 := Scalar.addi v2065 c0_i32_2025
  let v2067 : Index := Scalar.indexCast v2066
  let c0_2026 : Index := 0#32
  ![v2067.toNat, 0]

def k0_chk165 (v2056 : BitVec 32) : Prop :=
  (∀ a, (k0_off318 v2056) a + S1x1x64x4096.size a ≤ S32x2x64x4096.size a) ∧
  (∀ a, (k0_off319 v2056) a + S64x64.size a ≤ S4096x64.size a)
theorem k0_off318_inb : ∀ (v2056 : BitVec 32) (k0_hw165 : k0_chk165 v2056), ∀ a, (k0_off318 v2056) a + S1x1x64x4096.size a ≤ S32x2x64x4096.size a := fun v2056 k0_hw165 => k0_hw165.1
theorem k0_off319_inb : ∀ (v2056 : BitVec 32) (k0_hw165 : k0_chk165 v2056), ∀ a, (k0_off319 v2056) a + S64x64.size a ≤ S4096x64.size a := fun v2056 k0_hw165 => k0_hw165.2

def k0_off320 (v1931 : BitVec 32) : Fin 4 → Nat :=
  let c1_i32_2029 : BitVec 32 := 1#32
  let c0_i32_2036 : BitVec 32 := 0#32
  let c0_i32_2037 : BitVec 32 := 0#32
  ![v1931.toNat, 1, 0, 0]
def k0_off321 (v1930 : BitVec 32) : Fin 4 → Nat :=
  let c1_i32_2028 : BitVec 32 := 1#32
  let c0_i32_2038 : BitVec 32 := 0#32
  let c0_i32_2039 : BitVec 32 := 0#32
  ![v1930.toNat, 1, 0, 0]
def k0_off322 (v2083 : BitVec 32) : Fin 4 → Nat :=
  let c1_i32_2043 : BitVec 32 := 1#32
  let c0_i32_2050 : BitVec 32 := 0#32
  let c0_i32_2051 : BitVec 32 := 0#32
  ![v2083.toNat, 1, 0, 0]

def k0_off323 (v2082 : BitVec 32) : Fin 4 → Nat :=
  let c1_i32_2042 : BitVec 32 := 1#32
  let c0_i32_2052 : BitVec 32 := 0#32
  let c0_i32_2053 : BitVec 32 := 0#32
  ![v2082.toNat, 1, 0, 0]

def k0_dev60 (v4 : BitVec 32) : Nat :=
  let c0_i32_2049 : BitVec 32 := 0#32
  let c1_i32_2048 : BitVec 32 := 1#32
  let v2084 : BitVec 32 := Scalar.muli v4 c1_i32_2048
  let v2085 : BitVec 32 := Scalar.addi c0_i32_2049 v2084
  v2085.toNat
def k0_off324 (v2094 : BitVec 32) : Fin 4 → Nat :=
  let v2095 : Index := Scalar.indexCast v2094
  let c1_2055 : Index := 1#32
  let c0_2056 : Index := 0#32
  let c0_2057 : Index := 0#32
  ![v2095.toNat, 1, 0, 0]

def k0_off325 (v2094 : BitVec 32) : Fin 2 → Nat :=
  let c128_i32_2062 : BitVec 32 := 128#32
  let v2103 : BitVec 32 := Scalar.muli v2094 c128_i32_2062
  let c64_i32_2063 : BitVec 32 := 64#32
  let v2104 : BitVec 32 := Scalar.addi v2103 c64_i32_2063
  let v2105 : Index := Scalar.indexCast v2104
  let c0_2064 : Index := 0#32
  ![v2105.toNat, 0]

def k0_chk168 (v2094 : BitVec 32) : Prop :=
  (∀ a, (k0_off324 v2094) a + S1x1x64x4096.size a ≤ S32x2x64x4096.size a) ∧
  (∀ a, (k0_off325 v2094) a + S64x64.size a ≤ S4096x64.size a)
theorem k0_off324_inb : ∀ (v2094 : BitVec 32) (k0_hw168 : k0_chk168 v2094), ∀ a, (k0_off324 v2094) a + S1x1x64x4096.size a ≤ S32x2x64x4096.size a := fun v2094 k0_hw168 => k0_hw168.1
theorem k0_off325_inb : ∀ (v2094 : BitVec 32) (k0_hw168 : k0_chk168 v2094), ∀ a, (k0_off325 v2094) a + S64x64.size a ≤ S4096x64.size a := fun v2094 k0_hw168 => k0_hw168.2

def k0_off326 (v1969 : BitVec 32) : Fin 4 → Nat :=
  let c0_i32_2067 : BitVec 32 := 0#32
  let c0_i32_2074 : BitVec 32 := 0#32
  let c0_i32_2075 : BitVec 32 := 0#32
  ![v1969.toNat, 0, 0, 0]
def k0_off327 (v1968 : BitVec 32) : Fin 4 → Nat :=
  let c0_i32_2066 : BitVec 32 := 0#32
  let c0_i32_2076 : BitVec 32 := 0#32
  let c0_i32_2077 : BitVec 32 := 0#32
  ![v1968.toNat, 0, 0, 0]
def k0_off328 (v2121 : BitVec 32) : Fin 4 → Nat :=
  let c0_i32_2080 : BitVec 32 := 0#32
  let c0_i32_2087 : BitVec 32 := 0#32
  let c0_i32_2088 : BitVec 32 := 0#32
  ![v2121.toNat, 0, 0, 0]

def k0_off329 (v2120 : BitVec 32) : Fin 4 → Nat :=
  let c0_i32_2079 : BitVec 32 := 0#32
  let c0_i32_2089 : BitVec 32 := 0#32
  let c0_i32_2090 : BitVec 32 := 0#32
  ![v2120.toNat, 0, 0, 0]

def k0_dev61 (v3 : BitVec 32) : Nat :=
  let c0_i32_2086 : BitVec 32 := 0#32
  let c1_i32_2085 : BitVec 32 := 1#32
  let v2122 : BitVec 32 := Scalar.muli v3 c1_i32_2085
  let v2123 : BitVec 32 := Scalar.addi c0_i32_2086 v2122
  v2123.toNat
def k0_off330 (v2132 : BitVec 32) : Fin 4 → Nat :=
  let v2133 : Index := Scalar.indexCast v2132
  let c0_2092 : Index := 0#32
  let c0_2093 : Index := 0#32
  let c0_2094 : Index := 0#32
  ![v2133.toNat, 0, 0, 0]

def k0_off331 (v2132 : BitVec 32) : Fin 2 → Nat :=
  let c128_i32_2099 : BitVec 32 := 128#32
  let v2141 : BitVec 32 := Scalar.muli v2132 c128_i32_2099
  let c0_i32_2100 : BitVec 32 := 0#32
  let v2142 : BitVec 32 := Scalar.addi v2141 c0_i32_2100
  let v2143 : Index := Scalar.indexCast v2142
  let c0_2101 : Index := 0#32
  ![v2143.toNat, 0]

def k0_chk171 (v2132 : BitVec 32) : Prop :=
  (∀ a, (k0_off330 v2132) a + S1x1x64x4096.size a ≤ S32x2x64x4096.size a) ∧
  (∀ a, (k0_off331 v2132) a + S64x64.size a ≤ S4096x64.size a)
theorem k0_off330_inb : ∀ (v2132 : BitVec 32) (k0_hw171 : k0_chk171 v2132), ∀ a, (k0_off330 v2132) a + S1x1x64x4096.size a ≤ S32x2x64x4096.size a := fun v2132 k0_hw171 => k0_hw171.1
theorem k0_off331_inb : ∀ (v2132 : BitVec 32) (k0_hw171 : k0_chk171 v2132), ∀ a, (k0_off331 v2132) a + S64x64.size a ≤ S4096x64.size a := fun v2132 k0_hw171 => k0_hw171.2

def k0_off332 (v2007 : BitVec 32) : Fin 4 → Nat :=
  let c1_i32_2104 : BitVec 32 := 1#32
  let c0_i32_2111 : BitVec 32 := 0#32
  let c0_i32_2112 : BitVec 32 := 0#32
  ![v2007.toNat, 1, 0, 0]
def k0_off333 (v2006 : BitVec 32) : Fin 4 → Nat :=
  let c1_i32_2103 : BitVec 32 := 1#32
  let c0_i32_2113 : BitVec 32 := 0#32
  let c0_i32_2114 : BitVec 32 := 0#32
  ![v2006.toNat, 1, 0, 0]
def k0_off334 (v2159 : BitVec 32) : Fin 4 → Nat :=
  let c1_i32_2118 : BitVec 32 := 1#32
  let c0_i32_2125 : BitVec 32 := 0#32
  let c0_i32_2126 : BitVec 32 := 0#32
  ![v2159.toNat, 1, 0, 0]

def k0_off335 (v2158 : BitVec 32) : Fin 4 → Nat :=
  let c1_i32_2117 : BitVec 32 := 1#32
  let c0_i32_2127 : BitVec 32 := 0#32
  let c0_i32_2128 : BitVec 32 := 0#32
  ![v2158.toNat, 1, 0, 0]

def k0_dev62 (v3 : BitVec 32) : Nat :=
  let c0_i32_2124 : BitVec 32 := 0#32
  let c1_i32_2123 : BitVec 32 := 1#32
  let v2160 : BitVec 32 := Scalar.muli v3 c1_i32_2123
  let v2161 : BitVec 32 := Scalar.addi c0_i32_2124 v2160
  v2161.toNat
def k0_off336 (v2170 : BitVec 32) : Fin 4 → Nat :=
  let v2171 : Index := Scalar.indexCast v2170
  let c1_2130 : Index := 1#32
  let c0_2131 : Index := 0#32
  let c0_2132 : Index := 0#32
  ![v2171.toNat, 1, 0, 0]

def k0_off337 (v2170 : BitVec 32) : Fin 2 → Nat :=
  let c128_i32_2137 : BitVec 32 := 128#32
  let v2179 : BitVec 32 := Scalar.muli v2170 c128_i32_2137
  let c64_i32_2138 : BitVec 32 := 64#32
  let v2180 : BitVec 32 := Scalar.addi v2179 c64_i32_2138
  let v2181 : Index := Scalar.indexCast v2180
  let c0_2139 : Index := 0#32
  ![v2181.toNat, 0]

def k0_chk174 (v2170 : BitVec 32) : Prop :=
  (∀ a, (k0_off336 v2170) a + S1x1x64x4096.size a ≤ S32x2x64x4096.size a) ∧
  (∀ a, (k0_off337 v2170) a + S64x64.size a ≤ S4096x64.size a)
theorem k0_off336_inb : ∀ (v2170 : BitVec 32) (k0_hw174 : k0_chk174 v2170), ∀ a, (k0_off336 v2170) a + S1x1x64x4096.size a ≤ S32x2x64x4096.size a := fun v2170 k0_hw174 => k0_hw174.1
theorem k0_off337_inb : ∀ (v2170 : BitVec 32) (k0_hw174 : k0_chk174 v2170), ∀ a, (k0_off337 v2170) a + S64x64.size a ≤ S4096x64.size a := fun v2170 k0_hw174 => k0_hw174.2

def k0_off338 (v2045 : BitVec 32) : Fin 4 → Nat :=
  let c0_i32_2142 : BitVec 32 := 0#32
  let c0_i32_2149 : BitVec 32 := 0#32
  let c0_i32_2150 : BitVec 32 := 0#32
  ![v2045.toNat, 0, 0, 0]
def k0_off339 (v2044 : BitVec 32) : Fin 4 → Nat :=
  let c0_i32_2141 : BitVec 32 := 0#32
  let c0_i32_2151 : BitVec 32 := 0#32
  let c0_i32_2152 : BitVec 32 := 0#32
  ![v2044.toNat, 0, 0, 0]
def k0_off340 (v2197 : BitVec 32) : Fin 4 → Nat :=
  let c0_i32_2155 : BitVec 32 := 0#32
  let c0_i32_2161 : BitVec 32 := 0#32
  let c0_i32_2162 : BitVec 32 := 0#32
  ![v2197.toNat, 0, 0, 0]

def k0_off341 (v2196 : BitVec 32) : Fin 4 → Nat :=
  let c0_i32_2154 : BitVec 32 := 0#32
  let c0_i32_2163 : BitVec 32 := 0#32
  let c0_i32_2164 : BitVec 32 := 0#32
  ![v2196.toNat, 0, 0, 0]

def k0_dev63 (v4 : BitVec 32) : Nat :=
  let c0_i32_2160 : BitVec 32 := 0#32
  let c1_i32_2159 : BitVec 32 := 1#32
  let v2198 : BitVec 32 := Scalar.muli v4 c1_i32_2159
  let v2199 : BitVec 32 := Scalar.addi c0_i32_2160 v2198
  v2199.toNat

def k0_chk2 (v4 : BitVec 32) : Prop :=
  ((k0_dev2 v4) < nD) ∧
  ((k0_dev3 v4) < nD) ∧
  ((k0_dev4 v4) < nD) ∧
  ((k0_dev7 v4) < nD) ∧
  ((k0_dev8 v4) < nD) ∧
  ((k0_dev11 v4) < nD) ∧
  ((k0_dev12 v4) < nD) ∧
  ((k0_dev15 v4) < nD) ∧
  ((k0_dev16 v4) < nD) ∧
  ((k0_dev19 v4) < nD) ∧
  ((k0_dev20 v4) < nD) ∧
  ((k0_dev23 v4) < nD) ∧
  ((k0_dev24 v4) < nD) ∧
  ((k0_dev27 v4) < nD) ∧
  ((k0_dev28 v4) < nD) ∧
  ((k0_dev31 v4) < nD) ∧
  ((k0_dev32 v4) < nD) ∧
  ((k0_dev35 v4) < nD) ∧
  ((k0_dev36 v4) < nD) ∧
  ((k0_dev39 v4) < nD) ∧
  ((k0_dev40 v4) < nD) ∧
  ((k0_dev43 v4) < nD) ∧
  ((k0_dev44 v4) < nD) ∧
  ((k0_dev47 v4) < nD) ∧
  ((k0_dev48 v4) < nD) ∧
  ((k0_dev51 v4) < nD) ∧
  ((k0_dev52 v4) < nD) ∧
  ((k0_dev55 v4) < nD) ∧
  ((k0_dev56 v4) < nD) ∧
  ((k0_dev59 v4) < nD) ∧
  ((k0_dev60 v4) < nD) ∧
  ((k0_dev63 v4) < nD)
theorem k0_dev2_lt : ∀ (v4 : BitVec 32) (k0_hw2 : k0_chk2 v4), (k0_dev2 v4) < nD := fun v4 k0_hw2 => k0_hw2.1
theorem k0_dev3_lt : ∀ (v4 : BitVec 32) (k0_hw2 : k0_chk2 v4), (k0_dev3 v4) < nD := fun v4 k0_hw2 => k0_hw2.2.1
theorem k0_dev4_lt : ∀ (v4 : BitVec 32) (k0_hw2 : k0_chk2 v4), (k0_dev4 v4) < nD := fun v4 k0_hw2 => k0_hw2.2.2.1
theorem k0_dev7_lt : ∀ (v4 : BitVec 32) (k0_hw2 : k0_chk2 v4), (k0_dev7 v4) < nD := fun v4 k0_hw2 => k0_hw2.2.2.2.1
theorem k0_dev8_lt : ∀ (v4 : BitVec 32) (k0_hw2 : k0_chk2 v4), (k0_dev8 v4) < nD := fun v4 k0_hw2 => k0_hw2.2.2.2.2.1
theorem k0_dev11_lt : ∀ (v4 : BitVec 32) (k0_hw2 : k0_chk2 v4), (k0_dev11 v4) < nD := fun v4 k0_hw2 => k0_hw2.2.2.2.2.2.1
theorem k0_dev12_lt : ∀ (v4 : BitVec 32) (k0_hw2 : k0_chk2 v4), (k0_dev12 v4) < nD := fun v4 k0_hw2 => k0_hw2.2.2.2.2.2.2.1
theorem k0_dev15_lt : ∀ (v4 : BitVec 32) (k0_hw2 : k0_chk2 v4), (k0_dev15 v4) < nD := fun v4 k0_hw2 => k0_hw2.2.2.2.2.2.2.2.1
theorem k0_dev16_lt : ∀ (v4 : BitVec 32) (k0_hw2 : k0_chk2 v4), (k0_dev16 v4) < nD := fun v4 k0_hw2 => k0_hw2.2.2.2.2.2.2.2.2.1
theorem k0_dev19_lt : ∀ (v4 : BitVec 32) (k0_hw2 : k0_chk2 v4), (k0_dev19 v4) < nD := fun v4 k0_hw2 => k0_hw2.2.2.2.2.2.2.2.2.2.1
theorem k0_dev20_lt : ∀ (v4 : BitVec 32) (k0_hw2 : k0_chk2 v4), (k0_dev20 v4) < nD := fun v4 k0_hw2 => k0_hw2.2.2.2.2.2.2.2.2.2.2.1
theorem k0_dev23_lt : ∀ (v4 : BitVec 32) (k0_hw2 : k0_chk2 v4), (k0_dev23 v4) < nD := fun v4 k0_hw2 => k0_hw2.2.2.2.2.2.2.2.2.2.2.2.1
theorem k0_dev24_lt : ∀ (v4 : BitVec 32) (k0_hw2 : k0_chk2 v4), (k0_dev24 v4) < nD := fun v4 k0_hw2 => k0_hw2.2.2.2.2.2.2.2.2.2.2.2.2.1
theorem k0_dev27_lt : ∀ (v4 : BitVec 32) (k0_hw2 : k0_chk2 v4), (k0_dev27 v4) < nD := fun v4 k0_hw2 => k0_hw2.2.2.2.2.2.2.2.2.2.2.2.2.2.1
theorem k0_dev28_lt : ∀ (v4 : BitVec 32) (k0_hw2 : k0_chk2 v4), (k0_dev28 v4) < nD := fun v4 k0_hw2 => k0_hw2.2.2.2.2.2.2.2.2.2.2.2.2.2.2.1
theorem k0_dev31_lt : ∀ (v4 : BitVec 32) (k0_hw2 : k0_chk2 v4), (k0_dev31 v4) < nD := fun v4 k0_hw2 => k0_hw2.2.2.2.2.2.2.2.2.2.2.2.2.2.2.2.1
theorem k0_dev32_lt : ∀ (v4 : BitVec 32) (k0_hw2 : k0_chk2 v4), (k0_dev32 v4) < nD := fun v4 k0_hw2 => k0_hw2.2.2.2.2.2.2.2.2.2.2.2.2.2.2.2.2.1
theorem k0_dev35_lt : ∀ (v4 : BitVec 32) (k0_hw2 : k0_chk2 v4), (k0_dev35 v4) < nD := fun v4 k0_hw2 => k0_hw2.2.2.2.2.2.2.2.2.2.2.2.2.2.2.2.2.2.1
theorem k0_dev36_lt : ∀ (v4 : BitVec 32) (k0_hw2 : k0_chk2 v4), (k0_dev36 v4) < nD := fun v4 k0_hw2 => k0_hw2.2.2.2.2.2.2.2.2.2.2.2.2.2.2.2.2.2.2.1
theorem k0_dev39_lt : ∀ (v4 : BitVec 32) (k0_hw2 : k0_chk2 v4), (k0_dev39 v4) < nD := fun v4 k0_hw2 => k0_hw2.2.2.2.2.2.2.2.2.2.2.2.2.2.2.2.2.2.2.2.1
theorem k0_dev40_lt : ∀ (v4 : BitVec 32) (k0_hw2 : k0_chk2 v4), (k0_dev40 v4) < nD := fun v4 k0_hw2 => k0_hw2.2.2.2.2.2.2.2.2.2.2.2.2.2.2.2.2.2.2.2.2.1
theorem k0_dev43_lt : ∀ (v4 : BitVec 32) (k0_hw2 : k0_chk2 v4), (k0_dev43 v4) < nD := fun v4 k0_hw2 => k0_hw2.2.2.2.2.2.2.2.2.2.2.2.2.2.2.2.2.2.2.2.2.2.1
theorem k0_dev44_lt : ∀ (v4 : BitVec 32) (k0_hw2 : k0_chk2 v4), (k0_dev44 v4) < nD := fun v4 k0_hw2 => k0_hw2.2.2.2.2.2.2.2.2.2.2.2.2.2.2.2.2.2.2.2.2.2.2.1
theorem k0_dev47_lt : ∀ (v4 : BitVec 32) (k0_hw2 : k0_chk2 v4), (k0_dev47 v4) < nD := fun v4 k0_hw2 => k0_hw2.2.2.2.2.2.2.2.2.2.2.2.2.2.2.2.2.2.2.2.2.2.2.2.1
theorem k0_dev48_lt : ∀ (v4 : BitVec 32) (k0_hw2 : k0_chk2 v4), (k0_dev48 v4) < nD := fun v4 k0_hw2 => k0_hw2.2.2.2.2.2.2.2.2.2.2.2.2.2.2.2.2.2.2.2.2.2.2.2.2.1
theorem k0_dev51_lt : ∀ (v4 : BitVec 32) (k0_hw2 : k0_chk2 v4), (k0_dev51 v4) < nD := fun v4 k0_hw2 => k0_hw2.2.2.2.2.2.2.2.2.2.2.2.2.2.2.2.2.2.2.2.2.2.2.2.2.2.1
theorem k0_dev52_lt : ∀ (v4 : BitVec 32) (k0_hw2 : k0_chk2 v4), (k0_dev52 v4) < nD := fun v4 k0_hw2 => k0_hw2.2.2.2.2.2.2.2.2.2.2.2.2.2.2.2.2.2.2.2.2.2.2.2.2.2.2.1
theorem k0_dev55_lt : ∀ (v4 : BitVec 32) (k0_hw2 : k0_chk2 v4), (k0_dev55 v4) < nD := fun v4 k0_hw2 => k0_hw2.2.2.2.2.2.2.2.2.2.2.2.2.2.2.2.2.2.2.2.2.2.2.2.2.2.2.2.1
theorem k0_dev56_lt : ∀ (v4 : BitVec 32) (k0_hw2 : k0_chk2 v4), (k0_dev56 v4) < nD := fun v4 k0_hw2 => k0_hw2.2.2.2.2.2.2.2.2.2.2.2.2.2.2.2.2.2.2.2.2.2.2.2.2.2.2.2.2.1
theorem k0_dev59_lt : ∀ (v4 : BitVec 32) (k0_hw2 : k0_chk2 v4), (k0_dev59 v4) < nD := fun v4 k0_hw2 => k0_hw2.2.2.2.2.2.2.2.2.2.2.2.2.2.2.2.2.2.2.2.2.2.2.2.2.2.2.2.2.2.1
theorem k0_dev60_lt : ∀ (v4 : BitVec 32) (k0_hw2 : k0_chk2 v4), (k0_dev60 v4) < nD := fun v4 k0_hw2 => k0_hw2.2.2.2.2.2.2.2.2.2.2.2.2.2.2.2.2.2.2.2.2.2.2.2.2.2.2.2.2.2.2.1
theorem k0_dev63_lt : ∀ (v4 : BitVec 32) (k0_hw2 : k0_chk2 v4), (k0_dev63 v4) < nD := fun v4 k0_hw2 => k0_hw2.2.2.2.2.2.2.2.2.2.2.2.2.2.2.2.2.2.2.2.2.2.2.2.2.2.2.2.2.2.2.2

def k0_off342 (v2159 : BitVec 32) : Fin 4 → Nat :=
  let c1_i32_2166 : BitVec 32 := 1#32
  let c0_i32_2173 : BitVec 32 := 0#32
  let c0_i32_2174 : BitVec 32 := 0#32
  ![v2159.toNat, 1, 0, 0]
def k0_off343 (v2158 : BitVec 32) : Fin 4 → Nat :=
  let c1_i32_2165 : BitVec 32 := 1#32
  let c0_i32_2175 : BitVec 32 := 0#32
  let c0_i32_2176 : BitVec 32 := 0#32
  ![v2158.toNat, 1, 0, 0]
def k0_off344 (v2217 : BitVec 32) : Fin 4 → Nat :=
  let c1_i32_2179 : BitVec 32 := 1#32
  let c0_i32_2186 : BitVec 32 := 0#32
  let c0_i32_2187 : BitVec 32 := 0#32
  ![v2217.toNat, 1, 0, 0]

def k0_off345 (v2216 : BitVec 32) : Fin 4 → Nat :=
  let c1_i32_2178 : BitVec 32 := 1#32
  let c0_i32_2188 : BitVec 32 := 0#32
  let c0_i32_2189 : BitVec 32 := 0#32
  ![v2216.toNat, 1, 0, 0]

def k0_dev64 (v3 : BitVec 32) : Nat :=
  let c0_i32_2185 : BitVec 32 := 0#32
  let c1_i32_2184 : BitVec 32 := 1#32
  let v2218 : BitVec 32 := Scalar.muli v3 c1_i32_2184
  let v2219 : BitVec 32 := Scalar.addi c0_i32_2185 v2218
  v2219.toNat

def k0_chk1 (v3 : BitVec 32) : Prop :=
  ((k0_dev1 v3) < nD) ∧
  ((k0_dev5 v3) < nD) ∧
  ((k0_dev6 v3) < nD) ∧
  ((k0_dev9 v3) < nD) ∧
  ((k0_dev10 v3) < nD) ∧
  ((k0_dev13 v3) < nD) ∧
  ((k0_dev14 v3) < nD) ∧
  ((k0_dev17 v3) < nD) ∧
  ((k0_dev18 v3) < nD) ∧
  ((k0_dev21 v3) < nD) ∧
  ((k0_dev22 v3) < nD) ∧
  ((k0_dev25 v3) < nD) ∧
  ((k0_dev26 v3) < nD) ∧
  ((k0_dev29 v3) < nD) ∧
  ((k0_dev30 v3) < nD) ∧
  ((k0_dev33 v3) < nD) ∧
  ((k0_dev34 v3) < nD) ∧
  ((k0_dev37 v3) < nD) ∧
  ((k0_dev38 v3) < nD) ∧
  ((k0_dev41 v3) < nD) ∧
  ((k0_dev42 v3) < nD) ∧
  ((k0_dev45 v3) < nD) ∧
  ((k0_dev46 v3) < nD) ∧
  ((k0_dev49 v3) < nD) ∧
  ((k0_dev50 v3) < nD) ∧
  ((k0_dev53 v3) < nD) ∧
  ((k0_dev54 v3) < nD) ∧
  ((k0_dev57 v3) < nD) ∧
  ((k0_dev58 v3) < nD) ∧
  ((k0_dev61 v3) < nD) ∧
  ((k0_dev62 v3) < nD) ∧
  ((k0_dev64 v3) < nD)
theorem k0_dev1_lt : ∀ (v3 : BitVec 32) (k0_hw1 : k0_chk1 v3), (k0_dev1 v3) < nD := fun v3 k0_hw1 => k0_hw1.1
theorem k0_dev5_lt : ∀ (v3 : BitVec 32) (k0_hw1 : k0_chk1 v3), (k0_dev5 v3) < nD := fun v3 k0_hw1 => k0_hw1.2.1
theorem k0_dev6_lt : ∀ (v3 : BitVec 32) (k0_hw1 : k0_chk1 v3), (k0_dev6 v3) < nD := fun v3 k0_hw1 => k0_hw1.2.2.1
theorem k0_dev9_lt : ∀ (v3 : BitVec 32) (k0_hw1 : k0_chk1 v3), (k0_dev9 v3) < nD := fun v3 k0_hw1 => k0_hw1.2.2.2.1
theorem k0_dev10_lt : ∀ (v3 : BitVec 32) (k0_hw1 : k0_chk1 v3), (k0_dev10 v3) < nD := fun v3 k0_hw1 => k0_hw1.2.2.2.2.1
theorem k0_dev13_lt : ∀ (v3 : BitVec 32) (k0_hw1 : k0_chk1 v3), (k0_dev13 v3) < nD := fun v3 k0_hw1 => k0_hw1.2.2.2.2.2.1
theorem k0_dev14_lt : ∀ (v3 : BitVec 32) (k0_hw1 : k0_chk1 v3), (k0_dev14 v3) < nD := fun v3 k0_hw1 => k0_hw1.2.2.2.2.2.2.1
theorem k0_dev17_lt : ∀ (v3 : BitVec 32) (k0_hw1 : k0_chk1 v3), (k0_dev17 v3) < nD := fun v3 k0_hw1 => k0_hw1.2.2.2.2.2.2.2.1
theorem k0_dev18_lt : ∀ (v3 : BitVec 32) (k0_hw1 : k0_chk1 v3), (k0_dev18 v3) < nD := fun v3 k0_hw1 => k0_hw1.2.2.2.2.2.2.2.2.1
theorem k0_dev21_lt : ∀ (v3 : BitVec 32) (k0_hw1 : k0_chk1 v3), (k0_dev21 v3) < nD := fun v3 k0_hw1 => k0_hw1.2.2.2.2.2.2.2.2.2.1
theorem k0_dev22_lt : ∀ (v3 : BitVec 32) (k0_hw1 : k0_chk1 v3), (k0_dev22 v3) < nD := fun v3 k0_hw1 => k0_hw1.2.2.2.2.2.2.2.2.2.2.1
theorem k0_dev25_lt : ∀ (v3 : BitVec 32) (k0_hw1 : k0_chk1 v3), (k0_dev25 v3) < nD := fun v3 k0_hw1 => k0_hw1.2.2.2.2.2.2.2.2.2.2.2.1
theorem k0_dev26_lt : ∀ (v3 : BitVec 32) (k0_hw1 : k0_chk1 v3), (k0_dev26 v3) < nD := fun v3 k0_hw1 => k0_hw1.2.2.2.2.2.2.2.2.2.2.2.2.1
theorem k0_dev29_lt : ∀ (v3 : BitVec 32) (k0_hw1 : k0_chk1 v3), (k0_dev29 v3) < nD := fun v3 k0_hw1 => k0_hw1.2.2.2.2.2.2.2.2.2.2.2.2.2.1
theorem k0_dev30_lt : ∀ (v3 : BitVec 32) (k0_hw1 : k0_chk1 v3), (k0_dev30 v3) < nD := fun v3 k0_hw1 => k0_hw1.2.2.2.2.2.2.2.2.2.2.2.2.2.2.1
theorem k0_dev33_lt : ∀ (v3 : BitVec 32) (k0_hw1 : k0_chk1 v3), (k0_dev33 v3) < nD := fun v3 k0_hw1 => k0_hw1.2.2.2.2.2.2.2.2.2.2.2.2.2.2.2.1
theorem k0_dev34_lt : ∀ (v3 : BitVec 32) (k0_hw1 : k0_chk1 v3), (k0_dev34 v3) < nD := fun v3 k0_hw1 => k0_hw1.2.2.2.2.2.2.2.2.2.2.2.2.2.2.2.2.1
theorem k0_dev37_lt : ∀ (v3 : BitVec 32) (k0_hw1 : k0_chk1 v3), (k0_dev37 v3) < nD := fun v3 k0_hw1 => k0_hw1.2.2.2.2.2.2.2.2.2.2.2.2.2.2.2.2.2.1
theorem k0_dev38_lt : ∀ (v3 : BitVec 32) (k0_hw1 : k0_chk1 v3), (k0_dev38 v3) < nD := fun v3 k0_hw1 => k0_hw1.2.2.2.2.2.2.2.2.2.2.2.2.2.2.2.2.2.2.1
theorem k0_dev41_lt : ∀ (v3 : BitVec 32) (k0_hw1 : k0_chk1 v3), (k0_dev41 v3) < nD := fun v3 k0_hw1 => k0_hw1.2.2.2.2.2.2.2.2.2.2.2.2.2.2.2.2.2.2.2.1
theorem k0_dev42_lt : ∀ (v3 : BitVec 32) (k0_hw1 : k0_chk1 v3), (k0_dev42 v3) < nD := fun v3 k0_hw1 => k0_hw1.2.2.2.2.2.2.2.2.2.2.2.2.2.2.2.2.2.2.2.2.1
theorem k0_dev45_lt : ∀ (v3 : BitVec 32) (k0_hw1 : k0_chk1 v3), (k0_dev45 v3) < nD := fun v3 k0_hw1 => k0_hw1.2.2.2.2.2.2.2.2.2.2.2.2.2.2.2.2.2.2.2.2.2.1
theorem k0_dev46_lt : ∀ (v3 : BitVec 32) (k0_hw1 : k0_chk1 v3), (k0_dev46 v3) < nD := fun v3 k0_hw1 => k0_hw1.2.2.2.2.2.2.2.2.2.2.2.2.2.2.2.2.2.2.2.2.2.2.1
theorem k0_dev49_lt : ∀ (v3 : BitVec 32) (k0_hw1 : k0_chk1 v3), (k0_dev49 v3) < nD := fun v3 k0_hw1 => k0_hw1.2.2.2.2.2.2.2.2.2.2.2.2.2.2.2.2.2.2.2.2.2.2.2.1
theorem k0_dev50_lt : ∀ (v3 : BitVec 32) (k0_hw1 : k0_chk1 v3), (k0_dev50 v3) < nD := fun v3 k0_hw1 => k0_hw1.2.2.2.2.2.2.2.2.2.2.2.2.2.2.2.2.2.2.2.2.2.2.2.2.1
theorem k0_dev53_lt : ∀ (v3 : BitVec 32) (k0_hw1 : k0_chk1 v3), (k0_dev53 v3) < nD := fun v3 k0_hw1 => k0_hw1.2.2.2.2.2.2.2.2.2.2.2.2.2.2.2.2.2.2.2.2.2.2.2.2.2.1
theorem k0_dev54_lt : ∀ (v3 : BitVec 32) (k0_hw1 : k0_chk1 v3), (k0_dev54 v3) < nD := fun v3 k0_hw1 => k0_hw1.2.2.2.2.2.2.2.2.2.2.2.2.2.2.2.2.2.2.2.2.2.2.2.2.2.2.1
theorem k0_dev57_lt : ∀ (v3 : BitVec 32) (k0_hw1 : k0_chk1 v3), (k0_dev57 v3) < nD := fun v3 k0_hw1 => k0_hw1.2.2.2.2.2.2.2.2.2.2.2.2.2.2.2.2.2.2.2.2.2.2.2.2.2.2.2.1
theorem k0_dev58_lt : ∀ (v3 : BitVec 32) (k0_hw1 : k0_chk1 v3), (k0_dev58 v3) < nD := fun v3 k0_hw1 => k0_hw1.2.2.2.2.2.2.2.2.2.2.2.2.2.2.2.2.2.2.2.2.2.2.2.2.2.2.2.2.1
theorem k0_dev61_lt : ∀ (v3 : BitVec 32) (k0_hw1 : k0_chk1 v3), (k0_dev61 v3) < nD := fun v3 k0_hw1 => k0_hw1.2.2.2.2.2.2.2.2.2.2.2.2.2.2.2.2.2.2.2.2.2.2.2.2.2.2.2.2.2.1
theorem k0_dev62_lt : ∀ (v3 : BitVec 32) (k0_hw1 : k0_chk1 v3), (k0_dev62 v3) < nD := fun v3 k0_hw1 => k0_hw1.2.2.2.2.2.2.2.2.2.2.2.2.2.2.2.2.2.2.2.2.2.2.2.2.2.2.2.2.2.2.1
theorem k0_dev64_lt : ∀ (v3 : BitVec 32) (k0_hw1 : k0_chk1 v3), (k0_dev64 v3) < nD := fun v3 k0_hw1 => k0_hw1.2.2.2.2.2.2.2.2.2.2.2.2.2.2.2.2.2.2.2.2.2.2.2.2.2.2.2.2.2.2.2

def k0_off346 (v2228 : BitVec 32) : Fin 4 → Nat :=
  let v2229 : Index := Scalar.indexCast v2228
  let c0_2191 : Index := 0#32
  let c0_2192 : Index := 0#32
  let c0_2193 : Index := 0#32
  ![v2229.toNat, 0, 0, 0]

def k0_off347 (v2228 : BitVec 32) : Fin 2 → Nat :=
  let c128_i32_2198 : BitVec 32 := 128#32
  let v2237 : BitVec 32 := Scalar.muli v2228 c128_i32_2198
  let c0_i32_2199 : BitVec 32 := 0#32
  let v2238 : BitVec 32 := Scalar.addi v2237 c0_i32_2199
  let v2239 : Index := Scalar.indexCast v2238
  let c0_2200 : Index := 0#32
  ![v2239.toNat, 0]

def k0_chk179 (v2228 : BitVec 32) : Prop :=
  (∀ a, (k0_off346 v2228) a + S1x1x64x4096.size a ≤ S32x2x64x4096.size a) ∧
  (∀ a, (k0_off347 v2228) a + S64x64.size a ≤ S4096x64.size a)
theorem k0_off346_inb : ∀ (v2228 : BitVec 32) (k0_hw179 : k0_chk179 v2228), ∀ a, (k0_off346 v2228) a + S1x1x64x4096.size a ≤ S32x2x64x4096.size a := fun v2228 k0_hw179 => k0_hw179.1
theorem k0_off347_inb : ∀ (v2228 : BitVec 32) (k0_hw179 : k0_chk179 v2228), ∀ a, (k0_off347 v2228) a + S64x64.size a ≤ S4096x64.size a := fun v2228 k0_hw179 => k0_hw179.2

def k0_off348 (v2083 : BitVec 32) : Fin 4 → Nat :=
  let c1_i32_2203 : BitVec 32 := 1#32
  let c0_i32_2210 : BitVec 32 := 0#32
  let c0_i32_2211 : BitVec 32 := 0#32
  ![v2083.toNat, 1, 0, 0]
def k0_off349 (v2082 : BitVec 32) : Fin 4 → Nat :=
  let c1_i32_2202 : BitVec 32 := 1#32
  let c0_i32_2212 : BitVec 32 := 0#32
  let c0_i32_2213 : BitVec 32 := 0#32
  ![v2082.toNat, 1, 0, 0]
def k0_off350 (v2254 : BitVec 32) : Fin 4 → Nat :=
  let v2255 : Index := Scalar.indexCast v2254
  let c1_2215 : Index := 1#32
  let c0_2216 : Index := 0#32
  let c0_2217 : Index := 0#32
  ![v2255.toNat, 1, 0, 0]

def k0_off351 (v2254 : BitVec 32) : Fin 2 → Nat :=
  let c128_i32_2222 : BitVec 32 := 128#32
  let v2263 : BitVec 32 := Scalar.muli v2254 c128_i32_2222
  let c64_i32_2223 : BitVec 32 := 64#32
  let v2264 : BitVec 32 := Scalar.addi v2263 c64_i32_2223
  let v2265 : Index := Scalar.indexCast v2264
  let c0_2224 : Index := 0#32
  ![v2265.toNat, 0]

def k0_chk180 (v2254 : BitVec 32) : Prop :=
  (∀ a, (k0_off350 v2254) a + S1x1x64x4096.size a ≤ S32x2x64x4096.size a) ∧
  (∀ a, (k0_off351 v2254) a + S64x64.size a ≤ S4096x64.size a)
theorem k0_off350_inb : ∀ (v2254 : BitVec 32) (k0_hw180 : k0_chk180 v2254), ∀ a, (k0_off350 v2254) a + S1x1x64x4096.size a ≤ S32x2x64x4096.size a := fun v2254 k0_hw180 => k0_hw180.1
theorem k0_off351_inb : ∀ (v2254 : BitVec 32) (k0_hw180 : k0_chk180 v2254), ∀ a, (k0_off351 v2254) a + S64x64.size a ≤ S4096x64.size a := fun v2254 k0_hw180 => k0_hw180.2

def k0_off352 (v2121 : BitVec 32) : Fin 4 → Nat :=
  let c0_i32_2227 : BitVec 32 := 0#32
  let c0_i32_2234 : BitVec 32 := 0#32
  let c0_i32_2235 : BitVec 32 := 0#32
  ![v2121.toNat, 0, 0, 0]
def k0_off353 (v2120 : BitVec 32) : Fin 4 → Nat :=
  let c0_i32_2226 : BitVec 32 := 0#32
  let c0_i32_2236 : BitVec 32 := 0#32
  let c0_i32_2237 : BitVec 32 := 0#32
  ![v2120.toNat, 0, 0, 0]
def k0_off354 (v2280 : BitVec 32) : Fin 4 → Nat :=
  let v2281 : Index := Scalar.indexCast v2280
  let c0_2239 : Index := 0#32
  let c0_2240 : Index := 0#32
  let c0_2241 : Index := 0#32
  ![v2281.toNat, 0, 0, 0]

def k0_off355 (v2280 : BitVec 32) : Fin 2 → Nat :=
  let c128_i32_2246 : BitVec 32 := 128#32
  let v2289 : BitVec 32 := Scalar.muli v2280 c128_i32_2246
  let c0_i32_2247 : BitVec 32 := 0#32
  let v2290 : BitVec 32 := Scalar.addi v2289 c0_i32_2247
  let v2291 : Index := Scalar.indexCast v2290
  let c0_2248 : Index := 0#32
  ![v2291.toNat, 0]

def k0_chk181 (v2280 : BitVec 32) : Prop :=
  (∀ a, (k0_off354 v2280) a + S1x1x64x4096.size a ≤ S32x2x64x4096.size a) ∧
  (∀ a, (k0_off355 v2280) a + S64x64.size a ≤ S4096x64.size a)
theorem k0_off354_inb : ∀ (v2280 : BitVec 32) (k0_hw181 : k0_chk181 v2280), ∀ a, (k0_off354 v2280) a + S1x1x64x4096.size a ≤ S32x2x64x4096.size a := fun v2280 k0_hw181 => k0_hw181.1
theorem k0_off355_inb : ∀ (v2280 : BitVec 32) (k0_hw181 : k0_chk181 v2280), ∀ a, (k0_off355 v2280) a + S64x64.size a ≤ S4096x64.size a := fun v2280 k0_hw181 => k0_hw181.2

def k0_off356 (v2298 : BitVec 32) : Fin 4 → Nat :=
  let v2299 : Index := Scalar.indexCast v2298
  let c1_2251 : Index := 1#32
  let c0_2252 : Index := 0#32
  let c0_2253 : Index := 0#32
  ![v2299.toNat, 1, 0, 0]

def k0_off357 (v2298 : BitVec 32) : Fin 2 → Nat :=
  let c128_i32_2258 : BitVec 32 := 128#32
  let v2307 : BitVec 32 := Scalar.muli v2298 c128_i32_2258
  let c64_i32_2259 : BitVec 32 := 64#32
  let v2308 : BitVec 32 := Scalar.addi v2307 c64_i32_2259
  let v2309 : Index := Scalar.indexCast v2308
  let c0_2260 : Index := 0#32
  ![v2309.toNat, 0]

def k0_chk182 (v2298 : BitVec 32) : Prop :=
  (∀ a, (k0_off356 v2298) a + S1x1x64x4096.size a ≤ S32x2x64x4096.size a) ∧
  (∀ a, (k0_off357 v2298) a + S64x64.size a ≤ S4096x64.size a)
theorem k0_off356_inb : ∀ (v2298 : BitVec 32) (k0_hw182 : k0_chk182 v2298), ∀ a, (k0_off356 v2298) a + S1x1x64x4096.size a ≤ S32x2x64x4096.size a := fun v2298 k0_hw182 => k0_hw182.1
theorem k0_off357_inb : ∀ (v2298 : BitVec 32) (k0_hw182 : k0_chk182 v2298), ∀ a, (k0_off357 v2298) a + S64x64.size a ≤ S4096x64.size a := fun v2298 k0_hw182 => k0_hw182.2

def k0_off358 (v2197 : BitVec 32) : Fin 4 → Nat :=
  let c0_i32_2263 : BitVec 32 := 0#32
  let c0_i32_2270 : BitVec 32 := 0#32
  let c0_i32_2271 : BitVec 32 := 0#32
  ![v2197.toNat, 0, 0, 0]
def k0_off359 (v2196 : BitVec 32) : Fin 4 → Nat :=
  let c0_i32_2262 : BitVec 32 := 0#32
  let c0_i32_2272 : BitVec 32 := 0#32
  let c0_i32_2273 : BitVec 32 := 0#32
  ![v2196.toNat, 0, 0, 0]
def k0_off360 (v2324 : BitVec 32) : Fin 4 → Nat :=
  let v2325 : Index := Scalar.indexCast v2324
  let c0_2274 : Index := 0#32
  let c0_2275 : Index := 0#32
  let c0_2276 : Index := 0#32
  ![v2325.toNat, 0, 0, 0]

def k0_off361 (v2324 : BitVec 32) : Fin 2 → Nat :=
  let c128_i32_2281 : BitVec 32 := 128#32
  let v2333 : BitVec 32 := Scalar.muli v2324 c128_i32_2281
  let c0_i32_2282 : BitVec 32 := 0#32
  let v2334 : BitVec 32 := Scalar.addi v2333 c0_i32_2282
  let v2335 : Index := Scalar.indexCast v2334
  let c0_2283 : Index := 0#32
  ![v2335.toNat, 0]

def k0_chk183 (v2324 : BitVec 32) : Prop :=
  (∀ a, (k0_off360 v2324) a + S1x1x64x4096.size a ≤ S32x2x64x4096.size a) ∧
  (∀ a, (k0_off361 v2324) a + S64x64.size a ≤ S4096x64.size a)
theorem k0_off360_inb : ∀ (v2324 : BitVec 32) (k0_hw183 : k0_chk183 v2324), ∀ a, (k0_off360 v2324) a + S1x1x64x4096.size a ≤ S32x2x64x4096.size a := fun v2324 k0_hw183 => k0_hw183.1
theorem k0_off361_inb : ∀ (v2324 : BitVec 32) (k0_hw183 : k0_chk183 v2324), ∀ a, (k0_off361 v2324) a + S64x64.size a ≤ S4096x64.size a := fun v2324 k0_hw183 => k0_hw183.2

def k0_off362 (v2217 : BitVec 32) : Fin 4 → Nat :=
  let c1_i32_2286 : BitVec 32 := 1#32
  let c0_i32_2293 : BitVec 32 := 0#32
  let c0_i32_2294 : BitVec 32 := 0#32
  ![v2217.toNat, 1, 0, 0]
def k0_off363 (v2216 : BitVec 32) : Fin 4 → Nat :=
  let c1_i32_2285 : BitVec 32 := 1#32
  let c0_i32_2295 : BitVec 32 := 0#32
  let c0_i32_2296 : BitVec 32 := 0#32
  ![v2216.toNat, 1, 0, 0]
def k0_off364 (v2350 : BitVec 32) : Fin 4 → Nat :=
  let v2351 : Index := Scalar.indexCast v2350
  let c1_2298 : Index := 1#32
  let c0_2299 : Index := 0#32
  let c0_2300 : Index := 0#32
  ![v2351.toNat, 1, 0, 0]

def k0_off365 (v2350 : BitVec 32) : Fin 2 → Nat :=
  let c128_i32_2305 : BitVec 32 := 128#32
  let v2359 : BitVec 32 := Scalar.muli v2350 c128_i32_2305
  let c64_i32_2306 : BitVec 32 := 64#32
  let v2360 : BitVec 32 := Scalar.addi v2359 c64_i32_2306
  let v2361 : Index := Scalar.indexCast v2360
  let c0_2307 : Index := 0#32
  ![v2361.toNat, 0]

def k0_chk184 (v2350 : BitVec 32) : Prop :=
  (∀ a, (k0_off364 v2350) a + S1x1x64x4096.size a ≤ S32x2x64x4096.size a) ∧
  (∀ a, (k0_off365 v2350) a + S64x64.size a ≤ S4096x64.size a)
theorem k0_off364_inb : ∀ (v2350 : BitVec 32) (k0_hw184 : k0_chk184 v2350), ∀ a, (k0_off364 v2350) a + S1x1x64x4096.size a ≤ S32x2x64x4096.size a := fun v2350 k0_hw184 => k0_hw184.1
theorem k0_off365_inb : ∀ (v2350 : BitVec 32) (k0_hw184 : k0_chk184 v2350), ∀ a, (k0_off365 v2350) a + S64x64.size a ≤ S4096x64.size a := fun v2350 k0_hw184 => k0_hw184.2

def k0_off366 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v2369 : Index := Scalar.indexCast v2
  let c0_2309 : Index := 0#32
  let c0_2310 : Index := 0#32
  ![v2369.toNat, 0, 0]
def k0_off367 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2317 : BitVec 32 := 0#32
  let c0_i32_2318 : BitVec 32 := 0#32
  ![v2.toNat, 0, 0]
def k0_dev65 (d0 : Dev nD) : Nat :=
  let c0_i32_2316 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_2311 : BitVec 32 := 1#32
  let v2373 : BitVec 32 := Scalar.addi v2 c1_i32_2311
  let c32_i32_2312 : BitVec 32 := 32#32
  let v2374 : BitVec 32 := Scalar.remsi v2373 c32_i32_2312
  let c1_i32_2315 : BitVec 32 := 1#32
  let v2375 : BitVec 32 := Scalar.muli v2374 c1_i32_2315
  let v2376 : BitVec 32 := Scalar.addi c0_i32_2316 v2375
  v2376.toNat
def k0_dev66 (d0 : Dev nD) : Nat :=
  let c0_i32_2326 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_2321 : BitVec 32 := 2#32
  let v2385 : BitVec 32 := Scalar.addi v2 c2_i32_2321
  let c32_i32_2322 : BitVec 32 := 32#32
  let v2386 : BitVec 32 := Scalar.remsi v2385 c32_i32_2322
  let c1_i32_2325 : BitVec 32 := 1#32
  let v2387 : BitVec 32 := Scalar.muli v2386 c1_i32_2325
  let v2388 : BitVec 32 := Scalar.addi c0_i32_2326 v2387
  v2388.toNat
def k0_dev67 (d0 : Dev nD) : Nat :=
  let c0_i32_2336 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_2331 : BitVec 32 := 3#32
  let v2397 : BitVec 32 := Scalar.addi v2 c3_i32_2331
  let c32_i32_2332 : BitVec 32 := 32#32
  let v2398 : BitVec 32 := Scalar.remsi v2397 c32_i32_2332
  let c1_i32_2335 : BitVec 32 := 1#32
  let v2399 : BitVec 32 := Scalar.muli v2398 c1_i32_2335
  let v2400 : BitVec 32 := Scalar.addi c0_i32_2336 v2399
  v2400.toNat
def k0_dev68 (d0 : Dev nD) : Nat :=
  let c0_i32_2346 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_2341 : BitVec 32 := 4#32
  let v2409 : BitVec 32 := Scalar.addi v2 c4_i32_2341
  let c32_i32_2342 : BitVec 32 := 32#32
  let v2410 : BitVec 32 := Scalar.remsi v2409 c32_i32_2342
  let c1_i32_2345 : BitVec 32 := 1#32
  let v2411 : BitVec 32 := Scalar.muli v2410 c1_i32_2345
  let v2412 : BitVec 32 := Scalar.addi c0_i32_2346 v2411
  v2412.toNat
def k0_dev69 (d0 : Dev nD) : Nat :=
  let c0_i32_2356 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_2351 : BitVec 32 := 5#32
  let v2421 : BitVec 32 := Scalar.addi v2 c5_i32_2351
  let c32_i32_2352 : BitVec 32 := 32#32
  let v2422 : BitVec 32 := Scalar.remsi v2421 c32_i32_2352
  let c1_i32_2355 : BitVec 32 := 1#32
  let v2423 : BitVec 32 := Scalar.muli v2422 c1_i32_2355
  let v2424 : BitVec 32 := Scalar.addi c0_i32_2356 v2423
  v2424.toNat
def k0_dev70 (d0 : Dev nD) : Nat :=
  let c0_i32_2366 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_2361 : BitVec 32 := 6#32
  let v2433 : BitVec 32 := Scalar.addi v2 c6_i32_2361
  let c32_i32_2362 : BitVec 32 := 32#32
  let v2434 : BitVec 32 := Scalar.remsi v2433 c32_i32_2362
  let c1_i32_2365 : BitVec 32 := 1#32
  let v2435 : BitVec 32 := Scalar.muli v2434 c1_i32_2365
  let v2436 : BitVec 32 := Scalar.addi c0_i32_2366 v2435
  v2436.toNat
def k0_dev71 (d0 : Dev nD) : Nat :=
  let c0_i32_2376 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_2371 : BitVec 32 := 7#32
  let v2445 : BitVec 32 := Scalar.addi v2 c7_i32_2371
  let c32_i32_2372 : BitVec 32 := 32#32
  let v2446 : BitVec 32 := Scalar.remsi v2445 c32_i32_2372
  let c1_i32_2375 : BitVec 32 := 1#32
  let v2447 : BitVec 32 := Scalar.muli v2446 c1_i32_2375
  let v2448 : BitVec 32 := Scalar.addi c0_i32_2376 v2447
  v2448.toNat
def k0_dev72 (d0 : Dev nD) : Nat :=
  let c0_i32_2386 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_2381 : BitVec 32 := 8#32
  let v2457 : BitVec 32 := Scalar.addi v2 c8_i32_2381
  let c32_i32_2382 : BitVec 32 := 32#32
  let v2458 : BitVec 32 := Scalar.remsi v2457 c32_i32_2382
  let c1_i32_2385 : BitVec 32 := 1#32
  let v2459 : BitVec 32 := Scalar.muli v2458 c1_i32_2385
  let v2460 : BitVec 32 := Scalar.addi c0_i32_2386 v2459
  v2460.toNat
def k0_dev73 (d0 : Dev nD) : Nat :=
  let c0_i32_2396 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_2391 : BitVec 32 := 9#32
  let v2469 : BitVec 32 := Scalar.addi v2 c9_i32_2391
  let c32_i32_2392 : BitVec 32 := 32#32
  let v2470 : BitVec 32 := Scalar.remsi v2469 c32_i32_2392
  let c1_i32_2395 : BitVec 32 := 1#32
  let v2471 : BitVec 32 := Scalar.muli v2470 c1_i32_2395
  let v2472 : BitVec 32 := Scalar.addi c0_i32_2396 v2471
  v2472.toNat
def k0_dev74 (d0 : Dev nD) : Nat :=
  let c0_i32_2406 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_2401 : BitVec 32 := 10#32
  let v2481 : BitVec 32 := Scalar.addi v2 c10_i32_2401
  let c32_i32_2402 : BitVec 32 := 32#32
  let v2482 : BitVec 32 := Scalar.remsi v2481 c32_i32_2402
  let c1_i32_2405 : BitVec 32 := 1#32
  let v2483 : BitVec 32 := Scalar.muli v2482 c1_i32_2405
  let v2484 : BitVec 32 := Scalar.addi c0_i32_2406 v2483
  v2484.toNat
def k0_dev75 (d0 : Dev nD) : Nat :=
  let c0_i32_2416 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_2411 : BitVec 32 := 11#32
  let v2493 : BitVec 32 := Scalar.addi v2 c11_i32_2411
  let c32_i32_2412 : BitVec 32 := 32#32
  let v2494 : BitVec 32 := Scalar.remsi v2493 c32_i32_2412
  let c1_i32_2415 : BitVec 32 := 1#32
  let v2495 : BitVec 32 := Scalar.muli v2494 c1_i32_2415
  let v2496 : BitVec 32 := Scalar.addi c0_i32_2416 v2495
  v2496.toNat
def k0_dev76 (d0 : Dev nD) : Nat :=
  let c0_i32_2426 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_2421 : BitVec 32 := 12#32
  let v2505 : BitVec 32 := Scalar.addi v2 c12_i32_2421
  let c32_i32_2422 : BitVec 32 := 32#32
  let v2506 : BitVec 32 := Scalar.remsi v2505 c32_i32_2422
  let c1_i32_2425 : BitVec 32 := 1#32
  let v2507 : BitVec 32 := Scalar.muli v2506 c1_i32_2425
  let v2508 : BitVec 32 := Scalar.addi c0_i32_2426 v2507
  v2508.toNat
def k0_dev77 (d0 : Dev nD) : Nat :=
  let c0_i32_2436 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_2431 : BitVec 32 := 13#32
  let v2517 : BitVec 32 := Scalar.addi v2 c13_i32_2431
  let c32_i32_2432 : BitVec 32 := 32#32
  let v2518 : BitVec 32 := Scalar.remsi v2517 c32_i32_2432
  let c1_i32_2435 : BitVec 32 := 1#32
  let v2519 : BitVec 32 := Scalar.muli v2518 c1_i32_2435
  let v2520 : BitVec 32 := Scalar.addi c0_i32_2436 v2519
  v2520.toNat
def k0_dev78 (d0 : Dev nD) : Nat :=
  let c0_i32_2446 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_2441 : BitVec 32 := 14#32
  let v2529 : BitVec 32 := Scalar.addi v2 c14_i32_2441
  let c32_i32_2442 : BitVec 32 := 32#32
  let v2530 : BitVec 32 := Scalar.remsi v2529 c32_i32_2442
  let c1_i32_2445 : BitVec 32 := 1#32
  let v2531 : BitVec 32 := Scalar.muli v2530 c1_i32_2445
  let v2532 : BitVec 32 := Scalar.addi c0_i32_2446 v2531
  v2532.toNat
def k0_dev79 (d0 : Dev nD) : Nat :=
  let c0_i32_2456 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_2451 : BitVec 32 := 15#32
  let v2541 : BitVec 32 := Scalar.addi v2 c15_i32_2451
  let c32_i32_2452 : BitVec 32 := 32#32
  let v2542 : BitVec 32 := Scalar.remsi v2541 c32_i32_2452
  let c1_i32_2455 : BitVec 32 := 1#32
  let v2543 : BitVec 32 := Scalar.muli v2542 c1_i32_2455
  let v2544 : BitVec 32 := Scalar.addi c0_i32_2456 v2543
  v2544.toNat
def k0_dev80 (d0 : Dev nD) : Nat :=
  let c0_i32_2465 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v2553 : BitVec 32 := Scalar.addi v2 c16_i32
  let c32_i32_2461 : BitVec 32 := 32#32
  let v2554 : BitVec 32 := Scalar.remsi v2553 c32_i32_2461
  let c1_i32_2464 : BitVec 32 := 1#32
  let v2555 : BitVec 32 := Scalar.muli v2554 c1_i32_2464
  let v2556 : BitVec 32 := Scalar.addi c0_i32_2465 v2555
  v2556.toNat
def k0_dev81 (d0 : Dev nD) : Nat :=
  let c0_i32_2474 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v2565 : BitVec 32 := Scalar.addi v2 c17_i32
  let c32_i32_2470 : BitVec 32 := 32#32
  let v2566 : BitVec 32 := Scalar.remsi v2565 c32_i32_2470
  let c1_i32_2473 : BitVec 32 := 1#32
  let v2567 : BitVec 32 := Scalar.muli v2566 c1_i32_2473
  let v2568 : BitVec 32 := Scalar.addi c0_i32_2474 v2567
  v2568.toNat
def k0_dev82 (d0 : Dev nD) : Nat :=
  let c0_i32_2483 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v2577 : BitVec 32 := Scalar.addi v2 c18_i32
  let c32_i32_2479 : BitVec 32 := 32#32
  let v2578 : BitVec 32 := Scalar.remsi v2577 c32_i32_2479
  let c1_i32_2482 : BitVec 32 := 1#32
  let v2579 : BitVec 32 := Scalar.muli v2578 c1_i32_2482
  let v2580 : BitVec 32 := Scalar.addi c0_i32_2483 v2579
  v2580.toNat
def k0_dev83 (d0 : Dev nD) : Nat :=
  let c0_i32_2492 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v2589 : BitVec 32 := Scalar.addi v2 c19_i32
  let c32_i32_2488 : BitVec 32 := 32#32
  let v2590 : BitVec 32 := Scalar.remsi v2589 c32_i32_2488
  let c1_i32_2491 : BitVec 32 := 1#32
  let v2591 : BitVec 32 := Scalar.muli v2590 c1_i32_2491
  let v2592 : BitVec 32 := Scalar.addi c0_i32_2492 v2591
  v2592.toNat
def k0_dev84 (d0 : Dev nD) : Nat :=
  let c0_i32_2501 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v2601 : BitVec 32 := Scalar.addi v2 c20_i32
  let c32_i32_2497 : BitVec 32 := 32#32
  let v2602 : BitVec 32 := Scalar.remsi v2601 c32_i32_2497
  let c1_i32_2500 : BitVec 32 := 1#32
  let v2603 : BitVec 32 := Scalar.muli v2602 c1_i32_2500
  let v2604 : BitVec 32 := Scalar.addi c0_i32_2501 v2603
  v2604.toNat
def k0_dev85 (d0 : Dev nD) : Nat :=
  let c0_i32_2510 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v2613 : BitVec 32 := Scalar.addi v2 c21_i32
  let c32_i32_2506 : BitVec 32 := 32#32
  let v2614 : BitVec 32 := Scalar.remsi v2613 c32_i32_2506
  let c1_i32_2509 : BitVec 32 := 1#32
  let v2615 : BitVec 32 := Scalar.muli v2614 c1_i32_2509
  let v2616 : BitVec 32 := Scalar.addi c0_i32_2510 v2615
  v2616.toNat
def k0_dev86 (d0 : Dev nD) : Nat :=
  let c0_i32_2519 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v2625 : BitVec 32 := Scalar.addi v2 c22_i32
  let c32_i32_2515 : BitVec 32 := 32#32
  let v2626 : BitVec 32 := Scalar.remsi v2625 c32_i32_2515
  let c1_i32_2518 : BitVec 32 := 1#32
  let v2627 : BitVec 32 := Scalar.muli v2626 c1_i32_2518
  let v2628 : BitVec 32 := Scalar.addi c0_i32_2519 v2627
  v2628.toNat
def k0_dev87 (d0 : Dev nD) : Nat :=
  let c0_i32_2528 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v2637 : BitVec 32 := Scalar.addi v2 c23_i32
  let c32_i32_2524 : BitVec 32 := 32#32
  let v2638 : BitVec 32 := Scalar.remsi v2637 c32_i32_2524
  let c1_i32_2527 : BitVec 32 := 1#32
  let v2639 : BitVec 32 := Scalar.muli v2638 c1_i32_2527
  let v2640 : BitVec 32 := Scalar.addi c0_i32_2528 v2639
  v2640.toNat
def k0_dev88 (d0 : Dev nD) : Nat :=
  let c0_i32_2537 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v2649 : BitVec 32 := Scalar.addi v2 c24_i32
  let c32_i32_2533 : BitVec 32 := 32#32
  let v2650 : BitVec 32 := Scalar.remsi v2649 c32_i32_2533
  let c1_i32_2536 : BitVec 32 := 1#32
  let v2651 : BitVec 32 := Scalar.muli v2650 c1_i32_2536
  let v2652 : BitVec 32 := Scalar.addi c0_i32_2537 v2651
  v2652.toNat
def k0_dev89 (d0 : Dev nD) : Nat :=
  let c0_i32_2546 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v2661 : BitVec 32 := Scalar.addi v2 c25_i32
  let c32_i32_2542 : BitVec 32 := 32#32
  let v2662 : BitVec 32 := Scalar.remsi v2661 c32_i32_2542
  let c1_i32_2545 : BitVec 32 := 1#32
  let v2663 : BitVec 32 := Scalar.muli v2662 c1_i32_2545
  let v2664 : BitVec 32 := Scalar.addi c0_i32_2546 v2663
  v2664.toNat
def k0_dev90 (d0 : Dev nD) : Nat :=
  let c0_i32_2555 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v2673 : BitVec 32 := Scalar.addi v2 c26_i32
  let c32_i32_2551 : BitVec 32 := 32#32
  let v2674 : BitVec 32 := Scalar.remsi v2673 c32_i32_2551
  let c1_i32_2554 : BitVec 32 := 1#32
  let v2675 : BitVec 32 := Scalar.muli v2674 c1_i32_2554
  let v2676 : BitVec 32 := Scalar.addi c0_i32_2555 v2675
  v2676.toNat
def k0_dev91 (d0 : Dev nD) : Nat :=
  let c0_i32_2564 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v2685 : BitVec 32 := Scalar.addi v2 c27_i32
  let c32_i32_2560 : BitVec 32 := 32#32
  let v2686 : BitVec 32 := Scalar.remsi v2685 c32_i32_2560
  let c1_i32_2563 : BitVec 32 := 1#32
  let v2687 : BitVec 32 := Scalar.muli v2686 c1_i32_2563
  let v2688 : BitVec 32 := Scalar.addi c0_i32_2564 v2687
  v2688.toNat
def k0_dev92 (d0 : Dev nD) : Nat :=
  let c0_i32_2573 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v2697 : BitVec 32 := Scalar.addi v2 c28_i32
  let c32_i32_2569 : BitVec 32 := 32#32
  let v2698 : BitVec 32 := Scalar.remsi v2697 c32_i32_2569
  let c1_i32_2572 : BitVec 32 := 1#32
  let v2699 : BitVec 32 := Scalar.muli v2698 c1_i32_2572
  let v2700 : BitVec 32 := Scalar.addi c0_i32_2573 v2699
  v2700.toNat
def k0_dev93 (d0 : Dev nD) : Nat :=
  let c0_i32_2582 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v2709 : BitVec 32 := Scalar.addi v2 c29_i32
  let c32_i32_2578 : BitVec 32 := 32#32
  let v2710 : BitVec 32 := Scalar.remsi v2709 c32_i32_2578
  let c1_i32_2581 : BitVec 32 := 1#32
  let v2711 : BitVec 32 := Scalar.muli v2710 c1_i32_2581
  let v2712 : BitVec 32 := Scalar.addi c0_i32_2582 v2711
  v2712.toNat
def k0_dev94 (d0 : Dev nD) : Nat :=
  let c0_i32_2591 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v2721 : BitVec 32 := Scalar.addi v2 c30_i32
  let c32_i32_2587 : BitVec 32 := 32#32
  let v2722 : BitVec 32 := Scalar.remsi v2721 c32_i32_2587
  let c1_i32_2590 : BitVec 32 := 1#32
  let v2723 : BitVec 32 := Scalar.muli v2722 c1_i32_2590
  let v2724 : BitVec 32 := Scalar.addi c0_i32_2591 v2723
  v2724.toNat
def k0_dev95 (d0 : Dev nD) : Nat :=
  let c0_i32_2600 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v2733 : BitVec 32 := Scalar.addi v2 c31_i32
  let c32_i32_2596 : BitVec 32 := 32#32
  let v2734 : BitVec 32 := Scalar.remsi v2733 c32_i32_2596
  let c1_i32_2599 : BitVec 32 := 1#32
  let v2735 : BitVec 32 := Scalar.muli v2734 c1_i32_2599
  let v2736 : BitVec 32 := Scalar.addi c0_i32_2600 v2735
  v2736.toNat
def k0_off368 (v10 : BitVec 32) : Fin 4 → Nat :=
  let c0_i32_3081 : BitVec 32 := 0#32
  let c0_i32_3089 : BitVec 32 := 0#32
  let c0_i32_3090 : BitVec 32 := 0#32
  ![v10.toNat, 0, 0, 0]

def k0_chk3 (v10 : BitVec 32) : Prop :=
  (∀ a, (k0_off1 v10) a + S1x1x64x4096.size a ≤ S32x2x64x4096.size a) ∧
  (∀ (hinb : ∀ a, (k0_off1 v10) a + S1x1x64x4096.size a ≤ S32x2x64x4096.size a), (Rect.unit (s := S32x2x64x4096) (k0_off1 v10) S1x1x64x4096.size hinb).WholeWords (EltTy.packing .bf16)) ∧
  (∀ a, (k0_off6 v10) a + S1x1x64x4096.size a ≤ S32x2x64x4096.size a) ∧
  (∀ (hinb : ∀ a, (k0_off6 v10) a + S1x1x64x4096.size a ≤ S32x2x64x4096.size a), (Rect.unit (s := S32x2x64x4096) (k0_off6 v10) S1x1x64x4096.size hinb).WholeWords (EltTy.packing .bf16)) ∧
  (∀ a, (k0_off368 v10) a + S1x1x64x4096.size a ≤ S32x2x64x4096.size a) ∧
  (∀ (hinb : ∀ a, (k0_off368 v10) a + S1x1x64x4096.size a ≤ S32x2x64x4096.size a), (Rect.unit (s := S32x2x64x4096) (k0_off368 v10) S1x1x64x4096.size hinb).WholeWords (EltTy.packing .bf16))
theorem k0_off1_inb : ∀ (v10 : BitVec 32) (k0_hw3 : k0_chk3 v10), ∀ a, (k0_off1 v10) a + S1x1x64x4096.size a ≤ S32x2x64x4096.size a := fun v10 k0_hw3 => k0_hw3.1
theorem k0_off1_wordsbf16 : ∀ (v10 : BitVec 32) (k0_hw3 : k0_chk3 v10), (Rect.unit (s := S32x2x64x4096) (k0_off1 v10) S1x1x64x4096.size (k0_off1_inb v10 k0_hw3)).WholeWords (EltTy.packing .bf16) := fun v10 k0_hw3 => k0_hw3.2.1 (k0_off1_inb v10 k0_hw3)
theorem k0_off6_inb : ∀ (v10 : BitVec 32) (k0_hw3 : k0_chk3 v10), ∀ a, (k0_off6 v10) a + S1x1x64x4096.size a ≤ S32x2x64x4096.size a := fun v10 k0_hw3 => k0_hw3.2.2.1
theorem k0_off6_wordsbf16 : ∀ (v10 : BitVec 32) (k0_hw3 : k0_chk3 v10), (Rect.unit (s := S32x2x64x4096) (k0_off6 v10) S1x1x64x4096.size (k0_off6_inb v10 k0_hw3)).WholeWords (EltTy.packing .bf16) := fun v10 k0_hw3 => k0_hw3.2.2.2.1 (k0_off6_inb v10 k0_hw3)
theorem k0_off368_inb : ∀ (v10 : BitVec 32) (k0_hw3 : k0_chk3 v10), ∀ a, (k0_off368 v10) a + S1x1x64x4096.size a ≤ S32x2x64x4096.size a := fun v10 k0_hw3 => k0_hw3.2.2.2.2.1
theorem k0_off368_wordsbf16 : ∀ (v10 : BitVec 32) (k0_hw3 : k0_chk3 v10), (Rect.unit (s := S32x2x64x4096) (k0_off368 v10) S1x1x64x4096.size (k0_off368_inb v10 k0_hw3)).WholeWords (EltTy.packing .bf16) := fun v10 k0_hw3 => k0_hw3.2.2.2.2.2 (k0_off368_inb v10 k0_hw3)

def k0_off369 (v20 : BitVec 32) : Fin 4 → Nat :=
  let c1_i32_3091 : BitVec 32 := 1#32
  let c0_i32_3099 : BitVec 32 := 0#32
  let c0_i32_3100 : BitVec 32 := 0#32
  ![v20.toNat, 1, 0, 0]

def k0_chk4 (v20 : BitVec 32) : Prop :=
  (∀ a, (k0_off2 v20) a + S1x1x64x4096.size a ≤ S32x2x64x4096.size a) ∧
  (∀ (hinb : ∀ a, (k0_off2 v20) a + S1x1x64x4096.size a ≤ S32x2x64x4096.size a), (Rect.unit (s := S32x2x64x4096) (k0_off2 v20) S1x1x64x4096.size hinb).WholeWords (EltTy.packing .bf16)) ∧
  (∀ a, (k0_off11 v20) a + S1x1x64x4096.size a ≤ S32x2x64x4096.size a) ∧
  (∀ (hinb : ∀ a, (k0_off11 v20) a + S1x1x64x4096.size a ≤ S32x2x64x4096.size a), (Rect.unit (s := S32x2x64x4096) (k0_off11 v20) S1x1x64x4096.size hinb).WholeWords (EltTy.packing .bf16)) ∧
  (∀ a, (k0_off369 v20) a + S1x1x64x4096.size a ≤ S32x2x64x4096.size a) ∧
  (∀ (hinb : ∀ a, (k0_off369 v20) a + S1x1x64x4096.size a ≤ S32x2x64x4096.size a), (Rect.unit (s := S32x2x64x4096) (k0_off369 v20) S1x1x64x4096.size hinb).WholeWords (EltTy.packing .bf16))
theorem k0_off2_inb : ∀ (v20 : BitVec 32) (k0_hw4 : k0_chk4 v20), ∀ a, (k0_off2 v20) a + S1x1x64x4096.size a ≤ S32x2x64x4096.size a := fun v20 k0_hw4 => k0_hw4.1
theorem k0_off2_wordsbf16 : ∀ (v20 : BitVec 32) (k0_hw4 : k0_chk4 v20), (Rect.unit (s := S32x2x64x4096) (k0_off2 v20) S1x1x64x4096.size (k0_off2_inb v20 k0_hw4)).WholeWords (EltTy.packing .bf16) := fun v20 k0_hw4 => k0_hw4.2.1 (k0_off2_inb v20 k0_hw4)
theorem k0_off11_inb : ∀ (v20 : BitVec 32) (k0_hw4 : k0_chk4 v20), ∀ a, (k0_off11 v20) a + S1x1x64x4096.size a ≤ S32x2x64x4096.size a := fun v20 k0_hw4 => k0_hw4.2.2.1
theorem k0_off11_wordsbf16 : ∀ (v20 : BitVec 32) (k0_hw4 : k0_chk4 v20), (Rect.unit (s := S32x2x64x4096) (k0_off11 v20) S1x1x64x4096.size (k0_off11_inb v20 k0_hw4)).WholeWords (EltTy.packing .bf16) := fun v20 k0_hw4 => k0_hw4.2.2.2.1 (k0_off11_inb v20 k0_hw4)
theorem k0_off369_inb : ∀ (v20 : BitVec 32) (k0_hw4 : k0_chk4 v20), ∀ a, (k0_off369 v20) a + S1x1x64x4096.size a ≤ S32x2x64x4096.size a := fun v20 k0_hw4 => k0_hw4.2.2.2.2.1
theorem k0_off369_wordsbf16 : ∀ (v20 : BitVec 32) (k0_hw4 : k0_chk4 v20), (Rect.unit (s := S32x2x64x4096) (k0_off369 v20) S1x1x64x4096.size (k0_off369_inb v20 k0_hw4)).WholeWords (EltTy.packing .bf16) := fun v20 k0_hw4 => k0_hw4.2.2.2.2.2 (k0_off369_inb v20 k0_hw4)

def k0_off370 (v30 : BitVec 32) : Fin 4 → Nat :=
  let c0_i32_3101 : BitVec 32 := 0#32
  let c0_i32_3109 : BitVec 32 := 0#32
  let c0_i32_3110 : BitVec 32 := 0#32
  ![v30.toNat, 0, 0, 0]

def k0_chk5 (v30 : BitVec 32) : Prop :=
  (∀ a, (k0_off3 v30) a + S1x1x64x4096.size a ≤ S32x2x64x4096.size a) ∧
  (∀ (hinb : ∀ a, (k0_off3 v30) a + S1x1x64x4096.size a ≤ S32x2x64x4096.size a), (Rect.unit (s := S32x2x64x4096) (k0_off3 v30) S1x1x64x4096.size hinb).WholeWords (EltTy.packing .bf16)) ∧
  (∀ a, (k0_off16 v30) a + S1x1x64x4096.size a ≤ S32x2x64x4096.size a) ∧
  (∀ (hinb : ∀ a, (k0_off16 v30) a + S1x1x64x4096.size a ≤ S32x2x64x4096.size a), (Rect.unit (s := S32x2x64x4096) (k0_off16 v30) S1x1x64x4096.size hinb).WholeWords (EltTy.packing .bf16)) ∧
  (∀ a, (k0_off370 v30) a + S1x1x64x4096.size a ≤ S32x2x64x4096.size a) ∧
  (∀ (hinb : ∀ a, (k0_off370 v30) a + S1x1x64x4096.size a ≤ S32x2x64x4096.size a), (Rect.unit (s := S32x2x64x4096) (k0_off370 v30) S1x1x64x4096.size hinb).WholeWords (EltTy.packing .bf16))
theorem k0_off3_inb : ∀ (v30 : BitVec 32) (k0_hw5 : k0_chk5 v30), ∀ a, (k0_off3 v30) a + S1x1x64x4096.size a ≤ S32x2x64x4096.size a := fun v30 k0_hw5 => k0_hw5.1
theorem k0_off3_wordsbf16 : ∀ (v30 : BitVec 32) (k0_hw5 : k0_chk5 v30), (Rect.unit (s := S32x2x64x4096) (k0_off3 v30) S1x1x64x4096.size (k0_off3_inb v30 k0_hw5)).WholeWords (EltTy.packing .bf16) := fun v30 k0_hw5 => k0_hw5.2.1 (k0_off3_inb v30 k0_hw5)
theorem k0_off16_inb : ∀ (v30 : BitVec 32) (k0_hw5 : k0_chk5 v30), ∀ a, (k0_off16 v30) a + S1x1x64x4096.size a ≤ S32x2x64x4096.size a := fun v30 k0_hw5 => k0_hw5.2.2.1
theorem k0_off16_wordsbf16 : ∀ (v30 : BitVec 32) (k0_hw5 : k0_chk5 v30), (Rect.unit (s := S32x2x64x4096) (k0_off16 v30) S1x1x64x4096.size (k0_off16_inb v30 k0_hw5)).WholeWords (EltTy.packing .bf16) := fun v30 k0_hw5 => k0_hw5.2.2.2.1 (k0_off16_inb v30 k0_hw5)
theorem k0_off370_inb : ∀ (v30 : BitVec 32) (k0_hw5 : k0_chk5 v30), ∀ a, (k0_off370 v30) a + S1x1x64x4096.size a ≤ S32x2x64x4096.size a := fun v30 k0_hw5 => k0_hw5.2.2.2.2.1
theorem k0_off370_wordsbf16 : ∀ (v30 : BitVec 32) (k0_hw5 : k0_chk5 v30), (Rect.unit (s := S32x2x64x4096) (k0_off370 v30) S1x1x64x4096.size (k0_off370_inb v30 k0_hw5)).WholeWords (EltTy.packing .bf16) := fun v30 k0_hw5 => k0_hw5.2.2.2.2.2 (k0_off370_inb v30 k0_hw5)

def k0_off371 (v40 : BitVec 32) : Fin 4 → Nat :=
  let c1_i32_3111 : BitVec 32 := 1#32
  let c0_i32_3119 : BitVec 32 := 0#32
  let c0_i32_3120 : BitVec 32 := 0#32
  ![v40.toNat, 1, 0, 0]

def k0_chk6 (v40 : BitVec 32) : Prop :=
  (∀ a, (k0_off4 v40) a + S1x1x64x4096.size a ≤ S32x2x64x4096.size a) ∧
  (∀ (hinb : ∀ a, (k0_off4 v40) a + S1x1x64x4096.size a ≤ S32x2x64x4096.size a), (Rect.unit (s := S32x2x64x4096) (k0_off4 v40) S1x1x64x4096.size hinb).WholeWords (EltTy.packing .bf16)) ∧
  (∀ a, (k0_off21 v40) a + S1x1x64x4096.size a ≤ S32x2x64x4096.size a) ∧
  (∀ (hinb : ∀ a, (k0_off21 v40) a + S1x1x64x4096.size a ≤ S32x2x64x4096.size a), (Rect.unit (s := S32x2x64x4096) (k0_off21 v40) S1x1x64x4096.size hinb).WholeWords (EltTy.packing .bf16)) ∧
  (∀ a, (k0_off371 v40) a + S1x1x64x4096.size a ≤ S32x2x64x4096.size a) ∧
  (∀ (hinb : ∀ a, (k0_off371 v40) a + S1x1x64x4096.size a ≤ S32x2x64x4096.size a), (Rect.unit (s := S32x2x64x4096) (k0_off371 v40) S1x1x64x4096.size hinb).WholeWords (EltTy.packing .bf16))
theorem k0_off4_inb : ∀ (v40 : BitVec 32) (k0_hw6 : k0_chk6 v40), ∀ a, (k0_off4 v40) a + S1x1x64x4096.size a ≤ S32x2x64x4096.size a := fun v40 k0_hw6 => k0_hw6.1
theorem k0_off4_wordsbf16 : ∀ (v40 : BitVec 32) (k0_hw6 : k0_chk6 v40), (Rect.unit (s := S32x2x64x4096) (k0_off4 v40) S1x1x64x4096.size (k0_off4_inb v40 k0_hw6)).WholeWords (EltTy.packing .bf16) := fun v40 k0_hw6 => k0_hw6.2.1 (k0_off4_inb v40 k0_hw6)
theorem k0_off21_inb : ∀ (v40 : BitVec 32) (k0_hw6 : k0_chk6 v40), ∀ a, (k0_off21 v40) a + S1x1x64x4096.size a ≤ S32x2x64x4096.size a := fun v40 k0_hw6 => k0_hw6.2.2.1
theorem k0_off21_wordsbf16 : ∀ (v40 : BitVec 32) (k0_hw6 : k0_chk6 v40), (Rect.unit (s := S32x2x64x4096) (k0_off21 v40) S1x1x64x4096.size (k0_off21_inb v40 k0_hw6)).WholeWords (EltTy.packing .bf16) := fun v40 k0_hw6 => k0_hw6.2.2.2.1 (k0_off21_inb v40 k0_hw6)
theorem k0_off371_inb : ∀ (v40 : BitVec 32) (k0_hw6 : k0_chk6 v40), ∀ a, (k0_off371 v40) a + S1x1x64x4096.size a ≤ S32x2x64x4096.size a := fun v40 k0_hw6 => k0_hw6.2.2.2.2.1
theorem k0_off371_wordsbf16 : ∀ (v40 : BitVec 32) (k0_hw6 : k0_chk6 v40), (Rect.unit (s := S32x2x64x4096) (k0_off371 v40) S1x1x64x4096.size (k0_off371_inb v40 k0_hw6)).WholeWords (EltTy.packing .bf16) := fun v40 k0_hw6 => k0_hw6.2.2.2.2.2 (k0_off371_inb v40 k0_hw6)

def k0_off372 (v71 : BitVec 32) : Fin 4 → Nat :=
  let c0_i32_3122 : BitVec 32 := 0#32
  let c0_i32_3128 : BitVec 32 := 0#32
  let c0_i32_3129 : BitVec 32 := 0#32
  ![v71.toNat, 0, 0, 0]
def k0_off373 (v72 : BitVec 32) : Fin 4 → Nat :=
  let c0_i32_3121 : BitVec 32 := 0#32
  let c0_i32_3130 : BitVec 32 := 0#32
  let c0_i32_3131 : BitVec 32 := 0#32
  ![v72.toNat, 0, 0, 0]

def k0_chk7 (v72 : BitVec 32) : Prop :=
  (∀ a, (k0_off7 v72) a + S1x1x64x4096.size a ≤ S32x2x64x4096.size a) ∧
  (∀ (hinb : ∀ a, (k0_off7 v72) a + S1x1x64x4096.size a ≤ S32x2x64x4096.size a), (Rect.unit (s := S32x2x64x4096) (k0_off7 v72) S1x1x64x4096.size hinb).WholeWords (EltTy.packing .bf16)) ∧
  (∀ a, (k0_off26 v72) a + S1x1x64x4096.size a ≤ S32x2x64x4096.size a) ∧
  (∀ (hinb : ∀ a, (k0_off26 v72) a + S1x1x64x4096.size a ≤ S32x2x64x4096.size a), (Rect.unit (s := S32x2x64x4096) (k0_off26 v72) S1x1x64x4096.size hinb).WholeWords (EltTy.packing .bf16)) ∧
  (∀ a, (k0_off373 v72) a + S1x1x64x4096.size a ≤ S32x2x64x4096.size a) ∧
  (∀ (hinb : ∀ a, (k0_off373 v72) a + S1x1x64x4096.size a ≤ S32x2x64x4096.size a), (Rect.unit (s := S32x2x64x4096) (k0_off373 v72) S1x1x64x4096.size hinb).WholeWords (EltTy.packing .bf16))
theorem k0_off7_inb : ∀ (v72 : BitVec 32) (k0_hw7 : k0_chk7 v72), ∀ a, (k0_off7 v72) a + S1x1x64x4096.size a ≤ S32x2x64x4096.size a := fun v72 k0_hw7 => k0_hw7.1
theorem k0_off7_wordsbf16 : ∀ (v72 : BitVec 32) (k0_hw7 : k0_chk7 v72), (Rect.unit (s := S32x2x64x4096) (k0_off7 v72) S1x1x64x4096.size (k0_off7_inb v72 k0_hw7)).WholeWords (EltTy.packing .bf16) := fun v72 k0_hw7 => k0_hw7.2.1 (k0_off7_inb v72 k0_hw7)
theorem k0_off26_inb : ∀ (v72 : BitVec 32) (k0_hw7 : k0_chk7 v72), ∀ a, (k0_off26 v72) a + S1x1x64x4096.size a ≤ S32x2x64x4096.size a := fun v72 k0_hw7 => k0_hw7.2.2.1
theorem k0_off26_wordsbf16 : ∀ (v72 : BitVec 32) (k0_hw7 : k0_chk7 v72), (Rect.unit (s := S32x2x64x4096) (k0_off26 v72) S1x1x64x4096.size (k0_off26_inb v72 k0_hw7)).WholeWords (EltTy.packing .bf16) := fun v72 k0_hw7 => k0_hw7.2.2.2.1 (k0_off26_inb v72 k0_hw7)
theorem k0_off373_inb : ∀ (v72 : BitVec 32) (k0_hw7 : k0_chk7 v72), ∀ a, (k0_off373 v72) a + S1x1x64x4096.size a ≤ S32x2x64x4096.size a := fun v72 k0_hw7 => k0_hw7.2.2.2.2.1
theorem k0_off373_wordsbf16 : ∀ (v72 : BitVec 32) (k0_hw7 : k0_chk7 v72), (Rect.unit (s := S32x2x64x4096) (k0_off373 v72) S1x1x64x4096.size (k0_off373_inb v72 k0_hw7)).WholeWords (EltTy.packing .bf16) := fun v72 k0_hw7 => k0_hw7.2.2.2.2.2 (k0_off373_inb v72 k0_hw7)

def k0_chk8 (v71 : BitVec 32) : Prop :=
  (∀ a, (k0_off8 v71) a + S1x1x64x4096.size a ≤ S32x2x64x4096.size a) ∧
  (∀ (hinb : ∀ a, (k0_off8 v71) a + S1x1x64x4096.size a ≤ S32x2x64x4096.size a), (Rect.unit (s := S32x2x64x4096) (k0_off8 v71) S1x1x64x4096.size hinb).WholeWords (EltTy.packing .bf16)) ∧
  (∀ a, (k0_off27 v71) a + S1x1x64x4096.size a ≤ S32x2x64x4096.size a) ∧
  (∀ (hinb : ∀ a, (k0_off27 v71) a + S1x1x64x4096.size a ≤ S32x2x64x4096.size a), (Rect.unit (s := S32x2x64x4096) (k0_off27 v71) S1x1x64x4096.size hinb).WholeWords (EltTy.packing .bf16)) ∧
  (∀ a, (k0_off372 v71) a + S1x1x64x4096.size a ≤ S32x2x64x4096.size a) ∧
  (∀ (hinb : ∀ a, (k0_off372 v71) a + S1x1x64x4096.size a ≤ S32x2x64x4096.size a), (Rect.unit (s := S32x2x64x4096) (k0_off372 v71) S1x1x64x4096.size hinb).WholeWords (EltTy.packing .bf16))
theorem k0_off8_inb : ∀ (v71 : BitVec 32) (k0_hw8 : k0_chk8 v71), ∀ a, (k0_off8 v71) a + S1x1x64x4096.size a ≤ S32x2x64x4096.size a := fun v71 k0_hw8 => k0_hw8.1
theorem k0_off8_wordsbf16 : ∀ (v71 : BitVec 32) (k0_hw8 : k0_chk8 v71), (Rect.unit (s := S32x2x64x4096) (k0_off8 v71) S1x1x64x4096.size (k0_off8_inb v71 k0_hw8)).WholeWords (EltTy.packing .bf16) := fun v71 k0_hw8 => k0_hw8.2.1 (k0_off8_inb v71 k0_hw8)
theorem k0_off27_inb : ∀ (v71 : BitVec 32) (k0_hw8 : k0_chk8 v71), ∀ a, (k0_off27 v71) a + S1x1x64x4096.size a ≤ S32x2x64x4096.size a := fun v71 k0_hw8 => k0_hw8.2.2.1
theorem k0_off27_wordsbf16 : ∀ (v71 : BitVec 32) (k0_hw8 : k0_chk8 v71), (Rect.unit (s := S32x2x64x4096) (k0_off27 v71) S1x1x64x4096.size (k0_off27_inb v71 k0_hw8)).WholeWords (EltTy.packing .bf16) := fun v71 k0_hw8 => k0_hw8.2.2.2.1 (k0_off27_inb v71 k0_hw8)
theorem k0_off372_inb : ∀ (v71 : BitVec 32) (k0_hw8 : k0_chk8 v71), ∀ a, (k0_off372 v71) a + S1x1x64x4096.size a ≤ S32x2x64x4096.size a := fun v71 k0_hw8 => k0_hw8.2.2.2.2.1
theorem k0_off372_wordsbf16 : ∀ (v71 : BitVec 32) (k0_hw8 : k0_chk8 v71), (Rect.unit (s := S32x2x64x4096) (k0_off372 v71) S1x1x64x4096.size (k0_off372_inb v71 k0_hw8)).WholeWords (EltTy.packing .bf16) := fun v71 k0_hw8 => k0_hw8.2.2.2.2.2 (k0_off372_inb v71 k0_hw8)

def k0_off374 (v108 : BitVec 32) : Fin 4 → Nat :=
  let c1_i32_3133 : BitVec 32 := 1#32
  let c0_i32_3139 : BitVec 32 := 0#32
  let c0_i32_3140 : BitVec 32 := 0#32
  ![v108.toNat, 1, 0, 0]
def k0_off375 (v109 : BitVec 32) : Fin 4 → Nat :=
  let c1_i32_3132 : BitVec 32 := 1#32
  let c0_i32_3141 : BitVec 32 := 0#32
  let c0_i32_3142 : BitVec 32 := 0#32
  ![v109.toNat, 1, 0, 0]

def k0_chk10 (v109 : BitVec 32) : Prop :=
  (∀ a, (k0_off12 v109) a + S1x1x64x4096.size a ≤ S32x2x64x4096.size a) ∧
  (∀ (hinb : ∀ a, (k0_off12 v109) a + S1x1x64x4096.size a ≤ S32x2x64x4096.size a), (Rect.unit (s := S32x2x64x4096) (k0_off12 v109) S1x1x64x4096.size hinb).WholeWords (EltTy.packing .bf16)) ∧
  (∀ a, (k0_off32 v109) a + S1x1x64x4096.size a ≤ S32x2x64x4096.size a) ∧
  (∀ (hinb : ∀ a, (k0_off32 v109) a + S1x1x64x4096.size a ≤ S32x2x64x4096.size a), (Rect.unit (s := S32x2x64x4096) (k0_off32 v109) S1x1x64x4096.size hinb).WholeWords (EltTy.packing .bf16)) ∧
  (∀ a, (k0_off375 v109) a + S1x1x64x4096.size a ≤ S32x2x64x4096.size a) ∧
  (∀ (hinb : ∀ a, (k0_off375 v109) a + S1x1x64x4096.size a ≤ S32x2x64x4096.size a), (Rect.unit (s := S32x2x64x4096) (k0_off375 v109) S1x1x64x4096.size hinb).WholeWords (EltTy.packing .bf16))
theorem k0_off12_inb : ∀ (v109 : BitVec 32) (k0_hw10 : k0_chk10 v109), ∀ a, (k0_off12 v109) a + S1x1x64x4096.size a ≤ S32x2x64x4096.size a := fun v109 k0_hw10 => k0_hw10.1
theorem k0_off12_wordsbf16 : ∀ (v109 : BitVec 32) (k0_hw10 : k0_chk10 v109), (Rect.unit (s := S32x2x64x4096) (k0_off12 v109) S1x1x64x4096.size (k0_off12_inb v109 k0_hw10)).WholeWords (EltTy.packing .bf16) := fun v109 k0_hw10 => k0_hw10.2.1 (k0_off12_inb v109 k0_hw10)
theorem k0_off32_inb : ∀ (v109 : BitVec 32) (k0_hw10 : k0_chk10 v109), ∀ a, (k0_off32 v109) a + S1x1x64x4096.size a ≤ S32x2x64x4096.size a := fun v109 k0_hw10 => k0_hw10.2.2.1
theorem k0_off32_wordsbf16 : ∀ (v109 : BitVec 32) (k0_hw10 : k0_chk10 v109), (Rect.unit (s := S32x2x64x4096) (k0_off32 v109) S1x1x64x4096.size (k0_off32_inb v109 k0_hw10)).WholeWords (EltTy.packing .bf16) := fun v109 k0_hw10 => k0_hw10.2.2.2.1 (k0_off32_inb v109 k0_hw10)
theorem k0_off375_inb : ∀ (v109 : BitVec 32) (k0_hw10 : k0_chk10 v109), ∀ a, (k0_off375 v109) a + S1x1x64x4096.size a ≤ S32x2x64x4096.size a := fun v109 k0_hw10 => k0_hw10.2.2.2.2.1
theorem k0_off375_wordsbf16 : ∀ (v109 : BitVec 32) (k0_hw10 : k0_chk10 v109), (Rect.unit (s := S32x2x64x4096) (k0_off375 v109) S1x1x64x4096.size (k0_off375_inb v109 k0_hw10)).WholeWords (EltTy.packing .bf16) := fun v109 k0_hw10 => k0_hw10.2.2.2.2.2 (k0_off375_inb v109 k0_hw10)

def k0_chk11 (v108 : BitVec 32) : Prop :=
  (∀ a, (k0_off13 v108) a + S1x1x64x4096.size a ≤ S32x2x64x4096.size a) ∧
  (∀ (hinb : ∀ a, (k0_off13 v108) a + S1x1x64x4096.size a ≤ S32x2x64x4096.size a), (Rect.unit (s := S32x2x64x4096) (k0_off13 v108) S1x1x64x4096.size hinb).WholeWords (EltTy.packing .bf16)) ∧
  (∀ a, (k0_off33 v108) a + S1x1x64x4096.size a ≤ S32x2x64x4096.size a) ∧
  (∀ (hinb : ∀ a, (k0_off33 v108) a + S1x1x64x4096.size a ≤ S32x2x64x4096.size a), (Rect.unit (s := S32x2x64x4096) (k0_off33 v108) S1x1x64x4096.size hinb).WholeWords (EltTy.packing .bf16)) ∧
  (∀ a, (k0_off374 v108) a + S1x1x64x4096.size a ≤ S32x2x64x4096.size a) ∧
  (∀ (hinb : ∀ a, (k0_off374 v108) a + S1x1x64x4096.size a ≤ S32x2x64x4096.size a), (Rect.unit (s := S32x2x64x4096) (k0_off374 v108) S1x1x64x4096.size hinb).WholeWords (EltTy.packing .bf16))
theorem k0_off13_inb : ∀ (v108 : BitVec 32) (k0_hw11 : k0_chk11 v108), ∀ a, (k0_off13 v108) a + S1x1x64x4096.size a ≤ S32x2x64x4096.size a := fun v108 k0_hw11 => k0_hw11.1
theorem k0_off13_wordsbf16 : ∀ (v108 : BitVec 32) (k0_hw11 : k0_chk11 v108), (Rect.unit (s := S32x2x64x4096) (k0_off13 v108) S1x1x64x4096.size (k0_off13_inb v108 k0_hw11)).WholeWords (EltTy.packing .bf16) := fun v108 k0_hw11 => k0_hw11.2.1 (k0_off13_inb v108 k0_hw11)
theorem k0_off33_inb : ∀ (v108 : BitVec 32) (k0_hw11 : k0_chk11 v108), ∀ a, (k0_off33 v108) a + S1x1x64x4096.size a ≤ S32x2x64x4096.size a := fun v108 k0_hw11 => k0_hw11.2.2.1
theorem k0_off33_wordsbf16 : ∀ (v108 : BitVec 32) (k0_hw11 : k0_chk11 v108), (Rect.unit (s := S32x2x64x4096) (k0_off33 v108) S1x1x64x4096.size (k0_off33_inb v108 k0_hw11)).WholeWords (EltTy.packing .bf16) := fun v108 k0_hw11 => k0_hw11.2.2.2.1 (k0_off33_inb v108 k0_hw11)
theorem k0_off374_inb : ∀ (v108 : BitVec 32) (k0_hw11 : k0_chk11 v108), ∀ a, (k0_off374 v108) a + S1x1x64x4096.size a ≤ S32x2x64x4096.size a := fun v108 k0_hw11 => k0_hw11.2.2.2.2.1
theorem k0_off374_wordsbf16 : ∀ (v108 : BitVec 32) (k0_hw11 : k0_chk11 v108), (Rect.unit (s := S32x2x64x4096) (k0_off374 v108) S1x1x64x4096.size (k0_off374_inb v108 k0_hw11)).WholeWords (EltTy.packing .bf16) := fun v108 k0_hw11 => k0_hw11.2.2.2.2.2 (k0_off374_inb v108 k0_hw11)

def k0_off376 (v145 : BitVec 32) : Fin 4 → Nat :=
  let c0_i32_3144 : BitVec 32 := 0#32
  let c0_i32_3150 : BitVec 32 := 0#32
  let c0_i32_3151 : BitVec 32 := 0#32
  ![v145.toNat, 0, 0, 0]
def k0_off377 (v146 : BitVec 32) : Fin 4 → Nat :=
  let c0_i32_3143 : BitVec 32 := 0#32
  let c0_i32_3152 : BitVec 32 := 0#32
  let c0_i32_3153 : BitVec 32 := 0#32
  ![v146.toNat, 0, 0, 0]

def k0_chk13 (v146 : BitVec 32) : Prop :=
  (∀ a, (k0_off17 v146) a + S1x1x64x4096.size a ≤ S32x2x64x4096.size a) ∧
  (∀ (hinb : ∀ a, (k0_off17 v146) a + S1x1x64x4096.size a ≤ S32x2x64x4096.size a), (Rect.unit (s := S32x2x64x4096) (k0_off17 v146) S1x1x64x4096.size hinb).WholeWords (EltTy.packing .bf16)) ∧
  (∀ a, (k0_off38 v146) a + S1x1x64x4096.size a ≤ S32x2x64x4096.size a) ∧
  (∀ (hinb : ∀ a, (k0_off38 v146) a + S1x1x64x4096.size a ≤ S32x2x64x4096.size a), (Rect.unit (s := S32x2x64x4096) (k0_off38 v146) S1x1x64x4096.size hinb).WholeWords (EltTy.packing .bf16)) ∧
  (∀ a, (k0_off377 v146) a + S1x1x64x4096.size a ≤ S32x2x64x4096.size a) ∧
  (∀ (hinb : ∀ a, (k0_off377 v146) a + S1x1x64x4096.size a ≤ S32x2x64x4096.size a), (Rect.unit (s := S32x2x64x4096) (k0_off377 v146) S1x1x64x4096.size hinb).WholeWords (EltTy.packing .bf16))
theorem k0_off17_inb : ∀ (v146 : BitVec 32) (k0_hw13 : k0_chk13 v146), ∀ a, (k0_off17 v146) a + S1x1x64x4096.size a ≤ S32x2x64x4096.size a := fun v146 k0_hw13 => k0_hw13.1
theorem k0_off17_wordsbf16 : ∀ (v146 : BitVec 32) (k0_hw13 : k0_chk13 v146), (Rect.unit (s := S32x2x64x4096) (k0_off17 v146) S1x1x64x4096.size (k0_off17_inb v146 k0_hw13)).WholeWords (EltTy.packing .bf16) := fun v146 k0_hw13 => k0_hw13.2.1 (k0_off17_inb v146 k0_hw13)
theorem k0_off38_inb : ∀ (v146 : BitVec 32) (k0_hw13 : k0_chk13 v146), ∀ a, (k0_off38 v146) a + S1x1x64x4096.size a ≤ S32x2x64x4096.size a := fun v146 k0_hw13 => k0_hw13.2.2.1
theorem k0_off38_wordsbf16 : ∀ (v146 : BitVec 32) (k0_hw13 : k0_chk13 v146), (Rect.unit (s := S32x2x64x4096) (k0_off38 v146) S1x1x64x4096.size (k0_off38_inb v146 k0_hw13)).WholeWords (EltTy.packing .bf16) := fun v146 k0_hw13 => k0_hw13.2.2.2.1 (k0_off38_inb v146 k0_hw13)
theorem k0_off377_inb : ∀ (v146 : BitVec 32) (k0_hw13 : k0_chk13 v146), ∀ a, (k0_off377 v146) a + S1x1x64x4096.size a ≤ S32x2x64x4096.size a := fun v146 k0_hw13 => k0_hw13.2.2.2.2.1
theorem k0_off377_wordsbf16 : ∀ (v146 : BitVec 32) (k0_hw13 : k0_chk13 v146), (Rect.unit (s := S32x2x64x4096) (k0_off377 v146) S1x1x64x4096.size (k0_off377_inb v146 k0_hw13)).WholeWords (EltTy.packing .bf16) := fun v146 k0_hw13 => k0_hw13.2.2.2.2.2 (k0_off377_inb v146 k0_hw13)

def k0_chk14 (v145 : BitVec 32) : Prop :=
  (∀ a, (k0_off18 v145) a + S1x1x64x4096.size a ≤ S32x2x64x4096.size a) ∧
  (∀ (hinb : ∀ a, (k0_off18 v145) a + S1x1x64x4096.size a ≤ S32x2x64x4096.size a), (Rect.unit (s := S32x2x64x4096) (k0_off18 v145) S1x1x64x4096.size hinb).WholeWords (EltTy.packing .bf16)) ∧
  (∀ a, (k0_off39 v145) a + S1x1x64x4096.size a ≤ S32x2x64x4096.size a) ∧
  (∀ (hinb : ∀ a, (k0_off39 v145) a + S1x1x64x4096.size a ≤ S32x2x64x4096.size a), (Rect.unit (s := S32x2x64x4096) (k0_off39 v145) S1x1x64x4096.size hinb).WholeWords (EltTy.packing .bf16)) ∧
  (∀ a, (k0_off376 v145) a + S1x1x64x4096.size a ≤ S32x2x64x4096.size a) ∧
  (∀ (hinb : ∀ a, (k0_off376 v145) a + S1x1x64x4096.size a ≤ S32x2x64x4096.size a), (Rect.unit (s := S32x2x64x4096) (k0_off376 v145) S1x1x64x4096.size hinb).WholeWords (EltTy.packing .bf16))
theorem k0_off18_inb : ∀ (v145 : BitVec 32) (k0_hw14 : k0_chk14 v145), ∀ a, (k0_off18 v145) a + S1x1x64x4096.size a ≤ S32x2x64x4096.size a := fun v145 k0_hw14 => k0_hw14.1
theorem k0_off18_wordsbf16 : ∀ (v145 : BitVec 32) (k0_hw14 : k0_chk14 v145), (Rect.unit (s := S32x2x64x4096) (k0_off18 v145) S1x1x64x4096.size (k0_off18_inb v145 k0_hw14)).WholeWords (EltTy.packing .bf16) := fun v145 k0_hw14 => k0_hw14.2.1 (k0_off18_inb v145 k0_hw14)
theorem k0_off39_inb : ∀ (v145 : BitVec 32) (k0_hw14 : k0_chk14 v145), ∀ a, (k0_off39 v145) a + S1x1x64x4096.size a ≤ S32x2x64x4096.size a := fun v145 k0_hw14 => k0_hw14.2.2.1
theorem k0_off39_wordsbf16 : ∀ (v145 : BitVec 32) (k0_hw14 : k0_chk14 v145), (Rect.unit (s := S32x2x64x4096) (k0_off39 v145) S1x1x64x4096.size (k0_off39_inb v145 k0_hw14)).WholeWords (EltTy.packing .bf16) := fun v145 k0_hw14 => k0_hw14.2.2.2.1 (k0_off39_inb v145 k0_hw14)
theorem k0_off376_inb : ∀ (v145 : BitVec 32) (k0_hw14 : k0_chk14 v145), ∀ a, (k0_off376 v145) a + S1x1x64x4096.size a ≤ S32x2x64x4096.size a := fun v145 k0_hw14 => k0_hw14.2.2.2.2.1
theorem k0_off376_wordsbf16 : ∀ (v145 : BitVec 32) (k0_hw14 : k0_chk14 v145), (Rect.unit (s := S32x2x64x4096) (k0_off376 v145) S1x1x64x4096.size (k0_off376_inb v145 k0_hw14)).WholeWords (EltTy.packing .bf16) := fun v145 k0_hw14 => k0_hw14.2.2.2.2.2 (k0_off376_inb v145 k0_hw14)

def k0_off378 (v182 : BitVec 32) : Fin 4 → Nat :=
  let c1_i32_3155 : BitVec 32 := 1#32
  let c0_i32_3161 : BitVec 32 := 0#32
  let c0_i32_3162 : BitVec 32 := 0#32
  ![v182.toNat, 1, 0, 0]
def k0_off379 (v183 : BitVec 32) : Fin 4 → Nat :=
  let c1_i32_3154 : BitVec 32 := 1#32
  let c0_i32_3163 : BitVec 32 := 0#32
  let c0_i32_3164 : BitVec 32 := 0#32
  ![v183.toNat, 1, 0, 0]

def k0_chk16 (v183 : BitVec 32) : Prop :=
  (∀ a, (k0_off22 v183) a + S1x1x64x4096.size a ≤ S32x2x64x4096.size a) ∧
  (∀ (hinb : ∀ a, (k0_off22 v183) a + S1x1x64x4096.size a ≤ S32x2x64x4096.size a), (Rect.unit (s := S32x2x64x4096) (k0_off22 v183) S1x1x64x4096.size hinb).WholeWords (EltTy.packing .bf16)) ∧
  (∀ a, (k0_off44 v183) a + S1x1x64x4096.size a ≤ S32x2x64x4096.size a) ∧
  (∀ (hinb : ∀ a, (k0_off44 v183) a + S1x1x64x4096.size a ≤ S32x2x64x4096.size a), (Rect.unit (s := S32x2x64x4096) (k0_off44 v183) S1x1x64x4096.size hinb).WholeWords (EltTy.packing .bf16)) ∧
  (∀ a, (k0_off379 v183) a + S1x1x64x4096.size a ≤ S32x2x64x4096.size a) ∧
  (∀ (hinb : ∀ a, (k0_off379 v183) a + S1x1x64x4096.size a ≤ S32x2x64x4096.size a), (Rect.unit (s := S32x2x64x4096) (k0_off379 v183) S1x1x64x4096.size hinb).WholeWords (EltTy.packing .bf16))
theorem k0_off22_inb : ∀ (v183 : BitVec 32) (k0_hw16 : k0_chk16 v183), ∀ a, (k0_off22 v183) a + S1x1x64x4096.size a ≤ S32x2x64x4096.size a := fun v183 k0_hw16 => k0_hw16.1
theorem k0_off22_wordsbf16 : ∀ (v183 : BitVec 32) (k0_hw16 : k0_chk16 v183), (Rect.unit (s := S32x2x64x4096) (k0_off22 v183) S1x1x64x4096.size (k0_off22_inb v183 k0_hw16)).WholeWords (EltTy.packing .bf16) := fun v183 k0_hw16 => k0_hw16.2.1 (k0_off22_inb v183 k0_hw16)
theorem k0_off44_inb : ∀ (v183 : BitVec 32) (k0_hw16 : k0_chk16 v183), ∀ a, (k0_off44 v183) a + S1x1x64x4096.size a ≤ S32x2x64x4096.size a := fun v183 k0_hw16 => k0_hw16.2.2.1
theorem k0_off44_wordsbf16 : ∀ (v183 : BitVec 32) (k0_hw16 : k0_chk16 v183), (Rect.unit (s := S32x2x64x4096) (k0_off44 v183) S1x1x64x4096.size (k0_off44_inb v183 k0_hw16)).WholeWords (EltTy.packing .bf16) := fun v183 k0_hw16 => k0_hw16.2.2.2.1 (k0_off44_inb v183 k0_hw16)
theorem k0_off379_inb : ∀ (v183 : BitVec 32) (k0_hw16 : k0_chk16 v183), ∀ a, (k0_off379 v183) a + S1x1x64x4096.size a ≤ S32x2x64x4096.size a := fun v183 k0_hw16 => k0_hw16.2.2.2.2.1
theorem k0_off379_wordsbf16 : ∀ (v183 : BitVec 32) (k0_hw16 : k0_chk16 v183), (Rect.unit (s := S32x2x64x4096) (k0_off379 v183) S1x1x64x4096.size (k0_off379_inb v183 k0_hw16)).WholeWords (EltTy.packing .bf16) := fun v183 k0_hw16 => k0_hw16.2.2.2.2.2 (k0_off379_inb v183 k0_hw16)

def k0_chk17 (v182 : BitVec 32) : Prop :=
  (∀ a, (k0_off23 v182) a + S1x1x64x4096.size a ≤ S32x2x64x4096.size a) ∧
  (∀ (hinb : ∀ a, (k0_off23 v182) a + S1x1x64x4096.size a ≤ S32x2x64x4096.size a), (Rect.unit (s := S32x2x64x4096) (k0_off23 v182) S1x1x64x4096.size hinb).WholeWords (EltTy.packing .bf16)) ∧
  (∀ a, (k0_off45 v182) a + S1x1x64x4096.size a ≤ S32x2x64x4096.size a) ∧
  (∀ (hinb : ∀ a, (k0_off45 v182) a + S1x1x64x4096.size a ≤ S32x2x64x4096.size a), (Rect.unit (s := S32x2x64x4096) (k0_off45 v182) S1x1x64x4096.size hinb).WholeWords (EltTy.packing .bf16)) ∧
  (∀ a, (k0_off378 v182) a + S1x1x64x4096.size a ≤ S32x2x64x4096.size a) ∧
  (∀ (hinb : ∀ a, (k0_off378 v182) a + S1x1x64x4096.size a ≤ S32x2x64x4096.size a), (Rect.unit (s := S32x2x64x4096) (k0_off378 v182) S1x1x64x4096.size hinb).WholeWords (EltTy.packing .bf16))
theorem k0_off23_inb : ∀ (v182 : BitVec 32) (k0_hw17 : k0_chk17 v182), ∀ a, (k0_off23 v182) a + S1x1x64x4096.size a ≤ S32x2x64x4096.size a := fun v182 k0_hw17 => k0_hw17.1
theorem k0_off23_wordsbf16 : ∀ (v182 : BitVec 32) (k0_hw17 : k0_chk17 v182), (Rect.unit (s := S32x2x64x4096) (k0_off23 v182) S1x1x64x4096.size (k0_off23_inb v182 k0_hw17)).WholeWords (EltTy.packing .bf16) := fun v182 k0_hw17 => k0_hw17.2.1 (k0_off23_inb v182 k0_hw17)
theorem k0_off45_inb : ∀ (v182 : BitVec 32) (k0_hw17 : k0_chk17 v182), ∀ a, (k0_off45 v182) a + S1x1x64x4096.size a ≤ S32x2x64x4096.size a := fun v182 k0_hw17 => k0_hw17.2.2.1
theorem k0_off45_wordsbf16 : ∀ (v182 : BitVec 32) (k0_hw17 : k0_chk17 v182), (Rect.unit (s := S32x2x64x4096) (k0_off45 v182) S1x1x64x4096.size (k0_off45_inb v182 k0_hw17)).WholeWords (EltTy.packing .bf16) := fun v182 k0_hw17 => k0_hw17.2.2.2.1 (k0_off45_inb v182 k0_hw17)
theorem k0_off378_inb : ∀ (v182 : BitVec 32) (k0_hw17 : k0_chk17 v182), ∀ a, (k0_off378 v182) a + S1x1x64x4096.size a ≤ S32x2x64x4096.size a := fun v182 k0_hw17 => k0_hw17.2.2.2.2.1
theorem k0_off378_wordsbf16 : ∀ (v182 : BitVec 32) (k0_hw17 : k0_chk17 v182), (Rect.unit (s := S32x2x64x4096) (k0_off378 v182) S1x1x64x4096.size (k0_off378_inb v182 k0_hw17)).WholeWords (EltTy.packing .bf16) := fun v182 k0_hw17 => k0_hw17.2.2.2.2.2 (k0_off378_inb v182 k0_hw17)

def k0_off380 (v220 : BitVec 32) : Fin 4 → Nat :=
  let c0_i32_3166 : BitVec 32 := 0#32
  let c0_i32_3172 : BitVec 32 := 0#32
  let c0_i32_3173 : BitVec 32 := 0#32
  ![v220.toNat, 0, 0, 0]
def k0_off381 (v221 : BitVec 32) : Fin 4 → Nat :=
  let c0_i32_3165 : BitVec 32 := 0#32
  let c0_i32_3174 : BitVec 32 := 0#32
  let c0_i32_3175 : BitVec 32 := 0#32
  ![v221.toNat, 0, 0, 0]

def k0_chk19 (v221 : BitVec 32) : Prop :=
  (∀ a, (k0_off28 v221) a + S1x1x64x4096.size a ≤ S32x2x64x4096.size a) ∧
  (∀ (hinb : ∀ a, (k0_off28 v221) a + S1x1x64x4096.size a ≤ S32x2x64x4096.size a), (Rect.unit (s := S32x2x64x4096) (k0_off28 v221) S1x1x64x4096.size hinb).WholeWords (EltTy.packing .bf16)) ∧
  (∀ a, (k0_off50 v221) a + S1x1x64x4096.size a ≤ S32x2x64x4096.size a) ∧
  (∀ (hinb : ∀ a, (k0_off50 v221) a + S1x1x64x4096.size a ≤ S32x2x64x4096.size a), (Rect.unit (s := S32x2x64x4096) (k0_off50 v221) S1x1x64x4096.size hinb).WholeWords (EltTy.packing .bf16)) ∧
  (∀ a, (k0_off381 v221) a + S1x1x64x4096.size a ≤ S32x2x64x4096.size a) ∧
  (∀ (hinb : ∀ a, (k0_off381 v221) a + S1x1x64x4096.size a ≤ S32x2x64x4096.size a), (Rect.unit (s := S32x2x64x4096) (k0_off381 v221) S1x1x64x4096.size hinb).WholeWords (EltTy.packing .bf16))
theorem k0_off28_inb : ∀ (v221 : BitVec 32) (k0_hw19 : k0_chk19 v221), ∀ a, (k0_off28 v221) a + S1x1x64x4096.size a ≤ S32x2x64x4096.size a := fun v221 k0_hw19 => k0_hw19.1
theorem k0_off28_wordsbf16 : ∀ (v221 : BitVec 32) (k0_hw19 : k0_chk19 v221), (Rect.unit (s := S32x2x64x4096) (k0_off28 v221) S1x1x64x4096.size (k0_off28_inb v221 k0_hw19)).WholeWords (EltTy.packing .bf16) := fun v221 k0_hw19 => k0_hw19.2.1 (k0_off28_inb v221 k0_hw19)
theorem k0_off50_inb : ∀ (v221 : BitVec 32) (k0_hw19 : k0_chk19 v221), ∀ a, (k0_off50 v221) a + S1x1x64x4096.size a ≤ S32x2x64x4096.size a := fun v221 k0_hw19 => k0_hw19.2.2.1
theorem k0_off50_wordsbf16 : ∀ (v221 : BitVec 32) (k0_hw19 : k0_chk19 v221), (Rect.unit (s := S32x2x64x4096) (k0_off50 v221) S1x1x64x4096.size (k0_off50_inb v221 k0_hw19)).WholeWords (EltTy.packing .bf16) := fun v221 k0_hw19 => k0_hw19.2.2.2.1 (k0_off50_inb v221 k0_hw19)
theorem k0_off381_inb : ∀ (v221 : BitVec 32) (k0_hw19 : k0_chk19 v221), ∀ a, (k0_off381 v221) a + S1x1x64x4096.size a ≤ S32x2x64x4096.size a := fun v221 k0_hw19 => k0_hw19.2.2.2.2.1
theorem k0_off381_wordsbf16 : ∀ (v221 : BitVec 32) (k0_hw19 : k0_chk19 v221), (Rect.unit (s := S32x2x64x4096) (k0_off381 v221) S1x1x64x4096.size (k0_off381_inb v221 k0_hw19)).WholeWords (EltTy.packing .bf16) := fun v221 k0_hw19 => k0_hw19.2.2.2.2.2 (k0_off381_inb v221 k0_hw19)

def k0_chk20 (v220 : BitVec 32) : Prop :=
  (∀ a, (k0_off29 v220) a + S1x1x64x4096.size a ≤ S32x2x64x4096.size a) ∧
  (∀ (hinb : ∀ a, (k0_off29 v220) a + S1x1x64x4096.size a ≤ S32x2x64x4096.size a), (Rect.unit (s := S32x2x64x4096) (k0_off29 v220) S1x1x64x4096.size hinb).WholeWords (EltTy.packing .bf16)) ∧
  (∀ a, (k0_off51 v220) a + S1x1x64x4096.size a ≤ S32x2x64x4096.size a) ∧
  (∀ (hinb : ∀ a, (k0_off51 v220) a + S1x1x64x4096.size a ≤ S32x2x64x4096.size a), (Rect.unit (s := S32x2x64x4096) (k0_off51 v220) S1x1x64x4096.size hinb).WholeWords (EltTy.packing .bf16)) ∧
  (∀ a, (k0_off380 v220) a + S1x1x64x4096.size a ≤ S32x2x64x4096.size a) ∧
  (∀ (hinb : ∀ a, (k0_off380 v220) a + S1x1x64x4096.size a ≤ S32x2x64x4096.size a), (Rect.unit (s := S32x2x64x4096) (k0_off380 v220) S1x1x64x4096.size hinb).WholeWords (EltTy.packing .bf16))
theorem k0_off29_inb : ∀ (v220 : BitVec 32) (k0_hw20 : k0_chk20 v220), ∀ a, (k0_off29 v220) a + S1x1x64x4096.size a ≤ S32x2x64x4096.size a := fun v220 k0_hw20 => k0_hw20.1
theorem k0_off29_wordsbf16 : ∀ (v220 : BitVec 32) (k0_hw20 : k0_chk20 v220), (Rect.unit (s := S32x2x64x4096) (k0_off29 v220) S1x1x64x4096.size (k0_off29_inb v220 k0_hw20)).WholeWords (EltTy.packing .bf16) := fun v220 k0_hw20 => k0_hw20.2.1 (k0_off29_inb v220 k0_hw20)
theorem k0_off51_inb : ∀ (v220 : BitVec 32) (k0_hw20 : k0_chk20 v220), ∀ a, (k0_off51 v220) a + S1x1x64x4096.size a ≤ S32x2x64x4096.size a := fun v220 k0_hw20 => k0_hw20.2.2.1
theorem k0_off51_wordsbf16 : ∀ (v220 : BitVec 32) (k0_hw20 : k0_chk20 v220), (Rect.unit (s := S32x2x64x4096) (k0_off51 v220) S1x1x64x4096.size (k0_off51_inb v220 k0_hw20)).WholeWords (EltTy.packing .bf16) := fun v220 k0_hw20 => k0_hw20.2.2.2.1 (k0_off51_inb v220 k0_hw20)
theorem k0_off380_inb : ∀ (v220 : BitVec 32) (k0_hw20 : k0_chk20 v220), ∀ a, (k0_off380 v220) a + S1x1x64x4096.size a ≤ S32x2x64x4096.size a := fun v220 k0_hw20 => k0_hw20.2.2.2.2.1
theorem k0_off380_wordsbf16 : ∀ (v220 : BitVec 32) (k0_hw20 : k0_chk20 v220), (Rect.unit (s := S32x2x64x4096) (k0_off380 v220) S1x1x64x4096.size (k0_off380_inb v220 k0_hw20)).WholeWords (EltTy.packing .bf16) := fun v220 k0_hw20 => k0_hw20.2.2.2.2.2 (k0_off380_inb v220 k0_hw20)

def k0_off382 (v258 : BitVec 32) : Fin 4 → Nat :=
  let c1_i32_3177 : BitVec 32 := 1#32
  let c0_i32_3183 : BitVec 32 := 0#32
  let c0_i32_3184 : BitVec 32 := 0#32
  ![v258.toNat, 1, 0, 0]
def k0_off383 (v259 : BitVec 32) : Fin 4 → Nat :=
  let c1_i32_3176 : BitVec 32 := 1#32
  let c0_i32_3185 : BitVec 32 := 0#32
  let c0_i32_3186 : BitVec 32 := 0#32
  ![v259.toNat, 1, 0, 0]

def k0_chk22 (v259 : BitVec 32) : Prop :=
  (∀ a, (k0_off34 v259) a + S1x1x64x4096.size a ≤ S32x2x64x4096.size a) ∧
  (∀ (hinb : ∀ a, (k0_off34 v259) a + S1x1x64x4096.size a ≤ S32x2x64x4096.size a), (Rect.unit (s := S32x2x64x4096) (k0_off34 v259) S1x1x64x4096.size hinb).WholeWords (EltTy.packing .bf16)) ∧
  (∀ a, (k0_off56 v259) a + S1x1x64x4096.size a ≤ S32x2x64x4096.size a) ∧
  (∀ (hinb : ∀ a, (k0_off56 v259) a + S1x1x64x4096.size a ≤ S32x2x64x4096.size a), (Rect.unit (s := S32x2x64x4096) (k0_off56 v259) S1x1x64x4096.size hinb).WholeWords (EltTy.packing .bf16)) ∧
  (∀ a, (k0_off383 v259) a + S1x1x64x4096.size a ≤ S32x2x64x4096.size a) ∧
  (∀ (hinb : ∀ a, (k0_off383 v259) a + S1x1x64x4096.size a ≤ S32x2x64x4096.size a), (Rect.unit (s := S32x2x64x4096) (k0_off383 v259) S1x1x64x4096.size hinb).WholeWords (EltTy.packing .bf16))
theorem k0_off34_inb : ∀ (v259 : BitVec 32) (k0_hw22 : k0_chk22 v259), ∀ a, (k0_off34 v259) a + S1x1x64x4096.size a ≤ S32x2x64x4096.size a := fun v259 k0_hw22 => k0_hw22.1
theorem k0_off34_wordsbf16 : ∀ (v259 : BitVec 32) (k0_hw22 : k0_chk22 v259), (Rect.unit (s := S32x2x64x4096) (k0_off34 v259) S1x1x64x4096.size (k0_off34_inb v259 k0_hw22)).WholeWords (EltTy.packing .bf16) := fun v259 k0_hw22 => k0_hw22.2.1 (k0_off34_inb v259 k0_hw22)
theorem k0_off56_inb : ∀ (v259 : BitVec 32) (k0_hw22 : k0_chk22 v259), ∀ a, (k0_off56 v259) a + S1x1x64x4096.size a ≤ S32x2x64x4096.size a := fun v259 k0_hw22 => k0_hw22.2.2.1
theorem k0_off56_wordsbf16 : ∀ (v259 : BitVec 32) (k0_hw22 : k0_chk22 v259), (Rect.unit (s := S32x2x64x4096) (k0_off56 v259) S1x1x64x4096.size (k0_off56_inb v259 k0_hw22)).WholeWords (EltTy.packing .bf16) := fun v259 k0_hw22 => k0_hw22.2.2.2.1 (k0_off56_inb v259 k0_hw22)
theorem k0_off383_inb : ∀ (v259 : BitVec 32) (k0_hw22 : k0_chk22 v259), ∀ a, (k0_off383 v259) a + S1x1x64x4096.size a ≤ S32x2x64x4096.size a := fun v259 k0_hw22 => k0_hw22.2.2.2.2.1
theorem k0_off383_wordsbf16 : ∀ (v259 : BitVec 32) (k0_hw22 : k0_chk22 v259), (Rect.unit (s := S32x2x64x4096) (k0_off383 v259) S1x1x64x4096.size (k0_off383_inb v259 k0_hw22)).WholeWords (EltTy.packing .bf16) := fun v259 k0_hw22 => k0_hw22.2.2.2.2.2 (k0_off383_inb v259 k0_hw22)

def k0_chk23 (v258 : BitVec 32) : Prop :=
  (∀ a, (k0_off35 v258) a + S1x1x64x4096.size a ≤ S32x2x64x4096.size a) ∧
  (∀ (hinb : ∀ a, (k0_off35 v258) a + S1x1x64x4096.size a ≤ S32x2x64x4096.size a), (Rect.unit (s := S32x2x64x4096) (k0_off35 v258) S1x1x64x4096.size hinb).WholeWords (EltTy.packing .bf16)) ∧
  (∀ a, (k0_off57 v258) a + S1x1x64x4096.size a ≤ S32x2x64x4096.size a) ∧
  (∀ (hinb : ∀ a, (k0_off57 v258) a + S1x1x64x4096.size a ≤ S32x2x64x4096.size a), (Rect.unit (s := S32x2x64x4096) (k0_off57 v258) S1x1x64x4096.size hinb).WholeWords (EltTy.packing .bf16)) ∧
  (∀ a, (k0_off382 v258) a + S1x1x64x4096.size a ≤ S32x2x64x4096.size a) ∧
  (∀ (hinb : ∀ a, (k0_off382 v258) a + S1x1x64x4096.size a ≤ S32x2x64x4096.size a), (Rect.unit (s := S32x2x64x4096) (k0_off382 v258) S1x1x64x4096.size hinb).WholeWords (EltTy.packing .bf16))
theorem k0_off35_inb : ∀ (v258 : BitVec 32) (k0_hw23 : k0_chk23 v258), ∀ a, (k0_off35 v258) a + S1x1x64x4096.size a ≤ S32x2x64x4096.size a := fun v258 k0_hw23 => k0_hw23.1
theorem k0_off35_wordsbf16 : ∀ (v258 : BitVec 32) (k0_hw23 : k0_chk23 v258), (Rect.unit (s := S32x2x64x4096) (k0_off35 v258) S1x1x64x4096.size (k0_off35_inb v258 k0_hw23)).WholeWords (EltTy.packing .bf16) := fun v258 k0_hw23 => k0_hw23.2.1 (k0_off35_inb v258 k0_hw23)
theorem k0_off57_inb : ∀ (v258 : BitVec 32) (k0_hw23 : k0_chk23 v258), ∀ a, (k0_off57 v258) a + S1x1x64x4096.size a ≤ S32x2x64x4096.size a := fun v258 k0_hw23 => k0_hw23.2.2.1
theorem k0_off57_wordsbf16 : ∀ (v258 : BitVec 32) (k0_hw23 : k0_chk23 v258), (Rect.unit (s := S32x2x64x4096) (k0_off57 v258) S1x1x64x4096.size (k0_off57_inb v258 k0_hw23)).WholeWords (EltTy.packing .bf16) := fun v258 k0_hw23 => k0_hw23.2.2.2.1 (k0_off57_inb v258 k0_hw23)
theorem k0_off382_inb : ∀ (v258 : BitVec 32) (k0_hw23 : k0_chk23 v258), ∀ a, (k0_off382 v258) a + S1x1x64x4096.size a ≤ S32x2x64x4096.size a := fun v258 k0_hw23 => k0_hw23.2.2.2.2.1
theorem k0_off382_wordsbf16 : ∀ (v258 : BitVec 32) (k0_hw23 : k0_chk23 v258), (Rect.unit (s := S32x2x64x4096) (k0_off382 v258) S1x1x64x4096.size (k0_off382_inb v258 k0_hw23)).WholeWords (EltTy.packing .bf16) := fun v258 k0_hw23 => k0_hw23.2.2.2.2.2 (k0_off382_inb v258 k0_hw23)

def k0_off384 (v296 : BitVec 32) : Fin 4 → Nat :=
  let c0_i32_3188 : BitVec 32 := 0#32
  let c0_i32_3194 : BitVec 32 := 0#32
  let c0_i32_3195 : BitVec 32 := 0#32
  ![v296.toNat, 0, 0, 0]
def k0_off385 (v297 : BitVec 32) : Fin 4 → Nat :=
  let c0_i32_3187 : BitVec 32 := 0#32
  let c0_i32_3196 : BitVec 32 := 0#32
  let c0_i32_3197 : BitVec 32 := 0#32
  ![v297.toNat, 0, 0, 0]

def k0_chk25 (v297 : BitVec 32) : Prop :=
  (∀ a, (k0_off40 v297) a + S1x1x64x4096.size a ≤ S32x2x64x4096.size a) ∧
  (∀ (hinb : ∀ a, (k0_off40 v297) a + S1x1x64x4096.size a ≤ S32x2x64x4096.size a), (Rect.unit (s := S32x2x64x4096) (k0_off40 v297) S1x1x64x4096.size hinb).WholeWords (EltTy.packing .bf16)) ∧
  (∀ a, (k0_off62 v297) a + S1x1x64x4096.size a ≤ S32x2x64x4096.size a) ∧
  (∀ (hinb : ∀ a, (k0_off62 v297) a + S1x1x64x4096.size a ≤ S32x2x64x4096.size a), (Rect.unit (s := S32x2x64x4096) (k0_off62 v297) S1x1x64x4096.size hinb).WholeWords (EltTy.packing .bf16)) ∧
  (∀ a, (k0_off385 v297) a + S1x1x64x4096.size a ≤ S32x2x64x4096.size a) ∧
  (∀ (hinb : ∀ a, (k0_off385 v297) a + S1x1x64x4096.size a ≤ S32x2x64x4096.size a), (Rect.unit (s := S32x2x64x4096) (k0_off385 v297) S1x1x64x4096.size hinb).WholeWords (EltTy.packing .bf16))
theorem k0_off40_inb : ∀ (v297 : BitVec 32) (k0_hw25 : k0_chk25 v297), ∀ a, (k0_off40 v297) a + S1x1x64x4096.size a ≤ S32x2x64x4096.size a := fun v297 k0_hw25 => k0_hw25.1
theorem k0_off40_wordsbf16 : ∀ (v297 : BitVec 32) (k0_hw25 : k0_chk25 v297), (Rect.unit (s := S32x2x64x4096) (k0_off40 v297) S1x1x64x4096.size (k0_off40_inb v297 k0_hw25)).WholeWords (EltTy.packing .bf16) := fun v297 k0_hw25 => k0_hw25.2.1 (k0_off40_inb v297 k0_hw25)
theorem k0_off62_inb : ∀ (v297 : BitVec 32) (k0_hw25 : k0_chk25 v297), ∀ a, (k0_off62 v297) a + S1x1x64x4096.size a ≤ S32x2x64x4096.size a := fun v297 k0_hw25 => k0_hw25.2.2.1
theorem k0_off62_wordsbf16 : ∀ (v297 : BitVec 32) (k0_hw25 : k0_chk25 v297), (Rect.unit (s := S32x2x64x4096) (k0_off62 v297) S1x1x64x4096.size (k0_off62_inb v297 k0_hw25)).WholeWords (EltTy.packing .bf16) := fun v297 k0_hw25 => k0_hw25.2.2.2.1 (k0_off62_inb v297 k0_hw25)
theorem k0_off385_inb : ∀ (v297 : BitVec 32) (k0_hw25 : k0_chk25 v297), ∀ a, (k0_off385 v297) a + S1x1x64x4096.size a ≤ S32x2x64x4096.size a := fun v297 k0_hw25 => k0_hw25.2.2.2.2.1
theorem k0_off385_wordsbf16 : ∀ (v297 : BitVec 32) (k0_hw25 : k0_chk25 v297), (Rect.unit (s := S32x2x64x4096) (k0_off385 v297) S1x1x64x4096.size (k0_off385_inb v297 k0_hw25)).WholeWords (EltTy.packing .bf16) := fun v297 k0_hw25 => k0_hw25.2.2.2.2.2 (k0_off385_inb v297 k0_hw25)

def k0_chk26 (v296 : BitVec 32) : Prop :=
  (∀ a, (k0_off41 v296) a + S1x1x64x4096.size a ≤ S32x2x64x4096.size a) ∧
  (∀ (hinb : ∀ a, (k0_off41 v296) a + S1x1x64x4096.size a ≤ S32x2x64x4096.size a), (Rect.unit (s := S32x2x64x4096) (k0_off41 v296) S1x1x64x4096.size hinb).WholeWords (EltTy.packing .bf16)) ∧
  (∀ a, (k0_off63 v296) a + S1x1x64x4096.size a ≤ S32x2x64x4096.size a) ∧
  (∀ (hinb : ∀ a, (k0_off63 v296) a + S1x1x64x4096.size a ≤ S32x2x64x4096.size a), (Rect.unit (s := S32x2x64x4096) (k0_off63 v296) S1x1x64x4096.size hinb).WholeWords (EltTy.packing .bf16)) ∧
  (∀ a, (k0_off384 v296) a + S1x1x64x4096.size a ≤ S32x2x64x4096.size a) ∧
  (∀ (hinb : ∀ a, (k0_off384 v296) a + S1x1x64x4096.size a ≤ S32x2x64x4096.size a), (Rect.unit (s := S32x2x64x4096) (k0_off384 v296) S1x1x64x4096.size hinb).WholeWords (EltTy.packing .bf16))
theorem k0_off41_inb : ∀ (v296 : BitVec 32) (k0_hw26 : k0_chk26 v296), ∀ a, (k0_off41 v296) a + S1x1x64x4096.size a ≤ S32x2x64x4096.size a := fun v296 k0_hw26 => k0_hw26.1
theorem k0_off41_wordsbf16 : ∀ (v296 : BitVec 32) (k0_hw26 : k0_chk26 v296), (Rect.unit (s := S32x2x64x4096) (k0_off41 v296) S1x1x64x4096.size (k0_off41_inb v296 k0_hw26)).WholeWords (EltTy.packing .bf16) := fun v296 k0_hw26 => k0_hw26.2.1 (k0_off41_inb v296 k0_hw26)
theorem k0_off63_inb : ∀ (v296 : BitVec 32) (k0_hw26 : k0_chk26 v296), ∀ a, (k0_off63 v296) a + S1x1x64x4096.size a ≤ S32x2x64x4096.size a := fun v296 k0_hw26 => k0_hw26.2.2.1
theorem k0_off63_wordsbf16 : ∀ (v296 : BitVec 32) (k0_hw26 : k0_chk26 v296), (Rect.unit (s := S32x2x64x4096) (k0_off63 v296) S1x1x64x4096.size (k0_off63_inb v296 k0_hw26)).WholeWords (EltTy.packing .bf16) := fun v296 k0_hw26 => k0_hw26.2.2.2.1 (k0_off63_inb v296 k0_hw26)
theorem k0_off384_inb : ∀ (v296 : BitVec 32) (k0_hw26 : k0_chk26 v296), ∀ a, (k0_off384 v296) a + S1x1x64x4096.size a ≤ S32x2x64x4096.size a := fun v296 k0_hw26 => k0_hw26.2.2.2.2.1
theorem k0_off384_wordsbf16 : ∀ (v296 : BitVec 32) (k0_hw26 : k0_chk26 v296), (Rect.unit (s := S32x2x64x4096) (k0_off384 v296) S1x1x64x4096.size (k0_off384_inb v296 k0_hw26)).WholeWords (EltTy.packing .bf16) := fun v296 k0_hw26 => k0_hw26.2.2.2.2.2 (k0_off384_inb v296 k0_hw26)

def k0_off386 (v334 : BitVec 32) : Fin 4 → Nat :=
  let c1_i32_3199 : BitVec 32 := 1#32
  let c0_i32_3205 : BitVec 32 := 0#32
  let c0_i32_3206 : BitVec 32 := 0#32
  ![v334.toNat, 1, 0, 0]
def k0_off387 (v335 : BitVec 32) : Fin 4 → Nat :=
  let c1_i32_3198 : BitVec 32 := 1#32
  let c0_i32_3207 : BitVec 32 := 0#32
  let c0_i32_3208 : BitVec 32 := 0#32
  ![v335.toNat, 1, 0, 0]

def k0_chk28 (v335 : BitVec 32) : Prop :=
  (∀ a, (k0_off46 v335) a + S1x1x64x4096.size a ≤ S32x2x64x4096.size a) ∧
  (∀ (hinb : ∀ a, (k0_off46 v335) a + S1x1x64x4096.size a ≤ S32x2x64x4096.size a), (Rect.unit (s := S32x2x64x4096) (k0_off46 v335) S1x1x64x4096.size hinb).WholeWords (EltTy.packing .bf16)) ∧
  (∀ a, (k0_off68 v335) a + S1x1x64x4096.size a ≤ S32x2x64x4096.size a) ∧
  (∀ (hinb : ∀ a, (k0_off68 v335) a + S1x1x64x4096.size a ≤ S32x2x64x4096.size a), (Rect.unit (s := S32x2x64x4096) (k0_off68 v335) S1x1x64x4096.size hinb).WholeWords (EltTy.packing .bf16)) ∧
  (∀ a, (k0_off387 v335) a + S1x1x64x4096.size a ≤ S32x2x64x4096.size a) ∧
  (∀ (hinb : ∀ a, (k0_off387 v335) a + S1x1x64x4096.size a ≤ S32x2x64x4096.size a), (Rect.unit (s := S32x2x64x4096) (k0_off387 v335) S1x1x64x4096.size hinb).WholeWords (EltTy.packing .bf16))
theorem k0_off46_inb : ∀ (v335 : BitVec 32) (k0_hw28 : k0_chk28 v335), ∀ a, (k0_off46 v335) a + S1x1x64x4096.size a ≤ S32x2x64x4096.size a := fun v335 k0_hw28 => k0_hw28.1
theorem k0_off46_wordsbf16 : ∀ (v335 : BitVec 32) (k0_hw28 : k0_chk28 v335), (Rect.unit (s := S32x2x64x4096) (k0_off46 v335) S1x1x64x4096.size (k0_off46_inb v335 k0_hw28)).WholeWords (EltTy.packing .bf16) := fun v335 k0_hw28 => k0_hw28.2.1 (k0_off46_inb v335 k0_hw28)
theorem k0_off68_inb : ∀ (v335 : BitVec 32) (k0_hw28 : k0_chk28 v335), ∀ a, (k0_off68 v335) a + S1x1x64x4096.size a ≤ S32x2x64x4096.size a := fun v335 k0_hw28 => k0_hw28.2.2.1
theorem k0_off68_wordsbf16 : ∀ (v335 : BitVec 32) (k0_hw28 : k0_chk28 v335), (Rect.unit (s := S32x2x64x4096) (k0_off68 v335) S1x1x64x4096.size (k0_off68_inb v335 k0_hw28)).WholeWords (EltTy.packing .bf16) := fun v335 k0_hw28 => k0_hw28.2.2.2.1 (k0_off68_inb v335 k0_hw28)
theorem k0_off387_inb : ∀ (v335 : BitVec 32) (k0_hw28 : k0_chk28 v335), ∀ a, (k0_off387 v335) a + S1x1x64x4096.size a ≤ S32x2x64x4096.size a := fun v335 k0_hw28 => k0_hw28.2.2.2.2.1
theorem k0_off387_wordsbf16 : ∀ (v335 : BitVec 32) (k0_hw28 : k0_chk28 v335), (Rect.unit (s := S32x2x64x4096) (k0_off387 v335) S1x1x64x4096.size (k0_off387_inb v335 k0_hw28)).WholeWords (EltTy.packing .bf16) := fun v335 k0_hw28 => k0_hw28.2.2.2.2.2 (k0_off387_inb v335 k0_hw28)

def k0_chk29 (v334 : BitVec 32) : Prop :=
  (∀ a, (k0_off47 v334) a + S1x1x64x4096.size a ≤ S32x2x64x4096.size a) ∧
  (∀ (hinb : ∀ a, (k0_off47 v334) a + S1x1x64x4096.size a ≤ S32x2x64x4096.size a), (Rect.unit (s := S32x2x64x4096) (k0_off47 v334) S1x1x64x4096.size hinb).WholeWords (EltTy.packing .bf16)) ∧
  (∀ a, (k0_off69 v334) a + S1x1x64x4096.size a ≤ S32x2x64x4096.size a) ∧
  (∀ (hinb : ∀ a, (k0_off69 v334) a + S1x1x64x4096.size a ≤ S32x2x64x4096.size a), (Rect.unit (s := S32x2x64x4096) (k0_off69 v334) S1x1x64x4096.size hinb).WholeWords (EltTy.packing .bf16)) ∧
  (∀ a, (k0_off386 v334) a + S1x1x64x4096.size a ≤ S32x2x64x4096.size a) ∧
  (∀ (hinb : ∀ a, (k0_off386 v334) a + S1x1x64x4096.size a ≤ S32x2x64x4096.size a), (Rect.unit (s := S32x2x64x4096) (k0_off386 v334) S1x1x64x4096.size hinb).WholeWords (EltTy.packing .bf16))
theorem k0_off47_inb : ∀ (v334 : BitVec 32) (k0_hw29 : k0_chk29 v334), ∀ a, (k0_off47 v334) a + S1x1x64x4096.size a ≤ S32x2x64x4096.size a := fun v334 k0_hw29 => k0_hw29.1
theorem k0_off47_wordsbf16 : ∀ (v334 : BitVec 32) (k0_hw29 : k0_chk29 v334), (Rect.unit (s := S32x2x64x4096) (k0_off47 v334) S1x1x64x4096.size (k0_off47_inb v334 k0_hw29)).WholeWords (EltTy.packing .bf16) := fun v334 k0_hw29 => k0_hw29.2.1 (k0_off47_inb v334 k0_hw29)
theorem k0_off69_inb : ∀ (v334 : BitVec 32) (k0_hw29 : k0_chk29 v334), ∀ a, (k0_off69 v334) a + S1x1x64x4096.size a ≤ S32x2x64x4096.size a := fun v334 k0_hw29 => k0_hw29.2.2.1
theorem k0_off69_wordsbf16 : ∀ (v334 : BitVec 32) (k0_hw29 : k0_chk29 v334), (Rect.unit (s := S32x2x64x4096) (k0_off69 v334) S1x1x64x4096.size (k0_off69_inb v334 k0_hw29)).WholeWords (EltTy.packing .bf16) := fun v334 k0_hw29 => k0_hw29.2.2.2.1 (k0_off69_inb v334 k0_hw29)
theorem k0_off386_inb : ∀ (v334 : BitVec 32) (k0_hw29 : k0_chk29 v334), ∀ a, (k0_off386 v334) a + S1x1x64x4096.size a ≤ S32x2x64x4096.size a := fun v334 k0_hw29 => k0_hw29.2.2.2.2.1
theorem k0_off386_wordsbf16 : ∀ (v334 : BitVec 32) (k0_hw29 : k0_chk29 v334), (Rect.unit (s := S32x2x64x4096) (k0_off386 v334) S1x1x64x4096.size (k0_off386_inb v334 k0_hw29)).WholeWords (EltTy.packing .bf16) := fun v334 k0_hw29 => k0_hw29.2.2.2.2.2 (k0_off386_inb v334 k0_hw29)

def k0_off388 (v372 : BitVec 32) : Fin 4 → Nat :=
  let c0_i32_3210 : BitVec 32 := 0#32
  let c0_i32_3216 : BitVec 32 := 0#32
  let c0_i32_3217 : BitVec 32 := 0#32
  ![v372.toNat, 0, 0, 0]
def k0_off389 (v373 : BitVec 32) : Fin 4 → Nat :=
  let c0_i32_3209 : BitVec 32 := 0#32
  let c0_i32_3218 : BitVec 32 := 0#32
  let c0_i32_3219 : BitVec 32 := 0#32
  ![v373.toNat, 0, 0, 0]

def k0_chk31 (v373 : BitVec 32) : Prop :=
  (∀ a, (k0_off52 v373) a + S1x1x64x4096.size a ≤ S32x2x64x4096.size a) ∧
  (∀ (hinb : ∀ a, (k0_off52 v373) a + S1x1x64x4096.size a ≤ S32x2x64x4096.size a), (Rect.unit (s := S32x2x64x4096) (k0_off52 v373) S1x1x64x4096.size hinb).WholeWords (EltTy.packing .bf16)) ∧
  (∀ a, (k0_off74 v373) a + S1x1x64x4096.size a ≤ S32x2x64x4096.size a) ∧
  (∀ (hinb : ∀ a, (k0_off74 v373) a + S1x1x64x4096.size a ≤ S32x2x64x4096.size a), (Rect.unit (s := S32x2x64x4096) (k0_off74 v373) S1x1x64x4096.size hinb).WholeWords (EltTy.packing .bf16)) ∧
  (∀ a, (k0_off389 v373) a + S1x1x64x4096.size a ≤ S32x2x64x4096.size a) ∧
  (∀ (hinb : ∀ a, (k0_off389 v373) a + S1x1x64x4096.size a ≤ S32x2x64x4096.size a), (Rect.unit (s := S32x2x64x4096) (k0_off389 v373) S1x1x64x4096.size hinb).WholeWords (EltTy.packing .bf16))
theorem k0_off52_inb : ∀ (v373 : BitVec 32) (k0_hw31 : k0_chk31 v373), ∀ a, (k0_off52 v373) a + S1x1x64x4096.size a ≤ S32x2x64x4096.size a := fun v373 k0_hw31 => k0_hw31.1
theorem k0_off52_wordsbf16 : ∀ (v373 : BitVec 32) (k0_hw31 : k0_chk31 v373), (Rect.unit (s := S32x2x64x4096) (k0_off52 v373) S1x1x64x4096.size (k0_off52_inb v373 k0_hw31)).WholeWords (EltTy.packing .bf16) := fun v373 k0_hw31 => k0_hw31.2.1 (k0_off52_inb v373 k0_hw31)
theorem k0_off74_inb : ∀ (v373 : BitVec 32) (k0_hw31 : k0_chk31 v373), ∀ a, (k0_off74 v373) a + S1x1x64x4096.size a ≤ S32x2x64x4096.size a := fun v373 k0_hw31 => k0_hw31.2.2.1
theorem k0_off74_wordsbf16 : ∀ (v373 : BitVec 32) (k0_hw31 : k0_chk31 v373), (Rect.unit (s := S32x2x64x4096) (k0_off74 v373) S1x1x64x4096.size (k0_off74_inb v373 k0_hw31)).WholeWords (EltTy.packing .bf16) := fun v373 k0_hw31 => k0_hw31.2.2.2.1 (k0_off74_inb v373 k0_hw31)
theorem k0_off389_inb : ∀ (v373 : BitVec 32) (k0_hw31 : k0_chk31 v373), ∀ a, (k0_off389 v373) a + S1x1x64x4096.size a ≤ S32x2x64x4096.size a := fun v373 k0_hw31 => k0_hw31.2.2.2.2.1
theorem k0_off389_wordsbf16 : ∀ (v373 : BitVec 32) (k0_hw31 : k0_chk31 v373), (Rect.unit (s := S32x2x64x4096) (k0_off389 v373) S1x1x64x4096.size (k0_off389_inb v373 k0_hw31)).WholeWords (EltTy.packing .bf16) := fun v373 k0_hw31 => k0_hw31.2.2.2.2.2 (k0_off389_inb v373 k0_hw31)

def k0_chk32 (v372 : BitVec 32) : Prop :=
  (∀ a, (k0_off53 v372) a + S1x1x64x4096.size a ≤ S32x2x64x4096.size a) ∧
  (∀ (hinb : ∀ a, (k0_off53 v372) a + S1x1x64x4096.size a ≤ S32x2x64x4096.size a), (Rect.unit (s := S32x2x64x4096) (k0_off53 v372) S1x1x64x4096.size hinb).WholeWords (EltTy.packing .bf16)) ∧
  (∀ a, (k0_off75 v372) a + S1x1x64x4096.size a ≤ S32x2x64x4096.size a) ∧
  (∀ (hinb : ∀ a, (k0_off75 v372) a + S1x1x64x4096.size a ≤ S32x2x64x4096.size a), (Rect.unit (s := S32x2x64x4096) (k0_off75 v372) S1x1x64x4096.size hinb).WholeWords (EltTy.packing .bf16)) ∧
  (∀ a, (k0_off388 v372) a + S1x1x64x4096.size a ≤ S32x2x64x4096.size a) ∧
  (∀ (hinb : ∀ a, (k0_off388 v372) a + S1x1x64x4096.size a ≤ S32x2x64x4096.size a), (Rect.unit (s := S32x2x64x4096) (k0_off388 v372) S1x1x64x4096.size hinb).WholeWords (EltTy.packing .bf16))
theorem k0_off53_inb : ∀ (v372 : BitVec 32) (k0_hw32 : k0_chk32 v372), ∀ a, (k0_off53 v372) a + S1x1x64x4096.size a ≤ S32x2x64x4096.size a := fun v372 k0_hw32 => k0_hw32.1
theorem k0_off53_wordsbf16 : ∀ (v372 : BitVec 32) (k0_hw32 : k0_chk32 v372), (Rect.unit (s := S32x2x64x4096) (k0_off53 v372) S1x1x64x4096.size (k0_off53_inb v372 k0_hw32)).WholeWords (EltTy.packing .bf16) := fun v372 k0_hw32 => k0_hw32.2.1 (k0_off53_inb v372 k0_hw32)
theorem k0_off75_inb : ∀ (v372 : BitVec 32) (k0_hw32 : k0_chk32 v372), ∀ a, (k0_off75 v372) a + S1x1x64x4096.size a ≤ S32x2x64x4096.size a := fun v372 k0_hw32 => k0_hw32.2.2.1
theorem k0_off75_wordsbf16 : ∀ (v372 : BitVec 32) (k0_hw32 : k0_chk32 v372), (Rect.unit (s := S32x2x64x4096) (k0_off75 v372) S1x1x64x4096.size (k0_off75_inb v372 k0_hw32)).WholeWords (EltTy.packing .bf16) := fun v372 k0_hw32 => k0_hw32.2.2.2.1 (k0_off75_inb v372 k0_hw32)
theorem k0_off388_inb : ∀ (v372 : BitVec 32) (k0_hw32 : k0_chk32 v372), ∀ a, (k0_off388 v372) a + S1x1x64x4096.size a ≤ S32x2x64x4096.size a := fun v372 k0_hw32 => k0_hw32.2.2.2.2.1
theorem k0_off388_wordsbf16 : ∀ (v372 : BitVec 32) (k0_hw32 : k0_chk32 v372), (Rect.unit (s := S32x2x64x4096) (k0_off388 v372) S1x1x64x4096.size (k0_off388_inb v372 k0_hw32)).WholeWords (EltTy.packing .bf16) := fun v372 k0_hw32 => k0_hw32.2.2.2.2.2 (k0_off388_inb v372 k0_hw32)

def k0_off390 (v410 : BitVec 32) : Fin 4 → Nat :=
  let c1_i32_3221 : BitVec 32 := 1#32
  let c0_i32_3227 : BitVec 32 := 0#32
  let c0_i32_3228 : BitVec 32 := 0#32
  ![v410.toNat, 1, 0, 0]
def k0_off391 (v411 : BitVec 32) : Fin 4 → Nat :=
  let c1_i32_3220 : BitVec 32 := 1#32
  let c0_i32_3229 : BitVec 32 := 0#32
  let c0_i32_3230 : BitVec 32 := 0#32
  ![v411.toNat, 1, 0, 0]

def k0_chk34 (v411 : BitVec 32) : Prop :=
  (∀ a, (k0_off58 v411) a + S1x1x64x4096.size a ≤ S32x2x64x4096.size a) ∧
  (∀ (hinb : ∀ a, (k0_off58 v411) a + S1x1x64x4096.size a ≤ S32x2x64x4096.size a), (Rect.unit (s := S32x2x64x4096) (k0_off58 v411) S1x1x64x4096.size hinb).WholeWords (EltTy.packing .bf16)) ∧
  (∀ a, (k0_off80 v411) a + S1x1x64x4096.size a ≤ S32x2x64x4096.size a) ∧
  (∀ (hinb : ∀ a, (k0_off80 v411) a + S1x1x64x4096.size a ≤ S32x2x64x4096.size a), (Rect.unit (s := S32x2x64x4096) (k0_off80 v411) S1x1x64x4096.size hinb).WholeWords (EltTy.packing .bf16)) ∧
  (∀ a, (k0_off391 v411) a + S1x1x64x4096.size a ≤ S32x2x64x4096.size a) ∧
  (∀ (hinb : ∀ a, (k0_off391 v411) a + S1x1x64x4096.size a ≤ S32x2x64x4096.size a), (Rect.unit (s := S32x2x64x4096) (k0_off391 v411) S1x1x64x4096.size hinb).WholeWords (EltTy.packing .bf16))
theorem k0_off58_inb : ∀ (v411 : BitVec 32) (k0_hw34 : k0_chk34 v411), ∀ a, (k0_off58 v411) a + S1x1x64x4096.size a ≤ S32x2x64x4096.size a := fun v411 k0_hw34 => k0_hw34.1
theorem k0_off58_wordsbf16 : ∀ (v411 : BitVec 32) (k0_hw34 : k0_chk34 v411), (Rect.unit (s := S32x2x64x4096) (k0_off58 v411) S1x1x64x4096.size (k0_off58_inb v411 k0_hw34)).WholeWords (EltTy.packing .bf16) := fun v411 k0_hw34 => k0_hw34.2.1 (k0_off58_inb v411 k0_hw34)
theorem k0_off80_inb : ∀ (v411 : BitVec 32) (k0_hw34 : k0_chk34 v411), ∀ a, (k0_off80 v411) a + S1x1x64x4096.size a ≤ S32x2x64x4096.size a := fun v411 k0_hw34 => k0_hw34.2.2.1
theorem k0_off80_wordsbf16 : ∀ (v411 : BitVec 32) (k0_hw34 : k0_chk34 v411), (Rect.unit (s := S32x2x64x4096) (k0_off80 v411) S1x1x64x4096.size (k0_off80_inb v411 k0_hw34)).WholeWords (EltTy.packing .bf16) := fun v411 k0_hw34 => k0_hw34.2.2.2.1 (k0_off80_inb v411 k0_hw34)
theorem k0_off391_inb : ∀ (v411 : BitVec 32) (k0_hw34 : k0_chk34 v411), ∀ a, (k0_off391 v411) a + S1x1x64x4096.size a ≤ S32x2x64x4096.size a := fun v411 k0_hw34 => k0_hw34.2.2.2.2.1
theorem k0_off391_wordsbf16 : ∀ (v411 : BitVec 32) (k0_hw34 : k0_chk34 v411), (Rect.unit (s := S32x2x64x4096) (k0_off391 v411) S1x1x64x4096.size (k0_off391_inb v411 k0_hw34)).WholeWords (EltTy.packing .bf16) := fun v411 k0_hw34 => k0_hw34.2.2.2.2.2 (k0_off391_inb v411 k0_hw34)

def k0_chk35 (v410 : BitVec 32) : Prop :=
  (∀ a, (k0_off59 v410) a + S1x1x64x4096.size a ≤ S32x2x64x4096.size a) ∧
  (∀ (hinb : ∀ a, (k0_off59 v410) a + S1x1x64x4096.size a ≤ S32x2x64x4096.size a), (Rect.unit (s := S32x2x64x4096) (k0_off59 v410) S1x1x64x4096.size hinb).WholeWords (EltTy.packing .bf16)) ∧
  (∀ a, (k0_off81 v410) a + S1x1x64x4096.size a ≤ S32x2x64x4096.size a) ∧
  (∀ (hinb : ∀ a, (k0_off81 v410) a + S1x1x64x4096.size a ≤ S32x2x64x4096.size a), (Rect.unit (s := S32x2x64x4096) (k0_off81 v410) S1x1x64x4096.size hinb).WholeWords (EltTy.packing .bf16)) ∧
  (∀ a, (k0_off390 v410) a + S1x1x64x4096.size a ≤ S32x2x64x4096.size a) ∧
  (∀ (hinb : ∀ a, (k0_off390 v410) a + S1x1x64x4096.size a ≤ S32x2x64x4096.size a), (Rect.unit (s := S32x2x64x4096) (k0_off390 v410) S1x1x64x4096.size hinb).WholeWords (EltTy.packing .bf16))
theorem k0_off59_inb : ∀ (v410 : BitVec 32) (k0_hw35 : k0_chk35 v410), ∀ a, (k0_off59 v410) a + S1x1x64x4096.size a ≤ S32x2x64x4096.size a := fun v410 k0_hw35 => k0_hw35.1
theorem k0_off59_wordsbf16 : ∀ (v410 : BitVec 32) (k0_hw35 : k0_chk35 v410), (Rect.unit (s := S32x2x64x4096) (k0_off59 v410) S1x1x64x4096.size (k0_off59_inb v410 k0_hw35)).WholeWords (EltTy.packing .bf16) := fun v410 k0_hw35 => k0_hw35.2.1 (k0_off59_inb v410 k0_hw35)
theorem k0_off81_inb : ∀ (v410 : BitVec 32) (k0_hw35 : k0_chk35 v410), ∀ a, (k0_off81 v410) a + S1x1x64x4096.size a ≤ S32x2x64x4096.size a := fun v410 k0_hw35 => k0_hw35.2.2.1
theorem k0_off81_wordsbf16 : ∀ (v410 : BitVec 32) (k0_hw35 : k0_chk35 v410), (Rect.unit (s := S32x2x64x4096) (k0_off81 v410) S1x1x64x4096.size (k0_off81_inb v410 k0_hw35)).WholeWords (EltTy.packing .bf16) := fun v410 k0_hw35 => k0_hw35.2.2.2.1 (k0_off81_inb v410 k0_hw35)
theorem k0_off390_inb : ∀ (v410 : BitVec 32) (k0_hw35 : k0_chk35 v410), ∀ a, (k0_off390 v410) a + S1x1x64x4096.size a ≤ S32x2x64x4096.size a := fun v410 k0_hw35 => k0_hw35.2.2.2.2.1
theorem k0_off390_wordsbf16 : ∀ (v410 : BitVec 32) (k0_hw35 : k0_chk35 v410), (Rect.unit (s := S32x2x64x4096) (k0_off390 v410) S1x1x64x4096.size (k0_off390_inb v410 k0_hw35)).WholeWords (EltTy.packing .bf16) := fun v410 k0_hw35 => k0_hw35.2.2.2.2.2 (k0_off390_inb v410 k0_hw35)

def k0_off392 (v448 : BitVec 32) : Fin 4 → Nat :=
  let c0_i32_3232 : BitVec 32 := 0#32
  let c0_i32_3238 : BitVec 32 := 0#32
  let c0_i32_3239 : BitVec 32 := 0#32
  ![v448.toNat, 0, 0, 0]
def k0_off393 (v449 : BitVec 32) : Fin 4 → Nat :=
  let c0_i32_3231 : BitVec 32 := 0#32
  let c0_i32_3240 : BitVec 32 := 0#32
  let c0_i32_3241 : BitVec 32 := 0#32
  ![v449.toNat, 0, 0, 0]

def k0_chk37 (v449 : BitVec 32) : Prop :=
  (∀ a, (k0_off64 v449) a + S1x1x64x4096.size a ≤ S32x2x64x4096.size a) ∧
  (∀ (hinb : ∀ a, (k0_off64 v449) a + S1x1x64x4096.size a ≤ S32x2x64x4096.size a), (Rect.unit (s := S32x2x64x4096) (k0_off64 v449) S1x1x64x4096.size hinb).WholeWords (EltTy.packing .bf16)) ∧
  (∀ a, (k0_off86 v449) a + S1x1x64x4096.size a ≤ S32x2x64x4096.size a) ∧
  (∀ (hinb : ∀ a, (k0_off86 v449) a + S1x1x64x4096.size a ≤ S32x2x64x4096.size a), (Rect.unit (s := S32x2x64x4096) (k0_off86 v449) S1x1x64x4096.size hinb).WholeWords (EltTy.packing .bf16)) ∧
  (∀ a, (k0_off393 v449) a + S1x1x64x4096.size a ≤ S32x2x64x4096.size a) ∧
  (∀ (hinb : ∀ a, (k0_off393 v449) a + S1x1x64x4096.size a ≤ S32x2x64x4096.size a), (Rect.unit (s := S32x2x64x4096) (k0_off393 v449) S1x1x64x4096.size hinb).WholeWords (EltTy.packing .bf16))
theorem k0_off64_inb : ∀ (v449 : BitVec 32) (k0_hw37 : k0_chk37 v449), ∀ a, (k0_off64 v449) a + S1x1x64x4096.size a ≤ S32x2x64x4096.size a := fun v449 k0_hw37 => k0_hw37.1
theorem k0_off64_wordsbf16 : ∀ (v449 : BitVec 32) (k0_hw37 : k0_chk37 v449), (Rect.unit (s := S32x2x64x4096) (k0_off64 v449) S1x1x64x4096.size (k0_off64_inb v449 k0_hw37)).WholeWords (EltTy.packing .bf16) := fun v449 k0_hw37 => k0_hw37.2.1 (k0_off64_inb v449 k0_hw37)
theorem k0_off86_inb : ∀ (v449 : BitVec 32) (k0_hw37 : k0_chk37 v449), ∀ a, (k0_off86 v449) a + S1x1x64x4096.size a ≤ S32x2x64x4096.size a := fun v449 k0_hw37 => k0_hw37.2.2.1
theorem k0_off86_wordsbf16 : ∀ (v449 : BitVec 32) (k0_hw37 : k0_chk37 v449), (Rect.unit (s := S32x2x64x4096) (k0_off86 v449) S1x1x64x4096.size (k0_off86_inb v449 k0_hw37)).WholeWords (EltTy.packing .bf16) := fun v449 k0_hw37 => k0_hw37.2.2.2.1 (k0_off86_inb v449 k0_hw37)
theorem k0_off393_inb : ∀ (v449 : BitVec 32) (k0_hw37 : k0_chk37 v449), ∀ a, (k0_off393 v449) a + S1x1x64x4096.size a ≤ S32x2x64x4096.size a := fun v449 k0_hw37 => k0_hw37.2.2.2.2.1
theorem k0_off393_wordsbf16 : ∀ (v449 : BitVec 32) (k0_hw37 : k0_chk37 v449), (Rect.unit (s := S32x2x64x4096) (k0_off393 v449) S1x1x64x4096.size (k0_off393_inb v449 k0_hw37)).WholeWords (EltTy.packing .bf16) := fun v449 k0_hw37 => k0_hw37.2.2.2.2.2 (k0_off393_inb v449 k0_hw37)

def k0_chk38 (v448 : BitVec 32) : Prop :=
  (∀ a, (k0_off65 v448) a + S1x1x64x4096.size a ≤ S32x2x64x4096.size a) ∧
  (∀ (hinb : ∀ a, (k0_off65 v448) a + S1x1x64x4096.size a ≤ S32x2x64x4096.size a), (Rect.unit (s := S32x2x64x4096) (k0_off65 v448) S1x1x64x4096.size hinb).WholeWords (EltTy.packing .bf16)) ∧
  (∀ a, (k0_off87 v448) a + S1x1x64x4096.size a ≤ S32x2x64x4096.size a) ∧
  (∀ (hinb : ∀ a, (k0_off87 v448) a + S1x1x64x4096.size a ≤ S32x2x64x4096.size a), (Rect.unit (s := S32x2x64x4096) (k0_off87 v448) S1x1x64x4096.size hinb).WholeWords (EltTy.packing .bf16)) ∧
  (∀ a, (k0_off392 v448) a + S1x1x64x4096.size a ≤ S32x2x64x4096.size a) ∧
  (∀ (hinb : ∀ a, (k0_off392 v448) a + S1x1x64x4096.size a ≤ S32x2x64x4096.size a), (Rect.unit (s := S32x2x64x4096) (k0_off392 v448) S1x1x64x4096.size hinb).WholeWords (EltTy.packing .bf16))
theorem k0_off65_inb : ∀ (v448 : BitVec 32) (k0_hw38 : k0_chk38 v448), ∀ a, (k0_off65 v448) a + S1x1x64x4096.size a ≤ S32x2x64x4096.size a := fun v448 k0_hw38 => k0_hw38.1
theorem k0_off65_wordsbf16 : ∀ (v448 : BitVec 32) (k0_hw38 : k0_chk38 v448), (Rect.unit (s := S32x2x64x4096) (k0_off65 v448) S1x1x64x4096.size (k0_off65_inb v448 k0_hw38)).WholeWords (EltTy.packing .bf16) := fun v448 k0_hw38 => k0_hw38.2.1 (k0_off65_inb v448 k0_hw38)
theorem k0_off87_inb : ∀ (v448 : BitVec 32) (k0_hw38 : k0_chk38 v448), ∀ a, (k0_off87 v448) a + S1x1x64x4096.size a ≤ S32x2x64x4096.size a := fun v448 k0_hw38 => k0_hw38.2.2.1
theorem k0_off87_wordsbf16 : ∀ (v448 : BitVec 32) (k0_hw38 : k0_chk38 v448), (Rect.unit (s := S32x2x64x4096) (k0_off87 v448) S1x1x64x4096.size (k0_off87_inb v448 k0_hw38)).WholeWords (EltTy.packing .bf16) := fun v448 k0_hw38 => k0_hw38.2.2.2.1 (k0_off87_inb v448 k0_hw38)
theorem k0_off392_inb : ∀ (v448 : BitVec 32) (k0_hw38 : k0_chk38 v448), ∀ a, (k0_off392 v448) a + S1x1x64x4096.size a ≤ S32x2x64x4096.size a := fun v448 k0_hw38 => k0_hw38.2.2.2.2.1
theorem k0_off392_wordsbf16 : ∀ (v448 : BitVec 32) (k0_hw38 : k0_chk38 v448), (Rect.unit (s := S32x2x64x4096) (k0_off392 v448) S1x1x64x4096.size (k0_off392_inb v448 k0_hw38)).WholeWords (EltTy.packing .bf16) := fun v448 k0_hw38 => k0_hw38.2.2.2.2.2 (k0_off392_inb v448 k0_hw38)

def k0_off394 (v486 : BitVec 32) : Fin 4 → Nat :=
  let c1_i32_3243 : BitVec 32 := 1#32
  let c0_i32_3249 : BitVec 32 := 0#32
  let c0_i32_3250 : BitVec 32 := 0#32
  ![v486.toNat, 1, 0, 0]
def k0_off395 (v487 : BitVec 32) : Fin 4 → Nat :=
  let c1_i32_3242 : BitVec 32 := 1#32
  let c0_i32_3251 : BitVec 32 := 0#32
  let c0_i32_3252 : BitVec 32 := 0#32
  ![v487.toNat, 1, 0, 0]

def k0_chk40 (v487 : BitVec 32) : Prop :=
  (∀ a, (k0_off70 v487) a + S1x1x64x4096.size a ≤ S32x2x64x4096.size a) ∧
  (∀ (hinb : ∀ a, (k0_off70 v487) a + S1x1x64x4096.size a ≤ S32x2x64x4096.size a), (Rect.unit (s := S32x2x64x4096) (k0_off70 v487) S1x1x64x4096.size hinb).WholeWords (EltTy.packing .bf16)) ∧
  (∀ a, (k0_off92 v487) a + S1x1x64x4096.size a ≤ S32x2x64x4096.size a) ∧
  (∀ (hinb : ∀ a, (k0_off92 v487) a + S1x1x64x4096.size a ≤ S32x2x64x4096.size a), (Rect.unit (s := S32x2x64x4096) (k0_off92 v487) S1x1x64x4096.size hinb).WholeWords (EltTy.packing .bf16)) ∧
  (∀ a, (k0_off395 v487) a + S1x1x64x4096.size a ≤ S32x2x64x4096.size a) ∧
  (∀ (hinb : ∀ a, (k0_off395 v487) a + S1x1x64x4096.size a ≤ S32x2x64x4096.size a), (Rect.unit (s := S32x2x64x4096) (k0_off395 v487) S1x1x64x4096.size hinb).WholeWords (EltTy.packing .bf16))
theorem k0_off70_inb : ∀ (v487 : BitVec 32) (k0_hw40 : k0_chk40 v487), ∀ a, (k0_off70 v487) a + S1x1x64x4096.size a ≤ S32x2x64x4096.size a := fun v487 k0_hw40 => k0_hw40.1
theorem k0_off70_wordsbf16 : ∀ (v487 : BitVec 32) (k0_hw40 : k0_chk40 v487), (Rect.unit (s := S32x2x64x4096) (k0_off70 v487) S1x1x64x4096.size (k0_off70_inb v487 k0_hw40)).WholeWords (EltTy.packing .bf16) := fun v487 k0_hw40 => k0_hw40.2.1 (k0_off70_inb v487 k0_hw40)
theorem k0_off92_inb : ∀ (v487 : BitVec 32) (k0_hw40 : k0_chk40 v487), ∀ a, (k0_off92 v487) a + S1x1x64x4096.size a ≤ S32x2x64x4096.size a := fun v487 k0_hw40 => k0_hw40.2.2.1
theorem k0_off92_wordsbf16 : ∀ (v487 : BitVec 32) (k0_hw40 : k0_chk40 v487), (Rect.unit (s := S32x2x64x4096) (k0_off92 v487) S1x1x64x4096.size (k0_off92_inb v487 k0_hw40)).WholeWords (EltTy.packing .bf16) := fun v487 k0_hw40 => k0_hw40.2.2.2.1 (k0_off92_inb v487 k0_hw40)
theorem k0_off395_inb : ∀ (v487 : BitVec 32) (k0_hw40 : k0_chk40 v487), ∀ a, (k0_off395 v487) a + S1x1x64x4096.size a ≤ S32x2x64x4096.size a := fun v487 k0_hw40 => k0_hw40.2.2.2.2.1
theorem k0_off395_wordsbf16 : ∀ (v487 : BitVec 32) (k0_hw40 : k0_chk40 v487), (Rect.unit (s := S32x2x64x4096) (k0_off395 v487) S1x1x64x4096.size (k0_off395_inb v487 k0_hw40)).WholeWords (EltTy.packing .bf16) := fun v487 k0_hw40 => k0_hw40.2.2.2.2.2 (k0_off395_inb v487 k0_hw40)

def k0_chk41 (v486 : BitVec 32) : Prop :=
  (∀ a, (k0_off71 v486) a + S1x1x64x4096.size a ≤ S32x2x64x4096.size a) ∧
  (∀ (hinb : ∀ a, (k0_off71 v486) a + S1x1x64x4096.size a ≤ S32x2x64x4096.size a), (Rect.unit (s := S32x2x64x4096) (k0_off71 v486) S1x1x64x4096.size hinb).WholeWords (EltTy.packing .bf16)) ∧
  (∀ a, (k0_off93 v486) a + S1x1x64x4096.size a ≤ S32x2x64x4096.size a) ∧
  (∀ (hinb : ∀ a, (k0_off93 v486) a + S1x1x64x4096.size a ≤ S32x2x64x4096.size a), (Rect.unit (s := S32x2x64x4096) (k0_off93 v486) S1x1x64x4096.size hinb).WholeWords (EltTy.packing .bf16)) ∧
  (∀ a, (k0_off394 v486) a + S1x1x64x4096.size a ≤ S32x2x64x4096.size a) ∧
  (∀ (hinb : ∀ a, (k0_off394 v486) a + S1x1x64x4096.size a ≤ S32x2x64x4096.size a), (Rect.unit (s := S32x2x64x4096) (k0_off394 v486) S1x1x64x4096.size hinb).WholeWords (EltTy.packing .bf16))
theorem k0_off71_inb : ∀ (v486 : BitVec 32) (k0_hw41 : k0_chk41 v486), ∀ a, (k0_off71 v486) a + S1x1x64x4096.size a ≤ S32x2x64x4096.size a := fun v486 k0_hw41 => k0_hw41.1
theorem k0_off71_wordsbf16 : ∀ (v486 : BitVec 32) (k0_hw41 : k0_chk41 v486), (Rect.unit (s := S32x2x64x4096) (k0_off71 v486) S1x1x64x4096.size (k0_off71_inb v486 k0_hw41)).WholeWords (EltTy.packing .bf16) := fun v486 k0_hw41 => k0_hw41.2.1 (k0_off71_inb v486 k0_hw41)
theorem k0_off93_inb : ∀ (v486 : BitVec 32) (k0_hw41 : k0_chk41 v486), ∀ a, (k0_off93 v486) a + S1x1x64x4096.size a ≤ S32x2x64x4096.size a := fun v486 k0_hw41 => k0_hw41.2.2.1
theorem k0_off93_wordsbf16 : ∀ (v486 : BitVec 32) (k0_hw41 : k0_chk41 v486), (Rect.unit (s := S32x2x64x4096) (k0_off93 v486) S1x1x64x4096.size (k0_off93_inb v486 k0_hw41)).WholeWords (EltTy.packing .bf16) := fun v486 k0_hw41 => k0_hw41.2.2.2.1 (k0_off93_inb v486 k0_hw41)
theorem k0_off394_inb : ∀ (v486 : BitVec 32) (k0_hw41 : k0_chk41 v486), ∀ a, (k0_off394 v486) a + S1x1x64x4096.size a ≤ S32x2x64x4096.size a := fun v486 k0_hw41 => k0_hw41.2.2.2.2.1
theorem k0_off394_wordsbf16 : ∀ (v486 : BitVec 32) (k0_hw41 : k0_chk41 v486), (Rect.unit (s := S32x2x64x4096) (k0_off394 v486) S1x1x64x4096.size (k0_off394_inb v486 k0_hw41)).WholeWords (EltTy.packing .bf16) := fun v486 k0_hw41 => k0_hw41.2.2.2.2.2 (k0_off394_inb v486 k0_hw41)

def k0_off396 (v524 : BitVec 32) : Fin 4 → Nat :=
  let c0_i32_3254 : BitVec 32 := 0#32
  let c0_i32_3260 : BitVec 32 := 0#32
  let c0_i32_3261 : BitVec 32 := 0#32
  ![v524.toNat, 0, 0, 0]
def k0_off397 (v525 : BitVec 32) : Fin 4 → Nat :=
  let c0_i32_3253 : BitVec 32 := 0#32
  let c0_i32_3262 : BitVec 32 := 0#32
  let c0_i32_3263 : BitVec 32 := 0#32
  ![v525.toNat, 0, 0, 0]

def k0_chk43 (v525 : BitVec 32) : Prop :=
  (∀ a, (k0_off76 v525) a + S1x1x64x4096.size a ≤ S32x2x64x4096.size a) ∧
  (∀ (hinb : ∀ a, (k0_off76 v525) a + S1x1x64x4096.size a ≤ S32x2x64x4096.size a), (Rect.unit (s := S32x2x64x4096) (k0_off76 v525) S1x1x64x4096.size hinb).WholeWords (EltTy.packing .bf16)) ∧
  (∀ a, (k0_off98 v525) a + S1x1x64x4096.size a ≤ S32x2x64x4096.size a) ∧
  (∀ (hinb : ∀ a, (k0_off98 v525) a + S1x1x64x4096.size a ≤ S32x2x64x4096.size a), (Rect.unit (s := S32x2x64x4096) (k0_off98 v525) S1x1x64x4096.size hinb).WholeWords (EltTy.packing .bf16)) ∧
  (∀ a, (k0_off397 v525) a + S1x1x64x4096.size a ≤ S32x2x64x4096.size a) ∧
  (∀ (hinb : ∀ a, (k0_off397 v525) a + S1x1x64x4096.size a ≤ S32x2x64x4096.size a), (Rect.unit (s := S32x2x64x4096) (k0_off397 v525) S1x1x64x4096.size hinb).WholeWords (EltTy.packing .bf16))
theorem k0_off76_inb : ∀ (v525 : BitVec 32) (k0_hw43 : k0_chk43 v525), ∀ a, (k0_off76 v525) a + S1x1x64x4096.size a ≤ S32x2x64x4096.size a := fun v525 k0_hw43 => k0_hw43.1
theorem k0_off76_wordsbf16 : ∀ (v525 : BitVec 32) (k0_hw43 : k0_chk43 v525), (Rect.unit (s := S32x2x64x4096) (k0_off76 v525) S1x1x64x4096.size (k0_off76_inb v525 k0_hw43)).WholeWords (EltTy.packing .bf16) := fun v525 k0_hw43 => k0_hw43.2.1 (k0_off76_inb v525 k0_hw43)
theorem k0_off98_inb : ∀ (v525 : BitVec 32) (k0_hw43 : k0_chk43 v525), ∀ a, (k0_off98 v525) a + S1x1x64x4096.size a ≤ S32x2x64x4096.size a := fun v525 k0_hw43 => k0_hw43.2.2.1
theorem k0_off98_wordsbf16 : ∀ (v525 : BitVec 32) (k0_hw43 : k0_chk43 v525), (Rect.unit (s := S32x2x64x4096) (k0_off98 v525) S1x1x64x4096.size (k0_off98_inb v525 k0_hw43)).WholeWords (EltTy.packing .bf16) := fun v525 k0_hw43 => k0_hw43.2.2.2.1 (k0_off98_inb v525 k0_hw43)
theorem k0_off397_inb : ∀ (v525 : BitVec 32) (k0_hw43 : k0_chk43 v525), ∀ a, (k0_off397 v525) a + S1x1x64x4096.size a ≤ S32x2x64x4096.size a := fun v525 k0_hw43 => k0_hw43.2.2.2.2.1
theorem k0_off397_wordsbf16 : ∀ (v525 : BitVec 32) (k0_hw43 : k0_chk43 v525), (Rect.unit (s := S32x2x64x4096) (k0_off397 v525) S1x1x64x4096.size (k0_off397_inb v525 k0_hw43)).WholeWords (EltTy.packing .bf16) := fun v525 k0_hw43 => k0_hw43.2.2.2.2.2 (k0_off397_inb v525 k0_hw43)

def k0_chk44 (v524 : BitVec 32) : Prop :=
  (∀ a, (k0_off77 v524) a + S1x1x64x4096.size a ≤ S32x2x64x4096.size a) ∧
  (∀ (hinb : ∀ a, (k0_off77 v524) a + S1x1x64x4096.size a ≤ S32x2x64x4096.size a), (Rect.unit (s := S32x2x64x4096) (k0_off77 v524) S1x1x64x4096.size hinb).WholeWords (EltTy.packing .bf16)) ∧
  (∀ a, (k0_off99 v524) a + S1x1x64x4096.size a ≤ S32x2x64x4096.size a) ∧
  (∀ (hinb : ∀ a, (k0_off99 v524) a + S1x1x64x4096.size a ≤ S32x2x64x4096.size a), (Rect.unit (s := S32x2x64x4096) (k0_off99 v524) S1x1x64x4096.size hinb).WholeWords (EltTy.packing .bf16)) ∧
  (∀ a, (k0_off396 v524) a + S1x1x64x4096.size a ≤ S32x2x64x4096.size a) ∧
  (∀ (hinb : ∀ a, (k0_off396 v524) a + S1x1x64x4096.size a ≤ S32x2x64x4096.size a), (Rect.unit (s := S32x2x64x4096) (k0_off396 v524) S1x1x64x4096.size hinb).WholeWords (EltTy.packing .bf16))
theorem k0_off77_inb : ∀ (v524 : BitVec 32) (k0_hw44 : k0_chk44 v524), ∀ a, (k0_off77 v524) a + S1x1x64x4096.size a ≤ S32x2x64x4096.size a := fun v524 k0_hw44 => k0_hw44.1
theorem k0_off77_wordsbf16 : ∀ (v524 : BitVec 32) (k0_hw44 : k0_chk44 v524), (Rect.unit (s := S32x2x64x4096) (k0_off77 v524) S1x1x64x4096.size (k0_off77_inb v524 k0_hw44)).WholeWords (EltTy.packing .bf16) := fun v524 k0_hw44 => k0_hw44.2.1 (k0_off77_inb v524 k0_hw44)
theorem k0_off99_inb : ∀ (v524 : BitVec 32) (k0_hw44 : k0_chk44 v524), ∀ a, (k0_off99 v524) a + S1x1x64x4096.size a ≤ S32x2x64x4096.size a := fun v524 k0_hw44 => k0_hw44.2.2.1
theorem k0_off99_wordsbf16 : ∀ (v524 : BitVec 32) (k0_hw44 : k0_chk44 v524), (Rect.unit (s := S32x2x64x4096) (k0_off99 v524) S1x1x64x4096.size (k0_off99_inb v524 k0_hw44)).WholeWords (EltTy.packing .bf16) := fun v524 k0_hw44 => k0_hw44.2.2.2.1 (k0_off99_inb v524 k0_hw44)
theorem k0_off396_inb : ∀ (v524 : BitVec 32) (k0_hw44 : k0_chk44 v524), ∀ a, (k0_off396 v524) a + S1x1x64x4096.size a ≤ S32x2x64x4096.size a := fun v524 k0_hw44 => k0_hw44.2.2.2.2.1
theorem k0_off396_wordsbf16 : ∀ (v524 : BitVec 32) (k0_hw44 : k0_chk44 v524), (Rect.unit (s := S32x2x64x4096) (k0_off396 v524) S1x1x64x4096.size (k0_off396_inb v524 k0_hw44)).WholeWords (EltTy.packing .bf16) := fun v524 k0_hw44 => k0_hw44.2.2.2.2.2 (k0_off396_inb v524 k0_hw44)

def k0_off398 (v562 : BitVec 32) : Fin 4 → Nat :=
  let c1_i32_3265 : BitVec 32 := 1#32
  let c0_i32_3271 : BitVec 32 := 0#32
  let c0_i32_3272 : BitVec 32 := 0#32
  ![v562.toNat, 1, 0, 0]
def k0_off399 (v563 : BitVec 32) : Fin 4 → Nat :=
  let c1_i32_3264 : BitVec 32 := 1#32
  let c0_i32_3273 : BitVec 32 := 0#32
  let c0_i32_3274 : BitVec 32 := 0#32
  ![v563.toNat, 1, 0, 0]

def k0_chk46 (v563 : BitVec 32) : Prop :=
  (∀ a, (k0_off82 v563) a + S1x1x64x4096.size a ≤ S32x2x64x4096.size a) ∧
  (∀ (hinb : ∀ a, (k0_off82 v563) a + S1x1x64x4096.size a ≤ S32x2x64x4096.size a), (Rect.unit (s := S32x2x64x4096) (k0_off82 v563) S1x1x64x4096.size hinb).WholeWords (EltTy.packing .bf16)) ∧
  (∀ a, (k0_off104 v563) a + S1x1x64x4096.size a ≤ S32x2x64x4096.size a) ∧
  (∀ (hinb : ∀ a, (k0_off104 v563) a + S1x1x64x4096.size a ≤ S32x2x64x4096.size a), (Rect.unit (s := S32x2x64x4096) (k0_off104 v563) S1x1x64x4096.size hinb).WholeWords (EltTy.packing .bf16)) ∧
  (∀ a, (k0_off399 v563) a + S1x1x64x4096.size a ≤ S32x2x64x4096.size a) ∧
  (∀ (hinb : ∀ a, (k0_off399 v563) a + S1x1x64x4096.size a ≤ S32x2x64x4096.size a), (Rect.unit (s := S32x2x64x4096) (k0_off399 v563) S1x1x64x4096.size hinb).WholeWords (EltTy.packing .bf16))
theorem k0_off82_inb : ∀ (v563 : BitVec 32) (k0_hw46 : k0_chk46 v563), ∀ a, (k0_off82 v563) a + S1x1x64x4096.size a ≤ S32x2x64x4096.size a := fun v563 k0_hw46 => k0_hw46.1
theorem k0_off82_wordsbf16 : ∀ (v563 : BitVec 32) (k0_hw46 : k0_chk46 v563), (Rect.unit (s := S32x2x64x4096) (k0_off82 v563) S1x1x64x4096.size (k0_off82_inb v563 k0_hw46)).WholeWords (EltTy.packing .bf16) := fun v563 k0_hw46 => k0_hw46.2.1 (k0_off82_inb v563 k0_hw46)
theorem k0_off104_inb : ∀ (v563 : BitVec 32) (k0_hw46 : k0_chk46 v563), ∀ a, (k0_off104 v563) a + S1x1x64x4096.size a ≤ S32x2x64x4096.size a := fun v563 k0_hw46 => k0_hw46.2.2.1
theorem k0_off104_wordsbf16 : ∀ (v563 : BitVec 32) (k0_hw46 : k0_chk46 v563), (Rect.unit (s := S32x2x64x4096) (k0_off104 v563) S1x1x64x4096.size (k0_off104_inb v563 k0_hw46)).WholeWords (EltTy.packing .bf16) := fun v563 k0_hw46 => k0_hw46.2.2.2.1 (k0_off104_inb v563 k0_hw46)
theorem k0_off399_inb : ∀ (v563 : BitVec 32) (k0_hw46 : k0_chk46 v563), ∀ a, (k0_off399 v563) a + S1x1x64x4096.size a ≤ S32x2x64x4096.size a := fun v563 k0_hw46 => k0_hw46.2.2.2.2.1
theorem k0_off399_wordsbf16 : ∀ (v563 : BitVec 32) (k0_hw46 : k0_chk46 v563), (Rect.unit (s := S32x2x64x4096) (k0_off399 v563) S1x1x64x4096.size (k0_off399_inb v563 k0_hw46)).WholeWords (EltTy.packing .bf16) := fun v563 k0_hw46 => k0_hw46.2.2.2.2.2 (k0_off399_inb v563 k0_hw46)

def k0_chk47 (v562 : BitVec 32) : Prop :=
  (∀ a, (k0_off83 v562) a + S1x1x64x4096.size a ≤ S32x2x64x4096.size a) ∧
  (∀ (hinb : ∀ a, (k0_off83 v562) a + S1x1x64x4096.size a ≤ S32x2x64x4096.size a), (Rect.unit (s := S32x2x64x4096) (k0_off83 v562) S1x1x64x4096.size hinb).WholeWords (EltTy.packing .bf16)) ∧
  (∀ a, (k0_off105 v562) a + S1x1x64x4096.size a ≤ S32x2x64x4096.size a) ∧
  (∀ (hinb : ∀ a, (k0_off105 v562) a + S1x1x64x4096.size a ≤ S32x2x64x4096.size a), (Rect.unit (s := S32x2x64x4096) (k0_off105 v562) S1x1x64x4096.size hinb).WholeWords (EltTy.packing .bf16)) ∧
  (∀ a, (k0_off398 v562) a + S1x1x64x4096.size a ≤ S32x2x64x4096.size a) ∧
  (∀ (hinb : ∀ a, (k0_off398 v562) a + S1x1x64x4096.size a ≤ S32x2x64x4096.size a), (Rect.unit (s := S32x2x64x4096) (k0_off398 v562) S1x1x64x4096.size hinb).WholeWords (EltTy.packing .bf16))
theorem k0_off83_inb : ∀ (v562 : BitVec 32) (k0_hw47 : k0_chk47 v562), ∀ a, (k0_off83 v562) a + S1x1x64x4096.size a ≤ S32x2x64x4096.size a := fun v562 k0_hw47 => k0_hw47.1
theorem k0_off83_wordsbf16 : ∀ (v562 : BitVec 32) (k0_hw47 : k0_chk47 v562), (Rect.unit (s := S32x2x64x4096) (k0_off83 v562) S1x1x64x4096.size (k0_off83_inb v562 k0_hw47)).WholeWords (EltTy.packing .bf16) := fun v562 k0_hw47 => k0_hw47.2.1 (k0_off83_inb v562 k0_hw47)
theorem k0_off105_inb : ∀ (v562 : BitVec 32) (k0_hw47 : k0_chk47 v562), ∀ a, (k0_off105 v562) a + S1x1x64x4096.size a ≤ S32x2x64x4096.size a := fun v562 k0_hw47 => k0_hw47.2.2.1
theorem k0_off105_wordsbf16 : ∀ (v562 : BitVec 32) (k0_hw47 : k0_chk47 v562), (Rect.unit (s := S32x2x64x4096) (k0_off105 v562) S1x1x64x4096.size (k0_off105_inb v562 k0_hw47)).WholeWords (EltTy.packing .bf16) := fun v562 k0_hw47 => k0_hw47.2.2.2.1 (k0_off105_inb v562 k0_hw47)
theorem k0_off398_inb : ∀ (v562 : BitVec 32) (k0_hw47 : k0_chk47 v562), ∀ a, (k0_off398 v562) a + S1x1x64x4096.size a ≤ S32x2x64x4096.size a := fun v562 k0_hw47 => k0_hw47.2.2.2.2.1
theorem k0_off398_wordsbf16 : ∀ (v562 : BitVec 32) (k0_hw47 : k0_chk47 v562), (Rect.unit (s := S32x2x64x4096) (k0_off398 v562) S1x1x64x4096.size (k0_off398_inb v562 k0_hw47)).WholeWords (EltTy.packing .bf16) := fun v562 k0_hw47 => k0_hw47.2.2.2.2.2 (k0_off398_inb v562 k0_hw47)

def k0_off400 (v600 : BitVec 32) : Fin 4 → Nat :=
  let c0_i32_3276 : BitVec 32 := 0#32
  let c0_i32_3282 : BitVec 32 := 0#32
  let c0_i32_3283 : BitVec 32 := 0#32
  ![v600.toNat, 0, 0, 0]
def k0_off401 (v601 : BitVec 32) : Fin 4 → Nat :=
  let c0_i32_3275 : BitVec 32 := 0#32
  let c0_i32_3284 : BitVec 32 := 0#32
  let c0_i32_3285 : BitVec 32 := 0#32
  ![v601.toNat, 0, 0, 0]

def k0_chk49 (v601 : BitVec 32) : Prop :=
  (∀ a, (k0_off88 v601) a + S1x1x64x4096.size a ≤ S32x2x64x4096.size a) ∧
  (∀ (hinb : ∀ a, (k0_off88 v601) a + S1x1x64x4096.size a ≤ S32x2x64x4096.size a), (Rect.unit (s := S32x2x64x4096) (k0_off88 v601) S1x1x64x4096.size hinb).WholeWords (EltTy.packing .bf16)) ∧
  (∀ a, (k0_off110 v601) a + S1x1x64x4096.size a ≤ S32x2x64x4096.size a) ∧
  (∀ (hinb : ∀ a, (k0_off110 v601) a + S1x1x64x4096.size a ≤ S32x2x64x4096.size a), (Rect.unit (s := S32x2x64x4096) (k0_off110 v601) S1x1x64x4096.size hinb).WholeWords (EltTy.packing .bf16)) ∧
  (∀ a, (k0_off401 v601) a + S1x1x64x4096.size a ≤ S32x2x64x4096.size a) ∧
  (∀ (hinb : ∀ a, (k0_off401 v601) a + S1x1x64x4096.size a ≤ S32x2x64x4096.size a), (Rect.unit (s := S32x2x64x4096) (k0_off401 v601) S1x1x64x4096.size hinb).WholeWords (EltTy.packing .bf16))
theorem k0_off88_inb : ∀ (v601 : BitVec 32) (k0_hw49 : k0_chk49 v601), ∀ a, (k0_off88 v601) a + S1x1x64x4096.size a ≤ S32x2x64x4096.size a := fun v601 k0_hw49 => k0_hw49.1
theorem k0_off88_wordsbf16 : ∀ (v601 : BitVec 32) (k0_hw49 : k0_chk49 v601), (Rect.unit (s := S32x2x64x4096) (k0_off88 v601) S1x1x64x4096.size (k0_off88_inb v601 k0_hw49)).WholeWords (EltTy.packing .bf16) := fun v601 k0_hw49 => k0_hw49.2.1 (k0_off88_inb v601 k0_hw49)
theorem k0_off110_inb : ∀ (v601 : BitVec 32) (k0_hw49 : k0_chk49 v601), ∀ a, (k0_off110 v601) a + S1x1x64x4096.size a ≤ S32x2x64x4096.size a := fun v601 k0_hw49 => k0_hw49.2.2.1
theorem k0_off110_wordsbf16 : ∀ (v601 : BitVec 32) (k0_hw49 : k0_chk49 v601), (Rect.unit (s := S32x2x64x4096) (k0_off110 v601) S1x1x64x4096.size (k0_off110_inb v601 k0_hw49)).WholeWords (EltTy.packing .bf16) := fun v601 k0_hw49 => k0_hw49.2.2.2.1 (k0_off110_inb v601 k0_hw49)
theorem k0_off401_inb : ∀ (v601 : BitVec 32) (k0_hw49 : k0_chk49 v601), ∀ a, (k0_off401 v601) a + S1x1x64x4096.size a ≤ S32x2x64x4096.size a := fun v601 k0_hw49 => k0_hw49.2.2.2.2.1
theorem k0_off401_wordsbf16 : ∀ (v601 : BitVec 32) (k0_hw49 : k0_chk49 v601), (Rect.unit (s := S32x2x64x4096) (k0_off401 v601) S1x1x64x4096.size (k0_off401_inb v601 k0_hw49)).WholeWords (EltTy.packing .bf16) := fun v601 k0_hw49 => k0_hw49.2.2.2.2.2 (k0_off401_inb v601 k0_hw49)

def k0_chk50 (v600 : BitVec 32) : Prop :=
  (∀ a, (k0_off89 v600) a + S1x1x64x4096.size a ≤ S32x2x64x4096.size a) ∧
  (∀ (hinb : ∀ a, (k0_off89 v600) a + S1x1x64x4096.size a ≤ S32x2x64x4096.size a), (Rect.unit (s := S32x2x64x4096) (k0_off89 v600) S1x1x64x4096.size hinb).WholeWords (EltTy.packing .bf16)) ∧
  (∀ a, (k0_off111 v600) a + S1x1x64x4096.size a ≤ S32x2x64x4096.size a) ∧
  (∀ (hinb : ∀ a, (k0_off111 v600) a + S1x1x64x4096.size a ≤ S32x2x64x4096.size a), (Rect.unit (s := S32x2x64x4096) (k0_off111 v600) S1x1x64x4096.size hinb).WholeWords (EltTy.packing .bf16)) ∧
  (∀ a, (k0_off400 v600) a + S1x1x64x4096.size a ≤ S32x2x64x4096.size a) ∧
  (∀ (hinb : ∀ a, (k0_off400 v600) a + S1x1x64x4096.size a ≤ S32x2x64x4096.size a), (Rect.unit (s := S32x2x64x4096) (k0_off400 v600) S1x1x64x4096.size hinb).WholeWords (EltTy.packing .bf16))
theorem k0_off89_inb : ∀ (v600 : BitVec 32) (k0_hw50 : k0_chk50 v600), ∀ a, (k0_off89 v600) a + S1x1x64x4096.size a ≤ S32x2x64x4096.size a := fun v600 k0_hw50 => k0_hw50.1
theorem k0_off89_wordsbf16 : ∀ (v600 : BitVec 32) (k0_hw50 : k0_chk50 v600), (Rect.unit (s := S32x2x64x4096) (k0_off89 v600) S1x1x64x4096.size (k0_off89_inb v600 k0_hw50)).WholeWords (EltTy.packing .bf16) := fun v600 k0_hw50 => k0_hw50.2.1 (k0_off89_inb v600 k0_hw50)
theorem k0_off111_inb : ∀ (v600 : BitVec 32) (k0_hw50 : k0_chk50 v600), ∀ a, (k0_off111 v600) a + S1x1x64x4096.size a ≤ S32x2x64x4096.size a := fun v600 k0_hw50 => k0_hw50.2.2.1
theorem k0_off111_wordsbf16 : ∀ (v600 : BitVec 32) (k0_hw50 : k0_chk50 v600), (Rect.unit (s := S32x2x64x4096) (k0_off111 v600) S1x1x64x4096.size (k0_off111_inb v600 k0_hw50)).WholeWords (EltTy.packing .bf16) := fun v600 k0_hw50 => k0_hw50.2.2.2.1 (k0_off111_inb v600 k0_hw50)
theorem k0_off400_inb : ∀ (v600 : BitVec 32) (k0_hw50 : k0_chk50 v600), ∀ a, (k0_off400 v600) a + S1x1x64x4096.size a ≤ S32x2x64x4096.size a := fun v600 k0_hw50 => k0_hw50.2.2.2.2.1
theorem k0_off400_wordsbf16 : ∀ (v600 : BitVec 32) (k0_hw50 : k0_chk50 v600), (Rect.unit (s := S32x2x64x4096) (k0_off400 v600) S1x1x64x4096.size (k0_off400_inb v600 k0_hw50)).WholeWords (EltTy.packing .bf16) := fun v600 k0_hw50 => k0_hw50.2.2.2.2.2 (k0_off400_inb v600 k0_hw50)

def k0_off402 (v638 : BitVec 32) : Fin 4 → Nat :=
  let c1_i32_3287 : BitVec 32 := 1#32
  let c0_i32_3293 : BitVec 32 := 0#32
  let c0_i32_3294 : BitVec 32 := 0#32
  ![v638.toNat, 1, 0, 0]
def k0_off403 (v639 : BitVec 32) : Fin 4 → Nat :=
  let c1_i32_3286 : BitVec 32 := 1#32
  let c0_i32_3295 : BitVec 32 := 0#32
  let c0_i32_3296 : BitVec 32 := 0#32
  ![v639.toNat, 1, 0, 0]

def k0_chk52 (v639 : BitVec 32) : Prop :=
  (∀ a, (k0_off94 v639) a + S1x1x64x4096.size a ≤ S32x2x64x4096.size a) ∧
  (∀ (hinb : ∀ a, (k0_off94 v639) a + S1x1x64x4096.size a ≤ S32x2x64x4096.size a), (Rect.unit (s := S32x2x64x4096) (k0_off94 v639) S1x1x64x4096.size hinb).WholeWords (EltTy.packing .bf16)) ∧
  (∀ a, (k0_off116 v639) a + S1x1x64x4096.size a ≤ S32x2x64x4096.size a) ∧
  (∀ (hinb : ∀ a, (k0_off116 v639) a + S1x1x64x4096.size a ≤ S32x2x64x4096.size a), (Rect.unit (s := S32x2x64x4096) (k0_off116 v639) S1x1x64x4096.size hinb).WholeWords (EltTy.packing .bf16)) ∧
  (∀ a, (k0_off403 v639) a + S1x1x64x4096.size a ≤ S32x2x64x4096.size a) ∧
  (∀ (hinb : ∀ a, (k0_off403 v639) a + S1x1x64x4096.size a ≤ S32x2x64x4096.size a), (Rect.unit (s := S32x2x64x4096) (k0_off403 v639) S1x1x64x4096.size hinb).WholeWords (EltTy.packing .bf16))
theorem k0_off94_inb : ∀ (v639 : BitVec 32) (k0_hw52 : k0_chk52 v639), ∀ a, (k0_off94 v639) a + S1x1x64x4096.size a ≤ S32x2x64x4096.size a := fun v639 k0_hw52 => k0_hw52.1
theorem k0_off94_wordsbf16 : ∀ (v639 : BitVec 32) (k0_hw52 : k0_chk52 v639), (Rect.unit (s := S32x2x64x4096) (k0_off94 v639) S1x1x64x4096.size (k0_off94_inb v639 k0_hw52)).WholeWords (EltTy.packing .bf16) := fun v639 k0_hw52 => k0_hw52.2.1 (k0_off94_inb v639 k0_hw52)
theorem k0_off116_inb : ∀ (v639 : BitVec 32) (k0_hw52 : k0_chk52 v639), ∀ a, (k0_off116 v639) a + S1x1x64x4096.size a ≤ S32x2x64x4096.size a := fun v639 k0_hw52 => k0_hw52.2.2.1
theorem k0_off116_wordsbf16 : ∀ (v639 : BitVec 32) (k0_hw52 : k0_chk52 v639), (Rect.unit (s := S32x2x64x4096) (k0_off116 v639) S1x1x64x4096.size (k0_off116_inb v639 k0_hw52)).WholeWords (EltTy.packing .bf16) := fun v639 k0_hw52 => k0_hw52.2.2.2.1 (k0_off116_inb v639 k0_hw52)
theorem k0_off403_inb : ∀ (v639 : BitVec 32) (k0_hw52 : k0_chk52 v639), ∀ a, (k0_off403 v639) a + S1x1x64x4096.size a ≤ S32x2x64x4096.size a := fun v639 k0_hw52 => k0_hw52.2.2.2.2.1
theorem k0_off403_wordsbf16 : ∀ (v639 : BitVec 32) (k0_hw52 : k0_chk52 v639), (Rect.unit (s := S32x2x64x4096) (k0_off403 v639) S1x1x64x4096.size (k0_off403_inb v639 k0_hw52)).WholeWords (EltTy.packing .bf16) := fun v639 k0_hw52 => k0_hw52.2.2.2.2.2 (k0_off403_inb v639 k0_hw52)

def k0_chk53 (v638 : BitVec 32) : Prop :=
  (∀ a, (k0_off95 v638) a + S1x1x64x4096.size a ≤ S32x2x64x4096.size a) ∧
  (∀ (hinb : ∀ a, (k0_off95 v638) a + S1x1x64x4096.size a ≤ S32x2x64x4096.size a), (Rect.unit (s := S32x2x64x4096) (k0_off95 v638) S1x1x64x4096.size hinb).WholeWords (EltTy.packing .bf16)) ∧
  (∀ a, (k0_off117 v638) a + S1x1x64x4096.size a ≤ S32x2x64x4096.size a) ∧
  (∀ (hinb : ∀ a, (k0_off117 v638) a + S1x1x64x4096.size a ≤ S32x2x64x4096.size a), (Rect.unit (s := S32x2x64x4096) (k0_off117 v638) S1x1x64x4096.size hinb).WholeWords (EltTy.packing .bf16)) ∧
  (∀ a, (k0_off402 v638) a + S1x1x64x4096.size a ≤ S32x2x64x4096.size a) ∧
  (∀ (hinb : ∀ a, (k0_off402 v638) a + S1x1x64x4096.size a ≤ S32x2x64x4096.size a), (Rect.unit (s := S32x2x64x4096) (k0_off402 v638) S1x1x64x4096.size hinb).WholeWords (EltTy.packing .bf16))
theorem k0_off95_inb : ∀ (v638 : BitVec 32) (k0_hw53 : k0_chk53 v638), ∀ a, (k0_off95 v638) a + S1x1x64x4096.size a ≤ S32x2x64x4096.size a := fun v638 k0_hw53 => k0_hw53.1
theorem k0_off95_wordsbf16 : ∀ (v638 : BitVec 32) (k0_hw53 : k0_chk53 v638), (Rect.unit (s := S32x2x64x4096) (k0_off95 v638) S1x1x64x4096.size (k0_off95_inb v638 k0_hw53)).WholeWords (EltTy.packing .bf16) := fun v638 k0_hw53 => k0_hw53.2.1 (k0_off95_inb v638 k0_hw53)
theorem k0_off117_inb : ∀ (v638 : BitVec 32) (k0_hw53 : k0_chk53 v638), ∀ a, (k0_off117 v638) a + S1x1x64x4096.size a ≤ S32x2x64x4096.size a := fun v638 k0_hw53 => k0_hw53.2.2.1
theorem k0_off117_wordsbf16 : ∀ (v638 : BitVec 32) (k0_hw53 : k0_chk53 v638), (Rect.unit (s := S32x2x64x4096) (k0_off117 v638) S1x1x64x4096.size (k0_off117_inb v638 k0_hw53)).WholeWords (EltTy.packing .bf16) := fun v638 k0_hw53 => k0_hw53.2.2.2.1 (k0_off117_inb v638 k0_hw53)
theorem k0_off402_inb : ∀ (v638 : BitVec 32) (k0_hw53 : k0_chk53 v638), ∀ a, (k0_off402 v638) a + S1x1x64x4096.size a ≤ S32x2x64x4096.size a := fun v638 k0_hw53 => k0_hw53.2.2.2.2.1
theorem k0_off402_wordsbf16 : ∀ (v638 : BitVec 32) (k0_hw53 : k0_chk53 v638), (Rect.unit (s := S32x2x64x4096) (k0_off402 v638) S1x1x64x4096.size (k0_off402_inb v638 k0_hw53)).WholeWords (EltTy.packing .bf16) := fun v638 k0_hw53 => k0_hw53.2.2.2.2.2 (k0_off402_inb v638 k0_hw53)

def k0_off404 (v676 : BitVec 32) : Fin 4 → Nat :=
  let c0_i32_3298 : BitVec 32 := 0#32
  let c0_i32_3304 : BitVec 32 := 0#32
  let c0_i32_3305 : BitVec 32 := 0#32
  ![v676.toNat, 0, 0, 0]
def k0_off405 (v677 : BitVec 32) : Fin 4 → Nat :=
  let c0_i32_3297 : BitVec 32 := 0#32
  let c0_i32_3306 : BitVec 32 := 0#32
  let c0_i32_3307 : BitVec 32 := 0#32
  ![v677.toNat, 0, 0, 0]

def k0_chk55 (v677 : BitVec 32) : Prop :=
  (∀ a, (k0_off100 v677) a + S1x1x64x4096.size a ≤ S32x2x64x4096.size a) ∧
  (∀ (hinb : ∀ a, (k0_off100 v677) a + S1x1x64x4096.size a ≤ S32x2x64x4096.size a), (Rect.unit (s := S32x2x64x4096) (k0_off100 v677) S1x1x64x4096.size hinb).WholeWords (EltTy.packing .bf16)) ∧
  (∀ a, (k0_off122 v677) a + S1x1x64x4096.size a ≤ S32x2x64x4096.size a) ∧
  (∀ (hinb : ∀ a, (k0_off122 v677) a + S1x1x64x4096.size a ≤ S32x2x64x4096.size a), (Rect.unit (s := S32x2x64x4096) (k0_off122 v677) S1x1x64x4096.size hinb).WholeWords (EltTy.packing .bf16)) ∧
  (∀ a, (k0_off405 v677) a + S1x1x64x4096.size a ≤ S32x2x64x4096.size a) ∧
  (∀ (hinb : ∀ a, (k0_off405 v677) a + S1x1x64x4096.size a ≤ S32x2x64x4096.size a), (Rect.unit (s := S32x2x64x4096) (k0_off405 v677) S1x1x64x4096.size hinb).WholeWords (EltTy.packing .bf16))
theorem k0_off100_inb : ∀ (v677 : BitVec 32) (k0_hw55 : k0_chk55 v677), ∀ a, (k0_off100 v677) a + S1x1x64x4096.size a ≤ S32x2x64x4096.size a := fun v677 k0_hw55 => k0_hw55.1
theorem k0_off100_wordsbf16 : ∀ (v677 : BitVec 32) (k0_hw55 : k0_chk55 v677), (Rect.unit (s := S32x2x64x4096) (k0_off100 v677) S1x1x64x4096.size (k0_off100_inb v677 k0_hw55)).WholeWords (EltTy.packing .bf16) := fun v677 k0_hw55 => k0_hw55.2.1 (k0_off100_inb v677 k0_hw55)
theorem k0_off122_inb : ∀ (v677 : BitVec 32) (k0_hw55 : k0_chk55 v677), ∀ a, (k0_off122 v677) a + S1x1x64x4096.size a ≤ S32x2x64x4096.size a := fun v677 k0_hw55 => k0_hw55.2.2.1
theorem k0_off122_wordsbf16 : ∀ (v677 : BitVec 32) (k0_hw55 : k0_chk55 v677), (Rect.unit (s := S32x2x64x4096) (k0_off122 v677) S1x1x64x4096.size (k0_off122_inb v677 k0_hw55)).WholeWords (EltTy.packing .bf16) := fun v677 k0_hw55 => k0_hw55.2.2.2.1 (k0_off122_inb v677 k0_hw55)
theorem k0_off405_inb : ∀ (v677 : BitVec 32) (k0_hw55 : k0_chk55 v677), ∀ a, (k0_off405 v677) a + S1x1x64x4096.size a ≤ S32x2x64x4096.size a := fun v677 k0_hw55 => k0_hw55.2.2.2.2.1
theorem k0_off405_wordsbf16 : ∀ (v677 : BitVec 32) (k0_hw55 : k0_chk55 v677), (Rect.unit (s := S32x2x64x4096) (k0_off405 v677) S1x1x64x4096.size (k0_off405_inb v677 k0_hw55)).WholeWords (EltTy.packing .bf16) := fun v677 k0_hw55 => k0_hw55.2.2.2.2.2 (k0_off405_inb v677 k0_hw55)

def k0_chk56 (v676 : BitVec 32) : Prop :=
  (∀ a, (k0_off101 v676) a + S1x1x64x4096.size a ≤ S32x2x64x4096.size a) ∧
  (∀ (hinb : ∀ a, (k0_off101 v676) a + S1x1x64x4096.size a ≤ S32x2x64x4096.size a), (Rect.unit (s := S32x2x64x4096) (k0_off101 v676) S1x1x64x4096.size hinb).WholeWords (EltTy.packing .bf16)) ∧
  (∀ a, (k0_off123 v676) a + S1x1x64x4096.size a ≤ S32x2x64x4096.size a) ∧
  (∀ (hinb : ∀ a, (k0_off123 v676) a + S1x1x64x4096.size a ≤ S32x2x64x4096.size a), (Rect.unit (s := S32x2x64x4096) (k0_off123 v676) S1x1x64x4096.size hinb).WholeWords (EltTy.packing .bf16)) ∧
  (∀ a, (k0_off404 v676) a + S1x1x64x4096.size a ≤ S32x2x64x4096.size a) ∧
  (∀ (hinb : ∀ a, (k0_off404 v676) a + S1x1x64x4096.size a ≤ S32x2x64x4096.size a), (Rect.unit (s := S32x2x64x4096) (k0_off404 v676) S1x1x64x4096.size hinb).WholeWords (EltTy.packing .bf16))
theorem k0_off101_inb : ∀ (v676 : BitVec 32) (k0_hw56 : k0_chk56 v676), ∀ a, (k0_off101 v676) a + S1x1x64x4096.size a ≤ S32x2x64x4096.size a := fun v676 k0_hw56 => k0_hw56.1
theorem k0_off101_wordsbf16 : ∀ (v676 : BitVec 32) (k0_hw56 : k0_chk56 v676), (Rect.unit (s := S32x2x64x4096) (k0_off101 v676) S1x1x64x4096.size (k0_off101_inb v676 k0_hw56)).WholeWords (EltTy.packing .bf16) := fun v676 k0_hw56 => k0_hw56.2.1 (k0_off101_inb v676 k0_hw56)
theorem k0_off123_inb : ∀ (v676 : BitVec 32) (k0_hw56 : k0_chk56 v676), ∀ a, (k0_off123 v676) a + S1x1x64x4096.size a ≤ S32x2x64x4096.size a := fun v676 k0_hw56 => k0_hw56.2.2.1
theorem k0_off123_wordsbf16 : ∀ (v676 : BitVec 32) (k0_hw56 : k0_chk56 v676), (Rect.unit (s := S32x2x64x4096) (k0_off123 v676) S1x1x64x4096.size (k0_off123_inb v676 k0_hw56)).WholeWords (EltTy.packing .bf16) := fun v676 k0_hw56 => k0_hw56.2.2.2.1 (k0_off123_inb v676 k0_hw56)
theorem k0_off404_inb : ∀ (v676 : BitVec 32) (k0_hw56 : k0_chk56 v676), ∀ a, (k0_off404 v676) a + S1x1x64x4096.size a ≤ S32x2x64x4096.size a := fun v676 k0_hw56 => k0_hw56.2.2.2.2.1
theorem k0_off404_wordsbf16 : ∀ (v676 : BitVec 32) (k0_hw56 : k0_chk56 v676), (Rect.unit (s := S32x2x64x4096) (k0_off404 v676) S1x1x64x4096.size (k0_off404_inb v676 k0_hw56)).WholeWords (EltTy.packing .bf16) := fun v676 k0_hw56 => k0_hw56.2.2.2.2.2 (k0_off404_inb v676 k0_hw56)

def k0_off406 (v714 : BitVec 32) : Fin 4 → Nat :=
  let c1_i32_3309 : BitVec 32 := 1#32
  let c0_i32_3315 : BitVec 32 := 0#32
  let c0_i32_3316 : BitVec 32 := 0#32
  ![v714.toNat, 1, 0, 0]
def k0_off407 (v715 : BitVec 32) : Fin 4 → Nat :=
  let c1_i32_3308 : BitVec 32 := 1#32
  let c0_i32_3317 : BitVec 32 := 0#32
  let c0_i32_3318 : BitVec 32 := 0#32
  ![v715.toNat, 1, 0, 0]

def k0_chk58 (v715 : BitVec 32) : Prop :=
  (∀ a, (k0_off106 v715) a + S1x1x64x4096.size a ≤ S32x2x64x4096.size a) ∧
  (∀ (hinb : ∀ a, (k0_off106 v715) a + S1x1x64x4096.size a ≤ S32x2x64x4096.size a), (Rect.unit (s := S32x2x64x4096) (k0_off106 v715) S1x1x64x4096.size hinb).WholeWords (EltTy.packing .bf16)) ∧
  (∀ a, (k0_off128 v715) a + S1x1x64x4096.size a ≤ S32x2x64x4096.size a) ∧
  (∀ (hinb : ∀ a, (k0_off128 v715) a + S1x1x64x4096.size a ≤ S32x2x64x4096.size a), (Rect.unit (s := S32x2x64x4096) (k0_off128 v715) S1x1x64x4096.size hinb).WholeWords (EltTy.packing .bf16)) ∧
  (∀ a, (k0_off407 v715) a + S1x1x64x4096.size a ≤ S32x2x64x4096.size a) ∧
  (∀ (hinb : ∀ a, (k0_off407 v715) a + S1x1x64x4096.size a ≤ S32x2x64x4096.size a), (Rect.unit (s := S32x2x64x4096) (k0_off407 v715) S1x1x64x4096.size hinb).WholeWords (EltTy.packing .bf16))
theorem k0_off106_inb : ∀ (v715 : BitVec 32) (k0_hw58 : k0_chk58 v715), ∀ a, (k0_off106 v715) a + S1x1x64x4096.size a ≤ S32x2x64x4096.size a := fun v715 k0_hw58 => k0_hw58.1
theorem k0_off106_wordsbf16 : ∀ (v715 : BitVec 32) (k0_hw58 : k0_chk58 v715), (Rect.unit (s := S32x2x64x4096) (k0_off106 v715) S1x1x64x4096.size (k0_off106_inb v715 k0_hw58)).WholeWords (EltTy.packing .bf16) := fun v715 k0_hw58 => k0_hw58.2.1 (k0_off106_inb v715 k0_hw58)
theorem k0_off128_inb : ∀ (v715 : BitVec 32) (k0_hw58 : k0_chk58 v715), ∀ a, (k0_off128 v715) a + S1x1x64x4096.size a ≤ S32x2x64x4096.size a := fun v715 k0_hw58 => k0_hw58.2.2.1
theorem k0_off128_wordsbf16 : ∀ (v715 : BitVec 32) (k0_hw58 : k0_chk58 v715), (Rect.unit (s := S32x2x64x4096) (k0_off128 v715) S1x1x64x4096.size (k0_off128_inb v715 k0_hw58)).WholeWords (EltTy.packing .bf16) := fun v715 k0_hw58 => k0_hw58.2.2.2.1 (k0_off128_inb v715 k0_hw58)
theorem k0_off407_inb : ∀ (v715 : BitVec 32) (k0_hw58 : k0_chk58 v715), ∀ a, (k0_off407 v715) a + S1x1x64x4096.size a ≤ S32x2x64x4096.size a := fun v715 k0_hw58 => k0_hw58.2.2.2.2.1
theorem k0_off407_wordsbf16 : ∀ (v715 : BitVec 32) (k0_hw58 : k0_chk58 v715), (Rect.unit (s := S32x2x64x4096) (k0_off407 v715) S1x1x64x4096.size (k0_off407_inb v715 k0_hw58)).WholeWords (EltTy.packing .bf16) := fun v715 k0_hw58 => k0_hw58.2.2.2.2.2 (k0_off407_inb v715 k0_hw58)

def k0_chk59 (v714 : BitVec 32) : Prop :=
  (∀ a, (k0_off107 v714) a + S1x1x64x4096.size a ≤ S32x2x64x4096.size a) ∧
  (∀ (hinb : ∀ a, (k0_off107 v714) a + S1x1x64x4096.size a ≤ S32x2x64x4096.size a), (Rect.unit (s := S32x2x64x4096) (k0_off107 v714) S1x1x64x4096.size hinb).WholeWords (EltTy.packing .bf16)) ∧
  (∀ a, (k0_off129 v714) a + S1x1x64x4096.size a ≤ S32x2x64x4096.size a) ∧
  (∀ (hinb : ∀ a, (k0_off129 v714) a + S1x1x64x4096.size a ≤ S32x2x64x4096.size a), (Rect.unit (s := S32x2x64x4096) (k0_off129 v714) S1x1x64x4096.size hinb).WholeWords (EltTy.packing .bf16)) ∧
  (∀ a, (k0_off406 v714) a + S1x1x64x4096.size a ≤ S32x2x64x4096.size a) ∧
  (∀ (hinb : ∀ a, (k0_off406 v714) a + S1x1x64x4096.size a ≤ S32x2x64x4096.size a), (Rect.unit (s := S32x2x64x4096) (k0_off406 v714) S1x1x64x4096.size hinb).WholeWords (EltTy.packing .bf16))
theorem k0_off107_inb : ∀ (v714 : BitVec 32) (k0_hw59 : k0_chk59 v714), ∀ a, (k0_off107 v714) a + S1x1x64x4096.size a ≤ S32x2x64x4096.size a := fun v714 k0_hw59 => k0_hw59.1
theorem k0_off107_wordsbf16 : ∀ (v714 : BitVec 32) (k0_hw59 : k0_chk59 v714), (Rect.unit (s := S32x2x64x4096) (k0_off107 v714) S1x1x64x4096.size (k0_off107_inb v714 k0_hw59)).WholeWords (EltTy.packing .bf16) := fun v714 k0_hw59 => k0_hw59.2.1 (k0_off107_inb v714 k0_hw59)
theorem k0_off129_inb : ∀ (v714 : BitVec 32) (k0_hw59 : k0_chk59 v714), ∀ a, (k0_off129 v714) a + S1x1x64x4096.size a ≤ S32x2x64x4096.size a := fun v714 k0_hw59 => k0_hw59.2.2.1
theorem k0_off129_wordsbf16 : ∀ (v714 : BitVec 32) (k0_hw59 : k0_chk59 v714), (Rect.unit (s := S32x2x64x4096) (k0_off129 v714) S1x1x64x4096.size (k0_off129_inb v714 k0_hw59)).WholeWords (EltTy.packing .bf16) := fun v714 k0_hw59 => k0_hw59.2.2.2.1 (k0_off129_inb v714 k0_hw59)
theorem k0_off406_inb : ∀ (v714 : BitVec 32) (k0_hw59 : k0_chk59 v714), ∀ a, (k0_off406 v714) a + S1x1x64x4096.size a ≤ S32x2x64x4096.size a := fun v714 k0_hw59 => k0_hw59.2.2.2.2.1
theorem k0_off406_wordsbf16 : ∀ (v714 : BitVec 32) (k0_hw59 : k0_chk59 v714), (Rect.unit (s := S32x2x64x4096) (k0_off406 v714) S1x1x64x4096.size (k0_off406_inb v714 k0_hw59)).WholeWords (EltTy.packing .bf16) := fun v714 k0_hw59 => k0_hw59.2.2.2.2.2 (k0_off406_inb v714 k0_hw59)

def k0_off408 (v752 : BitVec 32) : Fin 4 → Nat :=
  let c0_i32_3320 : BitVec 32 := 0#32
  let c0_i32_3326 : BitVec 32 := 0#32
  let c0_i32_3327 : BitVec 32 := 0#32
  ![v752.toNat, 0, 0, 0]
def k0_off409 (v753 : BitVec 32) : Fin 4 → Nat :=
  let c0_i32_3319 : BitVec 32 := 0#32
  let c0_i32_3328 : BitVec 32 := 0#32
  let c0_i32_3329 : BitVec 32 := 0#32
  ![v753.toNat, 0, 0, 0]

def k0_chk61 (v753 : BitVec 32) : Prop :=
  (∀ a, (k0_off112 v753) a + S1x1x64x4096.size a ≤ S32x2x64x4096.size a) ∧
  (∀ (hinb : ∀ a, (k0_off112 v753) a + S1x1x64x4096.size a ≤ S32x2x64x4096.size a), (Rect.unit (s := S32x2x64x4096) (k0_off112 v753) S1x1x64x4096.size hinb).WholeWords (EltTy.packing .bf16)) ∧
  (∀ a, (k0_off134 v753) a + S1x1x64x4096.size a ≤ S32x2x64x4096.size a) ∧
  (∀ (hinb : ∀ a, (k0_off134 v753) a + S1x1x64x4096.size a ≤ S32x2x64x4096.size a), (Rect.unit (s := S32x2x64x4096) (k0_off134 v753) S1x1x64x4096.size hinb).WholeWords (EltTy.packing .bf16)) ∧
  (∀ a, (k0_off409 v753) a + S1x1x64x4096.size a ≤ S32x2x64x4096.size a) ∧
  (∀ (hinb : ∀ a, (k0_off409 v753) a + S1x1x64x4096.size a ≤ S32x2x64x4096.size a), (Rect.unit (s := S32x2x64x4096) (k0_off409 v753) S1x1x64x4096.size hinb).WholeWords (EltTy.packing .bf16))
theorem k0_off112_inb : ∀ (v753 : BitVec 32) (k0_hw61 : k0_chk61 v753), ∀ a, (k0_off112 v753) a + S1x1x64x4096.size a ≤ S32x2x64x4096.size a := fun v753 k0_hw61 => k0_hw61.1
theorem k0_off112_wordsbf16 : ∀ (v753 : BitVec 32) (k0_hw61 : k0_chk61 v753), (Rect.unit (s := S32x2x64x4096) (k0_off112 v753) S1x1x64x4096.size (k0_off112_inb v753 k0_hw61)).WholeWords (EltTy.packing .bf16) := fun v753 k0_hw61 => k0_hw61.2.1 (k0_off112_inb v753 k0_hw61)
theorem k0_off134_inb : ∀ (v753 : BitVec 32) (k0_hw61 : k0_chk61 v753), ∀ a, (k0_off134 v753) a + S1x1x64x4096.size a ≤ S32x2x64x4096.size a := fun v753 k0_hw61 => k0_hw61.2.2.1
theorem k0_off134_wordsbf16 : ∀ (v753 : BitVec 32) (k0_hw61 : k0_chk61 v753), (Rect.unit (s := S32x2x64x4096) (k0_off134 v753) S1x1x64x4096.size (k0_off134_inb v753 k0_hw61)).WholeWords (EltTy.packing .bf16) := fun v753 k0_hw61 => k0_hw61.2.2.2.1 (k0_off134_inb v753 k0_hw61)
theorem k0_off409_inb : ∀ (v753 : BitVec 32) (k0_hw61 : k0_chk61 v753), ∀ a, (k0_off409 v753) a + S1x1x64x4096.size a ≤ S32x2x64x4096.size a := fun v753 k0_hw61 => k0_hw61.2.2.2.2.1
theorem k0_off409_wordsbf16 : ∀ (v753 : BitVec 32) (k0_hw61 : k0_chk61 v753), (Rect.unit (s := S32x2x64x4096) (k0_off409 v753) S1x1x64x4096.size (k0_off409_inb v753 k0_hw61)).WholeWords (EltTy.packing .bf16) := fun v753 k0_hw61 => k0_hw61.2.2.2.2.2 (k0_off409_inb v753 k0_hw61)

def k0_chk62 (v752 : BitVec 32) : Prop :=
  (∀ a, (k0_off113 v752) a + S1x1x64x4096.size a ≤ S32x2x64x4096.size a) ∧
  (∀ (hinb : ∀ a, (k0_off113 v752) a + S1x1x64x4096.size a ≤ S32x2x64x4096.size a), (Rect.unit (s := S32x2x64x4096) (k0_off113 v752) S1x1x64x4096.size hinb).WholeWords (EltTy.packing .bf16)) ∧
  (∀ a, (k0_off135 v752) a + S1x1x64x4096.size a ≤ S32x2x64x4096.size a) ∧
  (∀ (hinb : ∀ a, (k0_off135 v752) a + S1x1x64x4096.size a ≤ S32x2x64x4096.size a), (Rect.unit (s := S32x2x64x4096) (k0_off135 v752) S1x1x64x4096.size hinb).WholeWords (EltTy.packing .bf16)) ∧
  (∀ a, (k0_off408 v752) a + S1x1x64x4096.size a ≤ S32x2x64x4096.size a) ∧
  (∀ (hinb : ∀ a, (k0_off408 v752) a + S1x1x64x4096.size a ≤ S32x2x64x4096.size a), (Rect.unit (s := S32x2x64x4096) (k0_off408 v752) S1x1x64x4096.size hinb).WholeWords (EltTy.packing .bf16))
theorem k0_off113_inb : ∀ (v752 : BitVec 32) (k0_hw62 : k0_chk62 v752), ∀ a, (k0_off113 v752) a + S1x1x64x4096.size a ≤ S32x2x64x4096.size a := fun v752 k0_hw62 => k0_hw62.1
theorem k0_off113_wordsbf16 : ∀ (v752 : BitVec 32) (k0_hw62 : k0_chk62 v752), (Rect.unit (s := S32x2x64x4096) (k0_off113 v752) S1x1x64x4096.size (k0_off113_inb v752 k0_hw62)).WholeWords (EltTy.packing .bf16) := fun v752 k0_hw62 => k0_hw62.2.1 (k0_off113_inb v752 k0_hw62)
theorem k0_off135_inb : ∀ (v752 : BitVec 32) (k0_hw62 : k0_chk62 v752), ∀ a, (k0_off135 v752) a + S1x1x64x4096.size a ≤ S32x2x64x4096.size a := fun v752 k0_hw62 => k0_hw62.2.2.1
theorem k0_off135_wordsbf16 : ∀ (v752 : BitVec 32) (k0_hw62 : k0_chk62 v752), (Rect.unit (s := S32x2x64x4096) (k0_off135 v752) S1x1x64x4096.size (k0_off135_inb v752 k0_hw62)).WholeWords (EltTy.packing .bf16) := fun v752 k0_hw62 => k0_hw62.2.2.2.1 (k0_off135_inb v752 k0_hw62)
theorem k0_off408_inb : ∀ (v752 : BitVec 32) (k0_hw62 : k0_chk62 v752), ∀ a, (k0_off408 v752) a + S1x1x64x4096.size a ≤ S32x2x64x4096.size a := fun v752 k0_hw62 => k0_hw62.2.2.2.2.1
theorem k0_off408_wordsbf16 : ∀ (v752 : BitVec 32) (k0_hw62 : k0_chk62 v752), (Rect.unit (s := S32x2x64x4096) (k0_off408 v752) S1x1x64x4096.size (k0_off408_inb v752 k0_hw62)).WholeWords (EltTy.packing .bf16) := fun v752 k0_hw62 => k0_hw62.2.2.2.2.2 (k0_off408_inb v752 k0_hw62)

def k0_off410 (v790 : BitVec 32) : Fin 4 → Nat :=
  let c1_i32_3331 : BitVec 32 := 1#32
  let c0_i32_3337 : BitVec 32 := 0#32
  let c0_i32_3338 : BitVec 32 := 0#32
  ![v790.toNat, 1, 0, 0]
def k0_off411 (v791 : BitVec 32) : Fin 4 → Nat :=
  let c1_i32_3330 : BitVec 32 := 1#32
  let c0_i32_3339 : BitVec 32 := 0#32
  let c0_i32_3340 : BitVec 32 := 0#32
  ![v791.toNat, 1, 0, 0]

def k0_chk64 (v791 : BitVec 32) : Prop :=
  (∀ a, (k0_off118 v791) a + S1x1x64x4096.size a ≤ S32x2x64x4096.size a) ∧
  (∀ (hinb : ∀ a, (k0_off118 v791) a + S1x1x64x4096.size a ≤ S32x2x64x4096.size a), (Rect.unit (s := S32x2x64x4096) (k0_off118 v791) S1x1x64x4096.size hinb).WholeWords (EltTy.packing .bf16)) ∧
  (∀ a, (k0_off140 v791) a + S1x1x64x4096.size a ≤ S32x2x64x4096.size a) ∧
  (∀ (hinb : ∀ a, (k0_off140 v791) a + S1x1x64x4096.size a ≤ S32x2x64x4096.size a), (Rect.unit (s := S32x2x64x4096) (k0_off140 v791) S1x1x64x4096.size hinb).WholeWords (EltTy.packing .bf16)) ∧
  (∀ a, (k0_off411 v791) a + S1x1x64x4096.size a ≤ S32x2x64x4096.size a) ∧
  (∀ (hinb : ∀ a, (k0_off411 v791) a + S1x1x64x4096.size a ≤ S32x2x64x4096.size a), (Rect.unit (s := S32x2x64x4096) (k0_off411 v791) S1x1x64x4096.size hinb).WholeWords (EltTy.packing .bf16))
theorem k0_off118_inb : ∀ (v791 : BitVec 32) (k0_hw64 : k0_chk64 v791), ∀ a, (k0_off118 v791) a + S1x1x64x4096.size a ≤ S32x2x64x4096.size a := fun v791 k0_hw64 => k0_hw64.1
theorem k0_off118_wordsbf16 : ∀ (v791 : BitVec 32) (k0_hw64 : k0_chk64 v791), (Rect.unit (s := S32x2x64x4096) (k0_off118 v791) S1x1x64x4096.size (k0_off118_inb v791 k0_hw64)).WholeWords (EltTy.packing .bf16) := fun v791 k0_hw64 => k0_hw64.2.1 (k0_off118_inb v791 k0_hw64)
theorem k0_off140_inb : ∀ (v791 : BitVec 32) (k0_hw64 : k0_chk64 v791), ∀ a, (k0_off140 v791) a + S1x1x64x4096.size a ≤ S32x2x64x4096.size a := fun v791 k0_hw64 => k0_hw64.2.2.1
theorem k0_off140_wordsbf16 : ∀ (v791 : BitVec 32) (k0_hw64 : k0_chk64 v791), (Rect.unit (s := S32x2x64x4096) (k0_off140 v791) S1x1x64x4096.size (k0_off140_inb v791 k0_hw64)).WholeWords (EltTy.packing .bf16) := fun v791 k0_hw64 => k0_hw64.2.2.2.1 (k0_off140_inb v791 k0_hw64)
theorem k0_off411_inb : ∀ (v791 : BitVec 32) (k0_hw64 : k0_chk64 v791), ∀ a, (k0_off411 v791) a + S1x1x64x4096.size a ≤ S32x2x64x4096.size a := fun v791 k0_hw64 => k0_hw64.2.2.2.2.1
theorem k0_off411_wordsbf16 : ∀ (v791 : BitVec 32) (k0_hw64 : k0_chk64 v791), (Rect.unit (s := S32x2x64x4096) (k0_off411 v791) S1x1x64x4096.size (k0_off411_inb v791 k0_hw64)).WholeWords (EltTy.packing .bf16) := fun v791 k0_hw64 => k0_hw64.2.2.2.2.2 (k0_off411_inb v791 k0_hw64)

def k0_chk65 (v790 : BitVec 32) : Prop :=
  (∀ a, (k0_off119 v790) a + S1x1x64x4096.size a ≤ S32x2x64x4096.size a) ∧
  (∀ (hinb : ∀ a, (k0_off119 v790) a + S1x1x64x4096.size a ≤ S32x2x64x4096.size a), (Rect.unit (s := S32x2x64x4096) (k0_off119 v790) S1x1x64x4096.size hinb).WholeWords (EltTy.packing .bf16)) ∧
  (∀ a, (k0_off141 v790) a + S1x1x64x4096.size a ≤ S32x2x64x4096.size a) ∧
  (∀ (hinb : ∀ a, (k0_off141 v790) a + S1x1x64x4096.size a ≤ S32x2x64x4096.size a), (Rect.unit (s := S32x2x64x4096) (k0_off141 v790) S1x1x64x4096.size hinb).WholeWords (EltTy.packing .bf16)) ∧
  (∀ a, (k0_off410 v790) a + S1x1x64x4096.size a ≤ S32x2x64x4096.size a) ∧
  (∀ (hinb : ∀ a, (k0_off410 v790) a + S1x1x64x4096.size a ≤ S32x2x64x4096.size a), (Rect.unit (s := S32x2x64x4096) (k0_off410 v790) S1x1x64x4096.size hinb).WholeWords (EltTy.packing .bf16))
theorem k0_off119_inb : ∀ (v790 : BitVec 32) (k0_hw65 : k0_chk65 v790), ∀ a, (k0_off119 v790) a + S1x1x64x4096.size a ≤ S32x2x64x4096.size a := fun v790 k0_hw65 => k0_hw65.1
theorem k0_off119_wordsbf16 : ∀ (v790 : BitVec 32) (k0_hw65 : k0_chk65 v790), (Rect.unit (s := S32x2x64x4096) (k0_off119 v790) S1x1x64x4096.size (k0_off119_inb v790 k0_hw65)).WholeWords (EltTy.packing .bf16) := fun v790 k0_hw65 => k0_hw65.2.1 (k0_off119_inb v790 k0_hw65)
theorem k0_off141_inb : ∀ (v790 : BitVec 32) (k0_hw65 : k0_chk65 v790), ∀ a, (k0_off141 v790) a + S1x1x64x4096.size a ≤ S32x2x64x4096.size a := fun v790 k0_hw65 => k0_hw65.2.2.1
theorem k0_off141_wordsbf16 : ∀ (v790 : BitVec 32) (k0_hw65 : k0_chk65 v790), (Rect.unit (s := S32x2x64x4096) (k0_off141 v790) S1x1x64x4096.size (k0_off141_inb v790 k0_hw65)).WholeWords (EltTy.packing .bf16) := fun v790 k0_hw65 => k0_hw65.2.2.2.1 (k0_off141_inb v790 k0_hw65)
theorem k0_off410_inb : ∀ (v790 : BitVec 32) (k0_hw65 : k0_chk65 v790), ∀ a, (k0_off410 v790) a + S1x1x64x4096.size a ≤ S32x2x64x4096.size a := fun v790 k0_hw65 => k0_hw65.2.2.2.2.1
theorem k0_off410_wordsbf16 : ∀ (v790 : BitVec 32) (k0_hw65 : k0_chk65 v790), (Rect.unit (s := S32x2x64x4096) (k0_off410 v790) S1x1x64x4096.size (k0_off410_inb v790 k0_hw65)).WholeWords (EltTy.packing .bf16) := fun v790 k0_hw65 => k0_hw65.2.2.2.2.2 (k0_off410_inb v790 k0_hw65)

def k0_off412 (v828 : BitVec 32) : Fin 4 → Nat :=
  let c0_i32_3342 : BitVec 32 := 0#32
  let c0_i32_3348 : BitVec 32 := 0#32
  let c0_i32_3349 : BitVec 32 := 0#32
  ![v828.toNat, 0, 0, 0]
def k0_off413 (v829 : BitVec 32) : Fin 4 → Nat :=
  let c0_i32_3341 : BitVec 32 := 0#32
  let c0_i32_3350 : BitVec 32 := 0#32
  let c0_i32_3351 : BitVec 32 := 0#32
  ![v829.toNat, 0, 0, 0]

def k0_chk67 (v829 : BitVec 32) : Prop :=
  (∀ a, (k0_off124 v829) a + S1x1x64x4096.size a ≤ S32x2x64x4096.size a) ∧
  (∀ (hinb : ∀ a, (k0_off124 v829) a + S1x1x64x4096.size a ≤ S32x2x64x4096.size a), (Rect.unit (s := S32x2x64x4096) (k0_off124 v829) S1x1x64x4096.size hinb).WholeWords (EltTy.packing .bf16)) ∧
  (∀ a, (k0_off146 v829) a + S1x1x64x4096.size a ≤ S32x2x64x4096.size a) ∧
  (∀ (hinb : ∀ a, (k0_off146 v829) a + S1x1x64x4096.size a ≤ S32x2x64x4096.size a), (Rect.unit (s := S32x2x64x4096) (k0_off146 v829) S1x1x64x4096.size hinb).WholeWords (EltTy.packing .bf16)) ∧
  (∀ a, (k0_off413 v829) a + S1x1x64x4096.size a ≤ S32x2x64x4096.size a) ∧
  (∀ (hinb : ∀ a, (k0_off413 v829) a + S1x1x64x4096.size a ≤ S32x2x64x4096.size a), (Rect.unit (s := S32x2x64x4096) (k0_off413 v829) S1x1x64x4096.size hinb).WholeWords (EltTy.packing .bf16))
theorem k0_off124_inb : ∀ (v829 : BitVec 32) (k0_hw67 : k0_chk67 v829), ∀ a, (k0_off124 v829) a + S1x1x64x4096.size a ≤ S32x2x64x4096.size a := fun v829 k0_hw67 => k0_hw67.1
theorem k0_off124_wordsbf16 : ∀ (v829 : BitVec 32) (k0_hw67 : k0_chk67 v829), (Rect.unit (s := S32x2x64x4096) (k0_off124 v829) S1x1x64x4096.size (k0_off124_inb v829 k0_hw67)).WholeWords (EltTy.packing .bf16) := fun v829 k0_hw67 => k0_hw67.2.1 (k0_off124_inb v829 k0_hw67)
theorem k0_off146_inb : ∀ (v829 : BitVec 32) (k0_hw67 : k0_chk67 v829), ∀ a, (k0_off146 v829) a + S1x1x64x4096.size a ≤ S32x2x64x4096.size a := fun v829 k0_hw67 => k0_hw67.2.2.1
theorem k0_off146_wordsbf16 : ∀ (v829 : BitVec 32) (k0_hw67 : k0_chk67 v829), (Rect.unit (s := S32x2x64x4096) (k0_off146 v829) S1x1x64x4096.size (k0_off146_inb v829 k0_hw67)).WholeWords (EltTy.packing .bf16) := fun v829 k0_hw67 => k0_hw67.2.2.2.1 (k0_off146_inb v829 k0_hw67)
theorem k0_off413_inb : ∀ (v829 : BitVec 32) (k0_hw67 : k0_chk67 v829), ∀ a, (k0_off413 v829) a + S1x1x64x4096.size a ≤ S32x2x64x4096.size a := fun v829 k0_hw67 => k0_hw67.2.2.2.2.1
theorem k0_off413_wordsbf16 : ∀ (v829 : BitVec 32) (k0_hw67 : k0_chk67 v829), (Rect.unit (s := S32x2x64x4096) (k0_off413 v829) S1x1x64x4096.size (k0_off413_inb v829 k0_hw67)).WholeWords (EltTy.packing .bf16) := fun v829 k0_hw67 => k0_hw67.2.2.2.2.2 (k0_off413_inb v829 k0_hw67)

def k0_chk68 (v828 : BitVec 32) : Prop :=
  (∀ a, (k0_off125 v828) a + S1x1x64x4096.size a ≤ S32x2x64x4096.size a) ∧
  (∀ (hinb : ∀ a, (k0_off125 v828) a + S1x1x64x4096.size a ≤ S32x2x64x4096.size a), (Rect.unit (s := S32x2x64x4096) (k0_off125 v828) S1x1x64x4096.size hinb).WholeWords (EltTy.packing .bf16)) ∧
  (∀ a, (k0_off147 v828) a + S1x1x64x4096.size a ≤ S32x2x64x4096.size a) ∧
  (∀ (hinb : ∀ a, (k0_off147 v828) a + S1x1x64x4096.size a ≤ S32x2x64x4096.size a), (Rect.unit (s := S32x2x64x4096) (k0_off147 v828) S1x1x64x4096.size hinb).WholeWords (EltTy.packing .bf16)) ∧
  (∀ a, (k0_off412 v828) a + S1x1x64x4096.size a ≤ S32x2x64x4096.size a) ∧
  (∀ (hinb : ∀ a, (k0_off412 v828) a + S1x1x64x4096.size a ≤ S32x2x64x4096.size a), (Rect.unit (s := S32x2x64x4096) (k0_off412 v828) S1x1x64x4096.size hinb).WholeWords (EltTy.packing .bf16))
theorem k0_off125_inb : ∀ (v828 : BitVec 32) (k0_hw68 : k0_chk68 v828), ∀ a, (k0_off125 v828) a + S1x1x64x4096.size a ≤ S32x2x64x4096.size a := fun v828 k0_hw68 => k0_hw68.1
theorem k0_off125_wordsbf16 : ∀ (v828 : BitVec 32) (k0_hw68 : k0_chk68 v828), (Rect.unit (s := S32x2x64x4096) (k0_off125 v828) S1x1x64x4096.size (k0_off125_inb v828 k0_hw68)).WholeWords (EltTy.packing .bf16) := fun v828 k0_hw68 => k0_hw68.2.1 (k0_off125_inb v828 k0_hw68)
theorem k0_off147_inb : ∀ (v828 : BitVec 32) (k0_hw68 : k0_chk68 v828), ∀ a, (k0_off147 v828) a + S1x1x64x4096.size a ≤ S32x2x64x4096.size a := fun v828 k0_hw68 => k0_hw68.2.2.1
theorem k0_off147_wordsbf16 : ∀ (v828 : BitVec 32) (k0_hw68 : k0_chk68 v828), (Rect.unit (s := S32x2x64x4096) (k0_off147 v828) S1x1x64x4096.size (k0_off147_inb v828 k0_hw68)).WholeWords (EltTy.packing .bf16) := fun v828 k0_hw68 => k0_hw68.2.2.2.1 (k0_off147_inb v828 k0_hw68)
theorem k0_off412_inb : ∀ (v828 : BitVec 32) (k0_hw68 : k0_chk68 v828), ∀ a, (k0_off412 v828) a + S1x1x64x4096.size a ≤ S32x2x64x4096.size a := fun v828 k0_hw68 => k0_hw68.2.2.2.2.1
theorem k0_off412_wordsbf16 : ∀ (v828 : BitVec 32) (k0_hw68 : k0_chk68 v828), (Rect.unit (s := S32x2x64x4096) (k0_off412 v828) S1x1x64x4096.size (k0_off412_inb v828 k0_hw68)).WholeWords (EltTy.packing .bf16) := fun v828 k0_hw68 => k0_hw68.2.2.2.2.2 (k0_off412_inb v828 k0_hw68)

def k0_off414 (v866 : BitVec 32) : Fin 4 → Nat :=
  let c1_i32_3353 : BitVec 32 := 1#32
  let c0_i32_3359 : BitVec 32 := 0#32
  let c0_i32_3360 : BitVec 32 := 0#32
  ![v866.toNat, 1, 0, 0]
def k0_off415 (v867 : BitVec 32) : Fin 4 → Nat :=
  let c1_i32_3352 : BitVec 32 := 1#32
  let c0_i32_3361 : BitVec 32 := 0#32
  let c0_i32_3362 : BitVec 32 := 0#32
  ![v867.toNat, 1, 0, 0]

def k0_chk70 (v867 : BitVec 32) : Prop :=
  (∀ a, (k0_off130 v867) a + S1x1x64x4096.size a ≤ S32x2x64x4096.size a) ∧
  (∀ (hinb : ∀ a, (k0_off130 v867) a + S1x1x64x4096.size a ≤ S32x2x64x4096.size a), (Rect.unit (s := S32x2x64x4096) (k0_off130 v867) S1x1x64x4096.size hinb).WholeWords (EltTy.packing .bf16)) ∧
  (∀ a, (k0_off152 v867) a + S1x1x64x4096.size a ≤ S32x2x64x4096.size a) ∧
  (∀ (hinb : ∀ a, (k0_off152 v867) a + S1x1x64x4096.size a ≤ S32x2x64x4096.size a), (Rect.unit (s := S32x2x64x4096) (k0_off152 v867) S1x1x64x4096.size hinb).WholeWords (EltTy.packing .bf16)) ∧
  (∀ a, (k0_off415 v867) a + S1x1x64x4096.size a ≤ S32x2x64x4096.size a) ∧
  (∀ (hinb : ∀ a, (k0_off415 v867) a + S1x1x64x4096.size a ≤ S32x2x64x4096.size a), (Rect.unit (s := S32x2x64x4096) (k0_off415 v867) S1x1x64x4096.size hinb).WholeWords (EltTy.packing .bf16))
theorem k0_off130_inb : ∀ (v867 : BitVec 32) (k0_hw70 : k0_chk70 v867), ∀ a, (k0_off130 v867) a + S1x1x64x4096.size a ≤ S32x2x64x4096.size a := fun v867 k0_hw70 => k0_hw70.1
theorem k0_off130_wordsbf16 : ∀ (v867 : BitVec 32) (k0_hw70 : k0_chk70 v867), (Rect.unit (s := S32x2x64x4096) (k0_off130 v867) S1x1x64x4096.size (k0_off130_inb v867 k0_hw70)).WholeWords (EltTy.packing .bf16) := fun v867 k0_hw70 => k0_hw70.2.1 (k0_off130_inb v867 k0_hw70)
theorem k0_off152_inb : ∀ (v867 : BitVec 32) (k0_hw70 : k0_chk70 v867), ∀ a, (k0_off152 v867) a + S1x1x64x4096.size a ≤ S32x2x64x4096.size a := fun v867 k0_hw70 => k0_hw70.2.2.1
theorem k0_off152_wordsbf16 : ∀ (v867 : BitVec 32) (k0_hw70 : k0_chk70 v867), (Rect.unit (s := S32x2x64x4096) (k0_off152 v867) S1x1x64x4096.size (k0_off152_inb v867 k0_hw70)).WholeWords (EltTy.packing .bf16) := fun v867 k0_hw70 => k0_hw70.2.2.2.1 (k0_off152_inb v867 k0_hw70)
theorem k0_off415_inb : ∀ (v867 : BitVec 32) (k0_hw70 : k0_chk70 v867), ∀ a, (k0_off415 v867) a + S1x1x64x4096.size a ≤ S32x2x64x4096.size a := fun v867 k0_hw70 => k0_hw70.2.2.2.2.1
theorem k0_off415_wordsbf16 : ∀ (v867 : BitVec 32) (k0_hw70 : k0_chk70 v867), (Rect.unit (s := S32x2x64x4096) (k0_off415 v867) S1x1x64x4096.size (k0_off415_inb v867 k0_hw70)).WholeWords (EltTy.packing .bf16) := fun v867 k0_hw70 => k0_hw70.2.2.2.2.2 (k0_off415_inb v867 k0_hw70)

def k0_chk71 (v866 : BitVec 32) : Prop :=
  (∀ a, (k0_off131 v866) a + S1x1x64x4096.size a ≤ S32x2x64x4096.size a) ∧
  (∀ (hinb : ∀ a, (k0_off131 v866) a + S1x1x64x4096.size a ≤ S32x2x64x4096.size a), (Rect.unit (s := S32x2x64x4096) (k0_off131 v866) S1x1x64x4096.size hinb).WholeWords (EltTy.packing .bf16)) ∧
  (∀ a, (k0_off153 v866) a + S1x1x64x4096.size a ≤ S32x2x64x4096.size a) ∧
  (∀ (hinb : ∀ a, (k0_off153 v866) a + S1x1x64x4096.size a ≤ S32x2x64x4096.size a), (Rect.unit (s := S32x2x64x4096) (k0_off153 v866) S1x1x64x4096.size hinb).WholeWords (EltTy.packing .bf16)) ∧
  (∀ a, (k0_off414 v866) a + S1x1x64x4096.size a ≤ S32x2x64x4096.size a) ∧
  (∀ (hinb : ∀ a, (k0_off414 v866) a + S1x1x64x4096.size a ≤ S32x2x64x4096.size a), (Rect.unit (s := S32x2x64x4096) (k0_off414 v866) S1x1x64x4096.size hinb).WholeWords (EltTy.packing .bf16))
theorem k0_off131_inb : ∀ (v866 : BitVec 32) (k0_hw71 : k0_chk71 v866), ∀ a, (k0_off131 v866) a + S1x1x64x4096.size a ≤ S32x2x64x4096.size a := fun v866 k0_hw71 => k0_hw71.1
theorem k0_off131_wordsbf16 : ∀ (v866 : BitVec 32) (k0_hw71 : k0_chk71 v866), (Rect.unit (s := S32x2x64x4096) (k0_off131 v866) S1x1x64x4096.size (k0_off131_inb v866 k0_hw71)).WholeWords (EltTy.packing .bf16) := fun v866 k0_hw71 => k0_hw71.2.1 (k0_off131_inb v866 k0_hw71)
theorem k0_off153_inb : ∀ (v866 : BitVec 32) (k0_hw71 : k0_chk71 v866), ∀ a, (k0_off153 v866) a + S1x1x64x4096.size a ≤ S32x2x64x4096.size a := fun v866 k0_hw71 => k0_hw71.2.2.1
theorem k0_off153_wordsbf16 : ∀ (v866 : BitVec 32) (k0_hw71 : k0_chk71 v866), (Rect.unit (s := S32x2x64x4096) (k0_off153 v866) S1x1x64x4096.size (k0_off153_inb v866 k0_hw71)).WholeWords (EltTy.packing .bf16) := fun v866 k0_hw71 => k0_hw71.2.2.2.1 (k0_off153_inb v866 k0_hw71)
theorem k0_off414_inb : ∀ (v866 : BitVec 32) (k0_hw71 : k0_chk71 v866), ∀ a, (k0_off414 v866) a + S1x1x64x4096.size a ≤ S32x2x64x4096.size a := fun v866 k0_hw71 => k0_hw71.2.2.2.2.1
theorem k0_off414_wordsbf16 : ∀ (v866 : BitVec 32) (k0_hw71 : k0_chk71 v866), (Rect.unit (s := S32x2x64x4096) (k0_off414 v866) S1x1x64x4096.size (k0_off414_inb v866 k0_hw71)).WholeWords (EltTy.packing .bf16) := fun v866 k0_hw71 => k0_hw71.2.2.2.2.2 (k0_off414_inb v866 k0_hw71)

def k0_off416 (v904 : BitVec 32) : Fin 4 → Nat :=
  let c0_i32_3364 : BitVec 32 := 0#32
  let c0_i32_3370 : BitVec 32 := 0#32
  let c0_i32_3371 : BitVec 32 := 0#32
  ![v904.toNat, 0, 0, 0]
def k0_off417 (v905 : BitVec 32) : Fin 4 → Nat :=
  let c0_i32_3363 : BitVec 32 := 0#32
  let c0_i32_3372 : BitVec 32 := 0#32
  let c0_i32_3373 : BitVec 32 := 0#32
  ![v905.toNat, 0, 0, 0]

def k0_chk73 (v905 : BitVec 32) : Prop :=
  (∀ a, (k0_off136 v905) a + S1x1x64x4096.size a ≤ S32x2x64x4096.size a) ∧
  (∀ (hinb : ∀ a, (k0_off136 v905) a + S1x1x64x4096.size a ≤ S32x2x64x4096.size a), (Rect.unit (s := S32x2x64x4096) (k0_off136 v905) S1x1x64x4096.size hinb).WholeWords (EltTy.packing .bf16)) ∧
  (∀ a, (k0_off158 v905) a + S1x1x64x4096.size a ≤ S32x2x64x4096.size a) ∧
  (∀ (hinb : ∀ a, (k0_off158 v905) a + S1x1x64x4096.size a ≤ S32x2x64x4096.size a), (Rect.unit (s := S32x2x64x4096) (k0_off158 v905) S1x1x64x4096.size hinb).WholeWords (EltTy.packing .bf16)) ∧
  (∀ a, (k0_off417 v905) a + S1x1x64x4096.size a ≤ S32x2x64x4096.size a) ∧
  (∀ (hinb : ∀ a, (k0_off417 v905) a + S1x1x64x4096.size a ≤ S32x2x64x4096.size a), (Rect.unit (s := S32x2x64x4096) (k0_off417 v905) S1x1x64x4096.size hinb).WholeWords (EltTy.packing .bf16))
theorem k0_off136_inb : ∀ (v905 : BitVec 32) (k0_hw73 : k0_chk73 v905), ∀ a, (k0_off136 v905) a + S1x1x64x4096.size a ≤ S32x2x64x4096.size a := fun v905 k0_hw73 => k0_hw73.1
theorem k0_off136_wordsbf16 : ∀ (v905 : BitVec 32) (k0_hw73 : k0_chk73 v905), (Rect.unit (s := S32x2x64x4096) (k0_off136 v905) S1x1x64x4096.size (k0_off136_inb v905 k0_hw73)).WholeWords (EltTy.packing .bf16) := fun v905 k0_hw73 => k0_hw73.2.1 (k0_off136_inb v905 k0_hw73)
theorem k0_off158_inb : ∀ (v905 : BitVec 32) (k0_hw73 : k0_chk73 v905), ∀ a, (k0_off158 v905) a + S1x1x64x4096.size a ≤ S32x2x64x4096.size a := fun v905 k0_hw73 => k0_hw73.2.2.1
theorem k0_off158_wordsbf16 : ∀ (v905 : BitVec 32) (k0_hw73 : k0_chk73 v905), (Rect.unit (s := S32x2x64x4096) (k0_off158 v905) S1x1x64x4096.size (k0_off158_inb v905 k0_hw73)).WholeWords (EltTy.packing .bf16) := fun v905 k0_hw73 => k0_hw73.2.2.2.1 (k0_off158_inb v905 k0_hw73)
theorem k0_off417_inb : ∀ (v905 : BitVec 32) (k0_hw73 : k0_chk73 v905), ∀ a, (k0_off417 v905) a + S1x1x64x4096.size a ≤ S32x2x64x4096.size a := fun v905 k0_hw73 => k0_hw73.2.2.2.2.1
theorem k0_off417_wordsbf16 : ∀ (v905 : BitVec 32) (k0_hw73 : k0_chk73 v905), (Rect.unit (s := S32x2x64x4096) (k0_off417 v905) S1x1x64x4096.size (k0_off417_inb v905 k0_hw73)).WholeWords (EltTy.packing .bf16) := fun v905 k0_hw73 => k0_hw73.2.2.2.2.2 (k0_off417_inb v905 k0_hw73)

def k0_chk74 (v904 : BitVec 32) : Prop :=
  (∀ a, (k0_off137 v904) a + S1x1x64x4096.size a ≤ S32x2x64x4096.size a) ∧
  (∀ (hinb : ∀ a, (k0_off137 v904) a + S1x1x64x4096.size a ≤ S32x2x64x4096.size a), (Rect.unit (s := S32x2x64x4096) (k0_off137 v904) S1x1x64x4096.size hinb).WholeWords (EltTy.packing .bf16)) ∧
  (∀ a, (k0_off159 v904) a + S1x1x64x4096.size a ≤ S32x2x64x4096.size a) ∧
  (∀ (hinb : ∀ a, (k0_off159 v904) a + S1x1x64x4096.size a ≤ S32x2x64x4096.size a), (Rect.unit (s := S32x2x64x4096) (k0_off159 v904) S1x1x64x4096.size hinb).WholeWords (EltTy.packing .bf16)) ∧
  (∀ a, (k0_off416 v904) a + S1x1x64x4096.size a ≤ S32x2x64x4096.size a) ∧
  (∀ (hinb : ∀ a, (k0_off416 v904) a + S1x1x64x4096.size a ≤ S32x2x64x4096.size a), (Rect.unit (s := S32x2x64x4096) (k0_off416 v904) S1x1x64x4096.size hinb).WholeWords (EltTy.packing .bf16))
theorem k0_off137_inb : ∀ (v904 : BitVec 32) (k0_hw74 : k0_chk74 v904), ∀ a, (k0_off137 v904) a + S1x1x64x4096.size a ≤ S32x2x64x4096.size a := fun v904 k0_hw74 => k0_hw74.1
theorem k0_off137_wordsbf16 : ∀ (v904 : BitVec 32) (k0_hw74 : k0_chk74 v904), (Rect.unit (s := S32x2x64x4096) (k0_off137 v904) S1x1x64x4096.size (k0_off137_inb v904 k0_hw74)).WholeWords (EltTy.packing .bf16) := fun v904 k0_hw74 => k0_hw74.2.1 (k0_off137_inb v904 k0_hw74)
theorem k0_off159_inb : ∀ (v904 : BitVec 32) (k0_hw74 : k0_chk74 v904), ∀ a, (k0_off159 v904) a + S1x1x64x4096.size a ≤ S32x2x64x4096.size a := fun v904 k0_hw74 => k0_hw74.2.2.1
theorem k0_off159_wordsbf16 : ∀ (v904 : BitVec 32) (k0_hw74 : k0_chk74 v904), (Rect.unit (s := S32x2x64x4096) (k0_off159 v904) S1x1x64x4096.size (k0_off159_inb v904 k0_hw74)).WholeWords (EltTy.packing .bf16) := fun v904 k0_hw74 => k0_hw74.2.2.2.1 (k0_off159_inb v904 k0_hw74)
theorem k0_off416_inb : ∀ (v904 : BitVec 32) (k0_hw74 : k0_chk74 v904), ∀ a, (k0_off416 v904) a + S1x1x64x4096.size a ≤ S32x2x64x4096.size a := fun v904 k0_hw74 => k0_hw74.2.2.2.2.1
theorem k0_off416_wordsbf16 : ∀ (v904 : BitVec 32) (k0_hw74 : k0_chk74 v904), (Rect.unit (s := S32x2x64x4096) (k0_off416 v904) S1x1x64x4096.size (k0_off416_inb v904 k0_hw74)).WholeWords (EltTy.packing .bf16) := fun v904 k0_hw74 => k0_hw74.2.2.2.2.2 (k0_off416_inb v904 k0_hw74)

def k0_off418 (v942 : BitVec 32) : Fin 4 → Nat :=
  let c1_i32_3375 : BitVec 32 := 1#32
  let c0_i32_3381 : BitVec 32 := 0#32
  let c0_i32_3382 : BitVec 32 := 0#32
  ![v942.toNat, 1, 0, 0]
def k0_off419 (v943 : BitVec 32) : Fin 4 → Nat :=
  let c1_i32_3374 : BitVec 32 := 1#32
  let c0_i32_3383 : BitVec 32 := 0#32
  let c0_i32_3384 : BitVec 32 := 0#32
  ![v943.toNat, 1, 0, 0]

def k0_chk76 (v943 : BitVec 32) : Prop :=
  (∀ a, (k0_off142 v943) a + S1x1x64x4096.size a ≤ S32x2x64x4096.size a) ∧
  (∀ (hinb : ∀ a, (k0_off142 v943) a + S1x1x64x4096.size a ≤ S32x2x64x4096.size a), (Rect.unit (s := S32x2x64x4096) (k0_off142 v943) S1x1x64x4096.size hinb).WholeWords (EltTy.packing .bf16)) ∧
  (∀ a, (k0_off164 v943) a + S1x1x64x4096.size a ≤ S32x2x64x4096.size a) ∧
  (∀ (hinb : ∀ a, (k0_off164 v943) a + S1x1x64x4096.size a ≤ S32x2x64x4096.size a), (Rect.unit (s := S32x2x64x4096) (k0_off164 v943) S1x1x64x4096.size hinb).WholeWords (EltTy.packing .bf16)) ∧
  (∀ a, (k0_off419 v943) a + S1x1x64x4096.size a ≤ S32x2x64x4096.size a) ∧
  (∀ (hinb : ∀ a, (k0_off419 v943) a + S1x1x64x4096.size a ≤ S32x2x64x4096.size a), (Rect.unit (s := S32x2x64x4096) (k0_off419 v943) S1x1x64x4096.size hinb).WholeWords (EltTy.packing .bf16))
theorem k0_off142_inb : ∀ (v943 : BitVec 32) (k0_hw76 : k0_chk76 v943), ∀ a, (k0_off142 v943) a + S1x1x64x4096.size a ≤ S32x2x64x4096.size a := fun v943 k0_hw76 => k0_hw76.1
theorem k0_off142_wordsbf16 : ∀ (v943 : BitVec 32) (k0_hw76 : k0_chk76 v943), (Rect.unit (s := S32x2x64x4096) (k0_off142 v943) S1x1x64x4096.size (k0_off142_inb v943 k0_hw76)).WholeWords (EltTy.packing .bf16) := fun v943 k0_hw76 => k0_hw76.2.1 (k0_off142_inb v943 k0_hw76)
theorem k0_off164_inb : ∀ (v943 : BitVec 32) (k0_hw76 : k0_chk76 v943), ∀ a, (k0_off164 v943) a + S1x1x64x4096.size a ≤ S32x2x64x4096.size a := fun v943 k0_hw76 => k0_hw76.2.2.1
theorem k0_off164_wordsbf16 : ∀ (v943 : BitVec 32) (k0_hw76 : k0_chk76 v943), (Rect.unit (s := S32x2x64x4096) (k0_off164 v943) S1x1x64x4096.size (k0_off164_inb v943 k0_hw76)).WholeWords (EltTy.packing .bf16) := fun v943 k0_hw76 => k0_hw76.2.2.2.1 (k0_off164_inb v943 k0_hw76)
theorem k0_off419_inb : ∀ (v943 : BitVec 32) (k0_hw76 : k0_chk76 v943), ∀ a, (k0_off419 v943) a + S1x1x64x4096.size a ≤ S32x2x64x4096.size a := fun v943 k0_hw76 => k0_hw76.2.2.2.2.1
theorem k0_off419_wordsbf16 : ∀ (v943 : BitVec 32) (k0_hw76 : k0_chk76 v943), (Rect.unit (s := S32x2x64x4096) (k0_off419 v943) S1x1x64x4096.size (k0_off419_inb v943 k0_hw76)).WholeWords (EltTy.packing .bf16) := fun v943 k0_hw76 => k0_hw76.2.2.2.2.2 (k0_off419_inb v943 k0_hw76)

def k0_chk77 (v942 : BitVec 32) : Prop :=
  (∀ a, (k0_off143 v942) a + S1x1x64x4096.size a ≤ S32x2x64x4096.size a) ∧
  (∀ (hinb : ∀ a, (k0_off143 v942) a + S1x1x64x4096.size a ≤ S32x2x64x4096.size a), (Rect.unit (s := S32x2x64x4096) (k0_off143 v942) S1x1x64x4096.size hinb).WholeWords (EltTy.packing .bf16)) ∧
  (∀ a, (k0_off165 v942) a + S1x1x64x4096.size a ≤ S32x2x64x4096.size a) ∧
  (∀ (hinb : ∀ a, (k0_off165 v942) a + S1x1x64x4096.size a ≤ S32x2x64x4096.size a), (Rect.unit (s := S32x2x64x4096) (k0_off165 v942) S1x1x64x4096.size hinb).WholeWords (EltTy.packing .bf16)) ∧
  (∀ a, (k0_off418 v942) a + S1x1x64x4096.size a ≤ S32x2x64x4096.size a) ∧
  (∀ (hinb : ∀ a, (k0_off418 v942) a + S1x1x64x4096.size a ≤ S32x2x64x4096.size a), (Rect.unit (s := S32x2x64x4096) (k0_off418 v942) S1x1x64x4096.size hinb).WholeWords (EltTy.packing .bf16))
theorem k0_off143_inb : ∀ (v942 : BitVec 32) (k0_hw77 : k0_chk77 v942), ∀ a, (k0_off143 v942) a + S1x1x64x4096.size a ≤ S32x2x64x4096.size a := fun v942 k0_hw77 => k0_hw77.1
theorem k0_off143_wordsbf16 : ∀ (v942 : BitVec 32) (k0_hw77 : k0_chk77 v942), (Rect.unit (s := S32x2x64x4096) (k0_off143 v942) S1x1x64x4096.size (k0_off143_inb v942 k0_hw77)).WholeWords (EltTy.packing .bf16) := fun v942 k0_hw77 => k0_hw77.2.1 (k0_off143_inb v942 k0_hw77)
theorem k0_off165_inb : ∀ (v942 : BitVec 32) (k0_hw77 : k0_chk77 v942), ∀ a, (k0_off165 v942) a + S1x1x64x4096.size a ≤ S32x2x64x4096.size a := fun v942 k0_hw77 => k0_hw77.2.2.1
theorem k0_off165_wordsbf16 : ∀ (v942 : BitVec 32) (k0_hw77 : k0_chk77 v942), (Rect.unit (s := S32x2x64x4096) (k0_off165 v942) S1x1x64x4096.size (k0_off165_inb v942 k0_hw77)).WholeWords (EltTy.packing .bf16) := fun v942 k0_hw77 => k0_hw77.2.2.2.1 (k0_off165_inb v942 k0_hw77)
theorem k0_off418_inb : ∀ (v942 : BitVec 32) (k0_hw77 : k0_chk77 v942), ∀ a, (k0_off418 v942) a + S1x1x64x4096.size a ≤ S32x2x64x4096.size a := fun v942 k0_hw77 => k0_hw77.2.2.2.2.1
theorem k0_off418_wordsbf16 : ∀ (v942 : BitVec 32) (k0_hw77 : k0_chk77 v942), (Rect.unit (s := S32x2x64x4096) (k0_off418 v942) S1x1x64x4096.size (k0_off418_inb v942 k0_hw77)).WholeWords (EltTy.packing .bf16) := fun v942 k0_hw77 => k0_hw77.2.2.2.2.2 (k0_off418_inb v942 k0_hw77)

def k0_off420 (v980 : BitVec 32) : Fin 4 → Nat :=
  let c0_i32_3386 : BitVec 32 := 0#32
  let c0_i32_3392 : BitVec 32 := 0#32
  let c0_i32_3393 : BitVec 32 := 0#32
  ![v980.toNat, 0, 0, 0]
def k0_off421 (v981 : BitVec 32) : Fin 4 → Nat :=
  let c0_i32_3385 : BitVec 32 := 0#32
  let c0_i32_3394 : BitVec 32 := 0#32
  let c0_i32_3395 : BitVec 32 := 0#32
  ![v981.toNat, 0, 0, 0]

def k0_chk79 (v981 : BitVec 32) : Prop :=
  (∀ a, (k0_off148 v981) a + S1x1x64x4096.size a ≤ S32x2x64x4096.size a) ∧
  (∀ (hinb : ∀ a, (k0_off148 v981) a + S1x1x64x4096.size a ≤ S32x2x64x4096.size a), (Rect.unit (s := S32x2x64x4096) (k0_off148 v981) S1x1x64x4096.size hinb).WholeWords (EltTy.packing .bf16)) ∧
  (∀ a, (k0_off170 v981) a + S1x1x64x4096.size a ≤ S32x2x64x4096.size a) ∧
  (∀ (hinb : ∀ a, (k0_off170 v981) a + S1x1x64x4096.size a ≤ S32x2x64x4096.size a), (Rect.unit (s := S32x2x64x4096) (k0_off170 v981) S1x1x64x4096.size hinb).WholeWords (EltTy.packing .bf16)) ∧
  (∀ a, (k0_off421 v981) a + S1x1x64x4096.size a ≤ S32x2x64x4096.size a) ∧
  (∀ (hinb : ∀ a, (k0_off421 v981) a + S1x1x64x4096.size a ≤ S32x2x64x4096.size a), (Rect.unit (s := S32x2x64x4096) (k0_off421 v981) S1x1x64x4096.size hinb).WholeWords (EltTy.packing .bf16))
theorem k0_off148_inb : ∀ (v981 : BitVec 32) (k0_hw79 : k0_chk79 v981), ∀ a, (k0_off148 v981) a + S1x1x64x4096.size a ≤ S32x2x64x4096.size a := fun v981 k0_hw79 => k0_hw79.1
theorem k0_off148_wordsbf16 : ∀ (v981 : BitVec 32) (k0_hw79 : k0_chk79 v981), (Rect.unit (s := S32x2x64x4096) (k0_off148 v981) S1x1x64x4096.size (k0_off148_inb v981 k0_hw79)).WholeWords (EltTy.packing .bf16) := fun v981 k0_hw79 => k0_hw79.2.1 (k0_off148_inb v981 k0_hw79)
theorem k0_off170_inb : ∀ (v981 : BitVec 32) (k0_hw79 : k0_chk79 v981), ∀ a, (k0_off170 v981) a + S1x1x64x4096.size a ≤ S32x2x64x4096.size a := fun v981 k0_hw79 => k0_hw79.2.2.1
theorem k0_off170_wordsbf16 : ∀ (v981 : BitVec 32) (k0_hw79 : k0_chk79 v981), (Rect.unit (s := S32x2x64x4096) (k0_off170 v981) S1x1x64x4096.size (k0_off170_inb v981 k0_hw79)).WholeWords (EltTy.packing .bf16) := fun v981 k0_hw79 => k0_hw79.2.2.2.1 (k0_off170_inb v981 k0_hw79)
theorem k0_off421_inb : ∀ (v981 : BitVec 32) (k0_hw79 : k0_chk79 v981), ∀ a, (k0_off421 v981) a + S1x1x64x4096.size a ≤ S32x2x64x4096.size a := fun v981 k0_hw79 => k0_hw79.2.2.2.2.1
theorem k0_off421_wordsbf16 : ∀ (v981 : BitVec 32) (k0_hw79 : k0_chk79 v981), (Rect.unit (s := S32x2x64x4096) (k0_off421 v981) S1x1x64x4096.size (k0_off421_inb v981 k0_hw79)).WholeWords (EltTy.packing .bf16) := fun v981 k0_hw79 => k0_hw79.2.2.2.2.2 (k0_off421_inb v981 k0_hw79)

def k0_chk80 (v980 : BitVec 32) : Prop :=
  (∀ a, (k0_off149 v980) a + S1x1x64x4096.size a ≤ S32x2x64x4096.size a) ∧
  (∀ (hinb : ∀ a, (k0_off149 v980) a + S1x1x64x4096.size a ≤ S32x2x64x4096.size a), (Rect.unit (s := S32x2x64x4096) (k0_off149 v980) S1x1x64x4096.size hinb).WholeWords (EltTy.packing .bf16)) ∧
  (∀ a, (k0_off171 v980) a + S1x1x64x4096.size a ≤ S32x2x64x4096.size a) ∧
  (∀ (hinb : ∀ a, (k0_off171 v980) a + S1x1x64x4096.size a ≤ S32x2x64x4096.size a), (Rect.unit (s := S32x2x64x4096) (k0_off171 v980) S1x1x64x4096.size hinb).WholeWords (EltTy.packing .bf16)) ∧
  (∀ a, (k0_off420 v980) a + S1x1x64x4096.size a ≤ S32x2x64x4096.size a) ∧
  (∀ (hinb : ∀ a, (k0_off420 v980) a + S1x1x64x4096.size a ≤ S32x2x64x4096.size a), (Rect.unit (s := S32x2x64x4096) (k0_off420 v980) S1x1x64x4096.size hinb).WholeWords (EltTy.packing .bf16))
theorem k0_off149_inb : ∀ (v980 : BitVec 32) (k0_hw80 : k0_chk80 v980), ∀ a, (k0_off149 v980) a + S1x1x64x4096.size a ≤ S32x2x64x4096.size a := fun v980 k0_hw80 => k0_hw80.1
theorem k0_off149_wordsbf16 : ∀ (v980 : BitVec 32) (k0_hw80 : k0_chk80 v980), (Rect.unit (s := S32x2x64x4096) (k0_off149 v980) S1x1x64x4096.size (k0_off149_inb v980 k0_hw80)).WholeWords (EltTy.packing .bf16) := fun v980 k0_hw80 => k0_hw80.2.1 (k0_off149_inb v980 k0_hw80)
theorem k0_off171_inb : ∀ (v980 : BitVec 32) (k0_hw80 : k0_chk80 v980), ∀ a, (k0_off171 v980) a + S1x1x64x4096.size a ≤ S32x2x64x4096.size a := fun v980 k0_hw80 => k0_hw80.2.2.1
theorem k0_off171_wordsbf16 : ∀ (v980 : BitVec 32) (k0_hw80 : k0_chk80 v980), (Rect.unit (s := S32x2x64x4096) (k0_off171 v980) S1x1x64x4096.size (k0_off171_inb v980 k0_hw80)).WholeWords (EltTy.packing .bf16) := fun v980 k0_hw80 => k0_hw80.2.2.2.1 (k0_off171_inb v980 k0_hw80)
theorem k0_off420_inb : ∀ (v980 : BitVec 32) (k0_hw80 : k0_chk80 v980), ∀ a, (k0_off420 v980) a + S1x1x64x4096.size a ≤ S32x2x64x4096.size a := fun v980 k0_hw80 => k0_hw80.2.2.2.2.1
theorem k0_off420_wordsbf16 : ∀ (v980 : BitVec 32) (k0_hw80 : k0_chk80 v980), (Rect.unit (s := S32x2x64x4096) (k0_off420 v980) S1x1x64x4096.size (k0_off420_inb v980 k0_hw80)).WholeWords (EltTy.packing .bf16) := fun v980 k0_hw80 => k0_hw80.2.2.2.2.2 (k0_off420_inb v980 k0_hw80)

def k0_off422 (v1018 : BitVec 32) : Fin 4 → Nat :=
  let c1_i32_3397 : BitVec 32 := 1#32
  let c0_i32_3403 : BitVec 32 := 0#32
  let c0_i32_3404 : BitVec 32 := 0#32
  ![v1018.toNat, 1, 0, 0]
def k0_off423 (v1019 : BitVec 32) : Fin 4 → Nat :=
  let c1_i32_3396 : BitVec 32 := 1#32
  let c0_i32_3405 : BitVec 32 := 0#32
  let c0_i32_3406 : BitVec 32 := 0#32
  ![v1019.toNat, 1, 0, 0]

def k0_chk82 (v1019 : BitVec 32) : Prop :=
  (∀ a, (k0_off154 v1019) a + S1x1x64x4096.size a ≤ S32x2x64x4096.size a) ∧
  (∀ (hinb : ∀ a, (k0_off154 v1019) a + S1x1x64x4096.size a ≤ S32x2x64x4096.size a), (Rect.unit (s := S32x2x64x4096) (k0_off154 v1019) S1x1x64x4096.size hinb).WholeWords (EltTy.packing .bf16)) ∧
  (∀ a, (k0_off176 v1019) a + S1x1x64x4096.size a ≤ S32x2x64x4096.size a) ∧
  (∀ (hinb : ∀ a, (k0_off176 v1019) a + S1x1x64x4096.size a ≤ S32x2x64x4096.size a), (Rect.unit (s := S32x2x64x4096) (k0_off176 v1019) S1x1x64x4096.size hinb).WholeWords (EltTy.packing .bf16)) ∧
  (∀ a, (k0_off423 v1019) a + S1x1x64x4096.size a ≤ S32x2x64x4096.size a) ∧
  (∀ (hinb : ∀ a, (k0_off423 v1019) a + S1x1x64x4096.size a ≤ S32x2x64x4096.size a), (Rect.unit (s := S32x2x64x4096) (k0_off423 v1019) S1x1x64x4096.size hinb).WholeWords (EltTy.packing .bf16))
theorem k0_off154_inb : ∀ (v1019 : BitVec 32) (k0_hw82 : k0_chk82 v1019), ∀ a, (k0_off154 v1019) a + S1x1x64x4096.size a ≤ S32x2x64x4096.size a := fun v1019 k0_hw82 => k0_hw82.1
theorem k0_off154_wordsbf16 : ∀ (v1019 : BitVec 32) (k0_hw82 : k0_chk82 v1019), (Rect.unit (s := S32x2x64x4096) (k0_off154 v1019) S1x1x64x4096.size (k0_off154_inb v1019 k0_hw82)).WholeWords (EltTy.packing .bf16) := fun v1019 k0_hw82 => k0_hw82.2.1 (k0_off154_inb v1019 k0_hw82)
theorem k0_off176_inb : ∀ (v1019 : BitVec 32) (k0_hw82 : k0_chk82 v1019), ∀ a, (k0_off176 v1019) a + S1x1x64x4096.size a ≤ S32x2x64x4096.size a := fun v1019 k0_hw82 => k0_hw82.2.2.1
theorem k0_off176_wordsbf16 : ∀ (v1019 : BitVec 32) (k0_hw82 : k0_chk82 v1019), (Rect.unit (s := S32x2x64x4096) (k0_off176 v1019) S1x1x64x4096.size (k0_off176_inb v1019 k0_hw82)).WholeWords (EltTy.packing .bf16) := fun v1019 k0_hw82 => k0_hw82.2.2.2.1 (k0_off176_inb v1019 k0_hw82)
theorem k0_off423_inb : ∀ (v1019 : BitVec 32) (k0_hw82 : k0_chk82 v1019), ∀ a, (k0_off423 v1019) a + S1x1x64x4096.size a ≤ S32x2x64x4096.size a := fun v1019 k0_hw82 => k0_hw82.2.2.2.2.1
theorem k0_off423_wordsbf16 : ∀ (v1019 : BitVec 32) (k0_hw82 : k0_chk82 v1019), (Rect.unit (s := S32x2x64x4096) (k0_off423 v1019) S1x1x64x4096.size (k0_off423_inb v1019 k0_hw82)).WholeWords (EltTy.packing .bf16) := fun v1019 k0_hw82 => k0_hw82.2.2.2.2.2 (k0_off423_inb v1019 k0_hw82)

def k0_chk83 (v1018 : BitVec 32) : Prop :=
  (∀ a, (k0_off155 v1018) a + S1x1x64x4096.size a ≤ S32x2x64x4096.size a) ∧
  (∀ (hinb : ∀ a, (k0_off155 v1018) a + S1x1x64x4096.size a ≤ S32x2x64x4096.size a), (Rect.unit (s := S32x2x64x4096) (k0_off155 v1018) S1x1x64x4096.size hinb).WholeWords (EltTy.packing .bf16)) ∧
  (∀ a, (k0_off177 v1018) a + S1x1x64x4096.size a ≤ S32x2x64x4096.size a) ∧
  (∀ (hinb : ∀ a, (k0_off177 v1018) a + S1x1x64x4096.size a ≤ S32x2x64x4096.size a), (Rect.unit (s := S32x2x64x4096) (k0_off177 v1018) S1x1x64x4096.size hinb).WholeWords (EltTy.packing .bf16)) ∧
  (∀ a, (k0_off422 v1018) a + S1x1x64x4096.size a ≤ S32x2x64x4096.size a) ∧
  (∀ (hinb : ∀ a, (k0_off422 v1018) a + S1x1x64x4096.size a ≤ S32x2x64x4096.size a), (Rect.unit (s := S32x2x64x4096) (k0_off422 v1018) S1x1x64x4096.size hinb).WholeWords (EltTy.packing .bf16))
theorem k0_off155_inb : ∀ (v1018 : BitVec 32) (k0_hw83 : k0_chk83 v1018), ∀ a, (k0_off155 v1018) a + S1x1x64x4096.size a ≤ S32x2x64x4096.size a := fun v1018 k0_hw83 => k0_hw83.1
theorem k0_off155_wordsbf16 : ∀ (v1018 : BitVec 32) (k0_hw83 : k0_chk83 v1018), (Rect.unit (s := S32x2x64x4096) (k0_off155 v1018) S1x1x64x4096.size (k0_off155_inb v1018 k0_hw83)).WholeWords (EltTy.packing .bf16) := fun v1018 k0_hw83 => k0_hw83.2.1 (k0_off155_inb v1018 k0_hw83)
theorem k0_off177_inb : ∀ (v1018 : BitVec 32) (k0_hw83 : k0_chk83 v1018), ∀ a, (k0_off177 v1018) a + S1x1x64x4096.size a ≤ S32x2x64x4096.size a := fun v1018 k0_hw83 => k0_hw83.2.2.1
theorem k0_off177_wordsbf16 : ∀ (v1018 : BitVec 32) (k0_hw83 : k0_chk83 v1018), (Rect.unit (s := S32x2x64x4096) (k0_off177 v1018) S1x1x64x4096.size (k0_off177_inb v1018 k0_hw83)).WholeWords (EltTy.packing .bf16) := fun v1018 k0_hw83 => k0_hw83.2.2.2.1 (k0_off177_inb v1018 k0_hw83)
theorem k0_off422_inb : ∀ (v1018 : BitVec 32) (k0_hw83 : k0_chk83 v1018), ∀ a, (k0_off422 v1018) a + S1x1x64x4096.size a ≤ S32x2x64x4096.size a := fun v1018 k0_hw83 => k0_hw83.2.2.2.2.1
theorem k0_off422_wordsbf16 : ∀ (v1018 : BitVec 32) (k0_hw83 : k0_chk83 v1018), (Rect.unit (s := S32x2x64x4096) (k0_off422 v1018) S1x1x64x4096.size (k0_off422_inb v1018 k0_hw83)).WholeWords (EltTy.packing .bf16) := fun v1018 k0_hw83 => k0_hw83.2.2.2.2.2 (k0_off422_inb v1018 k0_hw83)

def k0_off424 (v1056 : BitVec 32) : Fin 4 → Nat :=
  let c0_i32_3408 : BitVec 32 := 0#32
  let c0_i32_3414 : BitVec 32 := 0#32
  let c0_i32_3415 : BitVec 32 := 0#32
  ![v1056.toNat, 0, 0, 0]
def k0_off425 (v1057 : BitVec 32) : Fin 4 → Nat :=
  let c0_i32_3407 : BitVec 32 := 0#32
  let c0_i32_3416 : BitVec 32 := 0#32
  let c0_i32_3417 : BitVec 32 := 0#32
  ![v1057.toNat, 0, 0, 0]

def k0_chk85 (v1057 : BitVec 32) : Prop :=
  (∀ a, (k0_off160 v1057) a + S1x1x64x4096.size a ≤ S32x2x64x4096.size a) ∧
  (∀ (hinb : ∀ a, (k0_off160 v1057) a + S1x1x64x4096.size a ≤ S32x2x64x4096.size a), (Rect.unit (s := S32x2x64x4096) (k0_off160 v1057) S1x1x64x4096.size hinb).WholeWords (EltTy.packing .bf16)) ∧
  (∀ a, (k0_off182 v1057) a + S1x1x64x4096.size a ≤ S32x2x64x4096.size a) ∧
  (∀ (hinb : ∀ a, (k0_off182 v1057) a + S1x1x64x4096.size a ≤ S32x2x64x4096.size a), (Rect.unit (s := S32x2x64x4096) (k0_off182 v1057) S1x1x64x4096.size hinb).WholeWords (EltTy.packing .bf16)) ∧
  (∀ a, (k0_off425 v1057) a + S1x1x64x4096.size a ≤ S32x2x64x4096.size a) ∧
  (∀ (hinb : ∀ a, (k0_off425 v1057) a + S1x1x64x4096.size a ≤ S32x2x64x4096.size a), (Rect.unit (s := S32x2x64x4096) (k0_off425 v1057) S1x1x64x4096.size hinb).WholeWords (EltTy.packing .bf16))
theorem k0_off160_inb : ∀ (v1057 : BitVec 32) (k0_hw85 : k0_chk85 v1057), ∀ a, (k0_off160 v1057) a + S1x1x64x4096.size a ≤ S32x2x64x4096.size a := fun v1057 k0_hw85 => k0_hw85.1
theorem k0_off160_wordsbf16 : ∀ (v1057 : BitVec 32) (k0_hw85 : k0_chk85 v1057), (Rect.unit (s := S32x2x64x4096) (k0_off160 v1057) S1x1x64x4096.size (k0_off160_inb v1057 k0_hw85)).WholeWords (EltTy.packing .bf16) := fun v1057 k0_hw85 => k0_hw85.2.1 (k0_off160_inb v1057 k0_hw85)
theorem k0_off182_inb : ∀ (v1057 : BitVec 32) (k0_hw85 : k0_chk85 v1057), ∀ a, (k0_off182 v1057) a + S1x1x64x4096.size a ≤ S32x2x64x4096.size a := fun v1057 k0_hw85 => k0_hw85.2.2.1
theorem k0_off182_wordsbf16 : ∀ (v1057 : BitVec 32) (k0_hw85 : k0_chk85 v1057), (Rect.unit (s := S32x2x64x4096) (k0_off182 v1057) S1x1x64x4096.size (k0_off182_inb v1057 k0_hw85)).WholeWords (EltTy.packing .bf16) := fun v1057 k0_hw85 => k0_hw85.2.2.2.1 (k0_off182_inb v1057 k0_hw85)
theorem k0_off425_inb : ∀ (v1057 : BitVec 32) (k0_hw85 : k0_chk85 v1057), ∀ a, (k0_off425 v1057) a + S1x1x64x4096.size a ≤ S32x2x64x4096.size a := fun v1057 k0_hw85 => k0_hw85.2.2.2.2.1
theorem k0_off425_wordsbf16 : ∀ (v1057 : BitVec 32) (k0_hw85 : k0_chk85 v1057), (Rect.unit (s := S32x2x64x4096) (k0_off425 v1057) S1x1x64x4096.size (k0_off425_inb v1057 k0_hw85)).WholeWords (EltTy.packing .bf16) := fun v1057 k0_hw85 => k0_hw85.2.2.2.2.2 (k0_off425_inb v1057 k0_hw85)

def k0_chk86 (v1056 : BitVec 32) : Prop :=
  (∀ a, (k0_off161 v1056) a + S1x1x64x4096.size a ≤ S32x2x64x4096.size a) ∧
  (∀ (hinb : ∀ a, (k0_off161 v1056) a + S1x1x64x4096.size a ≤ S32x2x64x4096.size a), (Rect.unit (s := S32x2x64x4096) (k0_off161 v1056) S1x1x64x4096.size hinb).WholeWords (EltTy.packing .bf16)) ∧
  (∀ a, (k0_off183 v1056) a + S1x1x64x4096.size a ≤ S32x2x64x4096.size a) ∧
  (∀ (hinb : ∀ a, (k0_off183 v1056) a + S1x1x64x4096.size a ≤ S32x2x64x4096.size a), (Rect.unit (s := S32x2x64x4096) (k0_off183 v1056) S1x1x64x4096.size hinb).WholeWords (EltTy.packing .bf16)) ∧
  (∀ a, (k0_off424 v1056) a + S1x1x64x4096.size a ≤ S32x2x64x4096.size a) ∧
  (∀ (hinb : ∀ a, (k0_off424 v1056) a + S1x1x64x4096.size a ≤ S32x2x64x4096.size a), (Rect.unit (s := S32x2x64x4096) (k0_off424 v1056) S1x1x64x4096.size hinb).WholeWords (EltTy.packing .bf16))
theorem k0_off161_inb : ∀ (v1056 : BitVec 32) (k0_hw86 : k0_chk86 v1056), ∀ a, (k0_off161 v1056) a + S1x1x64x4096.size a ≤ S32x2x64x4096.size a := fun v1056 k0_hw86 => k0_hw86.1
theorem k0_off161_wordsbf16 : ∀ (v1056 : BitVec 32) (k0_hw86 : k0_chk86 v1056), (Rect.unit (s := S32x2x64x4096) (k0_off161 v1056) S1x1x64x4096.size (k0_off161_inb v1056 k0_hw86)).WholeWords (EltTy.packing .bf16) := fun v1056 k0_hw86 => k0_hw86.2.1 (k0_off161_inb v1056 k0_hw86)
theorem k0_off183_inb : ∀ (v1056 : BitVec 32) (k0_hw86 : k0_chk86 v1056), ∀ a, (k0_off183 v1056) a + S1x1x64x4096.size a ≤ S32x2x64x4096.size a := fun v1056 k0_hw86 => k0_hw86.2.2.1
theorem k0_off183_wordsbf16 : ∀ (v1056 : BitVec 32) (k0_hw86 : k0_chk86 v1056), (Rect.unit (s := S32x2x64x4096) (k0_off183 v1056) S1x1x64x4096.size (k0_off183_inb v1056 k0_hw86)).WholeWords (EltTy.packing .bf16) := fun v1056 k0_hw86 => k0_hw86.2.2.2.1 (k0_off183_inb v1056 k0_hw86)
theorem k0_off424_inb : ∀ (v1056 : BitVec 32) (k0_hw86 : k0_chk86 v1056), ∀ a, (k0_off424 v1056) a + S1x1x64x4096.size a ≤ S32x2x64x4096.size a := fun v1056 k0_hw86 => k0_hw86.2.2.2.2.1
theorem k0_off424_wordsbf16 : ∀ (v1056 : BitVec 32) (k0_hw86 : k0_chk86 v1056), (Rect.unit (s := S32x2x64x4096) (k0_off424 v1056) S1x1x64x4096.size (k0_off424_inb v1056 k0_hw86)).WholeWords (EltTy.packing .bf16) := fun v1056 k0_hw86 => k0_hw86.2.2.2.2.2 (k0_off424_inb v1056 k0_hw86)

def k0_off426 (v1094 : BitVec 32) : Fin 4 → Nat :=
  let c1_i32_3419 : BitVec 32 := 1#32
  let c0_i32_3425 : BitVec 32 := 0#32
  let c0_i32_3426 : BitVec 32 := 0#32
  ![v1094.toNat, 1, 0, 0]
def k0_off427 (v1095 : BitVec 32) : Fin 4 → Nat :=
  let c1_i32_3418 : BitVec 32 := 1#32
  let c0_i32_3427 : BitVec 32 := 0#32
  let c0_i32_3428 : BitVec 32 := 0#32
  ![v1095.toNat, 1, 0, 0]

def k0_chk88 (v1095 : BitVec 32) : Prop :=
  (∀ a, (k0_off166 v1095) a + S1x1x64x4096.size a ≤ S32x2x64x4096.size a) ∧
  (∀ (hinb : ∀ a, (k0_off166 v1095) a + S1x1x64x4096.size a ≤ S32x2x64x4096.size a), (Rect.unit (s := S32x2x64x4096) (k0_off166 v1095) S1x1x64x4096.size hinb).WholeWords (EltTy.packing .bf16)) ∧
  (∀ a, (k0_off188 v1095) a + S1x1x64x4096.size a ≤ S32x2x64x4096.size a) ∧
  (∀ (hinb : ∀ a, (k0_off188 v1095) a + S1x1x64x4096.size a ≤ S32x2x64x4096.size a), (Rect.unit (s := S32x2x64x4096) (k0_off188 v1095) S1x1x64x4096.size hinb).WholeWords (EltTy.packing .bf16)) ∧
  (∀ a, (k0_off427 v1095) a + S1x1x64x4096.size a ≤ S32x2x64x4096.size a) ∧
  (∀ (hinb : ∀ a, (k0_off427 v1095) a + S1x1x64x4096.size a ≤ S32x2x64x4096.size a), (Rect.unit (s := S32x2x64x4096) (k0_off427 v1095) S1x1x64x4096.size hinb).WholeWords (EltTy.packing .bf16))
theorem k0_off166_inb : ∀ (v1095 : BitVec 32) (k0_hw88 : k0_chk88 v1095), ∀ a, (k0_off166 v1095) a + S1x1x64x4096.size a ≤ S32x2x64x4096.size a := fun v1095 k0_hw88 => k0_hw88.1
theorem k0_off166_wordsbf16 : ∀ (v1095 : BitVec 32) (k0_hw88 : k0_chk88 v1095), (Rect.unit (s := S32x2x64x4096) (k0_off166 v1095) S1x1x64x4096.size (k0_off166_inb v1095 k0_hw88)).WholeWords (EltTy.packing .bf16) := fun v1095 k0_hw88 => k0_hw88.2.1 (k0_off166_inb v1095 k0_hw88)
theorem k0_off188_inb : ∀ (v1095 : BitVec 32) (k0_hw88 : k0_chk88 v1095), ∀ a, (k0_off188 v1095) a + S1x1x64x4096.size a ≤ S32x2x64x4096.size a := fun v1095 k0_hw88 => k0_hw88.2.2.1
theorem k0_off188_wordsbf16 : ∀ (v1095 : BitVec 32) (k0_hw88 : k0_chk88 v1095), (Rect.unit (s := S32x2x64x4096) (k0_off188 v1095) S1x1x64x4096.size (k0_off188_inb v1095 k0_hw88)).WholeWords (EltTy.packing .bf16) := fun v1095 k0_hw88 => k0_hw88.2.2.2.1 (k0_off188_inb v1095 k0_hw88)
theorem k0_off427_inb : ∀ (v1095 : BitVec 32) (k0_hw88 : k0_chk88 v1095), ∀ a, (k0_off427 v1095) a + S1x1x64x4096.size a ≤ S32x2x64x4096.size a := fun v1095 k0_hw88 => k0_hw88.2.2.2.2.1
theorem k0_off427_wordsbf16 : ∀ (v1095 : BitVec 32) (k0_hw88 : k0_chk88 v1095), (Rect.unit (s := S32x2x64x4096) (k0_off427 v1095) S1x1x64x4096.size (k0_off427_inb v1095 k0_hw88)).WholeWords (EltTy.packing .bf16) := fun v1095 k0_hw88 => k0_hw88.2.2.2.2.2 (k0_off427_inb v1095 k0_hw88)

def k0_chk89 (v1094 : BitVec 32) : Prop :=
  (∀ a, (k0_off167 v1094) a + S1x1x64x4096.size a ≤ S32x2x64x4096.size a) ∧
  (∀ (hinb : ∀ a, (k0_off167 v1094) a + S1x1x64x4096.size a ≤ S32x2x64x4096.size a), (Rect.unit (s := S32x2x64x4096) (k0_off167 v1094) S1x1x64x4096.size hinb).WholeWords (EltTy.packing .bf16)) ∧
  (∀ a, (k0_off189 v1094) a + S1x1x64x4096.size a ≤ S32x2x64x4096.size a) ∧
  (∀ (hinb : ∀ a, (k0_off189 v1094) a + S1x1x64x4096.size a ≤ S32x2x64x4096.size a), (Rect.unit (s := S32x2x64x4096) (k0_off189 v1094) S1x1x64x4096.size hinb).WholeWords (EltTy.packing .bf16)) ∧
  (∀ a, (k0_off426 v1094) a + S1x1x64x4096.size a ≤ S32x2x64x4096.size a) ∧
  (∀ (hinb : ∀ a, (k0_off426 v1094) a + S1x1x64x4096.size a ≤ S32x2x64x4096.size a), (Rect.unit (s := S32x2x64x4096) (k0_off426 v1094) S1x1x64x4096.size hinb).WholeWords (EltTy.packing .bf16))
theorem k0_off167_inb : ∀ (v1094 : BitVec 32) (k0_hw89 : k0_chk89 v1094), ∀ a, (k0_off167 v1094) a + S1x1x64x4096.size a ≤ S32x2x64x4096.size a := fun v1094 k0_hw89 => k0_hw89.1
theorem k0_off167_wordsbf16 : ∀ (v1094 : BitVec 32) (k0_hw89 : k0_chk89 v1094), (Rect.unit (s := S32x2x64x4096) (k0_off167 v1094) S1x1x64x4096.size (k0_off167_inb v1094 k0_hw89)).WholeWords (EltTy.packing .bf16) := fun v1094 k0_hw89 => k0_hw89.2.1 (k0_off167_inb v1094 k0_hw89)
theorem k0_off189_inb : ∀ (v1094 : BitVec 32) (k0_hw89 : k0_chk89 v1094), ∀ a, (k0_off189 v1094) a + S1x1x64x4096.size a ≤ S32x2x64x4096.size a := fun v1094 k0_hw89 => k0_hw89.2.2.1
theorem k0_off189_wordsbf16 : ∀ (v1094 : BitVec 32) (k0_hw89 : k0_chk89 v1094), (Rect.unit (s := S32x2x64x4096) (k0_off189 v1094) S1x1x64x4096.size (k0_off189_inb v1094 k0_hw89)).WholeWords (EltTy.packing .bf16) := fun v1094 k0_hw89 => k0_hw89.2.2.2.1 (k0_off189_inb v1094 k0_hw89)
theorem k0_off426_inb : ∀ (v1094 : BitVec 32) (k0_hw89 : k0_chk89 v1094), ∀ a, (k0_off426 v1094) a + S1x1x64x4096.size a ≤ S32x2x64x4096.size a := fun v1094 k0_hw89 => k0_hw89.2.2.2.2.1
theorem k0_off426_wordsbf16 : ∀ (v1094 : BitVec 32) (k0_hw89 : k0_chk89 v1094), (Rect.unit (s := S32x2x64x4096) (k0_off426 v1094) S1x1x64x4096.size (k0_off426_inb v1094 k0_hw89)).WholeWords (EltTy.packing .bf16) := fun v1094 k0_hw89 => k0_hw89.2.2.2.2.2 (k0_off426_inb v1094 k0_hw89)

def k0_off428 (v1132 : BitVec 32) : Fin 4 → Nat :=
  let c0_i32_3430 : BitVec 32 := 0#32
  let c0_i32_3436 : BitVec 32 := 0#32
  let c0_i32_3437 : BitVec 32 := 0#32
  ![v1132.toNat, 0, 0, 0]
def k0_off429 (v1133 : BitVec 32) : Fin 4 → Nat :=
  let c0_i32_3429 : BitVec 32 := 0#32
  let c0_i32_3438 : BitVec 32 := 0#32
  let c0_i32_3439 : BitVec 32 := 0#32
  ![v1133.toNat, 0, 0, 0]

def k0_chk91 (v1133 : BitVec 32) : Prop :=
  (∀ a, (k0_off172 v1133) a + S1x1x64x4096.size a ≤ S32x2x64x4096.size a) ∧
  (∀ (hinb : ∀ a, (k0_off172 v1133) a + S1x1x64x4096.size a ≤ S32x2x64x4096.size a), (Rect.unit (s := S32x2x64x4096) (k0_off172 v1133) S1x1x64x4096.size hinb).WholeWords (EltTy.packing .bf16)) ∧
  (∀ a, (k0_off194 v1133) a + S1x1x64x4096.size a ≤ S32x2x64x4096.size a) ∧
  (∀ (hinb : ∀ a, (k0_off194 v1133) a + S1x1x64x4096.size a ≤ S32x2x64x4096.size a), (Rect.unit (s := S32x2x64x4096) (k0_off194 v1133) S1x1x64x4096.size hinb).WholeWords (EltTy.packing .bf16)) ∧
  (∀ a, (k0_off429 v1133) a + S1x1x64x4096.size a ≤ S32x2x64x4096.size a) ∧
  (∀ (hinb : ∀ a, (k0_off429 v1133) a + S1x1x64x4096.size a ≤ S32x2x64x4096.size a), (Rect.unit (s := S32x2x64x4096) (k0_off429 v1133) S1x1x64x4096.size hinb).WholeWords (EltTy.packing .bf16))
theorem k0_off172_inb : ∀ (v1133 : BitVec 32) (k0_hw91 : k0_chk91 v1133), ∀ a, (k0_off172 v1133) a + S1x1x64x4096.size a ≤ S32x2x64x4096.size a := fun v1133 k0_hw91 => k0_hw91.1
theorem k0_off172_wordsbf16 : ∀ (v1133 : BitVec 32) (k0_hw91 : k0_chk91 v1133), (Rect.unit (s := S32x2x64x4096) (k0_off172 v1133) S1x1x64x4096.size (k0_off172_inb v1133 k0_hw91)).WholeWords (EltTy.packing .bf16) := fun v1133 k0_hw91 => k0_hw91.2.1 (k0_off172_inb v1133 k0_hw91)
theorem k0_off194_inb : ∀ (v1133 : BitVec 32) (k0_hw91 : k0_chk91 v1133), ∀ a, (k0_off194 v1133) a + S1x1x64x4096.size a ≤ S32x2x64x4096.size a := fun v1133 k0_hw91 => k0_hw91.2.2.1
theorem k0_off194_wordsbf16 : ∀ (v1133 : BitVec 32) (k0_hw91 : k0_chk91 v1133), (Rect.unit (s := S32x2x64x4096) (k0_off194 v1133) S1x1x64x4096.size (k0_off194_inb v1133 k0_hw91)).WholeWords (EltTy.packing .bf16) := fun v1133 k0_hw91 => k0_hw91.2.2.2.1 (k0_off194_inb v1133 k0_hw91)
theorem k0_off429_inb : ∀ (v1133 : BitVec 32) (k0_hw91 : k0_chk91 v1133), ∀ a, (k0_off429 v1133) a + S1x1x64x4096.size a ≤ S32x2x64x4096.size a := fun v1133 k0_hw91 => k0_hw91.2.2.2.2.1
theorem k0_off429_wordsbf16 : ∀ (v1133 : BitVec 32) (k0_hw91 : k0_chk91 v1133), (Rect.unit (s := S32x2x64x4096) (k0_off429 v1133) S1x1x64x4096.size (k0_off429_inb v1133 k0_hw91)).WholeWords (EltTy.packing .bf16) := fun v1133 k0_hw91 => k0_hw91.2.2.2.2.2 (k0_off429_inb v1133 k0_hw91)

def k0_chk92 (v1132 : BitVec 32) : Prop :=
  (∀ a, (k0_off173 v1132) a + S1x1x64x4096.size a ≤ S32x2x64x4096.size a) ∧
  (∀ (hinb : ∀ a, (k0_off173 v1132) a + S1x1x64x4096.size a ≤ S32x2x64x4096.size a), (Rect.unit (s := S32x2x64x4096) (k0_off173 v1132) S1x1x64x4096.size hinb).WholeWords (EltTy.packing .bf16)) ∧
  (∀ a, (k0_off195 v1132) a + S1x1x64x4096.size a ≤ S32x2x64x4096.size a) ∧
  (∀ (hinb : ∀ a, (k0_off195 v1132) a + S1x1x64x4096.size a ≤ S32x2x64x4096.size a), (Rect.unit (s := S32x2x64x4096) (k0_off195 v1132) S1x1x64x4096.size hinb).WholeWords (EltTy.packing .bf16)) ∧
  (∀ a, (k0_off428 v1132) a + S1x1x64x4096.size a ≤ S32x2x64x4096.size a) ∧
  (∀ (hinb : ∀ a, (k0_off428 v1132) a + S1x1x64x4096.size a ≤ S32x2x64x4096.size a), (Rect.unit (s := S32x2x64x4096) (k0_off428 v1132) S1x1x64x4096.size hinb).WholeWords (EltTy.packing .bf16))
theorem k0_off173_inb : ∀ (v1132 : BitVec 32) (k0_hw92 : k0_chk92 v1132), ∀ a, (k0_off173 v1132) a + S1x1x64x4096.size a ≤ S32x2x64x4096.size a := fun v1132 k0_hw92 => k0_hw92.1
theorem k0_off173_wordsbf16 : ∀ (v1132 : BitVec 32) (k0_hw92 : k0_chk92 v1132), (Rect.unit (s := S32x2x64x4096) (k0_off173 v1132) S1x1x64x4096.size (k0_off173_inb v1132 k0_hw92)).WholeWords (EltTy.packing .bf16) := fun v1132 k0_hw92 => k0_hw92.2.1 (k0_off173_inb v1132 k0_hw92)
theorem k0_off195_inb : ∀ (v1132 : BitVec 32) (k0_hw92 : k0_chk92 v1132), ∀ a, (k0_off195 v1132) a + S1x1x64x4096.size a ≤ S32x2x64x4096.size a := fun v1132 k0_hw92 => k0_hw92.2.2.1
theorem k0_off195_wordsbf16 : ∀ (v1132 : BitVec 32) (k0_hw92 : k0_chk92 v1132), (Rect.unit (s := S32x2x64x4096) (k0_off195 v1132) S1x1x64x4096.size (k0_off195_inb v1132 k0_hw92)).WholeWords (EltTy.packing .bf16) := fun v1132 k0_hw92 => k0_hw92.2.2.2.1 (k0_off195_inb v1132 k0_hw92)
theorem k0_off428_inb : ∀ (v1132 : BitVec 32) (k0_hw92 : k0_chk92 v1132), ∀ a, (k0_off428 v1132) a + S1x1x64x4096.size a ≤ S32x2x64x4096.size a := fun v1132 k0_hw92 => k0_hw92.2.2.2.2.1
theorem k0_off428_wordsbf16 : ∀ (v1132 : BitVec 32) (k0_hw92 : k0_chk92 v1132), (Rect.unit (s := S32x2x64x4096) (k0_off428 v1132) S1x1x64x4096.size (k0_off428_inb v1132 k0_hw92)).WholeWords (EltTy.packing .bf16) := fun v1132 k0_hw92 => k0_hw92.2.2.2.2.2 (k0_off428_inb v1132 k0_hw92)

def k0_off430 (v1170 : BitVec 32) : Fin 4 → Nat :=
  let c1_i32_3441 : BitVec 32 := 1#32
  let c0_i32_3447 : BitVec 32 := 0#32
  let c0_i32_3448 : BitVec 32 := 0#32
  ![v1170.toNat, 1, 0, 0]
def k0_off431 (v1171 : BitVec 32) : Fin 4 → Nat :=
  let c1_i32_3440 : BitVec 32 := 1#32
  let c0_i32_3449 : BitVec 32 := 0#32
  let c0_i32_3450 : BitVec 32 := 0#32
  ![v1171.toNat, 1, 0, 0]

def k0_chk94 (v1171 : BitVec 32) : Prop :=
  (∀ a, (k0_off178 v1171) a + S1x1x64x4096.size a ≤ S32x2x64x4096.size a) ∧
  (∀ (hinb : ∀ a, (k0_off178 v1171) a + S1x1x64x4096.size a ≤ S32x2x64x4096.size a), (Rect.unit (s := S32x2x64x4096) (k0_off178 v1171) S1x1x64x4096.size hinb).WholeWords (EltTy.packing .bf16)) ∧
  (∀ a, (k0_off200 v1171) a + S1x1x64x4096.size a ≤ S32x2x64x4096.size a) ∧
  (∀ (hinb : ∀ a, (k0_off200 v1171) a + S1x1x64x4096.size a ≤ S32x2x64x4096.size a), (Rect.unit (s := S32x2x64x4096) (k0_off200 v1171) S1x1x64x4096.size hinb).WholeWords (EltTy.packing .bf16)) ∧
  (∀ a, (k0_off431 v1171) a + S1x1x64x4096.size a ≤ S32x2x64x4096.size a) ∧
  (∀ (hinb : ∀ a, (k0_off431 v1171) a + S1x1x64x4096.size a ≤ S32x2x64x4096.size a), (Rect.unit (s := S32x2x64x4096) (k0_off431 v1171) S1x1x64x4096.size hinb).WholeWords (EltTy.packing .bf16))
theorem k0_off178_inb : ∀ (v1171 : BitVec 32) (k0_hw94 : k0_chk94 v1171), ∀ a, (k0_off178 v1171) a + S1x1x64x4096.size a ≤ S32x2x64x4096.size a := fun v1171 k0_hw94 => k0_hw94.1
theorem k0_off178_wordsbf16 : ∀ (v1171 : BitVec 32) (k0_hw94 : k0_chk94 v1171), (Rect.unit (s := S32x2x64x4096) (k0_off178 v1171) S1x1x64x4096.size (k0_off178_inb v1171 k0_hw94)).WholeWords (EltTy.packing .bf16) := fun v1171 k0_hw94 => k0_hw94.2.1 (k0_off178_inb v1171 k0_hw94)
theorem k0_off200_inb : ∀ (v1171 : BitVec 32) (k0_hw94 : k0_chk94 v1171), ∀ a, (k0_off200 v1171) a + S1x1x64x4096.size a ≤ S32x2x64x4096.size a := fun v1171 k0_hw94 => k0_hw94.2.2.1
theorem k0_off200_wordsbf16 : ∀ (v1171 : BitVec 32) (k0_hw94 : k0_chk94 v1171), (Rect.unit (s := S32x2x64x4096) (k0_off200 v1171) S1x1x64x4096.size (k0_off200_inb v1171 k0_hw94)).WholeWords (EltTy.packing .bf16) := fun v1171 k0_hw94 => k0_hw94.2.2.2.1 (k0_off200_inb v1171 k0_hw94)
theorem k0_off431_inb : ∀ (v1171 : BitVec 32) (k0_hw94 : k0_chk94 v1171), ∀ a, (k0_off431 v1171) a + S1x1x64x4096.size a ≤ S32x2x64x4096.size a := fun v1171 k0_hw94 => k0_hw94.2.2.2.2.1
theorem k0_off431_wordsbf16 : ∀ (v1171 : BitVec 32) (k0_hw94 : k0_chk94 v1171), (Rect.unit (s := S32x2x64x4096) (k0_off431 v1171) S1x1x64x4096.size (k0_off431_inb v1171 k0_hw94)).WholeWords (EltTy.packing .bf16) := fun v1171 k0_hw94 => k0_hw94.2.2.2.2.2 (k0_off431_inb v1171 k0_hw94)

def k0_chk95 (v1170 : BitVec 32) : Prop :=
  (∀ a, (k0_off179 v1170) a + S1x1x64x4096.size a ≤ S32x2x64x4096.size a) ∧
  (∀ (hinb : ∀ a, (k0_off179 v1170) a + S1x1x64x4096.size a ≤ S32x2x64x4096.size a), (Rect.unit (s := S32x2x64x4096) (k0_off179 v1170) S1x1x64x4096.size hinb).WholeWords (EltTy.packing .bf16)) ∧
  (∀ a, (k0_off201 v1170) a + S1x1x64x4096.size a ≤ S32x2x64x4096.size a) ∧
  (∀ (hinb : ∀ a, (k0_off201 v1170) a + S1x1x64x4096.size a ≤ S32x2x64x4096.size a), (Rect.unit (s := S32x2x64x4096) (k0_off201 v1170) S1x1x64x4096.size hinb).WholeWords (EltTy.packing .bf16)) ∧
  (∀ a, (k0_off430 v1170) a + S1x1x64x4096.size a ≤ S32x2x64x4096.size a) ∧
  (∀ (hinb : ∀ a, (k0_off430 v1170) a + S1x1x64x4096.size a ≤ S32x2x64x4096.size a), (Rect.unit (s := S32x2x64x4096) (k0_off430 v1170) S1x1x64x4096.size hinb).WholeWords (EltTy.packing .bf16))
theorem k0_off179_inb : ∀ (v1170 : BitVec 32) (k0_hw95 : k0_chk95 v1170), ∀ a, (k0_off179 v1170) a + S1x1x64x4096.size a ≤ S32x2x64x4096.size a := fun v1170 k0_hw95 => k0_hw95.1
theorem k0_off179_wordsbf16 : ∀ (v1170 : BitVec 32) (k0_hw95 : k0_chk95 v1170), (Rect.unit (s := S32x2x64x4096) (k0_off179 v1170) S1x1x64x4096.size (k0_off179_inb v1170 k0_hw95)).WholeWords (EltTy.packing .bf16) := fun v1170 k0_hw95 => k0_hw95.2.1 (k0_off179_inb v1170 k0_hw95)
theorem k0_off201_inb : ∀ (v1170 : BitVec 32) (k0_hw95 : k0_chk95 v1170), ∀ a, (k0_off201 v1170) a + S1x1x64x4096.size a ≤ S32x2x64x4096.size a := fun v1170 k0_hw95 => k0_hw95.2.2.1
theorem k0_off201_wordsbf16 : ∀ (v1170 : BitVec 32) (k0_hw95 : k0_chk95 v1170), (Rect.unit (s := S32x2x64x4096) (k0_off201 v1170) S1x1x64x4096.size (k0_off201_inb v1170 k0_hw95)).WholeWords (EltTy.packing .bf16) := fun v1170 k0_hw95 => k0_hw95.2.2.2.1 (k0_off201_inb v1170 k0_hw95)
theorem k0_off430_inb : ∀ (v1170 : BitVec 32) (k0_hw95 : k0_chk95 v1170), ∀ a, (k0_off430 v1170) a + S1x1x64x4096.size a ≤ S32x2x64x4096.size a := fun v1170 k0_hw95 => k0_hw95.2.2.2.2.1
theorem k0_off430_wordsbf16 : ∀ (v1170 : BitVec 32) (k0_hw95 : k0_chk95 v1170), (Rect.unit (s := S32x2x64x4096) (k0_off430 v1170) S1x1x64x4096.size (k0_off430_inb v1170 k0_hw95)).WholeWords (EltTy.packing .bf16) := fun v1170 k0_hw95 => k0_hw95.2.2.2.2.2 (k0_off430_inb v1170 k0_hw95)

def k0_off432 (v1208 : BitVec 32) : Fin 4 → Nat :=
  let c0_i32_3452 : BitVec 32 := 0#32
  let c0_i32_3458 : BitVec 32 := 0#32
  let c0_i32_3459 : BitVec 32 := 0#32
  ![v1208.toNat, 0, 0, 0]
def k0_off433 (v1209 : BitVec 32) : Fin 4 → Nat :=
  let c0_i32_3451 : BitVec 32 := 0#32
  let c0_i32_3460 : BitVec 32 := 0#32
  let c0_i32_3461 : BitVec 32 := 0#32
  ![v1209.toNat, 0, 0, 0]

def k0_chk97 (v1209 : BitVec 32) : Prop :=
  (∀ a, (k0_off184 v1209) a + S1x1x64x4096.size a ≤ S32x2x64x4096.size a) ∧
  (∀ (hinb : ∀ a, (k0_off184 v1209) a + S1x1x64x4096.size a ≤ S32x2x64x4096.size a), (Rect.unit (s := S32x2x64x4096) (k0_off184 v1209) S1x1x64x4096.size hinb).WholeWords (EltTy.packing .bf16)) ∧
  (∀ a, (k0_off206 v1209) a + S1x1x64x4096.size a ≤ S32x2x64x4096.size a) ∧
  (∀ (hinb : ∀ a, (k0_off206 v1209) a + S1x1x64x4096.size a ≤ S32x2x64x4096.size a), (Rect.unit (s := S32x2x64x4096) (k0_off206 v1209) S1x1x64x4096.size hinb).WholeWords (EltTy.packing .bf16)) ∧
  (∀ a, (k0_off433 v1209) a + S1x1x64x4096.size a ≤ S32x2x64x4096.size a) ∧
  (∀ (hinb : ∀ a, (k0_off433 v1209) a + S1x1x64x4096.size a ≤ S32x2x64x4096.size a), (Rect.unit (s := S32x2x64x4096) (k0_off433 v1209) S1x1x64x4096.size hinb).WholeWords (EltTy.packing .bf16))
theorem k0_off184_inb : ∀ (v1209 : BitVec 32) (k0_hw97 : k0_chk97 v1209), ∀ a, (k0_off184 v1209) a + S1x1x64x4096.size a ≤ S32x2x64x4096.size a := fun v1209 k0_hw97 => k0_hw97.1
theorem k0_off184_wordsbf16 : ∀ (v1209 : BitVec 32) (k0_hw97 : k0_chk97 v1209), (Rect.unit (s := S32x2x64x4096) (k0_off184 v1209) S1x1x64x4096.size (k0_off184_inb v1209 k0_hw97)).WholeWords (EltTy.packing .bf16) := fun v1209 k0_hw97 => k0_hw97.2.1 (k0_off184_inb v1209 k0_hw97)
theorem k0_off206_inb : ∀ (v1209 : BitVec 32) (k0_hw97 : k0_chk97 v1209), ∀ a, (k0_off206 v1209) a + S1x1x64x4096.size a ≤ S32x2x64x4096.size a := fun v1209 k0_hw97 => k0_hw97.2.2.1
theorem k0_off206_wordsbf16 : ∀ (v1209 : BitVec 32) (k0_hw97 : k0_chk97 v1209), (Rect.unit (s := S32x2x64x4096) (k0_off206 v1209) S1x1x64x4096.size (k0_off206_inb v1209 k0_hw97)).WholeWords (EltTy.packing .bf16) := fun v1209 k0_hw97 => k0_hw97.2.2.2.1 (k0_off206_inb v1209 k0_hw97)
theorem k0_off433_inb : ∀ (v1209 : BitVec 32) (k0_hw97 : k0_chk97 v1209), ∀ a, (k0_off433 v1209) a + S1x1x64x4096.size a ≤ S32x2x64x4096.size a := fun v1209 k0_hw97 => k0_hw97.2.2.2.2.1
theorem k0_off433_wordsbf16 : ∀ (v1209 : BitVec 32) (k0_hw97 : k0_chk97 v1209), (Rect.unit (s := S32x2x64x4096) (k0_off433 v1209) S1x1x64x4096.size (k0_off433_inb v1209 k0_hw97)).WholeWords (EltTy.packing .bf16) := fun v1209 k0_hw97 => k0_hw97.2.2.2.2.2 (k0_off433_inb v1209 k0_hw97)

def k0_chk98 (v1208 : BitVec 32) : Prop :=
  (∀ a, (k0_off185 v1208) a + S1x1x64x4096.size a ≤ S32x2x64x4096.size a) ∧
  (∀ (hinb : ∀ a, (k0_off185 v1208) a + S1x1x64x4096.size a ≤ S32x2x64x4096.size a), (Rect.unit (s := S32x2x64x4096) (k0_off185 v1208) S1x1x64x4096.size hinb).WholeWords (EltTy.packing .bf16)) ∧
  (∀ a, (k0_off207 v1208) a + S1x1x64x4096.size a ≤ S32x2x64x4096.size a) ∧
  (∀ (hinb : ∀ a, (k0_off207 v1208) a + S1x1x64x4096.size a ≤ S32x2x64x4096.size a), (Rect.unit (s := S32x2x64x4096) (k0_off207 v1208) S1x1x64x4096.size hinb).WholeWords (EltTy.packing .bf16)) ∧
  (∀ a, (k0_off432 v1208) a + S1x1x64x4096.size a ≤ S32x2x64x4096.size a) ∧
  (∀ (hinb : ∀ a, (k0_off432 v1208) a + S1x1x64x4096.size a ≤ S32x2x64x4096.size a), (Rect.unit (s := S32x2x64x4096) (k0_off432 v1208) S1x1x64x4096.size hinb).WholeWords (EltTy.packing .bf16))
theorem k0_off185_inb : ∀ (v1208 : BitVec 32) (k0_hw98 : k0_chk98 v1208), ∀ a, (k0_off185 v1208) a + S1x1x64x4096.size a ≤ S32x2x64x4096.size a := fun v1208 k0_hw98 => k0_hw98.1
theorem k0_off185_wordsbf16 : ∀ (v1208 : BitVec 32) (k0_hw98 : k0_chk98 v1208), (Rect.unit (s := S32x2x64x4096) (k0_off185 v1208) S1x1x64x4096.size (k0_off185_inb v1208 k0_hw98)).WholeWords (EltTy.packing .bf16) := fun v1208 k0_hw98 => k0_hw98.2.1 (k0_off185_inb v1208 k0_hw98)
theorem k0_off207_inb : ∀ (v1208 : BitVec 32) (k0_hw98 : k0_chk98 v1208), ∀ a, (k0_off207 v1208) a + S1x1x64x4096.size a ≤ S32x2x64x4096.size a := fun v1208 k0_hw98 => k0_hw98.2.2.1
theorem k0_off207_wordsbf16 : ∀ (v1208 : BitVec 32) (k0_hw98 : k0_chk98 v1208), (Rect.unit (s := S32x2x64x4096) (k0_off207 v1208) S1x1x64x4096.size (k0_off207_inb v1208 k0_hw98)).WholeWords (EltTy.packing .bf16) := fun v1208 k0_hw98 => k0_hw98.2.2.2.1 (k0_off207_inb v1208 k0_hw98)
theorem k0_off432_inb : ∀ (v1208 : BitVec 32) (k0_hw98 : k0_chk98 v1208), ∀ a, (k0_off432 v1208) a + S1x1x64x4096.size a ≤ S32x2x64x4096.size a := fun v1208 k0_hw98 => k0_hw98.2.2.2.2.1
theorem k0_off432_wordsbf16 : ∀ (v1208 : BitVec 32) (k0_hw98 : k0_chk98 v1208), (Rect.unit (s := S32x2x64x4096) (k0_off432 v1208) S1x1x64x4096.size (k0_off432_inb v1208 k0_hw98)).WholeWords (EltTy.packing .bf16) := fun v1208 k0_hw98 => k0_hw98.2.2.2.2.2 (k0_off432_inb v1208 k0_hw98)

def k0_off434 (v1246 : BitVec 32) : Fin 4 → Nat :=
  let c1_i32_3463 : BitVec 32 := 1#32
  let c0_i32_3469 : BitVec 32 := 0#32
  let c0_i32_3470 : BitVec 32 := 0#32
  ![v1246.toNat, 1, 0, 0]
def k0_off435 (v1247 : BitVec 32) : Fin 4 → Nat :=
  let c1_i32_3462 : BitVec 32 := 1#32
  let c0_i32_3471 : BitVec 32 := 0#32
  let c0_i32_3472 : BitVec 32 := 0#32
  ![v1247.toNat, 1, 0, 0]

def k0_chk100 (v1247 : BitVec 32) : Prop :=
  (∀ a, (k0_off190 v1247) a + S1x1x64x4096.size a ≤ S32x2x64x4096.size a) ∧
  (∀ (hinb : ∀ a, (k0_off190 v1247) a + S1x1x64x4096.size a ≤ S32x2x64x4096.size a), (Rect.unit (s := S32x2x64x4096) (k0_off190 v1247) S1x1x64x4096.size hinb).WholeWords (EltTy.packing .bf16)) ∧
  (∀ a, (k0_off212 v1247) a + S1x1x64x4096.size a ≤ S32x2x64x4096.size a) ∧
  (∀ (hinb : ∀ a, (k0_off212 v1247) a + S1x1x64x4096.size a ≤ S32x2x64x4096.size a), (Rect.unit (s := S32x2x64x4096) (k0_off212 v1247) S1x1x64x4096.size hinb).WholeWords (EltTy.packing .bf16)) ∧
  (∀ a, (k0_off435 v1247) a + S1x1x64x4096.size a ≤ S32x2x64x4096.size a) ∧
  (∀ (hinb : ∀ a, (k0_off435 v1247) a + S1x1x64x4096.size a ≤ S32x2x64x4096.size a), (Rect.unit (s := S32x2x64x4096) (k0_off435 v1247) S1x1x64x4096.size hinb).WholeWords (EltTy.packing .bf16))
theorem k0_off190_inb : ∀ (v1247 : BitVec 32) (k0_hw100 : k0_chk100 v1247), ∀ a, (k0_off190 v1247) a + S1x1x64x4096.size a ≤ S32x2x64x4096.size a := fun v1247 k0_hw100 => k0_hw100.1
theorem k0_off190_wordsbf16 : ∀ (v1247 : BitVec 32) (k0_hw100 : k0_chk100 v1247), (Rect.unit (s := S32x2x64x4096) (k0_off190 v1247) S1x1x64x4096.size (k0_off190_inb v1247 k0_hw100)).WholeWords (EltTy.packing .bf16) := fun v1247 k0_hw100 => k0_hw100.2.1 (k0_off190_inb v1247 k0_hw100)
theorem k0_off212_inb : ∀ (v1247 : BitVec 32) (k0_hw100 : k0_chk100 v1247), ∀ a, (k0_off212 v1247) a + S1x1x64x4096.size a ≤ S32x2x64x4096.size a := fun v1247 k0_hw100 => k0_hw100.2.2.1
theorem k0_off212_wordsbf16 : ∀ (v1247 : BitVec 32) (k0_hw100 : k0_chk100 v1247), (Rect.unit (s := S32x2x64x4096) (k0_off212 v1247) S1x1x64x4096.size (k0_off212_inb v1247 k0_hw100)).WholeWords (EltTy.packing .bf16) := fun v1247 k0_hw100 => k0_hw100.2.2.2.1 (k0_off212_inb v1247 k0_hw100)
theorem k0_off435_inb : ∀ (v1247 : BitVec 32) (k0_hw100 : k0_chk100 v1247), ∀ a, (k0_off435 v1247) a + S1x1x64x4096.size a ≤ S32x2x64x4096.size a := fun v1247 k0_hw100 => k0_hw100.2.2.2.2.1
theorem k0_off435_wordsbf16 : ∀ (v1247 : BitVec 32) (k0_hw100 : k0_chk100 v1247), (Rect.unit (s := S32x2x64x4096) (k0_off435 v1247) S1x1x64x4096.size (k0_off435_inb v1247 k0_hw100)).WholeWords (EltTy.packing .bf16) := fun v1247 k0_hw100 => k0_hw100.2.2.2.2.2 (k0_off435_inb v1247 k0_hw100)

def k0_chk101 (v1246 : BitVec 32) : Prop :=
  (∀ a, (k0_off191 v1246) a + S1x1x64x4096.size a ≤ S32x2x64x4096.size a) ∧
  (∀ (hinb : ∀ a, (k0_off191 v1246) a + S1x1x64x4096.size a ≤ S32x2x64x4096.size a), (Rect.unit (s := S32x2x64x4096) (k0_off191 v1246) S1x1x64x4096.size hinb).WholeWords (EltTy.packing .bf16)) ∧
  (∀ a, (k0_off213 v1246) a + S1x1x64x4096.size a ≤ S32x2x64x4096.size a) ∧
  (∀ (hinb : ∀ a, (k0_off213 v1246) a + S1x1x64x4096.size a ≤ S32x2x64x4096.size a), (Rect.unit (s := S32x2x64x4096) (k0_off213 v1246) S1x1x64x4096.size hinb).WholeWords (EltTy.packing .bf16)) ∧
  (∀ a, (k0_off434 v1246) a + S1x1x64x4096.size a ≤ S32x2x64x4096.size a) ∧
  (∀ (hinb : ∀ a, (k0_off434 v1246) a + S1x1x64x4096.size a ≤ S32x2x64x4096.size a), (Rect.unit (s := S32x2x64x4096) (k0_off434 v1246) S1x1x64x4096.size hinb).WholeWords (EltTy.packing .bf16))
theorem k0_off191_inb : ∀ (v1246 : BitVec 32) (k0_hw101 : k0_chk101 v1246), ∀ a, (k0_off191 v1246) a + S1x1x64x4096.size a ≤ S32x2x64x4096.size a := fun v1246 k0_hw101 => k0_hw101.1
theorem k0_off191_wordsbf16 : ∀ (v1246 : BitVec 32) (k0_hw101 : k0_chk101 v1246), (Rect.unit (s := S32x2x64x4096) (k0_off191 v1246) S1x1x64x4096.size (k0_off191_inb v1246 k0_hw101)).WholeWords (EltTy.packing .bf16) := fun v1246 k0_hw101 => k0_hw101.2.1 (k0_off191_inb v1246 k0_hw101)
theorem k0_off213_inb : ∀ (v1246 : BitVec 32) (k0_hw101 : k0_chk101 v1246), ∀ a, (k0_off213 v1246) a + S1x1x64x4096.size a ≤ S32x2x64x4096.size a := fun v1246 k0_hw101 => k0_hw101.2.2.1
theorem k0_off213_wordsbf16 : ∀ (v1246 : BitVec 32) (k0_hw101 : k0_chk101 v1246), (Rect.unit (s := S32x2x64x4096) (k0_off213 v1246) S1x1x64x4096.size (k0_off213_inb v1246 k0_hw101)).WholeWords (EltTy.packing .bf16) := fun v1246 k0_hw101 => k0_hw101.2.2.2.1 (k0_off213_inb v1246 k0_hw101)
theorem k0_off434_inb : ∀ (v1246 : BitVec 32) (k0_hw101 : k0_chk101 v1246), ∀ a, (k0_off434 v1246) a + S1x1x64x4096.size a ≤ S32x2x64x4096.size a := fun v1246 k0_hw101 => k0_hw101.2.2.2.2.1
theorem k0_off434_wordsbf16 : ∀ (v1246 : BitVec 32) (k0_hw101 : k0_chk101 v1246), (Rect.unit (s := S32x2x64x4096) (k0_off434 v1246) S1x1x64x4096.size (k0_off434_inb v1246 k0_hw101)).WholeWords (EltTy.packing .bf16) := fun v1246 k0_hw101 => k0_hw101.2.2.2.2.2 (k0_off434_inb v1246 k0_hw101)

def k0_off436 (v1284 : BitVec 32) : Fin 4 → Nat :=
  let c0_i32_3474 : BitVec 32 := 0#32
  let c0_i32_3480 : BitVec 32 := 0#32
  let c0_i32_3481 : BitVec 32 := 0#32
  ![v1284.toNat, 0, 0, 0]
def k0_off437 (v1285 : BitVec 32) : Fin 4 → Nat :=
  let c0_i32_3473 : BitVec 32 := 0#32
  let c0_i32_3482 : BitVec 32 := 0#32
  let c0_i32_3483 : BitVec 32 := 0#32
  ![v1285.toNat, 0, 0, 0]

def k0_chk103 (v1285 : BitVec 32) : Prop :=
  (∀ a, (k0_off196 v1285) a + S1x1x64x4096.size a ≤ S32x2x64x4096.size a) ∧
  (∀ (hinb : ∀ a, (k0_off196 v1285) a + S1x1x64x4096.size a ≤ S32x2x64x4096.size a), (Rect.unit (s := S32x2x64x4096) (k0_off196 v1285) S1x1x64x4096.size hinb).WholeWords (EltTy.packing .bf16)) ∧
  (∀ a, (k0_off218 v1285) a + S1x1x64x4096.size a ≤ S32x2x64x4096.size a) ∧
  (∀ (hinb : ∀ a, (k0_off218 v1285) a + S1x1x64x4096.size a ≤ S32x2x64x4096.size a), (Rect.unit (s := S32x2x64x4096) (k0_off218 v1285) S1x1x64x4096.size hinb).WholeWords (EltTy.packing .bf16)) ∧
  (∀ a, (k0_off437 v1285) a + S1x1x64x4096.size a ≤ S32x2x64x4096.size a) ∧
  (∀ (hinb : ∀ a, (k0_off437 v1285) a + S1x1x64x4096.size a ≤ S32x2x64x4096.size a), (Rect.unit (s := S32x2x64x4096) (k0_off437 v1285) S1x1x64x4096.size hinb).WholeWords (EltTy.packing .bf16))
theorem k0_off196_inb : ∀ (v1285 : BitVec 32) (k0_hw103 : k0_chk103 v1285), ∀ a, (k0_off196 v1285) a + S1x1x64x4096.size a ≤ S32x2x64x4096.size a := fun v1285 k0_hw103 => k0_hw103.1
theorem k0_off196_wordsbf16 : ∀ (v1285 : BitVec 32) (k0_hw103 : k0_chk103 v1285), (Rect.unit (s := S32x2x64x4096) (k0_off196 v1285) S1x1x64x4096.size (k0_off196_inb v1285 k0_hw103)).WholeWords (EltTy.packing .bf16) := fun v1285 k0_hw103 => k0_hw103.2.1 (k0_off196_inb v1285 k0_hw103)
theorem k0_off218_inb : ∀ (v1285 : BitVec 32) (k0_hw103 : k0_chk103 v1285), ∀ a, (k0_off218 v1285) a + S1x1x64x4096.size a ≤ S32x2x64x4096.size a := fun v1285 k0_hw103 => k0_hw103.2.2.1
theorem k0_off218_wordsbf16 : ∀ (v1285 : BitVec 32) (k0_hw103 : k0_chk103 v1285), (Rect.unit (s := S32x2x64x4096) (k0_off218 v1285) S1x1x64x4096.size (k0_off218_inb v1285 k0_hw103)).WholeWords (EltTy.packing .bf16) := fun v1285 k0_hw103 => k0_hw103.2.2.2.1 (k0_off218_inb v1285 k0_hw103)
theorem k0_off437_inb : ∀ (v1285 : BitVec 32) (k0_hw103 : k0_chk103 v1285), ∀ a, (k0_off437 v1285) a + S1x1x64x4096.size a ≤ S32x2x64x4096.size a := fun v1285 k0_hw103 => k0_hw103.2.2.2.2.1
theorem k0_off437_wordsbf16 : ∀ (v1285 : BitVec 32) (k0_hw103 : k0_chk103 v1285), (Rect.unit (s := S32x2x64x4096) (k0_off437 v1285) S1x1x64x4096.size (k0_off437_inb v1285 k0_hw103)).WholeWords (EltTy.packing .bf16) := fun v1285 k0_hw103 => k0_hw103.2.2.2.2.2 (k0_off437_inb v1285 k0_hw103)

def k0_chk104 (v1284 : BitVec 32) : Prop :=
  (∀ a, (k0_off197 v1284) a + S1x1x64x4096.size a ≤ S32x2x64x4096.size a) ∧
  (∀ (hinb : ∀ a, (k0_off197 v1284) a + S1x1x64x4096.size a ≤ S32x2x64x4096.size a), (Rect.unit (s := S32x2x64x4096) (k0_off197 v1284) S1x1x64x4096.size hinb).WholeWords (EltTy.packing .bf16)) ∧
  (∀ a, (k0_off219 v1284) a + S1x1x64x4096.size a ≤ S32x2x64x4096.size a) ∧
  (∀ (hinb : ∀ a, (k0_off219 v1284) a + S1x1x64x4096.size a ≤ S32x2x64x4096.size a), (Rect.unit (s := S32x2x64x4096) (k0_off219 v1284) S1x1x64x4096.size hinb).WholeWords (EltTy.packing .bf16)) ∧
  (∀ a, (k0_off436 v1284) a + S1x1x64x4096.size a ≤ S32x2x64x4096.size a) ∧
  (∀ (hinb : ∀ a, (k0_off436 v1284) a + S1x1x64x4096.size a ≤ S32x2x64x4096.size a), (Rect.unit (s := S32x2x64x4096) (k0_off436 v1284) S1x1x64x4096.size hinb).WholeWords (EltTy.packing .bf16))
theorem k0_off197_inb : ∀ (v1284 : BitVec 32) (k0_hw104 : k0_chk104 v1284), ∀ a, (k0_off197 v1284) a + S1x1x64x4096.size a ≤ S32x2x64x4096.size a := fun v1284 k0_hw104 => k0_hw104.1
theorem k0_off197_wordsbf16 : ∀ (v1284 : BitVec 32) (k0_hw104 : k0_chk104 v1284), (Rect.unit (s := S32x2x64x4096) (k0_off197 v1284) S1x1x64x4096.size (k0_off197_inb v1284 k0_hw104)).WholeWords (EltTy.packing .bf16) := fun v1284 k0_hw104 => k0_hw104.2.1 (k0_off197_inb v1284 k0_hw104)
theorem k0_off219_inb : ∀ (v1284 : BitVec 32) (k0_hw104 : k0_chk104 v1284), ∀ a, (k0_off219 v1284) a + S1x1x64x4096.size a ≤ S32x2x64x4096.size a := fun v1284 k0_hw104 => k0_hw104.2.2.1
theorem k0_off219_wordsbf16 : ∀ (v1284 : BitVec 32) (k0_hw104 : k0_chk104 v1284), (Rect.unit (s := S32x2x64x4096) (k0_off219 v1284) S1x1x64x4096.size (k0_off219_inb v1284 k0_hw104)).WholeWords (EltTy.packing .bf16) := fun v1284 k0_hw104 => k0_hw104.2.2.2.1 (k0_off219_inb v1284 k0_hw104)
theorem k0_off436_inb : ∀ (v1284 : BitVec 32) (k0_hw104 : k0_chk104 v1284), ∀ a, (k0_off436 v1284) a + S1x1x64x4096.size a ≤ S32x2x64x4096.size a := fun v1284 k0_hw104 => k0_hw104.2.2.2.2.1
theorem k0_off436_wordsbf16 : ∀ (v1284 : BitVec 32) (k0_hw104 : k0_chk104 v1284), (Rect.unit (s := S32x2x64x4096) (k0_off436 v1284) S1x1x64x4096.size (k0_off436_inb v1284 k0_hw104)).WholeWords (EltTy.packing .bf16) := fun v1284 k0_hw104 => k0_hw104.2.2.2.2.2 (k0_off436_inb v1284 k0_hw104)

def k0_off438 (v1322 : BitVec 32) : Fin 4 → Nat :=
  let c1_i32_3485 : BitVec 32 := 1#32
  let c0_i32_3491 : BitVec 32 := 0#32
  let c0_i32_3492 : BitVec 32 := 0#32
  ![v1322.toNat, 1, 0, 0]
def k0_off439 (v1323 : BitVec 32) : Fin 4 → Nat :=
  let c1_i32_3484 : BitVec 32 := 1#32
  let c0_i32_3493 : BitVec 32 := 0#32
  let c0_i32_3494 : BitVec 32 := 0#32
  ![v1323.toNat, 1, 0, 0]

def k0_chk106 (v1323 : BitVec 32) : Prop :=
  (∀ a, (k0_off202 v1323) a + S1x1x64x4096.size a ≤ S32x2x64x4096.size a) ∧
  (∀ (hinb : ∀ a, (k0_off202 v1323) a + S1x1x64x4096.size a ≤ S32x2x64x4096.size a), (Rect.unit (s := S32x2x64x4096) (k0_off202 v1323) S1x1x64x4096.size hinb).WholeWords (EltTy.packing .bf16)) ∧
  (∀ a, (k0_off224 v1323) a + S1x1x64x4096.size a ≤ S32x2x64x4096.size a) ∧
  (∀ (hinb : ∀ a, (k0_off224 v1323) a + S1x1x64x4096.size a ≤ S32x2x64x4096.size a), (Rect.unit (s := S32x2x64x4096) (k0_off224 v1323) S1x1x64x4096.size hinb).WholeWords (EltTy.packing .bf16)) ∧
  (∀ a, (k0_off439 v1323) a + S1x1x64x4096.size a ≤ S32x2x64x4096.size a) ∧
  (∀ (hinb : ∀ a, (k0_off439 v1323) a + S1x1x64x4096.size a ≤ S32x2x64x4096.size a), (Rect.unit (s := S32x2x64x4096) (k0_off439 v1323) S1x1x64x4096.size hinb).WholeWords (EltTy.packing .bf16))
theorem k0_off202_inb : ∀ (v1323 : BitVec 32) (k0_hw106 : k0_chk106 v1323), ∀ a, (k0_off202 v1323) a + S1x1x64x4096.size a ≤ S32x2x64x4096.size a := fun v1323 k0_hw106 => k0_hw106.1
theorem k0_off202_wordsbf16 : ∀ (v1323 : BitVec 32) (k0_hw106 : k0_chk106 v1323), (Rect.unit (s := S32x2x64x4096) (k0_off202 v1323) S1x1x64x4096.size (k0_off202_inb v1323 k0_hw106)).WholeWords (EltTy.packing .bf16) := fun v1323 k0_hw106 => k0_hw106.2.1 (k0_off202_inb v1323 k0_hw106)
theorem k0_off224_inb : ∀ (v1323 : BitVec 32) (k0_hw106 : k0_chk106 v1323), ∀ a, (k0_off224 v1323) a + S1x1x64x4096.size a ≤ S32x2x64x4096.size a := fun v1323 k0_hw106 => k0_hw106.2.2.1
theorem k0_off224_wordsbf16 : ∀ (v1323 : BitVec 32) (k0_hw106 : k0_chk106 v1323), (Rect.unit (s := S32x2x64x4096) (k0_off224 v1323) S1x1x64x4096.size (k0_off224_inb v1323 k0_hw106)).WholeWords (EltTy.packing .bf16) := fun v1323 k0_hw106 => k0_hw106.2.2.2.1 (k0_off224_inb v1323 k0_hw106)
theorem k0_off439_inb : ∀ (v1323 : BitVec 32) (k0_hw106 : k0_chk106 v1323), ∀ a, (k0_off439 v1323) a + S1x1x64x4096.size a ≤ S32x2x64x4096.size a := fun v1323 k0_hw106 => k0_hw106.2.2.2.2.1
theorem k0_off439_wordsbf16 : ∀ (v1323 : BitVec 32) (k0_hw106 : k0_chk106 v1323), (Rect.unit (s := S32x2x64x4096) (k0_off439 v1323) S1x1x64x4096.size (k0_off439_inb v1323 k0_hw106)).WholeWords (EltTy.packing .bf16) := fun v1323 k0_hw106 => k0_hw106.2.2.2.2.2 (k0_off439_inb v1323 k0_hw106)

def k0_chk107 (v1322 : BitVec 32) : Prop :=
  (∀ a, (k0_off203 v1322) a + S1x1x64x4096.size a ≤ S32x2x64x4096.size a) ∧
  (∀ (hinb : ∀ a, (k0_off203 v1322) a + S1x1x64x4096.size a ≤ S32x2x64x4096.size a), (Rect.unit (s := S32x2x64x4096) (k0_off203 v1322) S1x1x64x4096.size hinb).WholeWords (EltTy.packing .bf16)) ∧
  (∀ a, (k0_off225 v1322) a + S1x1x64x4096.size a ≤ S32x2x64x4096.size a) ∧
  (∀ (hinb : ∀ a, (k0_off225 v1322) a + S1x1x64x4096.size a ≤ S32x2x64x4096.size a), (Rect.unit (s := S32x2x64x4096) (k0_off225 v1322) S1x1x64x4096.size hinb).WholeWords (EltTy.packing .bf16)) ∧
  (∀ a, (k0_off438 v1322) a + S1x1x64x4096.size a ≤ S32x2x64x4096.size a) ∧
  (∀ (hinb : ∀ a, (k0_off438 v1322) a + S1x1x64x4096.size a ≤ S32x2x64x4096.size a), (Rect.unit (s := S32x2x64x4096) (k0_off438 v1322) S1x1x64x4096.size hinb).WholeWords (EltTy.packing .bf16))
theorem k0_off203_inb : ∀ (v1322 : BitVec 32) (k0_hw107 : k0_chk107 v1322), ∀ a, (k0_off203 v1322) a + S1x1x64x4096.size a ≤ S32x2x64x4096.size a := fun v1322 k0_hw107 => k0_hw107.1
theorem k0_off203_wordsbf16 : ∀ (v1322 : BitVec 32) (k0_hw107 : k0_chk107 v1322), (Rect.unit (s := S32x2x64x4096) (k0_off203 v1322) S1x1x64x4096.size (k0_off203_inb v1322 k0_hw107)).WholeWords (EltTy.packing .bf16) := fun v1322 k0_hw107 => k0_hw107.2.1 (k0_off203_inb v1322 k0_hw107)
theorem k0_off225_inb : ∀ (v1322 : BitVec 32) (k0_hw107 : k0_chk107 v1322), ∀ a, (k0_off225 v1322) a + S1x1x64x4096.size a ≤ S32x2x64x4096.size a := fun v1322 k0_hw107 => k0_hw107.2.2.1
theorem k0_off225_wordsbf16 : ∀ (v1322 : BitVec 32) (k0_hw107 : k0_chk107 v1322), (Rect.unit (s := S32x2x64x4096) (k0_off225 v1322) S1x1x64x4096.size (k0_off225_inb v1322 k0_hw107)).WholeWords (EltTy.packing .bf16) := fun v1322 k0_hw107 => k0_hw107.2.2.2.1 (k0_off225_inb v1322 k0_hw107)
theorem k0_off438_inb : ∀ (v1322 : BitVec 32) (k0_hw107 : k0_chk107 v1322), ∀ a, (k0_off438 v1322) a + S1x1x64x4096.size a ≤ S32x2x64x4096.size a := fun v1322 k0_hw107 => k0_hw107.2.2.2.2.1
theorem k0_off438_wordsbf16 : ∀ (v1322 : BitVec 32) (k0_hw107 : k0_chk107 v1322), (Rect.unit (s := S32x2x64x4096) (k0_off438 v1322) S1x1x64x4096.size (k0_off438_inb v1322 k0_hw107)).WholeWords (EltTy.packing .bf16) := fun v1322 k0_hw107 => k0_hw107.2.2.2.2.2 (k0_off438_inb v1322 k0_hw107)

def k0_off440 (v1360 : BitVec 32) : Fin 4 → Nat :=
  let c0_i32_3496 : BitVec 32 := 0#32
  let c0_i32_3502 : BitVec 32 := 0#32
  let c0_i32_3503 : BitVec 32 := 0#32
  ![v1360.toNat, 0, 0, 0]
def k0_off441 (v1361 : BitVec 32) : Fin 4 → Nat :=
  let c0_i32_3495 : BitVec 32 := 0#32
  let c0_i32_3504 : BitVec 32 := 0#32
  let c0_i32_3505 : BitVec 32 := 0#32
  ![v1361.toNat, 0, 0, 0]

def k0_chk109 (v1361 : BitVec 32) : Prop :=
  (∀ a, (k0_off208 v1361) a + S1x1x64x4096.size a ≤ S32x2x64x4096.size a) ∧
  (∀ (hinb : ∀ a, (k0_off208 v1361) a + S1x1x64x4096.size a ≤ S32x2x64x4096.size a), (Rect.unit (s := S32x2x64x4096) (k0_off208 v1361) S1x1x64x4096.size hinb).WholeWords (EltTy.packing .bf16)) ∧
  (∀ a, (k0_off230 v1361) a + S1x1x64x4096.size a ≤ S32x2x64x4096.size a) ∧
  (∀ (hinb : ∀ a, (k0_off230 v1361) a + S1x1x64x4096.size a ≤ S32x2x64x4096.size a), (Rect.unit (s := S32x2x64x4096) (k0_off230 v1361) S1x1x64x4096.size hinb).WholeWords (EltTy.packing .bf16)) ∧
  (∀ a, (k0_off441 v1361) a + S1x1x64x4096.size a ≤ S32x2x64x4096.size a) ∧
  (∀ (hinb : ∀ a, (k0_off441 v1361) a + S1x1x64x4096.size a ≤ S32x2x64x4096.size a), (Rect.unit (s := S32x2x64x4096) (k0_off441 v1361) S1x1x64x4096.size hinb).WholeWords (EltTy.packing .bf16))
theorem k0_off208_inb : ∀ (v1361 : BitVec 32) (k0_hw109 : k0_chk109 v1361), ∀ a, (k0_off208 v1361) a + S1x1x64x4096.size a ≤ S32x2x64x4096.size a := fun v1361 k0_hw109 => k0_hw109.1
theorem k0_off208_wordsbf16 : ∀ (v1361 : BitVec 32) (k0_hw109 : k0_chk109 v1361), (Rect.unit (s := S32x2x64x4096) (k0_off208 v1361) S1x1x64x4096.size (k0_off208_inb v1361 k0_hw109)).WholeWords (EltTy.packing .bf16) := fun v1361 k0_hw109 => k0_hw109.2.1 (k0_off208_inb v1361 k0_hw109)
theorem k0_off230_inb : ∀ (v1361 : BitVec 32) (k0_hw109 : k0_chk109 v1361), ∀ a, (k0_off230 v1361) a + S1x1x64x4096.size a ≤ S32x2x64x4096.size a := fun v1361 k0_hw109 => k0_hw109.2.2.1
theorem k0_off230_wordsbf16 : ∀ (v1361 : BitVec 32) (k0_hw109 : k0_chk109 v1361), (Rect.unit (s := S32x2x64x4096) (k0_off230 v1361) S1x1x64x4096.size (k0_off230_inb v1361 k0_hw109)).WholeWords (EltTy.packing .bf16) := fun v1361 k0_hw109 => k0_hw109.2.2.2.1 (k0_off230_inb v1361 k0_hw109)
theorem k0_off441_inb : ∀ (v1361 : BitVec 32) (k0_hw109 : k0_chk109 v1361), ∀ a, (k0_off441 v1361) a + S1x1x64x4096.size a ≤ S32x2x64x4096.size a := fun v1361 k0_hw109 => k0_hw109.2.2.2.2.1
theorem k0_off441_wordsbf16 : ∀ (v1361 : BitVec 32) (k0_hw109 : k0_chk109 v1361), (Rect.unit (s := S32x2x64x4096) (k0_off441 v1361) S1x1x64x4096.size (k0_off441_inb v1361 k0_hw109)).WholeWords (EltTy.packing .bf16) := fun v1361 k0_hw109 => k0_hw109.2.2.2.2.2 (k0_off441_inb v1361 k0_hw109)

def k0_chk110 (v1360 : BitVec 32) : Prop :=
  (∀ a, (k0_off209 v1360) a + S1x1x64x4096.size a ≤ S32x2x64x4096.size a) ∧
  (∀ (hinb : ∀ a, (k0_off209 v1360) a + S1x1x64x4096.size a ≤ S32x2x64x4096.size a), (Rect.unit (s := S32x2x64x4096) (k0_off209 v1360) S1x1x64x4096.size hinb).WholeWords (EltTy.packing .bf16)) ∧
  (∀ a, (k0_off231 v1360) a + S1x1x64x4096.size a ≤ S32x2x64x4096.size a) ∧
  (∀ (hinb : ∀ a, (k0_off231 v1360) a + S1x1x64x4096.size a ≤ S32x2x64x4096.size a), (Rect.unit (s := S32x2x64x4096) (k0_off231 v1360) S1x1x64x4096.size hinb).WholeWords (EltTy.packing .bf16)) ∧
  (∀ a, (k0_off440 v1360) a + S1x1x64x4096.size a ≤ S32x2x64x4096.size a) ∧
  (∀ (hinb : ∀ a, (k0_off440 v1360) a + S1x1x64x4096.size a ≤ S32x2x64x4096.size a), (Rect.unit (s := S32x2x64x4096) (k0_off440 v1360) S1x1x64x4096.size hinb).WholeWords (EltTy.packing .bf16))
theorem k0_off209_inb : ∀ (v1360 : BitVec 32) (k0_hw110 : k0_chk110 v1360), ∀ a, (k0_off209 v1360) a + S1x1x64x4096.size a ≤ S32x2x64x4096.size a := fun v1360 k0_hw110 => k0_hw110.1
theorem k0_off209_wordsbf16 : ∀ (v1360 : BitVec 32) (k0_hw110 : k0_chk110 v1360), (Rect.unit (s := S32x2x64x4096) (k0_off209 v1360) S1x1x64x4096.size (k0_off209_inb v1360 k0_hw110)).WholeWords (EltTy.packing .bf16) := fun v1360 k0_hw110 => k0_hw110.2.1 (k0_off209_inb v1360 k0_hw110)
theorem k0_off231_inb : ∀ (v1360 : BitVec 32) (k0_hw110 : k0_chk110 v1360), ∀ a, (k0_off231 v1360) a + S1x1x64x4096.size a ≤ S32x2x64x4096.size a := fun v1360 k0_hw110 => k0_hw110.2.2.1
theorem k0_off231_wordsbf16 : ∀ (v1360 : BitVec 32) (k0_hw110 : k0_chk110 v1360), (Rect.unit (s := S32x2x64x4096) (k0_off231 v1360) S1x1x64x4096.size (k0_off231_inb v1360 k0_hw110)).WholeWords (EltTy.packing .bf16) := fun v1360 k0_hw110 => k0_hw110.2.2.2.1 (k0_off231_inb v1360 k0_hw110)
theorem k0_off440_inb : ∀ (v1360 : BitVec 32) (k0_hw110 : k0_chk110 v1360), ∀ a, (k0_off440 v1360) a + S1x1x64x4096.size a ≤ S32x2x64x4096.size a := fun v1360 k0_hw110 => k0_hw110.2.2.2.2.1
theorem k0_off440_wordsbf16 : ∀ (v1360 : BitVec 32) (k0_hw110 : k0_chk110 v1360), (Rect.unit (s := S32x2x64x4096) (k0_off440 v1360) S1x1x64x4096.size (k0_off440_inb v1360 k0_hw110)).WholeWords (EltTy.packing .bf16) := fun v1360 k0_hw110 => k0_hw110.2.2.2.2.2 (k0_off440_inb v1360 k0_hw110)

def k0_off442 (v1398 : BitVec 32) : Fin 4 → Nat :=
  let c1_i32_3507 : BitVec 32 := 1#32
  let c0_i32_3513 : BitVec 32 := 0#32
  let c0_i32_3514 : BitVec 32 := 0#32
  ![v1398.toNat, 1, 0, 0]
def k0_off443 (v1399 : BitVec 32) : Fin 4 → Nat :=
  let c1_i32_3506 : BitVec 32 := 1#32
  let c0_i32_3515 : BitVec 32 := 0#32
  let c0_i32_3516 : BitVec 32 := 0#32
  ![v1399.toNat, 1, 0, 0]

def k0_chk112 (v1399 : BitVec 32) : Prop :=
  (∀ a, (k0_off214 v1399) a + S1x1x64x4096.size a ≤ S32x2x64x4096.size a) ∧
  (∀ (hinb : ∀ a, (k0_off214 v1399) a + S1x1x64x4096.size a ≤ S32x2x64x4096.size a), (Rect.unit (s := S32x2x64x4096) (k0_off214 v1399) S1x1x64x4096.size hinb).WholeWords (EltTy.packing .bf16)) ∧
  (∀ a, (k0_off236 v1399) a + S1x1x64x4096.size a ≤ S32x2x64x4096.size a) ∧
  (∀ (hinb : ∀ a, (k0_off236 v1399) a + S1x1x64x4096.size a ≤ S32x2x64x4096.size a), (Rect.unit (s := S32x2x64x4096) (k0_off236 v1399) S1x1x64x4096.size hinb).WholeWords (EltTy.packing .bf16)) ∧
  (∀ a, (k0_off443 v1399) a + S1x1x64x4096.size a ≤ S32x2x64x4096.size a) ∧
  (∀ (hinb : ∀ a, (k0_off443 v1399) a + S1x1x64x4096.size a ≤ S32x2x64x4096.size a), (Rect.unit (s := S32x2x64x4096) (k0_off443 v1399) S1x1x64x4096.size hinb).WholeWords (EltTy.packing .bf16))
theorem k0_off214_inb : ∀ (v1399 : BitVec 32) (k0_hw112 : k0_chk112 v1399), ∀ a, (k0_off214 v1399) a + S1x1x64x4096.size a ≤ S32x2x64x4096.size a := fun v1399 k0_hw112 => k0_hw112.1
theorem k0_off214_wordsbf16 : ∀ (v1399 : BitVec 32) (k0_hw112 : k0_chk112 v1399), (Rect.unit (s := S32x2x64x4096) (k0_off214 v1399) S1x1x64x4096.size (k0_off214_inb v1399 k0_hw112)).WholeWords (EltTy.packing .bf16) := fun v1399 k0_hw112 => k0_hw112.2.1 (k0_off214_inb v1399 k0_hw112)
theorem k0_off236_inb : ∀ (v1399 : BitVec 32) (k0_hw112 : k0_chk112 v1399), ∀ a, (k0_off236 v1399) a + S1x1x64x4096.size a ≤ S32x2x64x4096.size a := fun v1399 k0_hw112 => k0_hw112.2.2.1
theorem k0_off236_wordsbf16 : ∀ (v1399 : BitVec 32) (k0_hw112 : k0_chk112 v1399), (Rect.unit (s := S32x2x64x4096) (k0_off236 v1399) S1x1x64x4096.size (k0_off236_inb v1399 k0_hw112)).WholeWords (EltTy.packing .bf16) := fun v1399 k0_hw112 => k0_hw112.2.2.2.1 (k0_off236_inb v1399 k0_hw112)
theorem k0_off443_inb : ∀ (v1399 : BitVec 32) (k0_hw112 : k0_chk112 v1399), ∀ a, (k0_off443 v1399) a + S1x1x64x4096.size a ≤ S32x2x64x4096.size a := fun v1399 k0_hw112 => k0_hw112.2.2.2.2.1
theorem k0_off443_wordsbf16 : ∀ (v1399 : BitVec 32) (k0_hw112 : k0_chk112 v1399), (Rect.unit (s := S32x2x64x4096) (k0_off443 v1399) S1x1x64x4096.size (k0_off443_inb v1399 k0_hw112)).WholeWords (EltTy.packing .bf16) := fun v1399 k0_hw112 => k0_hw112.2.2.2.2.2 (k0_off443_inb v1399 k0_hw112)

def k0_chk113 (v1398 : BitVec 32) : Prop :=
  (∀ a, (k0_off215 v1398) a + S1x1x64x4096.size a ≤ S32x2x64x4096.size a) ∧
  (∀ (hinb : ∀ a, (k0_off215 v1398) a + S1x1x64x4096.size a ≤ S32x2x64x4096.size a), (Rect.unit (s := S32x2x64x4096) (k0_off215 v1398) S1x1x64x4096.size hinb).WholeWords (EltTy.packing .bf16)) ∧
  (∀ a, (k0_off237 v1398) a + S1x1x64x4096.size a ≤ S32x2x64x4096.size a) ∧
  (∀ (hinb : ∀ a, (k0_off237 v1398) a + S1x1x64x4096.size a ≤ S32x2x64x4096.size a), (Rect.unit (s := S32x2x64x4096) (k0_off237 v1398) S1x1x64x4096.size hinb).WholeWords (EltTy.packing .bf16)) ∧
  (∀ a, (k0_off442 v1398) a + S1x1x64x4096.size a ≤ S32x2x64x4096.size a) ∧
  (∀ (hinb : ∀ a, (k0_off442 v1398) a + S1x1x64x4096.size a ≤ S32x2x64x4096.size a), (Rect.unit (s := S32x2x64x4096) (k0_off442 v1398) S1x1x64x4096.size hinb).WholeWords (EltTy.packing .bf16))
theorem k0_off215_inb : ∀ (v1398 : BitVec 32) (k0_hw113 : k0_chk113 v1398), ∀ a, (k0_off215 v1398) a + S1x1x64x4096.size a ≤ S32x2x64x4096.size a := fun v1398 k0_hw113 => k0_hw113.1
theorem k0_off215_wordsbf16 : ∀ (v1398 : BitVec 32) (k0_hw113 : k0_chk113 v1398), (Rect.unit (s := S32x2x64x4096) (k0_off215 v1398) S1x1x64x4096.size (k0_off215_inb v1398 k0_hw113)).WholeWords (EltTy.packing .bf16) := fun v1398 k0_hw113 => k0_hw113.2.1 (k0_off215_inb v1398 k0_hw113)
theorem k0_off237_inb : ∀ (v1398 : BitVec 32) (k0_hw113 : k0_chk113 v1398), ∀ a, (k0_off237 v1398) a + S1x1x64x4096.size a ≤ S32x2x64x4096.size a := fun v1398 k0_hw113 => k0_hw113.2.2.1
theorem k0_off237_wordsbf16 : ∀ (v1398 : BitVec 32) (k0_hw113 : k0_chk113 v1398), (Rect.unit (s := S32x2x64x4096) (k0_off237 v1398) S1x1x64x4096.size (k0_off237_inb v1398 k0_hw113)).WholeWords (EltTy.packing .bf16) := fun v1398 k0_hw113 => k0_hw113.2.2.2.1 (k0_off237_inb v1398 k0_hw113)
theorem k0_off442_inb : ∀ (v1398 : BitVec 32) (k0_hw113 : k0_chk113 v1398), ∀ a, (k0_off442 v1398) a + S1x1x64x4096.size a ≤ S32x2x64x4096.size a := fun v1398 k0_hw113 => k0_hw113.2.2.2.2.1
theorem k0_off442_wordsbf16 : ∀ (v1398 : BitVec 32) (k0_hw113 : k0_chk113 v1398), (Rect.unit (s := S32x2x64x4096) (k0_off442 v1398) S1x1x64x4096.size (k0_off442_inb v1398 k0_hw113)).WholeWords (EltTy.packing .bf16) := fun v1398 k0_hw113 => k0_hw113.2.2.2.2.2 (k0_off442_inb v1398 k0_hw113)

def k0_off444 (v1436 : BitVec 32) : Fin 4 → Nat :=
  let c0_i32_3518 : BitVec 32 := 0#32
  let c0_i32_3524 : BitVec 32 := 0#32
  let c0_i32_3525 : BitVec 32 := 0#32
  ![v1436.toNat, 0, 0, 0]
def k0_off445 (v1437 : BitVec 32) : Fin 4 → Nat :=
  let c0_i32_3517 : BitVec 32 := 0#32
  let c0_i32_3526 : BitVec 32 := 0#32
  let c0_i32_3527 : BitVec 32 := 0#32
  ![v1437.toNat, 0, 0, 0]

def k0_chk115 (v1437 : BitVec 32) : Prop :=
  (∀ a, (k0_off220 v1437) a + S1x1x64x4096.size a ≤ S32x2x64x4096.size a) ∧
  (∀ (hinb : ∀ a, (k0_off220 v1437) a + S1x1x64x4096.size a ≤ S32x2x64x4096.size a), (Rect.unit (s := S32x2x64x4096) (k0_off220 v1437) S1x1x64x4096.size hinb).WholeWords (EltTy.packing .bf16)) ∧
  (∀ a, (k0_off242 v1437) a + S1x1x64x4096.size a ≤ S32x2x64x4096.size a) ∧
  (∀ (hinb : ∀ a, (k0_off242 v1437) a + S1x1x64x4096.size a ≤ S32x2x64x4096.size a), (Rect.unit (s := S32x2x64x4096) (k0_off242 v1437) S1x1x64x4096.size hinb).WholeWords (EltTy.packing .bf16)) ∧
  (∀ a, (k0_off445 v1437) a + S1x1x64x4096.size a ≤ S32x2x64x4096.size a) ∧
  (∀ (hinb : ∀ a, (k0_off445 v1437) a + S1x1x64x4096.size a ≤ S32x2x64x4096.size a), (Rect.unit (s := S32x2x64x4096) (k0_off445 v1437) S1x1x64x4096.size hinb).WholeWords (EltTy.packing .bf16))
theorem k0_off220_inb : ∀ (v1437 : BitVec 32) (k0_hw115 : k0_chk115 v1437), ∀ a, (k0_off220 v1437) a + S1x1x64x4096.size a ≤ S32x2x64x4096.size a := fun v1437 k0_hw115 => k0_hw115.1
theorem k0_off220_wordsbf16 : ∀ (v1437 : BitVec 32) (k0_hw115 : k0_chk115 v1437), (Rect.unit (s := S32x2x64x4096) (k0_off220 v1437) S1x1x64x4096.size (k0_off220_inb v1437 k0_hw115)).WholeWords (EltTy.packing .bf16) := fun v1437 k0_hw115 => k0_hw115.2.1 (k0_off220_inb v1437 k0_hw115)
theorem k0_off242_inb : ∀ (v1437 : BitVec 32) (k0_hw115 : k0_chk115 v1437), ∀ a, (k0_off242 v1437) a + S1x1x64x4096.size a ≤ S32x2x64x4096.size a := fun v1437 k0_hw115 => k0_hw115.2.2.1
theorem k0_off242_wordsbf16 : ∀ (v1437 : BitVec 32) (k0_hw115 : k0_chk115 v1437), (Rect.unit (s := S32x2x64x4096) (k0_off242 v1437) S1x1x64x4096.size (k0_off242_inb v1437 k0_hw115)).WholeWords (EltTy.packing .bf16) := fun v1437 k0_hw115 => k0_hw115.2.2.2.1 (k0_off242_inb v1437 k0_hw115)
theorem k0_off445_inb : ∀ (v1437 : BitVec 32) (k0_hw115 : k0_chk115 v1437), ∀ a, (k0_off445 v1437) a + S1x1x64x4096.size a ≤ S32x2x64x4096.size a := fun v1437 k0_hw115 => k0_hw115.2.2.2.2.1
theorem k0_off445_wordsbf16 : ∀ (v1437 : BitVec 32) (k0_hw115 : k0_chk115 v1437), (Rect.unit (s := S32x2x64x4096) (k0_off445 v1437) S1x1x64x4096.size (k0_off445_inb v1437 k0_hw115)).WholeWords (EltTy.packing .bf16) := fun v1437 k0_hw115 => k0_hw115.2.2.2.2.2 (k0_off445_inb v1437 k0_hw115)

def k0_chk116 (v1436 : BitVec 32) : Prop :=
  (∀ a, (k0_off221 v1436) a + S1x1x64x4096.size a ≤ S32x2x64x4096.size a) ∧
  (∀ (hinb : ∀ a, (k0_off221 v1436) a + S1x1x64x4096.size a ≤ S32x2x64x4096.size a), (Rect.unit (s := S32x2x64x4096) (k0_off221 v1436) S1x1x64x4096.size hinb).WholeWords (EltTy.packing .bf16)) ∧
  (∀ a, (k0_off243 v1436) a + S1x1x64x4096.size a ≤ S32x2x64x4096.size a) ∧
  (∀ (hinb : ∀ a, (k0_off243 v1436) a + S1x1x64x4096.size a ≤ S32x2x64x4096.size a), (Rect.unit (s := S32x2x64x4096) (k0_off243 v1436) S1x1x64x4096.size hinb).WholeWords (EltTy.packing .bf16)) ∧
  (∀ a, (k0_off444 v1436) a + S1x1x64x4096.size a ≤ S32x2x64x4096.size a) ∧
  (∀ (hinb : ∀ a, (k0_off444 v1436) a + S1x1x64x4096.size a ≤ S32x2x64x4096.size a), (Rect.unit (s := S32x2x64x4096) (k0_off444 v1436) S1x1x64x4096.size hinb).WholeWords (EltTy.packing .bf16))
theorem k0_off221_inb : ∀ (v1436 : BitVec 32) (k0_hw116 : k0_chk116 v1436), ∀ a, (k0_off221 v1436) a + S1x1x64x4096.size a ≤ S32x2x64x4096.size a := fun v1436 k0_hw116 => k0_hw116.1
theorem k0_off221_wordsbf16 : ∀ (v1436 : BitVec 32) (k0_hw116 : k0_chk116 v1436), (Rect.unit (s := S32x2x64x4096) (k0_off221 v1436) S1x1x64x4096.size (k0_off221_inb v1436 k0_hw116)).WholeWords (EltTy.packing .bf16) := fun v1436 k0_hw116 => k0_hw116.2.1 (k0_off221_inb v1436 k0_hw116)
theorem k0_off243_inb : ∀ (v1436 : BitVec 32) (k0_hw116 : k0_chk116 v1436), ∀ a, (k0_off243 v1436) a + S1x1x64x4096.size a ≤ S32x2x64x4096.size a := fun v1436 k0_hw116 => k0_hw116.2.2.1
theorem k0_off243_wordsbf16 : ∀ (v1436 : BitVec 32) (k0_hw116 : k0_chk116 v1436), (Rect.unit (s := S32x2x64x4096) (k0_off243 v1436) S1x1x64x4096.size (k0_off243_inb v1436 k0_hw116)).WholeWords (EltTy.packing .bf16) := fun v1436 k0_hw116 => k0_hw116.2.2.2.1 (k0_off243_inb v1436 k0_hw116)
theorem k0_off444_inb : ∀ (v1436 : BitVec 32) (k0_hw116 : k0_chk116 v1436), ∀ a, (k0_off444 v1436) a + S1x1x64x4096.size a ≤ S32x2x64x4096.size a := fun v1436 k0_hw116 => k0_hw116.2.2.2.2.1
theorem k0_off444_wordsbf16 : ∀ (v1436 : BitVec 32) (k0_hw116 : k0_chk116 v1436), (Rect.unit (s := S32x2x64x4096) (k0_off444 v1436) S1x1x64x4096.size (k0_off444_inb v1436 k0_hw116)).WholeWords (EltTy.packing .bf16) := fun v1436 k0_hw116 => k0_hw116.2.2.2.2.2 (k0_off444_inb v1436 k0_hw116)

def k0_off446 (v1474 : BitVec 32) : Fin 4 → Nat :=
  let c1_i32_3529 : BitVec 32 := 1#32
  let c0_i32_3535 : BitVec 32 := 0#32
  let c0_i32_3536 : BitVec 32 := 0#32
  ![v1474.toNat, 1, 0, 0]
def k0_off447 (v1475 : BitVec 32) : Fin 4 → Nat :=
  let c1_i32_3528 : BitVec 32 := 1#32
  let c0_i32_3537 : BitVec 32 := 0#32
  let c0_i32_3538 : BitVec 32 := 0#32
  ![v1475.toNat, 1, 0, 0]

def k0_chk118 (v1475 : BitVec 32) : Prop :=
  (∀ a, (k0_off226 v1475) a + S1x1x64x4096.size a ≤ S32x2x64x4096.size a) ∧
  (∀ (hinb : ∀ a, (k0_off226 v1475) a + S1x1x64x4096.size a ≤ S32x2x64x4096.size a), (Rect.unit (s := S32x2x64x4096) (k0_off226 v1475) S1x1x64x4096.size hinb).WholeWords (EltTy.packing .bf16)) ∧
  (∀ a, (k0_off248 v1475) a + S1x1x64x4096.size a ≤ S32x2x64x4096.size a) ∧
  (∀ (hinb : ∀ a, (k0_off248 v1475) a + S1x1x64x4096.size a ≤ S32x2x64x4096.size a), (Rect.unit (s := S32x2x64x4096) (k0_off248 v1475) S1x1x64x4096.size hinb).WholeWords (EltTy.packing .bf16)) ∧
  (∀ a, (k0_off447 v1475) a + S1x1x64x4096.size a ≤ S32x2x64x4096.size a) ∧
  (∀ (hinb : ∀ a, (k0_off447 v1475) a + S1x1x64x4096.size a ≤ S32x2x64x4096.size a), (Rect.unit (s := S32x2x64x4096) (k0_off447 v1475) S1x1x64x4096.size hinb).WholeWords (EltTy.packing .bf16))
theorem k0_off226_inb : ∀ (v1475 : BitVec 32) (k0_hw118 : k0_chk118 v1475), ∀ a, (k0_off226 v1475) a + S1x1x64x4096.size a ≤ S32x2x64x4096.size a := fun v1475 k0_hw118 => k0_hw118.1
theorem k0_off226_wordsbf16 : ∀ (v1475 : BitVec 32) (k0_hw118 : k0_chk118 v1475), (Rect.unit (s := S32x2x64x4096) (k0_off226 v1475) S1x1x64x4096.size (k0_off226_inb v1475 k0_hw118)).WholeWords (EltTy.packing .bf16) := fun v1475 k0_hw118 => k0_hw118.2.1 (k0_off226_inb v1475 k0_hw118)
theorem k0_off248_inb : ∀ (v1475 : BitVec 32) (k0_hw118 : k0_chk118 v1475), ∀ a, (k0_off248 v1475) a + S1x1x64x4096.size a ≤ S32x2x64x4096.size a := fun v1475 k0_hw118 => k0_hw118.2.2.1
theorem k0_off248_wordsbf16 : ∀ (v1475 : BitVec 32) (k0_hw118 : k0_chk118 v1475), (Rect.unit (s := S32x2x64x4096) (k0_off248 v1475) S1x1x64x4096.size (k0_off248_inb v1475 k0_hw118)).WholeWords (EltTy.packing .bf16) := fun v1475 k0_hw118 => k0_hw118.2.2.2.1 (k0_off248_inb v1475 k0_hw118)
theorem k0_off447_inb : ∀ (v1475 : BitVec 32) (k0_hw118 : k0_chk118 v1475), ∀ a, (k0_off447 v1475) a + S1x1x64x4096.size a ≤ S32x2x64x4096.size a := fun v1475 k0_hw118 => k0_hw118.2.2.2.2.1
theorem k0_off447_wordsbf16 : ∀ (v1475 : BitVec 32) (k0_hw118 : k0_chk118 v1475), (Rect.unit (s := S32x2x64x4096) (k0_off447 v1475) S1x1x64x4096.size (k0_off447_inb v1475 k0_hw118)).WholeWords (EltTy.packing .bf16) := fun v1475 k0_hw118 => k0_hw118.2.2.2.2.2 (k0_off447_inb v1475 k0_hw118)

def k0_chk119 (v1474 : BitVec 32) : Prop :=
  (∀ a, (k0_off227 v1474) a + S1x1x64x4096.size a ≤ S32x2x64x4096.size a) ∧
  (∀ (hinb : ∀ a, (k0_off227 v1474) a + S1x1x64x4096.size a ≤ S32x2x64x4096.size a), (Rect.unit (s := S32x2x64x4096) (k0_off227 v1474) S1x1x64x4096.size hinb).WholeWords (EltTy.packing .bf16)) ∧
  (∀ a, (k0_off249 v1474) a + S1x1x64x4096.size a ≤ S32x2x64x4096.size a) ∧
  (∀ (hinb : ∀ a, (k0_off249 v1474) a + S1x1x64x4096.size a ≤ S32x2x64x4096.size a), (Rect.unit (s := S32x2x64x4096) (k0_off249 v1474) S1x1x64x4096.size hinb).WholeWords (EltTy.packing .bf16)) ∧
  (∀ a, (k0_off446 v1474) a + S1x1x64x4096.size a ≤ S32x2x64x4096.size a) ∧
  (∀ (hinb : ∀ a, (k0_off446 v1474) a + S1x1x64x4096.size a ≤ S32x2x64x4096.size a), (Rect.unit (s := S32x2x64x4096) (k0_off446 v1474) S1x1x64x4096.size hinb).WholeWords (EltTy.packing .bf16))
theorem k0_off227_inb : ∀ (v1474 : BitVec 32) (k0_hw119 : k0_chk119 v1474), ∀ a, (k0_off227 v1474) a + S1x1x64x4096.size a ≤ S32x2x64x4096.size a := fun v1474 k0_hw119 => k0_hw119.1
theorem k0_off227_wordsbf16 : ∀ (v1474 : BitVec 32) (k0_hw119 : k0_chk119 v1474), (Rect.unit (s := S32x2x64x4096) (k0_off227 v1474) S1x1x64x4096.size (k0_off227_inb v1474 k0_hw119)).WholeWords (EltTy.packing .bf16) := fun v1474 k0_hw119 => k0_hw119.2.1 (k0_off227_inb v1474 k0_hw119)
theorem k0_off249_inb : ∀ (v1474 : BitVec 32) (k0_hw119 : k0_chk119 v1474), ∀ a, (k0_off249 v1474) a + S1x1x64x4096.size a ≤ S32x2x64x4096.size a := fun v1474 k0_hw119 => k0_hw119.2.2.1
theorem k0_off249_wordsbf16 : ∀ (v1474 : BitVec 32) (k0_hw119 : k0_chk119 v1474), (Rect.unit (s := S32x2x64x4096) (k0_off249 v1474) S1x1x64x4096.size (k0_off249_inb v1474 k0_hw119)).WholeWords (EltTy.packing .bf16) := fun v1474 k0_hw119 => k0_hw119.2.2.2.1 (k0_off249_inb v1474 k0_hw119)
theorem k0_off446_inb : ∀ (v1474 : BitVec 32) (k0_hw119 : k0_chk119 v1474), ∀ a, (k0_off446 v1474) a + S1x1x64x4096.size a ≤ S32x2x64x4096.size a := fun v1474 k0_hw119 => k0_hw119.2.2.2.2.1
theorem k0_off446_wordsbf16 : ∀ (v1474 : BitVec 32) (k0_hw119 : k0_chk119 v1474), (Rect.unit (s := S32x2x64x4096) (k0_off446 v1474) S1x1x64x4096.size (k0_off446_inb v1474 k0_hw119)).WholeWords (EltTy.packing .bf16) := fun v1474 k0_hw119 => k0_hw119.2.2.2.2.2 (k0_off446_inb v1474 k0_hw119)

def k0_off448 (v1512 : BitVec 32) : Fin 4 → Nat :=
  let c0_i32_3540 : BitVec 32 := 0#32
  let c0_i32_3546 : BitVec 32 := 0#32
  let c0_i32_3547 : BitVec 32 := 0#32
  ![v1512.toNat, 0, 0, 0]
def k0_off449 (v1513 : BitVec 32) : Fin 4 → Nat :=
  let c0_i32_3539 : BitVec 32 := 0#32
  let c0_i32_3548 : BitVec 32 := 0#32
  let c0_i32_3549 : BitVec 32 := 0#32
  ![v1513.toNat, 0, 0, 0]

def k0_chk121 (v1513 : BitVec 32) : Prop :=
  (∀ a, (k0_off232 v1513) a + S1x1x64x4096.size a ≤ S32x2x64x4096.size a) ∧
  (∀ (hinb : ∀ a, (k0_off232 v1513) a + S1x1x64x4096.size a ≤ S32x2x64x4096.size a), (Rect.unit (s := S32x2x64x4096) (k0_off232 v1513) S1x1x64x4096.size hinb).WholeWords (EltTy.packing .bf16)) ∧
  (∀ a, (k0_off254 v1513) a + S1x1x64x4096.size a ≤ S32x2x64x4096.size a) ∧
  (∀ (hinb : ∀ a, (k0_off254 v1513) a + S1x1x64x4096.size a ≤ S32x2x64x4096.size a), (Rect.unit (s := S32x2x64x4096) (k0_off254 v1513) S1x1x64x4096.size hinb).WholeWords (EltTy.packing .bf16)) ∧
  (∀ a, (k0_off449 v1513) a + S1x1x64x4096.size a ≤ S32x2x64x4096.size a) ∧
  (∀ (hinb : ∀ a, (k0_off449 v1513) a + S1x1x64x4096.size a ≤ S32x2x64x4096.size a), (Rect.unit (s := S32x2x64x4096) (k0_off449 v1513) S1x1x64x4096.size hinb).WholeWords (EltTy.packing .bf16))
theorem k0_off232_inb : ∀ (v1513 : BitVec 32) (k0_hw121 : k0_chk121 v1513), ∀ a, (k0_off232 v1513) a + S1x1x64x4096.size a ≤ S32x2x64x4096.size a := fun v1513 k0_hw121 => k0_hw121.1
theorem k0_off232_wordsbf16 : ∀ (v1513 : BitVec 32) (k0_hw121 : k0_chk121 v1513), (Rect.unit (s := S32x2x64x4096) (k0_off232 v1513) S1x1x64x4096.size (k0_off232_inb v1513 k0_hw121)).WholeWords (EltTy.packing .bf16) := fun v1513 k0_hw121 => k0_hw121.2.1 (k0_off232_inb v1513 k0_hw121)
theorem k0_off254_inb : ∀ (v1513 : BitVec 32) (k0_hw121 : k0_chk121 v1513), ∀ a, (k0_off254 v1513) a + S1x1x64x4096.size a ≤ S32x2x64x4096.size a := fun v1513 k0_hw121 => k0_hw121.2.2.1
theorem k0_off254_wordsbf16 : ∀ (v1513 : BitVec 32) (k0_hw121 : k0_chk121 v1513), (Rect.unit (s := S32x2x64x4096) (k0_off254 v1513) S1x1x64x4096.size (k0_off254_inb v1513 k0_hw121)).WholeWords (EltTy.packing .bf16) := fun v1513 k0_hw121 => k0_hw121.2.2.2.1 (k0_off254_inb v1513 k0_hw121)
theorem k0_off449_inb : ∀ (v1513 : BitVec 32) (k0_hw121 : k0_chk121 v1513), ∀ a, (k0_off449 v1513) a + S1x1x64x4096.size a ≤ S32x2x64x4096.size a := fun v1513 k0_hw121 => k0_hw121.2.2.2.2.1
theorem k0_off449_wordsbf16 : ∀ (v1513 : BitVec 32) (k0_hw121 : k0_chk121 v1513), (Rect.unit (s := S32x2x64x4096) (k0_off449 v1513) S1x1x64x4096.size (k0_off449_inb v1513 k0_hw121)).WholeWords (EltTy.packing .bf16) := fun v1513 k0_hw121 => k0_hw121.2.2.2.2.2 (k0_off449_inb v1513 k0_hw121)

def k0_chk122 (v1512 : BitVec 32) : Prop :=
  (∀ a, (k0_off233 v1512) a + S1x1x64x4096.size a ≤ S32x2x64x4096.size a) ∧
  (∀ (hinb : ∀ a, (k0_off233 v1512) a + S1x1x64x4096.size a ≤ S32x2x64x4096.size a), (Rect.unit (s := S32x2x64x4096) (k0_off233 v1512) S1x1x64x4096.size hinb).WholeWords (EltTy.packing .bf16)) ∧
  (∀ a, (k0_off255 v1512) a + S1x1x64x4096.size a ≤ S32x2x64x4096.size a) ∧
  (∀ (hinb : ∀ a, (k0_off255 v1512) a + S1x1x64x4096.size a ≤ S32x2x64x4096.size a), (Rect.unit (s := S32x2x64x4096) (k0_off255 v1512) S1x1x64x4096.size hinb).WholeWords (EltTy.packing .bf16)) ∧
  (∀ a, (k0_off448 v1512) a + S1x1x64x4096.size a ≤ S32x2x64x4096.size a) ∧
  (∀ (hinb : ∀ a, (k0_off448 v1512) a + S1x1x64x4096.size a ≤ S32x2x64x4096.size a), (Rect.unit (s := S32x2x64x4096) (k0_off448 v1512) S1x1x64x4096.size hinb).WholeWords (EltTy.packing .bf16))
theorem k0_off233_inb : ∀ (v1512 : BitVec 32) (k0_hw122 : k0_chk122 v1512), ∀ a, (k0_off233 v1512) a + S1x1x64x4096.size a ≤ S32x2x64x4096.size a := fun v1512 k0_hw122 => k0_hw122.1
theorem k0_off233_wordsbf16 : ∀ (v1512 : BitVec 32) (k0_hw122 : k0_chk122 v1512), (Rect.unit (s := S32x2x64x4096) (k0_off233 v1512) S1x1x64x4096.size (k0_off233_inb v1512 k0_hw122)).WholeWords (EltTy.packing .bf16) := fun v1512 k0_hw122 => k0_hw122.2.1 (k0_off233_inb v1512 k0_hw122)
theorem k0_off255_inb : ∀ (v1512 : BitVec 32) (k0_hw122 : k0_chk122 v1512), ∀ a, (k0_off255 v1512) a + S1x1x64x4096.size a ≤ S32x2x64x4096.size a := fun v1512 k0_hw122 => k0_hw122.2.2.1
theorem k0_off255_wordsbf16 : ∀ (v1512 : BitVec 32) (k0_hw122 : k0_chk122 v1512), (Rect.unit (s := S32x2x64x4096) (k0_off255 v1512) S1x1x64x4096.size (k0_off255_inb v1512 k0_hw122)).WholeWords (EltTy.packing .bf16) := fun v1512 k0_hw122 => k0_hw122.2.2.2.1 (k0_off255_inb v1512 k0_hw122)
theorem k0_off448_inb : ∀ (v1512 : BitVec 32) (k0_hw122 : k0_chk122 v1512), ∀ a, (k0_off448 v1512) a + S1x1x64x4096.size a ≤ S32x2x64x4096.size a := fun v1512 k0_hw122 => k0_hw122.2.2.2.2.1
theorem k0_off448_wordsbf16 : ∀ (v1512 : BitVec 32) (k0_hw122 : k0_chk122 v1512), (Rect.unit (s := S32x2x64x4096) (k0_off448 v1512) S1x1x64x4096.size (k0_off448_inb v1512 k0_hw122)).WholeWords (EltTy.packing .bf16) := fun v1512 k0_hw122 => k0_hw122.2.2.2.2.2 (k0_off448_inb v1512 k0_hw122)

def k0_off450 (v1550 : BitVec 32) : Fin 4 → Nat :=
  let c1_i32_3551 : BitVec 32 := 1#32
  let c0_i32_3557 : BitVec 32 := 0#32
  let c0_i32_3558 : BitVec 32 := 0#32
  ![v1550.toNat, 1, 0, 0]
def k0_off451 (v1551 : BitVec 32) : Fin 4 → Nat :=
  let c1_i32_3550 : BitVec 32 := 1#32
  let c0_i32_3559 : BitVec 32 := 0#32
  let c0_i32_3560 : BitVec 32 := 0#32
  ![v1551.toNat, 1, 0, 0]

def k0_chk124 (v1551 : BitVec 32) : Prop :=
  (∀ a, (k0_off238 v1551) a + S1x1x64x4096.size a ≤ S32x2x64x4096.size a) ∧
  (∀ (hinb : ∀ a, (k0_off238 v1551) a + S1x1x64x4096.size a ≤ S32x2x64x4096.size a), (Rect.unit (s := S32x2x64x4096) (k0_off238 v1551) S1x1x64x4096.size hinb).WholeWords (EltTy.packing .bf16)) ∧
  (∀ a, (k0_off260 v1551) a + S1x1x64x4096.size a ≤ S32x2x64x4096.size a) ∧
  (∀ (hinb : ∀ a, (k0_off260 v1551) a + S1x1x64x4096.size a ≤ S32x2x64x4096.size a), (Rect.unit (s := S32x2x64x4096) (k0_off260 v1551) S1x1x64x4096.size hinb).WholeWords (EltTy.packing .bf16)) ∧
  (∀ a, (k0_off451 v1551) a + S1x1x64x4096.size a ≤ S32x2x64x4096.size a) ∧
  (∀ (hinb : ∀ a, (k0_off451 v1551) a + S1x1x64x4096.size a ≤ S32x2x64x4096.size a), (Rect.unit (s := S32x2x64x4096) (k0_off451 v1551) S1x1x64x4096.size hinb).WholeWords (EltTy.packing .bf16))
theorem k0_off238_inb : ∀ (v1551 : BitVec 32) (k0_hw124 : k0_chk124 v1551), ∀ a, (k0_off238 v1551) a + S1x1x64x4096.size a ≤ S32x2x64x4096.size a := fun v1551 k0_hw124 => k0_hw124.1
theorem k0_off238_wordsbf16 : ∀ (v1551 : BitVec 32) (k0_hw124 : k0_chk124 v1551), (Rect.unit (s := S32x2x64x4096) (k0_off238 v1551) S1x1x64x4096.size (k0_off238_inb v1551 k0_hw124)).WholeWords (EltTy.packing .bf16) := fun v1551 k0_hw124 => k0_hw124.2.1 (k0_off238_inb v1551 k0_hw124)
theorem k0_off260_inb : ∀ (v1551 : BitVec 32) (k0_hw124 : k0_chk124 v1551), ∀ a, (k0_off260 v1551) a + S1x1x64x4096.size a ≤ S32x2x64x4096.size a := fun v1551 k0_hw124 => k0_hw124.2.2.1
theorem k0_off260_wordsbf16 : ∀ (v1551 : BitVec 32) (k0_hw124 : k0_chk124 v1551), (Rect.unit (s := S32x2x64x4096) (k0_off260 v1551) S1x1x64x4096.size (k0_off260_inb v1551 k0_hw124)).WholeWords (EltTy.packing .bf16) := fun v1551 k0_hw124 => k0_hw124.2.2.2.1 (k0_off260_inb v1551 k0_hw124)
theorem k0_off451_inb : ∀ (v1551 : BitVec 32) (k0_hw124 : k0_chk124 v1551), ∀ a, (k0_off451 v1551) a + S1x1x64x4096.size a ≤ S32x2x64x4096.size a := fun v1551 k0_hw124 => k0_hw124.2.2.2.2.1
theorem k0_off451_wordsbf16 : ∀ (v1551 : BitVec 32) (k0_hw124 : k0_chk124 v1551), (Rect.unit (s := S32x2x64x4096) (k0_off451 v1551) S1x1x64x4096.size (k0_off451_inb v1551 k0_hw124)).WholeWords (EltTy.packing .bf16) := fun v1551 k0_hw124 => k0_hw124.2.2.2.2.2 (k0_off451_inb v1551 k0_hw124)

def k0_chk125 (v1550 : BitVec 32) : Prop :=
  (∀ a, (k0_off239 v1550) a + S1x1x64x4096.size a ≤ S32x2x64x4096.size a) ∧
  (∀ (hinb : ∀ a, (k0_off239 v1550) a + S1x1x64x4096.size a ≤ S32x2x64x4096.size a), (Rect.unit (s := S32x2x64x4096) (k0_off239 v1550) S1x1x64x4096.size hinb).WholeWords (EltTy.packing .bf16)) ∧
  (∀ a, (k0_off261 v1550) a + S1x1x64x4096.size a ≤ S32x2x64x4096.size a) ∧
  (∀ (hinb : ∀ a, (k0_off261 v1550) a + S1x1x64x4096.size a ≤ S32x2x64x4096.size a), (Rect.unit (s := S32x2x64x4096) (k0_off261 v1550) S1x1x64x4096.size hinb).WholeWords (EltTy.packing .bf16)) ∧
  (∀ a, (k0_off450 v1550) a + S1x1x64x4096.size a ≤ S32x2x64x4096.size a) ∧
  (∀ (hinb : ∀ a, (k0_off450 v1550) a + S1x1x64x4096.size a ≤ S32x2x64x4096.size a), (Rect.unit (s := S32x2x64x4096) (k0_off450 v1550) S1x1x64x4096.size hinb).WholeWords (EltTy.packing .bf16))
theorem k0_off239_inb : ∀ (v1550 : BitVec 32) (k0_hw125 : k0_chk125 v1550), ∀ a, (k0_off239 v1550) a + S1x1x64x4096.size a ≤ S32x2x64x4096.size a := fun v1550 k0_hw125 => k0_hw125.1
theorem k0_off239_wordsbf16 : ∀ (v1550 : BitVec 32) (k0_hw125 : k0_chk125 v1550), (Rect.unit (s := S32x2x64x4096) (k0_off239 v1550) S1x1x64x4096.size (k0_off239_inb v1550 k0_hw125)).WholeWords (EltTy.packing .bf16) := fun v1550 k0_hw125 => k0_hw125.2.1 (k0_off239_inb v1550 k0_hw125)
theorem k0_off261_inb : ∀ (v1550 : BitVec 32) (k0_hw125 : k0_chk125 v1550), ∀ a, (k0_off261 v1550) a + S1x1x64x4096.size a ≤ S32x2x64x4096.size a := fun v1550 k0_hw125 => k0_hw125.2.2.1
theorem k0_off261_wordsbf16 : ∀ (v1550 : BitVec 32) (k0_hw125 : k0_chk125 v1550), (Rect.unit (s := S32x2x64x4096) (k0_off261 v1550) S1x1x64x4096.size (k0_off261_inb v1550 k0_hw125)).WholeWords (EltTy.packing .bf16) := fun v1550 k0_hw125 => k0_hw125.2.2.2.1 (k0_off261_inb v1550 k0_hw125)
theorem k0_off450_inb : ∀ (v1550 : BitVec 32) (k0_hw125 : k0_chk125 v1550), ∀ a, (k0_off450 v1550) a + S1x1x64x4096.size a ≤ S32x2x64x4096.size a := fun v1550 k0_hw125 => k0_hw125.2.2.2.2.1
theorem k0_off450_wordsbf16 : ∀ (v1550 : BitVec 32) (k0_hw125 : k0_chk125 v1550), (Rect.unit (s := S32x2x64x4096) (k0_off450 v1550) S1x1x64x4096.size (k0_off450_inb v1550 k0_hw125)).WholeWords (EltTy.packing .bf16) := fun v1550 k0_hw125 => k0_hw125.2.2.2.2.2 (k0_off450_inb v1550 k0_hw125)

def k0_off452 (v1588 : BitVec 32) : Fin 4 → Nat :=
  let c0_i32_3562 : BitVec 32 := 0#32
  let c0_i32_3568 : BitVec 32 := 0#32
  let c0_i32_3569 : BitVec 32 := 0#32
  ![v1588.toNat, 0, 0, 0]
def k0_off453 (v1589 : BitVec 32) : Fin 4 → Nat :=
  let c0_i32_3561 : BitVec 32 := 0#32
  let c0_i32_3570 : BitVec 32 := 0#32
  let c0_i32_3571 : BitVec 32 := 0#32
  ![v1589.toNat, 0, 0, 0]

def k0_chk127 (v1589 : BitVec 32) : Prop :=
  (∀ a, (k0_off244 v1589) a + S1x1x64x4096.size a ≤ S32x2x64x4096.size a) ∧
  (∀ (hinb : ∀ a, (k0_off244 v1589) a + S1x1x64x4096.size a ≤ S32x2x64x4096.size a), (Rect.unit (s := S32x2x64x4096) (k0_off244 v1589) S1x1x64x4096.size hinb).WholeWords (EltTy.packing .bf16)) ∧
  (∀ a, (k0_off266 v1589) a + S1x1x64x4096.size a ≤ S32x2x64x4096.size a) ∧
  (∀ (hinb : ∀ a, (k0_off266 v1589) a + S1x1x64x4096.size a ≤ S32x2x64x4096.size a), (Rect.unit (s := S32x2x64x4096) (k0_off266 v1589) S1x1x64x4096.size hinb).WholeWords (EltTy.packing .bf16)) ∧
  (∀ a, (k0_off453 v1589) a + S1x1x64x4096.size a ≤ S32x2x64x4096.size a) ∧
  (∀ (hinb : ∀ a, (k0_off453 v1589) a + S1x1x64x4096.size a ≤ S32x2x64x4096.size a), (Rect.unit (s := S32x2x64x4096) (k0_off453 v1589) S1x1x64x4096.size hinb).WholeWords (EltTy.packing .bf16))
theorem k0_off244_inb : ∀ (v1589 : BitVec 32) (k0_hw127 : k0_chk127 v1589), ∀ a, (k0_off244 v1589) a + S1x1x64x4096.size a ≤ S32x2x64x4096.size a := fun v1589 k0_hw127 => k0_hw127.1
theorem k0_off244_wordsbf16 : ∀ (v1589 : BitVec 32) (k0_hw127 : k0_chk127 v1589), (Rect.unit (s := S32x2x64x4096) (k0_off244 v1589) S1x1x64x4096.size (k0_off244_inb v1589 k0_hw127)).WholeWords (EltTy.packing .bf16) := fun v1589 k0_hw127 => k0_hw127.2.1 (k0_off244_inb v1589 k0_hw127)
theorem k0_off266_inb : ∀ (v1589 : BitVec 32) (k0_hw127 : k0_chk127 v1589), ∀ a, (k0_off266 v1589) a + S1x1x64x4096.size a ≤ S32x2x64x4096.size a := fun v1589 k0_hw127 => k0_hw127.2.2.1
theorem k0_off266_wordsbf16 : ∀ (v1589 : BitVec 32) (k0_hw127 : k0_chk127 v1589), (Rect.unit (s := S32x2x64x4096) (k0_off266 v1589) S1x1x64x4096.size (k0_off266_inb v1589 k0_hw127)).WholeWords (EltTy.packing .bf16) := fun v1589 k0_hw127 => k0_hw127.2.2.2.1 (k0_off266_inb v1589 k0_hw127)
theorem k0_off453_inb : ∀ (v1589 : BitVec 32) (k0_hw127 : k0_chk127 v1589), ∀ a, (k0_off453 v1589) a + S1x1x64x4096.size a ≤ S32x2x64x4096.size a := fun v1589 k0_hw127 => k0_hw127.2.2.2.2.1
theorem k0_off453_wordsbf16 : ∀ (v1589 : BitVec 32) (k0_hw127 : k0_chk127 v1589), (Rect.unit (s := S32x2x64x4096) (k0_off453 v1589) S1x1x64x4096.size (k0_off453_inb v1589 k0_hw127)).WholeWords (EltTy.packing .bf16) := fun v1589 k0_hw127 => k0_hw127.2.2.2.2.2 (k0_off453_inb v1589 k0_hw127)

def k0_chk128 (v1588 : BitVec 32) : Prop :=
  (∀ a, (k0_off245 v1588) a + S1x1x64x4096.size a ≤ S32x2x64x4096.size a) ∧
  (∀ (hinb : ∀ a, (k0_off245 v1588) a + S1x1x64x4096.size a ≤ S32x2x64x4096.size a), (Rect.unit (s := S32x2x64x4096) (k0_off245 v1588) S1x1x64x4096.size hinb).WholeWords (EltTy.packing .bf16)) ∧
  (∀ a, (k0_off267 v1588) a + S1x1x64x4096.size a ≤ S32x2x64x4096.size a) ∧
  (∀ (hinb : ∀ a, (k0_off267 v1588) a + S1x1x64x4096.size a ≤ S32x2x64x4096.size a), (Rect.unit (s := S32x2x64x4096) (k0_off267 v1588) S1x1x64x4096.size hinb).WholeWords (EltTy.packing .bf16)) ∧
  (∀ a, (k0_off452 v1588) a + S1x1x64x4096.size a ≤ S32x2x64x4096.size a) ∧
  (∀ (hinb : ∀ a, (k0_off452 v1588) a + S1x1x64x4096.size a ≤ S32x2x64x4096.size a), (Rect.unit (s := S32x2x64x4096) (k0_off452 v1588) S1x1x64x4096.size hinb).WholeWords (EltTy.packing .bf16))
theorem k0_off245_inb : ∀ (v1588 : BitVec 32) (k0_hw128 : k0_chk128 v1588), ∀ a, (k0_off245 v1588) a + S1x1x64x4096.size a ≤ S32x2x64x4096.size a := fun v1588 k0_hw128 => k0_hw128.1
theorem k0_off245_wordsbf16 : ∀ (v1588 : BitVec 32) (k0_hw128 : k0_chk128 v1588), (Rect.unit (s := S32x2x64x4096) (k0_off245 v1588) S1x1x64x4096.size (k0_off245_inb v1588 k0_hw128)).WholeWords (EltTy.packing .bf16) := fun v1588 k0_hw128 => k0_hw128.2.1 (k0_off245_inb v1588 k0_hw128)
theorem k0_off267_inb : ∀ (v1588 : BitVec 32) (k0_hw128 : k0_chk128 v1588), ∀ a, (k0_off267 v1588) a + S1x1x64x4096.size a ≤ S32x2x64x4096.size a := fun v1588 k0_hw128 => k0_hw128.2.2.1
theorem k0_off267_wordsbf16 : ∀ (v1588 : BitVec 32) (k0_hw128 : k0_chk128 v1588), (Rect.unit (s := S32x2x64x4096) (k0_off267 v1588) S1x1x64x4096.size (k0_off267_inb v1588 k0_hw128)).WholeWords (EltTy.packing .bf16) := fun v1588 k0_hw128 => k0_hw128.2.2.2.1 (k0_off267_inb v1588 k0_hw128)
theorem k0_off452_inb : ∀ (v1588 : BitVec 32) (k0_hw128 : k0_chk128 v1588), ∀ a, (k0_off452 v1588) a + S1x1x64x4096.size a ≤ S32x2x64x4096.size a := fun v1588 k0_hw128 => k0_hw128.2.2.2.2.1
theorem k0_off452_wordsbf16 : ∀ (v1588 : BitVec 32) (k0_hw128 : k0_chk128 v1588), (Rect.unit (s := S32x2x64x4096) (k0_off452 v1588) S1x1x64x4096.size (k0_off452_inb v1588 k0_hw128)).WholeWords (EltTy.packing .bf16) := fun v1588 k0_hw128 => k0_hw128.2.2.2.2.2 (k0_off452_inb v1588 k0_hw128)

def k0_off454 (v1626 : BitVec 32) : Fin 4 → Nat :=
  let c1_i32_3573 : BitVec 32 := 1#32
  let c0_i32_3579 : BitVec 32 := 0#32
  let c0_i32_3580 : BitVec 32 := 0#32
  ![v1626.toNat, 1, 0, 0]
def k0_off455 (v1627 : BitVec 32) : Fin 4 → Nat :=
  let c1_i32_3572 : BitVec 32 := 1#32
  let c0_i32_3581 : BitVec 32 := 0#32
  let c0_i32_3582 : BitVec 32 := 0#32
  ![v1627.toNat, 1, 0, 0]

def k0_chk130 (v1627 : BitVec 32) : Prop :=
  (∀ a, (k0_off250 v1627) a + S1x1x64x4096.size a ≤ S32x2x64x4096.size a) ∧
  (∀ (hinb : ∀ a, (k0_off250 v1627) a + S1x1x64x4096.size a ≤ S32x2x64x4096.size a), (Rect.unit (s := S32x2x64x4096) (k0_off250 v1627) S1x1x64x4096.size hinb).WholeWords (EltTy.packing .bf16)) ∧
  (∀ a, (k0_off272 v1627) a + S1x1x64x4096.size a ≤ S32x2x64x4096.size a) ∧
  (∀ (hinb : ∀ a, (k0_off272 v1627) a + S1x1x64x4096.size a ≤ S32x2x64x4096.size a), (Rect.unit (s := S32x2x64x4096) (k0_off272 v1627) S1x1x64x4096.size hinb).WholeWords (EltTy.packing .bf16)) ∧
  (∀ a, (k0_off455 v1627) a + S1x1x64x4096.size a ≤ S32x2x64x4096.size a) ∧
  (∀ (hinb : ∀ a, (k0_off455 v1627) a + S1x1x64x4096.size a ≤ S32x2x64x4096.size a), (Rect.unit (s := S32x2x64x4096) (k0_off455 v1627) S1x1x64x4096.size hinb).WholeWords (EltTy.packing .bf16))
theorem k0_off250_inb : ∀ (v1627 : BitVec 32) (k0_hw130 : k0_chk130 v1627), ∀ a, (k0_off250 v1627) a + S1x1x64x4096.size a ≤ S32x2x64x4096.size a := fun v1627 k0_hw130 => k0_hw130.1
theorem k0_off250_wordsbf16 : ∀ (v1627 : BitVec 32) (k0_hw130 : k0_chk130 v1627), (Rect.unit (s := S32x2x64x4096) (k0_off250 v1627) S1x1x64x4096.size (k0_off250_inb v1627 k0_hw130)).WholeWords (EltTy.packing .bf16) := fun v1627 k0_hw130 => k0_hw130.2.1 (k0_off250_inb v1627 k0_hw130)
theorem k0_off272_inb : ∀ (v1627 : BitVec 32) (k0_hw130 : k0_chk130 v1627), ∀ a, (k0_off272 v1627) a + S1x1x64x4096.size a ≤ S32x2x64x4096.size a := fun v1627 k0_hw130 => k0_hw130.2.2.1
theorem k0_off272_wordsbf16 : ∀ (v1627 : BitVec 32) (k0_hw130 : k0_chk130 v1627), (Rect.unit (s := S32x2x64x4096) (k0_off272 v1627) S1x1x64x4096.size (k0_off272_inb v1627 k0_hw130)).WholeWords (EltTy.packing .bf16) := fun v1627 k0_hw130 => k0_hw130.2.2.2.1 (k0_off272_inb v1627 k0_hw130)
theorem k0_off455_inb : ∀ (v1627 : BitVec 32) (k0_hw130 : k0_chk130 v1627), ∀ a, (k0_off455 v1627) a + S1x1x64x4096.size a ≤ S32x2x64x4096.size a := fun v1627 k0_hw130 => k0_hw130.2.2.2.2.1
theorem k0_off455_wordsbf16 : ∀ (v1627 : BitVec 32) (k0_hw130 : k0_chk130 v1627), (Rect.unit (s := S32x2x64x4096) (k0_off455 v1627) S1x1x64x4096.size (k0_off455_inb v1627 k0_hw130)).WholeWords (EltTy.packing .bf16) := fun v1627 k0_hw130 => k0_hw130.2.2.2.2.2 (k0_off455_inb v1627 k0_hw130)

def k0_chk131 (v1626 : BitVec 32) : Prop :=
  (∀ a, (k0_off251 v1626) a + S1x1x64x4096.size a ≤ S32x2x64x4096.size a) ∧
  (∀ (hinb : ∀ a, (k0_off251 v1626) a + S1x1x64x4096.size a ≤ S32x2x64x4096.size a), (Rect.unit (s := S32x2x64x4096) (k0_off251 v1626) S1x1x64x4096.size hinb).WholeWords (EltTy.packing .bf16)) ∧
  (∀ a, (k0_off273 v1626) a + S1x1x64x4096.size a ≤ S32x2x64x4096.size a) ∧
  (∀ (hinb : ∀ a, (k0_off273 v1626) a + S1x1x64x4096.size a ≤ S32x2x64x4096.size a), (Rect.unit (s := S32x2x64x4096) (k0_off273 v1626) S1x1x64x4096.size hinb).WholeWords (EltTy.packing .bf16)) ∧
  (∀ a, (k0_off454 v1626) a + S1x1x64x4096.size a ≤ S32x2x64x4096.size a) ∧
  (∀ (hinb : ∀ a, (k0_off454 v1626) a + S1x1x64x4096.size a ≤ S32x2x64x4096.size a), (Rect.unit (s := S32x2x64x4096) (k0_off454 v1626) S1x1x64x4096.size hinb).WholeWords (EltTy.packing .bf16))
theorem k0_off251_inb : ∀ (v1626 : BitVec 32) (k0_hw131 : k0_chk131 v1626), ∀ a, (k0_off251 v1626) a + S1x1x64x4096.size a ≤ S32x2x64x4096.size a := fun v1626 k0_hw131 => k0_hw131.1
theorem k0_off251_wordsbf16 : ∀ (v1626 : BitVec 32) (k0_hw131 : k0_chk131 v1626), (Rect.unit (s := S32x2x64x4096) (k0_off251 v1626) S1x1x64x4096.size (k0_off251_inb v1626 k0_hw131)).WholeWords (EltTy.packing .bf16) := fun v1626 k0_hw131 => k0_hw131.2.1 (k0_off251_inb v1626 k0_hw131)
theorem k0_off273_inb : ∀ (v1626 : BitVec 32) (k0_hw131 : k0_chk131 v1626), ∀ a, (k0_off273 v1626) a + S1x1x64x4096.size a ≤ S32x2x64x4096.size a := fun v1626 k0_hw131 => k0_hw131.2.2.1
theorem k0_off273_wordsbf16 : ∀ (v1626 : BitVec 32) (k0_hw131 : k0_chk131 v1626), (Rect.unit (s := S32x2x64x4096) (k0_off273 v1626) S1x1x64x4096.size (k0_off273_inb v1626 k0_hw131)).WholeWords (EltTy.packing .bf16) := fun v1626 k0_hw131 => k0_hw131.2.2.2.1 (k0_off273_inb v1626 k0_hw131)
theorem k0_off454_inb : ∀ (v1626 : BitVec 32) (k0_hw131 : k0_chk131 v1626), ∀ a, (k0_off454 v1626) a + S1x1x64x4096.size a ≤ S32x2x64x4096.size a := fun v1626 k0_hw131 => k0_hw131.2.2.2.2.1
theorem k0_off454_wordsbf16 : ∀ (v1626 : BitVec 32) (k0_hw131 : k0_chk131 v1626), (Rect.unit (s := S32x2x64x4096) (k0_off454 v1626) S1x1x64x4096.size (k0_off454_inb v1626 k0_hw131)).WholeWords (EltTy.packing .bf16) := fun v1626 k0_hw131 => k0_hw131.2.2.2.2.2 (k0_off454_inb v1626 k0_hw131)

def k0_off456 (v1664 : BitVec 32) : Fin 4 → Nat :=
  let c0_i32_3584 : BitVec 32 := 0#32
  let c0_i32_3590 : BitVec 32 := 0#32
  let c0_i32_3591 : BitVec 32 := 0#32
  ![v1664.toNat, 0, 0, 0]
def k0_off457 (v1665 : BitVec 32) : Fin 4 → Nat :=
  let c0_i32_3583 : BitVec 32 := 0#32
  let c0_i32_3592 : BitVec 32 := 0#32
  let c0_i32_3593 : BitVec 32 := 0#32
  ![v1665.toNat, 0, 0, 0]

def k0_chk133 (v1665 : BitVec 32) : Prop :=
  (∀ a, (k0_off256 v1665) a + S1x1x64x4096.size a ≤ S32x2x64x4096.size a) ∧
  (∀ (hinb : ∀ a, (k0_off256 v1665) a + S1x1x64x4096.size a ≤ S32x2x64x4096.size a), (Rect.unit (s := S32x2x64x4096) (k0_off256 v1665) S1x1x64x4096.size hinb).WholeWords (EltTy.packing .bf16)) ∧
  (∀ a, (k0_off278 v1665) a + S1x1x64x4096.size a ≤ S32x2x64x4096.size a) ∧
  (∀ (hinb : ∀ a, (k0_off278 v1665) a + S1x1x64x4096.size a ≤ S32x2x64x4096.size a), (Rect.unit (s := S32x2x64x4096) (k0_off278 v1665) S1x1x64x4096.size hinb).WholeWords (EltTy.packing .bf16)) ∧
  (∀ a, (k0_off457 v1665) a + S1x1x64x4096.size a ≤ S32x2x64x4096.size a) ∧
  (∀ (hinb : ∀ a, (k0_off457 v1665) a + S1x1x64x4096.size a ≤ S32x2x64x4096.size a), (Rect.unit (s := S32x2x64x4096) (k0_off457 v1665) S1x1x64x4096.size hinb).WholeWords (EltTy.packing .bf16))
theorem k0_off256_inb : ∀ (v1665 : BitVec 32) (k0_hw133 : k0_chk133 v1665), ∀ a, (k0_off256 v1665) a + S1x1x64x4096.size a ≤ S32x2x64x4096.size a := fun v1665 k0_hw133 => k0_hw133.1
theorem k0_off256_wordsbf16 : ∀ (v1665 : BitVec 32) (k0_hw133 : k0_chk133 v1665), (Rect.unit (s := S32x2x64x4096) (k0_off256 v1665) S1x1x64x4096.size (k0_off256_inb v1665 k0_hw133)).WholeWords (EltTy.packing .bf16) := fun v1665 k0_hw133 => k0_hw133.2.1 (k0_off256_inb v1665 k0_hw133)
theorem k0_off278_inb : ∀ (v1665 : BitVec 32) (k0_hw133 : k0_chk133 v1665), ∀ a, (k0_off278 v1665) a + S1x1x64x4096.size a ≤ S32x2x64x4096.size a := fun v1665 k0_hw133 => k0_hw133.2.2.1
theorem k0_off278_wordsbf16 : ∀ (v1665 : BitVec 32) (k0_hw133 : k0_chk133 v1665), (Rect.unit (s := S32x2x64x4096) (k0_off278 v1665) S1x1x64x4096.size (k0_off278_inb v1665 k0_hw133)).WholeWords (EltTy.packing .bf16) := fun v1665 k0_hw133 => k0_hw133.2.2.2.1 (k0_off278_inb v1665 k0_hw133)
theorem k0_off457_inb : ∀ (v1665 : BitVec 32) (k0_hw133 : k0_chk133 v1665), ∀ a, (k0_off457 v1665) a + S1x1x64x4096.size a ≤ S32x2x64x4096.size a := fun v1665 k0_hw133 => k0_hw133.2.2.2.2.1
theorem k0_off457_wordsbf16 : ∀ (v1665 : BitVec 32) (k0_hw133 : k0_chk133 v1665), (Rect.unit (s := S32x2x64x4096) (k0_off457 v1665) S1x1x64x4096.size (k0_off457_inb v1665 k0_hw133)).WholeWords (EltTy.packing .bf16) := fun v1665 k0_hw133 => k0_hw133.2.2.2.2.2 (k0_off457_inb v1665 k0_hw133)

def k0_chk134 (v1664 : BitVec 32) : Prop :=
  (∀ a, (k0_off257 v1664) a + S1x1x64x4096.size a ≤ S32x2x64x4096.size a) ∧
  (∀ (hinb : ∀ a, (k0_off257 v1664) a + S1x1x64x4096.size a ≤ S32x2x64x4096.size a), (Rect.unit (s := S32x2x64x4096) (k0_off257 v1664) S1x1x64x4096.size hinb).WholeWords (EltTy.packing .bf16)) ∧
  (∀ a, (k0_off279 v1664) a + S1x1x64x4096.size a ≤ S32x2x64x4096.size a) ∧
  (∀ (hinb : ∀ a, (k0_off279 v1664) a + S1x1x64x4096.size a ≤ S32x2x64x4096.size a), (Rect.unit (s := S32x2x64x4096) (k0_off279 v1664) S1x1x64x4096.size hinb).WholeWords (EltTy.packing .bf16)) ∧
  (∀ a, (k0_off456 v1664) a + S1x1x64x4096.size a ≤ S32x2x64x4096.size a) ∧
  (∀ (hinb : ∀ a, (k0_off456 v1664) a + S1x1x64x4096.size a ≤ S32x2x64x4096.size a), (Rect.unit (s := S32x2x64x4096) (k0_off456 v1664) S1x1x64x4096.size hinb).WholeWords (EltTy.packing .bf16))
theorem k0_off257_inb : ∀ (v1664 : BitVec 32) (k0_hw134 : k0_chk134 v1664), ∀ a, (k0_off257 v1664) a + S1x1x64x4096.size a ≤ S32x2x64x4096.size a := fun v1664 k0_hw134 => k0_hw134.1
theorem k0_off257_wordsbf16 : ∀ (v1664 : BitVec 32) (k0_hw134 : k0_chk134 v1664), (Rect.unit (s := S32x2x64x4096) (k0_off257 v1664) S1x1x64x4096.size (k0_off257_inb v1664 k0_hw134)).WholeWords (EltTy.packing .bf16) := fun v1664 k0_hw134 => k0_hw134.2.1 (k0_off257_inb v1664 k0_hw134)
theorem k0_off279_inb : ∀ (v1664 : BitVec 32) (k0_hw134 : k0_chk134 v1664), ∀ a, (k0_off279 v1664) a + S1x1x64x4096.size a ≤ S32x2x64x4096.size a := fun v1664 k0_hw134 => k0_hw134.2.2.1
theorem k0_off279_wordsbf16 : ∀ (v1664 : BitVec 32) (k0_hw134 : k0_chk134 v1664), (Rect.unit (s := S32x2x64x4096) (k0_off279 v1664) S1x1x64x4096.size (k0_off279_inb v1664 k0_hw134)).WholeWords (EltTy.packing .bf16) := fun v1664 k0_hw134 => k0_hw134.2.2.2.1 (k0_off279_inb v1664 k0_hw134)
theorem k0_off456_inb : ∀ (v1664 : BitVec 32) (k0_hw134 : k0_chk134 v1664), ∀ a, (k0_off456 v1664) a + S1x1x64x4096.size a ≤ S32x2x64x4096.size a := fun v1664 k0_hw134 => k0_hw134.2.2.2.2.1
theorem k0_off456_wordsbf16 : ∀ (v1664 : BitVec 32) (k0_hw134 : k0_chk134 v1664), (Rect.unit (s := S32x2x64x4096) (k0_off456 v1664) S1x1x64x4096.size (k0_off456_inb v1664 k0_hw134)).WholeWords (EltTy.packing .bf16) := fun v1664 k0_hw134 => k0_hw134.2.2.2.2.2 (k0_off456_inb v1664 k0_hw134)

def k0_off458 (v1702 : BitVec 32) : Fin 4 → Nat :=
  let c1_i32_3595 : BitVec 32 := 1#32
  let c0_i32_3601 : BitVec 32 := 0#32
  let c0_i32_3602 : BitVec 32 := 0#32
  ![v1702.toNat, 1, 0, 0]
def k0_off459 (v1703 : BitVec 32) : Fin 4 → Nat :=
  let c1_i32_3594 : BitVec 32 := 1#32
  let c0_i32_3603 : BitVec 32 := 0#32
  let c0_i32_3604 : BitVec 32 := 0#32
  ![v1703.toNat, 1, 0, 0]

def k0_chk136 (v1703 : BitVec 32) : Prop :=
  (∀ a, (k0_off262 v1703) a + S1x1x64x4096.size a ≤ S32x2x64x4096.size a) ∧
  (∀ (hinb : ∀ a, (k0_off262 v1703) a + S1x1x64x4096.size a ≤ S32x2x64x4096.size a), (Rect.unit (s := S32x2x64x4096) (k0_off262 v1703) S1x1x64x4096.size hinb).WholeWords (EltTy.packing .bf16)) ∧
  (∀ a, (k0_off284 v1703) a + S1x1x64x4096.size a ≤ S32x2x64x4096.size a) ∧
  (∀ (hinb : ∀ a, (k0_off284 v1703) a + S1x1x64x4096.size a ≤ S32x2x64x4096.size a), (Rect.unit (s := S32x2x64x4096) (k0_off284 v1703) S1x1x64x4096.size hinb).WholeWords (EltTy.packing .bf16)) ∧
  (∀ a, (k0_off459 v1703) a + S1x1x64x4096.size a ≤ S32x2x64x4096.size a) ∧
  (∀ (hinb : ∀ a, (k0_off459 v1703) a + S1x1x64x4096.size a ≤ S32x2x64x4096.size a), (Rect.unit (s := S32x2x64x4096) (k0_off459 v1703) S1x1x64x4096.size hinb).WholeWords (EltTy.packing .bf16))
theorem k0_off262_inb : ∀ (v1703 : BitVec 32) (k0_hw136 : k0_chk136 v1703), ∀ a, (k0_off262 v1703) a + S1x1x64x4096.size a ≤ S32x2x64x4096.size a := fun v1703 k0_hw136 => k0_hw136.1
theorem k0_off262_wordsbf16 : ∀ (v1703 : BitVec 32) (k0_hw136 : k0_chk136 v1703), (Rect.unit (s := S32x2x64x4096) (k0_off262 v1703) S1x1x64x4096.size (k0_off262_inb v1703 k0_hw136)).WholeWords (EltTy.packing .bf16) := fun v1703 k0_hw136 => k0_hw136.2.1 (k0_off262_inb v1703 k0_hw136)
theorem k0_off284_inb : ∀ (v1703 : BitVec 32) (k0_hw136 : k0_chk136 v1703), ∀ a, (k0_off284 v1703) a + S1x1x64x4096.size a ≤ S32x2x64x4096.size a := fun v1703 k0_hw136 => k0_hw136.2.2.1
theorem k0_off284_wordsbf16 : ∀ (v1703 : BitVec 32) (k0_hw136 : k0_chk136 v1703), (Rect.unit (s := S32x2x64x4096) (k0_off284 v1703) S1x1x64x4096.size (k0_off284_inb v1703 k0_hw136)).WholeWords (EltTy.packing .bf16) := fun v1703 k0_hw136 => k0_hw136.2.2.2.1 (k0_off284_inb v1703 k0_hw136)
theorem k0_off459_inb : ∀ (v1703 : BitVec 32) (k0_hw136 : k0_chk136 v1703), ∀ a, (k0_off459 v1703) a + S1x1x64x4096.size a ≤ S32x2x64x4096.size a := fun v1703 k0_hw136 => k0_hw136.2.2.2.2.1
theorem k0_off459_wordsbf16 : ∀ (v1703 : BitVec 32) (k0_hw136 : k0_chk136 v1703), (Rect.unit (s := S32x2x64x4096) (k0_off459 v1703) S1x1x64x4096.size (k0_off459_inb v1703 k0_hw136)).WholeWords (EltTy.packing .bf16) := fun v1703 k0_hw136 => k0_hw136.2.2.2.2.2 (k0_off459_inb v1703 k0_hw136)

def k0_chk137 (v1702 : BitVec 32) : Prop :=
  (∀ a, (k0_off263 v1702) a + S1x1x64x4096.size a ≤ S32x2x64x4096.size a) ∧
  (∀ (hinb : ∀ a, (k0_off263 v1702) a + S1x1x64x4096.size a ≤ S32x2x64x4096.size a), (Rect.unit (s := S32x2x64x4096) (k0_off263 v1702) S1x1x64x4096.size hinb).WholeWords (EltTy.packing .bf16)) ∧
  (∀ a, (k0_off285 v1702) a + S1x1x64x4096.size a ≤ S32x2x64x4096.size a) ∧
  (∀ (hinb : ∀ a, (k0_off285 v1702) a + S1x1x64x4096.size a ≤ S32x2x64x4096.size a), (Rect.unit (s := S32x2x64x4096) (k0_off285 v1702) S1x1x64x4096.size hinb).WholeWords (EltTy.packing .bf16)) ∧
  (∀ a, (k0_off458 v1702) a + S1x1x64x4096.size a ≤ S32x2x64x4096.size a) ∧
  (∀ (hinb : ∀ a, (k0_off458 v1702) a + S1x1x64x4096.size a ≤ S32x2x64x4096.size a), (Rect.unit (s := S32x2x64x4096) (k0_off458 v1702) S1x1x64x4096.size hinb).WholeWords (EltTy.packing .bf16))
theorem k0_off263_inb : ∀ (v1702 : BitVec 32) (k0_hw137 : k0_chk137 v1702), ∀ a, (k0_off263 v1702) a + S1x1x64x4096.size a ≤ S32x2x64x4096.size a := fun v1702 k0_hw137 => k0_hw137.1
theorem k0_off263_wordsbf16 : ∀ (v1702 : BitVec 32) (k0_hw137 : k0_chk137 v1702), (Rect.unit (s := S32x2x64x4096) (k0_off263 v1702) S1x1x64x4096.size (k0_off263_inb v1702 k0_hw137)).WholeWords (EltTy.packing .bf16) := fun v1702 k0_hw137 => k0_hw137.2.1 (k0_off263_inb v1702 k0_hw137)
theorem k0_off285_inb : ∀ (v1702 : BitVec 32) (k0_hw137 : k0_chk137 v1702), ∀ a, (k0_off285 v1702) a + S1x1x64x4096.size a ≤ S32x2x64x4096.size a := fun v1702 k0_hw137 => k0_hw137.2.2.1
theorem k0_off285_wordsbf16 : ∀ (v1702 : BitVec 32) (k0_hw137 : k0_chk137 v1702), (Rect.unit (s := S32x2x64x4096) (k0_off285 v1702) S1x1x64x4096.size (k0_off285_inb v1702 k0_hw137)).WholeWords (EltTy.packing .bf16) := fun v1702 k0_hw137 => k0_hw137.2.2.2.1 (k0_off285_inb v1702 k0_hw137)
theorem k0_off458_inb : ∀ (v1702 : BitVec 32) (k0_hw137 : k0_chk137 v1702), ∀ a, (k0_off458 v1702) a + S1x1x64x4096.size a ≤ S32x2x64x4096.size a := fun v1702 k0_hw137 => k0_hw137.2.2.2.2.1
theorem k0_off458_wordsbf16 : ∀ (v1702 : BitVec 32) (k0_hw137 : k0_chk137 v1702), (Rect.unit (s := S32x2x64x4096) (k0_off458 v1702) S1x1x64x4096.size (k0_off458_inb v1702 k0_hw137)).WholeWords (EltTy.packing .bf16) := fun v1702 k0_hw137 => k0_hw137.2.2.2.2.2 (k0_off458_inb v1702 k0_hw137)

def k0_off460 (v1740 : BitVec 32) : Fin 4 → Nat :=
  let c0_i32_3606 : BitVec 32 := 0#32
  let c0_i32_3612 : BitVec 32 := 0#32
  let c0_i32_3613 : BitVec 32 := 0#32
  ![v1740.toNat, 0, 0, 0]
def k0_off461 (v1741 : BitVec 32) : Fin 4 → Nat :=
  let c0_i32_3605 : BitVec 32 := 0#32
  let c0_i32_3614 : BitVec 32 := 0#32
  let c0_i32_3615 : BitVec 32 := 0#32
  ![v1741.toNat, 0, 0, 0]

def k0_chk139 (v1741 : BitVec 32) : Prop :=
  (∀ a, (k0_off268 v1741) a + S1x1x64x4096.size a ≤ S32x2x64x4096.size a) ∧
  (∀ (hinb : ∀ a, (k0_off268 v1741) a + S1x1x64x4096.size a ≤ S32x2x64x4096.size a), (Rect.unit (s := S32x2x64x4096) (k0_off268 v1741) S1x1x64x4096.size hinb).WholeWords (EltTy.packing .bf16)) ∧
  (∀ a, (k0_off290 v1741) a + S1x1x64x4096.size a ≤ S32x2x64x4096.size a) ∧
  (∀ (hinb : ∀ a, (k0_off290 v1741) a + S1x1x64x4096.size a ≤ S32x2x64x4096.size a), (Rect.unit (s := S32x2x64x4096) (k0_off290 v1741) S1x1x64x4096.size hinb).WholeWords (EltTy.packing .bf16)) ∧
  (∀ a, (k0_off461 v1741) a + S1x1x64x4096.size a ≤ S32x2x64x4096.size a) ∧
  (∀ (hinb : ∀ a, (k0_off461 v1741) a + S1x1x64x4096.size a ≤ S32x2x64x4096.size a), (Rect.unit (s := S32x2x64x4096) (k0_off461 v1741) S1x1x64x4096.size hinb).WholeWords (EltTy.packing .bf16))
theorem k0_off268_inb : ∀ (v1741 : BitVec 32) (k0_hw139 : k0_chk139 v1741), ∀ a, (k0_off268 v1741) a + S1x1x64x4096.size a ≤ S32x2x64x4096.size a := fun v1741 k0_hw139 => k0_hw139.1
theorem k0_off268_wordsbf16 : ∀ (v1741 : BitVec 32) (k0_hw139 : k0_chk139 v1741), (Rect.unit (s := S32x2x64x4096) (k0_off268 v1741) S1x1x64x4096.size (k0_off268_inb v1741 k0_hw139)).WholeWords (EltTy.packing .bf16) := fun v1741 k0_hw139 => k0_hw139.2.1 (k0_off268_inb v1741 k0_hw139)
theorem k0_off290_inb : ∀ (v1741 : BitVec 32) (k0_hw139 : k0_chk139 v1741), ∀ a, (k0_off290 v1741) a + S1x1x64x4096.size a ≤ S32x2x64x4096.size a := fun v1741 k0_hw139 => k0_hw139.2.2.1
theorem k0_off290_wordsbf16 : ∀ (v1741 : BitVec 32) (k0_hw139 : k0_chk139 v1741), (Rect.unit (s := S32x2x64x4096) (k0_off290 v1741) S1x1x64x4096.size (k0_off290_inb v1741 k0_hw139)).WholeWords (EltTy.packing .bf16) := fun v1741 k0_hw139 => k0_hw139.2.2.2.1 (k0_off290_inb v1741 k0_hw139)
theorem k0_off461_inb : ∀ (v1741 : BitVec 32) (k0_hw139 : k0_chk139 v1741), ∀ a, (k0_off461 v1741) a + S1x1x64x4096.size a ≤ S32x2x64x4096.size a := fun v1741 k0_hw139 => k0_hw139.2.2.2.2.1
theorem k0_off461_wordsbf16 : ∀ (v1741 : BitVec 32) (k0_hw139 : k0_chk139 v1741), (Rect.unit (s := S32x2x64x4096) (k0_off461 v1741) S1x1x64x4096.size (k0_off461_inb v1741 k0_hw139)).WholeWords (EltTy.packing .bf16) := fun v1741 k0_hw139 => k0_hw139.2.2.2.2.2 (k0_off461_inb v1741 k0_hw139)

def k0_chk140 (v1740 : BitVec 32) : Prop :=
  (∀ a, (k0_off269 v1740) a + S1x1x64x4096.size a ≤ S32x2x64x4096.size a) ∧
  (∀ (hinb : ∀ a, (k0_off269 v1740) a + S1x1x64x4096.size a ≤ S32x2x64x4096.size a), (Rect.unit (s := S32x2x64x4096) (k0_off269 v1740) S1x1x64x4096.size hinb).WholeWords (EltTy.packing .bf16)) ∧
  (∀ a, (k0_off291 v1740) a + S1x1x64x4096.size a ≤ S32x2x64x4096.size a) ∧
  (∀ (hinb : ∀ a, (k0_off291 v1740) a + S1x1x64x4096.size a ≤ S32x2x64x4096.size a), (Rect.unit (s := S32x2x64x4096) (k0_off291 v1740) S1x1x64x4096.size hinb).WholeWords (EltTy.packing .bf16)) ∧
  (∀ a, (k0_off460 v1740) a + S1x1x64x4096.size a ≤ S32x2x64x4096.size a) ∧
  (∀ (hinb : ∀ a, (k0_off460 v1740) a + S1x1x64x4096.size a ≤ S32x2x64x4096.size a), (Rect.unit (s := S32x2x64x4096) (k0_off460 v1740) S1x1x64x4096.size hinb).WholeWords (EltTy.packing .bf16))
theorem k0_off269_inb : ∀ (v1740 : BitVec 32) (k0_hw140 : k0_chk140 v1740), ∀ a, (k0_off269 v1740) a + S1x1x64x4096.size a ≤ S32x2x64x4096.size a := fun v1740 k0_hw140 => k0_hw140.1
theorem k0_off269_wordsbf16 : ∀ (v1740 : BitVec 32) (k0_hw140 : k0_chk140 v1740), (Rect.unit (s := S32x2x64x4096) (k0_off269 v1740) S1x1x64x4096.size (k0_off269_inb v1740 k0_hw140)).WholeWords (EltTy.packing .bf16) := fun v1740 k0_hw140 => k0_hw140.2.1 (k0_off269_inb v1740 k0_hw140)
theorem k0_off291_inb : ∀ (v1740 : BitVec 32) (k0_hw140 : k0_chk140 v1740), ∀ a, (k0_off291 v1740) a + S1x1x64x4096.size a ≤ S32x2x64x4096.size a := fun v1740 k0_hw140 => k0_hw140.2.2.1
theorem k0_off291_wordsbf16 : ∀ (v1740 : BitVec 32) (k0_hw140 : k0_chk140 v1740), (Rect.unit (s := S32x2x64x4096) (k0_off291 v1740) S1x1x64x4096.size (k0_off291_inb v1740 k0_hw140)).WholeWords (EltTy.packing .bf16) := fun v1740 k0_hw140 => k0_hw140.2.2.2.1 (k0_off291_inb v1740 k0_hw140)
theorem k0_off460_inb : ∀ (v1740 : BitVec 32) (k0_hw140 : k0_chk140 v1740), ∀ a, (k0_off460 v1740) a + S1x1x64x4096.size a ≤ S32x2x64x4096.size a := fun v1740 k0_hw140 => k0_hw140.2.2.2.2.1
theorem k0_off460_wordsbf16 : ∀ (v1740 : BitVec 32) (k0_hw140 : k0_chk140 v1740), (Rect.unit (s := S32x2x64x4096) (k0_off460 v1740) S1x1x64x4096.size (k0_off460_inb v1740 k0_hw140)).WholeWords (EltTy.packing .bf16) := fun v1740 k0_hw140 => k0_hw140.2.2.2.2.2 (k0_off460_inb v1740 k0_hw140)

def k0_off462 (v1778 : BitVec 32) : Fin 4 → Nat :=
  let c1_i32_3617 : BitVec 32 := 1#32
  let c0_i32_3623 : BitVec 32 := 0#32
  let c0_i32_3624 : BitVec 32 := 0#32
  ![v1778.toNat, 1, 0, 0]
def k0_off463 (v1779 : BitVec 32) : Fin 4 → Nat :=
  let c1_i32_3616 : BitVec 32 := 1#32
  let c0_i32_3625 : BitVec 32 := 0#32
  let c0_i32_3626 : BitVec 32 := 0#32
  ![v1779.toNat, 1, 0, 0]

def k0_chk142 (v1779 : BitVec 32) : Prop :=
  (∀ a, (k0_off274 v1779) a + S1x1x64x4096.size a ≤ S32x2x64x4096.size a) ∧
  (∀ (hinb : ∀ a, (k0_off274 v1779) a + S1x1x64x4096.size a ≤ S32x2x64x4096.size a), (Rect.unit (s := S32x2x64x4096) (k0_off274 v1779) S1x1x64x4096.size hinb).WholeWords (EltTy.packing .bf16)) ∧
  (∀ a, (k0_off296 v1779) a + S1x1x64x4096.size a ≤ S32x2x64x4096.size a) ∧
  (∀ (hinb : ∀ a, (k0_off296 v1779) a + S1x1x64x4096.size a ≤ S32x2x64x4096.size a), (Rect.unit (s := S32x2x64x4096) (k0_off296 v1779) S1x1x64x4096.size hinb).WholeWords (EltTy.packing .bf16)) ∧
  (∀ a, (k0_off463 v1779) a + S1x1x64x4096.size a ≤ S32x2x64x4096.size a) ∧
  (∀ (hinb : ∀ a, (k0_off463 v1779) a + S1x1x64x4096.size a ≤ S32x2x64x4096.size a), (Rect.unit (s := S32x2x64x4096) (k0_off463 v1779) S1x1x64x4096.size hinb).WholeWords (EltTy.packing .bf16))
theorem k0_off274_inb : ∀ (v1779 : BitVec 32) (k0_hw142 : k0_chk142 v1779), ∀ a, (k0_off274 v1779) a + S1x1x64x4096.size a ≤ S32x2x64x4096.size a := fun v1779 k0_hw142 => k0_hw142.1
theorem k0_off274_wordsbf16 : ∀ (v1779 : BitVec 32) (k0_hw142 : k0_chk142 v1779), (Rect.unit (s := S32x2x64x4096) (k0_off274 v1779) S1x1x64x4096.size (k0_off274_inb v1779 k0_hw142)).WholeWords (EltTy.packing .bf16) := fun v1779 k0_hw142 => k0_hw142.2.1 (k0_off274_inb v1779 k0_hw142)
theorem k0_off296_inb : ∀ (v1779 : BitVec 32) (k0_hw142 : k0_chk142 v1779), ∀ a, (k0_off296 v1779) a + S1x1x64x4096.size a ≤ S32x2x64x4096.size a := fun v1779 k0_hw142 => k0_hw142.2.2.1
theorem k0_off296_wordsbf16 : ∀ (v1779 : BitVec 32) (k0_hw142 : k0_chk142 v1779), (Rect.unit (s := S32x2x64x4096) (k0_off296 v1779) S1x1x64x4096.size (k0_off296_inb v1779 k0_hw142)).WholeWords (EltTy.packing .bf16) := fun v1779 k0_hw142 => k0_hw142.2.2.2.1 (k0_off296_inb v1779 k0_hw142)
theorem k0_off463_inb : ∀ (v1779 : BitVec 32) (k0_hw142 : k0_chk142 v1779), ∀ a, (k0_off463 v1779) a + S1x1x64x4096.size a ≤ S32x2x64x4096.size a := fun v1779 k0_hw142 => k0_hw142.2.2.2.2.1
theorem k0_off463_wordsbf16 : ∀ (v1779 : BitVec 32) (k0_hw142 : k0_chk142 v1779), (Rect.unit (s := S32x2x64x4096) (k0_off463 v1779) S1x1x64x4096.size (k0_off463_inb v1779 k0_hw142)).WholeWords (EltTy.packing .bf16) := fun v1779 k0_hw142 => k0_hw142.2.2.2.2.2 (k0_off463_inb v1779 k0_hw142)

def k0_chk143 (v1778 : BitVec 32) : Prop :=
  (∀ a, (k0_off275 v1778) a + S1x1x64x4096.size a ≤ S32x2x64x4096.size a) ∧
  (∀ (hinb : ∀ a, (k0_off275 v1778) a + S1x1x64x4096.size a ≤ S32x2x64x4096.size a), (Rect.unit (s := S32x2x64x4096) (k0_off275 v1778) S1x1x64x4096.size hinb).WholeWords (EltTy.packing .bf16)) ∧
  (∀ a, (k0_off297 v1778) a + S1x1x64x4096.size a ≤ S32x2x64x4096.size a) ∧
  (∀ (hinb : ∀ a, (k0_off297 v1778) a + S1x1x64x4096.size a ≤ S32x2x64x4096.size a), (Rect.unit (s := S32x2x64x4096) (k0_off297 v1778) S1x1x64x4096.size hinb).WholeWords (EltTy.packing .bf16)) ∧
  (∀ a, (k0_off462 v1778) a + S1x1x64x4096.size a ≤ S32x2x64x4096.size a) ∧
  (∀ (hinb : ∀ a, (k0_off462 v1778) a + S1x1x64x4096.size a ≤ S32x2x64x4096.size a), (Rect.unit (s := S32x2x64x4096) (k0_off462 v1778) S1x1x64x4096.size hinb).WholeWords (EltTy.packing .bf16))
theorem k0_off275_inb : ∀ (v1778 : BitVec 32) (k0_hw143 : k0_chk143 v1778), ∀ a, (k0_off275 v1778) a + S1x1x64x4096.size a ≤ S32x2x64x4096.size a := fun v1778 k0_hw143 => k0_hw143.1
theorem k0_off275_wordsbf16 : ∀ (v1778 : BitVec 32) (k0_hw143 : k0_chk143 v1778), (Rect.unit (s := S32x2x64x4096) (k0_off275 v1778) S1x1x64x4096.size (k0_off275_inb v1778 k0_hw143)).WholeWords (EltTy.packing .bf16) := fun v1778 k0_hw143 => k0_hw143.2.1 (k0_off275_inb v1778 k0_hw143)
theorem k0_off297_inb : ∀ (v1778 : BitVec 32) (k0_hw143 : k0_chk143 v1778), ∀ a, (k0_off297 v1778) a + S1x1x64x4096.size a ≤ S32x2x64x4096.size a := fun v1778 k0_hw143 => k0_hw143.2.2.1
theorem k0_off297_wordsbf16 : ∀ (v1778 : BitVec 32) (k0_hw143 : k0_chk143 v1778), (Rect.unit (s := S32x2x64x4096) (k0_off297 v1778) S1x1x64x4096.size (k0_off297_inb v1778 k0_hw143)).WholeWords (EltTy.packing .bf16) := fun v1778 k0_hw143 => k0_hw143.2.2.2.1 (k0_off297_inb v1778 k0_hw143)
theorem k0_off462_inb : ∀ (v1778 : BitVec 32) (k0_hw143 : k0_chk143 v1778), ∀ a, (k0_off462 v1778) a + S1x1x64x4096.size a ≤ S32x2x64x4096.size a := fun v1778 k0_hw143 => k0_hw143.2.2.2.2.1
theorem k0_off462_wordsbf16 : ∀ (v1778 : BitVec 32) (k0_hw143 : k0_chk143 v1778), (Rect.unit (s := S32x2x64x4096) (k0_off462 v1778) S1x1x64x4096.size (k0_off462_inb v1778 k0_hw143)).WholeWords (EltTy.packing .bf16) := fun v1778 k0_hw143 => k0_hw143.2.2.2.2.2 (k0_off462_inb v1778 k0_hw143)

def k0_off464 (v1816 : BitVec 32) : Fin 4 → Nat :=
  let c0_i32_3628 : BitVec 32 := 0#32
  let c0_i32_3634 : BitVec 32 := 0#32
  let c0_i32_3635 : BitVec 32 := 0#32
  ![v1816.toNat, 0, 0, 0]
def k0_off465 (v1817 : BitVec 32) : Fin 4 → Nat :=
  let c0_i32_3627 : BitVec 32 := 0#32
  let c0_i32_3636 : BitVec 32 := 0#32
  let c0_i32_3637 : BitVec 32 := 0#32
  ![v1817.toNat, 0, 0, 0]

def k0_chk145 (v1817 : BitVec 32) : Prop :=
  (∀ a, (k0_off280 v1817) a + S1x1x64x4096.size a ≤ S32x2x64x4096.size a) ∧
  (∀ (hinb : ∀ a, (k0_off280 v1817) a + S1x1x64x4096.size a ≤ S32x2x64x4096.size a), (Rect.unit (s := S32x2x64x4096) (k0_off280 v1817) S1x1x64x4096.size hinb).WholeWords (EltTy.packing .bf16)) ∧
  (∀ a, (k0_off302 v1817) a + S1x1x64x4096.size a ≤ S32x2x64x4096.size a) ∧
  (∀ (hinb : ∀ a, (k0_off302 v1817) a + S1x1x64x4096.size a ≤ S32x2x64x4096.size a), (Rect.unit (s := S32x2x64x4096) (k0_off302 v1817) S1x1x64x4096.size hinb).WholeWords (EltTy.packing .bf16)) ∧
  (∀ a, (k0_off465 v1817) a + S1x1x64x4096.size a ≤ S32x2x64x4096.size a) ∧
  (∀ (hinb : ∀ a, (k0_off465 v1817) a + S1x1x64x4096.size a ≤ S32x2x64x4096.size a), (Rect.unit (s := S32x2x64x4096) (k0_off465 v1817) S1x1x64x4096.size hinb).WholeWords (EltTy.packing .bf16))
theorem k0_off280_inb : ∀ (v1817 : BitVec 32) (k0_hw145 : k0_chk145 v1817), ∀ a, (k0_off280 v1817) a + S1x1x64x4096.size a ≤ S32x2x64x4096.size a := fun v1817 k0_hw145 => k0_hw145.1
theorem k0_off280_wordsbf16 : ∀ (v1817 : BitVec 32) (k0_hw145 : k0_chk145 v1817), (Rect.unit (s := S32x2x64x4096) (k0_off280 v1817) S1x1x64x4096.size (k0_off280_inb v1817 k0_hw145)).WholeWords (EltTy.packing .bf16) := fun v1817 k0_hw145 => k0_hw145.2.1 (k0_off280_inb v1817 k0_hw145)
theorem k0_off302_inb : ∀ (v1817 : BitVec 32) (k0_hw145 : k0_chk145 v1817), ∀ a, (k0_off302 v1817) a + S1x1x64x4096.size a ≤ S32x2x64x4096.size a := fun v1817 k0_hw145 => k0_hw145.2.2.1
theorem k0_off302_wordsbf16 : ∀ (v1817 : BitVec 32) (k0_hw145 : k0_chk145 v1817), (Rect.unit (s := S32x2x64x4096) (k0_off302 v1817) S1x1x64x4096.size (k0_off302_inb v1817 k0_hw145)).WholeWords (EltTy.packing .bf16) := fun v1817 k0_hw145 => k0_hw145.2.2.2.1 (k0_off302_inb v1817 k0_hw145)
theorem k0_off465_inb : ∀ (v1817 : BitVec 32) (k0_hw145 : k0_chk145 v1817), ∀ a, (k0_off465 v1817) a + S1x1x64x4096.size a ≤ S32x2x64x4096.size a := fun v1817 k0_hw145 => k0_hw145.2.2.2.2.1
theorem k0_off465_wordsbf16 : ∀ (v1817 : BitVec 32) (k0_hw145 : k0_chk145 v1817), (Rect.unit (s := S32x2x64x4096) (k0_off465 v1817) S1x1x64x4096.size (k0_off465_inb v1817 k0_hw145)).WholeWords (EltTy.packing .bf16) := fun v1817 k0_hw145 => k0_hw145.2.2.2.2.2 (k0_off465_inb v1817 k0_hw145)

def k0_chk146 (v1816 : BitVec 32) : Prop :=
  (∀ a, (k0_off281 v1816) a + S1x1x64x4096.size a ≤ S32x2x64x4096.size a) ∧
  (∀ (hinb : ∀ a, (k0_off281 v1816) a + S1x1x64x4096.size a ≤ S32x2x64x4096.size a), (Rect.unit (s := S32x2x64x4096) (k0_off281 v1816) S1x1x64x4096.size hinb).WholeWords (EltTy.packing .bf16)) ∧
  (∀ a, (k0_off303 v1816) a + S1x1x64x4096.size a ≤ S32x2x64x4096.size a) ∧
  (∀ (hinb : ∀ a, (k0_off303 v1816) a + S1x1x64x4096.size a ≤ S32x2x64x4096.size a), (Rect.unit (s := S32x2x64x4096) (k0_off303 v1816) S1x1x64x4096.size hinb).WholeWords (EltTy.packing .bf16)) ∧
  (∀ a, (k0_off464 v1816) a + S1x1x64x4096.size a ≤ S32x2x64x4096.size a) ∧
  (∀ (hinb : ∀ a, (k0_off464 v1816) a + S1x1x64x4096.size a ≤ S32x2x64x4096.size a), (Rect.unit (s := S32x2x64x4096) (k0_off464 v1816) S1x1x64x4096.size hinb).WholeWords (EltTy.packing .bf16))
theorem k0_off281_inb : ∀ (v1816 : BitVec 32) (k0_hw146 : k0_chk146 v1816), ∀ a, (k0_off281 v1816) a + S1x1x64x4096.size a ≤ S32x2x64x4096.size a := fun v1816 k0_hw146 => k0_hw146.1
theorem k0_off281_wordsbf16 : ∀ (v1816 : BitVec 32) (k0_hw146 : k0_chk146 v1816), (Rect.unit (s := S32x2x64x4096) (k0_off281 v1816) S1x1x64x4096.size (k0_off281_inb v1816 k0_hw146)).WholeWords (EltTy.packing .bf16) := fun v1816 k0_hw146 => k0_hw146.2.1 (k0_off281_inb v1816 k0_hw146)
theorem k0_off303_inb : ∀ (v1816 : BitVec 32) (k0_hw146 : k0_chk146 v1816), ∀ a, (k0_off303 v1816) a + S1x1x64x4096.size a ≤ S32x2x64x4096.size a := fun v1816 k0_hw146 => k0_hw146.2.2.1
theorem k0_off303_wordsbf16 : ∀ (v1816 : BitVec 32) (k0_hw146 : k0_chk146 v1816), (Rect.unit (s := S32x2x64x4096) (k0_off303 v1816) S1x1x64x4096.size (k0_off303_inb v1816 k0_hw146)).WholeWords (EltTy.packing .bf16) := fun v1816 k0_hw146 => k0_hw146.2.2.2.1 (k0_off303_inb v1816 k0_hw146)
theorem k0_off464_inb : ∀ (v1816 : BitVec 32) (k0_hw146 : k0_chk146 v1816), ∀ a, (k0_off464 v1816) a + S1x1x64x4096.size a ≤ S32x2x64x4096.size a := fun v1816 k0_hw146 => k0_hw146.2.2.2.2.1
theorem k0_off464_wordsbf16 : ∀ (v1816 : BitVec 32) (k0_hw146 : k0_chk146 v1816), (Rect.unit (s := S32x2x64x4096) (k0_off464 v1816) S1x1x64x4096.size (k0_off464_inb v1816 k0_hw146)).WholeWords (EltTy.packing .bf16) := fun v1816 k0_hw146 => k0_hw146.2.2.2.2.2 (k0_off464_inb v1816 k0_hw146)

def k0_off466 (v1854 : BitVec 32) : Fin 4 → Nat :=
  let c1_i32_3639 : BitVec 32 := 1#32
  let c0_i32_3645 : BitVec 32 := 0#32
  let c0_i32_3646 : BitVec 32 := 0#32
  ![v1854.toNat, 1, 0, 0]
def k0_off467 (v1855 : BitVec 32) : Fin 4 → Nat :=
  let c1_i32_3638 : BitVec 32 := 1#32
  let c0_i32_3647 : BitVec 32 := 0#32
  let c0_i32_3648 : BitVec 32 := 0#32
  ![v1855.toNat, 1, 0, 0]

def k0_chk148 (v1855 : BitVec 32) : Prop :=
  (∀ a, (k0_off286 v1855) a + S1x1x64x4096.size a ≤ S32x2x64x4096.size a) ∧
  (∀ (hinb : ∀ a, (k0_off286 v1855) a + S1x1x64x4096.size a ≤ S32x2x64x4096.size a), (Rect.unit (s := S32x2x64x4096) (k0_off286 v1855) S1x1x64x4096.size hinb).WholeWords (EltTy.packing .bf16)) ∧
  (∀ a, (k0_off308 v1855) a + S1x1x64x4096.size a ≤ S32x2x64x4096.size a) ∧
  (∀ (hinb : ∀ a, (k0_off308 v1855) a + S1x1x64x4096.size a ≤ S32x2x64x4096.size a), (Rect.unit (s := S32x2x64x4096) (k0_off308 v1855) S1x1x64x4096.size hinb).WholeWords (EltTy.packing .bf16)) ∧
  (∀ a, (k0_off467 v1855) a + S1x1x64x4096.size a ≤ S32x2x64x4096.size a) ∧
  (∀ (hinb : ∀ a, (k0_off467 v1855) a + S1x1x64x4096.size a ≤ S32x2x64x4096.size a), (Rect.unit (s := S32x2x64x4096) (k0_off467 v1855) S1x1x64x4096.size hinb).WholeWords (EltTy.packing .bf16))
theorem k0_off286_inb : ∀ (v1855 : BitVec 32) (k0_hw148 : k0_chk148 v1855), ∀ a, (k0_off286 v1855) a + S1x1x64x4096.size a ≤ S32x2x64x4096.size a := fun v1855 k0_hw148 => k0_hw148.1
theorem k0_off286_wordsbf16 : ∀ (v1855 : BitVec 32) (k0_hw148 : k0_chk148 v1855), (Rect.unit (s := S32x2x64x4096) (k0_off286 v1855) S1x1x64x4096.size (k0_off286_inb v1855 k0_hw148)).WholeWords (EltTy.packing .bf16) := fun v1855 k0_hw148 => k0_hw148.2.1 (k0_off286_inb v1855 k0_hw148)
theorem k0_off308_inb : ∀ (v1855 : BitVec 32) (k0_hw148 : k0_chk148 v1855), ∀ a, (k0_off308 v1855) a + S1x1x64x4096.size a ≤ S32x2x64x4096.size a := fun v1855 k0_hw148 => k0_hw148.2.2.1
theorem k0_off308_wordsbf16 : ∀ (v1855 : BitVec 32) (k0_hw148 : k0_chk148 v1855), (Rect.unit (s := S32x2x64x4096) (k0_off308 v1855) S1x1x64x4096.size (k0_off308_inb v1855 k0_hw148)).WholeWords (EltTy.packing .bf16) := fun v1855 k0_hw148 => k0_hw148.2.2.2.1 (k0_off308_inb v1855 k0_hw148)
theorem k0_off467_inb : ∀ (v1855 : BitVec 32) (k0_hw148 : k0_chk148 v1855), ∀ a, (k0_off467 v1855) a + S1x1x64x4096.size a ≤ S32x2x64x4096.size a := fun v1855 k0_hw148 => k0_hw148.2.2.2.2.1
theorem k0_off467_wordsbf16 : ∀ (v1855 : BitVec 32) (k0_hw148 : k0_chk148 v1855), (Rect.unit (s := S32x2x64x4096) (k0_off467 v1855) S1x1x64x4096.size (k0_off467_inb v1855 k0_hw148)).WholeWords (EltTy.packing .bf16) := fun v1855 k0_hw148 => k0_hw148.2.2.2.2.2 (k0_off467_inb v1855 k0_hw148)

def k0_chk149 (v1854 : BitVec 32) : Prop :=
  (∀ a, (k0_off287 v1854) a + S1x1x64x4096.size a ≤ S32x2x64x4096.size a) ∧
  (∀ (hinb : ∀ a, (k0_off287 v1854) a + S1x1x64x4096.size a ≤ S32x2x64x4096.size a), (Rect.unit (s := S32x2x64x4096) (k0_off287 v1854) S1x1x64x4096.size hinb).WholeWords (EltTy.packing .bf16)) ∧
  (∀ a, (k0_off309 v1854) a + S1x1x64x4096.size a ≤ S32x2x64x4096.size a) ∧
  (∀ (hinb : ∀ a, (k0_off309 v1854) a + S1x1x64x4096.size a ≤ S32x2x64x4096.size a), (Rect.unit (s := S32x2x64x4096) (k0_off309 v1854) S1x1x64x4096.size hinb).WholeWords (EltTy.packing .bf16)) ∧
  (∀ a, (k0_off466 v1854) a + S1x1x64x4096.size a ≤ S32x2x64x4096.size a) ∧
  (∀ (hinb : ∀ a, (k0_off466 v1854) a + S1x1x64x4096.size a ≤ S32x2x64x4096.size a), (Rect.unit (s := S32x2x64x4096) (k0_off466 v1854) S1x1x64x4096.size hinb).WholeWords (EltTy.packing .bf16))
theorem k0_off287_inb : ∀ (v1854 : BitVec 32) (k0_hw149 : k0_chk149 v1854), ∀ a, (k0_off287 v1854) a + S1x1x64x4096.size a ≤ S32x2x64x4096.size a := fun v1854 k0_hw149 => k0_hw149.1
theorem k0_off287_wordsbf16 : ∀ (v1854 : BitVec 32) (k0_hw149 : k0_chk149 v1854), (Rect.unit (s := S32x2x64x4096) (k0_off287 v1854) S1x1x64x4096.size (k0_off287_inb v1854 k0_hw149)).WholeWords (EltTy.packing .bf16) := fun v1854 k0_hw149 => k0_hw149.2.1 (k0_off287_inb v1854 k0_hw149)
theorem k0_off309_inb : ∀ (v1854 : BitVec 32) (k0_hw149 : k0_chk149 v1854), ∀ a, (k0_off309 v1854) a + S1x1x64x4096.size a ≤ S32x2x64x4096.size a := fun v1854 k0_hw149 => k0_hw149.2.2.1
theorem k0_off309_wordsbf16 : ∀ (v1854 : BitVec 32) (k0_hw149 : k0_chk149 v1854), (Rect.unit (s := S32x2x64x4096) (k0_off309 v1854) S1x1x64x4096.size (k0_off309_inb v1854 k0_hw149)).WholeWords (EltTy.packing .bf16) := fun v1854 k0_hw149 => k0_hw149.2.2.2.1 (k0_off309_inb v1854 k0_hw149)
theorem k0_off466_inb : ∀ (v1854 : BitVec 32) (k0_hw149 : k0_chk149 v1854), ∀ a, (k0_off466 v1854) a + S1x1x64x4096.size a ≤ S32x2x64x4096.size a := fun v1854 k0_hw149 => k0_hw149.2.2.2.2.1
theorem k0_off466_wordsbf16 : ∀ (v1854 : BitVec 32) (k0_hw149 : k0_chk149 v1854), (Rect.unit (s := S32x2x64x4096) (k0_off466 v1854) S1x1x64x4096.size (k0_off466_inb v1854 k0_hw149)).WholeWords (EltTy.packing .bf16) := fun v1854 k0_hw149 => k0_hw149.2.2.2.2.2 (k0_off466_inb v1854 k0_hw149)

def k0_off468 (v1892 : BitVec 32) : Fin 4 → Nat :=
  let c0_i32_3650 : BitVec 32 := 0#32
  let c0_i32_3656 : BitVec 32 := 0#32
  let c0_i32_3657 : BitVec 32 := 0#32
  ![v1892.toNat, 0, 0, 0]
def k0_off469 (v1893 : BitVec 32) : Fin 4 → Nat :=
  let c0_i32_3649 : BitVec 32 := 0#32
  let c0_i32_3658 : BitVec 32 := 0#32
  let c0_i32_3659 : BitVec 32 := 0#32
  ![v1893.toNat, 0, 0, 0]

def k0_chk151 (v1893 : BitVec 32) : Prop :=
  (∀ a, (k0_off292 v1893) a + S1x1x64x4096.size a ≤ S32x2x64x4096.size a) ∧
  (∀ (hinb : ∀ a, (k0_off292 v1893) a + S1x1x64x4096.size a ≤ S32x2x64x4096.size a), (Rect.unit (s := S32x2x64x4096) (k0_off292 v1893) S1x1x64x4096.size hinb).WholeWords (EltTy.packing .bf16)) ∧
  (∀ a, (k0_off314 v1893) a + S1x1x64x4096.size a ≤ S32x2x64x4096.size a) ∧
  (∀ (hinb : ∀ a, (k0_off314 v1893) a + S1x1x64x4096.size a ≤ S32x2x64x4096.size a), (Rect.unit (s := S32x2x64x4096) (k0_off314 v1893) S1x1x64x4096.size hinb).WholeWords (EltTy.packing .bf16)) ∧
  (∀ a, (k0_off469 v1893) a + S1x1x64x4096.size a ≤ S32x2x64x4096.size a) ∧
  (∀ (hinb : ∀ a, (k0_off469 v1893) a + S1x1x64x4096.size a ≤ S32x2x64x4096.size a), (Rect.unit (s := S32x2x64x4096) (k0_off469 v1893) S1x1x64x4096.size hinb).WholeWords (EltTy.packing .bf16))
theorem k0_off292_inb : ∀ (v1893 : BitVec 32) (k0_hw151 : k0_chk151 v1893), ∀ a, (k0_off292 v1893) a + S1x1x64x4096.size a ≤ S32x2x64x4096.size a := fun v1893 k0_hw151 => k0_hw151.1
theorem k0_off292_wordsbf16 : ∀ (v1893 : BitVec 32) (k0_hw151 : k0_chk151 v1893), (Rect.unit (s := S32x2x64x4096) (k0_off292 v1893) S1x1x64x4096.size (k0_off292_inb v1893 k0_hw151)).WholeWords (EltTy.packing .bf16) := fun v1893 k0_hw151 => k0_hw151.2.1 (k0_off292_inb v1893 k0_hw151)
theorem k0_off314_inb : ∀ (v1893 : BitVec 32) (k0_hw151 : k0_chk151 v1893), ∀ a, (k0_off314 v1893) a + S1x1x64x4096.size a ≤ S32x2x64x4096.size a := fun v1893 k0_hw151 => k0_hw151.2.2.1
theorem k0_off314_wordsbf16 : ∀ (v1893 : BitVec 32) (k0_hw151 : k0_chk151 v1893), (Rect.unit (s := S32x2x64x4096) (k0_off314 v1893) S1x1x64x4096.size (k0_off314_inb v1893 k0_hw151)).WholeWords (EltTy.packing .bf16) := fun v1893 k0_hw151 => k0_hw151.2.2.2.1 (k0_off314_inb v1893 k0_hw151)
theorem k0_off469_inb : ∀ (v1893 : BitVec 32) (k0_hw151 : k0_chk151 v1893), ∀ a, (k0_off469 v1893) a + S1x1x64x4096.size a ≤ S32x2x64x4096.size a := fun v1893 k0_hw151 => k0_hw151.2.2.2.2.1
theorem k0_off469_wordsbf16 : ∀ (v1893 : BitVec 32) (k0_hw151 : k0_chk151 v1893), (Rect.unit (s := S32x2x64x4096) (k0_off469 v1893) S1x1x64x4096.size (k0_off469_inb v1893 k0_hw151)).WholeWords (EltTy.packing .bf16) := fun v1893 k0_hw151 => k0_hw151.2.2.2.2.2 (k0_off469_inb v1893 k0_hw151)

def k0_chk152 (v1892 : BitVec 32) : Prop :=
  (∀ a, (k0_off293 v1892) a + S1x1x64x4096.size a ≤ S32x2x64x4096.size a) ∧
  (∀ (hinb : ∀ a, (k0_off293 v1892) a + S1x1x64x4096.size a ≤ S32x2x64x4096.size a), (Rect.unit (s := S32x2x64x4096) (k0_off293 v1892) S1x1x64x4096.size hinb).WholeWords (EltTy.packing .bf16)) ∧
  (∀ a, (k0_off315 v1892) a + S1x1x64x4096.size a ≤ S32x2x64x4096.size a) ∧
  (∀ (hinb : ∀ a, (k0_off315 v1892) a + S1x1x64x4096.size a ≤ S32x2x64x4096.size a), (Rect.unit (s := S32x2x64x4096) (k0_off315 v1892) S1x1x64x4096.size hinb).WholeWords (EltTy.packing .bf16)) ∧
  (∀ a, (k0_off468 v1892) a + S1x1x64x4096.size a ≤ S32x2x64x4096.size a) ∧
  (∀ (hinb : ∀ a, (k0_off468 v1892) a + S1x1x64x4096.size a ≤ S32x2x64x4096.size a), (Rect.unit (s := S32x2x64x4096) (k0_off468 v1892) S1x1x64x4096.size hinb).WholeWords (EltTy.packing .bf16))
theorem k0_off293_inb : ∀ (v1892 : BitVec 32) (k0_hw152 : k0_chk152 v1892), ∀ a, (k0_off293 v1892) a + S1x1x64x4096.size a ≤ S32x2x64x4096.size a := fun v1892 k0_hw152 => k0_hw152.1
theorem k0_off293_wordsbf16 : ∀ (v1892 : BitVec 32) (k0_hw152 : k0_chk152 v1892), (Rect.unit (s := S32x2x64x4096) (k0_off293 v1892) S1x1x64x4096.size (k0_off293_inb v1892 k0_hw152)).WholeWords (EltTy.packing .bf16) := fun v1892 k0_hw152 => k0_hw152.2.1 (k0_off293_inb v1892 k0_hw152)
theorem k0_off315_inb : ∀ (v1892 : BitVec 32) (k0_hw152 : k0_chk152 v1892), ∀ a, (k0_off315 v1892) a + S1x1x64x4096.size a ≤ S32x2x64x4096.size a := fun v1892 k0_hw152 => k0_hw152.2.2.1
theorem k0_off315_wordsbf16 : ∀ (v1892 : BitVec 32) (k0_hw152 : k0_chk152 v1892), (Rect.unit (s := S32x2x64x4096) (k0_off315 v1892) S1x1x64x4096.size (k0_off315_inb v1892 k0_hw152)).WholeWords (EltTy.packing .bf16) := fun v1892 k0_hw152 => k0_hw152.2.2.2.1 (k0_off315_inb v1892 k0_hw152)
theorem k0_off468_inb : ∀ (v1892 : BitVec 32) (k0_hw152 : k0_chk152 v1892), ∀ a, (k0_off468 v1892) a + S1x1x64x4096.size a ≤ S32x2x64x4096.size a := fun v1892 k0_hw152 => k0_hw152.2.2.2.2.1
theorem k0_off468_wordsbf16 : ∀ (v1892 : BitVec 32) (k0_hw152 : k0_chk152 v1892), (Rect.unit (s := S32x2x64x4096) (k0_off468 v1892) S1x1x64x4096.size (k0_off468_inb v1892 k0_hw152)).WholeWords (EltTy.packing .bf16) := fun v1892 k0_hw152 => k0_hw152.2.2.2.2.2 (k0_off468_inb v1892 k0_hw152)

def k0_off470 (v1930 : BitVec 32) : Fin 4 → Nat :=
  let c1_i32_3661 : BitVec 32 := 1#32
  let c0_i32_3667 : BitVec 32 := 0#32
  let c0_i32_3668 : BitVec 32 := 0#32
  ![v1930.toNat, 1, 0, 0]
def k0_off471 (v1931 : BitVec 32) : Fin 4 → Nat :=
  let c1_i32_3660 : BitVec 32 := 1#32
  let c0_i32_3669 : BitVec 32 := 0#32
  let c0_i32_3670 : BitVec 32 := 0#32
  ![v1931.toNat, 1, 0, 0]

def k0_chk154 (v1931 : BitVec 32) : Prop :=
  (∀ a, (k0_off298 v1931) a + S1x1x64x4096.size a ≤ S32x2x64x4096.size a) ∧
  (∀ (hinb : ∀ a, (k0_off298 v1931) a + S1x1x64x4096.size a ≤ S32x2x64x4096.size a), (Rect.unit (s := S32x2x64x4096) (k0_off298 v1931) S1x1x64x4096.size hinb).WholeWords (EltTy.packing .bf16)) ∧
  (∀ a, (k0_off320 v1931) a + S1x1x64x4096.size a ≤ S32x2x64x4096.size a) ∧
  (∀ (hinb : ∀ a, (k0_off320 v1931) a + S1x1x64x4096.size a ≤ S32x2x64x4096.size a), (Rect.unit (s := S32x2x64x4096) (k0_off320 v1931) S1x1x64x4096.size hinb).WholeWords (EltTy.packing .bf16)) ∧
  (∀ a, (k0_off471 v1931) a + S1x1x64x4096.size a ≤ S32x2x64x4096.size a) ∧
  (∀ (hinb : ∀ a, (k0_off471 v1931) a + S1x1x64x4096.size a ≤ S32x2x64x4096.size a), (Rect.unit (s := S32x2x64x4096) (k0_off471 v1931) S1x1x64x4096.size hinb).WholeWords (EltTy.packing .bf16))
theorem k0_off298_inb : ∀ (v1931 : BitVec 32) (k0_hw154 : k0_chk154 v1931), ∀ a, (k0_off298 v1931) a + S1x1x64x4096.size a ≤ S32x2x64x4096.size a := fun v1931 k0_hw154 => k0_hw154.1
theorem k0_off298_wordsbf16 : ∀ (v1931 : BitVec 32) (k0_hw154 : k0_chk154 v1931), (Rect.unit (s := S32x2x64x4096) (k0_off298 v1931) S1x1x64x4096.size (k0_off298_inb v1931 k0_hw154)).WholeWords (EltTy.packing .bf16) := fun v1931 k0_hw154 => k0_hw154.2.1 (k0_off298_inb v1931 k0_hw154)
theorem k0_off320_inb : ∀ (v1931 : BitVec 32) (k0_hw154 : k0_chk154 v1931), ∀ a, (k0_off320 v1931) a + S1x1x64x4096.size a ≤ S32x2x64x4096.size a := fun v1931 k0_hw154 => k0_hw154.2.2.1
theorem k0_off320_wordsbf16 : ∀ (v1931 : BitVec 32) (k0_hw154 : k0_chk154 v1931), (Rect.unit (s := S32x2x64x4096) (k0_off320 v1931) S1x1x64x4096.size (k0_off320_inb v1931 k0_hw154)).WholeWords (EltTy.packing .bf16) := fun v1931 k0_hw154 => k0_hw154.2.2.2.1 (k0_off320_inb v1931 k0_hw154)
theorem k0_off471_inb : ∀ (v1931 : BitVec 32) (k0_hw154 : k0_chk154 v1931), ∀ a, (k0_off471 v1931) a + S1x1x64x4096.size a ≤ S32x2x64x4096.size a := fun v1931 k0_hw154 => k0_hw154.2.2.2.2.1
theorem k0_off471_wordsbf16 : ∀ (v1931 : BitVec 32) (k0_hw154 : k0_chk154 v1931), (Rect.unit (s := S32x2x64x4096) (k0_off471 v1931) S1x1x64x4096.size (k0_off471_inb v1931 k0_hw154)).WholeWords (EltTy.packing .bf16) := fun v1931 k0_hw154 => k0_hw154.2.2.2.2.2 (k0_off471_inb v1931 k0_hw154)

def k0_chk155 (v1930 : BitVec 32) : Prop :=
  (∀ a, (k0_off299 v1930) a + S1x1x64x4096.size a ≤ S32x2x64x4096.size a) ∧
  (∀ (hinb : ∀ a, (k0_off299 v1930) a + S1x1x64x4096.size a ≤ S32x2x64x4096.size a), (Rect.unit (s := S32x2x64x4096) (k0_off299 v1930) S1x1x64x4096.size hinb).WholeWords (EltTy.packing .bf16)) ∧
  (∀ a, (k0_off321 v1930) a + S1x1x64x4096.size a ≤ S32x2x64x4096.size a) ∧
  (∀ (hinb : ∀ a, (k0_off321 v1930) a + S1x1x64x4096.size a ≤ S32x2x64x4096.size a), (Rect.unit (s := S32x2x64x4096) (k0_off321 v1930) S1x1x64x4096.size hinb).WholeWords (EltTy.packing .bf16)) ∧
  (∀ a, (k0_off470 v1930) a + S1x1x64x4096.size a ≤ S32x2x64x4096.size a) ∧
  (∀ (hinb : ∀ a, (k0_off470 v1930) a + S1x1x64x4096.size a ≤ S32x2x64x4096.size a), (Rect.unit (s := S32x2x64x4096) (k0_off470 v1930) S1x1x64x4096.size hinb).WholeWords (EltTy.packing .bf16))
theorem k0_off299_inb : ∀ (v1930 : BitVec 32) (k0_hw155 : k0_chk155 v1930), ∀ a, (k0_off299 v1930) a + S1x1x64x4096.size a ≤ S32x2x64x4096.size a := fun v1930 k0_hw155 => k0_hw155.1
theorem k0_off299_wordsbf16 : ∀ (v1930 : BitVec 32) (k0_hw155 : k0_chk155 v1930), (Rect.unit (s := S32x2x64x4096) (k0_off299 v1930) S1x1x64x4096.size (k0_off299_inb v1930 k0_hw155)).WholeWords (EltTy.packing .bf16) := fun v1930 k0_hw155 => k0_hw155.2.1 (k0_off299_inb v1930 k0_hw155)
theorem k0_off321_inb : ∀ (v1930 : BitVec 32) (k0_hw155 : k0_chk155 v1930), ∀ a, (k0_off321 v1930) a + S1x1x64x4096.size a ≤ S32x2x64x4096.size a := fun v1930 k0_hw155 => k0_hw155.2.2.1
theorem k0_off321_wordsbf16 : ∀ (v1930 : BitVec 32) (k0_hw155 : k0_chk155 v1930), (Rect.unit (s := S32x2x64x4096) (k0_off321 v1930) S1x1x64x4096.size (k0_off321_inb v1930 k0_hw155)).WholeWords (EltTy.packing .bf16) := fun v1930 k0_hw155 => k0_hw155.2.2.2.1 (k0_off321_inb v1930 k0_hw155)
theorem k0_off470_inb : ∀ (v1930 : BitVec 32) (k0_hw155 : k0_chk155 v1930), ∀ a, (k0_off470 v1930) a + S1x1x64x4096.size a ≤ S32x2x64x4096.size a := fun v1930 k0_hw155 => k0_hw155.2.2.2.2.1
theorem k0_off470_wordsbf16 : ∀ (v1930 : BitVec 32) (k0_hw155 : k0_chk155 v1930), (Rect.unit (s := S32x2x64x4096) (k0_off470 v1930) S1x1x64x4096.size (k0_off470_inb v1930 k0_hw155)).WholeWords (EltTy.packing .bf16) := fun v1930 k0_hw155 => k0_hw155.2.2.2.2.2 (k0_off470_inb v1930 k0_hw155)

def k0_off472 (v1968 : BitVec 32) : Fin 4 → Nat :=
  let c0_i32_3672 : BitVec 32 := 0#32
  let c0_i32_3678 : BitVec 32 := 0#32
  let c0_i32_3679 : BitVec 32 := 0#32
  ![v1968.toNat, 0, 0, 0]
def k0_off473 (v1969 : BitVec 32) : Fin 4 → Nat :=
  let c0_i32_3671 : BitVec 32 := 0#32
  let c0_i32_3680 : BitVec 32 := 0#32
  let c0_i32_3681 : BitVec 32 := 0#32
  ![v1969.toNat, 0, 0, 0]

def k0_chk157 (v1969 : BitVec 32) : Prop :=
  (∀ a, (k0_off304 v1969) a + S1x1x64x4096.size a ≤ S32x2x64x4096.size a) ∧
  (∀ (hinb : ∀ a, (k0_off304 v1969) a + S1x1x64x4096.size a ≤ S32x2x64x4096.size a), (Rect.unit (s := S32x2x64x4096) (k0_off304 v1969) S1x1x64x4096.size hinb).WholeWords (EltTy.packing .bf16)) ∧
  (∀ a, (k0_off326 v1969) a + S1x1x64x4096.size a ≤ S32x2x64x4096.size a) ∧
  (∀ (hinb : ∀ a, (k0_off326 v1969) a + S1x1x64x4096.size a ≤ S32x2x64x4096.size a), (Rect.unit (s := S32x2x64x4096) (k0_off326 v1969) S1x1x64x4096.size hinb).WholeWords (EltTy.packing .bf16)) ∧
  (∀ a, (k0_off473 v1969) a + S1x1x64x4096.size a ≤ S32x2x64x4096.size a) ∧
  (∀ (hinb : ∀ a, (k0_off473 v1969) a + S1x1x64x4096.size a ≤ S32x2x64x4096.size a), (Rect.unit (s := S32x2x64x4096) (k0_off473 v1969) S1x1x64x4096.size hinb).WholeWords (EltTy.packing .bf16))
theorem k0_off304_inb : ∀ (v1969 : BitVec 32) (k0_hw157 : k0_chk157 v1969), ∀ a, (k0_off304 v1969) a + S1x1x64x4096.size a ≤ S32x2x64x4096.size a := fun v1969 k0_hw157 => k0_hw157.1
theorem k0_off304_wordsbf16 : ∀ (v1969 : BitVec 32) (k0_hw157 : k0_chk157 v1969), (Rect.unit (s := S32x2x64x4096) (k0_off304 v1969) S1x1x64x4096.size (k0_off304_inb v1969 k0_hw157)).WholeWords (EltTy.packing .bf16) := fun v1969 k0_hw157 => k0_hw157.2.1 (k0_off304_inb v1969 k0_hw157)
theorem k0_off326_inb : ∀ (v1969 : BitVec 32) (k0_hw157 : k0_chk157 v1969), ∀ a, (k0_off326 v1969) a + S1x1x64x4096.size a ≤ S32x2x64x4096.size a := fun v1969 k0_hw157 => k0_hw157.2.2.1
theorem k0_off326_wordsbf16 : ∀ (v1969 : BitVec 32) (k0_hw157 : k0_chk157 v1969), (Rect.unit (s := S32x2x64x4096) (k0_off326 v1969) S1x1x64x4096.size (k0_off326_inb v1969 k0_hw157)).WholeWords (EltTy.packing .bf16) := fun v1969 k0_hw157 => k0_hw157.2.2.2.1 (k0_off326_inb v1969 k0_hw157)
theorem k0_off473_inb : ∀ (v1969 : BitVec 32) (k0_hw157 : k0_chk157 v1969), ∀ a, (k0_off473 v1969) a + S1x1x64x4096.size a ≤ S32x2x64x4096.size a := fun v1969 k0_hw157 => k0_hw157.2.2.2.2.1
theorem k0_off473_wordsbf16 : ∀ (v1969 : BitVec 32) (k0_hw157 : k0_chk157 v1969), (Rect.unit (s := S32x2x64x4096) (k0_off473 v1969) S1x1x64x4096.size (k0_off473_inb v1969 k0_hw157)).WholeWords (EltTy.packing .bf16) := fun v1969 k0_hw157 => k0_hw157.2.2.2.2.2 (k0_off473_inb v1969 k0_hw157)

def k0_chk158 (v1968 : BitVec 32) : Prop :=
  (∀ a, (k0_off305 v1968) a + S1x1x64x4096.size a ≤ S32x2x64x4096.size a) ∧
  (∀ (hinb : ∀ a, (k0_off305 v1968) a + S1x1x64x4096.size a ≤ S32x2x64x4096.size a), (Rect.unit (s := S32x2x64x4096) (k0_off305 v1968) S1x1x64x4096.size hinb).WholeWords (EltTy.packing .bf16)) ∧
  (∀ a, (k0_off327 v1968) a + S1x1x64x4096.size a ≤ S32x2x64x4096.size a) ∧
  (∀ (hinb : ∀ a, (k0_off327 v1968) a + S1x1x64x4096.size a ≤ S32x2x64x4096.size a), (Rect.unit (s := S32x2x64x4096) (k0_off327 v1968) S1x1x64x4096.size hinb).WholeWords (EltTy.packing .bf16)) ∧
  (∀ a, (k0_off472 v1968) a + S1x1x64x4096.size a ≤ S32x2x64x4096.size a) ∧
  (∀ (hinb : ∀ a, (k0_off472 v1968) a + S1x1x64x4096.size a ≤ S32x2x64x4096.size a), (Rect.unit (s := S32x2x64x4096) (k0_off472 v1968) S1x1x64x4096.size hinb).WholeWords (EltTy.packing .bf16))
theorem k0_off305_inb : ∀ (v1968 : BitVec 32) (k0_hw158 : k0_chk158 v1968), ∀ a, (k0_off305 v1968) a + S1x1x64x4096.size a ≤ S32x2x64x4096.size a := fun v1968 k0_hw158 => k0_hw158.1
theorem k0_off305_wordsbf16 : ∀ (v1968 : BitVec 32) (k0_hw158 : k0_chk158 v1968), (Rect.unit (s := S32x2x64x4096) (k0_off305 v1968) S1x1x64x4096.size (k0_off305_inb v1968 k0_hw158)).WholeWords (EltTy.packing .bf16) := fun v1968 k0_hw158 => k0_hw158.2.1 (k0_off305_inb v1968 k0_hw158)
theorem k0_off327_inb : ∀ (v1968 : BitVec 32) (k0_hw158 : k0_chk158 v1968), ∀ a, (k0_off327 v1968) a + S1x1x64x4096.size a ≤ S32x2x64x4096.size a := fun v1968 k0_hw158 => k0_hw158.2.2.1
theorem k0_off327_wordsbf16 : ∀ (v1968 : BitVec 32) (k0_hw158 : k0_chk158 v1968), (Rect.unit (s := S32x2x64x4096) (k0_off327 v1968) S1x1x64x4096.size (k0_off327_inb v1968 k0_hw158)).WholeWords (EltTy.packing .bf16) := fun v1968 k0_hw158 => k0_hw158.2.2.2.1 (k0_off327_inb v1968 k0_hw158)
theorem k0_off472_inb : ∀ (v1968 : BitVec 32) (k0_hw158 : k0_chk158 v1968), ∀ a, (k0_off472 v1968) a + S1x1x64x4096.size a ≤ S32x2x64x4096.size a := fun v1968 k0_hw158 => k0_hw158.2.2.2.2.1
theorem k0_off472_wordsbf16 : ∀ (v1968 : BitVec 32) (k0_hw158 : k0_chk158 v1968), (Rect.unit (s := S32x2x64x4096) (k0_off472 v1968) S1x1x64x4096.size (k0_off472_inb v1968 k0_hw158)).WholeWords (EltTy.packing .bf16) := fun v1968 k0_hw158 => k0_hw158.2.2.2.2.2 (k0_off472_inb v1968 k0_hw158)

def k0_off474 (v2006 : BitVec 32) : Fin 4 → Nat :=
  let c1_i32_3683 : BitVec 32 := 1#32
  let c0_i32_3689 : BitVec 32 := 0#32
  let c0_i32_3690 : BitVec 32 := 0#32
  ![v2006.toNat, 1, 0, 0]
def k0_off475 (v2007 : BitVec 32) : Fin 4 → Nat :=
  let c1_i32_3682 : BitVec 32 := 1#32
  let c0_i32_3691 : BitVec 32 := 0#32
  let c0_i32_3692 : BitVec 32 := 0#32
  ![v2007.toNat, 1, 0, 0]

def k0_chk160 (v2007 : BitVec 32) : Prop :=
  (∀ a, (k0_off310 v2007) a + S1x1x64x4096.size a ≤ S32x2x64x4096.size a) ∧
  (∀ (hinb : ∀ a, (k0_off310 v2007) a + S1x1x64x4096.size a ≤ S32x2x64x4096.size a), (Rect.unit (s := S32x2x64x4096) (k0_off310 v2007) S1x1x64x4096.size hinb).WholeWords (EltTy.packing .bf16)) ∧
  (∀ a, (k0_off332 v2007) a + S1x1x64x4096.size a ≤ S32x2x64x4096.size a) ∧
  (∀ (hinb : ∀ a, (k0_off332 v2007) a + S1x1x64x4096.size a ≤ S32x2x64x4096.size a), (Rect.unit (s := S32x2x64x4096) (k0_off332 v2007) S1x1x64x4096.size hinb).WholeWords (EltTy.packing .bf16)) ∧
  (∀ a, (k0_off475 v2007) a + S1x1x64x4096.size a ≤ S32x2x64x4096.size a) ∧
  (∀ (hinb : ∀ a, (k0_off475 v2007) a + S1x1x64x4096.size a ≤ S32x2x64x4096.size a), (Rect.unit (s := S32x2x64x4096) (k0_off475 v2007) S1x1x64x4096.size hinb).WholeWords (EltTy.packing .bf16))
theorem k0_off310_inb : ∀ (v2007 : BitVec 32) (k0_hw160 : k0_chk160 v2007), ∀ a, (k0_off310 v2007) a + S1x1x64x4096.size a ≤ S32x2x64x4096.size a := fun v2007 k0_hw160 => k0_hw160.1
theorem k0_off310_wordsbf16 : ∀ (v2007 : BitVec 32) (k0_hw160 : k0_chk160 v2007), (Rect.unit (s := S32x2x64x4096) (k0_off310 v2007) S1x1x64x4096.size (k0_off310_inb v2007 k0_hw160)).WholeWords (EltTy.packing .bf16) := fun v2007 k0_hw160 => k0_hw160.2.1 (k0_off310_inb v2007 k0_hw160)
theorem k0_off332_inb : ∀ (v2007 : BitVec 32) (k0_hw160 : k0_chk160 v2007), ∀ a, (k0_off332 v2007) a + S1x1x64x4096.size a ≤ S32x2x64x4096.size a := fun v2007 k0_hw160 => k0_hw160.2.2.1
theorem k0_off332_wordsbf16 : ∀ (v2007 : BitVec 32) (k0_hw160 : k0_chk160 v2007), (Rect.unit (s := S32x2x64x4096) (k0_off332 v2007) S1x1x64x4096.size (k0_off332_inb v2007 k0_hw160)).WholeWords (EltTy.packing .bf16) := fun v2007 k0_hw160 => k0_hw160.2.2.2.1 (k0_off332_inb v2007 k0_hw160)
theorem k0_off475_inb : ∀ (v2007 : BitVec 32) (k0_hw160 : k0_chk160 v2007), ∀ a, (k0_off475 v2007) a + S1x1x64x4096.size a ≤ S32x2x64x4096.size a := fun v2007 k0_hw160 => k0_hw160.2.2.2.2.1
theorem k0_off475_wordsbf16 : ∀ (v2007 : BitVec 32) (k0_hw160 : k0_chk160 v2007), (Rect.unit (s := S32x2x64x4096) (k0_off475 v2007) S1x1x64x4096.size (k0_off475_inb v2007 k0_hw160)).WholeWords (EltTy.packing .bf16) := fun v2007 k0_hw160 => k0_hw160.2.2.2.2.2 (k0_off475_inb v2007 k0_hw160)

def k0_chk161 (v2006 : BitVec 32) : Prop :=
  (∀ a, (k0_off311 v2006) a + S1x1x64x4096.size a ≤ S32x2x64x4096.size a) ∧
  (∀ (hinb : ∀ a, (k0_off311 v2006) a + S1x1x64x4096.size a ≤ S32x2x64x4096.size a), (Rect.unit (s := S32x2x64x4096) (k0_off311 v2006) S1x1x64x4096.size hinb).WholeWords (EltTy.packing .bf16)) ∧
  (∀ a, (k0_off333 v2006) a + S1x1x64x4096.size a ≤ S32x2x64x4096.size a) ∧
  (∀ (hinb : ∀ a, (k0_off333 v2006) a + S1x1x64x4096.size a ≤ S32x2x64x4096.size a), (Rect.unit (s := S32x2x64x4096) (k0_off333 v2006) S1x1x64x4096.size hinb).WholeWords (EltTy.packing .bf16)) ∧
  (∀ a, (k0_off474 v2006) a + S1x1x64x4096.size a ≤ S32x2x64x4096.size a) ∧
  (∀ (hinb : ∀ a, (k0_off474 v2006) a + S1x1x64x4096.size a ≤ S32x2x64x4096.size a), (Rect.unit (s := S32x2x64x4096) (k0_off474 v2006) S1x1x64x4096.size hinb).WholeWords (EltTy.packing .bf16))
theorem k0_off311_inb : ∀ (v2006 : BitVec 32) (k0_hw161 : k0_chk161 v2006), ∀ a, (k0_off311 v2006) a + S1x1x64x4096.size a ≤ S32x2x64x4096.size a := fun v2006 k0_hw161 => k0_hw161.1
theorem k0_off311_wordsbf16 : ∀ (v2006 : BitVec 32) (k0_hw161 : k0_chk161 v2006), (Rect.unit (s := S32x2x64x4096) (k0_off311 v2006) S1x1x64x4096.size (k0_off311_inb v2006 k0_hw161)).WholeWords (EltTy.packing .bf16) := fun v2006 k0_hw161 => k0_hw161.2.1 (k0_off311_inb v2006 k0_hw161)
theorem k0_off333_inb : ∀ (v2006 : BitVec 32) (k0_hw161 : k0_chk161 v2006), ∀ a, (k0_off333 v2006) a + S1x1x64x4096.size a ≤ S32x2x64x4096.size a := fun v2006 k0_hw161 => k0_hw161.2.2.1
theorem k0_off333_wordsbf16 : ∀ (v2006 : BitVec 32) (k0_hw161 : k0_chk161 v2006), (Rect.unit (s := S32x2x64x4096) (k0_off333 v2006) S1x1x64x4096.size (k0_off333_inb v2006 k0_hw161)).WholeWords (EltTy.packing .bf16) := fun v2006 k0_hw161 => k0_hw161.2.2.2.1 (k0_off333_inb v2006 k0_hw161)
theorem k0_off474_inb : ∀ (v2006 : BitVec 32) (k0_hw161 : k0_chk161 v2006), ∀ a, (k0_off474 v2006) a + S1x1x64x4096.size a ≤ S32x2x64x4096.size a := fun v2006 k0_hw161 => k0_hw161.2.2.2.2.1
theorem k0_off474_wordsbf16 : ∀ (v2006 : BitVec 32) (k0_hw161 : k0_chk161 v2006), (Rect.unit (s := S32x2x64x4096) (k0_off474 v2006) S1x1x64x4096.size (k0_off474_inb v2006 k0_hw161)).WholeWords (EltTy.packing .bf16) := fun v2006 k0_hw161 => k0_hw161.2.2.2.2.2 (k0_off474_inb v2006 k0_hw161)

def k0_off476 (v2044 : BitVec 32) : Fin 4 → Nat :=
  let c0_i32_3694 : BitVec 32 := 0#32
  let c0_i32_3700 : BitVec 32 := 0#32
  let c0_i32_3701 : BitVec 32 := 0#32
  ![v2044.toNat, 0, 0, 0]
def k0_off477 (v2045 : BitVec 32) : Fin 4 → Nat :=
  let c0_i32_3693 : BitVec 32 := 0#32
  let c0_i32_3702 : BitVec 32 := 0#32
  let c0_i32_3703 : BitVec 32 := 0#32
  ![v2045.toNat, 0, 0, 0]

def k0_chk163 (v2045 : BitVec 32) : Prop :=
  (∀ a, (k0_off316 v2045) a + S1x1x64x4096.size a ≤ S32x2x64x4096.size a) ∧
  (∀ (hinb : ∀ a, (k0_off316 v2045) a + S1x1x64x4096.size a ≤ S32x2x64x4096.size a), (Rect.unit (s := S32x2x64x4096) (k0_off316 v2045) S1x1x64x4096.size hinb).WholeWords (EltTy.packing .bf16)) ∧
  (∀ a, (k0_off338 v2045) a + S1x1x64x4096.size a ≤ S32x2x64x4096.size a) ∧
  (∀ (hinb : ∀ a, (k0_off338 v2045) a + S1x1x64x4096.size a ≤ S32x2x64x4096.size a), (Rect.unit (s := S32x2x64x4096) (k0_off338 v2045) S1x1x64x4096.size hinb).WholeWords (EltTy.packing .bf16)) ∧
  (∀ a, (k0_off477 v2045) a + S1x1x64x4096.size a ≤ S32x2x64x4096.size a) ∧
  (∀ (hinb : ∀ a, (k0_off477 v2045) a + S1x1x64x4096.size a ≤ S32x2x64x4096.size a), (Rect.unit (s := S32x2x64x4096) (k0_off477 v2045) S1x1x64x4096.size hinb).WholeWords (EltTy.packing .bf16))
theorem k0_off316_inb : ∀ (v2045 : BitVec 32) (k0_hw163 : k0_chk163 v2045), ∀ a, (k0_off316 v2045) a + S1x1x64x4096.size a ≤ S32x2x64x4096.size a := fun v2045 k0_hw163 => k0_hw163.1
theorem k0_off316_wordsbf16 : ∀ (v2045 : BitVec 32) (k0_hw163 : k0_chk163 v2045), (Rect.unit (s := S32x2x64x4096) (k0_off316 v2045) S1x1x64x4096.size (k0_off316_inb v2045 k0_hw163)).WholeWords (EltTy.packing .bf16) := fun v2045 k0_hw163 => k0_hw163.2.1 (k0_off316_inb v2045 k0_hw163)
theorem k0_off338_inb : ∀ (v2045 : BitVec 32) (k0_hw163 : k0_chk163 v2045), ∀ a, (k0_off338 v2045) a + S1x1x64x4096.size a ≤ S32x2x64x4096.size a := fun v2045 k0_hw163 => k0_hw163.2.2.1
theorem k0_off338_wordsbf16 : ∀ (v2045 : BitVec 32) (k0_hw163 : k0_chk163 v2045), (Rect.unit (s := S32x2x64x4096) (k0_off338 v2045) S1x1x64x4096.size (k0_off338_inb v2045 k0_hw163)).WholeWords (EltTy.packing .bf16) := fun v2045 k0_hw163 => k0_hw163.2.2.2.1 (k0_off338_inb v2045 k0_hw163)
theorem k0_off477_inb : ∀ (v2045 : BitVec 32) (k0_hw163 : k0_chk163 v2045), ∀ a, (k0_off477 v2045) a + S1x1x64x4096.size a ≤ S32x2x64x4096.size a := fun v2045 k0_hw163 => k0_hw163.2.2.2.2.1
theorem k0_off477_wordsbf16 : ∀ (v2045 : BitVec 32) (k0_hw163 : k0_chk163 v2045), (Rect.unit (s := S32x2x64x4096) (k0_off477 v2045) S1x1x64x4096.size (k0_off477_inb v2045 k0_hw163)).WholeWords (EltTy.packing .bf16) := fun v2045 k0_hw163 => k0_hw163.2.2.2.2.2 (k0_off477_inb v2045 k0_hw163)

def k0_chk164 (v2044 : BitVec 32) : Prop :=
  (∀ a, (k0_off317 v2044) a + S1x1x64x4096.size a ≤ S32x2x64x4096.size a) ∧
  (∀ (hinb : ∀ a, (k0_off317 v2044) a + S1x1x64x4096.size a ≤ S32x2x64x4096.size a), (Rect.unit (s := S32x2x64x4096) (k0_off317 v2044) S1x1x64x4096.size hinb).WholeWords (EltTy.packing .bf16)) ∧
  (∀ a, (k0_off339 v2044) a + S1x1x64x4096.size a ≤ S32x2x64x4096.size a) ∧
  (∀ (hinb : ∀ a, (k0_off339 v2044) a + S1x1x64x4096.size a ≤ S32x2x64x4096.size a), (Rect.unit (s := S32x2x64x4096) (k0_off339 v2044) S1x1x64x4096.size hinb).WholeWords (EltTy.packing .bf16)) ∧
  (∀ a, (k0_off476 v2044) a + S1x1x64x4096.size a ≤ S32x2x64x4096.size a) ∧
  (∀ (hinb : ∀ a, (k0_off476 v2044) a + S1x1x64x4096.size a ≤ S32x2x64x4096.size a), (Rect.unit (s := S32x2x64x4096) (k0_off476 v2044) S1x1x64x4096.size hinb).WholeWords (EltTy.packing .bf16))
theorem k0_off317_inb : ∀ (v2044 : BitVec 32) (k0_hw164 : k0_chk164 v2044), ∀ a, (k0_off317 v2044) a + S1x1x64x4096.size a ≤ S32x2x64x4096.size a := fun v2044 k0_hw164 => k0_hw164.1
theorem k0_off317_wordsbf16 : ∀ (v2044 : BitVec 32) (k0_hw164 : k0_chk164 v2044), (Rect.unit (s := S32x2x64x4096) (k0_off317 v2044) S1x1x64x4096.size (k0_off317_inb v2044 k0_hw164)).WholeWords (EltTy.packing .bf16) := fun v2044 k0_hw164 => k0_hw164.2.1 (k0_off317_inb v2044 k0_hw164)
theorem k0_off339_inb : ∀ (v2044 : BitVec 32) (k0_hw164 : k0_chk164 v2044), ∀ a, (k0_off339 v2044) a + S1x1x64x4096.size a ≤ S32x2x64x4096.size a := fun v2044 k0_hw164 => k0_hw164.2.2.1
theorem k0_off339_wordsbf16 : ∀ (v2044 : BitVec 32) (k0_hw164 : k0_chk164 v2044), (Rect.unit (s := S32x2x64x4096) (k0_off339 v2044) S1x1x64x4096.size (k0_off339_inb v2044 k0_hw164)).WholeWords (EltTy.packing .bf16) := fun v2044 k0_hw164 => k0_hw164.2.2.2.1 (k0_off339_inb v2044 k0_hw164)
theorem k0_off476_inb : ∀ (v2044 : BitVec 32) (k0_hw164 : k0_chk164 v2044), ∀ a, (k0_off476 v2044) a + S1x1x64x4096.size a ≤ S32x2x64x4096.size a := fun v2044 k0_hw164 => k0_hw164.2.2.2.2.1
theorem k0_off476_wordsbf16 : ∀ (v2044 : BitVec 32) (k0_hw164 : k0_chk164 v2044), (Rect.unit (s := S32x2x64x4096) (k0_off476 v2044) S1x1x64x4096.size (k0_off476_inb v2044 k0_hw164)).WholeWords (EltTy.packing .bf16) := fun v2044 k0_hw164 => k0_hw164.2.2.2.2.2 (k0_off476_inb v2044 k0_hw164)

def k0_off478 (v2082 : BitVec 32) : Fin 4 → Nat :=
  let c1_i32_3705 : BitVec 32 := 1#32
  let c0_i32_3711 : BitVec 32 := 0#32
  let c0_i32_3712 : BitVec 32 := 0#32
  ![v2082.toNat, 1, 0, 0]
def k0_off479 (v2083 : BitVec 32) : Fin 4 → Nat :=
  let c1_i32_3704 : BitVec 32 := 1#32
  let c0_i32_3713 : BitVec 32 := 0#32
  let c0_i32_3714 : BitVec 32 := 0#32
  ![v2083.toNat, 1, 0, 0]

def k0_chk166 (v2083 : BitVec 32) : Prop :=
  (∀ a, (k0_off322 v2083) a + S1x1x64x4096.size a ≤ S32x2x64x4096.size a) ∧
  (∀ (hinb : ∀ a, (k0_off322 v2083) a + S1x1x64x4096.size a ≤ S32x2x64x4096.size a), (Rect.unit (s := S32x2x64x4096) (k0_off322 v2083) S1x1x64x4096.size hinb).WholeWords (EltTy.packing .bf16)) ∧
  (∀ a, (k0_off348 v2083) a + S1x1x64x4096.size a ≤ S32x2x64x4096.size a) ∧
  (∀ (hinb : ∀ a, (k0_off348 v2083) a + S1x1x64x4096.size a ≤ S32x2x64x4096.size a), (Rect.unit (s := S32x2x64x4096) (k0_off348 v2083) S1x1x64x4096.size hinb).WholeWords (EltTy.packing .bf16)) ∧
  (∀ a, (k0_off479 v2083) a + S1x1x64x4096.size a ≤ S32x2x64x4096.size a) ∧
  (∀ (hinb : ∀ a, (k0_off479 v2083) a + S1x1x64x4096.size a ≤ S32x2x64x4096.size a), (Rect.unit (s := S32x2x64x4096) (k0_off479 v2083) S1x1x64x4096.size hinb).WholeWords (EltTy.packing .bf16))
theorem k0_off322_inb : ∀ (v2083 : BitVec 32) (k0_hw166 : k0_chk166 v2083), ∀ a, (k0_off322 v2083) a + S1x1x64x4096.size a ≤ S32x2x64x4096.size a := fun v2083 k0_hw166 => k0_hw166.1
theorem k0_off322_wordsbf16 : ∀ (v2083 : BitVec 32) (k0_hw166 : k0_chk166 v2083), (Rect.unit (s := S32x2x64x4096) (k0_off322 v2083) S1x1x64x4096.size (k0_off322_inb v2083 k0_hw166)).WholeWords (EltTy.packing .bf16) := fun v2083 k0_hw166 => k0_hw166.2.1 (k0_off322_inb v2083 k0_hw166)
theorem k0_off348_inb : ∀ (v2083 : BitVec 32) (k0_hw166 : k0_chk166 v2083), ∀ a, (k0_off348 v2083) a + S1x1x64x4096.size a ≤ S32x2x64x4096.size a := fun v2083 k0_hw166 => k0_hw166.2.2.1
theorem k0_off348_wordsbf16 : ∀ (v2083 : BitVec 32) (k0_hw166 : k0_chk166 v2083), (Rect.unit (s := S32x2x64x4096) (k0_off348 v2083) S1x1x64x4096.size (k0_off348_inb v2083 k0_hw166)).WholeWords (EltTy.packing .bf16) := fun v2083 k0_hw166 => k0_hw166.2.2.2.1 (k0_off348_inb v2083 k0_hw166)
theorem k0_off479_inb : ∀ (v2083 : BitVec 32) (k0_hw166 : k0_chk166 v2083), ∀ a, (k0_off479 v2083) a + S1x1x64x4096.size a ≤ S32x2x64x4096.size a := fun v2083 k0_hw166 => k0_hw166.2.2.2.2.1
theorem k0_off479_wordsbf16 : ∀ (v2083 : BitVec 32) (k0_hw166 : k0_chk166 v2083), (Rect.unit (s := S32x2x64x4096) (k0_off479 v2083) S1x1x64x4096.size (k0_off479_inb v2083 k0_hw166)).WholeWords (EltTy.packing .bf16) := fun v2083 k0_hw166 => k0_hw166.2.2.2.2.2 (k0_off479_inb v2083 k0_hw166)

def k0_chk167 (v2082 : BitVec 32) : Prop :=
  (∀ a, (k0_off323 v2082) a + S1x1x64x4096.size a ≤ S32x2x64x4096.size a) ∧
  (∀ (hinb : ∀ a, (k0_off323 v2082) a + S1x1x64x4096.size a ≤ S32x2x64x4096.size a), (Rect.unit (s := S32x2x64x4096) (k0_off323 v2082) S1x1x64x4096.size hinb).WholeWords (EltTy.packing .bf16)) ∧
  (∀ a, (k0_off349 v2082) a + S1x1x64x4096.size a ≤ S32x2x64x4096.size a) ∧
  (∀ (hinb : ∀ a, (k0_off349 v2082) a + S1x1x64x4096.size a ≤ S32x2x64x4096.size a), (Rect.unit (s := S32x2x64x4096) (k0_off349 v2082) S1x1x64x4096.size hinb).WholeWords (EltTy.packing .bf16)) ∧
  (∀ a, (k0_off478 v2082) a + S1x1x64x4096.size a ≤ S32x2x64x4096.size a) ∧
  (∀ (hinb : ∀ a, (k0_off478 v2082) a + S1x1x64x4096.size a ≤ S32x2x64x4096.size a), (Rect.unit (s := S32x2x64x4096) (k0_off478 v2082) S1x1x64x4096.size hinb).WholeWords (EltTy.packing .bf16))
theorem k0_off323_inb : ∀ (v2082 : BitVec 32) (k0_hw167 : k0_chk167 v2082), ∀ a, (k0_off323 v2082) a + S1x1x64x4096.size a ≤ S32x2x64x4096.size a := fun v2082 k0_hw167 => k0_hw167.1
theorem k0_off323_wordsbf16 : ∀ (v2082 : BitVec 32) (k0_hw167 : k0_chk167 v2082), (Rect.unit (s := S32x2x64x4096) (k0_off323 v2082) S1x1x64x4096.size (k0_off323_inb v2082 k0_hw167)).WholeWords (EltTy.packing .bf16) := fun v2082 k0_hw167 => k0_hw167.2.1 (k0_off323_inb v2082 k0_hw167)
theorem k0_off349_inb : ∀ (v2082 : BitVec 32) (k0_hw167 : k0_chk167 v2082), ∀ a, (k0_off349 v2082) a + S1x1x64x4096.size a ≤ S32x2x64x4096.size a := fun v2082 k0_hw167 => k0_hw167.2.2.1
theorem k0_off349_wordsbf16 : ∀ (v2082 : BitVec 32) (k0_hw167 : k0_chk167 v2082), (Rect.unit (s := S32x2x64x4096) (k0_off349 v2082) S1x1x64x4096.size (k0_off349_inb v2082 k0_hw167)).WholeWords (EltTy.packing .bf16) := fun v2082 k0_hw167 => k0_hw167.2.2.2.1 (k0_off349_inb v2082 k0_hw167)
theorem k0_off478_inb : ∀ (v2082 : BitVec 32) (k0_hw167 : k0_chk167 v2082), ∀ a, (k0_off478 v2082) a + S1x1x64x4096.size a ≤ S32x2x64x4096.size a := fun v2082 k0_hw167 => k0_hw167.2.2.2.2.1
theorem k0_off478_wordsbf16 : ∀ (v2082 : BitVec 32) (k0_hw167 : k0_chk167 v2082), (Rect.unit (s := S32x2x64x4096) (k0_off478 v2082) S1x1x64x4096.size (k0_off478_inb v2082 k0_hw167)).WholeWords (EltTy.packing .bf16) := fun v2082 k0_hw167 => k0_hw167.2.2.2.2.2 (k0_off478_inb v2082 k0_hw167)

def k0_off480 (v2120 : BitVec 32) : Fin 4 → Nat :=
  let c0_i32_3716 : BitVec 32 := 0#32
  let c0_i32_3722 : BitVec 32 := 0#32
  let c0_i32_3723 : BitVec 32 := 0#32
  ![v2120.toNat, 0, 0, 0]
def k0_off481 (v2121 : BitVec 32) : Fin 4 → Nat :=
  let c0_i32_3715 : BitVec 32 := 0#32
  let c0_i32_3724 : BitVec 32 := 0#32
  let c0_i32_3725 : BitVec 32 := 0#32
  ![v2121.toNat, 0, 0, 0]

def k0_chk169 (v2121 : BitVec 32) : Prop :=
  (∀ a, (k0_off328 v2121) a + S1x1x64x4096.size a ≤ S32x2x64x4096.size a) ∧
  (∀ (hinb : ∀ a, (k0_off328 v2121) a + S1x1x64x4096.size a ≤ S32x2x64x4096.size a), (Rect.unit (s := S32x2x64x4096) (k0_off328 v2121) S1x1x64x4096.size hinb).WholeWords (EltTy.packing .bf16)) ∧
  (∀ a, (k0_off352 v2121) a + S1x1x64x4096.size a ≤ S32x2x64x4096.size a) ∧
  (∀ (hinb : ∀ a, (k0_off352 v2121) a + S1x1x64x4096.size a ≤ S32x2x64x4096.size a), (Rect.unit (s := S32x2x64x4096) (k0_off352 v2121) S1x1x64x4096.size hinb).WholeWords (EltTy.packing .bf16)) ∧
  (∀ a, (k0_off481 v2121) a + S1x1x64x4096.size a ≤ S32x2x64x4096.size a) ∧
  (∀ (hinb : ∀ a, (k0_off481 v2121) a + S1x1x64x4096.size a ≤ S32x2x64x4096.size a), (Rect.unit (s := S32x2x64x4096) (k0_off481 v2121) S1x1x64x4096.size hinb).WholeWords (EltTy.packing .bf16))
theorem k0_off328_inb : ∀ (v2121 : BitVec 32) (k0_hw169 : k0_chk169 v2121), ∀ a, (k0_off328 v2121) a + S1x1x64x4096.size a ≤ S32x2x64x4096.size a := fun v2121 k0_hw169 => k0_hw169.1
theorem k0_off328_wordsbf16 : ∀ (v2121 : BitVec 32) (k0_hw169 : k0_chk169 v2121), (Rect.unit (s := S32x2x64x4096) (k0_off328 v2121) S1x1x64x4096.size (k0_off328_inb v2121 k0_hw169)).WholeWords (EltTy.packing .bf16) := fun v2121 k0_hw169 => k0_hw169.2.1 (k0_off328_inb v2121 k0_hw169)
theorem k0_off352_inb : ∀ (v2121 : BitVec 32) (k0_hw169 : k0_chk169 v2121), ∀ a, (k0_off352 v2121) a + S1x1x64x4096.size a ≤ S32x2x64x4096.size a := fun v2121 k0_hw169 => k0_hw169.2.2.1
theorem k0_off352_wordsbf16 : ∀ (v2121 : BitVec 32) (k0_hw169 : k0_chk169 v2121), (Rect.unit (s := S32x2x64x4096) (k0_off352 v2121) S1x1x64x4096.size (k0_off352_inb v2121 k0_hw169)).WholeWords (EltTy.packing .bf16) := fun v2121 k0_hw169 => k0_hw169.2.2.2.1 (k0_off352_inb v2121 k0_hw169)
theorem k0_off481_inb : ∀ (v2121 : BitVec 32) (k0_hw169 : k0_chk169 v2121), ∀ a, (k0_off481 v2121) a + S1x1x64x4096.size a ≤ S32x2x64x4096.size a := fun v2121 k0_hw169 => k0_hw169.2.2.2.2.1
theorem k0_off481_wordsbf16 : ∀ (v2121 : BitVec 32) (k0_hw169 : k0_chk169 v2121), (Rect.unit (s := S32x2x64x4096) (k0_off481 v2121) S1x1x64x4096.size (k0_off481_inb v2121 k0_hw169)).WholeWords (EltTy.packing .bf16) := fun v2121 k0_hw169 => k0_hw169.2.2.2.2.2 (k0_off481_inb v2121 k0_hw169)

def k0_chk170 (v2120 : BitVec 32) : Prop :=
  (∀ a, (k0_off329 v2120) a + S1x1x64x4096.size a ≤ S32x2x64x4096.size a) ∧
  (∀ (hinb : ∀ a, (k0_off329 v2120) a + S1x1x64x4096.size a ≤ S32x2x64x4096.size a), (Rect.unit (s := S32x2x64x4096) (k0_off329 v2120) S1x1x64x4096.size hinb).WholeWords (EltTy.packing .bf16)) ∧
  (∀ a, (k0_off353 v2120) a + S1x1x64x4096.size a ≤ S32x2x64x4096.size a) ∧
  (∀ (hinb : ∀ a, (k0_off353 v2120) a + S1x1x64x4096.size a ≤ S32x2x64x4096.size a), (Rect.unit (s := S32x2x64x4096) (k0_off353 v2120) S1x1x64x4096.size hinb).WholeWords (EltTy.packing .bf16)) ∧
  (∀ a, (k0_off480 v2120) a + S1x1x64x4096.size a ≤ S32x2x64x4096.size a) ∧
  (∀ (hinb : ∀ a, (k0_off480 v2120) a + S1x1x64x4096.size a ≤ S32x2x64x4096.size a), (Rect.unit (s := S32x2x64x4096) (k0_off480 v2120) S1x1x64x4096.size hinb).WholeWords (EltTy.packing .bf16))
theorem k0_off329_inb : ∀ (v2120 : BitVec 32) (k0_hw170 : k0_chk170 v2120), ∀ a, (k0_off329 v2120) a + S1x1x64x4096.size a ≤ S32x2x64x4096.size a := fun v2120 k0_hw170 => k0_hw170.1
theorem k0_off329_wordsbf16 : ∀ (v2120 : BitVec 32) (k0_hw170 : k0_chk170 v2120), (Rect.unit (s := S32x2x64x4096) (k0_off329 v2120) S1x1x64x4096.size (k0_off329_inb v2120 k0_hw170)).WholeWords (EltTy.packing .bf16) := fun v2120 k0_hw170 => k0_hw170.2.1 (k0_off329_inb v2120 k0_hw170)
theorem k0_off353_inb : ∀ (v2120 : BitVec 32) (k0_hw170 : k0_chk170 v2120), ∀ a, (k0_off353 v2120) a + S1x1x64x4096.size a ≤ S32x2x64x4096.size a := fun v2120 k0_hw170 => k0_hw170.2.2.1
theorem k0_off353_wordsbf16 : ∀ (v2120 : BitVec 32) (k0_hw170 : k0_chk170 v2120), (Rect.unit (s := S32x2x64x4096) (k0_off353 v2120) S1x1x64x4096.size (k0_off353_inb v2120 k0_hw170)).WholeWords (EltTy.packing .bf16) := fun v2120 k0_hw170 => k0_hw170.2.2.2.1 (k0_off353_inb v2120 k0_hw170)
theorem k0_off480_inb : ∀ (v2120 : BitVec 32) (k0_hw170 : k0_chk170 v2120), ∀ a, (k0_off480 v2120) a + S1x1x64x4096.size a ≤ S32x2x64x4096.size a := fun v2120 k0_hw170 => k0_hw170.2.2.2.2.1
theorem k0_off480_wordsbf16 : ∀ (v2120 : BitVec 32) (k0_hw170 : k0_chk170 v2120), (Rect.unit (s := S32x2x64x4096) (k0_off480 v2120) S1x1x64x4096.size (k0_off480_inb v2120 k0_hw170)).WholeWords (EltTy.packing .bf16) := fun v2120 k0_hw170 => k0_hw170.2.2.2.2.2 (k0_off480_inb v2120 k0_hw170)

def k0_off482 (v2158 : BitVec 32) : Fin 4 → Nat :=
  let c1_i32_3727 : BitVec 32 := 1#32
  let c0_i32_3733 : BitVec 32 := 0#32
  let c0_i32_3734 : BitVec 32 := 0#32
  ![v2158.toNat, 1, 0, 0]
def k0_off483 (v2159 : BitVec 32) : Fin 4 → Nat :=
  let c1_i32_3726 : BitVec 32 := 1#32
  let c0_i32_3735 : BitVec 32 := 0#32
  let c0_i32_3736 : BitVec 32 := 0#32
  ![v2159.toNat, 1, 0, 0]

def k0_chk172 (v2159 : BitVec 32) : Prop :=
  (∀ a, (k0_off334 v2159) a + S1x1x64x4096.size a ≤ S32x2x64x4096.size a) ∧
  (∀ (hinb : ∀ a, (k0_off334 v2159) a + S1x1x64x4096.size a ≤ S32x2x64x4096.size a), (Rect.unit (s := S32x2x64x4096) (k0_off334 v2159) S1x1x64x4096.size hinb).WholeWords (EltTy.packing .bf16)) ∧
  (∀ a, (k0_off342 v2159) a + S1x1x64x4096.size a ≤ S32x2x64x4096.size a) ∧
  (∀ (hinb : ∀ a, (k0_off342 v2159) a + S1x1x64x4096.size a ≤ S32x2x64x4096.size a), (Rect.unit (s := S32x2x64x4096) (k0_off342 v2159) S1x1x64x4096.size hinb).WholeWords (EltTy.packing .bf16)) ∧
  (∀ a, (k0_off483 v2159) a + S1x1x64x4096.size a ≤ S32x2x64x4096.size a) ∧
  (∀ (hinb : ∀ a, (k0_off483 v2159) a + S1x1x64x4096.size a ≤ S32x2x64x4096.size a), (Rect.unit (s := S32x2x64x4096) (k0_off483 v2159) S1x1x64x4096.size hinb).WholeWords (EltTy.packing .bf16))
theorem k0_off334_inb : ∀ (v2159 : BitVec 32) (k0_hw172 : k0_chk172 v2159), ∀ a, (k0_off334 v2159) a + S1x1x64x4096.size a ≤ S32x2x64x4096.size a := fun v2159 k0_hw172 => k0_hw172.1
theorem k0_off334_wordsbf16 : ∀ (v2159 : BitVec 32) (k0_hw172 : k0_chk172 v2159), (Rect.unit (s := S32x2x64x4096) (k0_off334 v2159) S1x1x64x4096.size (k0_off334_inb v2159 k0_hw172)).WholeWords (EltTy.packing .bf16) := fun v2159 k0_hw172 => k0_hw172.2.1 (k0_off334_inb v2159 k0_hw172)
theorem k0_off342_inb : ∀ (v2159 : BitVec 32) (k0_hw172 : k0_chk172 v2159), ∀ a, (k0_off342 v2159) a + S1x1x64x4096.size a ≤ S32x2x64x4096.size a := fun v2159 k0_hw172 => k0_hw172.2.2.1
theorem k0_off342_wordsbf16 : ∀ (v2159 : BitVec 32) (k0_hw172 : k0_chk172 v2159), (Rect.unit (s := S32x2x64x4096) (k0_off342 v2159) S1x1x64x4096.size (k0_off342_inb v2159 k0_hw172)).WholeWords (EltTy.packing .bf16) := fun v2159 k0_hw172 => k0_hw172.2.2.2.1 (k0_off342_inb v2159 k0_hw172)
theorem k0_off483_inb : ∀ (v2159 : BitVec 32) (k0_hw172 : k0_chk172 v2159), ∀ a, (k0_off483 v2159) a + S1x1x64x4096.size a ≤ S32x2x64x4096.size a := fun v2159 k0_hw172 => k0_hw172.2.2.2.2.1
theorem k0_off483_wordsbf16 : ∀ (v2159 : BitVec 32) (k0_hw172 : k0_chk172 v2159), (Rect.unit (s := S32x2x64x4096) (k0_off483 v2159) S1x1x64x4096.size (k0_off483_inb v2159 k0_hw172)).WholeWords (EltTy.packing .bf16) := fun v2159 k0_hw172 => k0_hw172.2.2.2.2.2 (k0_off483_inb v2159 k0_hw172)

def k0_chk173 (v2158 : BitVec 32) : Prop :=
  (∀ a, (k0_off335 v2158) a + S1x1x64x4096.size a ≤ S32x2x64x4096.size a) ∧
  (∀ (hinb : ∀ a, (k0_off335 v2158) a + S1x1x64x4096.size a ≤ S32x2x64x4096.size a), (Rect.unit (s := S32x2x64x4096) (k0_off335 v2158) S1x1x64x4096.size hinb).WholeWords (EltTy.packing .bf16)) ∧
  (∀ a, (k0_off343 v2158) a + S1x1x64x4096.size a ≤ S32x2x64x4096.size a) ∧
  (∀ (hinb : ∀ a, (k0_off343 v2158) a + S1x1x64x4096.size a ≤ S32x2x64x4096.size a), (Rect.unit (s := S32x2x64x4096) (k0_off343 v2158) S1x1x64x4096.size hinb).WholeWords (EltTy.packing .bf16)) ∧
  (∀ a, (k0_off482 v2158) a + S1x1x64x4096.size a ≤ S32x2x64x4096.size a) ∧
  (∀ (hinb : ∀ a, (k0_off482 v2158) a + S1x1x64x4096.size a ≤ S32x2x64x4096.size a), (Rect.unit (s := S32x2x64x4096) (k0_off482 v2158) S1x1x64x4096.size hinb).WholeWords (EltTy.packing .bf16))
theorem k0_off335_inb : ∀ (v2158 : BitVec 32) (k0_hw173 : k0_chk173 v2158), ∀ a, (k0_off335 v2158) a + S1x1x64x4096.size a ≤ S32x2x64x4096.size a := fun v2158 k0_hw173 => k0_hw173.1
theorem k0_off335_wordsbf16 : ∀ (v2158 : BitVec 32) (k0_hw173 : k0_chk173 v2158), (Rect.unit (s := S32x2x64x4096) (k0_off335 v2158) S1x1x64x4096.size (k0_off335_inb v2158 k0_hw173)).WholeWords (EltTy.packing .bf16) := fun v2158 k0_hw173 => k0_hw173.2.1 (k0_off335_inb v2158 k0_hw173)
theorem k0_off343_inb : ∀ (v2158 : BitVec 32) (k0_hw173 : k0_chk173 v2158), ∀ a, (k0_off343 v2158) a + S1x1x64x4096.size a ≤ S32x2x64x4096.size a := fun v2158 k0_hw173 => k0_hw173.2.2.1
theorem k0_off343_wordsbf16 : ∀ (v2158 : BitVec 32) (k0_hw173 : k0_chk173 v2158), (Rect.unit (s := S32x2x64x4096) (k0_off343 v2158) S1x1x64x4096.size (k0_off343_inb v2158 k0_hw173)).WholeWords (EltTy.packing .bf16) := fun v2158 k0_hw173 => k0_hw173.2.2.2.1 (k0_off343_inb v2158 k0_hw173)
theorem k0_off482_inb : ∀ (v2158 : BitVec 32) (k0_hw173 : k0_chk173 v2158), ∀ a, (k0_off482 v2158) a + S1x1x64x4096.size a ≤ S32x2x64x4096.size a := fun v2158 k0_hw173 => k0_hw173.2.2.2.2.1
theorem k0_off482_wordsbf16 : ∀ (v2158 : BitVec 32) (k0_hw173 : k0_chk173 v2158), (Rect.unit (s := S32x2x64x4096) (k0_off482 v2158) S1x1x64x4096.size (k0_off482_inb v2158 k0_hw173)).WholeWords (EltTy.packing .bf16) := fun v2158 k0_hw173 => k0_hw173.2.2.2.2.2 (k0_off482_inb v2158 k0_hw173)

def k0_off484 (v2196 : BitVec 32) : Fin 4 → Nat :=
  let c0_i32_3738 : BitVec 32 := 0#32
  let c0_i32_3744 : BitVec 32 := 0#32
  let c0_i32_3745 : BitVec 32 := 0#32
  ![v2196.toNat, 0, 0, 0]
def k0_off485 (v2197 : BitVec 32) : Fin 4 → Nat :=
  let c0_i32_3737 : BitVec 32 := 0#32
  let c0_i32_3746 : BitVec 32 := 0#32
  let c0_i32_3747 : BitVec 32 := 0#32
  ![v2197.toNat, 0, 0, 0]

def k0_chk175 (v2197 : BitVec 32) : Prop :=
  (∀ a, (k0_off340 v2197) a + S1x1x64x4096.size a ≤ S32x2x64x4096.size a) ∧
  (∀ (hinb : ∀ a, (k0_off340 v2197) a + S1x1x64x4096.size a ≤ S32x2x64x4096.size a), (Rect.unit (s := S32x2x64x4096) (k0_off340 v2197) S1x1x64x4096.size hinb).WholeWords (EltTy.packing .bf16)) ∧
  (∀ a, (k0_off358 v2197) a + S1x1x64x4096.size a ≤ S32x2x64x4096.size a) ∧
  (∀ (hinb : ∀ a, (k0_off358 v2197) a + S1x1x64x4096.size a ≤ S32x2x64x4096.size a), (Rect.unit (s := S32x2x64x4096) (k0_off358 v2197) S1x1x64x4096.size hinb).WholeWords (EltTy.packing .bf16)) ∧
  (∀ a, (k0_off485 v2197) a + S1x1x64x4096.size a ≤ S32x2x64x4096.size a) ∧
  (∀ (hinb : ∀ a, (k0_off485 v2197) a + S1x1x64x4096.size a ≤ S32x2x64x4096.size a), (Rect.unit (s := S32x2x64x4096) (k0_off485 v2197) S1x1x64x4096.size hinb).WholeWords (EltTy.packing .bf16))
theorem k0_off340_inb : ∀ (v2197 : BitVec 32) (k0_hw175 : k0_chk175 v2197), ∀ a, (k0_off340 v2197) a + S1x1x64x4096.size a ≤ S32x2x64x4096.size a := fun v2197 k0_hw175 => k0_hw175.1
theorem k0_off340_wordsbf16 : ∀ (v2197 : BitVec 32) (k0_hw175 : k0_chk175 v2197), (Rect.unit (s := S32x2x64x4096) (k0_off340 v2197) S1x1x64x4096.size (k0_off340_inb v2197 k0_hw175)).WholeWords (EltTy.packing .bf16) := fun v2197 k0_hw175 => k0_hw175.2.1 (k0_off340_inb v2197 k0_hw175)
theorem k0_off358_inb : ∀ (v2197 : BitVec 32) (k0_hw175 : k0_chk175 v2197), ∀ a, (k0_off358 v2197) a + S1x1x64x4096.size a ≤ S32x2x64x4096.size a := fun v2197 k0_hw175 => k0_hw175.2.2.1
theorem k0_off358_wordsbf16 : ∀ (v2197 : BitVec 32) (k0_hw175 : k0_chk175 v2197), (Rect.unit (s := S32x2x64x4096) (k0_off358 v2197) S1x1x64x4096.size (k0_off358_inb v2197 k0_hw175)).WholeWords (EltTy.packing .bf16) := fun v2197 k0_hw175 => k0_hw175.2.2.2.1 (k0_off358_inb v2197 k0_hw175)
theorem k0_off485_inb : ∀ (v2197 : BitVec 32) (k0_hw175 : k0_chk175 v2197), ∀ a, (k0_off485 v2197) a + S1x1x64x4096.size a ≤ S32x2x64x4096.size a := fun v2197 k0_hw175 => k0_hw175.2.2.2.2.1
theorem k0_off485_wordsbf16 : ∀ (v2197 : BitVec 32) (k0_hw175 : k0_chk175 v2197), (Rect.unit (s := S32x2x64x4096) (k0_off485 v2197) S1x1x64x4096.size (k0_off485_inb v2197 k0_hw175)).WholeWords (EltTy.packing .bf16) := fun v2197 k0_hw175 => k0_hw175.2.2.2.2.2 (k0_off485_inb v2197 k0_hw175)

def k0_chk176 (v2196 : BitVec 32) : Prop :=
  (∀ a, (k0_off341 v2196) a + S1x1x64x4096.size a ≤ S32x2x64x4096.size a) ∧
  (∀ (hinb : ∀ a, (k0_off341 v2196) a + S1x1x64x4096.size a ≤ S32x2x64x4096.size a), (Rect.unit (s := S32x2x64x4096) (k0_off341 v2196) S1x1x64x4096.size hinb).WholeWords (EltTy.packing .bf16)) ∧
  (∀ a, (k0_off359 v2196) a + S1x1x64x4096.size a ≤ S32x2x64x4096.size a) ∧
  (∀ (hinb : ∀ a, (k0_off359 v2196) a + S1x1x64x4096.size a ≤ S32x2x64x4096.size a), (Rect.unit (s := S32x2x64x4096) (k0_off359 v2196) S1x1x64x4096.size hinb).WholeWords (EltTy.packing .bf16)) ∧
  (∀ a, (k0_off484 v2196) a + S1x1x64x4096.size a ≤ S32x2x64x4096.size a) ∧
  (∀ (hinb : ∀ a, (k0_off484 v2196) a + S1x1x64x4096.size a ≤ S32x2x64x4096.size a), (Rect.unit (s := S32x2x64x4096) (k0_off484 v2196) S1x1x64x4096.size hinb).WholeWords (EltTy.packing .bf16))
theorem k0_off341_inb : ∀ (v2196 : BitVec 32) (k0_hw176 : k0_chk176 v2196), ∀ a, (k0_off341 v2196) a + S1x1x64x4096.size a ≤ S32x2x64x4096.size a := fun v2196 k0_hw176 => k0_hw176.1
theorem k0_off341_wordsbf16 : ∀ (v2196 : BitVec 32) (k0_hw176 : k0_chk176 v2196), (Rect.unit (s := S32x2x64x4096) (k0_off341 v2196) S1x1x64x4096.size (k0_off341_inb v2196 k0_hw176)).WholeWords (EltTy.packing .bf16) := fun v2196 k0_hw176 => k0_hw176.2.1 (k0_off341_inb v2196 k0_hw176)
theorem k0_off359_inb : ∀ (v2196 : BitVec 32) (k0_hw176 : k0_chk176 v2196), ∀ a, (k0_off359 v2196) a + S1x1x64x4096.size a ≤ S32x2x64x4096.size a := fun v2196 k0_hw176 => k0_hw176.2.2.1
theorem k0_off359_wordsbf16 : ∀ (v2196 : BitVec 32) (k0_hw176 : k0_chk176 v2196), (Rect.unit (s := S32x2x64x4096) (k0_off359 v2196) S1x1x64x4096.size (k0_off359_inb v2196 k0_hw176)).WholeWords (EltTy.packing .bf16) := fun v2196 k0_hw176 => k0_hw176.2.2.2.1 (k0_off359_inb v2196 k0_hw176)
theorem k0_off484_inb : ∀ (v2196 : BitVec 32) (k0_hw176 : k0_chk176 v2196), ∀ a, (k0_off484 v2196) a + S1x1x64x4096.size a ≤ S32x2x64x4096.size a := fun v2196 k0_hw176 => k0_hw176.2.2.2.2.1
theorem k0_off484_wordsbf16 : ∀ (v2196 : BitVec 32) (k0_hw176 : k0_chk176 v2196), (Rect.unit (s := S32x2x64x4096) (k0_off484 v2196) S1x1x64x4096.size (k0_off484_inb v2196 k0_hw176)).WholeWords (EltTy.packing .bf16) := fun v2196 k0_hw176 => k0_hw176.2.2.2.2.2 (k0_off484_inb v2196 k0_hw176)

def k0_off486 (v2216 : BitVec 32) : Fin 4 → Nat :=
  let c1_i32_3749 : BitVec 32 := 1#32
  let c0_i32_3755 : BitVec 32 := 0#32
  let c0_i32_3756 : BitVec 32 := 0#32
  ![v2216.toNat, 1, 0, 0]
def k0_off487 (v2217 : BitVec 32) : Fin 4 → Nat :=
  let c1_i32_3748 : BitVec 32 := 1#32
  let c0_i32_3757 : BitVec 32 := 0#32
  let c0_i32_3758 : BitVec 32 := 0#32
  ![v2217.toNat, 1, 0, 0]

def k0_chk177 (v2217 : BitVec 32) : Prop :=
  (∀ a, (k0_off344 v2217) a + S1x1x64x4096.size a ≤ S32x2x64x4096.size a) ∧
  (∀ (hinb : ∀ a, (k0_off344 v2217) a + S1x1x64x4096.size a ≤ S32x2x64x4096.size a), (Rect.unit (s := S32x2x64x4096) (k0_off344 v2217) S1x1x64x4096.size hinb).WholeWords (EltTy.packing .bf16)) ∧
  (∀ a, (k0_off362 v2217) a + S1x1x64x4096.size a ≤ S32x2x64x4096.size a) ∧
  (∀ (hinb : ∀ a, (k0_off362 v2217) a + S1x1x64x4096.size a ≤ S32x2x64x4096.size a), (Rect.unit (s := S32x2x64x4096) (k0_off362 v2217) S1x1x64x4096.size hinb).WholeWords (EltTy.packing .bf16)) ∧
  (∀ a, (k0_off487 v2217) a + S1x1x64x4096.size a ≤ S32x2x64x4096.size a) ∧
  (∀ (hinb : ∀ a, (k0_off487 v2217) a + S1x1x64x4096.size a ≤ S32x2x64x4096.size a), (Rect.unit (s := S32x2x64x4096) (k0_off487 v2217) S1x1x64x4096.size hinb).WholeWords (EltTy.packing .bf16))
theorem k0_off344_inb : ∀ (v2217 : BitVec 32) (k0_hw177 : k0_chk177 v2217), ∀ a, (k0_off344 v2217) a + S1x1x64x4096.size a ≤ S32x2x64x4096.size a := fun v2217 k0_hw177 => k0_hw177.1
theorem k0_off344_wordsbf16 : ∀ (v2217 : BitVec 32) (k0_hw177 : k0_chk177 v2217), (Rect.unit (s := S32x2x64x4096) (k0_off344 v2217) S1x1x64x4096.size (k0_off344_inb v2217 k0_hw177)).WholeWords (EltTy.packing .bf16) := fun v2217 k0_hw177 => k0_hw177.2.1 (k0_off344_inb v2217 k0_hw177)
theorem k0_off362_inb : ∀ (v2217 : BitVec 32) (k0_hw177 : k0_chk177 v2217), ∀ a, (k0_off362 v2217) a + S1x1x64x4096.size a ≤ S32x2x64x4096.size a := fun v2217 k0_hw177 => k0_hw177.2.2.1
theorem k0_off362_wordsbf16 : ∀ (v2217 : BitVec 32) (k0_hw177 : k0_chk177 v2217), (Rect.unit (s := S32x2x64x4096) (k0_off362 v2217) S1x1x64x4096.size (k0_off362_inb v2217 k0_hw177)).WholeWords (EltTy.packing .bf16) := fun v2217 k0_hw177 => k0_hw177.2.2.2.1 (k0_off362_inb v2217 k0_hw177)
theorem k0_off487_inb : ∀ (v2217 : BitVec 32) (k0_hw177 : k0_chk177 v2217), ∀ a, (k0_off487 v2217) a + S1x1x64x4096.size a ≤ S32x2x64x4096.size a := fun v2217 k0_hw177 => k0_hw177.2.2.2.2.1
theorem k0_off487_wordsbf16 : ∀ (v2217 : BitVec 32) (k0_hw177 : k0_chk177 v2217), (Rect.unit (s := S32x2x64x4096) (k0_off487 v2217) S1x1x64x4096.size (k0_off487_inb v2217 k0_hw177)).WholeWords (EltTy.packing .bf16) := fun v2217 k0_hw177 => k0_hw177.2.2.2.2.2 (k0_off487_inb v2217 k0_hw177)

def k0_chk178 (v2216 : BitVec 32) : Prop :=
  (∀ a, (k0_off345 v2216) a + S1x1x64x4096.size a ≤ S32x2x64x4096.size a) ∧
  (∀ (hinb : ∀ a, (k0_off345 v2216) a + S1x1x64x4096.size a ≤ S32x2x64x4096.size a), (Rect.unit (s := S32x2x64x4096) (k0_off345 v2216) S1x1x64x4096.size hinb).WholeWords (EltTy.packing .bf16)) ∧
  (∀ a, (k0_off363 v2216) a + S1x1x64x4096.size a ≤ S32x2x64x4096.size a) ∧
  (∀ (hinb : ∀ a, (k0_off363 v2216) a + S1x1x64x4096.size a ≤ S32x2x64x4096.size a), (Rect.unit (s := S32x2x64x4096) (k0_off363 v2216) S1x1x64x4096.size hinb).WholeWords (EltTy.packing .bf16)) ∧
  (∀ a, (k0_off486 v2216) a + S1x1x64x4096.size a ≤ S32x2x64x4096.size a) ∧
  (∀ (hinb : ∀ a, (k0_off486 v2216) a + S1x1x64x4096.size a ≤ S32x2x64x4096.size a), (Rect.unit (s := S32x2x64x4096) (k0_off486 v2216) S1x1x64x4096.size hinb).WholeWords (EltTy.packing .bf16))
theorem k0_off345_inb : ∀ (v2216 : BitVec 32) (k0_hw178 : k0_chk178 v2216), ∀ a, (k0_off345 v2216) a + S1x1x64x4096.size a ≤ S32x2x64x4096.size a := fun v2216 k0_hw178 => k0_hw178.1
theorem k0_off345_wordsbf16 : ∀ (v2216 : BitVec 32) (k0_hw178 : k0_chk178 v2216), (Rect.unit (s := S32x2x64x4096) (k0_off345 v2216) S1x1x64x4096.size (k0_off345_inb v2216 k0_hw178)).WholeWords (EltTy.packing .bf16) := fun v2216 k0_hw178 => k0_hw178.2.1 (k0_off345_inb v2216 k0_hw178)
theorem k0_off363_inb : ∀ (v2216 : BitVec 32) (k0_hw178 : k0_chk178 v2216), ∀ a, (k0_off363 v2216) a + S1x1x64x4096.size a ≤ S32x2x64x4096.size a := fun v2216 k0_hw178 => k0_hw178.2.2.1
theorem k0_off363_wordsbf16 : ∀ (v2216 : BitVec 32) (k0_hw178 : k0_chk178 v2216), (Rect.unit (s := S32x2x64x4096) (k0_off363 v2216) S1x1x64x4096.size (k0_off363_inb v2216 k0_hw178)).WholeWords (EltTy.packing .bf16) := fun v2216 k0_hw178 => k0_hw178.2.2.2.1 (k0_off363_inb v2216 k0_hw178)
theorem k0_off486_inb : ∀ (v2216 : BitVec 32) (k0_hw178 : k0_chk178 v2216), ∀ a, (k0_off486 v2216) a + S1x1x64x4096.size a ≤ S32x2x64x4096.size a := fun v2216 k0_hw178 => k0_hw178.2.2.2.2.1
theorem k0_off486_wordsbf16 : ∀ (v2216 : BitVec 32) (k0_hw178 : k0_chk178 v2216), (Rect.unit (s := S32x2x64x4096) (k0_off486 v2216) S1x1x64x4096.size (k0_off486_inb v2216 k0_hw178)).WholeWords (EltTy.packing .bf16) := fun v2216 k0_hw178 => k0_hw178.2.2.2.2.2 (k0_off486_inb v2216 k0_hw178)

abbrev stage0_0 : Fin 1 → Memref sig .tc .vmem S128x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S35 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S4096x2048, .f32⟩
  | .hbm, ⟨18, _⟩ => ⟨S4096x2048, .f32⟩
  | .hbm, ⟨19, _⟩ => ⟨S_, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_cst_3 : Ref sig .tc := ⟨.hbm, 15, rfl⟩
abbrev main_call1_v0 : Ref sig .tc := ⟨.hbm, 16, rfl⟩
abbrev main_call1_v1 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩

abbrev nD : Nat := 1
abbrev τ : Topo := Topo.v7x

variable {F : FTy → Type} [FloatOps F]
-- ==== Proof.Prog.lean ====
/-
  The kernel body as one program over its steps: the printed body is a long straight line of effects that
  repeats one step (wait for a half block, pass it on, multiply it) for every ring distance, direction and half.
  Here that step is written once, over the distance, the direction and the half, and the whole body is put together
  from it. `body_eq` says that the printed body is this program.
-/
module

public import proofs.«01_k».proof.Proof.Gen.KernelIdeal.Skeleton

@[expose] public section

set_option synthInstance.maxSize 4096

noncomputable section

namespace Cert.KernelIdeal.Ring

open Idealize.ShloMosaic Idealize.SL.Sem Cert.KernelIdeal Cert.KernelIdeal.Gen

variable {F : FTy → Type} [FloatOps F]

/-! ## Side conditions, over a distance and a half -/

theorem inbS : ∀ (j : Fin 35) (a : Fin 1), (![j.val] : Fin 1 → Nat) a + S1.size a ≤ S35.size a := by decide
theorem inbQ : ∀ (s : Fin 16) (h : Fin 2) (a : Fin 2), (![s.val, h.val] : Fin 2 → Nat) a + S1x1.size a ≤ S16x2.size a := by
  decide
theorem inbA : ∀ (d : Fin 31) (a : Fin 1), (![d.val] : Fin 1 → Nat) a + S1.size a ≤ S31.size a := by decide
theorem inbX : ∀ (h : Fin 2) (a : Fin 2), (![64 * h.val, 0] : Fin 2 → Nat) a + S64x4096.size a ≤ S128x4096.size a := by
  decide
theorem wordsX : ∀ h : Fin 2,
    (Rect.unit (s := S128x4096) ![64 * h.val, 0] S64x4096.size (inbX h)).WholeWords (EltTy.packing .bf16) := by decide

/-- Where the slot of the block whose ring device is the word `v` starts, at half `h`. -/
abbrev offC (h : Fin 2) (v : BitVec 32) : Fin 4 → Nat := ![v.toNat, h.val, 0, 0]

/-- Where the rows of that half block start in the result. -/
abbrev offO (h : Fin 2) (v : BitVec 32) : Fin 2 → Nat :=
  ![(Scalar.indexCast (Scalar.addi (Scalar.muli v 128#32) (BitVec.ofNat 32 (64 * h.val)))).toNat, 0]

/-- The slot is inside the buffer and is whole words. -/
def chkC (h : Fin 2) (v : BitVec 32) : Prop :=
  (∀ a, offC h v a + S1x1x64x4096.size a ≤ S32x2x64x4096.size a) ∧
  (∀ (hinb : ∀ a, offC h v a + S1x1x64x4096.size a ≤ S32x2x64x4096.size a),
    (Rect.unit (s := S32x2x64x4096) (offC h v) S1x1x64x4096.size hinb).WholeWords (EltTy.packing .bf16)) ∧
  (∀ a, offC h v a + S1x1x64x4096.size a ≤ S32x2x64x4096.size a) ∧
  (∀ (hinb : ∀ a, offC h v a + S1x1x64x4096.size a ≤ S32x2x64x4096.size a),
    (Rect.unit (s := S32x2x64x4096) (offC h v) S1x1x64x4096.size hinb).WholeWords (EltTy.packing .bf16)) ∧
  (∀ a, offC h v a + S1x1x64x4096.size a ≤ S32x2x64x4096.size a) ∧
  (∀ (hinb : ∀ a, offC h v a + S1x1x64x4096.size a ≤ S32x2x64x4096.size a),
    (Rect.unit (s := S32x2x64x4096) (offC h v) S1x1x64x4096.size hinb).WholeWords (EltTy.packing .bf16))

instance chkC.dec (h : Fin 2) (v : BitVec 32) : Decidable (chkC h v) :=
  decidable_of_iff' _ (Iff.of_eq (chkC.eq_1 h v))

/-- The slot and the result's rows are inside their buffers. -/
def chkG (h : Fin 2) (v : BitVec 32) : Prop :=
  (∀ a, offC h v a + S1x1x64x4096.size a ≤ S32x2x64x4096.size a) ∧
  (∀ a, offO h v a + S64x64.size a ≤ S4096x64.size a)

instance chkG.dec (h : Fin 2) (v : BitVec 32) : Decidable (chkG h v) :=
  decidable_of_iff' _ (Iff.of_eq (chkG.eq_1 h v))

/-- The device a word names. -/
abbrev devL (v : BitVec 32) (h : k0_chk1 v) : Dev nD := ⟨k0_dev1 v, k0_dev1_lt v h⟩
abbrev devR (v : BitVec 32) (h : k0_chk2 v) : Dev nD := ⟨k0_dev2 v, k0_dev2_lt v h⟩

/-- The device `d + 1` places after `d0`, as the kernel computes it. -/
def devAmt (d : Fin 31) (d0 : Dev nD) : Nat :=
  (Scalar.addi 0#32 (Scalar.muli (Scalar.remsi (Scalar.addi (Scalar.remsi (Scalar.divsi (Dev.word d0) 1#32) 32#32)
    (BitVec.ofNat 32 (d.val + 1))) 32#32) 1#32)).toNat

theorem devAmt_eq : ∀ (d : Fin 31) (d0 : Dev nD), devAmt d d0 = (d0.val + (d.val + 1)) % 32 := by decide +kernel

theorem devAmt_lt (d : Fin 31) (d0 : Dev nD) : devAmt d d0 < nD := by
  rw [devAmt_eq]; exact Nat.mod_lt _ (by decide)

/-! ## The values a step computes -/

/-- The product of one half block with the weights, its negative entries replaced by zero. -/
def half (v85 : Vec F S1x1x64x4096 .bf16) (v87 : Vec F S4096x64 .bf16) : FVec F S64x64 .f32 :=
  maximumf (matmul dot_S64x4096_S4096x64_S64x64_1_0_0_1_n_n none
    (shapeCast S64x4096 v85 shapeCasts_S1x1x64x4096_S64x4096) (shapeCast S4096x64 v87 shapeCasts_S4096x64_S4096x64)
    (constant S64x64 .f32 0x00000000#32)) (broadcast S64x64 (Scalar.ofBits .f32 0x00000000#32))

/-- Its largest entry. -/
def halfMax (v91 : FVec F S64x64 .f32) : F .f32 :=
  extractAt ![0, 0, 0] (shapeCast S1x1x1 (multiReduction .maximumf [1, 2] S1 (shapeCast S1x64x64 v91 shapeCasts_S64x64_S1x64x64)
    0xFF800000#32 reduces_S1x64x64_S1 (.inl rfl) rfl) shapeCasts_S1_S1x1x1) inpos_S1x1x1_p0_0_0

/-- The product of the device's own block with the weights, its negative entries replaced by zero. -/
def own (v50 : Vec F S128x4096 .bf16) (v52 : Vec F S4096x64 .bf16) : FVec F S128x64 .f32 :=
  maximumf (matmul dot_S128x4096_S4096x64_S128x64_1_0_0_1_n_n none
    (shapeCast S128x4096 v50 shapeCasts_S128x4096_S128x4096) (shapeCast S4096x64 v52 shapeCasts_S4096x64_S4096x64)
    (constant S128x64 .f32 0x00000000#32)) (broadcast S128x64 (Scalar.ofBits .f32 0x00000000#32))

/-- Its largest entry. -/
def ownMax (v56 : FVec F S128x64 .f32) : F .f32 :=
  extractAt ![0, 0, 0] (shapeCast S1x1x1 (multiReduction .maximumf [1, 2] S1 (shapeCast S1x128x64 v56 shapeCasts_S128x64_S1x128x64)
    0xFF800000#32 reduces_S1x128x64_S1 (.inl rfl) rfl) shapeCasts_S1_S1x1x1) inpos_S1x1x1_p0_0_0

/-- The slot a device publishes its largest entry in. -/
def publish (m : F .f32) : FVec F S1x8x128 .f32 :=
  shapeCast S1x8x128 (broadcast S8x128 m) shapeCasts_S8x128_S1x8x128

/-- The quantised and rescaled result, from the published maxima and the products. -/
def quant (v3179 : Vec F S32x8x128 .f32) (v3185 : Vec F S4096x64 .f32) : FVec F S4096x64 .f32 := k0_pay142 v3179 v3185

/-! ## The program -/

section Program

/-- A program of the kernel. -/
local notation "Pg" F:max => Prog (TpuEff nD τ sig (Elt F) Λ₀ Proc.tc) PUnit

variable (arg0 : Memref sig .tc .vmem S128x4096 .bf16) (harg0 : arg0.IsWhole) (arg1 : Memref sig .tc .vmem S4096x64 .bf16)
  (harg1 : arg1.IsWhole) (arg2 : Memref sig .tc .smem S35 .i32) (harg2 : arg2.IsWhole)
  (arg3 : Memref sig .tc .vmem S4096x64 .f32) (harg3 : arg3.IsWhole) (arg4 : Memref sig .tc .vmem S32x2x64x4096 .bf16)
  (harg4 : arg4.IsWhole) (arg5 : Memref sig .tc .vmem S32x8x128 .f32) (harg5 : arg5.IsWhole)
  (arg6 : DmaSems sig S16x2) (arg7 : DmaSems sig S16x2) (arg8 : DmaSems sig S16x2) (arg9 : DmaSems sig S16x2)
  (arg10 : DmaSems sig S31) (arg11 : DmaSems sig S31)

/-- Word `j` of the schedule. -/
abbrev word (j : Fin 35) (k : BitVec 32 → Pg F) : Pg F :=
  smemLoadElt arg2 (Rect.unit (s := S35) ![j.val] S1.size (inbS j)) (View.loads_smem_one rfl numel1_S1)
    (Shape.Idx.first (numel1_S1.symm ▸ Nat.one_pos)) k

/-- Take a side condition. -/
abbrev take (P : Prop) (d : Decidable P) (k : P → Pg F) : Pg F := .op (.assume P d) fun e => k e.down

/-- A semaphore of a ring copy: of distance `s` and half `h`. -/
abbrev semQ (a : DmaSems sig S16x2) (s : Fin 16) (h : Fin 2) : DmaSem sig :=
  ((a.slice (Rect.unit (s := S16x2) ![s.val, h.val] S1x1.size (inbQ s h))).squeeze S_ squeezes_S1x1_S_).sem

/-- A semaphore of a maximum's copy. -/
abbrev semA (a : DmaSems sig S31) (d : Fin 31) : DmaSem sig :=
  ((a.slice (Rect.unit (s := S31) ![d.val] S1.size (inbA d))).squeeze S_ squeezes_S1_S_).sem

/-- The half `h` of the device's own block. -/
abbrev xH (h : Fin 2) : Memref sig .tc .vmem S64x4096 .bf16 :=
  arg0.slice (Rect.unit (s := S128x4096) ![64 * h.val, 0] S64x4096.size (inbX h)) (fun _ => rfl)

/-- The slot of half `h` of the block of the device the word `v` names. -/
abbrev slot (h : Fin 2) (v : BitVec 32) (c : chkC h v) : Memref sig .tc .vmem S64x4096 .bf16 :=
  (arg4.slice (Rect.unit (s := S32x2x64x4096) (offC h v) S1x1x64x4096.size c.1) (fun _ => rfl)).squeeze S64x4096
    squeezes_S1x1x64x4096_S64x4096

/-- The two ends of a ring copy. -/
structure Ends where
  src : Memref sig .tc .vmem S64x4096 .bf16
  dst : Memref sig .tc .vmem S64x4096 .bf16
  hs : src.view.WordExact
  hd : dst.view.WordExact

/-- The ends of a device's first copies: from its own block. -/
abbrev ends0 (h : Fin 2) (v : BitVec 32) (c : chkC h v) : Ends :=
  ⟨xH arg0 h, slot arg4 h v c, harg0.wordExact_slice rfl _ (wordsX h),
    (harg4.wordExact_slice rfl _ (c.2.1 c.1)).reshape _ _⟩

/-- The ends of the later ones: from a slot that arrived. -/
abbrev endsS (h : Fin 2) (u : BitVec 32) (cu : chkC h u) (v : BitVec 32) (c : chkC h v) : Ends :=
  ⟨slot arg4 h u cu, slot arg4 h v c, (harg4.wordExact_slice rfl _ (cu.2.1 cu.1)).reshape _ _,
    (harg4.wordExact_slice rfl _ (c.2.1 c.1)).reshape _ _⟩

/-- Start a ring copy to device `n`. -/
abbrev send (e : Ends) (n : Dev nD) (ss rs : DmaSem sig) (k : Pg F) : Pg F :=
  .op (.enqueueDma e.src (.remote (Dev.tc n) e.dst (.dma ss)) (.dma rs) e.hs e.hd ⟨⟨rfl, Or.inl rfl⟩, trivial⟩) fun _ => k

/-- Wait for a ring copy to arrive. -/
abbrev waitR (e : Ends) (rs : DmaSem sig) (k : Pg F) : Pg F :=
  .op (.waitDma2 rs e.src e.dst e.hs e.hd) fun _ => k

/-- Wait for a ring copy to have been read. -/
abbrev waitS (e : Ends) (ss : DmaSem sig) (k : Pg F) : Pg F :=
  .op (.waitDma2 ss e.dst e.src e.hd e.hs) fun _ => k

/-- Multiply the half block in the slot that word `j` of the schedule names, and keep the largest entry so far. -/
abbrev gemm (h : Fin 2) (j : Fin 35) (acc : F .f32) (k : F .f32 → Pg F) : Pg F :=
  word arg2 j fun v => take (chkG h v) (chkG.dec h v) fun c =>
    .op (.load arg4 (Rect.unit (s := S32x2x64x4096) (offC h v) S1x1x64x4096.size c.1).toLoadRect
      (View.loadsAt_vmem h_S1x1x64x4096)) fun v85 =>
    .op (.load arg1 (Rect.unit (s := S4096x64) ![0, 0] S4096x64.size inb_S4096x64_S4096x64_0_0).toLoadRect
      (View.loadsAt_vmem h_S4096x64)) fun v87 =>
    .op (.load arg3 (Rect.unit (s := S4096x64) (offO h v) S64x64.size c.2).toLoadRect (View.loadsAt_vmem h_S64x64)) fun _ =>
    .op (.store arg3 (Rect.unit (s := S4096x64) (offO h v) S64x64.size c.2) (half v85 v87) Finset.univ
      (View.stores_vmem_bits_univ h_S64x64 rfl) (.inl rfl)) fun _ =>
    k (Scalar.maximumf acc (halfMax (half v85 v87)))

/-- The words of a copy of the block that word `j` names: its source slot and its destination slot. -/
abbrev hop (h : Fin 2) (j : Fin 35) (k : Ends → Pg F) : Pg F :=
  word arg2 j fun u => take (chkC h u) (chkC.dec h u) fun cu =>
  word arg2 j fun v => take (chkC h v) (chkC.dec h v) fun c => k (endsS arg4 harg4 h u cu v c)

/-- A copy that was started, with the semaphore its source is given back on. -/
abbrev Sent := DmaSem sig × Ends

/-- Wait for the copies of a list to have been read, the last of the list first. -/
def drain : List Sent → Pg F → Pg F
  | [], k => k
  | x :: xs, k => drain xs (waitS x.2 x.1 k)

/-- One half of one ring step: wait for the half block of the step before, pass it on, and multiply it. -/
def step (ss rs : DmaSems sig S16x2) (n : Dev nD) (s s' : Fin 16) (h : Fin 2) (j : Fin 35) (e : Ends) (acc : F .f32)
    (k : Ends → F .f32 → Pg F) : Pg F :=
  waitR e (semQ rs s h) <| hop arg2 arg4 harg4 h j fun e' => send e' n (semQ ss s' h) (semQ rs s' h) <|
    gemm arg1 arg2 arg3 arg4 h j acc fun acc' => k e' acc'

/-- The schedule's word for the block at distance `s` in the first direction. -/
abbrev jw (s : Fin 17) : Fin 35 := ⟨2 + s.val, by omega⟩
/-- The schedule's word for the block at distance `s` in the second direction. -/
abbrev jc (s : Fin 16) : Fin 35 := ⟨19 + s.val, by omega⟩

/-- One ring step: both directions, both halves. -/
def phase (nl nr : Dev nD) (s s' : Fin 16) (j j' : Fin 35) (e0 e1 e2 e3 : Ends) (acc : F .f32) (l : List Sent)
    (k : Ends → Ends → Ends → Ends → F .f32 → List Sent → Pg F) : Pg F :=
  step arg1 arg2 arg3 arg4 harg4 arg6 arg7 nr s s' 0 j e0 acc fun e0' acc =>
  step arg1 arg2 arg3 arg4 harg4 arg6 arg7 nr s s' 1 j e1 acc fun e1' acc =>
  step arg1 arg2 arg3 arg4 harg4 arg8 arg9 nl s s' 0 j' e2 acc fun e2' acc =>
  step arg1 arg2 arg3 arg4 harg4 arg8 arg9 nl s s' 1 j' e3 acc fun e3' acc =>
  k e0' e1' e2' e3' acc ((semQ arg8 s' 1, e3') :: (semQ arg8 s' 0, e2') :: (semQ arg6 s' 1, e1') :: (semQ arg6 s' 0, e0') :: l)

/-- `n` ring steps from distance `s + 1` on. -/
def phases (nl nr : Dev nD) : (n : Nat) → (s : Nat) → (hs : s + n < 16) → Ends → Ends → Ends → Ends → F .f32 → List Sent →
    (Ends → Ends → Ends → Ends → F .f32 → List Sent → Pg F) → Pg F
  | 0, _, _, e0, e1, e2, e3, acc, l, k => k e0 e1 e2 e3 acc l
  | n + 1, s, hs, e0, e1, e2, e3, acc, l, k =>
    phase arg1 arg2 arg3 arg4 harg4 arg6 arg7 arg8 arg9 nl nr ⟨s, by omega⟩ ⟨s + 1, by omega⟩
      ⟨2 + (s + 1), by omega⟩ ⟨19 + (s + 1), by omega⟩ e0 e1 e2 e3 acc l fun e0 e1 e2 e3 acc l =>
    phases nl nr n (s + 1) (by omega) e0 e1 e2 e3 acc l k

/-- The last ring distances: one half more in each direction, and the blocks that are not passed on. -/
def lastPhase (nl nr : Dev nD) (e0 e1 e2 e3 : Ends) (acc : F .f32) (l : List Sent) (k : F .f32 → List Sent → Pg F) : Pg F :=
  waitR e0 (semQ arg7 14 0) <| hop arg2 arg4 harg4 0 17 fun e0' => send e0' nr (semQ arg6 15 0) (semQ arg7 15 0) <|
  waitR e3 (semQ arg9 14 1) <| hop arg2 arg4 harg4 1 34 fun e3' => send e3' nl (semQ arg8 15 1) (semQ arg9 15 1) <|
  gemm arg1 arg2 arg3 arg4 0 17 acc fun acc =>
  waitR e1 (semQ arg7 14 1) <|
  gemm arg1 arg2 arg3 arg4 1 17 acc fun acc =>
  waitR e2 (semQ arg9 14 0) <|
  gemm arg1 arg2 arg3 arg4 0 34 acc fun acc =>
  gemm arg1 arg2 arg3 arg4 1 34 acc fun acc =>
  waitR e0' (semQ arg7 15 0) <|
  gemm arg1 arg2 arg3 arg4 0 18 acc fun acc =>
  waitR e3' (semQ arg9 15 1) <|
  gemm arg1 arg2 arg3 arg4 1 18 acc fun acc =>
  k acc ((semQ arg8 15 1, e3') :: (semQ arg6 15 0, e0') :: l)

/-- The slot of device `d0`'s maximum. -/
abbrev amx (d0 : Dev nD) : Memref sig .tc .vmem S8x128 .f32 :=
  (arg5.slice (Rect.unit (s := S32x8x128) (k0_off367 d0) S1x8x128.size (k0_off367_inb d0)) (fun _ => rfl)).squeeze S8x128
    squeezes_S1x8x128_S8x128

/-- Send the maximum to the devices of a list of distances. -/
def tell (d0 : Dev nD) : List (Fin 31) → Pg F → Pg F
  | [], k => k
  | d :: ds, k =>
    .op (.enqueueDma (amx arg5 d0) (.remote (Dev.tc (⟨devAmt d d0, devAmt_lt d d0⟩ : Dev nD)) (amx arg5 d0)
      (.dma (semA arg10 d))) (.dma (semA arg11 d)) ((View.wordExact_bits rfl).reshape _ _)
      ((View.wordExact_bits rfl).reshape _ _) ⟨⟨rfl, Or.inl rfl⟩, trivial⟩) fun _ => tell d0 ds k

/-- Wait for those copies to have been read, and for the ones of the other devices to arrive. -/
def hear (d0 : Dev nD) : List (Fin 31) → Pg F → Pg F
  | [], k => k
  | d :: ds, k =>
    .op (.waitDma2 (semA arg10 d) (amx arg5 d0) (amx arg5 d0) ((View.wordExact_bits rfl).reshape _ _)
      ((View.wordExact_bits rfl).reshape _ _)) fun _ =>
    .op (.waitDma2 (semA arg11 d) (amx arg5 d0) (amx arg5 d0) ((View.wordExact_bits rfl).reshape _ _)
      ((View.wordExact_bits rfl).reshape _ _)) fun _ => hear d0 ds k

/-- The distances, in order. -/
abbrev dists : List (Fin 31) := [0, 1, 2, 3, 4, 5, 6, 7, 8, 9, 10, 11, 12, 13, 14, 15, 16, 17, 18, 19, 20, 21, 22, 23, 24, 25,
  26, 27, 28, 29, 30]

/-- The end of the body: publish the maximum, collect the others, quantise, and wait for the ring copies to have been read. -/
def finish (d0 : Dev nD) (acc : F .f32) (l : List Sent) : Pg F :=
  .op (.load arg5 (Rect.unit (s := S32x8x128) (k0_off366 d0) S1x8x128.size (k0_off366_inb d0)).toLoadRect
    (View.loadsAt_vmem h_S1x8x128)) fun _ =>
  .op (.store arg5 (Rect.unit (s := S32x8x128) (k0_off366 d0) S1x8x128.size (k0_off366_inb d0)) (publish acc) Finset.univ
    (View.stores_vmem_bits_univ h_S1x8x128 rfl) (.inl rfl)) fun _ =>
  tell arg5 arg10 arg11 d0 dists <| hear arg5 arg10 arg11 d0 dists <|
  .op (.load arg5 (Rect.unit (s := S32x8x128) ![0, 0, 0] S32x8x128.size inb_S32x8x128_S32x8x128_0_0_0).toLoadRect
    (View.loadsAt_vmem h_S32x8x128)) fun v3179 =>
  .op (.load arg3 (Rect.unit (s := S4096x64) ![0, 0] S4096x64.size inb_S4096x64_S4096x64_0_0).toLoadRect
    (View.loadsAt_vmem h_S4096x64)) fun v3185 =>
  .op (.load arg3 (Rect.unit (s := S4096x64) ![0, 0] S4096x64.size inb_S4096x64_S4096x64_0_0).toLoadRect
    (View.loadsAt_vmem h_S4096x64)) fun _ =>
  .op (.store arg3 (Rect.unit (s := S4096x64) ![0, 0] S4096x64.size inb_S4096x64_S4096x64_0_0) (quant v3179 v3185) Finset.univ
    (View.stores_vmem_bits_univ h_S4096x64 rfl) (.inl rfl)) fun _ =>
  drain l (.ret ⟨⟩)

/-- The device's own block: multiply it and store it. -/
abbrev ownStep (d0 : Dev nD) (k : F .f32 → Pg F) : Pg F :=
  .op (.load arg0 (Rect.unit (s := S128x4096) ![0, 0] S128x4096.size inb_S128x4096_S128x4096_0_0).toLoadRect
    (View.loadsAt_vmem h_S128x4096)) fun v50 =>
  .op (.load arg1 (Rect.unit (s := S4096x64) ![0, 0] S4096x64.size inb_S4096x64_S4096x64_0_0).toLoadRect
    (View.loadsAt_vmem h_S4096x64)) fun v52 =>
  .op (.load arg3 (Rect.unit (s := S4096x64) (k0_off5 d0) S128x64.size (k0_off5_inb d0)).toLoadRect
    (View.loadsAt_vmem h_S128x64)) fun _ =>
  .op (.store arg3 (Rect.unit (s := S4096x64) (k0_off5 d0) S128x64.size (k0_off5_inb d0)) (own v50 v52) Finset.univ
    (View.stores_vmem_bits_univ h_S128x64 rfl) (.inl rfl)) fun _ =>
  k (ownMax (own v50 v52))

/-- A device's first copy of one half in one direction. -/
abbrev first (h : Fin 2) (j : Fin 35) (n : Dev nD) (ss rs : DmaSems sig S16x2) (k : Ends → Pg F) : Pg F :=
  word arg2 j fun v => take (chkC h v) (chkC.dec h v) fun c =>
    send (ends0 arg0 harg0 arg4 harg4 h v c) n (semQ ss 0 h) (semQ rs 0 h) (k (ends0 arg0 harg0 arg4 harg4 h v c))

/-- The kernel body. -/
def body : Pg F :=
  .op .deviceId fun d0 =>
  word arg2 0 fun v3 => take (k0_chk1 v3) (k0_chk1.dec v3) fun c1 =>
  word arg2 1 fun v4 => take (k0_chk2 v4) (k0_chk2.dec v4) fun c2 =>
  .op (.semSignal (Dev.tc (devL v3 c1)) (SemArray.scalar (sig.barrier 0 rfl) : Sems sig S_).sem 1) fun _ =>
  .op (.semSignal (Dev.tc (devR v4 c2)) (SemArray.scalar (sig.barrier 0 rfl) : Sems sig S_).sem 1) fun _ =>
  .op (.semWait (SemArray.scalar (sig.barrier 0 rfl) : Sems sig S_).sem 2) fun _ =>
  first arg0 harg0 arg2 arg4 harg4 0 2 (devR v4 c2) arg6 arg7 fun e0 =>
  first arg0 harg0 arg2 arg4 harg4 1 2 (devR v4 c2) arg6 arg7 fun e1 =>
  first arg0 harg0 arg2 arg4 harg4 0 19 (devL v3 c1) arg8 arg9 fun e2 =>
  first arg0 harg0 arg2 arg4 harg4 1 19 (devL v3 c1) arg8 arg9 fun e3 =>
  ownStep arg0 arg1 arg3 d0 fun acc =>
  phases arg1 arg2 arg3 arg4 harg4 arg6 arg7 arg8 arg9 (devL v3 c1) (devR v4 c2) 14 0 (by decide) e0 e1 e2 e3 acc
    [(semQ arg8 0 1, e3), (semQ arg8 0 0, e2), (semQ arg6 0 1, e1), (semQ arg6 0 0, e0)] fun e0 e1 e2 e3 acc l =>
  lastPhase arg1 arg2 arg3 arg4 harg4 arg6 arg7 arg8 arg9 (devL v3 c1) (devR v4 c2) e0 e1 e2 e3 acc l fun acc l =>
  finish arg3 arg5 arg10 arg11 d0 acc l

set_option maxRecDepth 65536 in
/-- The printed body is the program above. -/
theorem body_eq : cc0_body (F := F) arg0 harg0 arg1 harg1 arg2 harg2 arg3 harg3 arg4 harg4 arg5 harg5 arg6 arg7 arg8 arg9 arg10
    arg11 = body arg0 harg0 arg1 arg2 arg3 arg4 harg4 arg5 arg6 arg7 arg8 arg9 arg10 arg11 := by chain_rfl

end Program

end Cert.KernelIdeal.Ring

end
-- ==== Proof.Geo.lean ====
/-
  The ring: who a device's neighbours are, whose block is how far away, and what the schedule's table says of both.
-/
module

public import proofs.«01_k».proof.Proof.Prog

@[expose] public section

noncomputable section

namespace Cert.KernelIdeal.Ring

open Idealize.ShloMosaic Idealize.SL.Sem Cert.KernelIdeal Cert.KernelIdeal.Gen

/-! ## The ring -/

/-- The devices in the order of the ring. -/
def order : List Nat := [0, 3, 4, 7, 15, 12, 11, 8, 16, 19, 20, 23, 31, 28, 27, 24, 25, 26, 29, 30, 22, 21, 18, 17, 9, 10, 13,
  14, 6, 5, 2, 1]
/-- The place of each device on the ring. -/
def place : List Nat := [0, 31, 30, 1, 2, 29, 28, 3, 7, 24, 25, 6, 5, 26, 27, 4, 8, 23, 22, 9, 10, 21, 20, 11, 15, 16, 17, 14,
  13, 18, 19, 12]

/-- The device at a place of the ring, places counted around it. -/
def devAt (k : Nat) : Dev nD := ⟨(order.getD (k % 32) 0) % 32, Nat.mod_lt _ (by decide)⟩
/-- The device's place. -/
def placeOf (c : Dev nD) : Nat := place.getD c.val 0

/-- The device whose block reaches `c` after `s` steps in direction `e`: blocks move to the next place in direction 0 and to
    the one before in direction 1. -/
def org (e : Fin 2) (s : Nat) (c : Dev nD) : Dev nD := if e = 0 then devAt (placeOf c + 64 - s) else devAt (placeOf c + s)
/-- The neighbour a device sends to in a direction. -/
def nx (e : Fin 2) (c : Dev nD) : Dev nD := if e = 0 then devAt (placeOf c + 1) else devAt (placeOf c + 31)
/-- The other direction. -/
def opp (e : Fin 2) : Fin 2 := 1 - e

theorem opp_opp : ∀ e, opp (opp e) = e := by decide
theorem nx_opp : ∀ (e : Fin 2) (c : Dev nD), nx (opp e) (nx e c) = c := by decide +kernel
theorem nx_opp' : ∀ (e : Fin 2) (c : Dev nD), nx e (nx (opp e) c) = c := by decide +kernel
theorem org_zero : ∀ (e : Fin 2) (c : Dev nD), org e 0 c = c := by decide +kernel
theorem org_succ : ∀ (e : Fin 2) (s : Fin 31) (c : Dev nD), org e (s.val + 1) (nx e c) = org e s.val c := by decide +kernel
theorem nx_ne : ∀ c : Dev nD, nx 0 c ≠ nx 1 c := by decide +kernel

/-! ## The schedule's table -/

/-- Word `j` of device `c`'s row of the table. -/
def ent (c : Dev nD) (j : Fin 35) : BitVec 32 :=
  lit0 ⟨35 * c.val + j.val, by have h : c.val < 32 := c.isLt; have := j.isLt; omega⟩

theorem ent_left : ∀ c : Dev nD, ent c 0 = Dev.word (nx 1 c) := by decide +kernel
theorem ent_right : ∀ c : Dev nD, ent c 1 = Dev.word (nx 0 c) := by decide +kernel
theorem ent_cw : ∀ (s : Fin 17) (c : Dev nD), ent c (jw s) = Dev.word (org 0 s.val c) := by decide +kernel
theorem ent_ccw : ∀ (s : Fin 16) (c : Dev nD), ent c (jc s) = Dev.word (org 1 s.val c) := by decide +kernel

/-! ## The side conditions hold of a device's word -/

theorem chk1_word : ∀ o : Dev nD, k0_chk1 (Dev.word o) := by decide +kernel
theorem chk2_word : ∀ o : Dev nD, k0_chk2 (Dev.word o) := by decide +kernel
theorem chkC_word : ∀ (h : Fin 2) (o : Dev nD), chkC h (Dev.word o) := by decide +kernel
theorem chkG_word : ∀ (h : Fin 2) (o : Dev nD), chkG h (Dev.word o) := by decide +kernel
theorem devL_word : ∀ o : Dev nD, devL (Dev.word o) (chk1_word o) = o := by decide +kernel
theorem devR_word : ∀ o : Dev nD, devR (Dev.word o) (chk2_word o) = o := by decide +kernel
theorem offC_word : ∀ (h : Fin 2) (o : Dev nD), offC h (Dev.word o) = ![o.val, h.val, 0, 0] := by decide +kernel
theorem offO_word : ∀ (h : Fin 2) (o : Dev nD), offO h (Dev.word o) = ![128 * o.val + 64 * h.val, 0] := by decide +kernel
theorem off5_word : ∀ o : Dev nD, k0_off5 o = ![128 * o.val, 0] := by decide +kernel
theorem off366_word : ∀ o : Dev nD, k0_off366 o = ![o.val, 0, 0] := by decide +kernel
theorem off367_word : ∀ o : Dev nD, k0_off367 o = ![o.val, 0, 0] := by decide +kernel

end Cert.KernelIdeal.Ring

end
-- ==== Proof.Sched.lean ====
/-
  The schedule of the exchange: the semaphore cells, what each copy and each signal hands over, what is owed, and the order in
  which a device may wait.
-/
module

public import proofs.«01_k».proof.Proof.Geo
public import proofs.«01_k».proof.Proof.Gen.KernelIdeal.Regions
public import Idealize.ShloMosaic.Lib.Pipeline.RegionTalk
public import Idealize.ShloMosaic.Lib.Pipeline.TalkSched
public import Idealize.ShloMosaic.Lib.Rounds
public import Idealize.ShloMosaic.Lib.Rounds.Family
public import Idealize.ShloMosaic.Lib.Transfers
public import Idealize.ShloMosaic.Lib.ValueLayout
public import Idealize.ShloMosaic.Lib.Tactic

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal Cert.KernelIdeal.Gen

variable {F : FTy → Type} [FloatOps F]

/-! ## The algebra -/

/-- The pipeline's own component, and the exchange's: a cell has at most two duties. -/
abbrev UU : Type := UR sig nD τ × URounds (GSem nD τ sig) (Fin 2)

/-- The resources of a run over the values `F`. -/
local notation "𝕄" => MT nD τ sig Unit (Elt F) ℕ UU ℕ

abbrev EP : Emb (UR sig nD τ) (MT nD τ sig Unit (Elt F) ℕ UU ℕ) := embL
abbrev ER : Emb (URounds (GSem nD τ sig) (Fin 2)) (MT nD τ sig Unit (Elt F) ℕ UU ℕ) := embR

/-! ## The buffers -/

abbrev xM : Memref sig .tc .vmem S128x4096 .bf16 := Memref.whole cc0_stg0_0
abbrev wM : Memref sig .tc .vmem S4096x64 .bf16 := Memref.whole cc0_stg1_0
abbrev tM : Memref sig .tc .smem S35 .i32 := Memref.whole cc0_stg2_0
abbrev oM : Memref sig .tc .vmem S4096x64 .f32 := Memref.whole cc0_stg3_0
abbrev cM : Memref sig .tc .vmem S32x2x64x4096 .bf16 := Memref.whole cc0_scratch0
abbrev aM : Memref sig .tc .vmem S32x8x128 .f32 := Memref.whole cc0_scratch1

/-- The slot of half `h` of device `o`'s block. -/
abbrev slotM (o : Dev nD) (h : Fin 2) : Memref sig .tc .vmem S64x4096 .bf16 := slot cM h (Dev.word o) (chkC_word h o)
/-- The slot of device `j`'s largest entry. -/
abbrev amM (j : Dev nD) : Memref sig .tc .vmem S8x128 .f32 := amx aM j

/-- What a block buffer, a buffer of maxima, a device's block, the weights and a result hold. -/
abbrev CBuf (F : FTy → Type) := (cc0_scratch0 : Ref sig .tc).ty.Contents (Elt F)
abbrev ABuf (F : FTy → Type) := (cc0_scratch1 : Ref sig .tc).ty.Contents (Elt F)
abbrev XBuf (F : FTy → Type) := (cc0_stg0_0 : Ref sig .tc).ty.Contents (Elt F)
abbrev WBuf (F : FTy → Type) := (cc0_stg1_0 : Ref sig .tc).ty.Contents (Elt F)
abbrev OBuf (F : FTy → Type) := (cc0_stg3_0 : Ref sig .tc).ty.Contents (Elt F)

/-- Half `h` of device `o`'s block, in its slot on device `c`. -/
def sl (c o : Dev nD) (h : Fin 2) (q : PosShare TreeShare) (f : CBuf F) : sProp 𝕄 :=
  (slotM o h).view.loc (c : Thread nD τ) ↦[(slotM o h).view.set]{q} f
/-- Device `j`'s largest entry, in its slot on device `c`. -/
def am (c j : Dev nD) (q : PosShare TreeShare) (f : ABuf F) : sProp 𝕄 :=
  (amM j).view.loc (c : Thread nD τ) ↦[(amM j).view.set]{q} f
/-- Half `h` of the device's own block. -/
def xs (c : Dev nD) (h : Fin 2) (q : PosShare TreeShare) (f : XBuf F) : sProp 𝕄 :=
  (xH xM h).view.loc (c : Thread nD τ) ↦[(xH xM h).view.set]{q} f

/-! ## The cells -/

/-- A ring copy: its direction, its distance and its half. -/
abbrev Q : Type := Fin 2 × Fin 16 × Fin 2

abbrev barS : Sem sig := (SemArray.scalar (sig.barrier 0 rfl) : Sems sig S_).sem

/-- The arrays of a direction's semaphores. -/
def sArr (e : Fin 2) : DmaSems sig S16x2 := if e = 0 then cc0_scratch2 else cc0_scratch4
def rArr (e : Fin 2) : DmaSems sig S16x2 := if e = 0 then cc0_scratch3 else cc0_scratch5

def sSem (q : Q) : DmaSem sig := semQ (sArr q.1) q.2.1 q.2.2
def rSem (q : Q) : DmaSem sig := semQ (rArr q.1) q.2.1 q.2.2
def asSem (d : Fin 31) : DmaSem sig := semA cc0_scratch6 d
def arSem (d : Fin 31) : DmaSem sig := semA cc0_scratch7 d

abbrev barCell (c : Dev nD) : GSem nD τ sig := ((c : Thread nD τ), .reg barS)
abbrev sCell (q : Q) (c : Dev nD) : GSem nD τ sig := ((c : Thread nD τ), .dma (sSem q))
abbrev rCell (q : Q) (c : Dev nD) : GSem nD τ sig := ((c : Thread nD τ), .dma (rSem q))
abbrev asCell (d : Fin 31) (c : Dev nD) : GSem nD τ sig := ((c : Thread nD τ), .dma (asSem d))
abbrev arCell (d : Fin 31) (c : Dev nD) : GSem nD τ sig := ((c : Thread nD τ), .dma (arSem d))

/-- What a semaphore is for. -/
inductive Tag where
  | bar
  | snd (q : Q)
  | rcv (q : Q)
  | asd (d : Fin 31)
  | arv (d : Fin 31)
  | none
  deriving DecidableEq

/-- The copy whose semaphore is number `n` of its array. -/
def qOf (e : Fin 2) (n : Nat) : Q := (e, ⟨n / 2 % 16, Nat.mod_lt _ (by decide)⟩, ⟨n % 2, Nat.mod_lt _ (by decide)⟩)

def tag : SemLoc sig → Tag
  | .reg _ => .bar
  | .dma n =>
    if n.val < 4 then .none else if n.val < 36 then .snd (qOf 0 (n.val - 4)) else if n.val < 68 then .rcv (qOf 0 (n.val - 36))
    else if n.val < 100 then .snd (qOf 1 (n.val - 68)) else if n.val < 132 then .rcv (qOf 1 (n.val - 100))
    else if n.val < 163 then .asd ⟨(n.val - 132) % 31, Nat.mod_lt _ (by decide)⟩
    else .arv ⟨(n.val - 163) % 31, Nat.mod_lt _ (by decide)⟩

theorem tag_bar : tag (.reg barS) = .bar := rfl
theorem tag_snd : ∀ q : Q, tag (.dma (sSem q)) = .snd q := by decide +kernel
theorem tag_rcv : ∀ q : Q, tag (.dma (rSem q)) = .rcv q := by decide +kernel
theorem tag_asd : ∀ d : Fin 31, tag (.dma (asSem d)) = .asd d := by decide +kernel
theorem tag_arv : ∀ d : Fin 31, tag (.dma (arSem d)) = .arv d := by decide +kernel

/-- The copies that are made: the last distance has one half in each direction. -/
abbrev used (q : Q) : Prop := q.2.1.val < 15 ∨ q.2.2 = q.1

/-! ## The values -/

variable (X : Dev nD → XBuf F) (Wt : Dev nD → WBuf F)

/-- Half `h` of device `o`'s block. -/
def xh (o : Dev nD) (h : Fin 2) : Vec F S64x4096 .bf16 := (xH xM h).view.read (Elt F) (X o)

/-- A block buffer once all blocks have arrived. -/
def G : CBuf F := fun i => xh X (i (0 : Fin 4)) (i (1 : Fin 4)) (ix2 (i (2 : Fin 4)) (i (3 : Fin 4)))

theorem slot_read (o : Dev nD) (h : Fin 2) : (slotM o h).view.read (Elt F) (G X) = xh X o h := by
  funext i
  obtain ⟨a, b, rfl⟩ : ∃ (a : Fin 64) (b : Fin 4096), i = ix2 a b := ⟨i 0, i 1, eq_ix2 i⟩
  rw [show (slotM o h).view.read (Elt F) (G X) = shapeCast S64x4096 (cM.view.readAt (Elt F)
      (Rect.unit (s := S32x2x64x4096) (offC h (Dev.word o)) S1x1x64x4096.size (chkC_word h o).1).toLoadRect (G X))
      shapeCasts_S1x1x64x4096_S64x4096 from Memref.read_squeeze_slice _ _ _ squeezes_S1x1x64x4096_S64x4096 _ _]
  show G X ((Rect.unit (s := S32x2x64x4096) (offC h (Dev.word o)) S1x1x64x4096.size (chkC_word h o).1).idx
    (Shape.reshapeEquiv shapeCasts_S1x1x64x4096_S64x4096 (ix2 a b))) = _
  rw [reshapeEquiv_ix2_11ab]
  have e : (Rect.unit (s := S32x2x64x4096) (offC h (Dev.word o)) S1x1x64x4096.size (chkC_word h o).1).idx
      (ix4 (⟨0, Nat.one_pos⟩ : Fin 1) (⟨0, Nat.one_pos⟩ : Fin 1) a b) = (ix4 (n0 := 32) (n1 := 2) o h a b : S32x2x64x4096.Idx) := by
    have hw := offC_word h o
    funext k
    apply Fin.ext
    refine (congrArg (· + 1 * _) (congrFun hw k)).trans ?_
    fin_cases k
    · show o.val + 1 * 0 = o.val; omega
    · show h.val + 1 * 0 = h.val; omega
    · show 0 + 1 * a.val = a.val; omega
    · show 0 + 1 * b.val = b.val; omega
  rw [e]
  rfl

/-- The device's own block and its weights, as the kernel loads them. -/
def xv (c : Dev nD) : Vec F S128x4096 .bf16 :=
  xM.view.readAt (Elt F) (Rect.unit (s := S128x4096) ![0, 0] S128x4096.size inb_S128x4096_S128x4096_0_0).toLoadRect (X c)
def wv (c : Dev nD) : Vec F S4096x64 .bf16 :=
  wM.view.readAt (Elt F) (Rect.unit (s := S4096x64) ![0, 0] S4096x64.size inb_S4096x64_S4096x64_0_0).toLoadRect (Wt c)
/-- A half block as the kernel loads it from its slot. -/
def chunk (k : Dev nD × Fin 2) : Vec F S1x1x64x4096 .bf16 :=
  cM.view.readAt (Elt F) (Rect.unit (s := S32x2x64x4096) (offC k.2 (Dev.word k.1)) S1x1x64x4096.size
    (chkG_word k.2 k.1).1).toLoadRect (G X)

/-- The device's own rows of the result, and the rows of a half block that arrived, before they are quantised. -/
def ownP (c : Dev nD) : FVec F S128x64 .f32 := own (xv X c) (wv Wt c)
def halfP (c : Dev nD) (k : Dev nD × Fin 2) : FVec F S64x64 .f32 := half (chunk X k) (wv Wt c)

/-- The largest entry so far, after the half blocks of a list (the last one first). -/
def accOf (c : Dev nD) : List (Dev nD × Fin 2) → F .f32
  | [] => ownMax (ownP X Wt c)
  | k :: ks => Scalar.maximumf (accOf c ks) (halfMax (halfP X Wt c k))

/-! ## The order of the copies -/

/-- The half block that a copy brings to device `c`. -/
def keyOf (c : Dev nD) (q : Q) : Dev nD × Fin 2 := (org q.1 (q.2.1.val + 1) c, q.2.2)

/-- The copies of `n` distances from distance `s` on, both directions and both halves. -/
def foursN : (n s : Nat) → s + n < 17 → List Q
  | 0, _, _ => []
  | n + 1, s, h => (0, ⟨s, by omega⟩, 0) :: (0, ⟨s, by omega⟩, 1) :: (1, ⟨s, by omega⟩, 0) :: (1, ⟨s, by omega⟩, 1) ::
    foursN n (s + 1) (by omega)

/-- All copies, in the order a device starts them. -/
def sendsL : List Q := foursN 15 0 (by decide) ++ [(0, 15, 0), (1, 15, 1)]
/-- The copies of one direction. -/
def sendsD (e : Fin 2) : List Q := sendsL.filter (fun q => q.1 = e)

theorem sendsL_nodup : sendsL.Nodup := by decide +kernel
theorem mem_sendsL : ∀ q : Q, q ∈ sendsL ↔ used q := by decide +kernel

/-- A device's largest entry over all of its columns. -/
def Mx (c : Dev nD) : F .f32 := accOf X Wt c (sendsL.map (keyOf c)).reverse
/-- A buffer of maxima once all of them have arrived. -/
def A : ABuf F := fun i => Mx X Wt (i (0 : Fin 3))

/-! ## What a copy and a signal hand over -/

/-- The device `d + 1` numbers after `c`, and the one before. -/
def tgt (d : Fin 31) (c : Dev nD) : Dev nD := ⟨(c.val + (d.val + 1)) % 32, Nat.mod_lt _ (by decide)⟩
def src (d : Fin 31) (t : Dev nD) : Dev nD := ⟨(t.val + (31 - d.val)) % 32, Nat.mod_lt _ (by decide)⟩

theorem src_tgt : ∀ (d : Fin 31) (c : Dev nD), src d (tgt d c) = c := by decide +kernel
theorem devAmt_tgt (d : Fin 31) (c : Dev nD) : (⟨devAmt d c, devAmt_lt d c⟩ : Dev nD) = tgt d c := Fin.ext (devAmt_eq d c)

/-- Device `t` is ready to hear the maxima. -/
def reachA (t : Dev nD) : sProp 𝕄 := bigSep Finset.univ fun d : Fin 31 => reached ER (arCell d t) 0
/-- Device `t`'s slot for the maximum of device `j`, to be written. -/
def amE (t j : Dev nD) : sProp 𝕄 := iprop((∃ f, am t j fullShare f) ∗ reachA t)

/-- The slots that go along with device `t`'s block in direction `e` to the devices at distance `s` and more. -/
def route (e : Fin 2) (s : Nat) (t : Dev nD) : sProp 𝕄 :=
  bigSepL (List.range' s (17 - e.val - s)) fun k => amE t (org (opp e) k t)

theorem route_succ (e : Fin 2) (s : Nat) (hs : s < 17 - e.val) (t : Dev nD) :
    (route e s t : sProp 𝕄) = iprop(amE t (org (opp e) s t) ∗ route e (s + 1) t) := by
  unfold route
  rw [show 17 - e.val - s = (17 - e.val - (s + 1)) + 1 by omega, List.range'_succ, bigSepL_cons']
theorem route_last (e : Fin 2) (t : Dev nD) (s : Nat) (hs : 17 - e.val ≤ s) : (route e s t : sProp 𝕄) = iprop(emp) := by
  unfold route
  rw [show 17 - e.val - s = 0 by omega]; rfl

/-- What goes along with a copy to device `n`. -/
def along (q : Q) (n : Dev nD) : sProp 𝕄 := if q.2.2 = 0 then route q.1 (q.2.1.val + 1) (org q.1 (q.2.1.val + 1) n) else iprop(emp)

def rcvPay (n : Dev nD) (q : Q) : sProp 𝕄 :=
  iprop(sl n (org q.1 (q.2.1.val + 1) n) q.2.2 fullShare (G X) ∗ along q n)

/-- The part of a device's own block that the first copies of a direction read. -/
def xq (e : Fin 2) : PosShare TreeShare := if e = 0 then fullShare.left.left else fullShare.left.right

def sndPay (c : Dev nD) (q : Q) : sProp 𝕄 :=
  if q.2.1 = 0 then xs c q.2.2 (xq q.1) (X c) else sl c (org q.1 q.2.1.val c) q.2.2 fullShare.left (G X)

/-- A slot that a copy of device `c` is to fill. -/
def dstE (c : Dev nD) (q : Q) : sProp 𝕄 :=
  iprop((∃ f, sl (nx q.1 c) (org q.1 q.2.1.val c) q.2.2 fullShare f) ∗ reached ER (rCell q (nx q.1 c)) 0)

def barPay (c : Dev nD) (e : Fin 2) : sProp 𝕄 := bigSepL (sendsD e) (dstE c)

def asPay (c : Dev nD) (d : Fin 31) : sProp 𝕄 := am c c (Transfers.shareTok fullShare 31 d) (A X Wt)
def arPay (t : Dev nD) (d : Fin 31) : sProp 𝕄 := am t (src d t) fullShare (A X Wt)

/-! ## The schedule -/

/-- What a ring copy and a maximum's copy credit. -/
def Nq : ℕ := (slotM 0 0).view.dmaCredit
def Na : ℕ := (amM 0).view.dmaCredit
theorem Nq_pos : 0 < Nq := View.dmaCredit_pos _ (by decide)
theorem Na_pos : 0 < Na := View.dmaCredit_pos _ (by decide)

def dutiesOf : Tag → Finset (Fin 2)
  | .bar => Finset.univ
  | .snd q => if used q then {0} else ∅
  | .rcv q => if used q then {0} else ∅
  | .asd _ => {0}
  | .arv _ => {0}
  | .none => ∅
def amountOf : Tag → ℕ
  | .bar => 1
  | .snd _ => Nq
  | .rcv _ => Nq
  | .asd _ => Na
  | .arv _ => Na
  | .none => 1
def payOf (c : Dev nD) (d : Fin 2) : Tag → sProp 𝕄
  | .bar => barPay c d
  | .snd q => sndPay X c q
  | .rcv q => rcvPay X c q
  | .asd i => asPay X Wt c i
  | .arv i => arPay X Wt c i
  | .none => iprop(emp)

theorem amountOf_pos : ∀ t, 0 < amountOf t
  | .bar => Nat.one_pos
  | .snd _ => Nq_pos
  | .rcv _ => Nq_pos
  | .asd _ => Na_pos
  | .arv _ => Na_pos
  | .none => Nat.one_pos

/-- Every cell is used for one round. -/
def rd : Rounds.Schedule (GSem nD τ sig) (Fin 2) 𝕄 where
  duties g r := if r = 0 ∧ g.1.2 = .tc then dutiesOf (tag g.2) else ∅
  unitless _ := False
  amount g _ _ := amountOf (tag g.2)
  payload g _ d := payOf X Wt g.1.1 d (tag g.2)
  amount_pos g _ _ _ := amountOf_pos _

instance storable_bigSepL {I : Type} (l : List I) (Φ : I → sProp 𝕄) [∀ i, BI.Storable (upEmb : UEmb _ 𝕄) (Φ i)] :
    BI.Storable (upEmb : UEmb _ 𝕄) (bigSepL l Φ) := by
  induction l with
  | nil => exact (inferInstance : BI.Storable (upEmb : UEmb _ 𝕄) (iprop(emp) : sProp 𝕄))
  | cons i l ih => rw [bigSepL_cons']; infer_instance

instance storable_reachA (t : Dev nD) : BI.Storable (upEmb : UEmb _ 𝕄) (reachA (F := F) t) := by unfold reachA; infer_instance
instance storable_amE (t j : Dev nD) : BI.Storable (upEmb : UEmb _ 𝕄) (amE (F := F) t j) := by unfold amE am; infer_instance
instance storable_along (q : Q) (n : Dev nD) : BI.Storable (upEmb : UEmb _ 𝕄) (along (F := F) q n) := by
  unfold along route; split <;> infer_instance
instance storable_dstE (c : Dev nD) (q : Q) : BI.Storable (upEmb : UEmb _ 𝕄) (dstE (F := F) c q) := by unfold dstE sl; infer_instance

instance storable_pay (g : GSem nD τ sig) (r : ℕ) (d : Fin 2) : BI.Storable (upEmb : UEmb _ 𝕄) ((rd X Wt).payload g r d) := by
  show BI.Storable upEmb (payOf X Wt g.1.1 d (tag g.2))
  cases tag g.2
  · show BI.Storable upEmb (barPay _ _); unfold barPay; infer_instance
  · show BI.Storable upEmb (sndPay _ _ _); unfold sndPay xs sl; split <;> infer_instance
  · show BI.Storable upEmb (rcvPay _ _ _); unfold rcvPay sl; infer_instance
  · show BI.Storable upEmb (asPay _ _ _ _); unfold asPay am; infer_instance
  · show BI.Storable upEmb (arPay _ _ _ _); unfold arPay am; infer_instance
  · show BI.Storable upEmb iprop(emp); infer_instance

section Facts

variable (c : Dev nD)

theorem duties_at (sm : SemLoc sig) : (rd X Wt).duties ((c : Thread nD τ), sm) 0 = dutiesOf (tag sm) := by
  show (if (0 : ℕ) = 0 ∧ (c : Thread nD τ).2 = .tc then dutiesOf (tag sm) else ∅) = _
  exact if_pos ⟨rfl, rfl⟩
theorem duties_later (g : GSem nD τ sig) : ∀ r, 1 ≤ r → (rd X Wt).duties g r = ∅ := fun r hr => if_neg fun h => by omega
theorem duties_none (g : GSem nD τ sig) (h : dutiesOf (tag g.2) = ∅) : ∀ r, 0 ≤ r → (rd X Wt).duties g r = ∅ := fun r _ => by
  show (if _ then _ else _) = _
  split
  · exact h
  · rfl

theorem duty_snd {q : Q} (h : used q) : (0 : Fin 2) ∈ (rd X Wt).duties (sCell q c) 0 := by
  rw [duties_at, tag_snd]; show (0 : Fin 2) ∈ (if used q then {0} else ∅); rw [if_pos h]; exact Finset.mem_singleton_self _
theorem duty_rcv {q : Q} (h : used q) : (0 : Fin 2) ∈ (rd X Wt).duties (rCell q c) 0 := by
  rw [duties_at, tag_rcv]; show (0 : Fin 2) ∈ (if used q then {0} else ∅); rw [if_pos h]; exact Finset.mem_singleton_self _
theorem duty_asd (d : Fin 31) : (0 : Fin 2) ∈ (rd X Wt).duties (asCell d c) 0 := by
  rw [duties_at, tag_asd]; exact Finset.mem_singleton_self _
theorem duty_arv (d : Fin 31) : (0 : Fin 2) ∈ (rd X Wt).duties (arCell d c) 0 := by
  rw [duties_at, tag_arv]; exact Finset.mem_singleton_self _
theorem duty_bar (e : Fin 2) : e ∈ (rd X Wt).duties (barCell c) 0 := by
  rw [duties_at, tag_bar]; exact Finset.mem_univ _

theorem amount_snd (q : Q) (r d) : (rd X Wt).amount (sCell q c) r d = Nq := by
  show amountOf (tag (.dma (sSem q))) = _; rw [tag_snd]; rfl
theorem amount_rcv (q : Q) (r d) : (rd X Wt).amount (rCell q c) r d = Nq := by
  show amountOf (tag (.dma (rSem q))) = _; rw [tag_rcv]; rfl
theorem amount_asd (d : Fin 31) (r k) : (rd X Wt).amount (asCell d c) r k = Na := by
  show amountOf (tag (.dma (asSem d))) = _; rw [tag_asd]; rfl
theorem amount_arv (d : Fin 31) (r k) : (rd X Wt).amount (arCell d c) r k = Na := by
  show amountOf (tag (.dma (arSem d))) = _; rw [tag_arv]; rfl
theorem amount_bar (r k) : (rd X Wt).amount (barCell c) r k = 1 := rfl

theorem payload_snd (q : Q) (r d) : (rd X Wt).payload (sCell q c) r d = sndPay X c q := by
  show payOf X Wt c d (tag (.dma (sSem q))) = _; rw [tag_snd]; rfl
theorem payload_rcv (q : Q) (r d) : (rd X Wt).payload (rCell q c) r d = rcvPay X c q := by
  show payOf X Wt c d (tag (.dma (rSem q))) = _; rw [tag_rcv]; rfl
theorem payload_asd (i : Fin 31) (r d) : (rd X Wt).payload (asCell i c) r d = asPay X Wt c i := by
  show payOf X Wt c d (tag (.dma (asSem i))) = _; rw [tag_asd]; rfl
theorem payload_arv (i : Fin 31) (r d) : (rd X Wt).payload (arCell i c) r d = arPay X Wt c i := by
  show payOf X Wt c d (tag (.dma (arSem i))) = _; rw [tag_arv]; rfl
theorem payload_bar (r d) : (rd X Wt).payload (barCell c) r d = barPay c d := rfl

/-- A cell with one duty: what a wait takes and what it gets. -/
theorem expect_one {sm : SemLoc sig} (h : dutiesOf (tag sm) = {0}) :
    (rd X Wt).expect ((c : Thread nD τ), sm) 0 = amountOf (tag sm) := by
  unfold Schedule.expect Schedule.amountOf
  rw [duties_at, h, Finset.sum_singleton]; rfl
theorem rest_one {sm : SemLoc sig} (h : dutiesOf (tag sm) = {0}) :
    bigSep ((rd X Wt).duties ((c : Thread nD τ), sm) 0 \ ∅) (fun d => (rd X Wt).payload ((c : Thread nD τ), sm) 0 d)
      = payOf X Wt c 0 (tag sm) := by
  rw [Finset.sdiff_empty, duties_at, h, bigSep_singleton]; rfl

theorem one_snd {q : Q} (h : used q) : dutiesOf (tag (.dma (sSem q))) = {0} := by rw [tag_snd]; exact if_pos h
theorem one_rcv {q : Q} (h : used q) : dutiesOf (tag (.dma (rSem q))) = {0} := by rw [tag_rcv]; exact if_pos h
theorem one_asd (d : Fin 31) : dutiesOf (tag (.dma (asSem d))) = {0} := by rw [tag_asd]; rfl
theorem one_arv (d : Fin 31) : dutiesOf (tag (.dma (arSem d))) = {0} := by rw [tag_arv]; rfl

theorem expect_snd {q : Q} (h : used q) : (rd X Wt).expect (sCell q c) 0 = Nq :=
  (expect_one X Wt c (one_snd h)).trans (congrArg amountOf (tag_snd q))
theorem rest_snd {q : Q} (h : used q) : bigSep ((rd X Wt).duties (sCell q c) 0 \ ∅) (fun d => (rd X Wt).payload (sCell q c) 0 d) = sndPay X c q :=
  (rest_one X Wt c (one_snd h)).trans (congrArg (payOf X Wt c 0) (tag_snd q))
theorem expect_rcv {q : Q} (h : used q) : (rd X Wt).expect (rCell q c) 0 = Nq :=
  (expect_one X Wt c (one_rcv h)).trans (congrArg amountOf (tag_rcv q))
theorem rest_rcv {q : Q} (h : used q) : bigSep ((rd X Wt).duties (rCell q c) 0 \ ∅) (fun d => (rd X Wt).payload (rCell q c) 0 d) = rcvPay X c q :=
  (rest_one X Wt c (one_rcv h)).trans (congrArg (payOf X Wt c 0) (tag_rcv q))
theorem expect_asd (d : Fin 31) : (rd X Wt).expect (asCell d c) 0 = Na :=
  (expect_one X Wt c (one_asd d)).trans (congrArg amountOf (tag_asd d))
theorem rest_asd (d : Fin 31) : bigSep ((rd X Wt).duties (asCell d c) 0 \ ∅) (fun k => (rd X Wt).payload (asCell d c) 0 k) = asPay X Wt c d :=
  (rest_one X Wt c (one_asd d)).trans (congrArg (payOf X Wt c 0) (tag_asd d))
theorem expect_arv (d : Fin 31) : (rd X Wt).expect (arCell d c) 0 = Na :=
  (expect_one X Wt c (one_arv d)).trans (congrArg amountOf (tag_arv d))
theorem rest_arv (d : Fin 31) : bigSep ((rd X Wt).duties (arCell d c) 0 \ ∅) (fun k => (rd X Wt).payload (arCell d c) 0 k) = arPay X Wt c d :=
  (rest_one X Wt c (one_arv d)).trans (congrArg (payOf X Wt c 0) (tag_arv d))
theorem expect_bar : (rd X Wt).expect (barCell c) 0 = 2 := by
  unfold Schedule.expect Schedule.amountOf
  rw [duties_at, tag_bar]; rfl
theorem rest_bar : bigSep ((rd X Wt).duties (barCell c) 0 \ ∅) (fun d => (rd X Wt).payload (barCell c) 0 d)
    = iprop(barPay c 0 ∗ barPay c 1) := by
  rw [Finset.sdiff_empty, duties_at, tag_bar]
  exact bigSep_fin_two (fun d : Fin 2 => (barPay c d : sProp 𝕄))

end Facts

/-! ## What is owed, and the levels -/

/-- The ring copies of a list still to be started, on top of what else is owed: each is owed to its receiver. -/
def owedL (O : CellTallies nD τ sig Unit) (c : Dev nD) : List Q → CellTallies nD τ sig Unit
  | [] => O
  | q :: l => owedL O c l + tallyAt (rCell q (nx q.1 c)) () Nq

/-- The maxima still to be sent. -/
def owedA (c : Dev nD) : List (Fin 31) → CellTallies nD τ sig Unit
  | [] => 0
  | d :: l => owedA c l + tallyAt (arCell d (tgt d c)) () Na

theorem owedL_append (O : CellTallies nD τ sig Unit) (c : Dev nD) (l l' : List Q) :
    owedL O c (l ++ l') = owedL (owedL O c l') c l := by
  induction l with
  | nil => rfl
  | cons q l ih => rw [List.cons_append, owedL, ih, owedL]

/-- What device `c` owes at launch: a signal to each neighbour, its ring copies, and its maximum. -/
def O₀ (c : Dev nD) : CellTallies nD τ sig Unit :=
  owedL (owedA c dists) c sendsL + tallyAt (barCell (nx 0 c)) () 1 + tallyAt (barCell (nx 1 c)) () 1

def L (g : GSem nD τ sig) : Finset Unit := if g.1.2 = .tc then {()} else ∅
def lvOf : Tag → ℕ
  | .bar => 1
  | .rcv q => q.2.1.val + 2
  | .arv _ => 40
  | _ => 0
def lv (g : GSem nD τ sig) (_ : Unit) : ℕ := lvOf (tag g.2)

theorem L_of_ne (g : GSem nD τ sig) (h : g.1.2 ≠ .tc) : L g = ∅ := if_neg h
theorem L_tc (c : Dev nD) (sm : SemLoc sig) : L ((c : Thread nD τ), sm) = {()} := if_pos rfl

/-- Everything owed is at a higher level than `b`. -/
def above (b : ℕ) (O : CellTallies nD τ sig Unit) : Prop := ∀ g i, 0 < O g i → i ∈ L g ∧ b < lv g i

theorem above_zero (b : ℕ) : above b 0 := fun _ _ h => absurd h (Nat.lt_irrefl 0)
theorem above_add {b : ℕ} {O O' : CellTallies nD τ sig Unit} (h : above b O) (h' : above b O') : above b (O + O') :=
  fun g i hp => by
    rw [Pi.add_apply, Finsupp.add_apply] at hp
    rcases Nat.add_pos_iff_pos_or_pos.mp hp with hp | hp
    · exact h g i hp
    · exact h' g i hp
theorem above_tally {b : ℕ} (c : Dev nD) (sm : SemLoc sig) (k : ℕ) (h : b < lvOf (tag sm)) :
    above b (tallyAt ((c : Thread nD τ), sm) () k) := fun g i hp => by
  obtain ⟨rfl, rfl⟩ := Pipeline.tallyAt_pos hp
  exact ⟨by rw [L_tc]; exact Finset.mem_singleton_self _, h⟩
theorem above_owedA (b : ℕ) (hb : b < 40) (c : Dev nD) (l : List (Fin 31)) : above b (owedA c l) := by
  induction l with
  | nil => exact above_zero b
  | cons d l ih => exact above_add ih (above_tally _ _ _ (by rw [tag_arv]; exact hb))
theorem above_owedL {b : ℕ} {O : CellTallies nD τ sig Unit} (hO : above b O) (c : Dev nD) (l : List Q)
    (hl : ∀ q ∈ l, b < q.2.1.val + 2) : above b (owedL O c l) := by
  induction l with
  | nil => exact hO
  | cons q l ih =>
    exact above_add (ih fun q' h => hl q' (List.mem_cons_of_mem _ h))
      (above_tally _ _ _ (by rw [tag_rcv]; exact hl q List.mem_cons_self))

/-- The levels of all cells. -/
@[irreducible] def levs : sProp 𝕄 := levAts L lv
instance levs_persistent : BI.Persistent (levs (F := F)) := by unfold levs; infer_instance

theorem mayWait {b : ℕ} (c : Dev nD) (sm : SemLoc sig) {O : CellTallies nD τ sig Unit} (hs : lvOf (tag sm) ≤ b) (hO : above b O) :
    (levs : sProp 𝕄) ⊢ MayWait (c : Thread nD τ) sm () O :=
  (Entails.of_eq (by unfold levs; rfl : (levs : sProp 𝕄) = levAts L lv)).trans <| MayOwe.of_cut (L := L) (lev := lv) b (fun p hp => by rw [Finset.mem_singleton.mp hp, L_tc]; exact Finset.mem_singleton_self _)
    (fun g u hg => (hO g u hg).1) (fun p hp => by rw [Finset.mem_singleton.mp hp]; exact hs) (fun g u hg => (hO g u hg).2)

end Cert.KernelIdeal.Ring

end
-- ==== Proof.Rules.lean ====
/-
  One rule for each kind of step of the body, at any device: reading a word of the schedule, starting a copy, waiting for
  one, and multiplying a half block.
-/
module

public import proofs.«01_k».proof.Proof.Sched
public import Idealize.ShloMosaic.Lib.ViewIndex

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal Cert.KernelIdeal.Gen

variable {F : FTy → Type} [FloatOps F]

local notation "𝕄" => MT nD τ sig Unit (Elt F) ℕ UU ℕ
local notation "Pg" F:max => Prog (TpuEff nD τ sig (Elt F) Λ₀ Proc.tc) PUnit

abbrev 𝒱₀ : Variants := Variants.none

/-- The program runs on device `c`, from here to its end. -/
abbrev run (c : Dev nD) (p : Prog (TpuEff nD τ sig (Elt F) Λ₀ Proc.tc) PUnit) (Kt : PUnit.{1} → sProp 𝕄) : sProp 𝕄 :=
  wp frame (wpE (defs₀ (F := F)) 𝒱₀ (c : Thread nD τ) none) Set.univ p Kt

/-! ## The elements under the views -/

theorem slot_set (o : Dev nD) (h : Fin 2) : (slotM o h).view.set
    = (Rect.unit (s := S32x2x64x4096) (offC h (Dev.word o)) S1x1x64x4096.size (chkC_word h o).1).set := by
  show ((cM.view.slice _).reshape _ _).set = _
  rw [View.set_reshape]; exact View.set_slice_whole _ _

theorem slot_load (o : Dev nD) (h : Fin 2) : cM.view.setOn
    (Rect.unit (s := S32x2x64x4096) (offC h (Dev.word o)) S1x1x64x4096.size (chkG_word h o).1).toLoadRect.set
      ⊆ (slotM o h).view.set := by
  rw [show (slotM o h).view.set = (cM.view.slice (Rect.unit (s := S32x2x64x4096) (offC h (Dev.word o)) S1x1x64x4096.size
    (chkC_word h o).1)).set from View.set_reshape _ _, View.set_slice]; exact subset_rfl

theorem am_set (j : Dev nD) : (amM j).view.set = (Rect.unit (s := S32x8x128) (k0_off367 j) S1x8x128.size (k0_off367_inb j)).set := by
  show ((aM.view.slice _).reshape _ _).set = _
  rw [View.set_reshape]; exact View.set_slice_whole _ _

/-- Contents that read the same through a view are the same on its elements. -/
theorem pts_congr_read {sp : Space} {s : Shape} {e : EltTy} (m : Memref sig .tc sp s e) (c : Dev nD) (q : PosShare TreeShare)
    {f g : Buf (Elt F) (m.view.loc (c : Thread nD τ))} (h : m.view.read (Elt F) f = m.view.read (Elt F) g) :
    (m.view.loc (c : Thread nD τ) ↦[m.view.set]{q} f : sProp 𝕄) = (m.view.loc (c : Thread nD τ) ↦[m.view.set]{q} g) :=
  pointsTo_congr fun i hi => by
    obtain ⟨x, -, rfl⟩ := Finset.mem_map.mp hi
    exact View.eq_of_read_eq (congrFun h x)

/-! ## What a device holds -/

/-- A device's row of the schedule's table. -/
def Tb (c : Dev nD) : (cc0_stg2_0 : Ref sig .tc).ty.Contents (Elt F) := fun i => ent c (i (0 : Fin 1))
def tPts (c : Dev nD) : sProp 𝕄 := tM.view.loc (c : Thread nD τ) ↦{fullShare} (Tb (F := F) c)

variable (X : Dev nD → XBuf F) (Wt : Dev nD → WBuf F)

def wPts (c : Dev nD) : sProp 𝕄 := wM.view.loc (c : Thread nD τ) ↦{fullShare} (Wt c)

/-- What device `c` owes, whatever it waited for. -/
def owesE (c : Dev nD) (O : CellTallies nD τ sig Unit) : sProp 𝕄 := iprop(∃ W, owes (c : Thread nD τ) O W)

/-- The cells of the exchange. -/
@[irreducible] def allCells : Finset (GSem nD τ sig) :=
  (Finset.univ : Finset (Dev nD)).biUnion fun c =>
    insert (barCell c) ((Finset.univ.filter fun n : DmaSem sig => 4 ≤ n.val).map
      ⟨fun n => ((c : Thread nD τ), .dma n), fun a b h => by injection (Prod.mk.inj h).2⟩)

theorem mem_bar (c : Dev nD) : barCell c ∈ allCells := by
  unfold allCells
  exact Finset.mem_biUnion.mpr ⟨c, Finset.mem_univ _, Finset.mem_insert_self _ _⟩
theorem mem_dma (c : Dev nD) (n : DmaSem sig) (h : 4 ≤ n.val) : ((c : Thread nD τ), SemLoc.dma n) ∈ allCells := by
  unfold allCells
  exact Finset.mem_biUnion.mpr ⟨c, Finset.mem_univ _, Finset.mem_insert_of_mem
    (Finset.mem_map_of_mem _ (Finset.mem_filter.mpr ⟨Finset.mem_univ _, h⟩))⟩

theorem sSem_own : ∀ q : Q, 4 ≤ (sSem q).val := by decide +kernel
theorem rSem_own : ∀ q : Q, 4 ≤ (rSem q).val := by decide +kernel
theorem asSem_own : ∀ d : Fin 31, 4 ≤ (asSem d).val := by decide +kernel
theorem arSem_own : ∀ d : Fin 31, 4 ≤ (arSem d).val := by decide +kernel

/-- What every device may consult: the cells' invariants and the levels. -/
def ctx (K : GSem nD τ sig → ℕ) : sProp 𝕄 := iprop((bigSep allCells fun g => cellInv ER (rd X Wt) (K g) g) ∗ levs)

instance ctx_persistent (K : GSem nD τ sig → ℕ) : BI.Persistent (ctx X Wt K) := by unfold ctx; infer_instance

variable (K : GSem nD τ sig → ℕ) (c : Dev nD) (Kt : PUnit.{1} → sProp (MT nD τ sig Unit (Elt F) ℕ UU ℕ))

theorem ctx_lev : ctx X Wt K ⊢ levs := by
  unfold ctx; iintro ⟨-, H⟩; iexact H
theorem inv_at {g : GSem nD τ sig} (hg : g ∈ allCells) :
    (bigSep allCells fun g => (cellInv ER (rd X Wt) (K g) g : sProp 𝕄)) ⊢ cellInv ER (rd X Wt) (K g) g := bigSep_elim hg
theorem ctx_at {g : GSem nD τ sig} (hg : g ∈ allCells) : ctx X Wt K ⊢ cellInv ER (rd X Wt) (K g) g := by
  unfold ctx
  iintro ⟨H, -⟩
  iapply (inv_at X Wt K hg); iexact H
theorem ctx_s (q : Q) : ctx X Wt K ⊢ cellInv ER (rd X Wt) (K (sCell q c)) (sCell q c) := ctx_at X Wt K (mem_dma c _ (sSem_own q))
theorem ctx_r (q : Q) : ctx X Wt K ⊢ cellInv ER (rd X Wt) (K (rCell q c)) (rCell q c) := ctx_at X Wt K (mem_dma c _ (rSem_own q))
theorem ctx_as (d : Fin 31) : ctx X Wt K ⊢ cellInv ER (rd X Wt) (K (asCell d c)) (asCell d c) := ctx_at X Wt K (mem_dma c _ (asSem_own d))
theorem ctx_ar (d : Fin 31) : ctx X Wt K ⊢ cellInv ER (rd X Wt) (K (arCell d c)) (arCell d c) := ctx_at X Wt K (mem_dma c _ (arSem_own d))
theorem ctx_bar : ctx X Wt K ⊢ cellInv ER (rd X Wt) (K (barCell c)) (barCell c) := ctx_at X Wt K (mem_bar c)

/-! ## The schedule's words -/

theorem wp_take {P : Prop} (d : Decidable P) (h : P) (k : P → Pg F) : run c (k h) Kt ⊢ run c (take P d k) Kt :=
  wp_assume (k := fun e => k e.down) 𝒱₀ (c : Thread nD τ) none Set.univ h

theorem wp_word (j : Fin 35) (k : BitVec 32 → Pg F) :
    iprop(tPts c ∗ (tPts c -∗ run c (k (ent c j)) Kt)) ⊢ run c (word tM j k) Kt := by
  have e : (tM.access (Rect.unit (s := S35) ![j.val] S1.size (inbS j))).read (Elt F) (Tb (F := F) c)
      (Shape.Idx.first (numel1_S1.symm ▸ Nat.one_pos)) = ent c j := by
    show ent c _ = ent c j
    congr 1
  unfold tPts
  iintro ⟨Ht, Hk⟩
  iapply (wp_smemLoadElt 𝒱₀ (c : Thread nD τ) none Set.univ (m := tM) (S := Finset.univ) (f := Tb (F := F) c)
    (Finset.subset_univ _)) $$ [Ht]
  · iexact Ht
  iintro Ht
  rw [e]
  iapply Hk
  iexact Ht

/-- The two slots of a copy that passes a block on: they are the same slot, on two devices. -/
abbrev EN (o : Dev nD) (h : Fin 2) : Ends := ⟨slotM o h, slotM o h,
  ((Memref.isWhole_whole cc0_scratch0).wordExact_slice rfl _ ((chkC_word h o).2.1 (chkC_word h o).1)).reshape _ _,
  ((Memref.isWhole_whole cc0_scratch0).wordExact_slice rfl _ ((chkC_word h o).2.1 (chkC_word h o).1)).reshape _ _⟩
/-- The two ends of a copy of the device's own block. -/
abbrev E0 (o : Dev nD) (h : Fin 2) : Ends := ⟨xH xM h, slotM o h,
  (Memref.isWhole_whole cc0_stg0_0).wordExact_slice rfl _ (wordsX h),
  ((Memref.isWhole_whole cc0_scratch0).wordExact_slice rfl _ ((chkC_word h o).2.1 (chkC_word h o).1)).reshape _ _⟩

theorem wp_hop (h : Fin 2) (j : Fin 35) (o : Dev nD) (hj : ent c j = Dev.word o) (k : Ends → Pg F) :
    iprop(tPts c ∗ (tPts c -∗ run c (k (EN o h)) Kt)) ⊢ run c (hop tM cM (Memref.isWhole_whole cc0_scratch0) h j k) Kt := by
  iintro ⟨Ht, Hk⟩
  iapply (wp_word c Kt j); isplitl [Ht]; · iexact Ht
  iintro Ht
  rw [hj]
  iapply (wp_take c Kt _ (chkC_word h o))
  iapply (wp_word c Kt j); isplitl [Ht]; · iexact Ht
  iintro Ht
  rw [hj]
  iapply (wp_take c Kt _ (chkC_word h o))
  iapply Hk
  iexact Ht

/-! ## Ring copies -/

/-- What device `c` needs to start copy `q`, besides the slot it fills. -/
def tokS (q : Q) : sProp 𝕄 :=
  iprop(dutyTok ER (sCell q c) 0 0 ∗ dutyTok ER (rCell q (nx q.1 c)) 0 0 ∗ reached ER (sCell q c) 0)
def sres (q : Q) : sProp 𝕄 := iprop(tokS c q ∗ dstE c q)
/-- What it needs to wait for the copy `q` that comes in. -/
def wres (q : Q) : sProp 𝕄 := iprop(cred (tallyAt (rCell q c) () Nq) ∗ atPos ER (rCell q c) 0 ∅ 0)
/-- What it needs to wait for its own copy `q` to have been read, and what it has then. -/
def cs (q : Q) : sProp 𝕄 := cred (tallyAt (sCell q c) () Nq)
def pend (q : Q) : sProp 𝕄 := iprop(cs c q ∗ atPos ER (sCell q c) 0 ∅ 0)
def back (q : Q) : sProp 𝕄 := iprop(atPos ER (sCell q c) 1 ∅ 0 ∗ sndPay X c q)

theorem org_next : ∀ (e : Fin 2) (s : Fin 16) (c : Dev nD), org e (s.val + 1) (nx e c) = org e s.val c := by decide +kernel

theorem wp_send {q : Q} (hu : used q) (e : Ends) (hd : e.dst = slotM (org q.1 q.2.1.val c) q.2.2) (p : PosShare TreeShare)
    (fs : Buf (Elt F) (e.src.view.loc (c : Thread nD τ)))
    (hr : e.src.view.read (Elt F) fs = xh X (org q.1 q.2.1.val c) q.2.2)
    (hpay : (e.src.view.loc (c : Thread nD τ) ↦[e.src.view.set]{p} fs : sProp 𝕄) ⊢ sndPay X c q)
    (O : CellTallies nD τ sig Unit) (l : List Q) (k : Pg F) :
    iprop(ctx X Wt K ∗ (e.src.view.loc (c : Thread nD τ) ↦[e.src.view.set]{p} fs) ∗ sres c q ∗ along q (nx q.1 c)
        ∗ owesE c (owedL O c (q :: l)) ∗ ((cs c q ∗ owesE c (owedL O c l)) -∗ run c k Kt))
      ⊢ run c (send e (nx q.1 c) (sSem q) (rSem q) k) Kt := by
  obtain ⟨src, dst, hs, hdx⟩ := e
  dsimp only at hd hr hpay fs ⊢
  subst hd
  unfold sres tokS dstE owesE sl cs
  iintro ⟨#Hc, Hsrc, ⟨⟨HtS, HtR, #HrS⟩, ⟨%fd, Hdst⟩, #HrR⟩, Hal, ⟨%W, HO⟩, Hk⟩
  iapply (Rounds.wp_send_pointsTo_with 𝒱₀ ER (rd X Wt) (c : Thread nD τ) none (c' := (nx q.1 c : Thread nD τ)) (src := src)
      (dst := slotM (org q.1 q.2.1.val c) q.2.2) (sS := .dma (sSem q)) (sem := .dma (rSem q)) (q := p) (fs := fs)
      (κ₁ := K (sCell q c)) (κ₂ := K (rCell q (nx q.1 c))) (r₁ := 0) (r₂ := 0) (d₁ := 0) (d₂ := 0) (fd := fd)
      (F := along q (nx q.1 c)) (duty_snd X Wt c hu) (duty_rcv X Wt (nx q.1 c) hu) () () Nq rfl (amount_snd X Wt c q 0 0)
      (amount_rcv X Wt (nx q.1 c) q 0 0) (owedL O c l) rfl (W := W)
      (by rw [payload_snd]; exact hpay)
      (by
        rw [payload_rcv]; unfold rcvPay sl
        rw [org_next, pts_congr_read (slotM (org q.1 q.2.1.val c) q.2.2) (nx q.1 c) fullShare
          ((View.read_write_univ _ _).trans (hr.trans (slot_read X _ _).symm))]))
    $$ [Hsrc Hdst Hal HO HtS HtR]
  · isplitr; · iapply (ctx_s X Wt K c q); iexact Hc
    isplitr; · iapply (ctx_r X Wt K (nx q.1 c) q); iexact Hc
    isplitl [Hsrc]; · iexact Hsrc
    isplitl [Hdst Hal]
    · isplitl [Hdst]; · iexact Hdst
      iexact Hal
    isplitl [HO]; · iexact HO
    isplitl [HtS]; · iexact HtS
    isplitr; · iexact HrS
    isplitl [HtR]; · iexact HtR
    iexact HrR
  iintro ⟨Hcr, HO⟩
  iapply Hk
  isplitl [Hcr]; · iexact Hcr
  iexists W; iexact HO

/-- Wait for copy `q` to come in. -/
theorem wp_waitR {q : Q} (hu : used q) (e : Ends) (hN : e.dst.view.dmaCredit = Nq) {O : CellTallies nD τ sig Unit}
    (hO : above (q.2.1.val + 2) O) (k : Pg F) :
    iprop(ctx X Wt K ∗ wres c q ∗ owesE c O
        ∗ ((owesE c O ∗ atPos ER (rCell q c) 1 ∅ 0 ∗ rcvPay X c q) -∗ run c k Kt))
      ⊢ run c (waitR e (rSem q) k) Kt := by
  have hl : lvOf (tag (.dma (rSem q))) ≤ q.2.1.val + 2 := by rw [tag_rcv]; exact Nat.le_refl (q.2.1.val + 2)
  have hm := mayWait (F := F) c (.dma (rSem q)) hl hO
  have hm' : ctx X Wt K ⊢ MayWait (c : Thread nD τ) (.dma (rSem q)) () O := (ctx_lev X Wt K).trans hm
  unfold wres owesE
  iintro ⟨#Hc, ⟨Hcr, Hat⟩, ⟨%W, HO⟩, Hk⟩
  iapply (Rounds.wp_wait_rest_token 𝒱₀ ER (rd X Wt) (c : Thread nD τ) none (κ := K (rCell q c))
      (wpE_waitDma2_eq 𝒱₀ (c : Thread nD τ) none Set.univ) (Set.mem_univ _) () (O := O) (W := W) (R := 0) (m := 0) (T := ∅)
      ((Nat.zero_add _).trans (hN.trans (expect_rcv X Wt c hu).symm))) $$ [Hcr HO Hat]
  · isplitr; · iapply (ctx_r X Wt K c q); iexact Hc
    isplitl [Hcr]; · rw [hN]; iexact Hcr
    isplitl [HO]; · iexact HO
    isplitr
    · ihave Hm := hm' $$ Hc
      iexact Hm
    iexact Hat
  iintro ⟨HO, Hat, -, Hpay⟩
  ihave Hp := (Entails.of_eq (rest_rcv X Wt c hu)) $$ Hpay
  iapply Hk
  isplitl [HO]; · iexists _; iexact HO
  isplitl [Hat]; · iexact Hat
  iexact Hp

/-- Wait for the own copy `q` to have been read, with nothing left to pay. -/
theorem wp_waitS {q : Q} (hu : used q) (e : Ends) (hN : e.src.view.dmaCredit = Nq) (k : Pg F) :
    iprop(ctx X Wt K ∗ pend c q ∗ owesE c 0 ∗ ((owesE c 0 ∗ back X c q) -∗ run c k Kt))
      ⊢ run c (waitS e (sSem q) k) Kt := by
  unfold pend owesE back cs
  iintro ⟨#Hc, ⟨Hcr, Hat⟩, ⟨%W, HO⟩, Hk⟩
  iapply (Rounds.wp_wait_rest_token 𝒱₀ ER (rd X Wt) (c : Thread nD τ) none (κ := K (sCell q c))
      (wpE_waitDma2_eq 𝒱₀ (c : Thread nD τ) none Set.univ) (Set.mem_univ _) () (O := 0) (W := W) (R := 0) (m := 0) (T := ∅)
      ((Nat.zero_add _).trans (hN.trans (expect_snd X Wt c hu).symm))) $$ [Hcr HO Hat]
  · isplitr; · iapply (ctx_s X Wt K c q); iexact Hc
    isplitl [Hcr]; · rw [hN]; iexact Hcr
    isplitl [HO]; · iexact HO
    isplitr; · rw [MayWait_zero]; iempintro
    iexact Hat
  iintro ⟨HO, Hat, -, Hpay⟩
  ihave Hp := (Entails.of_eq (rest_snd X Wt c hu)) $$ Hpay
  iapply Hk
  isplitl [HO]; · iexists _; iexact HO
  isplitl [Hat]; · iexact Hat
  iexact Hp

/-! ## The result's rows -/

/-- The rows of the own block hold its product, and the rows of every half block of the list hold theirs. -/
def Fits (ks : List (Dev nD × Fin 2)) (f : OBuf F) : Prop :=
  oM.view.readAt (Elt F) (Rect.unit (s := S4096x64) (k0_off5 c) S128x64.size (k0_off5_inb c)).toLoadRect f = ownP X Wt c ∧
  ∀ k ∈ ks, k.1 ≠ c ∧ oM.view.readAt (Elt F) (Rect.unit (s := S4096x64) (offO k.2 (Dev.word k.1)) S64x64.size
    (chkG_word k.2 k.1).2).toLoadRect f = halfP X Wt c k

def oPts (ks : List (Dev nD × Fin 2)) : sProp 𝕄 := iprop(∃ f, ⌜Fits X Wt c ks f⌝ ∗ oM.view.loc (c : Thread nD τ) ↦{fullShare} f)

/-- Storing one more half block keeps the rest. -/
theorem fits_cons {ks : List (Dev nD × Fin 2)} {f : OBuf F} (hf : Fits X Wt c ks f) (k : Dev nD × Fin 2) (hk : k.1 ≠ c) :
    Fits X Wt c (k :: ks) ((oM.access (Rect.unit (s := S4096x64) (offO k.2 (Dev.word k.1)) S64x64.size (chkG_word k.2 k.1).2)).write
      (Elt F) f (halfP X Wt c k) Finset.univ) := by
  refine ⟨?_, fun k' hk' => ?_⟩
  · refine Eq.trans ?_ hf.1
    rw [View.readAt_rect, View.readAt_rect]
    refine View.read_slice_write_slice_of_disjoint _ _ _ _ _ (View.disjoint_slice (Rect.unit_disjoint (0 : Fin 2) ?_))
    rw [off5_word, offO_word]
    have hne : k.1.val ≠ c.val := fun h => hk (Fin.ext h)
    have := k.2.isLt
    show 128 * c.val + 128 ≤ 128 * k.1.val + 64 * k.2.val ∨ 128 * k.1.val + 64 * k.2.val + 64 ≤ 128 * c.val
    omega
  · by_cases h : k' = k
    · subst h
      exact ⟨hk, by rw [View.readAt_rect]; exact View.read_write_univ _ _⟩
    · have hm := hf.2 k' ((List.mem_cons.mp hk').resolve_left h)
      refine ⟨hm.1, Eq.trans ?_ hm.2⟩
      rw [View.readAt_rect, View.readAt_rect]
      refine View.read_slice_write_slice_of_disjoint _ _ _ _ _ (View.disjoint_slice (Rect.unit_disjoint (0 : Fin 2) ?_))
      rw [offO_word, offO_word]
      have hne : k'.1.val ≠ k.1.val ∨ k'.2.val ≠ k.2.val := by
        by_contra hc
        push Not at hc
        exact h (Prod.ext (Fin.ext hc.1) (Fin.ext hc.2))
      have := k.2.isLt
      have := k'.2.isLt
      show 128 * k'.1.val + 64 * k'.2.val + 64 ≤ 128 * k.1.val + 64 * k.2.val ∨
        128 * k.1.val + 64 * k.2.val + 64 ≤ 128 * k'.1.val + 64 * k'.2.val
      omega

/-- Multiply the half block `key`, held with any share. -/
theorem wp_gemm (key : Dev nD × Fin 2) (j : Fin 35) (hj : ent c j = Dev.word key.1) (hk : key.1 ≠ c) (p : PosShare TreeShare)
    (ks : List (Dev nD × Fin 2)) (k : F .f32 → Pg F) :
    iprop(tPts c ∗ wPts Wt c ∗ oPts X Wt c ks ∗ sl c key.1 key.2 p (G X)
        ∗ ((tPts c ∗ wPts Wt c ∗ oPts X Wt c (key :: ks) ∗ sl c key.1 key.2 p (G X)) -∗ run c (k (accOf X Wt c (key :: ks))) Kt))
      ⊢ run c (gemm wM tM oM cM key.2 j (accOf X Wt c ks) k) Kt := by
  unfold wPts oPts sl
  iintro ⟨Ht, Hw, ⟨%f, %hf, Ho⟩, Hs, Hk⟩
  iapply (wp_word c Kt j); isplitl [Ht]; · iexact Ht
  iintro Ht
  rw [hj]
  iapply (wp_take c Kt _ (chkG_word key.2 key.1))
  iapply (wp_load 𝒱₀ (c : Thread nD τ) none Set.univ (m := cM) (S := (slotM key.1 key.2).view.set) (q := p) (f := G X)
    (slot_load key.1 key.2)) $$ [Hs]
  · iexact Hs
  iintro Hs
  iapply (wp_load 𝒱₀ (c : Thread nD τ) none Set.univ (m := wM) (S := Finset.univ) (q := fullShare) (f := Wt c)
    (Finset.subset_univ _)) $$ [Hw]
  · iexact Hw
  iintro Hw
  iapply (wp_load 𝒱₀ (c : Thread nD τ) none Set.univ (m := oM) (S := Finset.univ) (q := fullShare) (f := f)
    (Finset.subset_univ _)) $$ [Ho]
  · iexact Ho
  iintro Ho
  iapply (wp_store 𝒱₀ (c : Thread nD τ) none Set.univ (m := oM) (S := Finset.univ) (f := f) (Finset.subset_univ _)) $$ [Ho]
  · iexact Ho
  iintro Ho
  iapply Hk
  isplitl [Ht]; · iexact Ht
  isplitl [Hw]; · iexact Hw
  isplitl [Ho]
  · iexists _
    isplitr; · ipureintro; exact fits_cons X Wt c hf key hk
    iexact Ho
  iexact Hs

end Cert.KernelIdeal.Ring

end
-- ==== Proof.Steps.lean ====
/-
  The ring steps: from the rules of single steps, the rule of one step of the ring, of all of them by induction on the
  distance, and of the last distances.
-/
module

public import proofs.«01_k».proof.Proof.Rules

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal Cert.KernelIdeal.Gen

variable {F : FTy → Type} [FloatOps F]

local notation "𝕄" => MT nD τ sig Unit (Elt F) ℕ UU ℕ
local notation "Pg" F:max => Prog (TpuEff nD τ sig (Elt F) Λ₀ Proc.tc) PUnit

variable (X : Dev nD → XBuf F) (Wt : Dev nD → WBuf F) (K : GSem nD τ sig → ℕ) (c : Dev nD)
  (Kt : PUnit.{1} → sProp (MT nD τ sig Unit (Elt F) ℕ UU ℕ))

/-! ## What a copy that came in leaves behind -/

/-- The slot for the own maximum on the device whose block came in: it comes with the first half. -/
def extra (q : Q) : sProp 𝕄 := if q.2.2 = 0 then amE (org q.1 (q.2.1.val + 1) c) c else iprop(emp)

/-- A copy that came in, with the share `p` of its slot. -/
def got (p : PosShare TreeShare) (q : Q) : sProp 𝕄 :=
  iprop(atPos ER (rCell q c) 1 ∅ 0 ∗ sl c (org q.1 (q.2.1.val + 1) c) q.2.2 p (G X) ∗ extra c q)

theorem org_head : ∀ (e : Fin 2) (s : Fin 16) (c : Dev nD), org (opp e) (s.val + 1) (org e (s.val + 1) c) = c := by decide +kernel
theorem org_ne : ∀ (e : Fin 2) (s : Fin 16) (c : Dev nD), org e (s.val + 1) c ≠ c := by decide +kernel
theorem org_last : ∀ c : Dev nD, org 0 16 c = org 1 16 c := by decide +kernel

/-- What came along with a copy: the slot for the own maximum, and the rest for the copy that passes the block on. -/
theorem along_split (e h : Fin 2) (s : Fin 16) (s' : Fin 16) (hs : s'.val = s.val + 1) :
    along (F := F) (e, s, h) c ⊢ iprop(extra c (e, s, h) ∗ along (e, s', h) (nx e c)) := by
  unfold along extra
  dsimp only
  by_cases hh : h = 0
  · rw [if_pos hh, if_pos hh, if_pos hh, org_next e s' c, hs, route_succ e (s.val + 1) (by have := s'.isLt; have := e.isLt; omega),
      org_head]
  · rw [if_neg hh, if_neg hh, if_neg hh]
    iintro -
    isplitr <;> iempintro

/-- The same for a copy that is the last of its direction: nothing more is to be passed on. -/
theorem along_end (e h : Fin 2) (s : Fin 16) (hs : h = 0 → 16 - e.val ≤ s.val + 1 ∧ s.val + 1 < 17 - e.val) :
    along (F := F) (e, s, h) c ⊢ extra c (e, s, h) := by
  unfold along extra
  dsimp only
  by_cases hh : h = 0
  · rw [if_pos hh, if_pos hh, route_succ e (s.val + 1) (hs hh).2, route_last e _ _ (by have := hs hh; omega), org_head]
    iintro ⟨H, -⟩; iexact H
  · rw [if_neg hh, if_neg hh]

theorem sl_halves (o : Dev nD) (h : Fin 2) (f : CBuf F) :
    (sl c o h fullShare f : sProp 𝕄) ⊣⊢ iprop(sl c o h fullShare.left f ∗ sl c o h fullShare.right f) :=
  pointsTo_share (PosShare.mem_left_op_right fullShare)

theorem ent0 (s : Nat) (hs : s + 1 < 17) : ent c ⟨2 + (s + 1), by omega⟩ = Dev.word (org 0 (s + 1) c) := ent_cw ⟨s + 1, hs⟩ c
theorem ent1 (s : Nat) (hs : s + 1 < 16) : ent c ⟨19 + (s + 1), by omega⟩ = Dev.word (org 1 (s + 1) c) := ent_ccw ⟨s + 1, hs⟩ c

/-- The copy's destination credits what every ring copy does. -/
abbrev okD (E : Ends) : Prop := E.dst.view.dmaCredit = Nq
abbrev okS (E : Ends) : Prop := E.src.view.dmaCredit = Nq
theorem okD_EN (o : Dev nD) (h : Fin 2) : okD (EN o h) := rfl
theorem okS_EN (o : Dev nD) (h : Fin 2) : okS (EN o h) := rfl
theorem okD_E0 (o : Dev nD) (h : Fin 2) : okD (E0 o h) := rfl
theorem okS_E0 (o : Dev nD) (h : Fin 2) : okS (E0 o h) := rfl

/-! ## Passing a block on -/

theorem xq_read (h : Fin 2) : (xH xM h).view.read (Elt F) (X c) = xh X c h := rfl

/-- Start the copy that passes on a block whose slot is held whole: the right half of the slot stays. -/
theorem wp_pass (e h : Fin 2) (s s' : Fin 16) (hs : s'.val = s.val + 1) (hu' : used (e, s', h)) (O : CellTallies nD τ sig Unit)
    (l : List Q) (k : Pg F) :
    iprop(ctx X Wt K ∗ sl c (org e (s.val + 1) c) h fullShare (G X) ∗ along (e, s, h) c ∗ sres c (e, s', h)
        ∗ owesE c (owedL O c ((e, s', h) :: l))
        ∗ ((cs c (e, s', h) ∗ owesE c (owedL O c l) ∗ sl c (org e (s.val + 1) c) h fullShare.right (G X) ∗ extra c (e, s, h))
          -∗ run c k Kt))
      ⊢ run c (send (EN (org e (s.val + 1) c) h) (nx e c) (sSem (e, s', h)) (rSem (e, s', h)) k) Kt := by
  iintro ⟨#Hc, Hsl, Hal, Hsr, HO, Hk⟩
  ihave Hal := (along_split c e h s s' hs) $$ Hal
  icases Hal with ⟨Hex, Hal⟩
  ihave Hsl := (sl_halves c (org e (s.val + 1) c) h (G X)).1 $$ Hsl
  icases Hsl with ⟨HL, HR⟩
  iapply (wp_send X Wt K c Kt hu' (EN (org e (s.val + 1) c) h) (by dsimp only; rw [hs]) fullShare.left (G X)
    (by dsimp only; rw [hs]; exact slot_read X _ _)
    (by
      unfold sndPay; dsimp only
      rw [if_neg (fun h0 => by rw [h0] at hs; exact absurd hs (by simp)), hs]
      unfold sl; exact .rfl) O l k)
  isplitr; · iexact Hc
  isplitl [HL]; · unfold sl; iexact HL
  isplitl [Hsr]; · iexact Hsr
  isplitl [Hal]; · iexact Hal
  isplitl [HO]; · iexact HO
  iintro ⟨Hcs, HO⟩
  iapply Hk
  isplitl [Hcs]; · iexact Hcs
  isplitl [HO]; · iexact HO
  isplitl [HR]; · iexact HR
  iexact Hex

/-- What a device keeps to multiply with. -/
def mul (ks : List (Dev nD × Fin 2)) : sProp 𝕄 := iprop(tPts c ∗ wPts Wt c ∗ oPts X Wt c ks)

/-- Multiply the half block that copy `q` brought. -/
theorem wp_mul (q : Q) (j : Fin 35) (hj : ent c j = Dev.word (org q.1 (q.2.1.val + 1) c)) (p : PosShare TreeShare)
    (ks : List (Dev nD × Fin 2)) (k : F .f32 → Pg F) :
    iprop(mul X Wt c ks ∗ sl c (org q.1 (q.2.1.val + 1) c) q.2.2 p (G X)
        ∗ ((mul X Wt c (keyOf c q :: ks) ∗ sl c (org q.1 (q.2.1.val + 1) c) q.2.2 p (G X))
          -∗ run c (k (accOf X Wt c (keyOf c q :: ks))) Kt))
      ⊢ run c (gemm wM tM oM cM q.2.2 j (accOf X Wt c ks) k) Kt := by
  unfold mul
  iintro ⟨⟨Ht, Hw, Ho⟩, Hs, Hk⟩
  iapply (wp_gemm X Wt c Kt (keyOf c q) j hj (org_ne _ _ _) p ks k)
  isplitl [Ht]; · iexact Ht
  isplitl [Hw]; · iexact Hw
  isplitl [Ho]; · iexact Ho
  isplitl [Hs]; · iexact Hs
  iintro ⟨Ht, Hw, Ho, Hs⟩
  iapply Hk
  isplitr [Hs]
  · isplitl [Ht]; · iexact Ht
    isplitl [Hw]; · iexact Hw
    iexact Ho
  iexact Hs

/-- A word of the schedule's two, then the copy's ends. -/
theorem wp_hop' (h : Fin 2) (j : Fin 35) (o : Dev nD) (hj : ent c j = Dev.word o) (ks : List (Dev nD × Fin 2)) (k : Ends → Pg F) :
    iprop(mul X Wt c ks ∗ (mul X Wt c ks -∗ run c (k (EN o h)) Kt)) ⊢ run c (hop tM cM (Memref.isWhole_whole cc0_scratch0) h j k) Kt := by
  unfold mul
  iintro ⟨⟨Ht, Hw, Ho⟩, Hk⟩
  iapply (wp_hop c Kt h j o hj)
  isplitl [Ht]; · iexact Ht
  iintro Ht
  iapply Hk
  isplitl [Ht]; · iexact Ht
  isplitl [Hw]; · iexact Hw
  iexact Ho

/-- One half of one ring step. -/
theorem wp_step (e h : Fin 2) (s s' : Fin 16) (hs : s'.val = s.val + 1) (hu : used (e, s, h)) (hu' : used (e, s', h)) (j : Fin 35)
    (hj : ent c j = Dev.word (org e (s.val + 1) c)) (E : Ends) (hE : okD E) (O : CellTallies nD τ sig Unit) (l : List Q)
    (hO : above (s.val + 2) (owedL O c ((e, s', h) :: l))) (ks : List (Dev nD × Fin 2)) (k : Ends → F .f32 → Pg F) :
    iprop(ctx X Wt K ∗ mul X Wt c ks ∗ owesE c (owedL O c ((e, s', h) :: l)) ∗ wres c (e, s, h) ∗ sres c (e, s', h)
        ∗ ((mul X Wt c (keyOf c (e, s, h) :: ks) ∗ owesE c (owedL O c l) ∗ cs c (e, s', h) ∗ got X c fullShare.right (e, s, h))
          -∗ run c (k (EN (org e (s.val + 1) c) h) (accOf X Wt c (keyOf c (e, s, h) :: ks))) Kt))
      ⊢ run c (step wM tM oM cM (Memref.isWhole_whole cc0_scratch0) (sArr e) (rArr e) (nx e c) s s' h j E (accOf X Wt c ks) k) Kt := by
  unfold step
  iintro ⟨#Hc, Hm, HO, Hwr, Hsr, Hk⟩
  iapply (wp_waitR X Wt K c Kt hu E hE hO)
  isplitr; · iexact Hc
  isplitl [Hwr]; · iexact Hwr
  isplitl [HO]; · iexact HO
  iintro ⟨HO, Hat, Hp⟩
  unfold rcvPay
  icases Hp with ⟨Hsl, Hal⟩
  iapply (wp_hop' X Wt c Kt h j _ hj ks)
  isplitl [Hm]; · iexact Hm
  iintro Hm
  iapply (wp_pass X Wt K c Kt e h s s' hs hu' O l)
  isplitr; · iexact Hc
  isplitl [Hsl]; · iexact Hsl
  isplitl [Hal]; · iexact Hal
  isplitl [Hsr]; · iexact Hsr
  isplitl [HO]; · iexact HO
  iintro ⟨Hcs, HO, Hsl, Hex⟩
  iapply (wp_mul X Wt c Kt (e, s, h) j hj fullShare.right ks)
  isplitl [Hm]; · iexact Hm
  isplitl [Hsl]; · iexact Hsl
  iintro ⟨Hm, Hsl⟩
  iapply Hk
  isplitl [Hm]; · iexact Hm
  isplitl [HO]; · iexact HO
  isplitl [Hcs]; · iexact Hcs
  unfold got
  isplitl [Hat]; · iexact Hat
  isplitl [Hsl]; · iexact Hsl
  iexact Hex

/-! ## All ring steps -/

/-- The copies started so far, with what each is waited for with. -/
abbrev Okl (l : List Sent) (D : List Q) : Prop := List.Forall₂ (fun (x : Sent) (q : Q) => x.1 = sSem q ∧ okS x.2 ∧ used q) l D

theorem okl_cons (q : Q) (o : Dev nD) (h : Fin 2) (hu : used q) {l : List Sent} {D : List Q} (hl : Okl l D) :
    Okl ((sSem q, EN o h) :: l) (q :: D) := .cons ⟨rfl, okS_EN o h, hu⟩ hl

theorem mem_foursN (n s : Nat) (h : s + n < 17) {q : Q} (hq : q ∈ foursN n s h) : s ≤ q.2.1.val ∧ q.2.1.val < s + n := by
  induction n generalizing s with
  | zero => exact absurd hq (List.not_mem_nil)
  | succ n ih =>
    rw [foursN] at hq
    simp only [List.mem_cons] at hq
    rcases hq with rfl | rfl | rfl | rfl | hq
    · exact ⟨le_rfl, by dsimp only; omega⟩
    · exact ⟨le_rfl, by dsimp only; omega⟩
    · exact ⟨le_rfl, by dsimp only; omega⟩
    · exact ⟨le_rfl, by dsimp only; omega⟩
    · have := ih (s + 1) (by omega) hq; omega

/-- What is owed from a distance on is above the wait for the distance before. -/
theorem above_from (b : Nat) (hb : b < 40) (l : List Q) (hl : ∀ q ∈ l, b < q.2.1.val + 2) : above b (owedL (owedA c dists) c l) :=
  above_owedL (above_owedA b hb c dists) c l hl

/-- The keys of a list of copies, the last one first, in front of the ones before. -/
abbrev keysOn (l : List Q) (ks : List (Dev nD × Fin 2)) : List (Dev nD × Fin 2) := (l.map (keyOf c)).reverse ++ ks

theorem keysOn_cons (q : Q) (l : List Q) (ks : List (Dev nD × Fin 2)) : keysOn c (q :: l) ks = keysOn c l (keyOf c q :: ks) := by
  unfold keysOn
  rw [List.map_cons, List.reverse_cons, List.append_assoc, List.singleton_append]

/-- What the ring steps start from: the list of copies to come in, the ones to start, and the ones owed after those. -/
def ringPre (lw lr R : List Q) (ks : List (Dev nD × Fin 2)) : sProp 𝕄 :=
  iprop(mul X Wt c ks ∗ owesE c (owedL (owedA c dists) c (lr ++ R)) ∗ bigSepL lw (wres c) ∗ bigSepL lr (sres c))
/-- And what they leave. -/
def ringPost (lw lr R : List Q) (ks : List (Dev nD × Fin 2)) : sProp 𝕄 :=
  iprop(mul X Wt c (keysOn c lw ks) ∗ owesE c (owedL (owedA c dists) c R) ∗ bigSepL lr (cs c)
    ∗ bigSepL lw (got X c fullShare.right))

/-- `n` ring steps from distance `s + 1` on. -/
theorem wp_phases (n : Nat) : ∀ (s : Nat) (hs : s + n < 15) (hs' : s + n < 16) (E0 E1 E2 E3 : Ends), okD E0 → okD E1 → okD E2 → okD E3 →
    ∀ (l : List Sent) (D : List Q), Okl l D → ∀ (R : List Q), (∀ q ∈ R, s + n < q.2.1.val + 1) → ∀ (ks : List (Dev nD × Fin 2))
      (k : Ends → Ends → Ends → Ends → F .f32 → List Sent → Pg F) (Fr : sProp 𝕄),
      (∀ E0 E1 E2 E3 l', okD E0 → okD E1 → okD E2 → okD E3 → Okl l' ((foursN n (s + 1) (by omega)).reverse ++ D) →
        iprop(Fr ∗ ringPost X Wt c (foursN n s (by omega)) (foursN n (s + 1) (by omega)) R ks)
          ⊢ run c (k E0 E1 E2 E3 (accOf X Wt c (keysOn c (foursN n s (by omega)) ks)) l') Kt) →
      iprop(ctx X Wt K ∗ ringPre X Wt c (foursN n s (by omega)) (foursN n (s + 1) (by omega)) R ks ∗ Fr)
        ⊢ run c (phases wM tM oM cM (Memref.isWhole_whole cc0_scratch0) cc0_scratch2 cc0_scratch3 cc0_scratch4 cc0_scratch5
            (nx 1 c) (nx 0 c) n s hs' E0 E1 E2 E3 (accOf X Wt c ks) l k) Kt := by
  induction n with
  | zero =>
    intro s hs hs' E0 E1 E2 E3 h0 h1 h2 h3 l D hl R hR ks k Fr hk
    refine BIBase.Entails.trans ?_ (hk E0 E1 E2 E3 l h0 h1 h2 h3 hl)
    unfold ringPre ringPost
    simp only [foursN, bigSepL_nil]
    iintro ⟨-, ⟨Hm, HO, -, -⟩, HF⟩
    isplitl [HF]; · iexact HF
    isplitl [Hm]; · iexact Hm
    isplitl [HO]; · iexact HO
    isplitr <;> iempintro
  | succ n ih =>
    intro s hs hs' E0 E1 E2 E3 h0 h1 h2 h3 l D hl R hR ks k Fr hk
    have hA : ∀ lq : List Q, lq ⊆ foursN (n + 1) (s + 1) (by omega) ++ R → above (s + 2) (owedL (owedA c dists) c lq) := fun lq h =>
      above_from c (s + 2) (by omega) lq fun q hq => by
        rcases List.mem_append.mp (h hq) with h | h
        · have := mem_foursN _ _ _ h; omega
        · have := hR q h; omega
    have ih' := ih (s + 1) (by omega) (by omega) (EN (org 0 (s + 1) c) 0) (EN (org 0 (s + 1) c) 1) (EN (org 1 (s + 1) c) 0) (EN (org 1 (s + 1) c) 1)
      (okD_EN _ _) (okD_EN _ _) (okD_EN _ _) (okD_EN _ _)
      ((sSem (1, ⟨s + 1, by omega⟩, 1), EN (org 1 (s + 1) c) 1) :: (sSem (1, ⟨s + 1, by omega⟩, 0), EN (org 1 (s + 1) c) 0)
        :: (sSem (0, ⟨s + 1, by omega⟩, 1), EN (org 0 (s + 1) c) 1) :: (sSem (0, ⟨s + 1, by omega⟩, 0), EN (org 0 (s + 1) c) 0) :: l)
      ((1, ⟨s + 1, by omega⟩, 1) :: (1, ⟨s + 1, by omega⟩, 0) :: (0, ⟨s + 1, by omega⟩, 1) :: (0, ⟨s + 1, by omega⟩, 0) :: D)
      (okl_cons _ _ _ (.inl (by dsimp only; omega)) (okl_cons _ _ _ (.inl (by dsimp only; omega))
        (okl_cons _ _ _ (.inl (by dsimp only; omega)) (okl_cons _ _ _ (.inl (by dsimp only; omega)) hl))))
      R (fun q hq => by have := hR q hq; omega)
      (keyOf c (1, ⟨s, by omega⟩, 1) :: keyOf c (1, ⟨s, by omega⟩, 0) :: keyOf c (0, ⟨s, by omega⟩, 1) :: keyOf c (0, ⟨s, by omega⟩, 0) :: ks)
      k iprop(Fr ∗ (cs c (0, ⟨s + 1, by omega⟩, 0) ∗ cs c (0, ⟨s + 1, by omega⟩, 1) ∗ cs c (1, ⟨s + 1, by omega⟩, 0) ∗ cs c (1, ⟨s + 1, by omega⟩, 1))
        ∗ (got X c fullShare.right (0, ⟨s, by omega⟩, 0) ∗ got X c fullShare.right (0, ⟨s, by omega⟩, 1)
          ∗ got X c fullShare.right (1, ⟨s, by omega⟩, 0) ∗ got X c fullShare.right (1, ⟨s, by omega⟩, 1)))
      (fun E0 E1 E2 E3 l' h0 h1 h2 h3 hl' => by
        have hk' := hk E0 E1 E2 E3 l' h0 h1 h2 h3 (by
          simp only [foursN, List.reverse_cons, List.append_assoc, List.singleton_append] at hl' ⊢
          exact hl')
        simp only [foursN, keysOn_cons] at hk' ⊢
        refine BIBase.Entails.trans ?_ hk'
        unfold ringPost
        simp only [foursN, bigSepL_cons', keysOn_cons]
        iintro ⟨⟨HF, ⟨Hc0, Hc1, Hc2, Hc3⟩, Hg0, Hg1, Hg2, Hg3⟩, Hm, HO, Hcs, Hg⟩
        isplitl [HF]; · iexact HF
        isplitl [Hm]; · iexact Hm
        isplitl [HO]; · iexact HO
        isplitl [Hc0 Hc1 Hc2 Hc3 Hcs]
        · isplitl [Hc0]; · iexact Hc0
          isplitl [Hc1]; · iexact Hc1
          isplitl [Hc2]; · iexact Hc2
          isplitl [Hc3]; · iexact Hc3
          iexact Hcs
        isplitl [Hg0]; · iexact Hg0
        isplitl [Hg1]; · iexact Hg1
        isplitl [Hg2]; · iexact Hg2
        isplitl [Hg3]; · iexact Hg3
        iexact Hg)
    unfold ringPre at ih' ⊢
    simp only [foursN, bigSepL_cons', List.cons_append] at hA ⊢
    unfold phases phase
    iintro ⟨#Hc, ⟨Hm, HO, ⟨Hw0, Hw1, Hw2, Hw3, Hw⟩, Hs0, Hs1, Hs2, Hs3, Hs⟩, HF⟩
    iapply (wp_step X Wt K c Kt 0 0 ⟨s, by omega⟩ ⟨s + 1, by omega⟩ rfl (.inl (by dsimp only; omega)) (.inl (by dsimp only; omega))
      ⟨2 + (s + 1), by omega⟩ (ent0 c s (by omega)) E0 h0 (owedA c dists) _ (hA _ (List.Subset.refl _)) ks)
    isplitr; · iexact Hc
    isplitl [Hm]; · iexact Hm
    isplitl [HO]; · iexact HO
    isplitl [Hw0]; · iexact Hw0
    isplitl [Hs0]; · iexact Hs0
    iintro ⟨Hm, HO, Hc0, Hg0⟩
    iapply (wp_step X Wt K c Kt 0 1 ⟨s, by omega⟩ ⟨s + 1, by omega⟩ rfl (.inl (by dsimp only; omega)) (.inl (by dsimp only; omega))
      ⟨2 + (s + 1), by omega⟩ (ent0 c s (by omega)) E1 h1 (owedA c dists) _ (hA _ (List.subset_cons_self _ _)) _)
    isplitr; · iexact Hc
    isplitl [Hm]; · iexact Hm
    isplitl [HO]; · iexact HO
    isplitl [Hw1]; · iexact Hw1
    isplitl [Hs1]; · iexact Hs1
    iintro ⟨Hm, HO, Hc1, Hg1⟩
    iapply (wp_step X Wt K c Kt 1 0 ⟨s, by omega⟩ ⟨s + 1, by omega⟩ rfl (.inl (by dsimp only; omega)) (.inl (by dsimp only; omega))
      ⟨19 + (s + 1), by omega⟩ (ent1 c s (by omega)) E2 h2 (owedA c dists) _
      (hA _ (fun _ h => List.mem_cons_of_mem _ (List.mem_cons_of_mem _ h))) _)
    isplitr; · iexact Hc
    isplitl [Hm]; · iexact Hm
    isplitl [HO]; · iexact HO
    isplitl [Hw2]; · iexact Hw2
    isplitl [Hs2]; · iexact Hs2
    iintro ⟨Hm, HO, Hc2, Hg2⟩
    iapply (wp_step X Wt K c Kt 1 1 ⟨s, by omega⟩ ⟨s + 1, by omega⟩ rfl (.inl (by dsimp only; omega)) (.inl (by dsimp only; omega))
      ⟨19 + (s + 1), by omega⟩ (ent1 c s (by omega)) E3 h3 (owedA c dists) _
      (hA _ (fun _ h => List.mem_cons_of_mem _ (List.mem_cons_of_mem _ (List.mem_cons_of_mem _ h)))) _)
    isplitr; · iexact Hc
    isplitl [Hm]; · iexact Hm
    isplitl [HO]; · iexact HO
    isplitl [Hw3]; · iexact Hw3
    isplitl [Hs3]; · iexact Hs3
    iintro ⟨Hm, HO, Hc3, Hg3⟩
    iapply ih'
    isplitr; · iexact Hc
    isplitl [Hm HO Hw Hs]
    · isplitl [Hm]; · iexact Hm
      isplitl [HO]; · iexact HO
      isplitl [Hw]; · iexact Hw
      iexact Hs
    isplitl [HF]; · iexact HF
    isplitl [Hc0 Hc1 Hc2 Hc3]
    · isplitl [Hc0]; · iexact Hc0
      isplitl [Hc1]; · iexact Hc1
      isplitl [Hc2]; · iexact Hc2
      iexact Hc3
    isplitl [Hg0]; · iexact Hg0
    isplitl [Hg1]; · iexact Hg1
    isplitl [Hg2]; · iexact Hg2
    iexact Hg3

end Cert.KernelIdeal.Ring

end
-- ==== Proof.Last.lean ====
/-
  The last distances of the ring, where blocks are received and not passed on, and the wait for the own copies to have been read.
-/
module

public import proofs.«01_k».proof.Proof.Steps

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal Cert.KernelIdeal.Gen

variable {F : FTy → Type} [FloatOps F]

local notation "𝕄" => MT nD τ sig Unit (Elt F) ℕ UU ℕ
local notation "Pg" F:max => Prog (TpuEff nD τ sig (Elt F) Λ₀ Proc.tc) PUnit

variable (X : Dev nD → XBuf F) (Wt : Dev nD → WBuf F) (K : GSem nD τ sig → ℕ) (c : Dev nD)
  (Kt : PUnit.{1} → sProp (MT nD τ sig Unit (Elt F) ℕ UU ℕ))

/-- The copies that come in last. -/
def lastW : List Q := [(0, 14, 0), (0, 14, 1), (1, 14, 0), (1, 14, 1), (0, 15, 0), (1, 15, 1)]
/-- The copies that are started last. -/
def lastS : List Q := [(0, 15, 0), (1, 15, 1)]

theorem sendsL_first : sendsL = foursN 1 0 (by decide) ++ (foursN 14 1 (by decide) ++ lastS) := by decide +kernel
theorem sendsL_last : sendsL = foursN 14 0 (by decide) ++ lastW := by decide +kernel

/-- What the last distances leave of the copies that came in: two of them were passed on. -/
def lastG : sProp 𝕄 :=
  iprop(got X c fullShare.right (0, 14, 0) ∗ got X c fullShare (0, 14, 1) ∗ got X c fullShare (1, 14, 0)
    ∗ got X c fullShare.right (1, 14, 1) ∗ got X c fullShare (0, 15, 0) ∗ got X c fullShare (1, 15, 1))

theorem lastPhase_hj : ent c 18 = Dev.word (org 1 (15 + 1) c) := by rw [← org_last c]; exact ent0 c 15 (by decide)

/-- The last distances. -/
theorem wp_last (E0 E1 E2 E3 : Ends) (h0 : okD E0) (h1 : okD E1) (h2 : okD E2) (h3 : okD E3) (ks : List (Dev nD × Fin 2))
    (l : List Sent) (k : F .f32 → List Sent → Pg F) :
    iprop(ctx X Wt K ∗ ringPre X Wt c lastW lastS [] ks
        ∗ ((mul X Wt c (keysOn c lastW ks) ∗ owesE c (owedA c dists) ∗ bigSepL lastS (cs c) ∗ lastG X c)
          -∗ run c (k (accOf X Wt c (keysOn c lastW ks)) ((sSem (1, 15, 1), EN (org 1 15 c) 1) :: (sSem (0, 15, 0), EN (org 0 15 c) 0) :: l)) Kt))
      ⊢ run c (lastPhase wM tM oM cM (Memref.isWhole_whole cc0_scratch0) cc0_scratch2 cc0_scratch3 cc0_scratch4 cc0_scratch5
            (nx 1 c) (nx 0 c) E0 E1 E2 E3 (accOf X Wt c ks) l k) Kt := by
  have a1 : above (14 + 2) (owedL (owedA c dists) c [(1, 15, 1)]) := above_from c 16 (by decide) _ (by decide)
  have a2 : above (14 + 2) (owedL (owedA c dists) c [(0, 15, 0), (1, 15, 1)]) := above_from c 16 (by decide) _ (by decide)
  have a3 : ∀ b, b < 40 → above b (owedA c dists) := fun b hb => above_owedA b hb c dists
  unfold ringPre lastW lastS lastPhase
  simp only [keysOn_cons, List.append_nil, bigSepL_cons', bigSepL_nil]
  iintro ⟨#Hc, ⟨Hm, HO, ⟨Hw0, Hw1, Hw2, Hw3, Hw4, Hw5, -⟩, Hs0, Hs1, -⟩, Hk⟩
  iapply (wp_waitR X Wt K c Kt (q := (0, 14, 0)) (.inl (by decide)) E0 h0 a2)
  isplitr; · iexact Hc
  isplitl [Hw0]; · iexact Hw0
  isplitl [HO]; · iexact HO
  iintro ⟨HO, Hat0, Hp⟩
  unfold rcvPay
  icases Hp with ⟨Hsl, Hal⟩
  iapply (wp_hop' X Wt c Kt 0 17 _ (ent0 c 14 (by decide)) ks)
  isplitl [Hm]; · iexact Hm
  iintro Hm
  iapply (wp_pass X Wt K c Kt 0 0 14 15 rfl (.inr rfl) (owedA c dists) [(1, 15, 1)])
  isplitr; · iexact Hc
  isplitl [Hsl]; · iexact Hsl
  isplitl [Hal]; · iexact Hal
  isplitl [Hs0]; · iexact Hs0
  isplitl [HO]; · iexact HO
  iintro ⟨Hc0, HO, Hsl0, Hex0⟩
  iapply (wp_waitR X Wt K c Kt (q := (1, 14, 1)) (.inl (by decide)) E3 h3 a1)
  isplitr; · iexact Hc
  isplitl [Hw3]; · iexact Hw3
  isplitl [HO]; · iexact HO
  iintro ⟨HO, Hat3, Hp⟩
  unfold rcvPay
  icases Hp with ⟨Hsl, Hal⟩
  iapply (wp_hop' X Wt c Kt 1 34 _ (ent1 c 14 (by decide)) ks)
  isplitl [Hm]; · iexact Hm
  iintro Hm
  iapply (wp_pass X Wt K c Kt 1 1 14 15 rfl (.inr rfl) (owedA c dists) [])
  isplitr; · iexact Hc
  isplitl [Hsl]; · iexact Hsl
  isplitl [Hal]; · iexact Hal
  isplitl [Hs1]; · iexact Hs1
  isplitl [HO]; · iexact HO
  iintro ⟨Hc1, HO, Hsl3, Hex3⟩
  iapply (wp_mul X Wt c Kt (0, 14, 0) 17 (ent0 c 14 (by decide)) fullShare.right ks)
  isplitl [Hm]; · iexact Hm
  isplitl [Hsl0]; · iexact Hsl0
  iintro ⟨Hm, Hsl0⟩
  iapply (wp_waitR X Wt K c Kt (q := (0, 14, 1)) (.inl (by decide)) E1 h1 (a3 16 (by decide)))
  isplitr; · iexact Hc
  isplitl [Hw1]; · iexact Hw1
  isplitl [HO]; · iexact HO
  iintro ⟨HO, Hat1, Hp⟩
  unfold rcvPay
  icases Hp with ⟨Hsl1, Hal⟩
  ihave Hex1 := (along_end c 0 1 14 (fun h => absurd h (by decide))) $$ Hal
  iapply (wp_mul X Wt c Kt (0, 14, 1) 17 (ent0 c 14 (by decide)) fullShare _)
  isplitl [Hm]; · iexact Hm
  isplitl [Hsl1]; · iexact Hsl1
  iintro ⟨Hm, Hsl1⟩
  iapply (wp_waitR X Wt K c Kt (q := (1, 14, 0)) (.inl (by decide)) E2 h2 (a3 16 (by decide)))
  isplitr; · iexact Hc
  isplitl [Hw2]; · iexact Hw2
  isplitl [HO]; · iexact HO
  iintro ⟨HO, Hat2, Hp⟩
  unfold rcvPay
  icases Hp with ⟨Hsl2, Hal⟩
  ihave Hex2 := (along_end c 1 0 14 (fun _ => by decide)) $$ Hal
  iapply (wp_mul X Wt c Kt (1, 14, 0) 34 (ent1 c 14 (by decide)) fullShare _)
  isplitl [Hm]; · iexact Hm
  isplitl [Hsl2]; · iexact Hsl2
  iintro ⟨Hm, Hsl2⟩
  iapply (wp_mul X Wt c Kt (1, 14, 1) 34 (ent1 c 14 (by decide)) fullShare.right _)
  isplitl [Hm]; · iexact Hm
  isplitl [Hsl3]; · iexact Hsl3
  iintro ⟨Hm, Hsl3⟩
  iapply (wp_waitR X Wt K c Kt (q := (0, 15, 0)) (.inr rfl) (EN _ 0) (okD_EN _ _) (a3 17 (by decide)))
  isplitr; · iexact Hc
  isplitl [Hw4]; · iexact Hw4
  isplitl [HO]; · iexact HO
  iintro ⟨HO, Hat4, Hp⟩
  unfold rcvPay
  icases Hp with ⟨Hsl4, Hal⟩
  ihave Hex4 := (along_end c 0 0 15 (fun _ => by decide)) $$ Hal
  iapply (wp_mul X Wt c Kt (0, 15, 0) 18 (ent0 c 15 (by decide)) fullShare _)
  isplitl [Hm]; · iexact Hm
  isplitl [Hsl4]; · iexact Hsl4
  iintro ⟨Hm, Hsl4⟩
  iapply (wp_waitR X Wt K c Kt (q := (1, 15, 1)) (.inr rfl) (EN _ 1) (okD_EN _ _) (a3 17 (by decide)))
  isplitr; · iexact Hc
  isplitl [Hw5]; · iexact Hw5
  isplitl [HO]; · iexact HO
  iintro ⟨HO, Hat5, Hp⟩
  unfold rcvPay
  icases Hp with ⟨Hsl5, Hal⟩
  ihave Hex5 := (along_end c 1 1 15 (fun h => absurd h (by decide))) $$ Hal
  iapply (wp_mul X Wt c Kt (1, 15, 1) 18 (lastPhase_hj c) fullShare _)
  isplitl [Hm]; · iexact Hm
  isplitl [Hsl5]; · iexact Hsl5
  iintro ⟨Hm, Hsl5⟩
  iapply Hk
  unfold lastG got
  isplitl [Hm]; · iexact Hm
  isplitl [HO]; · iexact HO
  isplitl [Hc0 Hc1]
  · isplitl [Hc0]; · iexact Hc0
    isplitl [Hc1]; · iexact Hc1
    iempintro
  isplitl [Hat0 Hsl0 Hex0]
  · isplitl [Hat0]; · iexact Hat0
    isplitl [Hsl0]; · iexact Hsl0
    iexact Hex0
  isplitl [Hat1 Hsl1 Hex1]
  · isplitl [Hat1]; · iexact Hat1
    isplitl [Hsl1]; · iexact Hsl1
    iexact Hex1
  isplitl [Hat2 Hsl2 Hex2]
  · isplitl [Hat2]; · iexact Hat2
    isplitl [Hsl2]; · iexact Hsl2
    iexact Hex2
  isplitl [Hat3 Hsl3 Hex3]
  · isplitl [Hat3]; · iexact Hat3
    isplitl [Hsl3]; · iexact Hsl3
    iexact Hex3
  isplitl [Hat4 Hsl4 Hex4]
  · isplitl [Hat4]; · iexact Hat4
    isplitl [Hsl4]; · iexact Hsl4
    iexact Hex4
  isplitl [Hat5]; · iexact Hat5
  isplitl [Hsl5]; · iexact Hsl5
  iexact Hex5

/-- Wait for all own copies to have been read. -/
theorem wp_drain (l : List Sent) : ∀ (D : List Q), Okl l D → ∀ (k : Pg F) (Fr : sProp 𝕄),
    (iprop(Fr ∗ owesE c 0 ∗ bigSepL D (back X c)) ⊢ run c k Kt) →
    iprop(ctx X Wt K ∗ owesE c 0 ∗ bigSepL D (pend c) ∗ Fr) ⊢ run c (drain l k) Kt := by
  induction l with
  | nil =>
    intro D hD k Fr hk
    cases hD
    refine BIBase.Entails.trans ?_ hk
    rw [bigSepL_nil, bigSepL_nil]
    iintro ⟨-, HO, -, HF⟩
    isplitl [HF]; · iexact HF
    isplitl [HO]; · iexact HO
    iempintro
  | cons x l ih =>
    intro D hD k Fr hk
    cases hD with
    | cons hx hl =>
      rename_i q D
      obtain ⟨ss, e⟩ := x
      obtain ⟨rfl, he, hu⟩ := hx
      have ih' := ih D hl (waitS e (sSem q) k) iprop(ctx X Wt K ∗ pend c q ∗ Fr) (by
        iintro ⟨⟨#Hc, Hp, HF⟩, HO, Hb⟩
        iapply (wp_waitS X Wt K c Kt hu e he k)
        isplitr; · iexact Hc
        isplitl [Hp]; · iexact Hp
        isplitl [HO]; · iexact HO
        iintro ⟨HO, Hbq⟩
        iapply hk
        isplitl [HF]; · iexact HF
        isplitl [HO]; · iexact HO
        rw [bigSepL_cons']
        isplitl [Hbq]; · iexact Hbq
        iexact Hb)
      refine BIBase.Entails.trans ?_ ih'
      rw [bigSepL_cons']
      iintro ⟨#Hc, HO, ⟨Hp, HD⟩, HF⟩
      isplitr; · iexact Hc
      isplitl [HO]; · iexact HO
      isplitl [HD]; · iexact HD
      isplitr; · iexact Hc
      isplitl [Hp]; · iexact Hp
      iexact HF

end Cert.KernelIdeal.Ring

end
-- ==== Proof.Finish.lean ====
/-
  The exchange of the maxima and the end of the body.
-/
module

public import proofs.«01_k».proof.Proof.Last

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal Cert.KernelIdeal.Gen

variable {F : FTy → Type} [FloatOps F]

local notation "𝕄" => MT nD τ sig Unit (Elt F) ℕ UU ℕ
local notation "Pg" F:max => Prog (TpuEff nD τ sig (Elt F) Λ₀ Proc.tc) PUnit

variable (X : Dev nD → XBuf F) (Wt : Dev nD → WBuf F) (K : GSem nD τ sig → ℕ) (c : Dev nD)
  (Kt : PUnit.{1} → sProp (MT nD τ sig Unit (Elt F) ℕ UU ℕ))

/-! ## Sending the maximum -/

/-- What device `c` needs to send its maximum over a distance. -/
def tellRes (d : Fin 31) : sProp 𝕄 :=
  iprop(am c c (Transfers.shareTok fullShare 31 d) (A X Wt) ∗ amE (tgt d c) c ∗ dutyTok ER (asCell d c) 0 0
    ∗ dutyTok ER (arCell d (tgt d c)) 0 0 ∗ reached ER (asCell d c) 0)
/-- What it needs to wait for both ends of a distance, and what it has then. -/
def hearRes (d : Fin 31) : sProp 𝕄 :=
  iprop(cred (tallyAt (asCell d c) () Na) ∗ atPos ER (asCell d c) 0 ∅ 0 ∗ cred (tallyAt (arCell d c) () Na) ∗ atPos ER (arCell d c) 0 ∅ 0)
def heard (d : Fin 31) : sProp 𝕄 :=
  iprop(atPos ER (asCell d c) 1 ∅ 0 ∗ asPay X Wt c d ∗ atPos ER (arCell d c) 1 ∅ 0 ∗ arPay X Wt c d)

instance reachA_persistent (t : Dev nD) : BI.Persistent (reachA (F := F) t) := by unfold reachA; infer_instance

theorem reach_at (d : Fin 31) (t : Dev nD) : (reachA t : sProp 𝕄) ⊢ reached ER (arCell d t) 0 := bigSep_elim (Finset.mem_univ d)

theorem amCredit (j : Dev nD) : (amM j).view.dmaCredit = Na := rfl

theorem wp_tell1 (d : Fin 31) (n : Dev nD) (hn : n = tgt d c) (hs) (hd) (hok) (ds : List (Fin 31)) (k : Pg F) :
    iprop(ctx X Wt K ∗ tellRes X Wt c d ∗ owesE c (owedA c (d :: ds))
        ∗ ((owesE c (owedA c ds) ∗ cred (tallyAt (asCell d c) () Na)) -∗ run c k Kt))
      ⊢ run c (.op (.enqueueDma (amM c) (.remote (Dev.tc n) (amM c) (.dma (asSem d))) (.dma (arSem d)) hs hd hok) fun _ => k) Kt := by
  subst hn
  unfold tellRes amE owesE am
  iintro ⟨#Hc, ⟨Hsrc, ⟨⟨%fd, Hdst⟩, #HrA⟩, HtS, HtR, #HrS⟩, ⟨%W, HO⟩, Hk⟩
  iapply (Rounds.wp_send_pointsTo_with 𝒱₀ ER (rd X Wt) (c : Thread nD τ) none (c' := (tgt d c : Thread nD τ)) (src := amM c)
      (dst := amM c) (sS := .dma (asSem d)) (sem := .dma (arSem d)) (q := Transfers.shareTok fullShare 31 d) (fs := A X Wt)
      (κ₁ := K (asCell d c)) (κ₂ := K (arCell d (tgt d c))) (r₁ := 0) (r₂ := 0) (d₁ := 0) (d₂ := 0) (fd := fd)
      (F := iprop(emp)) (duty_asd X Wt c d) (duty_arv X Wt (tgt d c) d) () () Na (amCredit c) (amount_asd X Wt c d 0 0)
      (amount_arv X Wt (tgt d c) d 0 0) (owedA c ds) rfl (W := W)
      (by rw [payload_asd]; exact .rfl)
      (by
        rw [payload_arv]; unfold arPay am
        rw [src_tgt, pts_congr_read (amM c) (tgt d c) fullShare (View.read_write_univ _ _)]
        iintro ⟨H, -⟩; iexact H))
    $$ [Hsrc Hdst HO HtS HtR]
  · isplitr; · iapply (ctx_as X Wt K c d); iexact Hc
    isplitr; · iapply (ctx_ar X Wt K (tgt d c) d); iexact Hc
    isplitl [Hsrc]; · iexact Hsrc
    isplitl [Hdst]
    · isplitl [Hdst]; · iexact Hdst
      iempintro
    isplitl [HO]; · iexact HO
    isplitl [HtS]; · iexact HtS
    isplitr; · iexact HrS
    isplitl [HtR]; · iexact HtR
    iapply (reach_at d (tgt d c)); iexact HrA
  iintro ⟨Hcr, HO⟩
  iapply Hk
  isplitl [HO]; · iexists W; iexact HO
  iexact Hcr

theorem wp_tell (ds : List (Fin 31)) (k : Pg F) :
    iprop(ctx X Wt K ∗ bigSepL ds (tellRes X Wt c) ∗ owesE c (owedA c ds)
        ∗ ((owesE c 0 ∗ bigSepL ds (fun d => cred (tallyAt (asCell d c) () Na))) -∗ run c k Kt))
      ⊢ run c (tell aM cc0_scratch6 cc0_scratch7 c ds k) Kt := by
  induction ds generalizing Kt with
  | nil =>
    unfold tell
    rw [bigSepL_nil, bigSepL_nil]
    iintro ⟨-, -, HO, Hk⟩
    iapply Hk
    isplitl [HO]; · iexact HO
    iempintro
  | cons d ds ih =>
    unfold tell
    rw [bigSepL_cons', bigSepL_cons']
    iintro ⟨#Hc, ⟨Hd, Hds⟩, HO, Hk⟩
    iapply (wp_tell1 X Wt K c Kt d _ (devAmt_tgt d c) _ _ _ ds)
    isplitr; · iexact Hc
    isplitl [Hd]; · iexact Hd
    isplitl [HO]; · iexact HO
    iintro ⟨HO, Hcr⟩
    iapply (ih Kt)
    isplitr; · iexact Hc
    isplitl [Hds]; · iexact Hds
    isplitl [HO]; · iexact HO
    iintro ⟨HO, Hcs⟩
    iapply Hk
    isplitl [HO]; · iexact HO
    isplitl [Hcr]; · iexact Hcr
    iexact Hcs

/-! ## Receiving the others -/

/-- A wait on a cell of one copy, with nothing left to pay. -/
theorem wp_wait0 {sm : DmaSem sig} {sp sp' : Space} {s s' : Shape} {e e' : EltTy} (src : Memref sig .tc sp s e) (dst : Memref sig .tc sp' s' e')
    (hs) (hd) (hi : ctx X Wt K ⊢ cellInv ER (rd X Wt) (K ((c : Thread nD τ), .dma sm)) ((c : Thread nD τ), .dma sm))
    {N : ℕ} {P : sProp (MT nD τ sig Unit (Elt F) ℕ UU ℕ)} (hN : dst.view.dmaCredit = N) (he : (rd X Wt).expect ((c : Thread nD τ), .dma sm) 0 = N)
    (hp : bigSep ((rd X Wt).duties ((c : Thread nD τ), .dma sm) 0 \ ∅) (fun d => (rd X Wt).payload ((c : Thread nD τ), .dma sm) 0 d) = P)
    (k : Pg F) :
    iprop(ctx X Wt K ∗ cred (tallyAt ((c : Thread nD τ), .dma sm) () N) ∗ atPos ER ((c : Thread nD τ), .dma sm) 0 ∅ 0 ∗ owesE c 0
        ∗ ((owesE c 0 ∗ atPos ER ((c : Thread nD τ), .dma sm) 1 ∅ 0 ∗ P) -∗ run c k Kt))
      ⊢ run c (.op (.waitDma2 sm src dst hs hd) fun _ => k) Kt := by
  unfold owesE
  iintro ⟨#Hc, Hcr, Hat, ⟨%W, HO⟩, Hk⟩
  iapply (Rounds.wp_wait_rest_token 𝒱₀ ER (rd X Wt) (c : Thread nD τ) none (κ := K ((c : Thread nD τ), .dma sm))
      (wpE_waitDma2_eq 𝒱₀ (c : Thread nD τ) none Set.univ) (Set.mem_univ _) () (O := 0) (W := W) (R := 0) (m := 0) (T := ∅)
      ((Nat.zero_add _).trans (hN.trans he.symm))) $$ [Hcr HO Hat]
  · isplitr; · iapply hi; iexact Hc
    isplitl [Hcr]; · rw [hN]; iexact Hcr
    isplitl [HO]; · iexact HO
    isplitr; · rw [MayWait_zero]; iempintro
    iexact Hat
  iintro ⟨HO, Hat, -, Hpay⟩
  ihave Hp := (Entails.of_eq hp) $$ Hpay
  iapply Hk
  isplitl [HO]; · iexists _; iexact HO
  isplitl [Hat]; · iexact Hat
  iexact Hp

theorem wp_hear (ds : List (Fin 31)) (k : Pg F) :
    iprop(ctx X Wt K ∗ bigSepL ds (hearRes c) ∗ owesE c 0 ∗ ((owesE c 0 ∗ bigSepL ds (heard X Wt c)) -∗ run c k Kt))
      ⊢ run c (hear aM cc0_scratch6 cc0_scratch7 c ds k) Kt := by
  induction ds generalizing Kt with
  | nil =>
    unfold hear
    rw [bigSepL_nil, bigSepL_nil]
    iintro ⟨-, -, HO, Hk⟩
    iapply Hk
    isplitl [HO]; · iexact HO
    iempintro
  | cons d ds ih =>
    unfold hear
    rw [bigSepL_cons', bigSepL_cons']
    iintro ⟨#Hc, ⟨Hd, Hds⟩, HO, Hk⟩
    unfold hearRes
    icases Hd with ⟨Hc1, Ha1, Hc2, Ha2⟩
    iapply (wp_wait0 X Wt K c Kt (sm := asSem d) (amM c) (amM c) _ _ (ctx_as X Wt K c d) (amCredit c) (expect_asd X Wt c d)
      (rest_asd X Wt c d))
    isplitr; · iexact Hc
    isplitl [Hc1]; · iexact Hc1
    isplitl [Ha1]; · iexact Ha1
    isplitl [HO]; · iexact HO
    iintro ⟨HO, Ha1, Hp1⟩
    iapply (wp_wait0 X Wt K c Kt (sm := arSem d) (amM c) (amM c) _ _ (ctx_ar X Wt K c d) (amCredit c) (expect_arv X Wt c d)
      (rest_arv X Wt c d))
    isplitr; · iexact Hc
    isplitl [Hc2]; · iexact Hc2
    isplitl [Ha2]; · iexact Ha2
    isplitl [HO]; · iexact HO
    iintro ⟨HO, Ha2, Hp2⟩
    iapply (ih Kt)
    isplitr; · iexact Hc
    isplitl [Hds]; · unfold hearRes; iexact Hds
    isplitl [HO]; · iexact HO
    iintro ⟨HO, Hh⟩
    iapply Hk
    isplitl [HO]; · iexact HO
    isplitl [Ha1 Hp1 Ha2 Hp2]
    · unfold heard
      isplitl [Ha1]; · iexact Ha1
      isplitl [Hp1]; · iexact Hp1
      isplitl [Ha2]; · iexact Ha2
      iexact Hp2
    iexact Hh

end Cert.KernelIdeal.Ring

end
-- ==== Proof.Blocks.lean ====
/-
  The buffers held slot by slot.
-/
module

public import proofs.«01_k».proof.Proof.Steps
public import Idealize.ShloMosaic.Lib.Ring

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal Cert.KernelIdeal.Gen

variable {F : FTy → Type} [FloatOps F]

local notation "𝕄" => MT nD τ sig Unit (Elt F) ℕ UU ℕ
local notation "Pg" F:max => Prog (TpuEff nD τ sig (Elt F) Λ₀ Proc.tc) PUnit

variable (X : Dev nD → XBuf F) (Wt : Dev nD → WBuf F) (K : GSem nD τ sig → ℕ) (c : Dev nD)
  (Kt : PUnit.{1} → sProp (MT nD τ sig Unit (Elt F) ℕ UU ℕ))

/-! ## Which elements a slot has -/

theorem mem_am (j : Dev nD) (i : S32x8x128.Idx) : i ∈ (amM j).view.set ↔ (i (0 : Fin 3)).val = j.val := by
  rw [am_set]
  refine Rect.mem_set_unit.trans ?_
  rw [off367_word]
  constructor
  · intro h; have h0 : j.val ≤ (i (0 : Fin 3)).val ∧ (i (0 : Fin 3)).val < j.val + 1 := h 0
    omega
  · intro h a
    fin_cases a
    · show j.val ≤ (i (0 : Fin 3)).val ∧ (i (0 : Fin 3)).val < j.val + 1; omega
    · exact ⟨Nat.zero_le _, by have := (i (1 : Fin 3)).isLt; show _ < 0 + 8; exact (Nat.zero_add 8).symm ▸ this⟩
    · exact ⟨Nat.zero_le _, by have := (i (2 : Fin 3)).isLt; show _ < 0 + 128; exact (Nat.zero_add 128).symm ▸ this⟩

theorem mem_slot (o : Dev nD) (h : Fin 2) (i : S32x2x64x4096.Idx) :
    i ∈ (slotM o h).view.set ↔ (i (0 : Fin 4)).val = o.val ∧ (i (1 : Fin 4)).val = h.val := by
  rw [slot_set]
  refine Rect.mem_set_unit.trans ?_
  rw [offC_word]
  constructor
  · intro hh
    have h0 : o.val ≤ (i (0 : Fin 4)).val ∧ (i (0 : Fin 4)).val < o.val + 1 := hh 0
    have h1 : h.val ≤ (i (1 : Fin 4)).val ∧ (i (1 : Fin 4)).val < h.val + 1 := hh 1
    omega
  · rintro ⟨h0, h1⟩ a
    fin_cases a
    · show o.val ≤ (i (0 : Fin 4)).val ∧ (i (0 : Fin 4)).val < o.val + 1; omega
    · show h.val ≤ (i (1 : Fin 4)).val ∧ (i (1 : Fin 4)).val < h.val + 1; omega
    · exact ⟨Nat.zero_le _, by have := (i (2 : Fin 4)).isLt; show _ < 0 + 64; exact (Nat.zero_add 64).symm ▸ this⟩
    · exact ⟨Nat.zero_le _, by have := (i (3 : Fin 4)).isLt; show _ < 0 + 4096; exact (Nat.zero_add 4096).symm ▸ this⟩

theorem mem_xH (h : Fin 2) (i : S128x4096.Idx) : i ∈ (xH xM h).view.set ↔ (i (0 : Fin 2)).val / 64 = h.val := by
  rw [show (xH xM h).view.set = (Rect.unit (s := S128x4096) ![64 * h.val, 0] S64x4096.size (inbX h)).set from View.set_slice_whole _ _]
  refine Rect.mem_set_unit.trans ?_
  constructor
  · intro hh
    have h0 : 64 * h.val ≤ (i (0 : Fin 2)).val ∧ (i (0 : Fin 2)).val < 64 * h.val + 64 := hh 0
    omega
  · intro h0 a
    fin_cases a
    · show 64 * h.val ≤ (i (0 : Fin 2)).val ∧ (i (0 : Fin 2)).val < 64 * h.val + 64; omega
    · exact ⟨Nat.zero_le _, by have := (i (1 : Fin 2)).isLt; show _ < 0 + 4096; exact (Nat.zero_add 4096).symm ▸ this⟩

/-! ## A buffer is its slots -/

theorem a_blocks (q : PosShare TreeShare) (f : ABuf F) :
    (aM.view.loc (c : Thread nD τ) ↦{q} f : sProp 𝕄) = bigSep Finset.univ fun j : Dev nD => am c j q f :=
  Idealize.ShloMosaic.Ring.pointsTo_blocks (ℓ := aM.view.loc (c : Thread nD τ)) (fun j : Dev nD => (amM j).view.set)
    (fun j j' h => Finset.disjoint_left.mpr fun i hi hi' => h (Fin.ext (((mem_am j i).mp hi).symm.trans ((mem_am j' i).mp hi'))))
    (Finset.eq_univ_iff_forall.mpr fun i => Finset.mem_biUnion.mpr
      ⟨(⟨(show S32x8x128.Idx from i) (0 : Fin 3), ((show S32x8x128.Idx from i) (0 : Fin 3)).isLt⟩ : Dev nD), Finset.mem_univ _, (mem_am _ i).mpr rfl⟩) f

theorem slot_dj (k k' : Dev nD × Fin 2) (h : k ≠ k') : Disjoint (slotM k.1 k.2).view.set (slotM k'.1 k'.2).view.set :=
  Finset.disjoint_left.mpr fun i hi hi' => h (Prod.ext
    (Fin.ext (((mem_slot k.1 k.2 i).mp hi).1.symm.trans ((mem_slot k'.1 k'.2 i).mp hi').1))
    (Fin.ext (((mem_slot k.1 k.2 i).mp hi).2.symm.trans ((mem_slot k'.1 k'.2 i).mp hi').2)))
theorem c_blocks (q : PosShare TreeShare) (f : CBuf F) :
    (cM.view.loc (c : Thread nD τ) ↦{q} f : sProp 𝕄) = bigSep Finset.univ fun k : Dev nD × Fin 2 => sl c k.1 k.2 q f :=
  Idealize.ShloMosaic.Ring.pointsTo_blocks (ℓ := cM.view.loc (c : Thread nD τ)) (fun k : Dev nD × Fin 2 => (slotM k.1 k.2).view.set) slot_dj
    (Finset.eq_univ_iff_forall.mpr fun i => Finset.mem_biUnion.mpr
      ⟨((⟨(show S32x2x64x4096.Idx from i) (0 : Fin 4), ((show S32x2x64x4096.Idx from i) (0 : Fin 4)).isLt⟩ : Dev nD),
        (⟨(show S32x2x64x4096.Idx from i) (1 : Fin 4), ((show S32x2x64x4096.Idx from i) (1 : Fin 4)).isLt⟩ : Fin 2)),
        Finset.mem_univ _, (mem_slot _ _ i).mpr ⟨rfl, rfl⟩⟩) f
theorem c_join (f₀ : CBuf F) : bigSep Finset.univ (fun k : Dev nD × Fin 2 => (iprop(∃ f, sl c k.1 k.2 fullShare f) : sProp 𝕄))
    ⊢ iprop(∃ f, cM.view.loc (c : Thread nD τ) ↦{fullShare} f) :=
  Idealize.ShloMosaic.Ring.pointsTo_blocks_join_exists (ℓ := cM.view.loc (c : Thread nD τ)) (fun k : Dev nD × Fin 2 => (slotM k.1 k.2).view.set) slot_dj
    (Finset.eq_univ_iff_forall.mpr fun i => Finset.mem_biUnion.mpr
      ⟨((⟨(show S32x2x64x4096.Idx from i) (0 : Fin 4), ((show S32x2x64x4096.Idx from i) (0 : Fin 4)).isLt⟩ : Dev nD),
        (⟨(show S32x2x64x4096.Idx from i) (1 : Fin 4), ((show S32x2x64x4096.Idx from i) (1 : Fin 4)).isLt⟩ : Fin 2)),
        Finset.mem_univ _, (mem_slot _ _ i).mpr ⟨rfl, rfl⟩⟩) f₀

theorem x_lt (i : S128x4096.Idx) : (i (0 : Fin 2)).val / 64 < 2 := by
  have h : (i (0 : Fin 2)).val < 128 := (i (0 : Fin 2)).isLt
  omega
theorem x_blocks' (q : PosShare TreeShare) (f : XBuf F) :
    (xM.view.loc (c : Thread nD τ) ↦{q} f : sProp 𝕄) = bigSep Finset.univ fun h : Fin 2 => xs c h q f :=
  Idealize.ShloMosaic.Ring.pointsTo_blocks (ℓ := xM.view.loc (c : Thread nD τ)) (fun h : Fin 2 => (xH xM h).view.set)
    (fun h h' hn => Finset.disjoint_left.mpr fun i hi hi' => hn (Fin.ext (((mem_xH h i).mp hi).symm.trans ((mem_xH h' i).mp hi'))))
    (Finset.eq_univ_iff_forall.mpr fun i => Finset.mem_biUnion.mpr
      ⟨(⟨_, x_lt i⟩ : Fin 2), Finset.mem_univ _, (mem_xH _ i).mpr rfl⟩) f
theorem x_blocks (q : PosShare TreeShare) (f : XBuf F) :
    (xM.view.loc (c : Thread nD τ) ↦{q} f : sProp 𝕄) = iprop(xs c 0 q f ∗ xs c 1 q f) := by
  rw [x_blocks' c q f]
  exact bigSep_fin_two (fun h : Fin 2 => (xs c h q f : sProp 𝕄))

/-! ## The lists of slots -/

theorem bigSepL_sep' {I : Type} (l : List I) (Φ Ψ : I → sProp 𝕄) :
    bigSepL l (fun i => iprop(Φ i ∗ Ψ i)) = iprop(bigSepL l Φ ∗ bigSepL l Ψ) := by
  induction l with
  | nil => exact (equiv_iff.mp emp_sep).symm
  | cons i l ih =>
    simp only [bigSepL_cons', ih]
    have e₁ : iprop((Φ i ∗ Ψ i) ∗ bigSepL l Φ ∗ bigSepL l Ψ) ⊢ iprop((Φ i ∗ bigSepL l Φ) ∗ Ψ i ∗ bigSepL l Ψ) := by
      iintro ⟨⟨H1, H2⟩, H3, H4⟩
      isplitl [H1 H3]
      · isplitl [H1]; · iexact H1
        iexact H3
      isplitl [H2]; · iexact H2
      iexact H4
    have e₂ : iprop((Φ i ∗ bigSepL l Φ) ∗ Ψ i ∗ bigSepL l Ψ) ⊢ iprop((Φ i ∗ Ψ i) ∗ bigSepL l Φ ∗ bigSepL l Ψ) := by
      iintro ⟨⟨H1, H3⟩, H2, H4⟩
      isplitl [H1 H2]
      · isplitl [H1]; · iexact H1
        iexact H2
      isplitl [H3]; · iexact H3
      iexact H4
    exact BI.Entails.antisymm e₁ e₂

theorem bigSepL_emp' {I : Type} (l : List I) : bigSepL l (fun _ => (iprop(emp) : sProp 𝕄)) = iprop(emp) := by
  induction l with
  | nil => rfl
  | cons i l ih => rw [bigSepL_cons', ih]; exact equiv_iff.mp emp_sep

/-- All slots of the block buffer: the ones filled by the copies, and the two of the device's own block. -/
def slotsL : List (Dev nD × Fin 2) := sendsL.map (keyOf c) ++ [(c, 0), (c, 1)]

theorem slotsL_nodup : ∀ c : Dev nD, (slotsL c).Nodup := by decide +kernel
theorem slotsL_all (c : Dev nD) : Finset.univ = (slotsL c).toFinset :=
  (Finset.eq_univ_of_card _ ((List.toFinset_card_of_nodup (slotsL_nodup c)).trans rfl)).symm
theorem slots_list (Φ : Dev nD × Fin 2 → sProp 𝕄) :
    bigSep Finset.univ Φ = iprop(bigSepL sendsL (fun q => Φ (keyOf c q)) ∗ Φ (c, 0) ∗ Φ (c, 1)) := by
  rw [bigSep_univ_eq_bigSepL (slotsL c) (slotsL_all c) (slotsL_nodup c)]
  unfold slotsL
  rw [bigSepL_append, bigSepL_map]; rfl

/-- All devices: the device itself, and the ones at the distances. -/
theorem devs_src_nodup : ∀ c : Dev nD, (c :: dists.map (fun d => src d c)).Nodup := by decide +kernel
theorem devs_src (c : Dev nD) : Finset.univ = (c :: dists.map (fun d => src d c)).toFinset :=
  (Finset.eq_univ_of_card _ ((List.toFinset_card_of_nodup (devs_src_nodup c)).trans rfl)).symm
theorem devs_list (Φ : Dev nD → sProp 𝕄) :
    bigSep Finset.univ Φ = iprop(Φ c ∗ bigSepL dists (fun d => Φ (src d c))) := by
  rw [bigSep_univ_eq_bigSepL _ (devs_src c) (devs_src_nodup c), bigSepL_cons', bigSepL_map]

theorem dists_all : (Finset.univ : Finset (Fin 31)) = dists.toFinset := by decide +kernel
theorem dists_nodup : dists.Nodup := by decide +kernel
theorem dists_list (Φ : Fin 31 → sProp 𝕄) : bigSep Finset.univ Φ = bigSepL dists Φ :=
  bigSep_univ_eq_bigSepL _ dists_all dists_nodup Φ

/-- The devices whose first half came in are the ones the maximum goes to. -/
theorem extra_perm : ∀ c : Dev nD, ((sendsL.filter (fun q => q.2.2 = 0)).map (fun q => org q.1 (q.2.1.val + 1) c)).Perm
    (dists.map (fun d => tgt d c)) := by decide +kernel
theorem extra_nodup : ∀ c : Dev nD, ((sendsL.filter (fun q => q.2.2 = 0)).map (fun q => org q.1 (q.2.1.val + 1) c)).Nodup := by
  decide +kernel
theorem halves_perm : sendsL.Perm (sendsL.filter (fun q => q.2.2 = 0) ++ sendsL.filter (fun q => ¬ q.2.2 = 0)) := by decide +kernel
theorem dirs_perm : sendsL.Perm (sendsD 0 ++ sendsD 1) := by decide +kernel

theorem extras_list : bigSepL sendsL (extra (F := F) c) = bigSepL dists (fun d => amE (tgt d c) c) := by
  rw [TalkSites.bigSepL_perm halves_perm sendsL_nodup, bigSepL_append,
    show bigSepL (sendsL.filter (fun q => ¬ q.2.2 = 0)) (extra (F := F) c) = iprop(emp) from
      (BI.Entails.antisymm (bigSepL_mono fun q hq => Entails.of_eq (if_neg (of_decide_eq_true (List.mem_filter.mp hq).2)))
        (bigSepL_mono fun q hq => Entails.of_eq (if_neg (of_decide_eq_true (List.mem_filter.mp hq).2)).symm)).trans (bigSepL_emp' _),
    show bigSepL (sendsL.filter (fun q => q.2.2 = 0)) (extra (F := F) c)
        = bigSepL (sendsL.filter (fun q => q.2.2 = 0)) (fun q => amE (org q.1 (q.2.1.val + 1) c) c) from
      BI.Entails.antisymm (bigSepL_mono fun q hq => Entails.of_eq (if_pos (of_decide_eq_true (List.mem_filter.mp hq).2)))
        (bigSepL_mono fun q hq => Entails.of_eq (if_pos (of_decide_eq_true (List.mem_filter.mp hq).2)).symm),
    ← bigSepL_map (fun q : Q => org q.1 (q.2.1.val + 1) c) _ (fun t => amE (F := F) t c),
    TalkSites.bigSepL_perm (extra_perm c) (extra_nodup c), bigSepL_map]
  exact equiv_iff.mp sep_emp

end Cert.KernelIdeal.Ring

end
-- ==== Proof.End.lean ====
/-
  The end of the body: the own maximum is published and sent, the others come in, and the result is quantised.
-/
module

public import proofs.«01_k».proof.Proof.Finish
public import proofs.«01_k».proof.Proof.Blocks

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal Cert.KernelIdeal.Gen

variable {F : FTy → Type} [FloatOps F]

local notation "𝕄" => MT nD τ sig Unit (Elt F) ℕ UU ℕ
local notation "Pg" F:max => Prog (TpuEff nD τ sig (Elt F) Λ₀ Proc.tc) PUnit

variable (X : Dev nD → XBuf F) (Wt : Dev nD → WBuf F) (K : GSem nD τ sig → ℕ) (c : Dev nD)
  (Kt : PUnit.{1} → sProp (MT nD τ sig Unit (Elt F) ℕ UU ℕ))

/-- All maxima and all of the result, as the kernel loads them at the end. -/
def amaxes : Vec F S32x8x128 .f32 :=
  aM.view.readAt (Elt F) (Rect.unit (s := S32x8x128) ![0, 0, 0] S32x8x128.size inb_S32x8x128_S32x8x128_0_0_0).toLoadRect (A X Wt)
def allRows (f : OBuf F) : Vec F S4096x64 .f32 :=
  oM.view.readAt (Elt F) (Rect.unit (s := S4096x64) ![0, 0] S4096x64.size inb_S4096x64_S4096x64_0_0).toLoadRect f
/-- The result buffer once it is quantised. -/
def Res (f : OBuf F) : OBuf F :=
  (oM.access (Rect.unit (s := S4096x64) ![0, 0] S4096x64.size inb_S4096x64_S4096x64_0_0)).write (Elt F) f
    (quant (amaxes X Wt) (allRows f)) Finset.univ

/-- The rectangle the own maximum is stored through. -/
abbrev pubR : Rect S32x8x128 := Rect.unit (s := S32x8x128) (k0_off366 c) S1x8x128.size (k0_off366_inb c)

theorem pub_set : (aM.access (pubR c)).set = (amM c).view.set := by
  have e : k0_off366 c = k0_off367 c := (off366_word c).trans (off367_word c).symm
  rw [am_set]
  refine (View.set_slice_whole _ _).trans ?_
  ext i
  rw [Rect.mem_set_unit, Rect.mem_set_unit, e]
  exact Iff.rfl

theorem pub_read (v : F .f32) (hv : v = Mx X Wt c) :
    (aM.access (pubR c)).read (Elt F) (A X Wt) = publish v := by
  subst hv
  funext x
  have h : k0_off366 c (0 : Fin 3) = c.val := by rw [off366_word]; rfl
  have h0 : (x (0 : Fin 3)).val < 1 := (x (0 : Fin 3)).isLt
  have hx : (⟨k0_off366 c (0 : Fin 3) + 1 * (x (0 : Fin 3)).val, by rw [h]; have : c.val < 32 := c.isLt; omega⟩ : Fin 32) = c :=
    Fin.ext (by show k0_off366 c (0 : Fin 3) + 1 * (x (0 : Fin 3)).val = c.val; omega)
  exact congrArg (Mx X Wt) hx

theorem pub_write (v : F .f32) (hv : v = Mx X Wt c) (f : ABuf F) :
    ((aM.access (pubR c)).loc (c : Thread nD τ) ↦[(aM.access (pubR c)).set]{fullShare}
        ((aM.access (pubR c)).write (Elt F) f (publish v) Finset.univ) : sProp 𝕄)
      = am c c fullShare (A X Wt) := by
  unfold am
  rw [← pub_set c]
  refine pointsTo_congr fun i hi => ?_
  · obtain ⟨x, -, rfl⟩ := Finset.mem_map.mp hi
    exact View.eq_of_read_eq (congrFun ((View.read_write_univ _ _).trans (pub_read X Wt c v hv).symm) x)

theorem pub_slot (f : ABuf F) : (am c c fullShare f : sProp 𝕄)
    = ((aM.access (pubR c)).loc (c : Thread nD τ) ↦[(aM.access (pubR c)).set]{fullShare} f) := by
  unfold am
  rw [← pub_set c]

/-- What a device needs to send its maximum over a distance, besides the slots; and to hear. -/
def tokA (d : Fin 31) : sProp 𝕄 :=
  iprop(dutyTok ER (asCell d c) 0 0 ∗ dutyTok ER (arCell d (tgt d c)) 0 0 ∗ reached ER (asCell d c) 0)
def atA (d : Fin 31) : sProp 𝕄 :=
  iprop(atPos ER (asCell d c) 0 ∅ 0 ∗ cred (tallyAt (arCell d c) () Na) ∗ atPos ER (arCell d c) 0 ∅ 0)
def atA1 (d : Fin 31) : sProp 𝕄 := iprop(atPos ER (asCell d c) 1 ∅ 0 ∗ atPos ER (arCell d c) 1 ∅ 0)

/-- What the end of the body starts from, and what it leaves. -/
def endPre (ks : List (Dev nD × Fin 2)) : sProp 𝕄 :=
  iprop(mul X Wt c ks ∗ (∃ f, am c c fullShare f) ∗ bigSepL dists (fun d => amE (tgt d c) c) ∗ bigSepL dists (tokA c) ∗ bigSepL dists (atA c))
def endPost (ks : List (Dev nD × Fin 2)) : sProp 𝕄 :=
  iprop(tPts c ∗ wPts Wt c ∗ (∃ f, ⌜Fits X Wt c ks f⌝ ∗ oM.view.loc (c : Thread nD τ) ↦{fullShare} (Res X Wt f))
    ∗ (aM.view.loc (c : Thread nD τ) ↦{fullShare} (A X Wt)) ∗ bigSepL dists (atA1 c))

/-- Shares of the own maximum for all distances, and what is left. -/
theorem am_toks : (am c c fullShare (A X Wt) : sProp 𝕄) = iprop(am c c (Transfers.shareDrop fullShare 31) (A X Wt) ∗ bigSepL dists (asPay X Wt c)) := by
  rw [← dists_list]
  exact BI.Entails.antisymm (Transfers.pointsTo_toks fullShare 31).1 (Transfers.pointsTo_toks fullShare 31).2

theorem am_all : (aM.view.loc (c : Thread nD τ) ↦{fullShare} (A X Wt) : sProp 𝕄)
    = iprop(am c c fullShare (A X Wt) ∗ bigSepL dists (arPay X Wt c)) := by
  rw [a_blocks c fullShare (A X Wt), devs_list c]; rfl

theorem heard_all : bigSepL dists (heard X Wt c) = iprop(bigSepL dists (atA1 c) ∗ bigSepL dists (asPay X Wt c) ∗ bigSepL dists (arPay X Wt c)) := by
  rw [← bigSepL_sep', ← bigSepL_sep']
  have e₁ : ∀ d, heard X Wt c d ⊢ iprop(atA1 c d ∗ asPay X Wt c d ∗ arPay X Wt c d) := fun d => by
    unfold heard atA1
    iintro ⟨H1, H2, H3, H4⟩
    isplitl [H1 H3]
    · isplitl [H1]; · iexact H1
      iexact H3
    isplitl [H2]; · iexact H2
    iexact H4
  have e₂ : ∀ d, iprop(atA1 c d ∗ asPay X Wt c d ∗ arPay X Wt c d) ⊢ heard X Wt c d := fun d => by
    unfold heard atA1
    iintro ⟨⟨H1, H3⟩, H2, H4⟩
    isplitl [H1]; · iexact H1
    isplitl [H2]; · iexact H2
    isplitl [H3]; · iexact H3
    iexact H4
  exact BI.Entails.antisymm (bigSepL_mono fun d _ => e₁ d) (bigSepL_mono fun d _ => e₂ d)

theorem tellRes_all : iprop(bigSepL dists (asPay X Wt c) ∗ bigSepL dists (fun d => amE (tgt d c) c) ∗ bigSepL dists (tokA c))
    ⊢ bigSepL dists (tellRes X Wt c) := by
  rw [← bigSepL_sep', ← bigSepL_sep']
  refine bigSepL_mono fun d _ => ?_
  have e : iprop(asPay X Wt c d ∗ amE (tgt d c) c ∗ tokA c d) ⊢ tellRes X Wt c d := by
    unfold tellRes tokA asPay
    exact .rfl
  exact e
theorem hearRes_all : iprop(bigSepL dists (fun d => cred (tallyAt (asCell d c) () Na)) ∗ bigSepL dists (atA c))
    ⊢ bigSepL dists (hearRes (F := F) c) := by
  rw [← bigSepL_sep']
  refine bigSepL_mono fun d _ => ?_
  have e : iprop(cred (tallyAt (asCell d c) () Na) ∗ atA (F := F) c d) ⊢ hearRes c d := by
    unfold hearRes atA
    exact .rfl
  exact e

/-- The end of the body, up to the wait for the ring copies. -/
theorem wp_finish (ks : List (Dev nD × Fin 2)) (v : F .f32) (hv : v = Mx X Wt c) (l : List Sent) (D : List Q) (hl : Okl l D) :
    iprop(ctx X Wt K ∗ endPre X Wt c ks ∗ owesE c (owedA c dists) ∗ bigSepL D (pend c)
        ∗ ((endPost X Wt c ks ∗ owesE c 0 ∗ bigSepL D (back X c)) -∗ run c (.ret ⟨⟩) Kt))
      ⊢ run c (finish oM aM cc0_scratch6 cc0_scratch7 c v l) Kt := by
  have hdr := wp_drain X Wt K c Kt l D hl (.ret ⟨⟩)
    iprop(endPost X Wt c ks ∗ ((endPost X Wt c ks ∗ owesE c 0 ∗ bigSepL D (back X c)) -∗ run c (.ret ⟨⟩) Kt)) (by
      iintro ⟨⟨Hp, Hk⟩, HO, Hb⟩
      iapply Hk
      isplitl [Hp]; · iexact Hp
      isplitl [HO]; · iexact HO
      iexact Hb)
  unfold endPre mul oPts finish
  iintro ⟨#Hc, ⟨⟨Ht, Hw, ⟨%g, %hg, Ho⟩⟩, ⟨%f, Ha⟩, Hext, Htok, Hat⟩, HO, HD, Hk⟩
  ihave Ha := (Entails.of_eq (pub_slot c f)) $$ Ha
  iapply (wp_load 𝒱₀ (c : Thread nD τ) none Set.univ (m := aM) (S := (aM.access (pubR c)).set) (q := fullShare) (f := f)
    (by rw [View.set_slice]; exact subset_rfl)) $$ [Ha]
  · iexact Ha
  iintro Ha
  iapply (wp_store 𝒱₀ (c : Thread nD τ) none Set.univ (m := aM) (r := pubR c) (S := (aM.access (pubR c)).set) (f := f)
    subset_rfl) $$ [Ha]
  · iexact Ha
  iintro Ha
  ihave Ha := (Entails.of_eq ((pub_write X Wt c v hv f).trans (am_toks X Wt c))) $$ Ha
  icases Ha with ⟨Hdrop, Htoks⟩
  iapply (wp_tell X Wt K c Kt dists)
  isplitr; · iexact Hc
  isplitl [Htoks Hext Htok]
  · iapply (tellRes_all X Wt c)
    isplitl [Htoks]; · iexact Htoks
    isplitl [Hext]; · iexact Hext
    iexact Htok
  isplitl [HO]; · iexact HO
  iintro ⟨HO, Hcr⟩
  iapply (wp_hear X Wt K c Kt dists)
  isplitr; · iexact Hc
  isplitl [Hcr Hat]
  · iapply (hearRes_all (F := F) c)
    isplitl [Hcr]; · iexact Hcr
    iexact Hat
  isplitl [HO]; · iexact HO
  iintro ⟨HO, Hh⟩
  ihave Hh := (Entails.of_eq (heard_all X Wt c)) $$ Hh
  icases Hh with ⟨Hat, Htoks, Hars⟩
  ihave Ha := (Entails.of_eq (am_toks X Wt c).symm) $$ [Hdrop Htoks]
  · isplitl [Hdrop]; · iexact Hdrop
    iexact Htoks
  ihave Ha := (Entails.of_eq (am_all X Wt c).symm) $$ [Ha Hars]
  · isplitl [Ha]; · iexact Ha
    iexact Hars
  iapply (wp_load 𝒱₀ (c : Thread nD τ) none Set.univ (m := aM) (S := Finset.univ) (q := fullShare) (f := A X Wt)
    (Finset.subset_univ _)) $$ [Ha]
  · iexact Ha
  iintro Ha
  iapply (wp_load 𝒱₀ (c : Thread nD τ) none Set.univ (m := oM) (S := Finset.univ) (q := fullShare) (f := g)
    (Finset.subset_univ _)) $$ [Ho]
  · iexact Ho
  iintro Ho
  iapply (wp_load 𝒱₀ (c : Thread nD τ) none Set.univ (m := oM) (S := Finset.univ) (q := fullShare) (f := g)
    (Finset.subset_univ _)) $$ [Ho]
  · iexact Ho
  iintro Ho
  iapply (wp_store 𝒱₀ (c : Thread nD τ) none Set.univ (m := oM) (S := Finset.univ) (f := g) (Finset.subset_univ _)) $$ [Ho]
  · iexact Ho
  iintro Ho
  iapply hdr
  isplitr; · iexact Hc
  isplitl [HO]; · iexact HO
  isplitl [HD]; · iexact HD
  isplitr [Hk]
  · unfold endPost
    isplitl [Ht]; · iexact Ht
    isplitl [Hw]; · iexact Hw
    isplitl [Ho]
    · iexists g
      isplitr; · ipureintro; exact hg
      iexact Ho
    isplitl [Ha]; · iexact Ha
    iexact Hat
  iexact Hk

end Cert.KernelIdeal.Ring

end
-- ==== Proof.Whole.lean ====
/-
  The ring from its first steps to the end of the body, and what the device has then put together again.
-/
module

public import proofs.«01_k».proof.Proof.End

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal Cert.KernelIdeal.Gen

variable {F : FTy → Type} [FloatOps F]

local notation "𝕄" => MT nD τ sig Unit (Elt F) ℕ UU ℕ
local notation "Pg" F:max => Prog (TpuEff nD τ sig (Elt F) Λ₀ Proc.tc) PUnit

variable (X : Dev nD → XBuf F) (Wt : Dev nD → WBuf F) (K : GSem nD τ sig → ℕ) (c : Dev nD)
  (Kt : PUnit.{1} → sProp (MT nD τ sig Unit (Elt F) ℕ UU ℕ))

/-! ## The slots after the ring -/

/-- The copy that passes on what a copy brought. -/
def nextQ (q : Q) : Q := (q.1, ⟨(q.2.1.val + 1) % 16, Nat.mod_lt _ (by decide)⟩, q.2.2)
theorem next_list : foursN 14 1 (by decide) = (foursN 14 0 (by decide)).map nextQ := by decide +kernel
theorem next_s : ∀ q ∈ foursN 14 0 (by decide), (nextQ q).2.1 ≠ 0 ∧ (nextQ q).2.1.val = q.2.1.val + 1 := by decide +kernel

/-- The slot that a copy filled, with a share of it. -/
def slq (p : PosShare TreeShare) (q : Q) : sProp 𝕄 := sl c (org q.1 (q.2.1.val + 1) c) q.2.2 p (G X)
def atR (q : Q) : sProp 𝕄 := atPos ER (rCell q c) 1 ∅ 0
def atS (r : ℕ) (q : Q) : sProp 𝕄 := atPos ER (sCell q c) r ∅ 0

theorem got_list (l : List Q) (p : PosShare TreeShare) :
    bigSepL l (got X c p) = iprop(bigSepL l (atR c) ∗ bigSepL l (slq X c p) ∗ bigSepL l (extra c)) := by
  rw [show got X c p = fun q => iprop(atR c q ∗ slq X c p q ∗ extra c q) from rfl, bigSepL_sep', bigSepL_sep']

/-- The last slots: two of them lent half. -/
def lastSl : sProp 𝕄 :=
  iprop(slq X c fullShare.right (0, 14, 0) ∗ slq X c fullShare (0, 14, 1) ∗ slq X c fullShare (1, 14, 0)
    ∗ slq X c fullShare.right (1, 14, 1) ∗ slq X c fullShare (0, 15, 0) ∗ slq X c fullShare (1, 15, 1))

theorem lastG_split : lastG X c ⊢ iprop(bigSepL lastW (atR c) ∗ lastSl X c ∗ bigSepL lastW (extra c)) := by
  unfold lastG lastW lastSl got slq
  simp only [bigSepL_cons', bigSepL_nil, atR]
  iintro ⟨⟨A0, S0, E0⟩, ⟨A1, S1, E1⟩, ⟨A2, S2, E2⟩, ⟨A3, S3, E3⟩, ⟨A4, S4, E4⟩, ⟨A5, S5, E5⟩⟩
  isplitl [A0 A1 A2 A3 A4 A5]
  · isplitl [A0]; · iexact A0
    isplitl [A1]; · iexact A1
    isplitl [A2]; · iexact A2
    isplitl [A3]; · iexact A3
    isplitl [A4]; · iexact A4
    isplitl [A5]; · iexact A5
    iempintro
  isplitl [S0 S1 S2 S3 S4 S5]
  · isplitl [S0]; · iexact S0
    isplitl [S1]; · iexact S1
    isplitl [S2]; · iexact S2
    isplitl [S3]; · iexact S3
    isplitl [S4]; · iexact S4
    iexact S5
  isplitl [E0]; · iexact E0
  isplitl [E1]; · iexact E1
  isplitl [E2]; · iexact E2
  isplitl [E3]; · iexact E3
  isplitl [E4]; · iexact E4
  isplitl [E5]; · iexact E5
  iempintro

/-- The two halves of a slot: the one that stayed, and the one that was lent. -/
theorem slq_join {q q' : Q} (he : q'.1 = q.1) (hh : q'.2.2 = q.2.2) (hs : q'.2.1 ≠ 0 ∧ q'.2.1.val = q.2.1.val + 1) :
    iprop(slq X c fullShare.right q ∗ sndPay X c q') ⊢ slq X c fullShare q := by
  obtain ⟨e, s, h⟩ := q
  obtain ⟨e', s', h'⟩ := q'
  obtain ⟨h0, h1⟩ := hs
  dsimp only at he hh h0 h1
  subst he hh
  unfold slq sndPay
  dsimp only
  rw [if_neg h0, h1]
  iintro ⟨HR, HL⟩
  iapply (sl_halves c _ _ _).2
  isplitl [HL]; · iexact HL
  iexact HR

/-- The shares of the own block that the first copies read. -/
def xLent : sProp 𝕄 := bigSepL (foursN 1 0 (by decide)) (sndPay X c)

theorem merge : iprop(bigSepL (foursN 14 0 (by decide)) (slq X c fullShare.right) ∗ lastSl X c ∗ bigSepL sendsL (sndPay X c))
    ⊢ iprop(xLent X c ∗ bigSepL sendsL (slq X c fullShare)) := by
  have j := bigSepL_mono (l := foursN 14 0 (by decide)) (Φ := fun q => iprop(slq X c fullShare.right q ∗ sndPay X c (nextQ q)))
    (Ψ := slq X c fullShare) (fun q hq => slq_join X c rfl rfl (next_s q hq))
  have j0 := slq_join X c (q := (0, 14, 0)) (q' := (0, 15, 0)) rfl rfl (by decide)
  have j1 := slq_join X c (q := (1, 14, 1)) (q' := (1, 15, 1)) rfl rfl (by decide)
  rw [bigSepL_sep', ← bigSepL_map nextQ (foursN 14 0 (by decide)) (sndPay X c), ← next_list] at j
  rw [show bigSepL sendsL (sndPay X c) = iprop(xLent X c ∗ bigSepL (foursN 14 1 (by decide)) (sndPay X c) ∗ bigSepL lastS (sndPay X c)) by
      rw [sendsL_first, bigSepL_append, bigSepL_append]; rfl,
    show bigSepL sendsL (slq X c fullShare) = iprop(bigSepL (foursN 14 0 (by decide)) (slq X c fullShare) ∗ bigSepL lastW (slq X c fullShare)) by
      rw [sendsL_last, bigSepL_append]]
  unfold lastSl lastS lastW
  simp only [bigSepL_cons', bigSepL_nil]
  iintro ⟨HR, ⟨S0, S1, S2, S3, S4, S5⟩, Hx, HL, L0, L1, -⟩
  isplitl [Hx]; · iexact Hx
  isplitl [HR HL]
  · iapply j
    isplitl [HR]; · iexact HR
    iexact HL
  isplitl [S0 L0]
  · iapply j0
    isplitl [S0]; · iexact S0
    iexact L0
  isplitl [S1]; · iexact S1
  isplitl [S2]; · iexact S2
  isplitl [S3 L1]
  · iapply j1
    isplitl [S3]; · iexact S3
    iexact L1
  isplitl [S4]; · iexact S4
  isplitl [S5]; · iexact S5
  iempintro

/-! ## From the first ring step to the end -/

/-- All half blocks that came in, the last one first. -/
def allKeys : List (Dev nD × Fin 2) := (sendsL.map (keyOf c)).reverse
theorem allKeys_eq : keysOn c lastW (keysOn c (foursN 14 0 (by decide)) []) = allKeys c := by
  unfold allKeys keysOn
  rw [sendsL_last, List.map_append, List.reverse_append, List.append_nil]

theorem sent_eq : lastS.reverse ++ ((foursN 14 1 (by decide)).reverse ++ (foursN 1 0 (by decide)).reverse) = sendsL.reverse := by
  decide +kernel
theorem sent_perm : sendsL.reverse.Perm sendsL := List.reverse_perm _

/-- Besides the copies: the copies already started, the own maximum's slot and copies, and the cells of the own copies. -/
def restPre : sProp 𝕄 :=
  iprop(bigSepL (foursN 1 0 (by decide)) (cs c) ∗ (∃ f, am c c fullShare f) ∗ bigSepL dists (tokA c) ∗ bigSepL dists (atA c)
    ∗ bigSepL sendsL (atS c 0))
def ringEnd : sProp 𝕄 :=
  iprop(endPost X Wt c (allKeys c) ∗ owesE c 0 ∗ bigSepL sendsL (atS c 1) ∗ bigSepL sendsL (atR c) ∗ xLent X c
    ∗ bigSepL sendsL (slq X c fullShare))

theorem pend_all : iprop(bigSepL (foursN 1 0 (by decide)) (cs c) ∗ bigSepL (foursN 14 1 (by decide)) (cs c) ∗ bigSepL lastS (cs c)
    ∗ bigSepL sendsL (atS c 0)) ⊢ bigSepL sendsL.reverse (pend (F := F) c) := by
  rw [TalkSites.bigSepL_perm sent_perm (sent_perm.nodup_iff.mpr sendsL_nodup)]
  rw [show pend (F := F) c = fun q => iprop(cs c q ∗ atS c 0 q) from rfl, bigSepL_sep',
    show bigSepL sendsL (cs (F := F) c) = iprop(bigSepL (foursN 1 0 (by decide)) (cs c) ∗ bigSepL (foursN 14 1 (by decide)) (cs c) ∗ bigSepL lastS (cs c)) by
      rw [sendsL_first, bigSepL_append, bigSepL_append]]
  iintro ⟨H0, H1, H2, H3⟩
  isplitr [H3]
  · isplitl [H0]; · iexact H0
    isplitl [H1]; · iexact H1
    iexact H2
  iexact H3

theorem back_all : bigSepL sendsL.reverse (back X c) ⊢ iprop(bigSepL sendsL (atS c 1) ∗ bigSepL sendsL (sndPay X c)) := by
  rw [TalkSites.bigSepL_perm sent_perm (sent_perm.nodup_iff.mpr sendsL_nodup)]
  rw [show back X c = fun q => iprop(atS c 1 q ∗ sndPay X c q) from rfl, bigSepL_sep']

theorem wp_ring (E0 E1 E2 E3 : Ends) (h0 : okD E0) (h1 : okD E1) (h2 : okD E2) (h3 : okD E3) (l : List Sent)
    (hl : Okl l (foursN 1 0 (by decide)).reverse) :
    iprop(ctx X Wt K ∗ ringPre X Wt c (foursN 14 0 (by decide)) (foursN 14 1 (by decide)) lastS []
        ∗ bigSepL lastW (wres c) ∗ bigSepL lastS (sres c) ∗ restPre c ∗ (ringEnd X Wt c -∗ run c (.ret ⟨⟩) Kt))
      ⊢ run c (phases wM tM oM cM (Memref.isWhole_whole cc0_scratch0) cc0_scratch2 cc0_scratch3 cc0_scratch4 cc0_scratch5
            (nx 1 c) (nx 0 c) 14 0 (by decide) E0 E1 E2 E3 (accOf X Wt c []) l fun e0 e1 e2 e3 acc l =>
          lastPhase wM tM oM cM (Memref.isWhole_whole cc0_scratch0) cc0_scratch2 cc0_scratch3 cc0_scratch4 cc0_scratch5
            (nx 1 c) (nx 0 c) e0 e1 e2 e3 acc l fun acc l => finish oM aM cc0_scratch6 cc0_scratch7 c acc l) Kt := by
  have hph := wp_phases X Wt K c Kt 14 0 (by decide) (by decide) E0 E1 E2 E3 h0 h1 h2 h3 l _ hl lastS (by decide) []
    (fun e0 e1 e2 e3 acc l =>
          lastPhase wM tM oM cM (Memref.isWhole_whole cc0_scratch0) cc0_scratch2 cc0_scratch3 cc0_scratch4 cc0_scratch5
            (nx 1 c) (nx 0 c) e0 e1 e2 e3 acc l fun acc l => finish oM aM cc0_scratch6 cc0_scratch7 c acc l)
    iprop(ctx X Wt K ∗ bigSepL lastW (wres c) ∗ bigSepL lastS (sres c) ∗ restPre c ∗ (ringEnd X Wt c -∗ run c (.ret ⟨⟩) Kt))
    (fun e0 e1 e2 e3 l' g0 g1 g2 g3 hl' => by
      have hfin := wp_finish X Wt K c Kt (allKeys c) (accOf X Wt c (allKeys c)) rfl
        ((sSem (1, 15, 1), EN (org 1 15 c) 1) :: (sSem (0, 15, 0), EN (org 0 15 c) 0) :: l') sendsL.reverse
        (by rw [← sent_eq]; exact okl_cons (1, 15, 1) _ _ (.inr rfl) (okl_cons (0, 15, 0) _ _ (.inr rfl) hl'))
      unfold ringPost restPre
      iintro ⟨⟨#Hc, Hw, Hs, ⟨Hcs0, Ha, Hta, Hata, Hats⟩, Hk⟩, Hm, HO, Hcs1, Hg⟩
      iapply (wp_last X Wt K c Kt e0 e1 e2 e3 g0 g1 g2 g3)
      isplitr; · iexact Hc
      isplitl [Hm HO Hw Hs]
      · unfold ringPre
        isplitl [Hm]; · iexact Hm
        isplitl [HO]; · rw [List.append_nil]; iexact HO
        isplitl [Hw]; · iexact Hw
        iexact Hs
      iintro ⟨Hm, HO, Hcs2, HG⟩
      rw [allKeys_eq]
      ihave HG := (lastG_split X c) $$ HG
      icases HG with ⟨Hr2, Hsl2, Hx2⟩
      ihave Hg := (Entails.of_eq (got_list X c _ _)) $$ Hg
      icases Hg with ⟨Hr1, Hsl1, Hx1⟩
      iapply hfin
      isplitr; · iexact Hc
      isplitl [Hm Ha Hta Hata Hx1 Hx2]
      · unfold endPre
        isplitl [Hm]; · iexact Hm
        isplitl [Ha]; · iexact Ha
        isplitl [Hx1 Hx2]
        · iapply (Entails.of_eq (extras_list (F := F) c))
          rw [sendsL_last, bigSepL_append]
          isplitl [Hx1]; · iexact Hx1
          iexact Hx2
        isplitl [Hta]; · iexact Hta
        iexact Hata
      isplitl [HO]; · iexact HO
      isplitl [Hcs0 Hcs1 Hcs2 Hats]
      · iapply (pend_all (F := F) c)
        isplitl [Hcs0]; · iexact Hcs0
        isplitl [Hcs1]; · iexact Hcs1
        isplitl [Hcs2]; · iexact Hcs2
        iexact Hats
      iintro ⟨Hend, HO, Hb⟩
      ihave Hb := (back_all X c) $$ Hb
      icases Hb with ⟨Hats, Hp⟩
      ihave Hmg := (merge X c) $$ [Hsl1 Hsl2 Hp]
      · isplitl [Hsl1]; · iexact Hsl1
        isplitl [Hsl2]; · iexact Hsl2
        iexact Hp
      icases Hmg with ⟨Hxl, Hsl⟩
      iapply Hk
      unfold ringEnd
      isplitl [Hend]; · iexact Hend
      isplitl [HO]; · iexact HO
      isplitl [Hats]; · iexact Hats
      isplitl [Hr1 Hr2]
      · rw [sendsL_last, bigSepL_append]
        isplitl [Hr1]; · iexact Hr1
        iexact Hr2
      isplitl [Hxl]; · iexact Hxl
      iexact Hsl)
  iintro ⟨#Hc, Hp, Hw, Hs, Hr, Hk⟩
  iapply hph
  isplitr; · iexact Hc
  isplitl [Hp]; · iexact Hp
  isplitr; · iexact Hc
  isplitl [Hw]; · iexact Hw
  isplitl [Hs]; · iexact Hs
  isplitl [Hr]; · iexact Hr
  iexact Hk

end Cert.KernelIdeal.Ring

end
-- ==== Proof.Start.lean ====
/-
  The whole body at any device: the signals to both neighbours, the first copies, the own block's product, and then the ring.
-/
module

public import proofs.«01_k».proof.Proof.Whole

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal Cert.KernelIdeal.Gen

variable {F : FTy → Type} [FloatOps F]

local notation "𝕄" => MT nD τ sig Unit (Elt F) ℕ UU ℕ
local notation "Pg" F:max => Prog (TpuEff nD τ sig (Elt F) Λ₀ Proc.tc) PUnit

variable (X : Dev nD → XBuf F) (Wt : Dev nD → WBuf F) (K : GSem nD τ sig → ℕ) (c : Dev nD)
  (Kt : PUnit.{1} → sProp (MT nD τ sig Unit (Elt F) ℕ UU ℕ))

/-! ## The buffers at the start and at the end -/

def xPts (q : PosShare TreeShare) : sProp 𝕄 := xM.view.loc (c : Thread nD τ) ↦{q} (X c)

/-- The block in the shares the first copies and the own product read. -/
theorem x_shares : (xPts X c fullShare : sProp 𝕄) ⊣⊢ iprop((xPts X c (xq 0) ∗ xPts X c (xq 1)) ∗ xPts X c fullShare.right) := by
  have e₁ : (xPts X c fullShare : sProp 𝕄) ⊣⊢ iprop(xPts X c fullShare.left ∗ xPts X c fullShare.right) :=
    pointsTo_share (PosShare.mem_left_op_right fullShare)
  have e₂ : (xPts X c fullShare.left : sProp 𝕄) ⊣⊢ iprop(xPts X c (xq 0) ∗ xPts X c (xq 1)) :=
    pointsTo_share (PosShare.mem_left_op_right fullShare.left)
  constructor
  · iintro H
    ihave H := e₁.1 $$ H
    icases H with ⟨HL, HR⟩
    isplitl [HL]; · iapply e₂.1; iexact HL
    iexact HR
  · iintro ⟨HL, HR⟩
    iapply e₁.2
    isplitl [HL]; · iapply e₂.2; iexact HL
    iexact HR

theorem x_halves (q : PosShare TreeShare) : (xPts X c q : sProp 𝕄) = iprop(xs c 0 q (X c) ∗ xs c 1 q (X c)) := x_blocks c q (X c)

theorem sndPay_first (e h : Fin 2) (h0 : 0 < 16) : sndPay X c (e, ⟨0, h0⟩, h) = xs c h (xq e) (X c) := if_pos rfl

theorem x_back : iprop(xLent X c ∗ xPts X c fullShare.right) ⊢ xPts X c fullShare := by
  have e : xLent X c ⊢ iprop(xPts X c (xq 0) ∗ xPts X c (xq 1)) := by
    rw [x_halves, x_halves]
    unfold xLent
    simp only [foursN, bigSepL_cons', bigSepL_nil, sndPay_first]
    iintro ⟨H0, H1, H2, H3, -⟩
    isplitl [H0 H1]
    · isplitl [H0]; · iexact H0
      iexact H1
    isplitl [H2]; · iexact H2
    iexact H3
  iintro ⟨HL, HR⟩
  iapply (x_shares X c).2
  isplitl [HL]; · iapply e; iexact HL
  iexact HR

/-- An empty slot of the device, for the copy that fills it. -/
def slotE (q : Q) : sProp 𝕄 :=
  iprop((∃ f, sl c (org q.1 (q.2.1.val + 1) c) q.2.2 fullShare f) ∗ reached ER (rCell q c) 0)
/-- The slots no copy fills: the ones of the device's own block. -/
def slotO : sProp 𝕄 := iprop((∃ f, sl c c 0 fullShare f) ∗ (∃ f, sl c c 1 fullShare f))

theorem slots_open (f : CBuf F) : iprop((cM.view.loc (c : Thread nD τ) ↦{fullShare} f) ∗ bigSepL sendsL (fun q => reached ER (rCell q c) 0))
    ⊢ iprop((bigSepL (sendsD 0) (slotE c) ∗ bigSepL (sendsD 1) (slotE c)) ∗ slotO c) := by
  rw [c_blocks c fullShare f, slots_list c, ← bigSepL_append, ← TalkSites.bigSepL_perm dirs_perm sendsL_nodup]
  have e : iprop(bigSepL sendsL (fun q => sl c (keyOf c q).1 (keyOf c q).2 fullShare f) ∗ bigSepL sendsL (fun q => reached ER (rCell q c) 0))
      ⊢ bigSepL sendsL (slotE (F := F) c) := by
    rw [← bigSepL_sep']
    refine bigSepL_mono fun q _ => ?_
    have e' : iprop(sl c (keyOf c q).1 (keyOf c q).2 fullShare f ∗ reached ER (rCell q c) 0) ⊢ slotE (F := F) c q := by
      unfold slotE
      iintro ⟨H, Hr⟩
      isplitl [H]; · iexists f; iexact H
      iexact Hr
    exact e'
  unfold slotO
  iintro ⟨⟨Hs, H0, H1⟩, Hr⟩
  isplitl [Hs Hr]
  · iapply e
    isplitl [Hs]; · iexact Hs
    iexact Hr
  isplitl [H0]; · iexists f; iexact H0
  iexists f; iexact H1

theorem slots_close : iprop(bigSepL sendsL (slq X c fullShare) ∗ slotO c) ⊢ iprop(∃ f, cM.view.loc (c : Thread nD τ) ↦{fullShare} f) := by
  refine BIBase.Entails.trans ?_ (c_join c (G X))
  rw [slots_list c]
  unfold slotO
  iintro ⟨Hs, H0, H1⟩
  isplitl [Hs]
  · iapply (bigSepL_mono (l := sendsL) (Φ := slq X c fullShare) (Ψ := fun q => iprop(∃ f, sl c (keyOf c q).1 (keyOf c q).2 fullShare f)) (fun q _ => by
      unfold slq
      iintro H; iexists (G X); iexact H))
    iexact Hs
  isplitl [H0]; · iexact H0
  iexact H1

/-- The slots handed to a neighbour with a signal. -/
theorem bar_give (e : Fin 2) : bigSepL (sendsD e) (slotE c) ⊢ barPay (F := F) (nx (opp e) c) e := by
  unfold barPay
  refine bigSepL_mono fun q hq => ?_
  obtain ⟨e', s, h⟩ := q
  have he : e' = e := of_decide_eq_true (List.mem_filter.mp hq).2
  subst he
  have h1 := org_next e' s (nx (opp e') c)
  rw [nx_opp'] at h1
  have e : slotE (F := F) c (e', s, h) ⊢ dstE (nx (opp e') c) (e', s, h) := by
    unfold slotE dstE
    dsimp only
    rw [nx_opp', h1]
  exact e

/-- The empty slots for the maxima of the other devices. -/
theorem a_open (f : ABuf F) : iprop((aM.view.loc (c : Thread nD τ) ↦{fullShare} f) ∗ reachA c)
    ⊢ iprop((∃ f, am c c fullShare f) ∗ bigSepL dists (fun d => amE (F := F) c (src d c))) := by
  rw [a_blocks c fullShare f, devs_list c]
  iintro ⟨⟨H, Hs⟩, #Hr⟩
  isplitl [H]; · iexists f; iexact H
  have e : ∀ l : List (Fin 31), iprop(bigSepL l (fun d => am c (src d c) fullShare f) ∗ reachA c) ⊢ bigSepL l (fun d => amE (F := F) c (src d c)) := fun l => by
    induction l with
    | nil =>
      rw [bigSepL_nil, bigSepL_nil]
      iintro -; iempintro
    | cons d l ih =>
      rw [bigSepL_cons', bigSepL_cons']
      iintro ⟨⟨H, Hl⟩, #Hr⟩
      isplitl [H]
      · unfold amE
        isplitl [H]; · iexists f; iexact H
        iexact Hr
      iapply ih
      isplitl [Hl]; · iexact Hl
      iexact Hr
  iapply (e dists)
  isplitl [Hs]; · iexact Hs
  iexact Hr

theorem route_perm : ∀ c : Dev nD, (dists.map (fun d => src d c)).Perm
    ((List.range' 1 16).map (fun k => org 1 k c) ++ (List.range' 1 15).map (fun k => org 0 k c)) := by decide +kernel
theorem route_nodup : ∀ c : Dev nD, (dists.map (fun d => src d c)).Nodup := by decide +kernel

/-- They set out in both directions. -/
theorem routes : bigSepL dists (fun d => amE (F := F) c (src d c)) = iprop(route 0 1 c ∗ route 1 1 c) := by
  rw [← bigSepL_map (fun d => src d c) dists (fun j => amE (F := F) c j), TalkSites.bigSepL_perm (route_perm c) (route_nodup c),
    bigSepL_append, bigSepL_map, bigSepL_map]
  rfl

/-! ## The first copies and the own product -/

theorem org_zero_next (e : Fin 2) : org e (0 + 1) (nx e c) = c := (org_next e 0 c).trans (org_zero e c)

theorem along_first (e : Fin 2) : along (F := F) (e, 0, 0) (nx e c) = route e 1 c := by
  show (if (0 : Fin 2) = 0 then route e (0 + 1) (org e (0 + 1) (nx e c)) else _) = _
  rw [if_pos rfl, org_zero_next]
theorem along_first' (e : Fin 2) : along (F := F) (e, 0, 1) (nx e c) = iprop(emp) :=
  if_neg (show ¬ (1 : Fin 2) = 0 by decide)

theorem wp_first (e h : Fin 2) (j : Fin 35) (hj : ent c j = Dev.word c) (hx : xM.IsWhole) (O : CellTallies nD τ sig Unit)
    (l : List Q) (k : Ends → Pg F) :
    iprop(ctx X Wt K ∗ tPts c ∗ xs c h (xq e) (X c) ∗ sres c (e, 0, h) ∗ along (e, 0, h) (nx e c) ∗ owesE c (owedL O c ((e, 0, h) :: l))
        ∗ ((tPts c ∗ cs c (e, 0, h) ∗ owesE c (owedL O c l)) -∗ run c (k (E0 c h)) Kt))
      ⊢ run c (first xM hx tM cM (Memref.isWhole_whole cc0_scratch0) h j (nx e c) (sArr e) (rArr e) k) Kt := by
  iintro ⟨#Hc, Ht, Hx, Hs, Hal, HO, Hk⟩
  iapply (wp_word c Kt j); isplitl [Ht]; · iexact Ht
  iintro Ht
  rw [hj]
  iapply (wp_take c Kt _ (chkC_word h c))
  iapply (wp_send X Wt K c Kt (q := (e, 0, h)) (.inl (show 0 < 15 by decide)) (E0 c h)
    (by show slotM c h = slotM (org e 0 c) h; rw [org_zero]) (xq e) (X c)
    (by show xh X c h = xh X (org e 0 c) h; rw [org_zero]) (by unfold sndPay xs; exact .rfl) O l)
  isplitr; · iexact Hc
  isplitl [Hx]; · unfold xs; iexact Hx
  isplitl [Hs]; · iexact Hs
  isplitl [Hal]; · iexact Hal
  isplitl [HO]; · iexact HO
  iintro ⟨Hcs, HO⟩
  iapply Hk
  isplitl [Ht]; · iexact Ht
  isplitl [Hcs]; · iexact Hcs
  iexact HO

theorem fits_nil (f : OBuf F) : Fits X Wt c [] ((oM.access (Rect.unit (s := S4096x64) (k0_off5 c) S128x64.size (k0_off5_inb c))).write
    (Elt F) f (ownP X Wt c) Finset.univ) :=
  ⟨by rw [View.readAt_rect]; exact View.read_write_univ _ _, fun k hk => absurd hk (List.not_mem_nil)⟩

theorem wp_own (f : OBuf F) (k : F .f32 → Pg F) :
    iprop(tPts c ∗ wPts Wt c ∗ xPts X c fullShare.right ∗ (oM.view.loc (c : Thread nD τ) ↦{fullShare} f)
        ∗ ((mul X Wt c [] ∗ xPts X c fullShare.right) -∗ run c (k (accOf X Wt c [])) Kt))
      ⊢ run c (ownStep xM wM oM c k) Kt := by
  unfold wPts xPts mul oPts
  iintro ⟨Ht, Hw, Hx, Ho, Hk⟩
  iapply (wp_load 𝒱₀ (c : Thread nD τ) none Set.univ (m := xM) (S := Finset.univ) (q := fullShare.right) (f := X c)
    (Finset.subset_univ _)) $$ [Hx]
  · iexact Hx
  iintro Hx
  iapply (wp_load 𝒱₀ (c : Thread nD τ) none Set.univ (m := wM) (S := Finset.univ) (q := fullShare) (f := Wt c)
    (Finset.subset_univ _)) $$ [Hw]
  · iexact Hw
  iintro Hw
  iapply (wp_load 𝒱₀ (c : Thread nD τ) none Set.univ (m := oM) (S := Finset.univ) (q := fullShare) (f := f)
    (Finset.subset_univ _)) $$ [Ho]
  · iexact Ho
  iintro Ho
  iapply (wp_store 𝒱₀ (c : Thread nD τ) none Set.univ (m := oM) (S := Finset.univ) (f := f) (Finset.subset_univ _)) $$ [Ho]
  · iexact Ho
  iintro Ho
  iapply Hk
  isplitr [Hx]
  · isplitl [Ht]; · iexact Ht
    isplitl [Hw]; · unfold wPts; iexact Hw
    iexists _
    isplitr
    · ipureintro
      exact fits_nil X Wt c f
    iexact Ho
  iexact Hx

end Cert.KernelIdeal.Ring

end
-- ==== Proof.Body.lean ====
/-
  The body at any device, from its start to its end, and the closing of its cells.
-/
module

public import proofs.«01_k».proof.Proof.Start

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal Cert.KernelIdeal.Gen

variable {F : FTy → Type} [FloatOps F]

local notation "𝕄" => MT nD τ sig Unit (Elt F) ℕ UU ℕ
local notation "Pg" F:max => Prog (TpuEff nD τ sig (Elt F) Λ₀ Proc.tc) PUnit

variable (X : Dev nD → XBuf F) (Wt : Dev nD → WBuf F) (K : GSem nD τ sig → ℕ) (c : Dev nD)
  (Kt : PUnit.{1} → sProp (MT nD τ sig Unit (Elt F) ℕ UU ℕ))

/-- The own signal cell, and the neighbours' that device `c` pays. -/
def barRes : sProp 𝕄 :=
  iprop(atPos ER (barCell c) 0 ∅ 0 ∗ cred (tallyAt (barCell c) () 2) ∗ dutyTok ER (barCell (nx 1 c)) 0 0 ∗ dutyTok ER (barCell (nx 0 c)) 0 1
    ∗ reached ER (barCell (nx 1 c)) 0 ∗ reached ER (barCell (nx 0 c)) 0)

/-- The buffers a device starts with. -/
def bufPre : sProp 𝕄 :=
  iprop(tPts c ∗ wPts Wt c ∗ xPts X c fullShare ∗ (∃ f, oM.view.loc (c : Thread nD τ) ↦{fullShare} f)
    ∗ (∃ f, cM.view.loc (c : Thread nD τ) ↦{fullShare} f) ∗ (∃ f, aM.view.loc (c : Thread nD τ) ↦{fullShare} f))
/-- The cells it starts with, opened. -/
def cellPre : sProp 𝕄 :=
  iprop(barRes c ∗ bigSepL sendsL (tokS c) ∗ bigSepL sendsL (wres c) ∗ bigSepL sendsL (fun q => reached ER (rCell q c) 0)
    ∗ bigSepL sendsL (atS c 0) ∗ bigSepL dists (tokA c) ∗ bigSepL dists (atA c) ∗ reachA c)
/-- What it ends with. -/
def bufPost : sProp 𝕄 :=
  iprop(tPts c ∗ wPts Wt c ∗ xPts X c fullShare
    ∗ (∃ f, ⌜Fits X Wt c (allKeys c) f⌝ ∗ oM.view.loc (c : Thread nD τ) ↦{fullShare} (Res X Wt f))
    ∗ (∃ f, cM.view.loc (c : Thread nD τ) ↦{fullShare} f) ∗ (∃ f, aM.view.loc (c : Thread nD τ) ↦{fullShare} f))
def cellPost : sProp 𝕄 :=
  iprop(atPos ER (barCell c) 1 ∅ 0 ∗ bigSepL sendsL (atS c 1) ∗ bigSepL sendsL (atR c) ∗ bigSepL dists (atA1 c))

theorem ring_end : iprop(ringEnd X Wt c ∗ xPts X c fullShare.right ∗ slotO c ∗ atPos ER (barCell c) 1 ∅ 0)
    ⊢ iprop(bufPost X Wt c ∗ cellPost c ∗ owesE c 0) := by
  unfold ringEnd endPost bufPost cellPost
  iintro ⟨⟨⟨Ht, Hw, Ho, Ha, Hat⟩, HO, HS, HR, Hxl, Hsl⟩, Hxr, Hso, Hb⟩
  isplitl [Ht Hw Ho Ha Hxl Hsl Hxr Hso]
  · isplitl [Ht]; · iexact Ht
    isplitl [Hw]; · iexact Hw
    isplitl [Hxl Hxr]
    · iapply (x_back X c)
      isplitl [Hxl]; · iexact Hxl
      iexact Hxr
    isplitl [Ho]; · iexact Ho
    isplitl [Hsl Hso]
    · iapply (slots_close X c)
      isplitl [Hsl]; · iexact Hsl
      iexact Hso
    iexists _; iexact Ha
  isplitr [HO]
  · isplitl [Hb]; · iexact Hb
    isplitl [HS]; · iexact HS
    isplitl [HR]; · iexact HR
    iexact Hat
  iexact HO

/-- The slots that came with the signals are the ones the copies need. -/
theorem sres_all : iprop(bigSepL sendsL (tokS c) ∗ barPay c 0 ∗ barPay c 1) ⊢ bigSepL sendsL (sres (F := F) c) := by
  unfold barPay
  rw [← bigSepL_append, ← TalkSites.bigSepL_perm dirs_perm sendsL_nodup, ← bigSepL_sep']
  exact .rfl

theorem sends_split (Φ : Q → sProp 𝕄) : bigSepL sendsL Φ
    = iprop((Φ (0, 0, 0) ∗ Φ (0, 0, 1) ∗ Φ (1, 0, 0) ∗ Φ (1, 0, 1)) ∗ bigSepL (foursN 14 1 (by decide)) Φ ∗ bigSepL lastS Φ) := by
  rw [sendsL_first, bigSepL_append, bigSepL_append]
  rfl

theorem ent2 : ent c 2 = Dev.word c := (ent_cw 0 c).trans (congrArg Dev.word (org_zero 0 c))
theorem ent19 : ent c 19 = Dev.word c := (ent_ccw 0 c).trans (congrArg Dev.word (org_zero 1 c))

theorem above_bar : above 1 (owedL (owedA c dists) c sendsL) := above_from c 1 (by decide) _ (fun q _ => by omega)

theorem tag_bar_lv : lvOf (tag (.reg barS)) ≤ 1 := le_rfl

/-- The first copies, as the body lists them. -/
abbrev firstL : List Sent :=
  [(semQ cc0_scratch4 0 1, E0 c 1), (semQ cc0_scratch4 0 0, E0 c 0), (semQ cc0_scratch2 0 1, E0 c 1), (semQ cc0_scratch2 0 0, E0 c 0)]
theorem first_ok : Okl (firstL c)
    (foursN 1 0 (by decide)).reverse :=
  .cons ⟨rfl, okS_E0 _ _, .inl (show 0 < 15 by decide)⟩ (.cons ⟨rfl, okS_E0 _ _, .inl (show 0 < 15 by decide)⟩
    (.cons ⟨rfl, okS_E0 _ _, .inl (show 0 < 15 by decide)⟩ (.cons ⟨rfl, okS_E0 _ _, .inl (show 0 < 15 by decide)⟩ .nil)))

theorem wp_dev (k : Dev nD → Pg F) : run c (k c) Kt ⊢ run c (.op .deviceId k) Kt :=
  Entails.of_eq (wp_deviceId 𝒱₀ (c : Thread nD τ) none Set.univ).symm

set_option maxHeartbeats 1000000 in
/-- The body at device `c`. -/
theorem wp_body (hx : xM.IsWhole) :
    iprop(ctx X Wt K ∗ bufPre X Wt c ∗ cellPre c ∗ owesE c (O₀ c)
        ∗ ((bufPost X Wt c ∗ cellPost c ∗ owesE c 0) -∗ run c (.ret ⟨⟩) Kt))
      ⊢ run c (body xM hx wM tM oM cM (Memref.isWhole_whole cc0_scratch0) aM cc0_scratch2 cc0_scratch3 cc0_scratch4 cc0_scratch5
          cc0_scratch6 cc0_scratch7) Kt := by
  have hm : ctx X Wt K ⊢ MayWait (c : Thread nD τ) (.reg barS) () (owedL (owedA c dists) c sendsL) :=
    (ctx_lev X Wt K).trans (mayWait (F := F) c (.reg barS) tag_bar_lv (above_bar c))
  have hring := wp_ring X Wt K c Kt (E0 c 0) (E0 c 1) (E0 c 0) (E0 c 1) (okD_E0 c 0) (okD_E0 c 1) (okD_E0 c 0) (okD_E0 c 1)
    (firstL c) (first_ok c)
  unfold body
  refine BIBase.Entails.trans ?_ (wp_dev c Kt _)
  unfold bufPre cellPre barRes owesE
  iintro ⟨#Hc, ⟨Ht, Hw, Hx, ⟨%fo, Ho⟩, ⟨%fc, Hcb⟩, ⟨%fa, Hab⟩⟩, ⟨⟨Hbat, Hbcr, Hbt1, Hbt0, #Hbr1, #Hbr0⟩, Htok, Hwr, Hrr, HatS, HtA, HaA, #HrA⟩,
    ⟨%W, HO⟩, Hk⟩
  ihave Hsl := (slots_open c fc) $$ [Hcb Hrr]
  · isplitl [Hcb]; · iexact Hcb
    iexact Hrr
  icases Hsl with ⟨⟨Hs0, Hs1⟩, HsO⟩
  ihave Hs0 := (bar_give c 0) $$ Hs0
  ihave Hs1 := (bar_give c 1) $$ Hs1
  ihave Hab := (a_open c fa) $$ [Hab]
  · isplitl [Hab]; · iexact Hab
    iexact HrA
  icases Hab with ⟨Hao, Hae⟩
  ihave Hae := (Entails.of_eq (routes c)) $$ Hae
  icases Hae with ⟨Hr0, Hr1⟩
  iapply (wp_word c Kt 0); isplitl [Ht]; · iexact Ht
  iintro Ht
  rw [ent_left]
  iapply (wp_take c Kt _ (chk1_word (nx 1 c)))
  iapply (wp_word c Kt 1); isplitl [Ht]; · iexact Ht
  iintro Ht
  rw [ent_right]
  iapply (wp_take c Kt _ (chk2_word (nx 0 c)))
  rw [devL_word, devR_word]
  iapply (Rounds.wp_signal 𝒱₀ ER (rd X Wt) (c : Thread nD τ) none (dst := (nx 1 c : Thread nD τ)) (sem := barS) (r := 0) (d := 0)
      (κ := K (barCell (nx 1 c))) (duty_bar X Wt (nx 1 c) 0) (amount_bar X Wt (nx 1 c) 0 0) ()
      (owedL (owedA c dists) c sendsL + tallyAt (barCell (nx 0 c)) () 1) rfl)
    $$ [HO Hbt1 Hs0]
  · isplitr; · iapply (ctx_bar X Wt K (nx 1 c)); iexact Hc
    isplitl [HO]; · iexact HO
    isplitl [Hbt1]; · iexact Hbt1
    isplitl [Hs0]; · rw [payload_bar]; iexact Hs0
    iexact Hbr1
  iintro HO
  iapply (Rounds.wp_signal 𝒱₀ ER (rd X Wt) (c : Thread nD τ) none (dst := (nx 0 c : Thread nD τ)) (sem := barS) (r := 0) (d := 1)
      (κ := K (barCell (nx 0 c))) (duty_bar X Wt (nx 0 c) 1) (amount_bar X Wt (nx 0 c) 0 1) ()
      (owedL (owedA c dists) c sendsL) rfl)
    $$ [HO Hbt0 Hs1]
  · isplitr; · iapply (ctx_bar X Wt K (nx 0 c)); iexact Hc
    isplitl [HO]; · iexact HO
    isplitl [Hbt0]; · iexact Hbt0
    isplitl [Hs1]; · rw [payload_bar]; iexact Hs1
    iexact Hbr0
  iintro HO
  iapply (Rounds.wp_wait_rest_token 𝒱₀ ER (rd X Wt) (c : Thread nD τ) none (κ := K (barCell c))
      (wpE_semWait_eq 𝒱₀ (c : Thread nD τ) none Set.univ) (Set.mem_univ _) () (O := owedL (owedA c dists) c sendsL) (W := W)
      (R := 0) (m := 0) (T := ∅) ((Nat.zero_add 2).trans (expect_bar X Wt c).symm)) $$ [Hbcr HO Hbat]
  · isplitr; · iapply (ctx_bar X Wt K c); iexact Hc
    isplitl [Hbcr]; · iexact Hbcr
    isplitl [HO]; · iexact HO
    isplitr
    · ihave Hm := hm $$ Hc
      iexact Hm
    iexact Hbat
  iintro ⟨HO, Hbat, -, Hpay⟩
  ihave Hp := (Entails.of_eq (rest_bar X Wt c)) $$ Hpay
  ihave Hsr := (sres_all (F := F) c) $$ [Htok Hp]
  · isplitl [Htok]; · iexact Htok
    iexact Hp
  ihave Hsr := (Entails.of_eq (sends_split (sres (F := F) c))) $$ Hsr
  icases Hsr with ⟨⟨HsA, HsB, HsC, HsD⟩, Hsr, HsL⟩
  ihave Hx := (x_shares X c).1 $$ Hx
  icases Hx with ⟨⟨Hx0, Hx1⟩, Hxr⟩
  ihave Hx0 := (Entails.of_eq (x_halves X c (xq 0))) $$ Hx0
  icases Hx0 with ⟨Hx00, Hx01⟩
  ihave Hx1 := (Entails.of_eq (x_halves X c (xq 1))) $$ Hx1
  icases Hx1 with ⟨Hx10, Hx11⟩
  iapply (wp_first X Wt K c Kt 0 0 2 (ent2 c) hx (owedA c dists)
    ((0, 0, 1) :: (1, 0, 0) :: (1, 0, 1) :: (foursN 14 1 (by decide) ++ lastS)))
  isplitr; · iexact Hc
  isplitl [Ht]; · iexact Ht
  isplitl [Hx00]; · iexact Hx00
  isplitl [HsA]; · iexact HsA
  isplitl [Hr0]; · rw [along_first]; iexact Hr0
  isplitl [HO]; · unfold owesE; iexists _; iexact HO
  iintro ⟨Ht, HcA, HO⟩
  iapply (wp_first X Wt K c Kt 0 1 2 (ent2 c) hx (owedA c dists) ((1, 0, 0) :: (1, 0, 1) :: (foursN 14 1 (by decide) ++ lastS)))
  isplitr; · iexact Hc
  isplitl [Ht]; · iexact Ht
  isplitl [Hx01]; · iexact Hx01
  isplitl [HsB]; · iexact HsB
  isplitr; · rw [along_first']; iempintro
  isplitl [HO]; · iexact HO
  iintro ⟨Ht, HcB, HO⟩
  iapply (wp_first X Wt K c Kt 1 0 19 (ent19 c) hx (owedA c dists) ((1, 0, 1) :: (foursN 14 1 (by decide) ++ lastS)))
  isplitr; · iexact Hc
  isplitl [Ht]; · iexact Ht
  isplitl [Hx10]; · iexact Hx10
  isplitl [HsC]; · iexact HsC
  isplitl [Hr1]; · rw [along_first]; iexact Hr1
  isplitl [HO]; · iexact HO
  iintro ⟨Ht, HcC, HO⟩
  iapply (wp_first X Wt K c Kt 1 1 19 (ent19 c) hx (owedA c dists) (foursN 14 1 (by decide) ++ lastS))
  isplitr; · iexact Hc
  isplitl [Ht]; · iexact Ht
  isplitl [Hx11]; · iexact Hx11
  isplitl [HsD]; · iexact HsD
  isplitr; · rw [along_first']; iempintro
  isplitl [HO]; · iexact HO
  iintro ⟨Ht, HcD, HO⟩
  iapply (wp_own X Wt c Kt fo)
  isplitl [Ht]; · iexact Ht
  isplitl [Hw]; · iexact Hw
  isplitl [Hxr]; · iexact Hxr
  isplitl [Ho]; · iexact Ho
  iintro ⟨Hm, Hxr⟩
  ihave Hwr := (Entails.of_eq ((congrArg (fun l => bigSepL l (wres (F := F) c)) sendsL_last).trans (bigSepL_append _ _ _))) $$ Hwr
  icases Hwr with ⟨Hwr, HwL⟩
  iapply hring
  isplitr; · iexact Hc
  isplitl [Hm HO Hwr Hsr]
  · unfold ringPre
    isplitl [Hm]; · iexact Hm
    isplitl [HO]; · iexact HO
    isplitl [Hwr]; · iexact Hwr
    iexact Hsr
  isplitl [HwL]; · iexact HwL
  isplitl [HsL]; · iexact HsL
  isplitl [HcA HcB HcC HcD Hao HtA HaA HatS]
  · unfold restPre
    isplitl [HcA HcB HcC HcD]
    · simp only [foursN, bigSepL_cons', bigSepL_nil]
      isplitl [HcA]; · iexact HcA
      isplitl [HcB]; · iexact HcB
      isplitl [HcC]; · iexact HcC
      isplitl [HcD]; · iexact HcD
      iempintro
    isplitl [Hao]; · iexact Hao
    isplitl [HtA]; · iexact HtA
    isplitl [HaA]; · iexact HaA
    iexact HatS
  iintro Hend
  ihave H := (ring_end X Wt c) $$ [Hend Hxr HsO Hbat]
  · isplitl [Hend]; · iexact Hend
    isplitl [Hxr]; · iexact Hxr
    isplitl [HsO]; · iexact HsO
    iexact Hbat
  iapply Hk
  unfold owesE
  iexact H

end Cert.KernelIdeal.Ring

end
-- ==== Proof.Uniq.lean ====
/-
  The result buffer is determined by the rows the body stores.
-/
module

public import proofs.«01_k».proof.Proof.Body

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal Cert.KernelIdeal.Gen

variable {F : FTy → Type} [FloatOps F]

local notation "𝕄" => MT nD τ sig Unit (Elt F) ℕ UU ℕ
local notation "Pg" F:max => Prog (TpuEff nD τ sig (Elt F) Λ₀ Proc.tc) PUnit

variable (X : Dev nD → XBuf F) (Wt : Dev nD → WBuf F) (K : GSem nD τ sig → ℕ) (c : Dev nD)
  (Kt : PUnit.{1} → sProp (MT nD τ sig Unit (Elt F) ℕ UU ℕ))

theorem all_keys : ∀ (c o : Dev nD) (h : Fin 2), o ≠ c → (o, h) ∈ allKeys c := by decide +kernel

/-- The device whose block row `r` comes from, and the row's place in the block. -/
def rowDev (r : Fin 4096) : Dev nD := ⟨r.val / 128, by have := r.isLt; show _ < 32; omega⟩
def rowHalf (r : Fin 4096) : Fin 2 := ⟨r.val % 128 / 64, by omega⟩
def rowIn (r : Fin 4096) : Fin 128 := ⟨r.val % 128, by omega⟩
def rowIn' (r : Fin 4096) : Fin 64 := ⟨r.val % 64, by omega⟩

/-- Every row of the product on device `c`. -/
def prodF : OBuf F := fun i =>
  if rowDev (i (0 : Fin 2)) = c then ownP X Wt c (ix2 (rowIn (i (0 : Fin 2))) (i (1 : Fin 2)))
  else halfP X Wt c (rowDev (i (0 : Fin 2)), rowHalf (i (0 : Fin 2))) (ix2 (rowIn' (i (0 : Fin 2))) (i (1 : Fin 2)))

theorem fits_unique {f : OBuf F} (hf : Fits X Wt c (allKeys c) f) : f = prodF X Wt c := by
  funext i
  unfold prodF
  by_cases h : rowDev (i (0 : Fin 2)) = c
  · rw [if_pos h]
    have e := congrFun hf.1 (ix2 (rowIn (i (0 : Fin 2))) (i (1 : Fin 2)))
    rw [← e]
    show f i = f _
    refine congrArg f (funext fun a => Fin.ext ?_)
    have h0 := off5_word c
    have h1 : c.val = (i (0 : Fin 2)).val / 128 := by rw [← h]; rfl
    fin_cases a
    · show (i (0 : Fin 2)).val = k0_off5 c 0 + 1 * ((i (0 : Fin 2)).val % 128)
      rw [h0]; show _ = 128 * c.val + _; omega
    · show (i (1 : Fin 2)).val = k0_off5 c 1 + 1 * (i (1 : Fin 2)).val
      rw [h0]; show _ = 0 + _; omega
  · rw [if_neg h]
    have e := congrFun (hf.2 _ (all_keys c _ (rowHalf (i (0 : Fin 2))) h)).2 (ix2 (rowIn' (i (0 : Fin 2))) (i (1 : Fin 2)))
    rw [← e]
    show f i = f _
    refine congrArg f (funext fun a => Fin.ext ?_)
    have h0 := offO_word (rowHalf (i (0 : Fin 2))) (rowDev (i (0 : Fin 2)))
    fin_cases a
    · show (i (0 : Fin 2)).val = offO (rowHalf (i (0 : Fin 2))) (Dev.word (rowDev (i (0 : Fin 2)))) 0 + 1 * ((i (0 : Fin 2)).val % 64)
      rw [h0]; show _ = 128 * ((i (0 : Fin 2)).val / 128) + 64 * ((i (0 : Fin 2)).val % 128 / 64) + _; omega
    · show (i (1 : Fin 2)).val = offO (rowHalf (i (0 : Fin 2))) (Dev.word (rowDev (i (0 : Fin 2)))) 1 + 1 * (i (1 : Fin 2)).val
      rw [h0]; show _ = 0 + _; omega

/-- What the result buffer holds at the end. -/
def outV : OBuf F := Res X Wt (prodF X Wt c)

theorem out_unique : iprop(∃ f, ⌜Fits X Wt c (allKeys c) f⌝ ∗ oM.view.loc (c : Thread nD τ) ↦{fullShare} (Res X Wt f))
    ⊢ (oM.view.loc (c : Thread nD τ) ↦{fullShare} (outV X Wt c) : sProp 𝕄) := by
  iintro ⟨%f, %hf, H⟩
  rw [fits_unique X Wt c hf]
  unfold outV
  iexact H

end Cert.KernelIdeal.Ring
-- ==== Proof.Counters.lean ====
/-
  The counters a device has for its copies, listed.
-/
module

public import proofs.«01_k».proof.Proof.Body
public import proofs.«01_k».proof.Proof.Gen.KernelIdeal.Launch
public import Idealize.ShloMosaic.Lib.Rounds.Family
public import Idealize.ShloMosaic.Lib.Pipeline.RegionTalk

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal Cert.KernelIdeal.Gen

variable {F : FTy → Type} [FloatOps F]

local notation "𝕄" => MT nD τ sig Unit (Elt F) ℕ UU ℕ
local notation "Pg" F:max => Prog (TpuEff nD τ sig (Elt F) Λ₀ Proc.tc) PUnit

variable (X : Dev nD → XBuf F) (Wt : Dev nD → WBuf F) (K : GSem nD τ sig → ℕ) (c : Dev nD)
  (Kt : PUnit.{1} → sProp (MT nD τ sig Unit (Elt F) ℕ UU ℕ))

/-- The kernel's own counters: two for each ring copy of a half block, two for each distance of the maximum. -/
abbrev Own : Type := (Q × Fin 2) ⊕ (Fin 31 × Fin 2)
def osem : Own → SemLoc sig
  | .inl (q, i) => .dma (if i = 0 then sSem q else rSem q)
  | .inr (d, i) => .dma (if i = 0 then asSem d else arSem d)

/-- The places of the counter arrays that no copy uses. -/
def spareL : List Q := [(0, 15, 1), (1, 15, 0)]

def ownL : List Own :=
  sendsL.map (fun q => Sum.inl (q, 0)) ++ (spareL.map (fun q => Sum.inl (q, 0)) ++ (sendsL.map (fun q => Sum.inl (q, 1))
    ++ (spareL.map (fun q => Sum.inl (q, 1)) ++ (dists.map (fun d => Sum.inr (d, 0)) ++ dists.map (fun d => Sum.inr (d, 1))))))
theorem ownL_nodup : ownL.Nodup := by decide +kernel
theorem ownL_all : (Finset.univ : Finset Own) = ownL.toFinset :=
  (Finset.eq_univ_of_card _ ((List.toFinset_card_of_nodup ownL_nodup).trans (by decide +kernel))).symm

/-- A family over the own counters, by the lists the body works with. -/
theorem own_list (Φ : Own → sProp 𝕄) : bigSep Finset.univ Φ =
    iprop(bigSepL sendsL (fun q => Φ (.inl (q, 0))) ∗ bigSepL spareL (fun q => Φ (.inl (q, 0)))
      ∗ bigSepL sendsL (fun q => Φ (.inl (q, 1))) ∗ bigSepL spareL (fun q => Φ (.inl (q, 1)))
      ∗ bigSepL dists (fun d => Φ (.inr (d, 0))) ∗ bigSepL dists (fun d => Φ (.inr (d, 1)))) := by
  rw [bigSep_univ_eq_bigSepL ownL ownL_all ownL_nodup]
  unfold ownL
  simp only [bigSepL_append, bigSepL_map]

abbrev ownG (c : Dev nD) (k : Own) : GSem nD τ sig := ((c : Thread nD τ), osem k)

theorem osem_own : ∀ k : Own, ∃ n : DmaSem sig, 4 ≤ n.val ∧ osem k = .dma n
  | .inl (q, i) => by
      by_cases h : i = 0
      · exact ⟨sSem q, sSem_own q, by show SemLoc.dma _ = _; rw [if_pos h]⟩
      · exact ⟨rSem q, rSem_own q, by show SemLoc.dma _ = _; rw [if_neg h]⟩
  | .inr (d, i) => by
      by_cases h : i = 0
      · exact ⟨asSem d, asSem_own d, by show SemLoc.dma _ = _; rw [if_pos h]⟩
      · exact ⟨arSem d, arSem_own d, by show SemLoc.dma _ = _; rw [if_neg h]⟩
theorem mem_own (k : Own) : ownG c k ∈ allCells := by
  obtain ⟨n, h, e⟩ := osem_own k
  unfold ownG
  rw [e]; exact mem_dma c n h

theorem osem_facts : Pipeline.OwnSemFacts spec0 osem := by decide +kernel
theorem osem_inj : Function.Injective osem := osem_facts.inj
theorem osem_all : ∀ n : DmaSem sig, 4 ≤ n.val → ∃ k : Own, osem k = .dma n := by decide +kernel

end Cert.KernelIdeal.Ring
-- ==== Proof.Cells.lean ====
/-
  The cells of one device as the launch deals them, opened before the body and closed after it.
-/
module

public import proofs.«01_k».proof.Proof.Counters

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal Cert.KernelIdeal.Gen

variable {F : FTy → Type} [FloatOps F]

local notation "𝕄" => MT nD τ sig Unit (Elt F) ℕ UU ℕ
local notation "Pg" F:max => Prog (TpuEff nD τ sig (Elt F) Λ₀ Proc.tc) PUnit

variable (X : Dev nD → XBuf F) (Wt : Dev nD → WBuf F) (K : GSem nD τ sig → ℕ) (c : Dev nD)
  (Kt : PUnit.{1} → sProp (MT nD τ sig Unit (Elt F) ℕ UU ℕ))

/-- The round a used cell's owner ends at. -/
def lastOf : Own → ℕ
  | .inl (q, _) => if used q then 1 else 0
  | .inr _ => 1

theorem last_none (k : Own) : ∀ r, lastOf k ≤ r → (rd X Wt).duties (ownG c k) r = ∅ := by
  have none (q : Q) (h : ¬used q) (i : Fin 2) : dutiesOf (tag (osem (.inl (q, i)))) = ∅ := by
    show dutiesOf (tag (.dma _)) = ∅
    by_cases hi : i = 0
    · rw [if_pos hi, tag_snd]; exact if_neg h
    · rw [if_neg hi, tag_rcv]; exact if_neg h
  match k with
  | .inl (q, i) =>
      intro r hr
      by_cases h : used q
      · have hr' : (if used q then 1 else 0) ≤ r := hr
        rw [if_pos h] at hr'
        exact duties_later X Wt _ r hr'
      · exact duties_none X Wt _ (none q h i) r (Nat.zero_le _)
  | .inr _ => exact fun r hr => duties_later X Wt _ r hr

/-! ## What the launch deals a device -/

/-- The duties of its copies. -/
def toks0 (q : Q) : sProp 𝕄 := iprop(dutyTok ER (sCell q c) 0 0 ∗ dutyTok ER (rCell q (nx q.1 c)) 0 0)
def toka0 (d : Fin 31) : sProp 𝕄 := iprop(dutyTok ER (asCell d c) 0 0 ∗ dutyTok ER (arCell d (tgt d c)) 0 0)
def crR (q : Q) : sProp 𝕄 := cred (tallyAt (rCell q c) () Nq)
def crA (d : Fin 31) : sProp 𝕄 := cred (tallyAt (arCell d c) () Na)

def dealt : sProp 𝕄 :=
  iprop(barRes c ∗ bigSepL sendsL (toks0 c) ∗ bigSepL dists (toka0 c) ∗ bigSepL sendsL (crR c) ∗ bigSepL dists (crA c)
    ∗ bigSep Finset.univ fun k => openTok ER (ownG c k))

@[irreducible] def invs (K : GSem nD τ sig → ℕ) : sProp 𝕄 := iprop((bigSep allCells fun g => cellInv ER (rd X Wt) (K g) g) ∗ emp)
instance invs_persistent (K : GSem nD τ sig → ℕ) : BI.Persistent (invs X Wt K) := by unfold invs; infer_instance

theorem ctx_eq : ctx X Wt K = iprop(invs X Wt K ∗ levs) := by
  unfold ctx invs
  exact congrArg (fun P : sProp 𝕄 => iprop(P ∗ levs)) (equiv_iff.mp sep_emp).symm
theorem invs_at {g : GSem nD τ sig} (hg : g ∈ allCells) : invs X Wt K ⊢ cellInv ER (rd X Wt) (K g) g := by
  unfold invs; iintro ⟨H, -⟩; iapply (inv_at X Wt K hg); iexact H

/-- The cells no copy uses, opened. -/
def spare : sProp 𝕄 := iprop(bigSepL spareL (atS c 0) ∗ bigSepL spareL (fun q => atPos ER (rCell q c) 0 ∅ 0))

def Tk : sProp 𝕄 := iprop(∃ K, invs X Wt K ∗ dealt c)
def Xk : sProp 𝕄 := iprop(∃ K, ctx X Wt K ∗ cellPre c ∗ spare c)

section Family

variable {J : Type} [Fintype J] [DecidableEq J] (os : J → SemLoc sig)

/-- A family of a device's cells is opened in one step, and closed in one. -/
theorem fam_open (hm : ∀ k, ((c : Thread nD τ), os k) ∈ allCells) :
    iprop(invs X Wt K ∗ (bigSep Finset.univ fun k => openTok ER ((c : Thread nD τ), os k)) ∗ Pipeline.ownSems0 os c)
      ⊢ (|={Set.univ}=> iprop((bigSep Finset.univ fun k => atPos ER ((c : Thread nD τ), os k) 0 ∅ 0)
        ∗ bigSep Finset.univ fun k => reached ER ((c : Thread nD τ), os k) 0) : sProp 𝕄) := by
  have h := Rounds.cells_open ER (rd X Wt) (Finset.univ : Finset J) (fun k => ((c : Thread nD τ), os k)) (fun k => K ((c : Thread nD τ), os k))
    (Es := Set.univ) (fun k _ => Set.mem_univ _)
  rw [bigSep_sep' (Φ := fun k : J => atPos ER ((c : Thread nD τ), os k) 0 ∅ 0)] at h
  have e : iprop(invs X Wt K ∗ bigSep Finset.univ fun k => openTok ER ((c : Thread nD τ), os k))
      ⊢ (bigSep Finset.univ fun k => iprop(cellInv ER (rd X Wt) (K ((c : Thread nD τ), os k)) ((c : Thread nD τ), os k)
        ∗ openTok ER ((c : Thread nD τ), os k)) : sProp 𝕄) :=
    bigSep_with_persistent fun k _ => sep_mono_left (invs_at X Wt K (hm k))
  refine BIBase.Entails.trans ?_ h
  iintro ⟨#Hi, Ho, Hs⟩
  isplitl [Ho]
  · iapply e
    isplitr; · iexact Hi
    iexact Ho
  unfold Pipeline.ownSems0
  iexact Hs

theorem fam_close (hm : ∀ k, ((c : Thread nD τ), os k) ∈ allCells) (R : J → ℕ)
    (hR : ∀ k r, R k ≤ r → (rd X Wt).duties ((c : Thread nD τ), os k) r = ∅) :
    iprop(invs X Wt K ∗ (bigSep Finset.univ fun k => atPos ER ((c : Thread nD τ), os k) (R k) ∅ 0))
      ⊢ (|={Set.univ}=> Pipeline.ownSems0 os c : sProp 𝕄) := by
  have h := Rounds.cells_close ER (rd X Wt) (Finset.univ : Finset J) (fun k => ((c : Thread nD τ), os k)) (fun k => K ((c : Thread nD τ), os k))
    (Es := Set.univ) (fun k _ => Set.mem_univ _) (fun _ _ h => h) R (fun k _ => hR k)
  refine BIBase.Entails.trans ?_ h
  exact bigSep_with_persistent fun k _ => sep_mono_left (invs_at X Wt K (hm k))

end Family

theorem own_open : iprop(invs X Wt K ∗ (bigSep Finset.univ fun k => openTok ER (ownG c k)) ∗ Pipeline.ownSems0 osem c)
    ⊢ (|={Set.univ}=> iprop((bigSep Finset.univ fun k => atPos ER (ownG c k) 0 ∅ 0) ∗ bigSep Finset.univ fun k => reached ER (ownG c k) 0) : sProp 𝕄) :=
  fam_open X Wt K c osem (mem_own c)

theorem ofOwn0 (q : Q) : ownG c (.inl (q, 0)) = sCell q c := rfl
theorem ofOwn1 (q : Q) : ownG c (.inl (q, 1)) = rCell q c := rfl
theorem ofOwn2 (d : Fin 31) : ownG c (.inr (d, 0)) = asCell d c := rfl
theorem ofOwn3 (d : Fin 31) : ownG c (.inr (d, 1)) = arCell d c := rfl

theorem toks_open : iprop(bigSepL sendsL (toks0 c) ∗ bigSepL sendsL (fun q => reached ER (sCell q c) 0)) ⊢ bigSepL sendsL (tokS (F := F) c) := by
  rw [← bigSepL_sep']
  refine bigSepL_mono fun q _ => ?_
  have e : iprop(toks0 c q ∗ reached ER (sCell q c) 0) ⊢ tokS (F := F) c q := by
    unfold toks0 tokS
    iintro ⟨⟨H1, H2⟩, H3⟩
    isplitl [H1]; · iexact H1
    isplitl [H2]; · iexact H2
    iexact H3
  exact e
theorem toka_open : iprop(bigSepL dists (toka0 c) ∗ bigSepL dists (fun d => reached ER (asCell d c) 0)) ⊢ bigSepL dists (tokA (F := F) c) := by
  rw [← bigSepL_sep']
  refine bigSepL_mono fun d _ => ?_
  have e : iprop(toka0 c d ∗ reached ER (asCell d c) 0) ⊢ tokA (F := F) c d := by
    unfold toka0 tokA
    iintro ⟨⟨H1, H2⟩, H3⟩
    isplitl [H1]; · iexact H1
    isplitl [H2]; · iexact H2
    iexact H3
  exact e
theorem wres_open : iprop(bigSepL sendsL (crR c) ∗ bigSepL sendsL (fun q => atPos ER (rCell q c) 0 ∅ 0)) ⊢ bigSepL sendsL (wres (F := F) c) := by
  rw [← bigSepL_sep']; exact .rfl
theorem ata_open : iprop(bigSepL dists (fun d => atPos ER (asCell d c) 0 ∅ 0) ∗ bigSepL dists (crA c) ∗ bigSepL dists (fun d => atPos ER (arCell d c) 0 ∅ 0))
    ⊢ bigSepL dists (atA (F := F) c) := by
  rw [← bigSepL_sep', ← bigSepL_sep']; exact .rfl

theorem cells_in : iprop(Tk X Wt c ∗ Pipeline.ownSems0 osem c ∗ levAts L lv) ⊢ (|={Set.univ}=> Xk X Wt c : sProp 𝕄) := by
  unfold Tk Xk dealt
  iintro ⟨⟨%K, #Hi, Hb, Ht, Hta, Hr, Ha, Ho⟩, Hs, #Hl⟩
  imod (own_open X Wt K c) $$ [Ho Hs] with ⟨Hat, Hre⟩
  · isplitr; · iexact Hi
    isplitl [Ho]; · iexact Ho
    iexact Hs
  imodintro
  iexists K
  isplitr
  · rw [ctx_eq]
    isplitr; · iexact Hi
    unfold levs; iexact Hl
  ihave Hat := (Entails.of_eq (own_list (fun k => atPos ER (ownG c k) 0 ∅ 0))) $$ Hat
  ihave Hre := (Entails.of_eq (own_list (fun k => reached ER (ownG c k) 0))) $$ Hre
  icases Hat with ⟨A1, A2, A3, A4, A5, A6⟩
  icases Hre with ⟨R1, -, R3, -, R5, R6⟩
  isplitr [A2 A4]
  · unfold cellPre
    isplitl [Hb]; · iexact Hb
    isplitl [Ht R1]
    · iapply (toks_open c)
      isplitl [Ht]; · iexact Ht
      iexact R1
    isplitl [Hr A3]
    · iapply (wres_open c)
      isplitl [Hr]; · iexact Hr
      iexact A3
    isplitl [R3]; · iexact R3
    isplitl [A1]; · iexact A1
    isplitl [Hta R5]
    · iapply (toka_open c)
      isplitl [Hta]; · iexact Hta
      iexact R5
    isplitl [A5 Ha A6]
    · iapply (ata_open c)
      isplitl [A5]; · iexact A5
      isplitl [Ha]; · iexact Ha
      iexact A6
    unfold reachA
    rw [dists_list]
    iexact R6
  unfold spare
  isplitl [A2]; · iexact A2
  iexact A4

/-! ## The cells closed -/

theorem own_close : iprop(invs X Wt K ∗ (bigSep Finset.univ fun k => atPos ER (ownG c k) (lastOf k) ∅ 0))
    ⊢ (|={Set.univ}=> Pipeline.ownSems0 osem c : sProp 𝕄) :=
  fam_close X Wt K c osem (mem_own c) lastOf (last_none X Wt c)

theorem last_used (q : Q) (hq : q ∈ sendsL) : (if used q then 1 else 0) = 1 := if_pos ((mem_sendsL q).mp hq)
theorem last_spare : ∀ q ∈ spareL, (if used q then 1 else 0) = 0 := by decide

theorem at_last : iprop(bigSepL sendsL (atS c 1) ∗ bigSepL sendsL (atR c) ∗ bigSepL dists (atA1 c) ∗ spare c)
    ⊢ (bigSep Finset.univ fun k => atPos ER (ownG c k) (lastOf k) ∅ 0 : sProp 𝕄) := by
  have e1 : bigSepL sendsL (atS (F := F) c 1) ⊢ bigSepL sendsL (fun q => atPos ER (ownG c (.inl (q, 0))) (lastOf (.inl (q, 0))) ∅ 0) :=
    bigSepL_mono fun q hq => Entails.of_eq (by rw [show lastOf (.inl (q, 0)) = 1 from last_used q hq]; rfl)
  have e2 : bigSepL sendsL (atR (F := F) c) ⊢ bigSepL sendsL (fun q => atPos ER (ownG c (.inl (q, 1))) (lastOf (.inl (q, 1))) ∅ 0) :=
    bigSepL_mono fun q hq => Entails.of_eq (by rw [show lastOf (.inl (q, 1)) = 1 from last_used q hq]; rfl)
  have e3 : bigSepL spareL (atS (F := F) c 0) ⊢ bigSepL spareL (fun q => atPos ER (ownG c (.inl (q, 0))) (lastOf (.inl (q, 0))) ∅ 0) :=
    bigSepL_mono fun q hq => Entails.of_eq (by rw [show lastOf (.inl (q, 0)) = 0 from last_spare q hq]; rfl)
  have e4 : (bigSepL spareL (fun q => atPos ER (rCell q c) 0 ∅ 0) : sProp 𝕄) ⊢ bigSepL spareL (fun q => atPos ER (ownG c (.inl (q, 1))) (lastOf (.inl (q, 1))) ∅ 0) :=
    bigSepL_mono fun q hq => Entails.of_eq (by rw [show lastOf (.inl (q, 1)) = 0 from last_spare q hq]; rfl)
  have e5 : bigSepL dists (atA1 (F := F) c) ⊢ iprop(bigSepL dists (fun d => atPos ER (ownG c (.inr (d, 0))) (lastOf (.inr (d, 0))) ∅ 0)
      ∗ bigSepL dists (fun d => atPos ER (ownG c (.inr (d, 1))) (lastOf (.inr (d, 1))) ∅ 0)) := by
    rw [← bigSepL_sep']; exact .rfl
  rw [own_list]
  unfold spare
  iintro ⟨H1, H2, H5, H3, H4⟩
  isplitl [H1]; · iapply e1; iexact H1
  isplitl [H3]; · iapply e3; iexact H3
  isplitl [H2]; · iapply e2; iexact H2
  isplitl [H4]; · iapply e4; iexact H4
  iapply e5; iexact H5

/-- After the body every counter is at zero again. -/
theorem cells_out : iprop(ctx X Wt K ∗ cellPost c ∗ spare c)
    ⊢ (|={Set.univ}=> iprop(semVal (barCell c) 0 ∗ Pipeline.ownSems0 osem c) : sProp 𝕄) := by
  have hb := Rounds.cell_close ER (rd X Wt) (g := barCell c) (κ := K (barCell c)) (Set.mem_univ _) (fun h => h) (R := 1) (duties_later X Wt (barCell c))
  rw [ctx_eq]
  unfold cellPost
  iintro ⟨⟨#Hi, -⟩, ⟨Hb, H1, H2, H3⟩, Hs⟩
  imod hb $$ [Hb] with Hb
  · isplitr
    · iapply (invs_at X Wt K (mem_bar c)); iexact Hi
    iexact Hb
  imod (own_close X Wt K c) $$ [H1 H2 H3 Hs] with Ho
  · isplitr; · iexact Hi
    iapply (at_last c)
    isplitl [H1]; · iexact H1
    isplitl [H2]; · iexact H2
    isplitl [H3]; · iexact H3
    iexact Hs
  imodintro
  isplitl [Hb]; · iexact Hb
  iexact Ho

end Cert.KernelIdeal.Ring
-- ==== Proof.Host.lean ====
/-
  What the host operations before the kernel leave: each device's row of the schedule's table.
-/
module

public import proofs.«01_k».proof.Proof.Rules
public import proofs.«01_k».proof.Proof.Gen.KernelIdeal.Regions
public import Idealize.ShloMosaic.Lib.StableHlo.RunClose
public import Idealize.ShloMosaic.Lib.DynamicIndex

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal Cert.KernelIdeal.Gen

variable {F : FTy → Type} [FloatOps F]

local notation "𝕄" => MT nD τ sig Unit (Elt F) ℕ UU ℕ
local notation "Pg" F:max => Prog (TpuEff nD τ sig (Elt F) Λ₀ Proc.tc) PUnit

variable (c : Dev nD)

variable (m : (ℓ : Loc nD τ sig) → Buf (Elt F) ℓ)

/-- The row of the table a device reads, as the host computes it. -/
theorem row_start : ∀ (c : Dev nD) (k : Fin 2), BitVec.toInt
    ((![select (cmpi CmpIPredicate.slt (id (Host.remui (Host.divui (constantI S_ 32 c.word) (constantI S_ 32 1#32)) (constantI S_ 32 32#32)))
        (constantI S_ 32 0#32))
      (addi (id (Host.remui (Host.divui (constantI S_ 32 c.word) (constantI S_ 32 1#32)) (constantI S_ 32 32#32))) (constantI S_ 32 32#32))
      (id (Host.remui (Host.divui (constantI S_ 32 c.word) (constantI S_ 32 1#32)) (constantI S_ 32 32#32))),
    select (cmpi CmpIPredicate.slt (constantI S_ 32 0#32) (constantI S_ 32 0#32)) (addi (constantI S_ 32 0#32) (constantI S_ 32 35#32))
      (constantI S_ 32 0#32)] : Fin 2 → IVec S_ 32) k (Shape.Idx.first h_S_)) = ((![c.val, 0] : Fin 2 → Nat) k : Int) := by decide +kernel

theorem row_fits : ∀ c : Dev nD, S32x35.Slices ![c.val, 0] S1x35 := by decide +kernel

theorem row_word : ∀ (c : Dev nD) (j : Fin 35), shapeCast S35 (extractStridedSlice S1x35 ![c.val, 0] (fun i => lit0 (S32x35.rowMajor i)) (row_fits c))
    shapeCasts_S1x35_S35 (ix1 j) = ent c j := by decide +kernel

theorem host_table : V1 m c main_v12 = (Tb (F := F) c : main_v12.ty.Contents (Elt F)) := by
  show StableHlo.after (hostOps0 c) (V0 m c) (Proc.devRef .tc main_v12) = _
  unfold hostOps0
  after_results_simp_entrywise
  funext i
  rw [Host.dynamicSlice_eq_extractStridedSlice S1x35 _ _ ![c.val, 0] _ (row_fits c) (row_start c)]
  have e : i = ix1 (i (0 : Fin 1)) := by
    funext a; fin_cases a; rfl
  rw [e]
  exact row_word c (i (0 : Fin 1))

end Cert.KernelIdeal.Ring
-- ==== Proof.Region.lean ====
/-
  The kernel's region: its proof data, its body's obligation, and its record between the host operations and the end.
-/
module

public import proofs.«01_k».proof.Proof.Uniq
public import proofs.«01_k».proof.Proof.Cells
public import proofs.«01_k».proof.Proof.Host
public import proofs.«01_k».proof.Proof.Gen.KernelIdeal.Points
public import proofs.«01_k».proof.Proof.Gen.KernelIdeal.Regions
public import Idealize.ShloMosaic.Lib.Pipeline.RegionTalk
public import Idealize.ShloMosaic.Lib.Pipeline.ValueKit

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal Cert.KernelIdeal.Gen

variable {F : FTy → Type} [FloatOps F]

local notation "𝕄" => MT nD τ sig Unit (Elt F) ℕ UU ℕ
local notation "Pg" F:max => Prog (TpuEff nD τ sig (Elt F) Λ₀ Proc.tc) PUnit

variable (m : (ℓ : Loc nD τ sig) → Buf (Elt F) ℓ) (c : Dev nD)

open Idealize.ShloMosaic.Pipeline (Dat BodyObligation)

/-- What each device's first argument is fetched as. -/
def Xin (c : Dev nD) : XBuf F := ((cfg0.win 0).blk t0_0).view.read (Elt F) (V1 m c (Proc.devRef .tc main_arg0))
/-- And its second. -/
def Win (c : Dev nD) : WBuf F := ((cfg0.win 1).blk t0_0).view.read (Elt F) (V1 m c (Proc.devRef .tc main_arg1))

/-- The buffers that are no window's. -/
def scr (c : Dev nD) : sProp 𝕄 :=
  iprop((∃ f, cM.view.loc (c : Thread nD τ) ↦{fullShare} f) ∗ (∃ f, aM.view.loc (c : Thread nD τ) ↦{fullShare} f))

def phi0 : sProp 𝕄 := iprop(Xk (Xin m) (Win m) c ∗ scr c ∗ ∃ r, prngReg c r)
def phi1 : sProp 𝕄 := iprop((semVal (barCell c) 0 ∗ Pipeline.ownSems0 osem c) ∗ scr c ∗ ∃ r, prngReg c r)

def dat0 (c : Dev nD) : Pipeline.Dat τ (Elt F) Unit ℕ UU ℕ cfg0 c where
  A w := V1 m c (Proc.devRef .tc (Pipeline.arrRef spec0 w))
  after w _ := match w with
    | ⟨0, _⟩ => Xin m c
    | ⟨1, _⟩ => Win m c
    | ⟨2, _⟩ => Tb (F := F) c
    | ⟨3, _⟩ => outV (Xin m) (Win m) c
  Φ t := if t.val = 0 then phi0 m c else phi1 c
  q _ := fullShare
  owed t := if t.val = 0 then O₀ c else 0

def pdats : (p : Fin 1) → (c : Dev nD) → Pipeline.Dat τ (Elt F) Unit ℕ UU ℕ (cfgs p) c
  | 0 => dat0 m

theorem owesAt_intro {cfg : Pipeline.Cfg sig Λ₀} {c : Dev nD} (dat : Dat τ (Elt F) Unit ℕ UU ℕ cfg c) (t : Fin (cfg.N + 1))
    (O : CellTallies nD τ sig Unit) (h0 : dat.owed t = O) (hr : dat.recorded t = Set.univ) :
    (owesE c O : sProp 𝕄) ⊢ (dat.owesAt () t : sProp 𝕄) := by
  unfold owesE Dat.owesAt Pipeline.owesWithin Dat.bound; rw [h0, hr]
  iintro ⟨%W, HO⟩; iexists W; isplitr
  · ipureintro; exact fun _ _ => Or.inl trivial
  iexact HO
theorem owesAt_elim {cfg : Pipeline.Cfg sig Λ₀} {c : Dev nD} (dat : Dat τ (Elt F) Unit ℕ UU ℕ cfg c) (t : Fin (cfg.N + 1))
    (O : CellTallies nD τ sig Unit) (h0 : dat.owed t = O) : (dat.owesAt () t : sProp 𝕄) ⊢ (owesE c O : sProp 𝕄) := by
  unfold owesE Dat.owesAt Pipeline.owesWithin; rw [h0]
  iintro ⟨%W, -, HO⟩; iexists W; iexact HO

theorem owed_first : (dat0 m c).owed t0_0.castSucc = O₀ c := by
  show (if (0 : ℕ) = 0 then O₀ c else 0) = O₀ c; exact if_pos rfl
theorem owed_zero : (pdats m 0 c).owed 0 = O₀ c := by
  show (if (0 : ℕ) = 0 then O₀ c else 0) = O₀ c; exact if_pos rfl
theorem owed_last : (dat0 m c).owed t0_0.succ = 0 := by
  show (if (1 : ℕ) = 0 then O₀ c else 0) = 0; exact if_neg (by decide)
theorem owed_end : (pdats m 0 c).owed (Fin.last _) = 0 := by
  show (if cfg0.N = 0 then O₀ c else 0) = 0; exact if_neg (by rw [show cfg0.N = 1 from N_0]; decide)
theorem phi_first : (dat0 m c).Φ t0_0.castSucc = phi0 m c := by
  show (if (0 : ℕ) = 0 then phi0 m c else phi1 c) = phi0 m c; exact if_pos rfl
theorem phi_zero : (pdats m 0 c).Φ 0 = phi0 m c := by
  show (if (0 : ℕ) = 0 then phi0 m c else phi1 c) = phi0 m c; exact if_pos rfl
theorem phi_last : (dat0 m c).Φ t0_0.succ = phi1 c := by
  show (if (1 : ℕ) = 0 then phi0 m c else phi1 c) = phi1 c; exact if_neg (by decide)
theorem phi_end : (pdats m 0 c).Φ (Fin.last _) = phi1 c := by
  show (if cfg0.N = 0 then phi0 m c else phi1 c) = phi1 c; exact if_neg (by rw [show cfg0.N = 1 from N_0]; decide)

theorem before_0 (d) : (dat0 m c).before 0 t0_0 d = Xin m c := by
  unfold Pipeline.Dat.before; rw [if_pos (fetch0_0 _)]; rfl
theorem before_1 (d) : (dat0 m c).before 1 t0_0 d = Win m c := by
  unfold Pipeline.Dat.before; rw [if_pos (fetch0_1 _)]; rfl
theorem before_2 (d) : (dat0 m c).before 2 t0_0 d = Tb (F := F) c := by
  unfold Pipeline.Dat.before; rw [if_pos (fetch0_2 _)]
  show ((cfg0.win 2).blk t0_0).view.read (Elt F) (V1 m c (Proc.devRef .tc main_v12)) = _
  rw [host_table]
  funext y
  refine congrArg (ent c) ?_
  apply Fin.ext
  blk_simp
  rw [show win0_2.index t0_0 0 = 0 from by decide]
  omega

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

theorem after_0 : (dat0 m c).after 0 t0_0 = Xin m c := rfl
theorem after_1 : (dat0 m c).after 1 t0_0 = Win m c := rfl
theorem after_2 : (dat0 m c).after 2 t0_0 = Tb (F := F) c := rfl
theorem after_3 : (dat0 m c).after 3 t0_0 = outV (Xin m) (Win m) c := rfl

/-- The body as the region calls it. -/
theorem wp_called (X : Dev nD → XBuf F) (Wt : Dev nD → WBuf F) (K : GSem nD τ sig → ℕ) (c : Dev nD)
    (Kt : PUnit.{1} → sProp (MT nD τ sig Unit (Elt F) ℕ UU ℕ)) :
    iprop(ctx X Wt K ∗ bufPre X Wt c ∗ cellPre c ∗ owesE c (O₀ c)
        ∗ ((bufPost X Wt c ∗ cellPost c ∗ owesE c 0) -∗ |={Set.univ}=> Kt ⟨⟩))
      ⊢ run c (cc0_body (F := F) xM (Memref.isWhole_whole _) wM (Memref.isWhole_whole _) tM (Memref.isWhole_whole _) oM (Memref.isWhole_whole _)
          cM (Memref.isWhole_whole cc0_scratch0) aM (Memref.isWhole_whole cc0_scratch1) cc0_scratch2 cc0_scratch3 cc0_scratch4 cc0_scratch5
          cc0_scratch6 cc0_scratch7) Kt := by
  rw [body_eq, ← show (run c (.ret ⟨⟩) Kt : sProp 𝕄) = iprop(|={Set.univ}=> Kt ⟨⟩) from by unfold run; rw [wp_ret]]
  exact wp_body X Wt K c Kt (Memref.isWhole_whole _)

set_option maxRecDepth 4000 in
/-- The body's obligation at the one point. -/
theorem body_ok (c : Dev nD) : BodyObligation (dat0 (F := F) m c) (defs₀ (F := F)) 𝒱₀ () Set.univ := fun t => by
  obtain rfl := fin_N0 t
  rw [bigSep_W0, bigSep_W0]
  simp only [owns_whole_eq]
  rw [phi_first, phi_last]
  unfold phi0 phi1 Xk scr
  iintro ⟨⟨⟨%K, #Hc, Hcell, Hsp⟩, ⟨Hcm, Ham⟩, Hp⟩, HO, ⟨%d0, %f0, %hf0, H0⟩, ⟨%d1, %f1, %hf1, H1⟩, ⟨%d2, %f2, %hf2, H2⟩, ⟨%d3, %f3, %hf3, H3⟩⟩
  rw [before_0] at hf0
  rw [before_1] at hf1
  rw [before_2] at hf2
  subst hf0 hf1 hf2
  ihave HO := (owesAt_elim (dat0 m c) _ (O₀ c) (owed_first m c)) $$ HO
  iapply (wp_called (Xin m) (Win m) K c _)
  isplitr; · iexact Hc
  isplitl [H0 H1 H2 H3 Hcm Ham]
  · unfold bufPre tPts wPts xPts
    isplitl [H2]; · iexact H2
    isplitl [H1]; · iexact H1
    isplitl [H0]; · iexact H0
    isplitl [H3]; · iexists f3; iexact H3
    isplitl [Hcm]; · iexact Hcm
    iexact Ham
  isplitl [Hcell]; · iexact Hcell
  isplitl [HO]; · iexact HO
  unfold bufPost tPts wPts xPts
  iintro ⟨⟨H2, H1, H0, H3, Hcm, Ham⟩, Hcp, HO⟩
  imod (cells_out (Xin m) (Win m) K c) $$ [Hcp Hsp] with Hz
  · isplitr; · iexact Hc
    isplitl [Hcp]; · iexact Hcp
    iexact Hsp
  imodintro
  ihave H3 := (out_unique (Xin m) (Win m) c) $$ H3
  isplitl [Hz Hcm Ham Hp]
  · isplitl [Hz]; · iexact Hz
    isplitl [Hcm Ham]
    · isplitl [Hcm]; · iexact Hcm
      iexact Ham
    iexact Hp
  isplitl [HO]
  · iapply (owesAt_intro (dat0 m c) t0_0.succ 0 (owed_last m c) rfl); iexact HO
  isplitl [H0]
  · iexists _; isplitr; swap; (· iexact H0); ipureintro; exact (after_0 m c).symm
  isplitl [H1]
  · iexists _; isplitr; swap; (· iexact H1); ipureintro; exact (after_1 m c).symm
  isplitl [H2]
  · iexists _; isplitr; swap; (· iexact H2); ipureintro; exact (after_2 m c).symm
  iexists _; isplitr; swap; (· iexact H3); ipureintro; exact (after_3 m c).symm

/-! ## The record -/

/-- The buffers beside the windows' arrays. -/
def beside : Finset (DevRef τ sig) := Pipeline.ucRefs τ sig \ Pipeline.arrRefs (τ := τ) spec0

/-- What the region leaves. -/
def outsF : Outs (F := F) := fun _ r c =>
  (Function.update (V1 m c) (Proc.devRef .tc main_v13) (outV (Xin m) (Win m) c) : Valuation τ sig (Elt F)) (Proc.devRef .tc r)

theorem V2_out : V2 m (outsF m) c (Proc.devRef .tc main_v13) = outV (Xin m) (Win m) c := by
  unfold V2 outsF
  rw [Function.update_self, Function.update_self]

theorem V2_rest (b : DevRef τ sig) (hb : b ≠ Proc.devRef .tc main_v13) : V2 m (outsF m) c b = V1 m c b :=
  Function.update_of_ne hb _ _

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem above_O₀ : above 0 (O₀ c) :=
  above_add (above_add (above_owedL (above_owedA 0 (by decide) c dists) c sendsL fun _ _ => Nat.succ_pos _)
    (above_tally _ _ _ (by decide))) (above_tally _ _ _ (by decide))

theorem cutD (t : Fin (cfg0.N + 1)) (g : GSem nD τ sig) (i : Unit) (h : 0 < (dat0 m c).owed t g i) : i ∈ L g ∧ (0 : ℕ) < lv g i := by
  have e : (dat0 m c).owed t = if t.val = 0 then O₀ c else 0 := rfl
  rw [e] at h
  split at h
  · exact above_O₀ c g i h
  · exact absurd h (Nat.lt_irrefl 0)

theorem arr_end (w : Fin 4) : (dat0 m c).arrAt w cfg0.N = V2 m (outsF m) c (Proc.devRef .tc (Pipeline.arrRef spec0 w)) := by
  match w with
  | 0 => exact ((dat0 m c).arrAt_in 0 rfl _).trans (V2_rest m c (Proc.devRef .tc main_arg0) (StableHlo.devRef_ne_of_ne (by decide))).symm
  | 1 => exact ((dat0 m c).arrAt_in 1 rfl _).trans (V2_rest m c (Proc.devRef .tc main_arg1) (StableHlo.devRef_ne_of_ne (by decide))).symm
  | 2 => exact ((dat0 m c).arrAt_in 2 rfl _).trans (V2_rest m c (Proc.devRef .tc main_v12) (StableHlo.devRef_ne_of_ne (by decide))).symm
  | 3 =>
    refine Eq.trans ?_ (V2_out m c).symm
    refine (dat0 m c).arrAt_eq_of_after_last 3 t0_0 (by decide +kernel) (outV (Xin m) (Win m) c) fun j => ?_
    rfl

theorem win_lv : ∀ (w : Fin 4) (s : Fin (spec0 w).nbuf), lvOf (tag (.dma ((spec0 w).sem s))) ≤ 0 := by decide

theorem beside_ne (b : DevRef τ sig) (hb : b ∈ beside \ ∅) : b ≠ Proc.devRef .tc main_v13 := by
  rintro rfl
  refine (Finset.mem_sdiff.mp (Finset.mem_sdiff.mp hb).1).2 ?_
  unfold Pipeline.arrRefs
  exact Finset.mem_map.mpr ⟨_, Finset.mem_image.mpr ⟨(3 : Fin 4), Finset.mem_univ _, rfl⟩, rfl⟩

theorem region_in : iprop(Pipeline.scopedRest spec0 c ∗ (∃ r, prngReg c r) ∗ StableHlo.held (c.tc : Thread nD τ) ∅ (V1 m c) ∗ Xk (Xin m) (Win m) c)
    ⊢ (pdats m 0 c).Φ 0 := by
  rw [phi_zero, scopedRest0_eq]
  unfold phi0 scr
  iintro ⟨Hs, Hp, -, HX⟩
  isplitl [HX]; · iexact HX
  isplitl [Hs]; · iexact Hs
  iexact Hp

theorem held_none (W : Valuation τ sig (Elt F)) : (BI.emp : sProp 𝕄) ⊢ StableHlo.held (c.tc : Thread nD τ) ∅ W := by
  unfold StableHlo.held; exact Entails.of_eq BI.bigSep_empty.symm

theorem region_out : (pdats m 0 c).Φ (Fin.last _)
    ⊢ iprop(Pipeline.scopedRest spec0 c ∗ (∃ r, prngReg c r) ∗ StableHlo.held (c.tc : Thread nD τ) ∅ (V2 m (outsF m) c) ∗ Pipeline.ownSems0 osem c ∗ semVal (barCell c) 0) := by
  rw [phi_end, scopedRest0_eq]
  unfold phi1 scr
  iintro ⟨⟨Hb, Ho⟩, Hs, Hp⟩
  isplitl [Hs]; · iexact Hs
  isplitl [Hp]; · iexact Hp
  isplitr
  · iapply (held_none c); iempintro
  isplitl [Ho]; · iexact Ho
  iexact Hb

set_option backward.isDefEq.respectTransparency.types false in
def reg : Pipeline.RegionSeg (pcfgs (F := F)) adm (pdats m) () defs₀ 𝒱₀ L lv 0 :=
  Pipeline.RegionSeg.ofTalk (pcfgs (F := F)) adm (pdats m) () defs₀ 𝒱₀ L lv 0 osem osem_facts ∅ beside (Finset.empty_subset _) kitP rfl
    (fun c => (body_ok m c).loose) (fun _ => 0) O₀ (fun c => (owed_zero m c).trans (zero_add _).symm) (owed_end m) (fun _ => rfl)
    (fun c w => by unfold Dat.share; split <;> rfl)
    (V1 m) (V2 m (outsF m))
    (fun c b hb => V2_rest m c b (beside_ne b hb))
    (Tk (Xin m) (Win m)) (fun c => semVal (barCell c) 0) (Xk (Xin m) (Win m)) (fun c => semVal (barCell c) 0)
    (cells_in (Xin m) (Win m)) (region_in m) (region_out m) (fun c => by iintro H; imodintro; iexact H)
    (fun _ => 0)
    ⟨fun c w s => by rw [L_tc]; exact Finset.mem_singleton_self _, fun c w s => win_lv w s, fun c t g i h => cutD m c t g i h⟩
    (fun _ => iprop(emp)) (fun _ _ => rfl) (arr_end m)

end Cert.KernelIdeal.Ring
-- ==== Proof.Deal.lean ====
/-
  What the launch makes and deals to each device: the cells, the tokens of the copies it pays and the credits it waits with.
-/
module

public import proofs.«01_k».proof.Proof.Cells

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal Cert.KernelIdeal.Gen

variable {F : FTy → Type} [FloatOps F]

local notation "𝕄" => MT nD τ sig Unit (Elt F) ℕ UU ℕ
local notation "Pg" F:max => Prog (TpuEff nD τ sig (Elt F) Λ₀ Proc.tc) PUnit

variable (X : Dev nD → XBuf F) (Wt : Dev nD → WBuf F) (c : Dev nD)

/-! ## The cells and the tokens -/

def barEmb : Dev nD ↪ GSem nD τ sig := ⟨fun c => barCell c, fun _ _ h => congrArg (fun g : GSem nD τ sig => g.1.1) h⟩
def ownEmb : Dev nD × Own ↪ GSem nD τ sig :=
  ⟨fun x => ownG x.1 x.2, fun _ _ h => Prod.ext (congrArg (fun g : GSem nD τ sig => g.1.1) h) (osem_inj (congrArg Prod.snd h))⟩
theorem osem_bar (k : Own) : osem k ≠ .reg barS := by
  obtain ⟨n, -, e⟩ := osem_own k
  rw [e]; exact fun h => nomatch h

/-- The semaphore and the duty of each token of a device. -/
def tokAt : Own ⊕ Fin 2 → SemLoc sig × Fin 2
  | .inl k => (osem k, 0)
  | .inr e => (.reg barS, e)
theorem tokAt_inj : Function.Injective tokAt := fun a b h => by
  rcases a with k | e <;> rcases b with k' | e'
  · exact congrArg Sum.inl (osem_inj (congrArg Prod.fst h))
  · exact absurd (congrArg Prod.fst h) (osem_bar k)
  · exact absurd (congrArg Prod.fst h).symm (osem_bar k')
  · exact congrArg Sum.inr (congrArg Prod.snd h)
def tokEmb : Dev nD × (Own ⊕ Fin 2) ↪ GSem nD τ sig × ℕ × Fin 2 :=
  ⟨fun x => (((x.1 : Thread nD τ), (tokAt x.2).1), 0, (tokAt x.2).2), fun a b h =>
    Prod.ext (congrArg (fun g : GSem nD τ sig × ℕ × Fin 2 => g.1.1.1) h)
      (tokAt_inj (Prod.ext (congrArg (fun g : GSem nD τ sig × ℕ × Fin 2 => g.1.2) h) (congrArg (fun g : GSem nD τ sig × ℕ × Fin 2 => g.2.2) h)))⟩

@[irreducible] def barCells : Finset (GSem nD τ sig) := Finset.univ.map barEmb
@[irreducible] def ownCells : Finset (GSem nD τ sig) := Finset.univ.map ownEmb
@[irreducible] def tokens : Finset (GSem nD τ sig × ℕ × Fin 2) := Finset.univ.map tokEmb

theorem cells_disjoint : Disjoint barCells ownCells := by
  rw [Finset.disjoint_left]
  unfold barCells ownCells
  intro g h₁ h₂
  obtain ⟨c, -, rfl⟩ := Finset.mem_map.mp h₁
  obtain ⟨x, -, h⟩ := Finset.mem_map.mp h₂
  exact osem_bar x.2 (congrArg Prod.snd h)

theorem cells_all : allCells ⊆ barCells ∪ ownCells := by
  unfold allCells barCells ownCells
  intro g hg
  obtain ⟨c, -, hc⟩ := Finset.mem_biUnion.mp hg
  rcases Finset.mem_insert.mp hc with rfl | hc
  · exact Finset.mem_union_left _ (Finset.mem_map_of_mem barEmb (Finset.mem_univ c))
  · obtain ⟨n, hn, rfl⟩ := Finset.mem_map.mp hc
    obtain ⟨k, hk⟩ := osem_all n (Finset.mem_filter.mp hn).2
    refine Finset.mem_union_right _ (Finset.mem_map.mpr ⟨(c, k), Finset.mem_univ _, ?_⟩)
    exact congrArg (Prod.mk (c : Thread nD τ)) hk

/-! ## The funding -/

/-- The tokens of a device's own cells. -/
def toksOf (c : Dev nD) : sProp 𝕄 :=
  iprop((bigSep Finset.univ fun k : Own => dutyTok ER (ownG c k) 0 0) ∗ bigSep Finset.univ fun e : Fin 2 => dutyTok ER (barCell c) 0 e)

theorem sem_of : (bigSep Finset.univ fun c : Dev nD => (semVal (barCell c) 0 : sProp 𝕄)) = bigSep barCells fun g => semVal g 0 := by
  unfold barCells; exact (bigSep_map (s := Finset.univ) barEmb (Φ := fun g => (semVal g 0 : sProp 𝕄))).symm
theorem at_of : (bigSep barCells fun g => (atPos ER g 0 ∅ 0 : sProp 𝕄)) = bigSep Finset.univ fun c : Dev nD => atPos ER (barCell c) 0 ∅ 0 := by
  unfold barCells; exact bigSep_map (s := Finset.univ) barEmb (Φ := fun g => (atPos ER g 0 ∅ 0 : sProp 𝕄))
theorem reached_of : (bigSep barCells fun g => (reached ER g 0 : sProp 𝕄)) = bigSep Finset.univ fun c : Dev nD => reached ER (barCell c) 0 := by
  unfold barCells; exact bigSep_map (s := Finset.univ) barEmb (Φ := fun g => (reached ER g 0 : sProp 𝕄))
theorem open_of : (bigSep ownCells fun g => (openTok ER g : sProp 𝕄))
    = bigSep Finset.univ fun c : Dev nD => bigSep Finset.univ fun k : Own => openTok ER (ownG c k) := by
  unfold ownCells
  rw [bigSep_map (s := Finset.univ) ownEmb (Φ := fun g => (openTok ER g : sProp 𝕄)), bigSep_univ_prod]; rfl
theorem toks_of : (bigSep tokens fun x => (dutyTok ER x.1 x.2.1 x.2.2 : sProp 𝕄)) = bigSep Finset.univ fun c : Dev nD => toksOf c := by
  unfold tokens
  rw [bigSep_map (s := Finset.univ) tokEmb (Φ := fun x => (dutyTok ER x.1 x.2.1 x.2.2 : sProp 𝕄)), bigSep_univ_prod]
  refine bigSep_congr fun c _ => ?_
  rw [bigSep_univ_sum]; rfl

theorem invs_of (K : GSem nD τ sig → ℕ) : (bigSep (barCells ∪ ownCells) fun g => (cellInv ER (rd X Wt) (K g) g : sProp 𝕄)) ⊢ invs X Wt K := by
  unfold invs
  exact (bigSep_subset cells_all).trans (Entails.of_eq (equiv_iff.mp sep_emp).symm)

theorem drop_pure (P : Prop) (R : sProp 𝕄) : iprop(⌜P⌝ ∗ R) ⊢ R := by
  iintro ⟨-, H⟩; iexact H

/-- The launch's element makes every cell, and its tokens. -/
theorem fund : iprop((bigSep Finset.univ fun c : Dev nD => (semVal (barCell c) 0 : sProp 𝕄)) ∗ BI.own (ER (launchOf barCells ownCells tokens)))
    ⊢ (|={Set.univ}=> iprop(∃ K : GSem nD τ sig → ℕ, invs X Wt K
        ∗ (bigSep Finset.univ fun c : Dev nD => reached ER (barCell c) 0) ∗ (bigSep Finset.univ fun c : Dev nD => atPos ER (barCell c) 0 ∅ 0)
        ∗ (bigSep Finset.univ fun c : Dev nD => bigSep Finset.univ fun k : Own => openTok ER (ownG c k))
        ∗ bigSep Finset.univ fun c : Dev nD => toksOf c) : sProp 𝕄) := by
  have h := Rounds.fund_launch ER (rd X Wt) cells_disjoint (fun _ _ h => h) tokens (Es := Set.univ)
  rw [sem_of, ← at_of, ← reached_of, ← open_of, ← toks_of]
  refine h.trans (fupd_mono (exists_mono fun K => ?_))
  exact (drop_pure _ _).trans (BIClass.sep_mono (invs_of X Wt K) .rfl)

/-! ## The tokens handed to who pays -/

/-- A family over a list, each member handed round by its own permutation of the devices. -/
theorem around {J : Type} (π : J → Dev nD ≃ Dev nD) (Φ : J → Dev nD → sProp 𝕄) (l : List J) :
    (bigSep Finset.univ fun c : Dev nD => bigSepL l fun q => Φ q c) = bigSep Finset.univ fun c : Dev nD => bigSepL l fun q => Φ q (π q c) := by
  induction l with
  | nil => rfl
  | cons q l ih =>
    simp only [bigSepL_cons']
    rw [bigSep_sep', bigSep_sep', ih, bigSep_univ_equiv (π q) (Φ q)]

def nxE (e : Fin 2) : Dev nD ≃ Dev nD := ⟨nx e, nx (opp e), nx_opp e, nx_opp' e⟩
theorem tgt_src : ∀ (d : Fin 31) (c : Dev nD), tgt d (src d c) = c := by decide +kernel
def tgtE (d : Fin 31) : Dev nD ≃ Dev nD := ⟨tgt d, src d, src_tgt d, tgt_src d⟩

/-- The tokens a device pays with. -/
def pays (c : Dev nD) : sProp 𝕄 :=
  iprop((dutyTok ER (barCell (nx 1 c)) 0 0 ∗ dutyTok ER (barCell (nx 0 c)) 0 1) ∗ bigSepL sendsL (toks0 c) ∗ bigSepL dists (toka0 c))

/-- A device's own tokens, by the lists of its copies. -/
def toksL (c : Dev nD) : sProp 𝕄 :=
  iprop((dutyTok ER (barCell c) 0 0 ∗ dutyTok ER (barCell c) 0 1)
    ∗ (bigSepL sendsL (fun q => dutyTok ER (sCell q c) 0 0) ∗ bigSepL sendsL (fun q => dutyTok ER (rCell q c) 0 0))
    ∗ bigSepL dists (fun d => dutyTok ER (asCell d c) 0 0) ∗ bigSepL dists (fun d => dutyTok ER (arCell d c) 0 0))

theorem toks_list : toksOf (F := F) c ⊢ toksL c := by
  unfold toksOf toksL
  rw [own_list, BI.bigSep_fin_two]
  iintro ⟨⟨H1, -, H3, -, H5, H6⟩, Hb⟩
  isplitl [Hb]; · iexact Hb
  isplitl [H1 H3]
  · isplitl [H1]; · iexact H1
    iexact H3
  isplitl [H5]; · iexact H5
  iexact H6

theorem toks_around : (bigSep Finset.univ fun c : Dev nD => toksL (F := F) c) = bigSep Finset.univ fun c : Dev nD => pays c := by
  unfold toksL pays
  have e0 (c : Dev nD) : bigSepL sendsL (toks0 (F := F) c)
      = iprop(bigSepL sendsL (fun q => dutyTok ER (sCell q c) 0 0) ∗ bigSepL sendsL (fun q => dutyTok ER (rCell q (nx q.1 c)) 0 0)) :=
    bigSepL_sep' _ _ _
  have e1 (c : Dev nD) : bigSepL dists (toka0 (F := F) c)
      = iprop(bigSepL dists (fun d => dutyTok ER (asCell d c) 0 0) ∗ bigSepL dists (fun d => dutyTok ER (arCell d (tgt d c)) 0 0)) :=
    bigSepL_sep' _ _ _
  simp only [e0, e1]
  rw [bigSep_sep', bigSep_sep', bigSep_sep', bigSep_sep', bigSep_sep', bigSep_sep', bigSep_sep', bigSep_sep', bigSep_sep', bigSep_sep',
    around (F := F) (fun q : Q => nxE q.1) (fun q c => dutyTok ER (rCell q c) 0 0), around (F := F) tgtE (fun d c => dutyTok ER (arCell d c) 0 0),
    bigSep_univ_equiv (nxE 1) (fun c : Dev nD => (dutyTok ER (barCell c) 0 0 : sProp 𝕄)),
    bigSep_univ_equiv (nxE 0) (fun c : Dev nD => (dutyTok ER (barCell c) 0 1 : sProp 𝕄))]
  rfl

/-! ## The credits -/

theorem cred_a (l : List (Fin 31)) : (Pipeline.launchCred (fun d => owedA d l) c : sProp 𝕄) ⊢ bigSepL l (crA c) := by
  induction l with
  | nil => exact Entails.of_eq (Pipeline.launchCred_zero c)
  | cons d l ih =>
    rw [show (fun d' => owedA d' (d :: l)) = fun d' => owedA d' l + tallyAt (arCell d (tgt d d')) () Na from rfl,
      Pipeline.launchCred_add, bigSepL_cons']
    exact (BIClass.sep_mono ih (Pipeline.launchCred_tallyAt (.dma (arSem d)) (tgt d) (src d) (tgt_src d) (src_tgt d) () Na c)).trans sep_comm
theorem cred_r (O : Dev nD → CellTallies nD τ sig Unit) (l : List Q) :
    (Pipeline.launchCred (fun d => owedL (O d) d l) c : sProp 𝕄) ⊢ iprop(bigSepL l (crR c) ∗ Pipeline.launchCred O c) := by
  induction l with
  | nil =>
    iintro H
    isplitr; · iempintro
    iexact H
  | cons q l ih =>
    rw [show (fun d' => owedL (O d') d' (q :: l)) = fun d' => owedL (O d') d' l + tallyAt (rCell q (nx q.1 d')) () Nq from rfl,
      Pipeline.launchCred_add, bigSepL_cons']
    refine (BIClass.sep_mono ih (Pipeline.launchCred_tallyAt (.dma (rSem q)) (nx q.1) (nx (opp q.1)) (nx_opp' q.1) (nx_opp q.1) () Nq c)).trans ?_
    iintro ⟨⟨H1, H2⟩, H3⟩
    isplitl [H1 H3]
    · isplitl [H3]; · unfold crR; iexact H3
      iexact H1
    iexact H2

theorem creds : (Pipeline.launchCred O₀ c : sProp 𝕄)
    ⊢ iprop(cred (tallyAt (barCell c) () 2) ∗ bigSepL sendsL (crR c) ∗ bigSepL dists (crA c)) := by
  have e2 : (tallyAt (barCell c) () 2 : CellTallies nD τ sig Unit) = tallyAt (barCell c) () 1 + tallyAt (barCell c) () 1 :=
    (tallyAt_add _ _ 1 1).symm
  have eO : (O₀ : Dev nD → CellTallies nD τ sig Unit)
      = fun d => (owedL (owedA d dists) d sendsL + tallyAt (barCell (nx 0 d)) () 1) + tallyAt (barCell (nx 1 d)) () 1 := rfl
  rw [eO, Pipeline.launchCred_add (fun d => owedL (owedA d dists) d sendsL + tallyAt (barCell (nx 0 d)) () 1) (fun d => tallyAt (barCell (nx 1 d)) () 1),
    Pipeline.launchCred_add (fun d => owedL (owedA d dists) d sendsL) (fun d => tallyAt (barCell (nx 0 d)) () 1), e2]
  refine (BIClass.sep_mono (BIClass.sep_mono (cred_r c (fun d => owedA d dists) sendsL)
    (Pipeline.launchCred_tallyAt (.reg barS) (nx 0) (nx (opp 0)) (nx_opp' 0) (nx_opp 0) () 1 c))
    (Pipeline.launchCred_tallyAt (.reg barS) (nx 1) (nx (opp 1)) (nx_opp' 1) (nx_opp 1) () 1 c)).trans ?_
  iintro ⟨⟨⟨Hr, Ha⟩, H0⟩, H1⟩
  isplitl [H0 H1]
  · iapply (cred_add _ _).2
    isplitl [H0]; · iexact H0
    iexact H1
  isplitl [Hr]; · iexact Hr
  iapply (cred_a c dists); iexact Ha

end Cert.KernelIdeal.Ring
-- ==== Proof.Launch.lean ====
/-
  The run: from any memory every execution of the program ends, with each device's result at its value, the arguments as
  launched and every counter at zero.
-/
module

public import proofs.«01_k».proof.Proof.Region
public import proofs.«01_k».proof.Proof.Deal
public import Idealize.ShloMosaic.Harness.Basic

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal Cert.KernelIdeal.Gen

variable {F : FTy → Type} [FloatOps F]

local notation "𝕄" => MT nD τ sig Unit (Elt F) ℕ UU ℕ
local notation "Pg" F:max => Prog (TpuEff nD τ sig (Elt F) Λ₀ Proc.tc) PUnit

variable (m : (ℓ : Loc nD τ sig) → Buf (Elt F) ℓ) (ρ : Dev nD → PrngReg) (c : Dev nD)

open Idealize.ShloMosaic.Pipeline (Dat Seg HostSeg RegionSeg)

/-! ## The launch's element -/

def u₀ : UU :=
  (initOf (Pipeline.cells (cfgs) cellOf_inj) (Pipeline.launchToks (cfgs) cellOf_inj), launchOf barCells ownCells tokens)

/-- A resource held by the first device alone. -/
def onFirst (P : sProp 𝕄) (c : Dev nD) : sProp 𝕄 := if c = 0 then P else iprop(emp)
theorem onFirst_all (P : sProp 𝕄) : bigSep Finset.univ (onFirst P) = P := by
  rw [bigSep_univ_at _ (0 : Dev nD), bigSep_congr (s := Finset.univ.erase (0 : Dev nD)) (Ψ := fun _ => (BI.emp : sProp 𝕄))
      fun c hc => by unfold onFirst; rw [if_neg (Finset.ne_of_mem_erase hc)]; rfl, BI.bigSep_emp_const]
  unfold onFirst; rw [if_pos rfl]
  exact BI.equiv_iff.mp sep_emp
def seed : Dev nD → sProp 𝕄 := onFirst (BI.own (ER (launchOf barCells ownCells tokens)))

/-! ## The states between the items -/

/-- What rides beside the buffers before the region, and after it. -/
def rest0 (c : Dev nD) : sProp 𝕄 := iprop(Tk (Xin m) (Win m) c ∗ (∃ r, prngReg c r) ∗ owesE c (O₀ c))
def rest1 (c : Dev nD) : sProp 𝕄 := iprop(semVal (barCell c) 0 ∗ owesE c 0)
def rest (j : Fin 2) (c : Dev nD) : sProp 𝕄 := if j = 0 then rest0 m c else rest1 c
theorem rest_0 : rest m 0 c = rest0 m c := if_pos rfl
theorem rest_1 : rest m 1 c = rest1 c := if_neg (by decide)

theorem arr_sub : Pipeline.arrRefs (τ := τ) spec0 ⊆ Pipeline.ucRefs τ sig := Pipeline.arrRefs_sub_ucRefs spec0 (by decide)

theorem reg_pre : iprop(StableHlo.held (c : Thread nD τ) (Pipeline.ucRefs τ sig) (V1 m c) ∗ rest m 0 c) ⊢ (reg m).pre c := by
  show _ ⊢ iprop(StableHlo.held (c.tc : Thread nD τ) (Pipeline.arrRefs (τ := τ) spec0) (V1 m c) ∗ (∃ r, prngReg c r)
    ∗ (StableHlo.held (c.tc : Thread nD τ) beside (V1 m c) ∗ emp) ∗ Tk (Xin m) (Win m) c ∗ ∃ Wd, owes (c : Thread nD τ) (0 + O₀ c) Wd)
  rw [rest_0, zero_add, StableHlo.held_sub_split (c.tc : Thread nD τ) arr_sub (V1 m c)]
  unfold rest0 owesE beside
  iintro ⟨⟨Ha, Hb⟩, HT, Hp, HO⟩
  isplitl [Ha]; · iexact Ha
  isplitl [Hp]; · iexact Hp
  isplitl [Hb]
  · isplitl [Hb]; · iexact Hb
    iempintro
  isplitl [HT]; · iexact HT
  iexact HO

theorem reg_post : (reg m).post c ⊢ iprop(StableHlo.held (c : Thread nD τ) (Pipeline.ucRefs τ sig) (V2 m (outsF m) c) ∗ rest m 1 c) := by
  show iprop(StableHlo.held (c.tc : Thread nD τ) (Pipeline.arrRefs (τ := τ) spec0) (V2 m (outsF m) c) ∗ (∃ r, prngReg c r)
    ∗ (StableHlo.held (c.tc : Thread nD τ) beside (V2 m (outsF m) c) ∗ emp) ∗ semVal (barCell c) 0 ∗ ∃ Wd, owes (c : Thread nD τ) (0 : CellTallies nD τ sig Unit) Wd) ⊢ _
  rw [rest_1, StableHlo.held_sub_split (c.tc : Thread nD τ) arr_sub (V2 m (outsF m) c)]
  unfold rest1 owesE beside
  iintro ⟨Ha, -, ⟨Hb, -⟩, HT, HO⟩
  isplitl [Ha Hb]
  · isplitl [Ha]; · iexact Ha
    iexact Hb
  isplitl [HT]; · iexact HT
  iexact HO

/-! ## The launch -/

theorem unscopedSems0_eq : (unscopedSems0 c : sProp 𝕄) = semVal (barCell c) 0 := by
  unfold unscopedSems0
  rw [show (Finset.univ.filter fun sm : SemLoc sig => ¬ sm.isScoped .tc) = {SemLoc.reg barS} from by decide +kernel, BI.bigSep_singleton]

/-- What of a device's launch holdings is its own, and what is dealt to it. -/
def bundle (c : Dev nD) : sProp 𝕄 :=
  iprop(StableHlo.held (c : Thread nD τ) (Pipeline.ucRefs τ sig) (V0 m c)
    ∗ (cred (tallyAt (barCell c) () 2) ∗ bigSepL sendsL (crR c) ∗ bigSepL dists (crA c)) ∗ (∃ r, prngReg c r) ∗ owesE c (O₀ c))
def share (c : Dev nD) : sProp 𝕄 :=
  iprop(atPos ER (barCell c) 0 ∅ 0 ∗ (bigSep Finset.univ fun k => openTok ER (ownG c k)) ∗ pays c)
def known (K : GSem nD τ sig → ℕ) : sProp 𝕄 :=
  iprop(invs (Xin m) (Win m) K ∗ bigSep Finset.univ fun c : Dev nD => reached ER (barCell c) 0)
instance known_persistent (K : GSem nD τ sig → ℕ) : BI.Persistent (known m K) := by unfold known; infer_instance

theorem reached_at (d : Dev nD) : (bigSep Finset.univ fun c : Dev nD => (reached ER (barCell c) 0 : sProp 𝕄)) ⊢ reached ER (barCell d) 0 :=
  bigSep_elim (Finset.mem_univ d)

theorem start_of (K : GSem nD τ sig → ℕ) : iprop(known m K ∗ (share c ∗ bundle m c))
    ⊢ iprop(StableHlo.held (c : Thread nD τ) (Pipeline.ucRefs τ sig) (V0 m c) ∗ rest m 0 c) := by
  rw [rest_0]
  unfold known share bundle rest0 Tk dealt barRes pays
  iintro ⟨⟨#HI, #HR⟩, ⟨Hat, Hop, ⟨Hb1, Hb0⟩, Hs, Ha⟩, Hh, ⟨Hcb, Hcr, Hca⟩, Hp, HO⟩
  isplitl [Hh]; · iexact Hh
  isplitr [Hp HO]
  · iexists K
    isplitr; · iexact HI
    isplitl [Hat Hcb Hb1 Hb0]
    · isplitl [Hat]; · iexact Hat
      isplitl [Hcb]; · iexact Hcb
      isplitl [Hb1]; · iexact Hb1
      isplitl [Hb0]; · iexact Hb0
      isplitr
      · iapply (reached_at (F := F) (nx 1 c)); iexact HR
      iapply (reached_at (F := F) (nx 0 c)); iexact HR
    isplitl [Hs]; · iexact Hs
    isplitl [Ha]; · iexact Ha
    isplitl [Hcr]; · iexact Hcr
    isplitl [Hca]; · iexact Hca
    iexact Hop
  isplitl [Hp]; · iexact Hp
  iexact HO

theorem own_part : iprop(unscopedBufs c (fun b => m ((c.tc : Thread nD τ).loc b)) ∗ unscopedSems0 c ∗ owes (c.tc : Thread nD τ) (O₀ c) ∅
      ∗ Pipeline.launchCred O₀ c ∗ prngReg c (ρ c) ∗ seed c)
    ⊢ (iprop(bundle m c ∗ (semVal (barCell c) 0 ∗ seed c)) : sProp 𝕄) := by
  rw [unscopedSems0_eq, show (unscopedBufs c (fun b => m ((c.tc : Thread nD τ).loc b)) : sProp 𝕄)
    = StableHlo.held (c : Thread nD τ) (Pipeline.ucRefs τ sig) (V0 m c) from Pipeline.unscopedBufs_held (Ix := Unit) (Name := ℕ) (U := UU) (Lvl := ℕ) c (V0 m c)]
  unfold bundle owesE
  iintro ⟨Hh, Hs, HO, Hcr, Hp, HG⟩
  isplitr [Hs HG]
  · isplitl [Hh]; · iexact Hh
    isplitl [Hcr]; · iapply (creds c); iexact Hcr
    isplitl [Hp]; · iexists _; iexact Hp
    iexists _; iexact HO
  isplitl [Hs]; · iexact Hs
  iexact HG

theorem launch : iprop((bigSep Finset.univ fun c : Dev nD => iprop(unscopedBufs c (fun b => m ((c.tc : Thread nD τ).loc b)) ∗ unscopedSems0 c
      ∗ owes (c.tc : Thread nD τ) (O₀ c) ∅ ∗ Pipeline.launchCred O₀ c ∗ prngReg c (ρ c) ∗ seed c)) ∗ levAts L lv)
    ⊢ (|={Set.univ}=> bigSep Finset.univ (fun c : Dev nD => iprop(StableHlo.held (c : Thread nD τ) (Pipeline.ucRefs τ sig) (V0 m c) ∗ rest m 0 c)) : sProp 𝕄) := by
  have h1 : (bigSep Finset.univ fun c : Dev nD => iprop(unscopedBufs c (fun b => m ((c.tc : Thread nD τ).loc b)) ∗ unscopedSems0 c
        ∗ owes (c.tc : Thread nD τ) (O₀ c) ∅ ∗ Pipeline.launchCred O₀ c ∗ prngReg c (ρ c) ∗ seed c))
      ⊢ (iprop((bigSep Finset.univ fun c : Dev nD => bundle m c) ∗ (bigSep Finset.univ fun c : Dev nD => semVal (barCell c) 0)
        ∗ BI.own (ER (launchOf barCells ownCells tokens))) : sProp 𝕄) := by
    refine BIBase.Entails.trans (bigSep_mono fun c _ => own_part m ρ c) ?_
    rw [bigSep_sep', bigSep_sep']
    unfold seed
    rw [onFirst_all]
  have h2 : (bigSep Finset.univ fun c : Dev nD => toksOf (F := F) c) ⊢ bigSep Finset.univ fun c : Dev nD => pays c := by
    rw [← toks_around]; exact bigSep_mono fun c _ => toks_list c
  have h3 (K : GSem nD τ sig → ℕ) : iprop(known m K ∗ bigSep Finset.univ fun c : Dev nD => iprop(share c ∗ bundle m c))
      ⊢ (bigSep Finset.univ (fun c : Dev nD => iprop(StableHlo.held (c : Thread nD τ) (Pipeline.ucRefs τ sig) (V0 m c) ∗ rest m 0 c)) : sProp 𝕄) :=
    bigSep_with_persistent fun c _ => start_of m c K
  have h4 : (bigSep Finset.univ fun c : Dev nD => iprop(share c ∗ bundle m c))
      = iprop(((bigSep Finset.univ fun c : Dev nD => (atPos ER (barCell c) 0 ∅ 0 : sProp 𝕄))
        ∗ (bigSep Finset.univ fun c : Dev nD => bigSep Finset.univ fun k => openTok ER (ownG c k)) ∗ bigSep Finset.univ fun c : Dev nD => pays c)
        ∗ bigSep Finset.univ fun c : Dev nD => bundle m c) := by
    unfold share
    rw [bigSep_sep', bigSep_sep', bigSep_sep']
  iintro ⟨H, -⟩
  ihave H := h1 $$ H
  icases H with ⟨HB, HV, HE⟩
  imod (fund (Xin m) (Win m)) $$ [HV HE] with ⟨%K, #HI, #HR, Hat, Hop, Htk⟩
  · isplitl [HV]; · iexact HV
    iexact HE
  imodintro
  iapply (h3 K)
  isplitr
  · unfold known
    isplitr; · iexact HI
    iexact HR
  iapply (Entails.of_eq h4.symm)
  isplitr [HB]
  · isplitl [Hat]; · iexact Hat
    isplitl [Hop]; · iexact Hop
    iapply h2; iexact Htk
  iexact HB

end Cert.KernelIdeal.Ring
-- ==== Proof.Run.lean ====
/-
  The run: from any memory every execution of the program ends, with each device's result at its value, the arguments as
  launched and every counter at zero.
-/
module

public import proofs.«01_k».proof.Proof.Launch
public import Idealize.ShloMosaic.Lib.Quiescent

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal Cert.KernelIdeal.Gen

variable {F : FTy → Type} [FloatOps F]

local notation "𝕄" => MT nD τ sig Unit (Elt F) ℕ UU ℕ
local notation "Pg" F:max => Prog (TpuEff nD τ sig (Elt F) Λ₀ Proc.tc) PUnit

variable (m : (ℓ : Loc nD τ sig) → Buf (Elt F) ℓ) (ρ : Dev nD → PrngReg) (c : Dev nD)

open Idealize.ShloMosaic.Pipeline (Dat Seg HostSeg RegionSeg)

theorem unscoped_eq : ∀ sm : SemLoc sig, sm.isScoped .tc = false → sm = .reg barS := by decide +kernel

/-- What a device's memory reads at the end. -/
def EndAt (s : MemSt nD τ sig (Elt F)) : Prop :=
  s.mem ((c.tc : Thread nD τ).loc main_v13) = outV (Xin m) (Win m) c
    ∧ s.mem ((c.tc : Thread nD τ).loc main_arg0) = m ((c.tc : Thread nD τ).loc main_arg0)
    ∧ s.mem ((c.tc : Thread nD τ).loc main_arg1) = m ((c.tc : Thread nD τ).loc main_arg1)
    ∧ s.sem (barCell c) = 0

theorem seeds : (ownU u₀ : sProp 𝕄) ⊢ |={Set.univ}=> iprop(BI.own (EP (initOf (Pipeline.cells cfgs cellOf_inj)
    (Pipeline.launchToks cfgs cellOf_inj))) ∗ bigSep Finset.univ seed) := by
  unfold u₀ seed
  iintro Hu
  ihave H := (ownU_pair _ _) $$ Hu
  icases H with ⟨HP, HX⟩
  imodintro
  isplitl [HP]; · iexact HP
  rw [onFirst_all]
  iexact HX

theorem end_at (s' : Phys nD τ sig (Elt F)) :
    (iprop((StableHlo.held (c : Thread nD τ) (Pipeline.ucRefs τ sig) (V2 m (outsF m) c) ∗ semVal (barCell c) 0) ∗ SI s') : sProp 𝕄)
    ⊢ |={Set.univ}=> iprop(⌜EndAt m c s'.mem⌝ ∗ SI s') := by
  unfold StableHlo.held
  iintro ⟨⟨Hh, Hb⟩, HSI⟩
  icombine HSI Hb gives %hb
  ihave Hr := (pointsTo_read_all (Pipeline.ucRefs τ sig) (fun b => ((c : Thread nD τ).1, b)) (V2 m (outsF m) c) s') $$ [Hh HSI]
  · isplitl [Hh] <;> iassumption
  icases Hr with ⟨%h, HSI⟩
  imodintro
  isplitr
  · ipureintro
    exact ⟨(h (Proc.devRef .tc main_v13) (Finset.mem_filter.mpr ⟨StableHlo.devRef_mem_tcRefs main_v13, by decide⟩)).trans (V2_out m c),
      (h (Proc.devRef .tc main_arg0) (Finset.mem_filter.mpr ⟨StableHlo.devRef_mem_tcRefs main_arg0, by decide⟩)).trans (V2_main_arg0 m (outsF m) c),
      (h (Proc.devRef .tc main_arg1) (Finset.mem_filter.mpr ⟨StableHlo.devRef_mem_tcRefs main_arg1, by decide⟩)).trans (V2_main_arg1 m (outsF m) c),
      hb⟩
  · iexact HSI

set_option backward.isDefEq.respectTransparency.types false in
theorem run_main : θ_run (defs (F := F)) (onTc (τ := τ) (main (F := F))) ⟨m, fun _ => 0, ρ⟩ (fun r =>
    (∀ c : Dev nD, r.2.mem ((c.tc : Thread nD τ).loc main_v13) = outV (Xin m) (Win m) c
      ∧ r.2.mem ((c.tc : Thread nD τ).loc main_arg0) = m ((c.tc : Thread nD τ).loc main_arg0)
      ∧ r.2.mem ((c.tc : Thread nD τ).loc main_arg1) = m ((c.tc : Thread nD τ).loc main_arg1))
    ∧ r.2.sem = fun _ => 0) := by
  refine Pipeline.θ_run_regions_kit_dev_sems (pcfgs (F := F)) adm (pdats m) () cellOf_inj EP defs₀ 𝒱₀ L lv m ρ main
    (segs m 𝒱₀ L lv (rest m) () (pdats m) (reg m))
    (fun c Q => by
      rewrite [main_chain c, Seg.run_eq_chain,
        show (segs m 𝒱₀ L lv (rest m) () (pdats m) (reg m) c).map Seg.prog = [
          StableHlo.seq (hostOps0 c),
          Prog.lift (.customCall (Pipeline.entry 0) ()) ] from rfl]
      dsimp (config := { failIfUnchanged := false }) only
      exact .rfl)
    (fun c => by simp only [segs, Seg.pipes_host, Seg.pipes_region, Seg.pipes_nil]; decide) O₀ L_of_ne seed u₀ seeds
    (T₀ := fun c => iprop(StableHlo.held (c : Thread nD τ) (Pipeline.ucRefs τ sig) (V0 m c) ∗ rest m 0 c))
    (Tₙ := fun c => iprop(StableHlo.held (c : Thread nD τ) (Pipeline.ucRefs τ sig) (V2 m (outsF m) c) ∗ semVal (barCell c) 0))
    (hch := fun c => ⟨.rfl, reg_pre m c, (reg_post m c).trans ?_⟩)
    (hinit := launch m ρ) (QY := EndAt m)
    (hfin := end_at m) (hQ := fun s h hs => ⟨fun c => ⟨(h c).1, (h c).2.1, (h c).2.2.1⟩,
      sem_eq_zero hs fun c sm hsm => by obtain rfl := unscoped_eq sm hsm; exact (h c).2.2.2⟩)
  rw [rest_1]
  unfold rest1 owesE
  iintro ⟨Ha, Hs, HO⟩
  isplitl [Ha Hs]
  · isplitl [Ha]; · iexact Ha
    iexact Hs
  iexact HO

end Cert.KernelIdeal.Ring
-- ==== Proof.Same.lean ====
/-
  The kernel and its ideal reading have the same text: the same body, the same @main, the same table of bodies.
-/
module

public import proofs.«01_k».proof.Proof.Gen.Kernel
public import proofs.«01_k».proof.Proof.Gen.KernelIdeal

@[expose] public section

set_option maxHeartbeats 40000000

noncomputable section

namespace Cert.Proof

open Idealize.ShloMosaic Idealize.SL.Sem Cert.Kernel

variable {F : FTy → Type} [FloatOps F]

theorem body_same : Cert.Kernel.cc0_body (F := F) = Cert.KernelIdeal.cc0_body (F := F) := rfl
theorem main_same : Cert.Kernel.main (F := F) = Cert.KernelIdeal.main (F := F) := rfl

theorem bodies_same : Cert.Kernel.defs₀ (F := F) = Cert.KernelIdeal.defs₀ (F := F) := by
  unfold Cert.Kernel.defs₀ Cert.KernelIdeal.defs₀
  refine congrArg (Defs.onTc (nD := Cert.Kernel.nD) (τ := Cert.Kernel.τ) (sig := Cert.Kernel.sig) (Val := Elt F) (Λ := Cert.Kernel.Λ₀)) ?_
  funext l x
  match l, x with
  | 0, (t, s) =>
    dsimp only
    rw [body_same]
  | ⟨n + 1, h⟩, _ => exact absurd h (Nat.not_lt.2 (Nat.le_add_left _ _))

theorem defs_same : Cert.Kernel.defs (F := F) = Cert.KernelIdeal.defs (F := F) :=
  congrArg (Pipeline.defs (Cert.Kernel.pcfgs (F := F))) bodies_same

end Cert.Proof

end
-- ==== Proof.Frames.lean ====
/-
  The frames of the three programs, from the one run of the kernel at any floats and the reference's run.
-/
module

public import proofs.«01_k».proof.Defs
public import proofs.«01_k».proof.Proof.Run
public import proofs.«01_k».proof.Proof.Same
public import Idealize.ShloMosaic.Lib.Quiescent
public import proofs.«01_k».proof.Proof.Gen.ReferenceIdeal.Run

@[expose] public section

noncomputable section

namespace Cert.Proof

open Idealize.ShloMosaic Idealize.SL.Sem Cert.Kernel

theorem frame_ideal : Cert.quiescent_KernelIdeal := fun m ρ _ =>
  (θ_run Cert.KernelIdeal.defs _ _).mono (fun _ h => ⟨fun c => (h.1 c).2, h.2⟩) (Cert.KernelIdeal.Ring.run_main (F := Ideal) m ρ)

/-- The kernel has the same text as the one run above, so its frame is that run at the machine's floats. -/
theorem frame_kernel : Cert.quiescent_Kernel := fun m ρ _ => by
  rw [defs_same, main_same]
  exact (θ_run Cert.KernelIdeal.defs _ _).mono (fun _ h => ⟨fun c => (h.1 c).2, h.2⟩) (Cert.KernelIdeal.Ring.run_main (F := Bits) m ρ)

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Scalars.lean ====
/-
  The values over the extended reals: the products, the largest entries and the quantiser at an entry.
-/
module

public import proofs.«01_k».proof.Proof.Uniq
public import Idealize.ShloMosaic.Lib.Pointwise
public import Idealize.ShloMosaic.Lib.IdealHost
public import proofs.«01_k».proof.Proof.Gen.ReferenceIdeal.Run
public import Idealize.ShloMosaic.PureOps.Ideal.Laws

@[expose] public section

set_option maxRecDepth 16384

noncomputable section

namespace Cert.KernelIdeal.Ring

open Idealize.ShloMosaic
open Cert.KernelIdeal Cert.KernelIdeal.Gen

/-! ## Literals -/

theorem lit_zero : Ideal.ofBits .f32 0x00000000#32 = 0 := by simp [Ideal.ofBits, Ideal.ieee]
theorem lit_bot : Ideal.ofBits .f32 0xFF800000#32 = ⊥ := by simp [Ideal.ofBits, Ideal.ieee]
theorem lit_127 : Ideal.ofBits .f32 0x42FE0000#32 = ((127 : ℝ) : EReal) := by
  simp [Ideal.ofBits, Ideal.ieee]
  rw [← EReal.coe_mul]
  norm_num
theorem lit_neg_127 : Ideal.ofBits .f32 0xC2FE0000#32 = ((-127 : ℝ) : EReal) := by
  simp [Ideal.ofBits, Ideal.ieee]
  rw [← EReal.coe_mul]
  norm_num

/-! ## Products -/

theorem own_at (x : Vec Ideal S128x4096 .bf16) (w : Vec Ideal S4096x64 .bf16) (j : S128x64.Idx) :
    own x w j = max (∑ k : Fin 4096, (x (ix2 (j 0) k) : EReal) * (w (ix2 k (j 1)) : EReal)) 0 := by
  unfold own
  pointwise

theorem half_at (x : Vec Ideal S1x1x64x4096 .bf16) (w : Vec Ideal S4096x64 .bf16) (j : S64x64.Idx) :
    half x w j = max (∑ k : Fin 4096, (x (ix4 0 0 (j 0) k) : EReal) * (w (ix2 k (j 1)) : EReal)) 0 := by
  unfold half
  pointwise

/-! ## Largest entries -/

theorem red_le {s t : Shape} {axes : List (Fin s.rank)} [Subsingleton t.Idx] (v : FVec Ideal s .f32) (h : s.Reduces axes t)
    (hφ : FKind.Formats .f32) (hacc : (0xFF800000#32 : BitVec FTy.f32.bits) = FKind.maximumf.neutral .f32 hφ) (j : t.Idx) (z : EReal) :
    (multiReduction .maximumf axes t v 0xFF800000#32 h hφ hacc j : EReal) ≤ z ↔ ∀ i, (v i : EReal) ≤ z := by
  rw [multiReduction_maximumf_eq_fold, show (Finset.univ.filter fun i => h.drop i = j) = Finset.univ from
    Finset.filter_true_of_mem fun i _ => Subsingleton.elim _ _]
  refine (Finset.fold_max_le (β := EReal) z).trans ?_
  show Ideal.ofBits .f32 0xFF800000#32 ≤ z ∧ _ ↔ _
  rw [lit_bot]
  simp

theorem hostRed_le {s t u : Shape} {axes : List (Fin s.rank)} [Subsingleton t.Idx] (v : FVec Ideal s .f32) (h : s.ReducesTo axes t)
    (hu : 0 < u.numel) (j : t.Idx) (z : EReal) :
    ((Host.reduce FloatOps.maximumf v (constant u .f32 0xFF800000#32) h hu j : Ideal .f32) : EReal) ≤ z ↔ ∀ i, (v i : EReal) ≤ z := by
  rw [Host.reduce_eq_fold, show (Finset.univ.filter fun i => h.drop i = j) = Finset.univ from
    Finset.filter_true_of_mem fun i _ => Subsingleton.elim _ _]
  refine (Finset.fold_max_le (β := EReal) z).trans ?_
  show Ideal.ofBits .f32 0xFF800000#32 ≤ z ∧ _ ↔ _
  rw [lit_bot]
  simp

theorem cast_le {s t : Shape} (h : s.ShapeCasts t) (v : FVec Ideal s .f32) (z : EReal) :
    (∀ i, (shapeCast t v h i : EReal) ≤ z) ↔ ∀ i, (v i : EReal) ≤ z :=
  (Shape.reshapeEquiv h).forall_congr_right (q := fun i => (v i : EReal) ≤ z)

theorem ownMax_le (v : FVec Ideal S128x64 .f32) (z : EReal) : (ownMax v : EReal) ≤ z ↔ ∀ i, (v i : EReal) ≤ z := by
  haveI : Subsingleton S1.Idx := ⟨fun a b => by funext k; fin_cases k; exact Subsingleton.elim (α := Fin 1) _ _⟩
  unfold ownMax
  refine (red_le _ _ (.inl rfl) rfl _ z).trans ?_
  exact cast_le _ v z

theorem halfMax_le (v : FVec Ideal S64x64 .f32) (z : EReal) : (halfMax v : EReal) ≤ z ↔ ∀ i, (v i : EReal) ≤ z := by
  haveI : Subsingleton S1.Idx := ⟨fun a b => by funext k; fin_cases k; exact Subsingleton.elim (α := Fin 1) _ _⟩
  unfold halfMax
  refine (red_le _ _ (.inl rfl) rfl _ z).trans ?_
  exact cast_le _ v z

/-! ## The quantiser -/

/-- An entry quantised and scaled back, the scale found from the largest entry `g`. -/
def quantE (g y : EReal) : EReal :=
  min ((127 : ℝ) : EReal) (max 0 (Ideal.liftRound Ideal.roundHalfEven (Ideal.div y (Ideal.div g ((127 : ℝ) : EReal)))))
    * Ideal.div g ((127 : ℝ) : EReal)

/-- The same as the reference has it, with both ends of the range. -/
def quantR (g y : EReal) : EReal :=
  min ((127 : ℝ) : EReal) (max ((-127 : ℝ) : EReal) (Ideal.liftRound Ideal.roundHalfEven (Ideal.div y (Ideal.div g ((127 : ℝ) : EReal)))))
    * Ideal.div g ((127 : ℝ) : EReal)

theorem quant_same (g y : EReal) (hg : 0 ≤ g) (hy : 0 ≤ y) : quantE g y = quantR g y := by
  unfold quantE quantR
  generalize hs : Ideal.div g ((127 : ℝ) : EReal) = s
  by_cases h0 : s = 0
  · subst h0; simp
  · have hs0 : 0 ≤ s := by
      rw [← hs, Ideal.div, if_neg (by norm_num)]
      exact mul_nonneg hg (EReal.inv_nonneg_of_nonneg (by norm_num))
    have hd : 0 ≤ Ideal.div y s := by
      rw [Ideal.div, if_neg h0]
      exact mul_nonneg hy (EReal.inv_nonneg_of_nonneg hs0)
    have hr : 0 ≤ Ideal.liftRound Ideal.roundHalfEven (Ideal.div y s) := by
      generalize Ideal.div y s = d at hd
      induction d with
      | bot => simp at hd
      | top => exact le_top
      | coe r =>
        have hr : 0 ≤ r := by exact_mod_cast hd
        have hf : 0 ≤ ⌊r⌋ := Int.floor_nonneg.2 hr
        have : 0 ≤ Ideal.roundHalfEven r := by
          unfold Ideal.roundHalfEven
          dsimp only
          split_ifs <;> omega
        show (0 : EReal) ≤ (((Ideal.roundHalfEven r : ℤ) : ℝ) : EReal)
        exact_mod_cast this
    rw [max_eq_right hr, max_eq_right (le_trans (by norm_num) hr)]

theorem quant_at (A : Vec Ideal S32x8x128 .f32) : ∃ g : EReal, (∀ z : EReal, g ≤ z ↔ ∀ i, (A i : EReal) ≤ z) ∧
    ∀ (v : Vec Ideal S4096x64 .f32) (j : S4096x64.Idx), (quant A v j : EReal) = quantE g (v j) := by
  haveI : Subsingleton S1.Idx := ⟨fun a b => by funext k; fin_cases k; exact Subsingleton.elim (α := Fin 1) _ _⟩
  refine ⟨(extractAt ![0, 0, 0, 0] (shapeCast S1x1x1x1 (multiReduction .maximumf [1, 2, 3] S1
    (shapeCast S1x32x8x128 A shapeCasts_S32x8x128_S1x32x8x128) 0xFF800000#32 reduces_S1x32x8x128_S1 (.inl rfl) rfl)
    shapeCasts_S1_S1x1x1x1) inpos_S1x1x1x1_p0_0_0_0 : Ideal .f32), fun z => ?_, fun v j => ?_⟩
  · refine (red_le _ _ (.inl rfl) rfl _ z).trans ?_
    exact cast_le _ A z
  · unfold quant k0_pay142
    pointwise
    unfold quantE
    rw [lit_127]

end Cert.KernelIdeal.Ring

/-! ## The reference -/

namespace Cert.ReferenceIdeal.Value

open Idealize.ShloMosaic
open Cert.ReferenceIdeal Cert.ReferenceIdeal.Gen
open Cert.KernelIdeal.Ring (hostRed_le quantR lit_zero lit_127 lit_neg_127)

variable (x : FVec Ideal S4096x4096 .bf16) (w : FVec Ideal S4096x2048 .bf16)

/-- The product with its negative entries made zero. -/
def prod : FVec Ideal S4096x2048 .f32 :=
  maximumf (Host.dotGeneral dot_S4096x4096_S4096x2048_S4096x2048_1_0_0_1_n_n none x w)
    (broadcastInDim S4096x2048 ![] bcast_S_S4096x2048 (constant S_ .f32 0x00000000#32))

/-- The scale: the largest absolute value over 127. -/
def scale : FVec Ideal S_ .f32 :=
  Host.divf (Host.reduce FloatOps.maximumf (Host.absf (prod x w)) (constant S_ .f32 0xFF800000#32) reducesTo_S4096x2048_S_d0_1 h_S_)
    (constant S_ .f32 0x42FE0000#32)

/-- The result. -/
def result : FVec Ideal S4096x2048 .f32 :=
  mulf (minimumf (broadcastInDim S4096x2048 ![] bcast_S_S4096x2048 (id (constant S_ .f32 0x42FE0000#32)))
    (maximumf (broadcastInDim S4096x2048 ![] bcast_S_S4096x2048 (id (constant S_ .f32 0xC2FE0000#32)))
      (Host.roundeven (Host.divf (prod x w) (broadcastInDim S4096x2048 ![] bcast_S_S4096x2048 (scale x w))))))
    (broadcastInDim S4096x2048 ![] bcast_S_S4096x2048 (scale x w))

theorem prod_at (j : S4096x2048.Idx) :
    prod x w j = max (∑ k : Fin 4096, (x (ix2 (j 0) k) : EReal) * (w (ix2 k (j 1)) : EReal)) 0 := by
  unfold prod
  pointwise

theorem prod_nonneg (j : S4096x2048.Idx) : (0 : EReal) ≤ prod x w j := by
  rw [prod_at]
  exact le_max_right _ _

theorem result_at : ∃ g : EReal, (∀ z : EReal, g ≤ z ↔ ∀ i, (prod x w i : EReal) ≤ z) ∧
    ∀ j : S4096x2048.Idx, (result x w j : EReal) = quantR g (prod x w j) := by
  haveI : Subsingleton S_.Idx := ⟨fun a b => funext fun k => k.elim0⟩
  refine ⟨(Host.reduce FloatOps.maximumf (Host.absf (prod x w)) (constant S_ .f32 0xFF800000#32) reducesTo_S4096x2048_S_d0_1 h_S_
    ValueIdx.ix0 : Ideal .f32), fun z => ?_, fun j => ?_⟩
  · refine (hostRed_le _ _ _ _ z).trans (forall_congr' fun i => ?_)
    show max (prod x w i : EReal) (-(prod x w i : EReal)) ≤ z ↔ _
    rw [max_eq_left ((EReal.neg_le_neg_iff.2 (prod_nonneg x w i)).trans (by simpa using prod_nonneg x w i))]
  · unfold quantR result
    rw [← lit_127, ← lit_neg_127]
    have hs : (broadcastInDim S4096x2048 ![] bcast_S_S4096x2048 (scale x w) j : Ideal .f32) = scale x w ValueIdx.ix0 :=
      ValueIdx.broadcastInDim_scalar_apply _ _ _
    show min (broadcastInDim S4096x2048 ![] bcast_S_S4096x2048 (id (constant S_ .f32 0x42FE0000#32)) j : Ideal .f32)
      (max (broadcastInDim S4096x2048 ![] bcast_S_S4096x2048 (id (constant S_ .f32 0xC2FE0000#32)) j : Ideal .f32)
        (Ideal.liftRound Ideal.roundHalfEven (Ideal.div (prod x w j)
          (broadcastInDim S4096x2048 ![] bcast_S_S4096x2048 (scale x w) j : Ideal .f32))))
      * (broadcastInDim S4096x2048 ![] bcast_S_S4096x2048 (scale x w) j : Ideal .f32) = _
    rw [hs]
    rfl

end Cert.ReferenceIdeal.Value

end
-- ==== Proof.Value.lean ====
/-
  The kernel's result over the extended reals: every device holds its columns of the reference's result.
-/
module

public import proofs.«01_k».proof.Proof.Scalars
public import proofs.«01_k».proof.Proof.Region

@[expose] public section

set_option maxRecDepth 16384

noncomputable section

namespace Cert.KernelIdeal.Ring

open Idealize.ShloMosaic Idealize.ShloMosaic.TcCoe
open Cert.KernelIdeal Cert.KernelIdeal.Gen
open Cert.ReferenceIdeal.Value (prod result prod_at result_at prod_nonneg)

variable (X : Dev nD → XBuf Ideal) (Wt : Dev nD → WBuf Ideal)
variable (x : FVec Ideal ⟨2, ![4096, 4096]⟩ .bf16) (w : FVec Ideal ⟨2, ![4096, 2048]⟩ .bf16)

/-! ## What the kernel loads -/

theorem zeros2 : (![0, 0] : Fin 2 → ℕ) = fun _ => 0 := by funext a; fin_cases a <;> rfl
theorem zeros3 : (![0, 0, 0] : Fin 3 → ℕ) = fun _ => 0 := by funext a; fin_cases a <;> rfl

theorem xv_eq (c : Dev nD) : xv X c = X c := Memref.readAt_unit_zero (Elt Ideal) cc0_stg0_0 zeros2 _ _
theorem wv_eq (c : Dev nD) : wv Wt c = Wt c := Memref.readAt_unit_zero (Elt Ideal) cc0_stg1_0 zeros2 _ _
theorem amaxes_eq : amaxes X Wt = A X Wt := Memref.readAt_unit_zero (Elt Ideal) cc0_scratch1 zeros3 _ _
theorem allRows_eq (f : OBuf Ideal) : allRows f = f := Memref.readAt_unit_zero (Elt Ideal) cc0_stg3_0 zeros2 _ _
theorem Res_eq (f : OBuf Ideal) : Res X Wt f = quant (A X Wt) f := by
  unfold Res
  rw [amaxes_eq, allRows_eq]
  exact Memref.write_access_unit_zero_univ (Elt Ideal) cc0_stg3_0 zeros2 _ _ _

theorem xh_at (o : Dev nD) (h : Fin 2) (a : Fin 64) (b : Fin 4096) :
    xh X o h (ValueIdx.ix2 a b) = X o (ix2 (⟨64 * h.val + a.val, by omega⟩ : Fin 128) b) := by
  unfold xh
  show X o (((Rect.unit (s := S128x4096) ![64 * h.val, 0] S64x4096.size (inbX h))).idx (ValueIdx.ix2 a b)) = _
  congr 1
  funext k
  apply Fin.ext
  fin_cases k
  · show 64 * h.val + 1 * a.val = 64 * h.val + a.val; omega
  · show 0 + 1 * b.val = b.val; omega

theorem chunk_at (o : Dev nD) (h : Fin 2) (a : Fin 64) (b : Fin 4096) :
    chunk X (o, h) (ix4 0 0 a b) = X o (ix2 (⟨64 * h.val + a.val, by omega⟩ : Fin 128) b) := by
  refine Eq.trans ?_ (xh_at X o h a b)
  show G X ((Rect.unit (s := S32x2x64x4096) (offC h (Dev.word o)) S1x1x64x4096.size (chkG_word h o).1).idx (ix4 0 0 a b)) = _
  have e : (Rect.unit (s := S32x2x64x4096) (offC h (Dev.word o)) S1x1x64x4096.size (chkG_word h o).1).idx (ix4 0 0 a b)
      = (ValueIdx.ix4 (n0 := 32) (n1 := 2) o h a b : S32x2x64x4096.Idx) := by
    have hw := offC_word h o
    funext k
    apply Fin.ext
    refine (congrArg (· + 1 * _) (congrFun hw k)).trans ?_
    fin_cases k
    · show o.val + 1 * 0 = o.val; omega
    · show h.val + 1 * 0 = h.val; omega
    · show 0 + 1 * a.val = a.val; omega
    · show 0 + 1 * b.val = b.val; omega
  rw [e]
  rfl

/-! ## The products -/

/-- Column `b` of device `c`'s block, in the whole. -/
def col (c : Dev nD) (b : Fin 64) : Fin 2048 := ⟨64 * c.val + b.val, by have : c.val < 32 := c.isLt; omega⟩
/-- Row `a` of device `o`'s block, in the whole. -/
def row (o : Dev nD) (a : Fin 128) : Fin 4096 := ⟨128 * o.val + a.val, by have : o.val < 32 := o.isLt; omega⟩

theorem tilesX : Layout.Tiles ⟨2, ![128, 4096]⟩ ⟨2, ![4096, 4096]⟩ 0 32 := by decide
theorem tilesW : Layout.Tiles ⟨2, ![4096, 64]⟩ ⟨2, ![4096, 2048]⟩ 1 32 := by decide

variable (hX : ∀ c : Dev nD, X c = Layout.block ⟨2, ![128, 4096]⟩ ⟨2, ![4096, 4096]⟩ 0 32 c x tilesX)
variable (hW : ∀ c : Dev nD, Wt c = Layout.block ⟨2, ![4096, 64]⟩ ⟨2, ![4096, 2048]⟩ 1 32 c w tilesW)

include hX in
theorem X_at (o : Dev nD) (a : Fin 128) (k : Fin 4096) : X o (ix2 a k) = x (ix2 (row o a) k) := by
  rw [hX, Layout.block_apply]
  congr 1
  funext d
  apply Fin.ext
  fin_cases d
  · show o.val * 128 + a.val = 128 * o.val + a.val; omega
  · rfl

include hW in
theorem W_at (c : Dev nD) (k : Fin 4096) (b : Fin 64) : Wt c (ix2 k b) = w (ix2 k (col c b)) := by
  rw [hW, Layout.block_apply]
  congr 1
  funext d
  apply Fin.ext
  fin_cases d
  · rfl
  · show c.val * 64 + b.val = 64 * c.val + b.val; omega

include hX hW in
theorem ownP_at (c : Dev nD) (j : S128x64.Idx) : ownP X Wt c j = prod x w (ix2 (row c (j 0)) (col c (j 1))) := by
  unfold ownP
  rw [own_at, prod_at, xv_eq, wv_eq]
  refine congrArg (fun s : EReal => max s 0) (Finset.sum_congr rfl fun k _ => ?_)
  exact congrArg₂ (fun p q : EReal => p * q) (X_at X x hX c (j 0) k) (W_at Wt w hW c k (j 1))

include hX hW in
theorem halfP_at (c o : Dev nD) (h : Fin 2) (j : S64x64.Idx) : halfP X Wt c (o, h) j
    = prod x w (ix2 (row o ⟨64 * h.val + (j 0).val, by have : (j 0).val < 64 := (j 0).isLt; omega⟩) (col c (j 1))) := by
  unfold halfP
  rw [half_at, prod_at, wv_eq]
  refine congrArg (fun s : EReal => max s 0) (Finset.sum_congr rfl fun k _ => ?_)
  exact congrArg₂ (fun p q : EReal => p * q) ((chunk_at X o h (j 0) k).trans (X_at X x hX o _ k)) (W_at Wt w hW c k (j 1))

include hX hW in
theorem prodF_at (c : Dev nD) (i : S4096x64.Idx) : prodF X Wt c i = prod x w (ix2 (i 0) (col c (i 1))) := by
  have hi : (i 0).val < 4096 := (i 0).isLt
  unfold prodF
  split_ifs with h
  · rw [ownP_at X Wt x w hX hW]
    have e : row c (rowIn (i (0 : Fin 2))) = i 0 := by
      rw [← h]
      exact Fin.ext (show 128 * ((i 0).val / 128) + (i 0).val % 128 = (i 0).val by omega)
    show prod x w (ix2 (row c (rowIn (i (0 : Fin 2)))) (col c (i 1))) = _
    rw [e]
  · rw [halfP_at X Wt x w hX hW]
    have e : ∀ hp, row (rowDev (i (0 : Fin 2))) ⟨64 * (rowHalf (i (0 : Fin 2))).val + (rowIn' (i (0 : Fin 2))).val, hp⟩ = i 0 := fun hp =>
      Fin.ext (show 128 * ((i 0).val / 128) + (64 * ((i 0).val % 128 / 64) + (i 0).val % 64) = (i 0).val by omega)
    show prod x w (ix2 (row (rowDev (i (0 : Fin 2))) ⟨64 * (rowHalf (i (0 : Fin 2))).val + (rowIn' (i (0 : Fin 2))).val, _⟩) (col c (i 1))) = _
    rw [e]

/-! ## The largest entries -/

theorem accOf_le (c : Dev nD) (z : EReal) : ∀ ks : List (Dev nD × Fin 2), (accOf X Wt c ks : EReal) ≤ z ↔
    (∀ i, (ownP X Wt c i : EReal) ≤ z) ∧ ∀ k ∈ ks, ∀ i, (halfP X Wt c k i : EReal) ≤ z
  | [] => by
    show (ownMax (ownP X Wt c) : EReal) ≤ z ↔ _
    rw [ownMax_le]
    simp
  | k :: ks => by
    show max (accOf X Wt c ks : EReal) (halfMax (halfP X Wt c k) : EReal) ≤ z ↔ _
    rw [max_le_iff, accOf_le c z ks, halfMax_le]
    simp only [List.mem_cons, forall_eq_or_imp]
    tauto

include hX hW in
theorem Mx_le (c : Dev nD) (z : EReal) : (Mx X Wt c : EReal) ≤ z ↔
    ∀ (r : Fin 4096) (b : Fin 64), (prod x w (ix2 r (col c b)) : EReal) ≤ z := by
  unfold Mx
  rw [accOf_le]
  constructor
  · rintro ⟨h1, h2⟩ r b
    have e := prodF_at X Wt x w hX hW c (ix2 r b)
    refine (show (prod x w (ix2 r (col c b)) : EReal) = prodF X Wt c (ix2 r b) from e.symm).trans_le ?_
    unfold prodF
    split_ifs with h
    · exact h1 _
    · exact h2 _ (all_keys c _ _ h) _
  · intro h
    refine ⟨fun i => ?_, fun k _ i => ?_⟩
    · rw [ownP_at X Wt x w hX hW]; exact h _ _
    · obtain ⟨o, hh⟩ := k
      rw [halfP_at X Wt x w hX hW]; exact h _ _

include hX hW in
/-- Every device holds its columns of the reference's result. -/
theorem outV_eq (c : Dev nD) : outV X Wt c = Layout.block ⟨2, ![4096, 64]⟩ ⟨2, ![4096, 2048]⟩ 1 32 c (result x w) tilesW := by
  obtain ⟨g, hg, hq⟩ := quant_at (A X Wt)
  obtain ⟨g', hg', hr⟩ := result_at x w
  have hgg : g = g' := by
    refine eq_of_forall_ge_iff fun z => ?_
    rw [hg, hg']
    constructor
    · intro h i
      have hi : (i 1).val < 2048 := (i 1).isLt
      have h1 := (Mx_le X Wt x w hX hW ⟨(i 1).val / 64, by show _ < 32; omega⟩ z).1
        (h (ix3 (⟨(i 1).val / 64, by omega⟩ : Fin 32) (0 : Fin 8) (0 : Fin 128))) (i 0) ⟨(i 1).val % 64, by omega⟩
      have e : col ⟨(i 1).val / 64, by show _ < 32; omega⟩ ⟨(i 1).val % 64, by omega⟩ = i 1 :=
        Fin.ext (show 64 * ((i 1).val / 64) + (i 1).val % 64 = (i 1).val by omega)
      rw [e] at h1
      have e2 : i = ix2 (i 0) (i 1) := by funext d; fin_cases d <;> rfl
      rw [e2]
      exact h1
    · intro h i
      exact (Mx_le X Wt x w hX hW (i 0) z).2 fun r b => h _
  have hg0 : (0 : EReal) ≤ g := (prod_nonneg x w (ix2 0 0)).trans (hgg ▸ (hg' g').1 le_rfl _)
  funext i
  unfold outV
  rw [Res_eq, Layout.block_apply]
  have e : tilesW.idx c i = ix2 (i 0) (col c (i 1)) := by
    funext d
    apply Fin.ext
    fin_cases d
    · rfl
    · show c.val * 64 + (i 1).val = 64 * c.val + (i 1).val; omega
  rw [e]
  refine (hq _ _).trans (Eq.trans ?_ (hr _).symm)
  rw [prodF_at X Wt x w hX hW, hgg]
  exact quant_same _ _ (hgg ▸ hg0) (prod_nonneg x w _)

/-! ## The arguments as they are fetched -/

variable (m : (ℓ : Loc nD τ sig) → Buf (Elt Ideal) ℓ)

theorem Xin_eq (c : Dev nD) : Xin m c = m ((c.tc : Thread nD τ).loc main_arg0) := by
  refine Eq.trans ?_ (V1_of m c main_arg0 (by decide))
  unfold Xin
  funext y
  refine congrArg (V1 m c main_arg0) ?_
  funext a
  apply Fin.ext
  blk_simp
  rw [show win0_0.index t0_0 a = 0 from by revert a; decide]
  omega

theorem Win_eq (c : Dev nD) : Win m c = m ((c.tc : Thread nD τ).loc main_arg1) := by
  refine Eq.trans ?_ (V1_of m c main_arg1 (by decide))
  unfold Win
  funext y
  refine congrArg (V1 m c main_arg1) ?_
  funext a
  apply Fin.ext
  blk_simp
  rw [show win0_1.index t0_0 a = 0 from by revert a; decide]
  omega

end Cert.KernelIdeal.Ring

end
-- ==== Proof.Agree.lean ====
/-
  The value claim: the kernel's result on every device is its block of the reference's result.
-/
module

public import proofs.«01_k».proof.Defs
public import proofs.«01_k».proof.Proof.Run
public import proofs.«01_k».proof.Proof.Value

@[expose] public section

noncomputable section

namespace Cert.Proof

open Idealize.ShloMosaic Idealize.SL.Sem

theorem agree : Cert.algebraic_KernelIdeal_ReferenceIdeal := fun m g m' g' _ hin =>
  ⟨Cert.ReferenceIdeal.Value.result
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono (fun _ h c => ⟨(h.1 c).1.trans
        (Cert.KernelIdeal.Ring.outV_eq _ _ _ _ (fun c => (Cert.KernelIdeal.Ring.Xin_eq m c).trans (hin c).1)
          (fun c => (Cert.KernelIdeal.Ring.Win_eq m c).trans (hin c).2) c), (h.1 c).2⟩)
      (Cert.KernelIdeal.Ring.run_main (F := Ideal) m g),
    (θ_run Cert.ReferenceIdeal.defs _ _).mono (fun _ h => h 0) (Cert.ReferenceIdeal.Value.run (F := Ideal) m' g')⟩

end Cert.Proof

end
-- ==== Proof.lean ====
/-
  The claims: the frames of the kernel, of its ideal reading and of the reference, and that the kernel's
  result is the reference's.
-/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.Agree

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  frame_kernel, frame_ideal, frame_reference, trivial, agree⟩

end Cert.Proof

end
